-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_GateUpTail (m : (ℓ : Loc Cert.GateUpTail.nD Cert.GateUpTail.τ Cert.GateUpTail.sig) → Buf (Elt Bits) ℓ) : Prop :=
  True

def Pre_GateUpTailIdeal (m : (ℓ : Loc Cert.GateUpTailIdeal.nD Cert.GateUpTailIdeal.τ Cert.GateUpTailIdeal.sig) → Buf (Elt Ideal) ℓ) : Prop :=
  True

def Pre_GateUpTailRefIdeal (m : (ℓ : Loc Cert.GateUpTailRefIdeal.nD Cert.GateUpTailRefIdeal.τ Cert.GateUpTailRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ProjectIn (m : (ℓ : Loc Cert.ProjectIn.nD Cert.ProjectIn.τ Cert.ProjectIn.sig) → Buf (Elt Bits) ℓ) : Prop :=
  True

def Pre_ProjectInIdeal (m : (ℓ : Loc Cert.ProjectInIdeal.nD Cert.ProjectInIdeal.τ Cert.ProjectInIdeal.sig) → Buf (Elt Ideal) ℓ) : Prop :=
  True

def Pre_ProjectInRefIdeal (m : (ℓ : Loc Cert.ProjectInRefIdeal.nD Cert.ProjectInRefIdeal.τ Cert.ProjectInRefIdeal.sig) → Buf (Elt Ideal) ℓ) : Prop :=
  True

def Pre_ProjectOut (m : (ℓ : Loc Cert.ProjectOut.nD Cert.ProjectOut.τ Cert.ProjectOut.sig) → Buf (Elt Bits) ℓ) : Prop :=
  True

def Pre_ProjectOutIdeal (m : (ℓ : Loc Cert.ProjectOutIdeal.nD Cert.ProjectOutIdeal.τ Cert.ProjectOutIdeal.sig) → Buf (Elt Ideal) ℓ) : Prop :=
  True

def Pre_ProjectOutRefIdeal (m : (ℓ : Loc Cert.ProjectOutRefIdeal.nD Cert.ProjectOutRefIdeal.τ Cert.ProjectOutRefIdeal.sig) → Buf (Elt Ideal) ℓ) : Prop :=
  True

def Pre_PostSample (m : (ℓ : Loc Cert.PostSample.nD Cert.PostSample.τ Cert.PostSample.sig) → Buf (Elt Bits) ℓ) : Prop :=
  True

def Pre_PostSampleIdeal (m : (ℓ : Loc Cert.PostSampleIdeal.nD Cert.PostSampleIdeal.τ Cert.PostSampleIdeal.sig) → Buf (Elt Ideal) ℓ) : Prop :=
  True

def Pre_PostSampleRefIdeal (m : (ℓ : Loc Cert.PostSampleRefIdeal.nD Cert.PostSampleRefIdeal.τ Cert.PostSampleRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaBias (m : (ℓ : Loc Cert.SwaBias.nD Cert.SwaBias.τ Cert.SwaBias.sig) → Buf (Elt Bits) ℓ) : Prop :=
  True

def Pre_SwaBiasIdeal (m : (ℓ : Loc Cert.SwaBiasIdeal.nD Cert.SwaBiasIdeal.τ Cert.SwaBiasIdeal.sig) → Buf (Elt Ideal) ℓ) : Prop :=
  True

def Pre_SwaBiasRefIdeal (m : (ℓ : Loc Cert.SwaBiasRefIdeal.nD Cert.SwaBiasRefIdeal.τ Cert.SwaBiasRefIdeal.sig) → Buf (Elt Ideal) ℓ) : Prop :=
  True

def Pre_MetaNorm (m : (ℓ : Loc Cert.MetaNorm.nD Cert.MetaNorm.τ Cert.MetaNorm.sig) → Buf (Elt Bits) ℓ) : Prop :=
  True

def Pre_MetaNormIdeal (m : (ℓ : Loc Cert.MetaNormIdeal.nD Cert.MetaNormIdeal.τ Cert.MetaNormIdeal.sig) → Buf (Elt Ideal) ℓ) : Prop :=
  True

def Pre_MetaNormRefIdeal (m : (ℓ : Loc Cert.MetaNormRefIdeal.nD Cert.MetaNormRefIdeal.τ Cert.MetaNormRefIdeal.sig) → Buf (Elt Ideal) ℓ) : Prop :=
  True

def Pre_MetaProject (m : (ℓ : Loc Cert.MetaProject.nD Cert.MetaProject.τ Cert.MetaProject.sig) → Buf (Elt Bits) ℓ) : Prop :=
  True

def Pre_MetaProjectIdeal (m : (ℓ : Loc Cert.MetaProjectIdeal.nD Cert.MetaProjectIdeal.τ Cert.MetaProjectIdeal.sig) → Buf (Elt Ideal) ℓ) : Prop :=
  True

def Pre_MetaProjectRefIdeal (m : (ℓ : Loc Cert.MetaProjectRefIdeal.nD Cert.MetaProjectRefIdeal.τ Cert.MetaProjectRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_GateUpTail [hGateUpTail : Cert.GateUpTail.Facts] : Prop :=
  ∀ (m : (ℓ : Loc Cert.GateUpTail.nD Cert.GateUpTail.τ Cert.GateUpTail.sig) → Buf (Elt Bits) ℓ) (g : Dev Cert.GateUpTail.nD → PrngReg), Pre_GateUpTail m →
    θ_run (Cert.GateUpTail.defs (F := Bits)) (onTc (τ := Cert.GateUpTail.τ) (Cert.GateUpTail.main (F := Bits))) ⟨m, fun _ => 0, g⟩ (fun r => (∀ c : Dev Cert.GateUpTail.nD,
      r.2.mem ((c.tc : Thread Cert.GateUpTail.nD Cert.GateUpTail.τ).loc Cert.GateUpTail.main_arg0) = m ((c.tc : Thread Cert.GateUpTail.nD Cert.GateUpTail.τ).loc Cert.GateUpTail.main_arg0)
      ∧ r.2.mem ((c.tc : Thread Cert.GateUpTail.nD Cert.GateUpTail.τ).loc Cert.GateUpTail.main_arg1) = m ((c.tc : Thread Cert.GateUpTail.nD Cert.GateUpTail.τ).loc Cert.GateUpTail.main_arg1)
      ∧ r.2.mem ((c.tc : Thread Cert.GateUpTail.nD Cert.GateUpTail.τ).loc Cert.GateUpTail.main_arg2) = m ((c.tc : Thread Cert.GateUpTail.nD Cert.GateUpTail.τ).loc Cert.GateUpTail.main_arg2))
      ∧ r.2.sem = fun _ => 0)

def quiescent_GateUpTailIdeal [hGateUpTailIdeal : Cert.GateUpTailIdeal.Facts] : Prop :=
  ∀ (m : (ℓ : Loc Cert.GateUpTailIdeal.nD Cert.GateUpTailIdeal.τ Cert.GateUpTailIdeal.sig) → Buf (Elt Ideal) ℓ) (g : Dev Cert.GateUpTailIdeal.nD → PrngReg), Pre_GateUpTailIdeal m →
    θ_run (Cert.GateUpTailIdeal.defs (F := Ideal)) (onTc (τ := Cert.GateUpTailIdeal.τ) (Cert.GateUpTailIdeal.main (F := Ideal))) ⟨m, fun _ => 0, g⟩ (fun r => (∀ c : Dev Cert.GateUpTailIdeal.nD,
      r.2.mem ((c.tc : Thread Cert.GateUpTailIdeal.nD Cert.GateUpTailIdeal.τ).loc Cert.GateUpTailIdeal.main_arg0) = m ((c.tc : Thread Cert.GateUpTailIdeal.nD Cert.GateUpTailIdeal.τ).loc Cert.GateUpTailIdeal.main_arg0)
      ∧ r.2.mem ((c.tc : Thread Cert.GateUpTailIdeal.nD Cert.GateUpTailIdeal.τ).loc Cert.GateUpTailIdeal.main_arg1) = m ((c.tc : Thread Cert.GateUpTailIdeal.nD Cert.GateUpTailIdeal.τ).loc Cert.GateUpTailIdeal.main_arg1)
      ∧ r.2.mem ((c.tc : Thread Cert.GateUpTailIdeal.nD Cert.GateUpTailIdeal.τ).loc Cert.GateUpTailIdeal.main_arg2) = m ((c.tc : Thread Cert.GateUpTailIdeal.nD Cert.GateUpTailIdeal.τ).loc Cert.GateUpTailIdeal.main_arg2))
      ∧ r.2.sem = fun _ => 0)

def quiescent_GateUpTailRefIdeal [hGateUpTailRefIdeal : Cert.GateUpTailRefIdeal.Facts] : Prop :=
  ∀ (m : (ℓ : Loc Cert.GateUpTailRefIdeal.nD Cert.GateUpTailRefIdeal.τ Cert.GateUpTailRefIdeal.sig) → Buf (Elt Ideal) ℓ) (g : Dev Cert.GateUpTailRefIdeal.nD → PrngReg), Pre_GateUpTailRefIdeal m →
    θ_run (Cert.GateUpTailRefIdeal.defs (F := Ideal)) (onTc (τ := Cert.GateUpTailRefIdeal.τ) (Cert.GateUpTailRefIdeal.main (F := Ideal))) ⟨m, fun _ => 0, g⟩ (fun r => (∀ c : Dev Cert.GateUpTailRefIdeal.nD,
      r.2.mem ((c.tc : Thread Cert.GateUpTailRefIdeal.nD Cert.GateUpTailRefIdeal.τ).loc Cert.GateUpTailRefIdeal.main_arg0) = m ((c.tc : Thread Cert.GateUpTailRefIdeal.nD Cert.GateUpTailRefIdeal.τ).loc Cert.GateUpTailRefIdeal.main_arg0)
      ∧ r.2.mem ((c.tc : Thread Cert.GateUpTailRefIdeal.nD Cert.GateUpTailRefIdeal.τ).loc Cert.GateUpTailRefIdeal.main_arg1) = m ((c.tc : Thread Cert.GateUpTailRefIdeal.nD Cert.GateUpTailRefIdeal.τ).loc Cert.GateUpTailRefIdeal.main_arg1)
      ∧ r.2.mem ((c.tc : Thread Cert.GateUpTailRefIdeal.nD Cert.GateUpTailRefIdeal.τ).loc Cert.GateUpTailRefIdeal.main_arg2) = m ((c.tc : Thread Cert.GateUpTailRefIdeal.nD Cert.GateUpTailRefIdeal.τ).loc Cert.GateUpTailRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_ProjectIn [hProjectIn : Cert.ProjectIn.Facts] : Prop :=
  ∀ (m : (ℓ : Loc Cert.ProjectIn.nD Cert.ProjectIn.τ Cert.ProjectIn.sig) → Buf (Elt Bits) ℓ) (g : Dev Cert.ProjectIn.nD → PrngReg), Pre_ProjectIn m →
    θ_run (Cert.ProjectIn.defs (F := Bits)) (onTc (τ := Cert.ProjectIn.τ) (Cert.ProjectIn.main (F := Bits))) ⟨m, fun _ => 0, g⟩ (fun r => (∀ c : Dev Cert.ProjectIn.nD,
      r.2.mem ((c.tc : Thread Cert.ProjectIn.nD Cert.ProjectIn.τ).loc Cert.ProjectIn.main_arg0) = m ((c.tc : Thread Cert.ProjectIn.nD Cert.ProjectIn.τ).loc Cert.ProjectIn.main_arg0)
      ∧ r.2.mem ((c.tc : Thread Cert.ProjectIn.nD Cert.ProjectIn.τ).loc Cert.ProjectIn.main_arg1) = m ((c.tc : Thread Cert.ProjectIn.nD Cert.ProjectIn.τ).loc Cert.ProjectIn.main_arg1))
      ∧ r.2.sem = fun _ => 0)

def quiescent_ProjectInIdeal [hProjectInIdeal : Cert.ProjectInIdeal.Facts] : Prop :=
  ∀ (m : (ℓ : Loc Cert.ProjectInIdeal.nD Cert.ProjectInIdeal.τ Cert.ProjectInIdeal.sig) → Buf (Elt Ideal) ℓ) (g : Dev Cert.ProjectInIdeal.nD → PrngReg), Pre_ProjectInIdeal m →
    θ_run (Cert.ProjectInIdeal.defs (F := Ideal)) (onTc (τ := Cert.ProjectInIdeal.τ) (Cert.ProjectInIdeal.main (F := Ideal))) ⟨m, fun _ => 0, g⟩ (fun r => (∀ c : Dev Cert.ProjectInIdeal.nD,
      r.2.mem ((c.tc : Thread Cert.ProjectInIdeal.nD Cert.ProjectInIdeal.τ).loc Cert.ProjectInIdeal.main_arg0) = m ((c.tc : Thread Cert.ProjectInIdeal.nD Cert.ProjectInIdeal.τ).loc Cert.ProjectInIdeal.main_arg0)
      ∧ r.2.mem ((c.tc : Thread Cert.ProjectInIdeal.nD Cert.ProjectInIdeal.τ).loc Cert.ProjectInIdeal.main_arg1) = m ((c.tc : Thread Cert.ProjectInIdeal.nD Cert.ProjectInIdeal.τ).loc Cert.ProjectInIdeal.main_arg1))
      ∧ r.2.sem = fun _ => 0)

def quiescent_ProjectInRefIdeal [hProjectInRefIdeal : Cert.ProjectInRefIdeal.Facts] : Prop :=
  ∀ (m : (ℓ : Loc Cert.ProjectInRefIdeal.nD Cert.ProjectInRefIdeal.τ Cert.ProjectInRefIdeal.sig) → Buf (Elt Ideal) ℓ) (g : Dev Cert.ProjectInRefIdeal.nD → PrngReg), Pre_ProjectInRefIdeal m →
    θ_run (Cert.ProjectInRefIdeal.defs (F := Ideal)) (onTc (τ := Cert.ProjectInRefIdeal.τ) (Cert.ProjectInRefIdeal.main (F := Ideal))) ⟨m, fun _ => 0, g⟩ (fun r => (∀ c : Dev Cert.ProjectInRefIdeal.nD,
      r.2.mem ((c.tc : Thread Cert.ProjectInRefIdeal.nD Cert.ProjectInRefIdeal.τ).loc Cert.ProjectInRefIdeal.main_arg0) = m ((c.tc : Thread Cert.ProjectInRefIdeal.nD Cert.ProjectInRefIdeal.τ).loc Cert.ProjectInRefIdeal.main_arg0)
      ∧ r.2.mem ((c.tc : Thread Cert.ProjectInRefIdeal.nD Cert.ProjectInRefIdeal.τ).loc Cert.ProjectInRefIdeal.main_arg1) = m ((c.tc : Thread Cert.ProjectInRefIdeal.nD Cert.ProjectInRefIdeal.τ).loc Cert.ProjectInRefIdeal.main_arg1))
      ∧ r.2.sem = fun _ => 0)

def quiescent_ProjectOut [hProjectOut : Cert.ProjectOut.Facts] : Prop :=
  ∀ (m : (ℓ : Loc Cert.ProjectOut.nD Cert.ProjectOut.τ Cert.ProjectOut.sig) → Buf (Elt Bits) ℓ) (g : Dev Cert.ProjectOut.nD → PrngReg), Pre_ProjectOut m →
    θ_run (Cert.ProjectOut.defs (F := Bits)) (onTc (τ := Cert.ProjectOut.τ) (Cert.ProjectOut.main (F := Bits))) ⟨m, fun _ => 0, g⟩ (fun r => (∀ c : Dev Cert.ProjectOut.nD,
      r.2.mem ((c.tc : Thread Cert.ProjectOut.nD Cert.ProjectOut.τ).loc Cert.ProjectOut.main_arg0) = m ((c.tc : Thread Cert.ProjectOut.nD Cert.ProjectOut.τ).loc Cert.ProjectOut.main_arg0)
      ∧ r.2.mem ((c.tc : Thread Cert.ProjectOut.nD Cert.ProjectOut.τ).loc Cert.ProjectOut.main_arg1) = m ((c.tc : Thread Cert.ProjectOut.nD Cert.ProjectOut.τ).loc Cert.ProjectOut.main_arg1)
      ∧ r.2.mem ((c.tc : Thread Cert.ProjectOut.nD Cert.ProjectOut.τ).loc Cert.ProjectOut.main_arg2) = m ((c.tc : Thread Cert.ProjectOut.nD Cert.ProjectOut.τ).loc Cert.ProjectOut.main_arg2))
      ∧ r.2.sem = fun _ => 0)

def quiescent_ProjectOutIdeal [hProjectOutIdeal : Cert.ProjectOutIdeal.Facts] : Prop :=
  ∀ (m : (ℓ : Loc Cert.ProjectOutIdeal.nD Cert.ProjectOutIdeal.τ Cert.ProjectOutIdeal.sig) → Buf (Elt Ideal) ℓ) (g : Dev Cert.ProjectOutIdeal.nD → PrngReg), Pre_ProjectOutIdeal m →
    θ_run (Cert.ProjectOutIdeal.defs (F := Ideal)) (onTc (τ := Cert.ProjectOutIdeal.τ) (Cert.ProjectOutIdeal.main (F := Ideal))) ⟨m, fun _ => 0, g⟩ (fun r => (∀ c : Dev Cert.ProjectOutIdeal.nD,
      r.2.mem ((c.tc : Thread Cert.ProjectOutIdeal.nD Cert.ProjectOutIdeal.τ).loc Cert.ProjectOutIdeal.main_arg0) = m ((c.tc : Thread Cert.ProjectOutIdeal.nD Cert.ProjectOutIdeal.τ).loc Cert.ProjectOutIdeal.main_arg0)
      ∧ r.2.mem ((c.tc : Thread Cert.ProjectOutIdeal.nD Cert.ProjectOutIdeal.τ).loc Cert.ProjectOutIdeal.main_arg1) = m ((c.tc : Thread Cert.ProjectOutIdeal.nD Cert.ProjectOutIdeal.τ).loc Cert.ProjectOutIdeal.main_arg1)
      ∧ r.2.mem ((c.tc : Thread Cert.ProjectOutIdeal.nD Cert.ProjectOutIdeal.τ).loc Cert.ProjectOutIdeal.main_arg2) = m ((c.tc : Thread Cert.ProjectOutIdeal.nD Cert.ProjectOutIdeal.τ).loc Cert.ProjectOutIdeal.main_arg2))
      ∧ r.2.sem = fun _ => 0)

def quiescent_ProjectOutRefIdeal [hProjectOutRefIdeal : Cert.ProjectOutRefIdeal.Facts] : Prop :=
  ∀ (m : (ℓ : Loc Cert.ProjectOutRefIdeal.nD Cert.ProjectOutRefIdeal.τ Cert.ProjectOutRefIdeal.sig) → Buf (Elt Ideal) ℓ) (g : Dev Cert.ProjectOutRefIdeal.nD → PrngReg), Pre_ProjectOutRefIdeal m →
    θ_run (Cert.ProjectOutRefIdeal.defs (F := Ideal)) (onTc (τ := Cert.ProjectOutRefIdeal.τ) (Cert.ProjectOutRefIdeal.main (F := Ideal))) ⟨m, fun _ => 0, g⟩ (fun r => (∀ c : Dev Cert.ProjectOutRefIdeal.nD,
      r.2.mem ((c.tc : Thread Cert.ProjectOutRefIdeal.nD Cert.ProjectOutRefIdeal.τ).loc Cert.ProjectOutRefIdeal.main_arg0) = m ((c.tc : Thread Cert.ProjectOutRefIdeal.nD Cert.ProjectOutRefIdeal.τ).loc Cert.ProjectOutRefIdeal.main_arg0)
      ∧ r.2.mem ((c.tc : Thread Cert.ProjectOutRefIdeal.nD Cert.ProjectOutRefIdeal.τ).loc Cert.ProjectOutRefIdeal.main_arg1) = m ((c.tc : Thread Cert.ProjectOutRefIdeal.nD Cert.ProjectOutRefIdeal.τ).loc Cert.ProjectOutRefIdeal.main_arg1)
      ∧ r.2.mem ((c.tc : Thread Cert.ProjectOutRefIdeal.nD Cert.ProjectOutRefIdeal.τ).loc Cert.ProjectOutRefIdeal.main_arg2) = m ((c.tc : Thread Cert.ProjectOutRefIdeal.nD Cert.ProjectOutRefIdeal.τ).loc Cert.ProjectOutRefIdeal.main_arg2))
      ∧ r.2.sem = fun _ => 0)

def quiescent_PostSample [hPostSample : Cert.PostSample.Facts] : Prop :=
  ∀ (m : (ℓ : Loc Cert.PostSample.nD Cert.PostSample.τ Cert.PostSample.sig) → Buf (Elt Bits) ℓ) (g : Dev Cert.PostSample.nD → PrngReg), Pre_PostSample m →
    θ_run (Cert.PostSample.defs (F := Bits)) (onTc (τ := Cert.PostSample.τ) (Cert.PostSample.main (F := Bits))) ⟨m, fun _ => 0, g⟩ (fun r => (∀ c : Dev Cert.PostSample.nD,
      r.2.mem ((c.tc : Thread Cert.PostSample.nD Cert.PostSample.τ).loc Cert.PostSample.main_arg0) = m ((c.tc : Thread Cert.PostSample.nD Cert.PostSample.τ).loc Cert.PostSample.main_arg0)
      ∧ r.2.mem ((c.tc : Thread Cert.PostSample.nD Cert.PostSample.τ).loc Cert.PostSample.main_arg1) = m ((c.tc : Thread Cert.PostSample.nD Cert.PostSample.τ).loc Cert.PostSample.main_arg1)
      ∧ r.2.mem ((c.tc : Thread Cert.PostSample.nD Cert.PostSample.τ).loc Cert.PostSample.main_arg2) = m ((c.tc : Thread Cert.PostSample.nD Cert.PostSample.τ).loc Cert.PostSample.main_arg2)
      ∧ r.2.mem ((c.tc : Thread Cert.PostSample.nD Cert.PostSample.τ).loc Cert.PostSample.main_arg3) = m ((c.tc : Thread Cert.PostSample.nD Cert.PostSample.τ).loc Cert.PostSample.main_arg3)
      ∧ r.2.mem ((c.tc : Thread Cert.PostSample.nD Cert.PostSample.τ).loc Cert.PostSample.main_arg4) = m ((c.tc : Thread Cert.PostSample.nD Cert.PostSample.τ).loc Cert.PostSample.main_arg4))
      ∧ r.2.sem = fun _ => 0)

def quiescent_PostSampleIdeal [hPostSampleIdeal : Cert.PostSampleIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg), Pre_PostSampleIdeal m →
    θ_run (Cert.PostSampleIdeal.defs (F := Ideal)) (onTc (τ := Cert.PostSampleIdeal.τ) (Cert.PostSampleIdeal.main (F := Ideal))) ⟨m, fun _ => 0, g⟩ (fun r => (∀ c : Dev Cert.PostSampleIdeal.nD,
      r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
      ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
      ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
      ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
      ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4))
      ∧ r.2.sem = fun _ => 0)

def quiescent_PostSampleRefIdeal [hPostSampleRefIdeal : Cert.PostSampleRefIdeal.Facts] : Prop :=
  ∀ (m : (ℓ : Loc Cert.PostSampleRefIdeal.nD Cert.PostSampleRefIdeal.τ Cert.PostSampleRefIdeal.sig) → Buf (Elt Ideal) ℓ) (g : Dev Cert.PostSampleRefIdeal.nD → PrngReg), Pre_PostSampleRefIdeal m →
    θ_run (Cert.PostSampleRefIdeal.defs (F := Ideal)) (onTc (τ := Cert.PostSampleRefIdeal.τ) (Cert.PostSampleRefIdeal.main (F := Ideal))) ⟨m, fun _ => 0, g⟩ (fun r => (∀ c : Dev Cert.PostSampleRefIdeal.nD,
      r.2.mem ((c.tc : Thread Cert.PostSampleRefIdeal.nD Cert.PostSampleRefIdeal.τ).loc Cert.PostSampleRefIdeal.main_arg0) = m ((c.tc : Thread Cert.PostSampleRefIdeal.nD Cert.PostSampleRefIdeal.τ).loc Cert.PostSampleRefIdeal.main_arg0)
      ∧ r.2.mem ((c.tc : Thread Cert.PostSampleRefIdeal.nD Cert.PostSampleRefIdeal.τ).loc Cert.PostSampleRefIdeal.main_arg1) = m ((c.tc : Thread Cert.PostSampleRefIdeal.nD Cert.PostSampleRefIdeal.τ).loc Cert.PostSampleRefIdeal.main_arg1)
      ∧ r.2.mem ((c.tc : Thread Cert.PostSampleRefIdeal.nD Cert.PostSampleRefIdeal.τ).loc Cert.PostSampleRefIdeal.main_arg2) = m ((c.tc : Thread Cert.PostSampleRefIdeal.nD Cert.PostSampleRefIdeal.τ).loc Cert.PostSampleRefIdeal.main_arg2)
      ∧ r.2.mem ((c.tc : Thread Cert.PostSampleRefIdeal.nD Cert.PostSampleRefIdeal.τ).loc Cert.PostSampleRefIdeal.main_arg3) = m ((c.tc : Thread Cert.PostSampleRefIdeal.nD Cert.PostSampleRefIdeal.τ).loc Cert.PostSampleRefIdeal.main_arg3)
      ∧ r.2.mem ((c.tc : Thread Cert.PostSampleRefIdeal.nD Cert.PostSampleRefIdeal.τ).loc Cert.PostSampleRefIdeal.main_arg4) = m ((c.tc : Thread Cert.PostSampleRefIdeal.nD Cert.PostSampleRefIdeal.τ).loc Cert.PostSampleRefIdeal.main_arg4))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaBias [hSwaBias : Cert.SwaBias.Facts] : Prop :=
  ∀ (m : (ℓ : Loc Cert.SwaBias.nD Cert.SwaBias.τ Cert.SwaBias.sig) → Buf (Elt Bits) ℓ) (g : Dev Cert.SwaBias.nD → PrngReg), Pre_SwaBias m →
    θ_run (Cert.SwaBias.defs (F := Bits)) (onTc (τ := Cert.SwaBias.τ) (Cert.SwaBias.main (F := Bits))) ⟨m, fun _ => 0, g⟩ (fun r => (∀ c : Dev Cert.SwaBias.nD,
      r.2.mem ((c.tc : Thread Cert.SwaBias.nD Cert.SwaBias.τ).loc Cert.SwaBias.main_arg0) = m ((c.tc : Thread Cert.SwaBias.nD Cert.SwaBias.τ).loc Cert.SwaBias.main_arg0))
      ∧ r.2.sem = fun _ => 0)

def quiescent_SwaBiasIdeal [hSwaBiasIdeal : Cert.SwaBiasIdeal.Facts] : Prop :=
  ∀ (m : (ℓ : Loc Cert.SwaBiasIdeal.nD Cert.SwaBiasIdeal.τ Cert.SwaBiasIdeal.sig) → Buf (Elt Ideal) ℓ) (g : Dev Cert.SwaBiasIdeal.nD → PrngReg), Pre_SwaBiasIdeal m →
    θ_run (Cert.SwaBiasIdeal.defs (F := Ideal)) (onTc (τ := Cert.SwaBiasIdeal.τ) (Cert.SwaBiasIdeal.main (F := Ideal))) ⟨m, fun _ => 0, g⟩ (fun r => (∀ c : Dev Cert.SwaBiasIdeal.nD,
      r.2.mem ((c.tc : Thread Cert.SwaBiasIdeal.nD Cert.SwaBiasIdeal.τ).loc Cert.SwaBiasIdeal.main_arg0) = m ((c.tc : Thread Cert.SwaBiasIdeal.nD Cert.SwaBiasIdeal.τ).loc Cert.SwaBiasIdeal.main_arg0))
      ∧ r.2.sem = fun _ => 0)

def quiescent_SwaBiasRefIdeal [hSwaBiasRefIdeal : Cert.SwaBiasRefIdeal.Facts] : Prop :=
  ∀ (m : (ℓ : Loc Cert.SwaBiasRefIdeal.nD Cert.SwaBiasRefIdeal.τ Cert.SwaBiasRefIdeal.sig) → Buf (Elt Ideal) ℓ) (g : Dev Cert.SwaBiasRefIdeal.nD → PrngReg), Pre_SwaBiasRefIdeal m →
    θ_run (Cert.SwaBiasRefIdeal.defs (F := Ideal)) (onTc (τ := Cert.SwaBiasRefIdeal.τ) (Cert.SwaBiasRefIdeal.main (F := Ideal))) ⟨m, fun _ => 0, g⟩ (fun r => (∀ c : Dev Cert.SwaBiasRefIdeal.nD,
      r.2.mem ((c.tc : Thread Cert.SwaBiasRefIdeal.nD Cert.SwaBiasRefIdeal.τ).loc Cert.SwaBiasRefIdeal.main_arg0) = m ((c.tc : Thread Cert.SwaBiasRefIdeal.nD Cert.SwaBiasRefIdeal.τ).loc Cert.SwaBiasRefIdeal.main_arg0))
      ∧ r.2.sem = fun _ => 0)

def quiescent_MetaNorm [hMetaNorm : Cert.MetaNorm.Facts] : Prop :=
  ∀ (m : (ℓ : Loc Cert.MetaNorm.nD Cert.MetaNorm.τ Cert.MetaNorm.sig) → Buf (Elt Bits) ℓ) (g : Dev Cert.MetaNorm.nD → PrngReg), Pre_MetaNorm m →
    θ_run (Cert.MetaNorm.defs (F := Bits)) (onTc (τ := Cert.MetaNorm.τ) (Cert.MetaNorm.main (F := Bits))) ⟨m, fun _ => 0, g⟩ (fun r => (∀ c : Dev Cert.MetaNorm.nD,
      r.2.mem ((c.tc : Thread Cert.MetaNorm.nD Cert.MetaNorm.τ).loc Cert.MetaNorm.main_arg0) = m ((c.tc : Thread Cert.MetaNorm.nD Cert.MetaNorm.τ).loc Cert.MetaNorm.main_arg0)
      ∧ r.2.mem ((c.tc : Thread Cert.MetaNorm.nD Cert.MetaNorm.τ).loc Cert.MetaNorm.main_arg1) = m ((c.tc : Thread Cert.MetaNorm.nD Cert.MetaNorm.τ).loc Cert.MetaNorm.main_arg1))
      ∧ r.2.sem = fun _ => 0)

def quiescent_MetaNormIdeal [hMetaNormIdeal : Cert.MetaNormIdeal.Facts] : Prop :=
  ∀ (m : (ℓ : Loc Cert.MetaNormIdeal.nD Cert.MetaNormIdeal.τ Cert.MetaNormIdeal.sig) → Buf (Elt Ideal) ℓ) (g : Dev Cert.MetaNormIdeal.nD → PrngReg), Pre_MetaNormIdeal m →
    θ_run (Cert.MetaNormIdeal.defs (F := Ideal)) (onTc (τ := Cert.MetaNormIdeal.τ) (Cert.MetaNormIdeal.main (F := Ideal))) ⟨m, fun _ => 0, g⟩ (fun r => (∀ c : Dev Cert.MetaNormIdeal.nD,
      r.2.mem ((c.tc : Thread Cert.MetaNormIdeal.nD Cert.MetaNormIdeal.τ).loc Cert.MetaNormIdeal.main_arg0) = m ((c.tc : Thread Cert.MetaNormIdeal.nD Cert.MetaNormIdeal.τ).loc Cert.MetaNormIdeal.main_arg0)
      ∧ r.2.mem ((c.tc : Thread Cert.MetaNormIdeal.nD Cert.MetaNormIdeal.τ).loc Cert.MetaNormIdeal.main_arg1) = m ((c.tc : Thread Cert.MetaNormIdeal.nD Cert.MetaNormIdeal.τ).loc Cert.MetaNormIdeal.main_arg1))
      ∧ r.2.sem = fun _ => 0)

def quiescent_MetaNormRefIdeal [hMetaNormRefIdeal : Cert.MetaNormRefIdeal.Facts] : Prop :=
  ∀ (m : (ℓ : Loc Cert.MetaNormRefIdeal.nD Cert.MetaNormRefIdeal.τ Cert.MetaNormRefIdeal.sig) → Buf (Elt Ideal) ℓ) (g : Dev Cert.MetaNormRefIdeal.nD → PrngReg), Pre_MetaNormRefIdeal m →
    θ_run (Cert.MetaNormRefIdeal.defs (F := Ideal)) (onTc (τ := Cert.MetaNormRefIdeal.τ) (Cert.MetaNormRefIdeal.main (F := Ideal))) ⟨m, fun _ => 0, g⟩ (fun r => (∀ c : Dev Cert.MetaNormRefIdeal.nD,
      r.2.mem ((c.tc : Thread Cert.MetaNormRefIdeal.nD Cert.MetaNormRefIdeal.τ).loc Cert.MetaNormRefIdeal.main_arg0) = m ((c.tc : Thread Cert.MetaNormRefIdeal.nD Cert.MetaNormRefIdeal.τ).loc Cert.MetaNormRefIdeal.main_arg0)
      ∧ r.2.mem ((c.tc : Thread Cert.MetaNormRefIdeal.nD Cert.MetaNormRefIdeal.τ).loc Cert.MetaNormRefIdeal.main_arg1) = m ((c.tc : Thread Cert.MetaNormRefIdeal.nD Cert.MetaNormRefIdeal.τ).loc Cert.MetaNormRefIdeal.main_arg1))
      ∧ r.2.sem = fun _ => 0)

def quiescent_MetaProject [hMetaProject : Cert.MetaProject.Facts] : Prop :=
  ∀ (m : (ℓ : Loc Cert.MetaProject.nD Cert.MetaProject.τ Cert.MetaProject.sig) → Buf (Elt Bits) ℓ) (g : Dev Cert.MetaProject.nD → PrngReg), Pre_MetaProject m →
    θ_run (Cert.MetaProject.defs (F := Bits)) (onTc (τ := Cert.MetaProject.τ) (Cert.MetaProject.main (F := Bits))) ⟨m, fun _ => 0, g⟩ (fun r => (∀ c : Dev Cert.MetaProject.nD,
      r.2.mem ((c.tc : Thread Cert.MetaProject.nD Cert.MetaProject.τ).loc Cert.MetaProject.main_arg0) = m ((c.tc : Thread Cert.MetaProject.nD Cert.MetaProject.τ).loc Cert.MetaProject.main_arg0)
      ∧ r.2.mem ((c.tc : Thread Cert.MetaProject.nD Cert.MetaProject.τ).loc Cert.MetaProject.main_arg1) = m ((c.tc : Thread Cert.MetaProject.nD Cert.MetaProject.τ).loc Cert.MetaProject.main_arg1))
      ∧ r.2.sem = fun _ => 0)

def quiescent_MetaProjectIdeal [hMetaProjectIdeal : Cert.MetaProjectIdeal.Facts] : Prop :=
  ∀ (m : (ℓ : Loc Cert.MetaProjectIdeal.nD Cert.MetaProjectIdeal.τ Cert.MetaProjectIdeal.sig) → Buf (Elt Ideal) ℓ) (g : Dev Cert.MetaProjectIdeal.nD → PrngReg), Pre_MetaProjectIdeal m →
    θ_run (Cert.MetaProjectIdeal.defs (F := Ideal)) (onTc (τ := Cert.MetaProjectIdeal.τ) (Cert.MetaProjectIdeal.main (F := Ideal))) ⟨m, fun _ => 0, g⟩ (fun r => (∀ c : Dev Cert.MetaProjectIdeal.nD,
      r.2.mem ((c.tc : Thread Cert.MetaProjectIdeal.nD Cert.MetaProjectIdeal.τ).loc Cert.MetaProjectIdeal.main_arg0) = m ((c.tc : Thread Cert.MetaProjectIdeal.nD Cert.MetaProjectIdeal.τ).loc Cert.MetaProjectIdeal.main_arg0)
      ∧ r.2.mem ((c.tc : Thread Cert.MetaProjectIdeal.nD Cert.MetaProjectIdeal.τ).loc Cert.MetaProjectIdeal.main_arg1) = m ((c.tc : Thread Cert.MetaProjectIdeal.nD Cert.MetaProjectIdeal.τ).loc Cert.MetaProjectIdeal.main_arg1))
      ∧ r.2.sem = fun _ => 0)

def quiescent_MetaProjectRefIdeal [hMetaProjectRefIdeal : Cert.MetaProjectRefIdeal.Facts] : Prop :=
  ∀ (m : (ℓ : Loc Cert.MetaProjectRefIdeal.nD Cert.MetaProjectRefIdeal.τ Cert.MetaProjectRefIdeal.sig) → Buf (Elt Ideal) ℓ) (g : Dev Cert.MetaProjectRefIdeal.nD → PrngReg), Pre_MetaProjectRefIdeal m →
    θ_run (Cert.MetaProjectRefIdeal.defs (F := Ideal)) (onTc (τ := Cert.MetaProjectRefIdeal.τ) (Cert.MetaProjectRefIdeal.main (F := Ideal))) ⟨m, fun _ => 0, g⟩ (fun r => (∀ c : Dev Cert.MetaProjectRefIdeal.nD,
      r.2.mem ((c.tc : Thread Cert.MetaProjectRefIdeal.nD Cert.MetaProjectRefIdeal.τ).loc Cert.MetaProjectRefIdeal.main_arg0) = m ((c.tc : Thread Cert.MetaProjectRefIdeal.nD Cert.MetaProjectRefIdeal.τ).loc Cert.MetaProjectRefIdeal.main_arg0)
      ∧ r.2.mem ((c.tc : Thread Cert.MetaProjectRefIdeal.nD Cert.MetaProjectRefIdeal.τ).loc Cert.MetaProjectRefIdeal.main_arg1) = m ((c.tc : Thread Cert.MetaProjectRefIdeal.nD Cert.MetaProjectRefIdeal.τ).loc Cert.MetaProjectRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v9) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_GateUpTail_GateUpTailIdeal : Prop :=
  True

def algebraic_GateUpTailIdeal_GateUpTailRefIdeal [hGateUpTailIdeal : Cert.GateUpTailIdeal.Facts] [hGateUpTailRefIdeal : Cert.GateUpTailRefIdeal.Facts] : Prop :=
  ∀ (m : (ℓ : Loc Cert.GateUpTailIdeal.nD Cert.GateUpTailIdeal.τ Cert.GateUpTailIdeal.sig) → Buf (Elt Ideal) ℓ) (g : Dev Cert.GateUpTailIdeal.nD → PrngReg)
    (m' : (ℓ : Loc Cert.GateUpTailRefIdeal.nD Cert.GateUpTailRefIdeal.τ Cert.GateUpTailRefIdeal.sig) → Buf (Elt Ideal) ℓ) (g' : Dev Cert.GateUpTailRefIdeal.nD → PrngReg), Pre_GateUpTailIdeal m →
    (∀ c : Dev Cert.GateUpTailIdeal.nD,
      m' ((c.tc : Thread Cert.GateUpTailRefIdeal.nD Cert.GateUpTailRefIdeal.τ).loc Cert.GateUpTailRefIdeal.main_arg0) = m ((c.tc : Thread Cert.GateUpTailIdeal.nD Cert.GateUpTailIdeal.τ).loc Cert.GateUpTailIdeal.main_arg0)
      ∧ m' ((c.tc : Thread Cert.GateUpTailRefIdeal.nD Cert.GateUpTailRefIdeal.τ).loc Cert.GateUpTailRefIdeal.main_arg1) = m ((c.tc : Thread Cert.GateUpTailIdeal.nD Cert.GateUpTailIdeal.τ).loc Cert.GateUpTailIdeal.main_arg1)
      ∧ m' ((c.tc : Thread Cert.GateUpTailRefIdeal.nD Cert.GateUpTailRefIdeal.τ).loc Cert.GateUpTailRefIdeal.main_arg2) = m ((c.tc : Thread Cert.GateUpTailIdeal.nD Cert.GateUpTailIdeal.τ).loc Cert.GateUpTailIdeal.main_arg2)) →
    ∃ (v0 : (c : Dev Cert.GateUpTailIdeal.nD) → Buf (Elt Ideal) ((c.tc : Thread Cert.GateUpTailIdeal.nD Cert.GateUpTailIdeal.τ).loc Cert.GateUpTailIdeal.main_v2)),
      θ_run (Cert.GateUpTailIdeal.defs (F := Ideal)) (onTc (τ := Cert.GateUpTailIdeal.τ) (Cert.GateUpTailIdeal.main (F := Ideal))) ⟨m, fun _ => 0, g⟩ (fun r => ∀ c : Dev Cert.GateUpTailIdeal.nD,
          r.2.mem ((c.tc : Thread Cert.GateUpTailIdeal.nD Cert.GateUpTailIdeal.τ).loc Cert.GateUpTailIdeal.main_v2) = v0 c
          ∧ r.2.mem ((c.tc : Thread Cert.GateUpTailIdeal.nD Cert.GateUpTailIdeal.τ).loc Cert.GateUpTailIdeal.main_arg0) = m ((c.tc : Thread Cert.GateUpTailIdeal.nD Cert.GateUpTailIdeal.τ).loc Cert.GateUpTailIdeal.main_arg0)
          ∧ r.2.mem ((c.tc : Thread Cert.GateUpTailIdeal.nD Cert.GateUpTailIdeal.τ).loc Cert.GateUpTailIdeal.main_arg1) = m ((c.tc : Thread Cert.GateUpTailIdeal.nD Cert.GateUpTailIdeal.τ).loc Cert.GateUpTailIdeal.main_arg1)
          ∧ r.2.mem ((c.tc : Thread Cert.GateUpTailIdeal.nD Cert.GateUpTailIdeal.τ).loc Cert.GateUpTailIdeal.main_arg2) = m ((c.tc : Thread Cert.GateUpTailIdeal.nD Cert.GateUpTailIdeal.τ).loc Cert.GateUpTailIdeal.main_arg2))
      ∧ θ_run (Cert.GateUpTailRefIdeal.defs (F := Ideal)) (onTc (τ := Cert.GateUpTailRefIdeal.τ) (Cert.GateUpTailRefIdeal.main (F := Ideal))) ⟨m', fun _ => 0, g'⟩ (fun r => ∀ c : Dev Cert.GateUpTailRefIdeal.nD,
          r.2.mem ((c.tc : Thread Cert.GateUpTailRefIdeal.nD Cert.GateUpTailRefIdeal.τ).loc Cert.GateUpTailRefIdeal.main_v9) = v0 c
          ∧ r.2.mem ((c.tc : Thread Cert.GateUpTailRefIdeal.nD Cert.GateUpTailRefIdeal.τ).loc Cert.GateUpTailRefIdeal.main_arg0) = m' ((c.tc : Thread Cert.GateUpTailRefIdeal.nD Cert.GateUpTailRefIdeal.τ).loc Cert.GateUpTailRefIdeal.main_arg0)
          ∧ r.2.mem ((c.tc : Thread Cert.GateUpTailRefIdeal.nD Cert.GateUpTailRefIdeal.τ).loc Cert.GateUpTailRefIdeal.main_arg1) = m' ((c.tc : Thread Cert.GateUpTailRefIdeal.nD Cert.GateUpTailRefIdeal.τ).loc Cert.GateUpTailRefIdeal.main_arg1)
          ∧ r.2.mem ((c.tc : Thread Cert.GateUpTailRefIdeal.nD Cert.GateUpTailRefIdeal.τ).loc Cert.GateUpTailRefIdeal.main_arg2) = m' ((c.tc : Thread Cert.GateUpTailRefIdeal.nD Cert.GateUpTailRefIdeal.τ).loc Cert.GateUpTailRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_ProjectIn_ProjectInIdeal : Prop :=
  True

def algebraic_ProjectInIdeal_ProjectInRefIdeal [hProjectInIdeal : Cert.ProjectInIdeal.Facts] [hProjectInRefIdeal : Cert.ProjectInRefIdeal.Facts] : Prop :=
  ∀ (m : (ℓ : Loc Cert.ProjectInIdeal.nD Cert.ProjectInIdeal.τ Cert.ProjectInIdeal.sig) → Buf (Elt Ideal) ℓ) (g : Dev Cert.ProjectInIdeal.nD → PrngReg)
    (m' : (ℓ : Loc Cert.ProjectInRefIdeal.nD Cert.ProjectInRefIdeal.τ Cert.ProjectInRefIdeal.sig) → Buf (Elt Ideal) ℓ) (g' : Dev Cert.ProjectInRefIdeal.nD → PrngReg), Pre_ProjectInIdeal m →
    (∀ c : Dev Cert.ProjectInIdeal.nD,
      m' ((c.tc : Thread Cert.ProjectInRefIdeal.nD Cert.ProjectInRefIdeal.τ).loc Cert.ProjectInRefIdeal.main_arg0) = m ((c.tc : Thread Cert.ProjectInIdeal.nD Cert.ProjectInIdeal.τ).loc Cert.ProjectInIdeal.main_arg0)
      ∧ m' ((c.tc : Thread Cert.ProjectInRefIdeal.nD Cert.ProjectInRefIdeal.τ).loc Cert.ProjectInRefIdeal.main_arg1) = m ((c.tc : Thread Cert.ProjectInIdeal.nD Cert.ProjectInIdeal.τ).loc Cert.ProjectInIdeal.main_arg1)) →
    ∃ (v0 : (c : Dev Cert.ProjectInIdeal.nD) → Buf (Elt Ideal) ((c.tc : Thread Cert.ProjectInIdeal.nD Cert.ProjectInIdeal.τ).loc Cert.ProjectInIdeal.main_v1)),
      θ_run (Cert.ProjectInIdeal.defs (F := Ideal)) (onTc (τ := Cert.ProjectInIdeal.τ) (Cert.ProjectInIdeal.main (F := Ideal))) ⟨m, fun _ => 0, g⟩ (fun r => ∀ c : Dev Cert.ProjectInIdeal.nD,
          r.2.mem ((c.tc : Thread Cert.ProjectInIdeal.nD Cert.ProjectInIdeal.τ).loc Cert.ProjectInIdeal.main_v1) = v0 c
          ∧ r.2.mem ((c.tc : Thread Cert.ProjectInIdeal.nD Cert.ProjectInIdeal.τ).loc Cert.ProjectInIdeal.main_arg0) = m ((c.tc : Thread Cert.ProjectInIdeal.nD Cert.ProjectInIdeal.τ).loc Cert.ProjectInIdeal.main_arg0)
          ∧ r.2.mem ((c.tc : Thread Cert.ProjectInIdeal.nD Cert.ProjectInIdeal.τ).loc Cert.ProjectInIdeal.main_arg1) = m ((c.tc : Thread Cert.ProjectInIdeal.nD Cert.ProjectInIdeal.τ).loc Cert.ProjectInIdeal.main_arg1))
      ∧ θ_run (Cert.ProjectInRefIdeal.defs (F := Ideal)) (onTc (τ := Cert.ProjectInRefIdeal.τ) (Cert.ProjectInRefIdeal.main (F := Ideal))) ⟨m', fun _ => 0, g'⟩ (fun r => ∀ c : Dev Cert.ProjectInRefIdeal.nD,
          r.2.mem ((c.tc : Thread Cert.ProjectInRefIdeal.nD Cert.ProjectInRefIdeal.τ).loc Cert.ProjectInRefIdeal.main_v12) = v0 c
          ∧ r.2.mem ((c.tc : Thread Cert.ProjectInRefIdeal.nD Cert.ProjectInRefIdeal.τ).loc Cert.ProjectInRefIdeal.main_arg0) = m' ((c.tc : Thread Cert.ProjectInRefIdeal.nD Cert.ProjectInRefIdeal.τ).loc Cert.ProjectInRefIdeal.main_arg0)
          ∧ r.2.mem ((c.tc : Thread Cert.ProjectInRefIdeal.nD Cert.ProjectInRefIdeal.τ).loc Cert.ProjectInRefIdeal.main_arg1) = m' ((c.tc : Thread Cert.ProjectInRefIdeal.nD Cert.ProjectInRefIdeal.τ).loc Cert.ProjectInRefIdeal.main_arg1))

def preserves_ProjectOut_ProjectOutIdeal : Prop :=
  True

def algebraic_ProjectOutIdeal_ProjectOutRefIdeal [hProjectOutIdeal : Cert.ProjectOutIdeal.Facts] [hProjectOutRefIdeal : Cert.ProjectOutRefIdeal.Facts] : Prop :=
  ∀ (m : (ℓ : Loc Cert.ProjectOutIdeal.nD Cert.ProjectOutIdeal.τ Cert.ProjectOutIdeal.sig) → Buf (Elt Ideal) ℓ) (g : Dev Cert.ProjectOutIdeal.nD → PrngReg)
    (m' : (ℓ : Loc Cert.ProjectOutRefIdeal.nD Cert.ProjectOutRefIdeal.τ Cert.ProjectOutRefIdeal.sig) → Buf (Elt Ideal) ℓ) (g' : Dev Cert.ProjectOutRefIdeal.nD → PrngReg), Pre_ProjectOutIdeal m →
    (∀ c : Dev Cert.ProjectOutIdeal.nD,
      m' ((c.tc : Thread Cert.ProjectOutRefIdeal.nD Cert.ProjectOutRefIdeal.τ).loc Cert.ProjectOutRefIdeal.main_arg0) = m ((c.tc : Thread Cert.ProjectOutIdeal.nD Cert.ProjectOutIdeal.τ).loc Cert.ProjectOutIdeal.main_arg0)
      ∧ m' ((c.tc : Thread Cert.ProjectOutRefIdeal.nD Cert.ProjectOutRefIdeal.τ).loc Cert.ProjectOutRefIdeal.main_arg1) = m ((c.tc : Thread Cert.ProjectOutIdeal.nD Cert.ProjectOutIdeal.τ).loc Cert.ProjectOutIdeal.main_arg1)
      ∧ m' ((c.tc : Thread Cert.ProjectOutRefIdeal.nD Cert.ProjectOutRefIdeal.τ).loc Cert.ProjectOutRefIdeal.main_arg2) = m ((c.tc : Thread Cert.ProjectOutIdeal.nD Cert.ProjectOutIdeal.τ).loc Cert.ProjectOutIdeal.main_arg2)) →
    ∃ (v0 : (c : Dev Cert.ProjectOutIdeal.nD) → Buf (Elt Ideal) ((c.tc : Thread Cert.ProjectOutIdeal.nD Cert.ProjectOutIdeal.τ).loc Cert.ProjectOutIdeal.main_v1)),
      θ_run (Cert.ProjectOutIdeal.defs (F := Ideal)) (onTc (τ := Cert.ProjectOutIdeal.τ) (Cert.ProjectOutIdeal.main (F := Ideal))) ⟨m, fun _ => 0, g⟩ (fun r => ∀ c : Dev Cert.ProjectOutIdeal.nD,
          r.2.mem ((c.tc : Thread Cert.ProjectOutIdeal.nD Cert.ProjectOutIdeal.τ).loc Cert.ProjectOutIdeal.main_v1) = v0 c
          ∧ r.2.mem ((c.tc : Thread Cert.ProjectOutIdeal.nD Cert.ProjectOutIdeal.τ).loc Cert.ProjectOutIdeal.main_arg0) = m ((c.tc : Thread Cert.ProjectOutIdeal.nD Cert.ProjectOutIdeal.τ).loc Cert.ProjectOutIdeal.main_arg0)
          ∧ r.2.mem ((c.tc : Thread Cert.ProjectOutIdeal.nD Cert.ProjectOutIdeal.τ).loc Cert.ProjectOutIdeal.main_arg1) = m ((c.tc : Thread Cert.ProjectOutIdeal.nD Cert.ProjectOutIdeal.τ).loc Cert.ProjectOutIdeal.main_arg1)
          ∧ r.2.mem ((c.tc : Thread Cert.ProjectOutIdeal.nD Cert.ProjectOutIdeal.τ).loc Cert.ProjectOutIdeal.main_arg2) = m ((c.tc : Thread Cert.ProjectOutIdeal.nD Cert.ProjectOutIdeal.τ).loc Cert.ProjectOutIdeal.main_arg2))
      ∧ θ_run (Cert.ProjectOutRefIdeal.defs (F := Ideal)) (onTc (τ := Cert.ProjectOutRefIdeal.τ) (Cert.ProjectOutRefIdeal.main (F := Ideal))) ⟨m', fun _ => 0, g'⟩ (fun r => ∀ c : Dev Cert.ProjectOutRefIdeal.nD,
          r.2.mem ((c.tc : Thread Cert.ProjectOutRefIdeal.nD Cert.ProjectOutRefIdeal.τ).loc Cert.ProjectOutRefIdeal.main_v4) = v0 c
          ∧ r.2.mem ((c.tc : Thread Cert.ProjectOutRefIdeal.nD Cert.ProjectOutRefIdeal.τ).loc Cert.ProjectOutRefIdeal.main_arg0) = m' ((c.tc : Thread Cert.ProjectOutRefIdeal.nD Cert.ProjectOutRefIdeal.τ).loc Cert.ProjectOutRefIdeal.main_arg0)
          ∧ r.2.mem ((c.tc : Thread Cert.ProjectOutRefIdeal.nD Cert.ProjectOutRefIdeal.τ).loc Cert.ProjectOutRefIdeal.main_arg1) = m' ((c.tc : Thread Cert.ProjectOutRefIdeal.nD Cert.ProjectOutRefIdeal.τ).loc Cert.ProjectOutRefIdeal.main_arg1)
          ∧ r.2.mem ((c.tc : Thread Cert.ProjectOutRefIdeal.nD Cert.ProjectOutRefIdeal.τ).loc Cert.ProjectOutRefIdeal.main_arg2) = m' ((c.tc : Thread Cert.ProjectOutRefIdeal.nD Cert.ProjectOutRefIdeal.τ).loc Cert.ProjectOutRefIdeal.main_arg2))

def preserves_PostSample_PostSampleIdeal : Prop :=
  True

def algebraic_PostSampleIdeal_PostSampleRefIdeal [hPostSampleIdeal : Cert.PostSampleIdeal.Facts] [hPostSampleRefIdeal : Cert.PostSampleRefIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg)
    (m' : (ℓ : Loc Cert.PostSampleRefIdeal.nD Cert.PostSampleRefIdeal.τ Cert.PostSampleRefIdeal.sig) → Buf (Elt Ideal) ℓ) (g' : Dev Cert.PostSampleRefIdeal.nD → PrngReg), Pre_PostSampleIdeal m →
    (∀ c : Dev Cert.PostSampleIdeal.nD,
      m' ((c.tc : Thread Cert.PostSampleRefIdeal.nD Cert.PostSampleRefIdeal.τ).loc Cert.PostSampleRefIdeal.main_arg0) = m ((c.tc : Thread Cert.PostSampleIdeal.nD Cert.PostSampleIdeal.τ).loc Cert.PostSampleIdeal.main_arg0)
      ∧ m' ((c.tc : Thread Cert.PostSampleRefIdeal.nD Cert.PostSampleRefIdeal.τ).loc Cert.PostSampleRefIdeal.main_arg1) = m ((c.tc : Thread Cert.PostSampleIdeal.nD Cert.PostSampleIdeal.τ).loc Cert.PostSampleIdeal.main_arg1)
      ∧ m' ((c.tc : Thread Cert.PostSampleRefIdeal.nD Cert.PostSampleRefIdeal.τ).loc Cert.PostSampleRefIdeal.main_arg2) = m ((c.tc : Thread Cert.PostSampleIdeal.nD Cert.PostSampleIdeal.τ).loc Cert.PostSampleIdeal.main_arg2)
      ∧ m' ((c.tc : Thread Cert.PostSampleRefIdeal.nD Cert.PostSampleRefIdeal.τ).loc Cert.PostSampleRefIdeal.main_arg3) = m ((c.tc : Thread Cert.PostSampleIdeal.nD Cert.PostSampleIdeal.τ).loc Cert.PostSampleIdeal.main_arg3)
      ∧ m' ((c.tc : Thread Cert.PostSampleRefIdeal.nD Cert.PostSampleRefIdeal.τ).loc Cert.PostSampleRefIdeal.main_arg4) = m ((c.tc : Thread Cert.PostSampleIdeal.nD Cert.PostSampleIdeal.τ).loc Cert.PostSampleIdeal.main_arg4)) →
    ∃ (v0 : (c : Dev Cert.PostSampleIdeal.nD) → Buf (Elt Ideal) ((c.tc : Thread Cert.PostSampleIdeal.nD Cert.PostSampleIdeal.τ).loc Cert.PostSampleIdeal.main_v4)),
      θ_run (Cert.PostSampleIdeal.defs (F := Ideal)) (onTc (τ := Cert.PostSampleIdeal.τ) (Cert.PostSampleIdeal.main (F := Ideal))) ⟨m, fun _ => 0, g⟩ (fun r => ∀ c : Dev Cert.PostSampleIdeal.nD,
          r.2.mem ((c.tc : Thread Cert.PostSampleIdeal.nD Cert.PostSampleIdeal.τ).loc Cert.PostSampleIdeal.main_v4) = v0 c
          ∧ r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
          ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
          ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
          ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
          ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4))
      ∧ θ_run (Cert.PostSampleRefIdeal.defs (F := Ideal)) (onTc (τ := Cert.PostSampleRefIdeal.τ) (Cert.PostSampleRefIdeal.main (F := Ideal))) ⟨m', fun _ => 0, g'⟩ (fun r => ∀ c : Dev Cert.PostSampleRefIdeal.nD,
          r.2.mem ((c.tc : Thread Cert.PostSampleRefIdeal.nD Cert.PostSampleRefIdeal.τ).loc Cert.PostSampleRefIdeal.main_v33) = v0 c
          ∧ r.2.mem ((c.tc : Thread Cert.PostSampleRefIdeal.nD Cert.PostSampleRefIdeal.τ).loc Cert.PostSampleRefIdeal.main_arg0) = m' ((c.tc : Thread Cert.PostSampleRefIdeal.nD Cert.PostSampleRefIdeal.τ).loc Cert.PostSampleRefIdeal.main_arg0)
          ∧ r.2.mem ((c.tc : Thread Cert.PostSampleRefIdeal.nD Cert.PostSampleRefIdeal.τ).loc Cert.PostSampleRefIdeal.main_arg1) = m' ((c.tc : Thread Cert.PostSampleRefIdeal.nD Cert.PostSampleRefIdeal.τ).loc Cert.PostSampleRefIdeal.main_arg1)
          ∧ r.2.mem ((c.tc : Thread Cert.PostSampleRefIdeal.nD Cert.PostSampleRefIdeal.τ).loc Cert.PostSampleRefIdeal.main_arg2) = m' ((c.tc : Thread Cert.PostSampleRefIdeal.nD Cert.PostSampleRefIdeal.τ).loc Cert.PostSampleRefIdeal.main_arg2)
          ∧ r.2.mem ((c.tc : Thread Cert.PostSampleRefIdeal.nD Cert.PostSampleRefIdeal.τ).loc Cert.PostSampleRefIdeal.main_arg3) = m' ((c.tc : Thread Cert.PostSampleRefIdeal.nD Cert.PostSampleRefIdeal.τ).loc Cert.PostSampleRefIdeal.main_arg3)
          ∧ r.2.mem ((c.tc : Thread Cert.PostSampleRefIdeal.nD Cert.PostSampleRefIdeal.τ).loc Cert.PostSampleRefIdeal.main_arg4) = m' ((c.tc : Thread Cert.PostSampleRefIdeal.nD Cert.PostSampleRefIdeal.τ).loc Cert.PostSampleRefIdeal.main_arg4))

def preserves_Swa_SwaIdeal : Prop :=
  True

def preserves_SwaBias_SwaBiasIdeal : Prop :=
  True

def algebraic_SwaBiasIdeal_SwaBiasRefIdeal [hSwaBiasIdeal : Cert.SwaBiasIdeal.Facts] [hSwaBiasRefIdeal : Cert.SwaBiasRefIdeal.Facts] : Prop :=
  ∀ (m : (ℓ : Loc Cert.SwaBiasIdeal.nD Cert.SwaBiasIdeal.τ Cert.SwaBiasIdeal.sig) → Buf (Elt Ideal) ℓ) (g : Dev Cert.SwaBiasIdeal.nD → PrngReg)
    (m' : (ℓ : Loc Cert.SwaBiasRefIdeal.nD Cert.SwaBiasRefIdeal.τ Cert.SwaBiasRefIdeal.sig) → Buf (Elt Ideal) ℓ) (g' : Dev Cert.SwaBiasRefIdeal.nD → PrngReg), Pre_SwaBiasIdeal m →
    (∀ c : Dev Cert.SwaBiasIdeal.nD,
      m' ((c.tc : Thread Cert.SwaBiasRefIdeal.nD Cert.SwaBiasRefIdeal.τ).loc Cert.SwaBiasRefIdeal.main_arg0) = m ((c.tc : Thread Cert.SwaBiasIdeal.nD Cert.SwaBiasIdeal.τ).loc Cert.SwaBiasIdeal.main_arg0)) →
    ∃ (v0 : (c : Dev Cert.SwaBiasIdeal.nD) → Buf (Elt Ideal) ((c.tc : Thread Cert.SwaBiasIdeal.nD Cert.SwaBiasIdeal.τ).loc Cert.SwaBiasIdeal.main_v0)),
      θ_run (Cert.SwaBiasIdeal.defs (F := Ideal)) (onTc (τ := Cert.SwaBiasIdeal.τ) (Cert.SwaBiasIdeal.main (F := Ideal))) ⟨m, fun _ => 0, g⟩ (fun r => ∀ c : Dev Cert.SwaBiasIdeal.nD,
          r.2.mem ((c.tc : Thread Cert.SwaBiasIdeal.nD Cert.SwaBiasIdeal.τ).loc Cert.SwaBiasIdeal.main_v0) = v0 c
          ∧ r.2.mem ((c.tc : Thread Cert.SwaBiasIdeal.nD Cert.SwaBiasIdeal.τ).loc Cert.SwaBiasIdeal.main_arg0) = m ((c.tc : Thread Cert.SwaBiasIdeal.nD Cert.SwaBiasIdeal.τ).loc Cert.SwaBiasIdeal.main_arg0))
      ∧ θ_run (Cert.SwaBiasRefIdeal.defs (F := Ideal)) (onTc (τ := Cert.SwaBiasRefIdeal.τ) (Cert.SwaBiasRefIdeal.main (F := Ideal))) ⟨m', fun _ => 0, g'⟩ (fun r => ∀ c : Dev Cert.SwaBiasRefIdeal.nD,
          r.2.mem ((c.tc : Thread Cert.SwaBiasRefIdeal.nD Cert.SwaBiasRefIdeal.τ).loc Cert.SwaBiasRefIdeal.main_v237) = v0 c
          ∧ r.2.mem ((c.tc : Thread Cert.SwaBiasRefIdeal.nD Cert.SwaBiasRefIdeal.τ).loc Cert.SwaBiasRefIdeal.main_arg0) = m' ((c.tc : Thread Cert.SwaBiasRefIdeal.nD Cert.SwaBiasRefIdeal.τ).loc Cert.SwaBiasRefIdeal.main_arg0))

def preserves_MetaNorm_MetaNormIdeal : Prop :=
  True

def algebraic_MetaNormIdeal_MetaNormRefIdeal [hMetaNormIdeal : Cert.MetaNormIdeal.Facts] [hMetaNormRefIdeal : Cert.MetaNormRefIdeal.Facts] : Prop :=
  ∀ (m : (ℓ : Loc Cert.MetaNormIdeal.nD Cert.MetaNormIdeal.τ Cert.MetaNormIdeal.sig) → Buf (Elt Ideal) ℓ) (g : Dev Cert.MetaNormIdeal.nD → PrngReg)
    (m' : (ℓ : Loc Cert.MetaNormRefIdeal.nD Cert.MetaNormRefIdeal.τ Cert.MetaNormRefIdeal.sig) → Buf (Elt Ideal) ℓ) (g' : Dev Cert.MetaNormRefIdeal.nD → PrngReg), Pre_MetaNormIdeal m →
    (∀ c : Dev Cert.MetaNormIdeal.nD,
      m' ((c.tc : Thread Cert.MetaNormRefIdeal.nD Cert.MetaNormRefIdeal.τ).loc Cert.MetaNormRefIdeal.main_arg0) = m ((c.tc : Thread Cert.MetaNormIdeal.nD Cert.MetaNormIdeal.τ).loc Cert.MetaNormIdeal.main_arg0)
      ∧ m' ((c.tc : Thread Cert.MetaNormRefIdeal.nD Cert.MetaNormRefIdeal.τ).loc Cert.MetaNormRefIdeal.main_arg1) = m ((c.tc : Thread Cert.MetaNormIdeal.nD Cert.MetaNormIdeal.τ).loc Cert.MetaNormIdeal.main_arg1)) →
    ∃ (v0 : (c : Dev Cert.MetaNormIdeal.nD) → Buf (Elt Ideal) ((c.tc : Thread Cert.MetaNormIdeal.nD Cert.MetaNormIdeal.τ).loc Cert.MetaNormIdeal.main_v4)),
      θ_run (Cert.MetaNormIdeal.defs (F := Ideal)) (onTc (τ := Cert.MetaNormIdeal.τ) (Cert.MetaNormIdeal.main (F := Ideal))) ⟨m, fun _ => 0, g⟩ (fun r => ∀ c : Dev Cert.MetaNormIdeal.nD,
          r.2.mem ((c.tc : Thread Cert.MetaNormIdeal.nD Cert.MetaNormIdeal.τ).loc Cert.MetaNormIdeal.main_v4) = v0 c
          ∧ r.2.mem ((c.tc : Thread Cert.MetaNormIdeal.nD Cert.MetaNormIdeal.τ).loc Cert.MetaNormIdeal.main_arg0) = m ((c.tc : Thread Cert.MetaNormIdeal.nD Cert.MetaNormIdeal.τ).loc Cert.MetaNormIdeal.main_arg0)
          ∧ r.2.mem ((c.tc : Thread Cert.MetaNormIdeal.nD Cert.MetaNormIdeal.τ).loc Cert.MetaNormIdeal.main_arg1) = m ((c.tc : Thread Cert.MetaNormIdeal.nD Cert.MetaNormIdeal.τ).loc Cert.MetaNormIdeal.main_arg1))
      ∧ θ_run (Cert.MetaNormRefIdeal.defs (F := Ideal)) (onTc (τ := Cert.MetaNormRefIdeal.τ) (Cert.MetaNormRefIdeal.main (F := Ideal))) ⟨m', fun _ => 0, g'⟩ (fun r => ∀ c : Dev Cert.MetaNormRefIdeal.nD,
          r.2.mem ((c.tc : Thread Cert.MetaNormRefIdeal.nD Cert.MetaNormRefIdeal.τ).loc Cert.MetaNormRefIdeal.main_v16) = v0 c
          ∧ r.2.mem ((c.tc : Thread Cert.MetaNormRefIdeal.nD Cert.MetaNormRefIdeal.τ).loc Cert.MetaNormRefIdeal.main_arg0) = m' ((c.tc : Thread Cert.MetaNormRefIdeal.nD Cert.MetaNormRefIdeal.τ).loc Cert.MetaNormRefIdeal.main_arg0)
          ∧ r.2.mem ((c.tc : Thread Cert.MetaNormRefIdeal.nD Cert.MetaNormRefIdeal.τ).loc Cert.MetaNormRefIdeal.main_arg1) = m' ((c.tc : Thread Cert.MetaNormRefIdeal.nD Cert.MetaNormRefIdeal.τ).loc Cert.MetaNormRefIdeal.main_arg1))

def preserves_MetaProject_MetaProjectIdeal : Prop :=
  True

def algebraic_MetaProjectIdeal_MetaProjectRefIdeal [hMetaProjectIdeal : Cert.MetaProjectIdeal.Facts] [hMetaProjectRefIdeal : Cert.MetaProjectRefIdeal.Facts] : Prop :=
  ∀ (m : (ℓ : Loc Cert.MetaProjectIdeal.nD Cert.MetaProjectIdeal.τ Cert.MetaProjectIdeal.sig) → Buf (Elt Ideal) ℓ) (g : Dev Cert.MetaProjectIdeal.nD → PrngReg)
    (m' : (ℓ : Loc Cert.MetaProjectRefIdeal.nD Cert.MetaProjectRefIdeal.τ Cert.MetaProjectRefIdeal.sig) → Buf (Elt Ideal) ℓ) (g' : Dev Cert.MetaProjectRefIdeal.nD → PrngReg), Pre_MetaProjectIdeal m →
    (∀ c : Dev Cert.MetaProjectIdeal.nD,
      m' ((c.tc : Thread Cert.MetaProjectRefIdeal.nD Cert.MetaProjectRefIdeal.τ).loc Cert.MetaProjectRefIdeal.main_arg0) = m ((c.tc : Thread Cert.MetaProjectIdeal.nD Cert.MetaProjectIdeal.τ).loc Cert.MetaProjectIdeal.main_arg0)
      ∧ m' ((c.tc : Thread Cert.MetaProjectRefIdeal.nD Cert.MetaProjectRefIdeal.τ).loc Cert.MetaProjectRefIdeal.main_arg1) = m ((c.tc : Thread Cert.MetaProjectIdeal.nD Cert.MetaProjectIdeal.τ).loc Cert.MetaProjectIdeal.main_arg1)) →
    ∃ (v0 : (c : Dev Cert.MetaProjectIdeal.nD) → Buf (Elt Ideal) ((c.tc : Thread Cert.MetaProjectIdeal.nD Cert.MetaProjectIdeal.τ).loc Cert.MetaProjectIdeal.main_v1)),
      θ_run (Cert.MetaProjectIdeal.defs (F := Ideal)) (onTc (τ := Cert.MetaProjectIdeal.τ) (Cert.MetaProjectIdeal.main (F := Ideal))) ⟨m, fun _ => 0, g⟩ (fun r => ∀ c : Dev Cert.MetaProjectIdeal.nD,
          r.2.mem ((c.tc : Thread Cert.MetaProjectIdeal.nD Cert.MetaProjectIdeal.τ).loc Cert.MetaProjectIdeal.main_v1) = v0 c
          ∧ r.2.mem ((c.tc : Thread Cert.MetaProjectIdeal.nD Cert.MetaProjectIdeal.τ).loc Cert.MetaProjectIdeal.main_arg0) = m ((c.tc : Thread Cert.MetaProjectIdeal.nD Cert.MetaProjectIdeal.τ).loc Cert.MetaProjectIdeal.main_arg0)
          ∧ r.2.mem ((c.tc : Thread Cert.MetaProjectIdeal.nD Cert.MetaProjectIdeal.τ).loc Cert.MetaProjectIdeal.main_arg1) = m ((c.tc : Thread Cert.MetaProjectIdeal.nD Cert.MetaProjectIdeal.τ).loc Cert.MetaProjectIdeal.main_arg1))
      ∧ θ_run (Cert.MetaProjectRefIdeal.defs (F := Ideal)) (onTc (τ := Cert.MetaProjectRefIdeal.τ) (Cert.MetaProjectRefIdeal.main (F := Ideal))) ⟨m', fun _ => 0, g'⟩ (fun r => ∀ c : Dev Cert.MetaProjectRefIdeal.nD,
          r.2.mem ((c.tc : Thread Cert.MetaProjectRefIdeal.nD Cert.MetaProjectRefIdeal.τ).loc Cert.MetaProjectRefIdeal.main_v8) = v0 c
          ∧ r.2.mem ((c.tc : Thread Cert.MetaProjectRefIdeal.nD Cert.MetaProjectRefIdeal.τ).loc Cert.MetaProjectRefIdeal.main_arg0) = m' ((c.tc : Thread Cert.MetaProjectRefIdeal.nD Cert.MetaProjectRefIdeal.τ).loc Cert.MetaProjectRefIdeal.main_arg0)
          ∧ r.2.mem ((c.tc : Thread Cert.MetaProjectRefIdeal.nD Cert.MetaProjectRefIdeal.τ).loc Cert.MetaProjectRefIdeal.main_arg1) = m' ((c.tc : Thread Cert.MetaProjectRefIdeal.nD Cert.MetaProjectRefIdeal.τ).loc Cert.MetaProjectRefIdeal.main_arg1))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hGateUpTail : Cert.GateUpTail.Facts) (hGateUpTailIdeal : Cert.GateUpTailIdeal.Facts) (hGateUpTailRefIdeal : Cert.GateUpTailRefIdeal.Facts) (hDown : Cert.Down.Facts) (hDownIdeal : Cert.DownIdeal.Facts) (hDownRefIdeal : Cert.DownRefIdeal.Facts) (hProjectIn : Cert.ProjectIn.Facts) (hProjectInIdeal : Cert.ProjectInIdeal.Facts) (hProjectInRefIdeal : Cert.ProjectInRefIdeal.Facts) (hProjectOut : Cert.ProjectOut.Facts) (hProjectOutIdeal : Cert.ProjectOutIdeal.Facts) (hProjectOutRefIdeal : Cert.ProjectOutRefIdeal.Facts) (hPostSample : Cert.PostSample.Facts) (hPostSampleIdeal : Cert.PostSampleIdeal.Facts) (hPostSampleRefIdeal : Cert.PostSampleRefIdeal.Facts) (hSwa : Cert.Swa.Facts) (hSwaIdeal : Cert.SwaIdeal.Facts) (hSwaBias : Cert.SwaBias.Facts) (hSwaBiasIdeal : Cert.SwaBiasIdeal.Facts) (hSwaBiasRefIdeal : Cert.SwaBiasRefIdeal.Facts) (hMetaNorm : Cert.MetaNorm.Facts) (hMetaNormIdeal : Cert.MetaNormIdeal.Facts) (hMetaNormRefIdeal : Cert.MetaNormRefIdeal.Facts) (hMetaProject : Cert.MetaProject.Facts) (hMetaProjectIdeal : Cert.MetaProjectIdeal.Facts) (hMetaProjectRefIdeal : Cert.MetaProjectRefIdeal.Facts),
    quiescent_Kernel (hKernel := hKernel)
    ∧ quiescent_KernelIdeal (hKernelIdeal := hKernelIdeal)
    ∧ quiescent_ReferenceIdeal (hReferenceIdeal := hReferenceIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_GateUpTail (hGateUpTail := hGateUpTail)
    ∧ quiescent_GateUpTailIdeal (hGateUpTailIdeal := hGateUpTailIdeal)
    ∧ quiescent_GateUpTailRefIdeal (hGateUpTailRefIdeal := hGateUpTailRefIdeal)
    ∧ quiescent_Down (hDown := hDown)
    ∧ quiescent_DownIdeal (hDownIdeal := hDownIdeal)
    ∧ quiescent_DownRefIdeal (hDownRefIdeal := hDownRefIdeal)
    ∧ quiescent_ProjectIn (hProjectIn := hProjectIn)
    ∧ quiescent_ProjectInIdeal (hProjectInIdeal := hProjectInIdeal)
    ∧ quiescent_ProjectInRefIdeal (hProjectInRefIdeal := hProjectInRefIdeal)
    ∧ quiescent_ProjectOut (hProjectOut := hProjectOut)
    ∧ quiescent_ProjectOutIdeal (hProjectOutIdeal := hProjectOutIdeal)
    ∧ quiescent_ProjectOutRefIdeal (hProjectOutRefIdeal := hProjectOutRefIdeal)
    ∧ quiescent_PostSample (hPostSample := hPostSample)
    ∧ quiescent_PostSampleIdeal (hPostSampleIdeal := hPostSampleIdeal)
    ∧ quiescent_PostSampleRefIdeal (hPostSampleRefIdeal := hPostSampleRefIdeal)
    ∧ quiescent_Swa (hSwa := hSwa)
    ∧ quiescent_SwaIdeal (hSwaIdeal := hSwaIdeal)
    ∧ quiescent_SwaBias (hSwaBias := hSwaBias)
    ∧ quiescent_SwaBiasIdeal (hSwaBiasIdeal := hSwaBiasIdeal)
    ∧ quiescent_SwaBiasRefIdeal (hSwaBiasRefIdeal := hSwaBiasRefIdeal)
    ∧ quiescent_MetaNorm (hMetaNorm := hMetaNorm)
    ∧ quiescent_MetaNormIdeal (hMetaNormIdeal := hMetaNormIdeal)
    ∧ quiescent_MetaNormRefIdeal (hMetaNormRefIdeal := hMetaNormRefIdeal)
    ∧ quiescent_MetaProject (hMetaProject := hMetaProject)
    ∧ quiescent_MetaProjectIdeal (hMetaProjectIdeal := hMetaProjectIdeal)
    ∧ quiescent_MetaProjectRefIdeal (hMetaProjectRefIdeal := hMetaProjectRefIdeal)
    ∧ preserves_Kernel_KernelIdeal
    ∧ algebraic_KernelIdeal_ReferenceIdeal (hKernelIdeal := hKernelIdeal) (hReferenceIdeal := hReferenceIdeal)
    ∧ preserves_GateUp_GateUpIdeal
    ∧ algebraic_GateUpIdeal_GateUpRefIdeal (hGateUpIdeal := hGateUpIdeal) (hGateUpRefIdeal := hGateUpRefIdeal)
    ∧ preserves_GateUpTail_GateUpTailIdeal
    ∧ algebraic_GateUpTailIdeal_GateUpTailRefIdeal (hGateUpTailIdeal := hGateUpTailIdeal) (hGateUpTailRefIdeal := hGateUpTailRefIdeal)
    ∧ preserves_Down_DownIdeal
    ∧ algebraic_DownIdeal_DownRefIdeal (hDownIdeal := hDownIdeal) (hDownRefIdeal := hDownRefIdeal)
    ∧ preserves_ProjectIn_ProjectInIdeal
    ∧ algebraic_ProjectInIdeal_ProjectInRefIdeal (hProjectInIdeal := hProjectInIdeal) (hProjectInRefIdeal := hProjectInRefIdeal)
    ∧ preserves_ProjectOut_ProjectOutIdeal
    ∧ algebraic_ProjectOutIdeal_ProjectOutRefIdeal (hProjectOutIdeal := hProjectOutIdeal) (hProjectOutRefIdeal := hProjectOutRefIdeal)
    ∧ preserves_PostSample_PostSampleIdeal
    ∧ algebraic_PostSampleIdeal_PostSampleRefIdeal (hPostSampleIdeal := hPostSampleIdeal) (hPostSampleRefIdeal := hPostSampleRefIdeal)
    ∧ preserves_Swa_SwaIdeal
    ∧ preserves_SwaBias_SwaBiasIdeal
    ∧ algebraic_SwaBiasIdeal_SwaBiasRefIdeal (hSwaBiasIdeal := hSwaBiasIdeal) (hSwaBiasRefIdeal := hSwaBiasRefIdeal)
    ∧ preserves_MetaNorm_MetaNormIdeal
    ∧ algebraic_MetaNormIdeal_MetaNormRefIdeal (hMetaNormIdeal := hMetaNormIdeal) (hMetaNormRefIdeal := hMetaNormRefIdeal)
    ∧ preserves_MetaProject_MetaProjectIdeal
    ∧ algebraic_MetaProjectIdeal_MetaProjectRefIdeal (hMetaProjectIdeal := hMetaProjectIdeal) (hMetaProjectRefIdeal := hMetaProjectRefIdeal)
-- ==== Kernel.lean ====
abbrev S16384x4096 : Shape := ⟨2, ![16384, 4096]⟩
abbrev S24576x4096 : Shape := ⟨2, ![24576, 4096]⟩
abbrev S1x4096 : Shape := ⟨2, ![1, 4096]⟩
abbrev S4096 : Shape := ⟨1, ![4096]⟩
abbrev S3x256x4096 : Shape := ⟨3, ![3, 256, 4096]⟩
abbrev S3 : Shape := ⟨1, ![3]⟩
abbrev S2x256x4096 : Shape := ⟨3, ![2, 256, 4096]⟩
abbrev S2 : Shape := ⟨1, ![2]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S24576x4096, .bf16⟩
  | .hbm, ⟨2, _⟩ => ⟨S24576x4096, .bf16⟩
  | .hbm, ⟨3, _⟩ => ⟨S1x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S16384x4096, .f32⟩
  | .local _ .vmem, ⟨0, _⟩ => ⟨S3x256x4096, .f32⟩
  | .local _ .vmem, ⟨1, _⟩ => ⟨S3x256x4096, .bf16⟩
  | .local _ .vmem, ⟨2, _⟩ => ⟨S3x256x4096, .bf16⟩
  | .local _ .vmem, ⟨3, _⟩ => ⟨S1x4096, .f32⟩
  | .local _ .vmem, ⟨4, _⟩ => ⟨S1x4096, .f32⟩
  | .local _ .vmem, ⟨5, _⟩ => ⟨S2x256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped7 : Ref sig .tc := ⟨.vmem, 4, rfl⟩
abbrev cc0_scoped8 : Ref sig .tc := ⟨.vmem, 5, rfl⟩

abbrev nD : Nat := 1
abbrev τ : Topo := Topo.v7x

variable {F : FTy → Type} [FloatOps F]

abbrev grid0 : Pipeline.Grid := .none

def k0_off1 : Fin 1 → Nat :=
  let c0_i32_21_r0 : BitVec 32 := 0#32
  let c3_i32_r0 : BitVec 32 := 3#32
  let v22_r0 : BitVec 32 := Scalar.remui c0_i32_21_r0 c3_i32_r0
  ![v22_r0.toNat]
def k0_off2 : Fin 3 → Nat :=
  let c0_i32_21_r0 : BitVec 32 := 0#32
  let c3_i32_r0 : BitVec 32 := 3#32
  let v22_r0 : BitVec 32 := Scalar.remui c0_i32_21_r0 c3_i32_r0
  let c0_i32_22_r0 : BitVec 32 := 0#32
  let c0_i32_23_r0 : BitVec 32 := 0#32
  ![v22_r0.toNat, 0, 0]
def k0_cond1 : BitVec 1 :=
  let true_46_r0 : BitVec 1 := 1#1
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c64_i32_r0 : BitVec 32 := 64#32
  let v9_r0 : BitVec 1 := Scalar.cmpi .eq v8_r0 c64_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c0_i32_44_r0 : BitVec 32 := 0#32
  let v43_r0 : BitVec 32 := Scalar.addi v11_r0 c0_i32_44_r0
  let c0_i32_45_r0 : BitVec 32 := 0#32
  let v44_r0 : BitVec 1 := Scalar.cmpi .ne v43_r0 c0_i32_45_r0
  let v45_r0 : BitVec 1 := Scalar.andi true_46_r0 v44_r0
  let true_47_r0 : BitVec 1 := 1#1
  let v46_r0 : BitVec 1 := Scalar.andi v45_r0 true_47_r0
  let v47_r0 : BitVec 32 := Scalar.extui v46_r0
  let c0_i32_48_r0 : BitVec 32 := 0#32
  let v48_r0 : BitVec 1 := Scalar.cmpi .ne v47_r0 c0_i32_48_r0
  v48_r0

def k0_off3 : Fin 1 → Nat :=
  let c0_i32_26_r0 : BitVec 32 := 0#32
  let c1_i32_27_r0 : BitVec 32 := 1#32
  let v28_r0 : BitVec 32 := Scalar.addi c0_i32_26_r0 c1_i32_27_r0
  let c3_i32_105_r0 : BitVec 32 := 3#32
  let v102_r0 : BitVec 32 := Scalar.remui v28_r0 c3_i32_105_r0
  ![v102_r0.toNat]
def k0_off4 : Fin 3 → Nat :=
  let c0_i32_26_r0 : BitVec 32 := 0#32
  let c1_i32_27_r0 : BitVec 32 := 1#32
  let v28_r0 : BitVec 32 := Scalar.addi c0_i32_26_r0 c1_i32_27_r0
  let c3_i32_105_r0 : BitVec 32 := 3#32
  let v102_r0 : BitVec 32 := Scalar.remui v28_r0 c3_i32_105_r0
  let c0_i32_108_r0 : BitVec 32 := 0#32
  let c0_i32_109_r0 : BitVec 32 := 0#32
  ![v102_r0.toNat, 0, 0]
def k0_off5 : Fin 2 → Nat :=
  let c256_i32_107_r0 : BitVec 32 := 256#32
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c64_i32_r0 : BitVec 32 := 64#32
  let v9_r0 : BitVec 1 := Scalar.cmpi .eq v8_r0 c64_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c0_i32_106_r0 : BitVec 32 := 0#32
  let v103_r0 : BitVec 32 := Scalar.addi v11_r0 c0_i32_106_r0
  let v104_r0 : BitVec 32 := Scalar.muli c256_i32_107_r0 v103_r0
  let c0_i32_110_r0 : BitVec 32 := 0#32
  ![v104_r0.toNat, 0]
def k0_cond2 : BitVec 1 :=
  let true_52_r0 : BitVec 1 := 1#1
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c64_i32_r0 : BitVec 32 := 64#32
  let v9_r0 : BitVec 1 := Scalar.cmpi .eq v8_r0 c64_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c0_i32_50_r0 : BitVec 32 := 0#32
  let v51_r0 : BitVec 32 := Scalar.addi v11_r0 c0_i32_50_r0
  let c0_i32_51_r0 : BitVec 32 := 0#32
  let v52_r0 : BitVec 1 := Scalar.cmpi .ne v51_r0 c0_i32_51_r0
  let v53_r0 : BitVec 1 := Scalar.andi true_52_r0 v52_r0
  let true_53_r0 : BitVec 1 := 1#1
  let v54_r0 : BitVec 1 := Scalar.andi v53_r0 true_53_r0
  let v55_r0 : BitVec 32 := Scalar.extui v54_r0
  let c0_i32_54_r0 : BitVec 32 := 0#32
  let v56_r0 : BitVec 1 := Scalar.cmpi .ne v55_r0 c0_i32_54_r0
  v56_r0

def k0_off6 : Fin 1 → Nat :=
  let c0_i32_34_r0 : BitVec 32 := 0#32
  let c1_i32_35_r0 : BitVec 32 := 1#32
  let v35_r0 : BitVec 32 := Scalar.addi c0_i32_34_r0 c1_i32_35_r0
  let c3_i32_105_r0 : BitVec 32 := 3#32
  let v102_r0 : BitVec 32 := Scalar.remui v35_r0 c3_i32_105_r0
  ![v102_r0.toNat]
def k0_off7 : Fin 3 → Nat :=
  let c0_i32_34_r0 : BitVec 32 := 0#32
  let c1_i32_35_r0 : BitVec 32 := 1#32
  let v35_r0 : BitVec 32 := Scalar.addi c0_i32_34_r0 c1_i32_35_r0
  let c3_i32_105_r0 : BitVec 32 := 3#32
  let v102_r0 : BitVec 32 := Scalar.remui v35_r0 c3_i32_105_r0
  let c0_i32_108_r0 : BitVec 32 := 0#32
  let c0_i32_109_r0 : BitVec 32 := 0#32
  ![v102_r0.toNat, 0, 0]
def k0_off8 : Fin 2 → Nat :=
  let c256_i32_107_r0 : BitVec 32 := 256#32
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c64_i32_r0 : BitVec 32 := 64#32
  let v9_r0 : BitVec 1 := Scalar.cmpi .eq v8_r0 c64_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c0_i32_106_r0 : BitVec 32 := 0#32
  let v103_r0 : BitVec 32 := Scalar.addi v11_r0 c0_i32_106_r0
  let v104_r0 : BitVec 32 := Scalar.muli c256_i32_107_r0 v103_r0
  let c0_i32_110_r0 : BitVec 32 := 0#32
  ![v104_r0.toNat, 0]
def k0_cond3 : BitVec 1 :=
  let true_58_r0 : BitVec 1 := 1#1
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c64_i32_r0 : BitVec 32 := 64#32
  let v9_r0 : BitVec 1 := Scalar.cmpi .eq v8_r0 c64_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c0_i32_56_r0 : BitVec 32 := 0#32
  let v59_r0 : BitVec 32 := Scalar.addi v11_r0 c0_i32_56_r0
  let c0_i32_57_r0 : BitVec 32 := 0#32
  let v60_r0 : BitVec 1 := Scalar.cmpi .ne v59_r0 c0_i32_57_r0
  let v61_r0 : BitVec 1 := Scalar.andi true_58_r0 v60_r0
  let true_59_r0 : BitVec 1 := 1#1
  let v62_r0 : BitVec 1 := Scalar.andi v61_r0 true_59_r0
  let v63_r0 : BitVec 32 := Scalar.extui v62_r0
  let c0_i32_60_r0 : BitVec 32 := 0#32
  let v64_r0 : BitVec 1 := Scalar.cmpi .ne v63_r0 c0_i32_60_r0
  v64_r0

def k0_off9 : Fin 1 → Nat :=
  let c0_i32_42_r0 : BitVec 32 := 0#32
  let c1_i32_43_r0 : BitVec 32 := 1#32
  let v42_r0 : BitVec 32 := Scalar.addi c0_i32_42_r0 c1_i32_43_r0
  let c3_i32_105_r0 : BitVec 32 := 3#32
  let v102_r0 : BitVec 32 := Scalar.remui v42_r0 c3_i32_105_r0
  ![v102_r0.toNat]
def k0_off10 : Fin 3 → Nat :=
  let c0_i32_42_r0 : BitVec 32 := 0#32
  let c1_i32_43_r0 : BitVec 32 := 1#32
  let v42_r0 : BitVec 32 := Scalar.addi c0_i32_42_r0 c1_i32_43_r0
  let c3_i32_105_r0 : BitVec 32 := 3#32
  let v102_r0 : BitVec 32 := Scalar.remui v42_r0 c3_i32_105_r0
  let c0_i32_108_r0 : BitVec 32 := 0#32
  let c0_i32_109_r0 : BitVec 32 := 0#32
  ![v102_r0.toNat, 0, 0]
def k0_off11 : Fin 2 → Nat :=
  let c256_i32_107_r0 : BitVec 32 := 256#32
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c64_i32_r0 : BitVec 32 := 64#32
  let v9_r0 : BitVec 1 := Scalar.cmpi .eq v8_r0 c64_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c0_i32_106_r0 : BitVec 32 := 0#32
  let v103_r0 : BitVec 32 := Scalar.addi v11_r0 c0_i32_106_r0
  let v104_r0 : BitVec 32 := Scalar.muli c256_i32_107_r0 v103_r0
  let c0_i32_110_r0 : BitVec 32 := 0#32
  ![v104_r0.toNat, 0]
@[reducible] def k0_t1_loop : Scf.Loop 32 :=
  let c0_i32_72_r0 : BitVec 32 := 0#32
  let c64_i32_73_r0 : BitVec 32 := 64#32
  let v67_r0 : BitVec 32 := Scalar.addi c0_i32_72_r0 c64_i32_73_r0
  let c1_i32_74_r0 : BitVec 32 := 1#32
  ⟨c0_i32_72_r0, v67_r0, c1_i32_74_r0⟩
def k0_off12 (arg7_r0 : BitVec 32) : Fin 1 → Nat :=
  let c3_i32_222_r0 : BitVec 32 := 3#32
  let v317_r0 : BitVec 32 := Scalar.remui arg7_r0 c3_i32_222_r0
  ![v317_r0.toNat]
def k0_cond4 (k0_t1 : Fin k0_t1_loop.trips) (arg17_r0 : BitVec 32) : BitVec 1 :=
  let true_114_r0 : BitVec 1 := 1#1
  let c1_i32_113_r0 : BitVec 32 := 1#32
  let v110_r0 : BitVec 32 := Scalar.addi arg17_r0 c1_i32_113_r0
  let v111_r0 : BitVec 32 := Scalar.select true_114_r0 v110_r0 arg17_r0
  let c64_i32_115_r0 : BitVec 32 := 64#32
  let v112_r0 : BitVec 1 := Scalar.cmpi .eq v111_r0 c64_i32_115_r0
  let c0_i32_116_r0 : BitVec 32 := 0#32
  let v113_r0 : BitVec 32 := Scalar.select v112_r0 c0_i32_116_r0 v111_r0
  let c0_i32_117_r0 : BitVec 32 := 0#32
  let v114_r0 : BitVec 32 := Scalar.addi v113_r0 c0_i32_117_r0
  let c0_i32_128_r0 : BitVec 32 := 0#32
  let v125_r0 : BitVec 32 := Scalar.addi v114_r0 c0_i32_128_r0
  let true_119_r0 : BitVec 1 := 1#1
  let c1_i32_118_r0 : BitVec 32 := 1#32
  let v115_r0 : BitVec 32 := Scalar.addi v113_r0 c1_i32_118_r0
  let v116_r0 : BitVec 32 := Scalar.select true_119_r0 v115_r0 v113_r0
  let c64_i32_120_r0 : BitVec 32 := 64#32
  let v117_r0 : BitVec 1 := Scalar.cmpi .eq v116_r0 c64_i32_120_r0
  let c0_i32_121_r0 : BitVec 32 := 0#32
  let v118_r0 : BitVec 32 := Scalar.select v117_r0 c0_i32_121_r0 v116_r0
  let c0_i32_122_r0 : BitVec 32 := 0#32
  let v119_r0 : BitVec 32 := Scalar.addi v118_r0 c0_i32_122_r0
  let c0_i32_129_r0 : BitVec 32 := 0#32
  let v126_r0 : BitVec 32 := Scalar.addi v119_r0 c0_i32_129_r0
  let v127_r0 : BitVec 1 := Scalar.cmpi .ne v125_r0 v126_r0
  let c0_i32_72_r0 : BitVec 32 := 0#32
  let c1_i32_74_r0 : BitVec 32 := 1#32
  let arg6_r0 : BitVec 32 := Scf.iv c0_i32_72_r0 c1_i32_74_r0 k0_t1
  let c62_i32_r0 : BitVec 32 := 62#32
  let v128_r0 : BitVec 1 := Scalar.cmpi .sge arg6_r0 c62_i32_r0
  let true_130_r0 : BitVec 1 := 1#1
  let v129_r0 : BitVec 1 := Scalar.xori v128_r0 true_130_r0
  let v130_r0 : BitVec 1 := Scalar.andi v127_r0 v129_r0
  let true_131_r0 : BitVec 1 := 1#1
  let v131_r0 : BitVec 1 := Scalar.andi v130_r0 true_131_r0
  let v132_r0 : BitVec 32 := Scalar.extui v131_r0
  let c0_i32_132_r0 : BitVec 32 := 0#32
  let v133_r0 : BitVec 1 := Scalar.cmpi .ne v132_r0 c0_i32_132_r0
  v133_r0

def k0_off13 (arg7_r0 : BitVec 32) : Fin 3 → Nat :=
  let c3_i32_222_r0 : BitVec 32 := 3#32
  let v317_r0 : BitVec 32 := Scalar.remui arg7_r0 c3_i32_222_r0
  let c0_i32_225_r0 : BitVec 32 := 0#32
  let c0_i32_226_r0 : BitVec 32 := 0#32
  ![v317_r0.toNat, 0, 0]
def k0_off14 (arg17_r0 : BitVec 32) : Fin 2 → Nat :=
  let c256_i32_224_r0 : BitVec 32 := 256#32
  let true_119_r0 : BitVec 1 := 1#1
  let true_114_r0 : BitVec 1 := 1#1
  let c1_i32_113_r0 : BitVec 32 := 1#32
  let v110_r0 : BitVec 32 := Scalar.addi arg17_r0 c1_i32_113_r0
  let v111_r0 : BitVec 32 := Scalar.select true_114_r0 v110_r0 arg17_r0
  let c64_i32_115_r0 : BitVec 32 := 64#32
  let v112_r0 : BitVec 1 := Scalar.cmpi .eq v111_r0 c64_i32_115_r0
  let c0_i32_116_r0 : BitVec 32 := 0#32
  let v113_r0 : BitVec 32 := Scalar.select v112_r0 c0_i32_116_r0 v111_r0
  let c1_i32_118_r0 : BitVec 32 := 1#32
  let v115_r0 : BitVec 32 := Scalar.addi v113_r0 c1_i32_118_r0
  let v116_r0 : BitVec 32 := Scalar.select true_119_r0 v115_r0 v113_r0
  let c64_i32_120_r0 : BitVec 32 := 64#32
  let v117_r0 : BitVec 1 := Scalar.cmpi .eq v116_r0 c64_i32_120_r0
  let c0_i32_121_r0 : BitVec 32 := 0#32
  let v118_r0 : BitVec 32 := Scalar.select v117_r0 c0_i32_121_r0 v116_r0
  let c0_i32_122_r0 : BitVec 32 := 0#32
  let v119_r0 : BitVec 32 := Scalar.addi v118_r0 c0_i32_122_r0
  let c0_i32_223_r0 : BitVec 32 := 0#32
  let v318_r0 : BitVec 32 := Scalar.addi v119_r0 c0_i32_223_r0
  let v319_r0 : BitVec 32 := Scalar.muli c256_i32_224_r0 v318_r0
  let c0_i32_227_r0 : BitVec 32 := 0#32
  ![v319_r0.toNat, 0]
def k0_off15 (arg9_r0 : BitVec 32) : Fin 1 → Nat :=
  let c3_i32_222_r0 : BitVec 32 := 3#32
  let v317_r0 : BitVec 32 := Scalar.remui arg9_r0 c3_i32_222_r0
  ![v317_r0.toNat]
def k0_cond5 (k0_t1 : Fin k0_t1_loop.trips) (arg17_r0 : BitVec 32) : BitVec 1 :=
  let true_114_r0 : BitVec 1 := 1#1
  let c1_i32_113_r0 : BitVec 32 := 1#32
  let v110_r0 : BitVec 32 := Scalar.addi arg17_r0 c1_i32_113_r0
  let v111_r0 : BitVec 32 := Scalar.select true_114_r0 v110_r0 arg17_r0
  let c64_i32_115_r0 : BitVec 32 := 64#32
  let v112_r0 : BitVec 1 := Scalar.cmpi .eq v111_r0 c64_i32_115_r0
  let c0_i32_116_r0 : BitVec 32 := 0#32
  let v113_r0 : BitVec 32 := Scalar.select v112_r0 c0_i32_116_r0 v111_r0
  let c0_i32_117_r0 : BitVec 32 := 0#32
  let v114_r0 : BitVec 32 := Scalar.addi v113_r0 c0_i32_117_r0
  let c0_i32_135_r0 : BitVec 32 := 0#32
  let v137_r0 : BitVec 32 := Scalar.addi v114_r0 c0_i32_135_r0
  let true_119_r0 : BitVec 1 := 1#1
  let c1_i32_118_r0 : BitVec 32 := 1#32
  let v115_r0 : BitVec 32 := Scalar.addi v113_r0 c1_i32_118_r0
  let v116_r0 : BitVec 32 := Scalar.select true_119_r0 v115_r0 v113_r0
  let c64_i32_120_r0 : BitVec 32 := 64#32
  let v117_r0 : BitVec 1 := Scalar.cmpi .eq v116_r0 c64_i32_120_r0
  let c0_i32_121_r0 : BitVec 32 := 0#32
  let v118_r0 : BitVec 32 := Scalar.select v117_r0 c0_i32_121_r0 v116_r0
  let c0_i32_122_r0 : BitVec 32 := 0#32
  let v119_r0 : BitVec 32 := Scalar.addi v118_r0 c0_i32_122_r0
  let c0_i32_136_r0 : BitVec 32 := 0#32
  let v138_r0 : BitVec 32 := Scalar.addi v119_r0 c0_i32_136_r0
  let v139_r0 : BitVec 1 := Scalar.cmpi .ne v137_r0 v138_r0
  let c0_i32_72_r0 : BitVec 32 := 0#32
  let c1_i32_74_r0 : BitVec 32 := 1#32
  let arg6_r0 : BitVec 32 := Scf.iv c0_i32_72_r0 c1_i32_74_r0 k0_t1
  let c62_i32_137_r0 : BitVec 32 := 62#32
  let v140_r0 : BitVec 1 := Scalar.cmpi .sge arg6_r0 c62_i32_137_r0
  let true_138_r0 : BitVec 1 := 1#1
  let v141_r0 : BitVec 1 := Scalar.xori v140_r0 true_138_r0
  let v142_r0 : BitVec 1 := Scalar.andi v139_r0 v141_r0
  let true_139_r0 : BitVec 1 := 1#1
  let v143_r0 : BitVec 1 := Scalar.andi v142_r0 true_139_r0
  let v144_r0 : BitVec 32 := Scalar.extui v143_r0
  let c0_i32_140_r0 : BitVec 32 := 0#32
  let v145_r0 : BitVec 1 := Scalar.cmpi .ne v144_r0 c0_i32_140_r0
  v145_r0

def k0_off16 (arg9_r0 : BitVec 32) : Fin 3 → Nat :=
  let c3_i32_222_r0 : BitVec 32 := 3#32
  let v317_r0 : BitVec 32 := Scalar.remui arg9_r0 c3_i32_222_r0
  let c0_i32_225_r0 : BitVec 32 := 0#32
  let c0_i32_226_r0 : BitVec 32 := 0#32
  ![v317_r0.toNat, 0, 0]
def k0_off17 (arg17_r0 : BitVec 32) : Fin 2 → Nat :=
  let c256_i32_224_r0 : BitVec 32 := 256#32
  let true_119_r0 : BitVec 1 := 1#1
  let true_114_r0 : BitVec 1 := 1#1
  let c1_i32_113_r0 : BitVec 32 := 1#32
  let v110_r0 : BitVec 32 := Scalar.addi arg17_r0 c1_i32_113_r0
  let v111_r0 : BitVec 32 := Scalar.select true_114_r0 v110_r0 arg17_r0
  let c64_i32_115_r0 : BitVec 32 := 64#32
  let v112_r0 : BitVec 1 := Scalar.cmpi .eq v111_r0 c64_i32_115_r0
  let c0_i32_116_r0 : BitVec 32 := 0#32
  let v113_r0 : BitVec 32 := Scalar.select v112_r0 c0_i32_116_r0 v111_r0
  let c1_i32_118_r0 : BitVec 32 := 1#32
  let v115_r0 : BitVec 32 := Scalar.addi v113_r0 c1_i32_118_r0
  let v116_r0 : BitVec 32 := Scalar.select true_119_r0 v115_r0 v113_r0
  let c64_i32_120_r0 : BitVec 32 := 64#32
  let v117_r0 : BitVec 1 := Scalar.cmpi .eq v116_r0 c64_i32_120_r0
  let c0_i32_121_r0 : BitVec 32 := 0#32
  let v118_r0 : BitVec 32 := Scalar.select v117_r0 c0_i32_121_r0 v116_r0
  let c0_i32_122_r0 : BitVec 32 := 0#32
  let v119_r0 : BitVec 32 := Scalar.addi v118_r0 c0_i32_122_r0
  let c0_i32_223_r0 : BitVec 32 := 0#32
  let v318_r0 : BitVec 32 := Scalar.addi v119_r0 c0_i32_223_r0
  let v319_r0 : BitVec 32 := Scalar.muli c256_i32_224_r0 v318_r0
  let c0_i32_227_r0 : BitVec 32 := 0#32
  ![v319_r0.toNat, 0]
def k0_off18 (arg11_r0 : BitVec 32) : Fin 1 → Nat :=
  let c3_i32_222_r0 : BitVec 32 := 3#32
  let v317_r0 : BitVec 32 := Scalar.remui arg11_r0 c3_i32_222_r0
  ![v317_r0.toNat]
def k0_cond6 (k0_t1 : Fin k0_t1_loop.trips) (arg17_r0 : BitVec 32) : BitVec 1 :=
  let true_114_r0 : BitVec 1 := 1#1
  let c1_i32_113_r0 : BitVec 32 := 1#32
  let v110_r0 : BitVec 32 := Scalar.addi arg17_r0 c1_i32_113_r0
  let v111_r0 : BitVec 32 := Scalar.select true_114_r0 v110_r0 arg17_r0
  let c64_i32_115_r0 : BitVec 32 := 64#32
  let v112_r0 : BitVec 1 := Scalar.cmpi .eq v111_r0 c64_i32_115_r0
  let c0_i32_116_r0 : BitVec 32 := 0#32
  let v113_r0 : BitVec 32 := Scalar.select v112_r0 c0_i32_116_r0 v111_r0
  let c0_i32_117_r0 : BitVec 32 := 0#32
  let v114_r0 : BitVec 32 := Scalar.addi v113_r0 c0_i32_117_r0
  let c0_i32_143_r0 : BitVec 32 := 0#32
  let v149_r0 : BitVec 32 := Scalar.addi v114_r0 c0_i32_143_r0
  let true_119_r0 : BitVec 1 := 1#1
  let c1_i32_118_r0 : BitVec 32 := 1#32
  let v115_r0 : BitVec 32 := Scalar.addi v113_r0 c1_i32_118_r0
  let v116_r0 : BitVec 32 := Scalar.select true_119_r0 v115_r0 v113_r0
  let c64_i32_120_r0 : BitVec 32 := 64#32
  let v117_r0 : BitVec 1 := Scalar.cmpi .eq v116_r0 c64_i32_120_r0
  let c0_i32_121_r0 : BitVec 32 := 0#32
  let v118_r0 : BitVec 32 := Scalar.select v117_r0 c0_i32_121_r0 v116_r0
  let c0_i32_122_r0 : BitVec 32 := 0#32
  let v119_r0 : BitVec 32 := Scalar.addi v118_r0 c0_i32_122_r0
  let c0_i32_144_r0 : BitVec 32 := 0#32
  let v150_r0 : BitVec 32 := Scalar.addi v119_r0 c0_i32_144_r0
  let v151_r0 : BitVec 1 := Scalar.cmpi .ne v149_r0 v150_r0
  let c0_i32_72_r0 : BitVec 32 := 0#32
  let c1_i32_74_r0 : BitVec 32 := 1#32
  let arg6_r0 : BitVec 32 := Scf.iv c0_i32_72_r0 c1_i32_74_r0 k0_t1
  let c62_i32_145_r0 : BitVec 32 := 62#32
  let v152_r0 : BitVec 1 := Scalar.cmpi .sge arg6_r0 c62_i32_145_r0
  let true_146_r0 : BitVec 1 := 1#1
  let v153_r0 : BitVec 1 := Scalar.xori v152_r0 true_146_r0
  let v154_r0 : BitVec 1 := Scalar.andi v151_r0 v153_r0
  let true_147_r0 : BitVec 1 := 1#1
  let v155_r0 : BitVec 1 := Scalar.andi v154_r0 true_147_r0
  let v156_r0 : BitVec 32 := Scalar.extui v155_r0
  let c0_i32_148_r0 : BitVec 32 := 0#32
  let v157_r0 : BitVec 1 := Scalar.cmpi .ne v156_r0 c0_i32_148_r0
  v157_r0

def k0_off19 (arg11_r0 : BitVec 32) : Fin 3 → Nat :=
  let c3_i32_222_r0 : BitVec 32 := 3#32
  let v317_r0 : BitVec 32 := Scalar.remui arg11_r0 c3_i32_222_r0
  let c0_i32_225_r0 : BitVec 32 := 0#32
  let c0_i32_226_r0 : BitVec 32 := 0#32
  ![v317_r0.toNat, 0, 0]
def k0_off20 (arg17_r0 : BitVec 32) : Fin 2 → Nat :=
  let c256_i32_224_r0 : BitVec 32 := 256#32
  let true_119_r0 : BitVec 1 := 1#1
  let true_114_r0 : BitVec 1 := 1#1
  let c1_i32_113_r0 : BitVec 32 := 1#32
  let v110_r0 : BitVec 32 := Scalar.addi arg17_r0 c1_i32_113_r0
  let v111_r0 : BitVec 32 := Scalar.select true_114_r0 v110_r0 arg17_r0
  let c64_i32_115_r0 : BitVec 32 := 64#32
  let v112_r0 : BitVec 1 := Scalar.cmpi .eq v111_r0 c64_i32_115_r0
  let c0_i32_116_r0 : BitVec 32 := 0#32
  let v113_r0 : BitVec 32 := Scalar.select v112_r0 c0_i32_116_r0 v111_r0
  let c1_i32_118_r0 : BitVec 32 := 1#32
  let v115_r0 : BitVec 32 := Scalar.addi v113_r0 c1_i32_118_r0
  let v116_r0 : BitVec 32 := Scalar.select true_119_r0 v115_r0 v113_r0
  let c64_i32_120_r0 : BitVec 32 := 64#32
  let v117_r0 : BitVec 1 := Scalar.cmpi .eq v116_r0 c64_i32_120_r0
  let c0_i32_121_r0 : BitVec 32 := 0#32
  let v118_r0 : BitVec 32 := Scalar.select v117_r0 c0_i32_121_r0 v116_r0
  let c0_i32_122_r0 : BitVec 32 := 0#32
  let v119_r0 : BitVec 32 := Scalar.addi v118_r0 c0_i32_122_r0
  let c0_i32_223_r0 : BitVec 32 := 0#32
  let v318_r0 : BitVec 32 := Scalar.addi v119_r0 c0_i32_223_r0
  let v319_r0 : BitVec 32 := Scalar.muli c256_i32_224_r0 v318_r0
  let c0_i32_227_r0 : BitVec 32 := 0#32
  ![v319_r0.toNat, 0]
def k0_off21 (arg8_r0 : BitVec 32) : Fin 1 → Nat :=
  let c3_i32_224_r0 : BitVec 32 := 3#32
  let v319_r0 : BitVec 32 := Scalar.remui arg8_r0 c3_i32_224_r0
  ![v319_r0.toNat]
def k0_cond7 (k0_t1 : Fin k0_t1_loop.trips) (arg17_r0 : BitVec 32) : BitVec 1 :=
  let c0_i32_107_r0 : BitVec 32 := 0#32
  let v104_r0 : BitVec 32 := Scalar.addi arg17_r0 c0_i32_107_r0
  let c0_i32_155_r0 : BitVec 32 := 0#32
  let v167_r0 : BitVec 32 := Scalar.addi v104_r0 c0_i32_155_r0
  let true_109_r0 : BitVec 1 := 1#1
  let c1_i32_108_r0 : BitVec 32 := 1#32
  let v105_r0 : BitVec 32 := Scalar.subi arg17_r0 c1_i32_108_r0
  let v106_r0 : BitVec 32 := Scalar.select true_109_r0 v105_r0 arg17_r0
  let c_m1_i32_110_r0 : BitVec 32 := 4294967295#32
  let v107_r0 : BitVec 1 := Scalar.cmpi .eq v106_r0 c_m1_i32_110_r0
  let c63_i32_111_r0 : BitVec 32 := 63#32
  let v108_r0 : BitVec 32 := Scalar.select v107_r0 c63_i32_111_r0 v106_r0
  let c0_i32_112_r0 : BitVec 32 := 0#32
  let v109_r0 : BitVec 32 := Scalar.addi v108_r0 c0_i32_112_r0
  let c0_i32_156_r0 : BitVec 32 := 0#32
  let v168_r0 : BitVec 32 := Scalar.addi v109_r0 c0_i32_156_r0
  let v169_r0 : BitVec 1 := Scalar.cmpi .ne v167_r0 v168_r0
  let c0_i32_72_r0 : BitVec 32 := 0#32
  let c1_i32_74_r0 : BitVec 32 := 1#32
  let arg6_r0 : BitVec 32 := Scf.iv c0_i32_72_r0 c1_i32_74_r0 k0_t1
  let c0_i32_105_r0 : BitVec 32 := 0#32
  let v102_r0 : BitVec 1 := Scalar.cmpi .eq arg6_r0 c0_i32_105_r0
  let v170_r0 : BitVec 1 := Scalar.ori v169_r0 v102_r0
  let c0_i32_157_r0 : BitVec 32 := 0#32
  let v171_r0 : BitVec 1 := Scalar.cmpi .sge arg6_r0 c0_i32_157_r0
  let v172_r0 : BitVec 1 := Scalar.andi v170_r0 v171_r0
  let v173_r0 : BitVec 32 := Scalar.extui v172_r0
  let c0_i32_158_r0 : BitVec 32 := 0#32
  let v174_r0 : BitVec 1 := Scalar.cmpi .ne v173_r0 c0_i32_158_r0
  v174_r0

def k0_off22 (arg8_r0 : BitVec 32) : Fin 3 → Nat :=
  let c3_i32_224_r0 : BitVec 32 := 3#32
  let v319_r0 : BitVec 32 := Scalar.remui arg8_r0 c3_i32_224_r0
  let c0_i32_225_r0 : BitVec 32 := 0#32
  let c0_i32_226_r0 : BitVec 32 := 0#32
  ![v319_r0.toNat, 0, 0]
def k0_off23 (arg17_r0 : BitVec 32) : Fin 2 → Nat :=
  let c256_i32_223_r0 : BitVec 32 := 256#32
  let c0_i32_107_r0 : BitVec 32 := 0#32
  let v104_r0 : BitVec 32 := Scalar.addi arg17_r0 c0_i32_107_r0
  let c0_i32_222_r0 : BitVec 32 := 0#32
  let v317_r0 : BitVec 32 := Scalar.addi v104_r0 c0_i32_222_r0
  let v318_r0 : BitVec 32 := Scalar.muli c256_i32_223_r0 v317_r0
  let c0_i32_227_r0 : BitVec 32 := 0#32
  ![v318_r0.toNat, 0]
def k0_off24 (arg10_r0 : BitVec 32) : Fin 1 → Nat :=
  let c3_i32_224_r0 : BitVec 32 := 3#32
  let v319_r0 : BitVec 32 := Scalar.remui arg10_r0 c3_i32_224_r0
  ![v319_r0.toNat]
def k0_cond8 (k0_t1 : Fin k0_t1_loop.trips) (arg17_r0 : BitVec 32) : BitVec 1 :=
  let c0_i32_107_r0 : BitVec 32 := 0#32
  let v104_r0 : BitVec 32 := Scalar.addi arg17_r0 c0_i32_107_r0
  let c0_i32_159_r0 : BitVec 32 := 0#32
  let v175_r0 : BitVec 32 := Scalar.addi v104_r0 c0_i32_159_r0
  let true_109_r0 : BitVec 1 := 1#1
  let c1_i32_108_r0 : BitVec 32 := 1#32
  let v105_r0 : BitVec 32 := Scalar.subi arg17_r0 c1_i32_108_r0
  let v106_r0 : BitVec 32 := Scalar.select true_109_r0 v105_r0 arg17_r0
  let c_m1_i32_110_r0 : BitVec 32 := 4294967295#32
  let v107_r0 : BitVec 1 := Scalar.cmpi .eq v106_r0 c_m1_i32_110_r0
  let c63_i32_111_r0 : BitVec 32 := 63#32
  let v108_r0 : BitVec 32 := Scalar.select v107_r0 c63_i32_111_r0 v106_r0
  let c0_i32_112_r0 : BitVec 32 := 0#32
  let v109_r0 : BitVec 32 := Scalar.addi v108_r0 c0_i32_112_r0
  let c0_i32_160_r0 : BitVec 32 := 0#32
  let v176_r0 : BitVec 32 := Scalar.addi v109_r0 c0_i32_160_r0
  let v177_r0 : BitVec 1 := Scalar.cmpi .ne v175_r0 v176_r0
  let c0_i32_72_r0 : BitVec 32 := 0#32
  let c1_i32_74_r0 : BitVec 32 := 1#32
  let arg6_r0 : BitVec 32 := Scf.iv c0_i32_72_r0 c1_i32_74_r0 k0_t1
  let c0_i32_105_r0 : BitVec 32 := 0#32
  let v102_r0 : BitVec 1 := Scalar.cmpi .eq arg6_r0 c0_i32_105_r0
  let v178_r0 : BitVec 1 := Scalar.ori v177_r0 v102_r0
  let c0_i32_161_r0 : BitVec 32 := 0#32
  let v179_r0 : BitVec 1 := Scalar.cmpi .sge arg6_r0 c0_i32_161_r0
  let v180_r0 : BitVec 1 := Scalar.andi v178_r0 v179_r0
  let v181_r0 : BitVec 32 := Scalar.extui v180_r0
  let c0_i32_162_r0 : BitVec 32 := 0#32
  let v182_r0 : BitVec 1 := Scalar.cmpi .ne v181_r0 c0_i32_162_r0
  v182_r0

def k0_off25 (arg10_r0 : BitVec 32) : Fin 3 → Nat :=
  let c3_i32_224_r0 : BitVec 32 := 3#32
  let v319_r0 : BitVec 32 := Scalar.remui arg10_r0 c3_i32_224_r0
  let c0_i32_225_r0 : BitVec 32 := 0#32
  let c0_i32_226_r0 : BitVec 32 := 0#32
  ![v319_r0.toNat, 0, 0]
def k0_off26 (arg17_r0 : BitVec 32) : Fin 2 → Nat :=
  let c256_i32_223_r0 : BitVec 32 := 256#32
  let c0_i32_107_r0 : BitVec 32 := 0#32
  let v104_r0 : BitVec 32 := Scalar.addi arg17_r0 c0_i32_107_r0
  let c0_i32_222_r0 : BitVec 32 := 0#32
  let v317_r0 : BitVec 32 := Scalar.addi v104_r0 c0_i32_222_r0
  let v318_r0 : BitVec 32 := Scalar.muli c256_i32_223_r0 v317_r0
  let c0_i32_227_r0 : BitVec 32 := 0#32
  ![v318_r0.toNat, 0]
def k0_off27 (arg12_r0 : BitVec 32) : Fin 1 → Nat :=
  let c3_i32_224_r0 : BitVec 32 := 3#32
  let v319_r0 : BitVec 32 := Scalar.remui arg12_r0 c3_i32_224_r0
  ![v319_r0.toNat]
def k0_cond9 (k0_t1 : Fin k0_t1_loop.trips) (arg17_r0 : BitVec 32) : BitVec 1 :=
  let c0_i32_107_r0 : BitVec 32 := 0#32
  let v104_r0 : BitVec 32 := Scalar.addi arg17_r0 c0_i32_107_r0
  let c0_i32_163_r0 : BitVec 32 := 0#32
  let v183_r0 : BitVec 32 := Scalar.addi v104_r0 c0_i32_163_r0
  let true_109_r0 : BitVec 1 := 1#1
  let c1_i32_108_r0 : BitVec 32 := 1#32
  let v105_r0 : BitVec 32 := Scalar.subi arg17_r0 c1_i32_108_r0
  let v106_r0 : BitVec 32 := Scalar.select true_109_r0 v105_r0 arg17_r0
  let c_m1_i32_110_r0 : BitVec 32 := 4294967295#32
  let v107_r0 : BitVec 1 := Scalar.cmpi .eq v106_r0 c_m1_i32_110_r0
  let c63_i32_111_r0 : BitVec 32 := 63#32
  let v108_r0 : BitVec 32 := Scalar.select v107_r0 c63_i32_111_r0 v106_r0
  let c0_i32_112_r0 : BitVec 32 := 0#32
  let v109_r0 : BitVec 32 := Scalar.addi v108_r0 c0_i32_112_r0
  let c0_i32_164_r0 : BitVec 32 := 0#32
  let v184_r0 : BitVec 32 := Scalar.addi v109_r0 c0_i32_164_r0
  let v185_r0 : BitVec 1 := Scalar.cmpi .ne v183_r0 v184_r0
  let c0_i32_72_r0 : BitVec 32 := 0#32
  let c1_i32_74_r0 : BitVec 32 := 1#32
  let arg6_r0 : BitVec 32 := Scf.iv c0_i32_72_r0 c1_i32_74_r0 k0_t1
  let c0_i32_105_r0 : BitVec 32 := 0#32
  let v102_r0 : BitVec 1 := Scalar.cmpi .eq arg6_r0 c0_i32_105_r0
  let v186_r0 : BitVec 1 := Scalar.ori v185_r0 v102_r0
  let c0_i32_165_r0 : BitVec 32 := 0#32
  let v187_r0 : BitVec 1 := Scalar.cmpi .sge arg6_r0 c0_i32_165_r0
  let v188_r0 : BitVec 1 := Scalar.andi v186_r0 v187_r0
  let v189_r0 : BitVec 32 := Scalar.extui v188_r0
  let c0_i32_166_r0 : BitVec 32 := 0#32
  let v190_r0 : BitVec 1 := Scalar.cmpi .ne v189_r0 c0_i32_166_r0
  v190_r0

def k0_off28 (arg12_r0 : BitVec 32) : Fin 3 → Nat :=
  let c3_i32_224_r0 : BitVec 32 := 3#32
  let v319_r0 : BitVec 32 := Scalar.remui arg12_r0 c3_i32_224_r0
  let c0_i32_225_r0 : BitVec 32 := 0#32
  let c0_i32_226_r0 : BitVec 32 := 0#32
  ![v319_r0.toNat, 0, 0]
def k0_off29 (arg17_r0 : BitVec 32) : Fin 2 → Nat :=
  let c256_i32_223_r0 : BitVec 32 := 256#32
  let c0_i32_107_r0 : BitVec 32 := 0#32
  let v104_r0 : BitVec 32 := Scalar.addi arg17_r0 c0_i32_107_r0
  let c0_i32_222_r0 : BitVec 32 := 0#32
  let v317_r0 : BitVec 32 := Scalar.addi v104_r0 c0_i32_222_r0
  let v318_r0 : BitVec 32 := Scalar.muli c256_i32_223_r0 v317_r0
  let c0_i32_227_r0 : BitVec 32 := 0#32
  ![v318_r0.toNat, 0]
def k0_off30 (arg8_r0 : BitVec 32) : Fin 3 → Nat :=
  let c3_i32_170_r0 : BitVec 32 := 3#32
  let v198_r0 : BitVec 32 := Scalar.remui arg8_r0 c3_i32_170_r0
  let v202_r0 : Index := Scalar.indexCast v198_r0
  let c0_r0 : Index := 0#32
  let c0_174_r0 : Index := 0#32
  ![v202_r0.toNat, 0, 0]

def k0_chk2 (arg8_r0 : BitVec 32) : Prop :=
  (∀ a, (k0_off30 arg8_r0) a + S1x256x4096.size a ≤ S3x256x4096.size a)
theorem k0_off30_inb : ∀ (arg8_r0 : BitVec 32) (k0_hw2 : k0_chk2 arg8_r0), ∀ a, (k0_off30 arg8_r0) a + S1x256x4096.size a ≤ S3x256x4096.size a := fun arg8_r0 k0_hw2 => k0_hw2

def k0_off31 (arg10_r0 : BitVec 32) : Fin 3 → Nat :=
  let c3_i32_171_r0 : BitVec 32 := 3#32
  let v199_r0 : BitVec 32 := Scalar.remui arg10_r0 c3_i32_171_r0
  let v205_r0 : Index := Scalar.indexCast v199_r0
  let c0_175_r0 : Index := 0#32
  let c0_176_r0 : Index := 0#32
  ![v205_r0.toNat, 0, 0]

def k0_chk3 (arg10_r0 : BitVec 32) : Prop :=
  (∀ a, (k0_off31 arg10_r0) a + S1x256x4096.size a ≤ S3x256x4096.size a)
theorem k0_off31_inb : ∀ (arg10_r0 : BitVec 32) (k0_hw3 : k0_chk3 arg10_r0), ∀ a, (k0_off31 arg10_r0) a + S1x256x4096.size a ≤ S3x256x4096.size a := fun arg10_r0 k0_hw3 => k0_hw3

def k0_off32 (arg12_r0 : BitVec 32) : Fin 3 → Nat :=
  let c3_i32_172_r0 : BitVec 32 := 3#32
  let v200_r0 : BitVec 32 := Scalar.remui arg12_r0 c3_i32_172_r0
  let v224_r0 : Index := Scalar.indexCast v200_r0
  let c0_181_r0 : Index := 0#32
  let c0_182_r0 : Index := 0#32
  ![v224_r0.toNat, 0, 0]

def k0_chk4 (arg12_r0 : BitVec 32) : Prop :=
  (∀ a, (k0_off32 arg12_r0) a + S1x256x4096.size a ≤ S3x256x4096.size a)
theorem k0_off32_inb : ∀ (arg12_r0 : BitVec 32) (k0_hw4 : k0_chk4 arg12_r0), ∀ a, (k0_off32 arg12_r0) a + S1x256x4096.size a ≤ S3x256x4096.size a := fun arg12_r0 k0_hw4 => k0_hw4

def k0_off33 (arg15_r0 : BitVec 32) : Fin 3 → Nat :=
  let c2_i32_173_r0 : BitVec 32 := 2#32
  let v201_r0 : BitVec 32 := Scalar.remui arg15_r0 c2_i32_173_r0
  let v243_r0 : Index := Scalar.indexCast v201_r0
  let c0_188_r0 : Index := 0#32
  let c0_189_r0 : Index := 0#32
  ![v243_r0.toNat, 0, 0]

def k0_chk5 (arg15_r0 : BitVec 32) : Prop :=
  (∀ a, (k0_off33 arg15_r0) a + S1x256x4096.size a ≤ S2x256x4096.size a)
theorem k0_off33_inb : ∀ (arg15_r0 : BitVec 32) (k0_hw5 : k0_chk5 arg15_r0), ∀ a, (k0_off33 arg15_r0) a + S1x256x4096.size a ≤ S2x256x4096.size a := fun arg15_r0 k0_hw5 => k0_hw5

def k0_off34 (arg15_r0 : BitVec 32) : Fin 1 → Nat :=
  let c2_i32_222_r0 : BitVec 32 := 2#32
  let v317_r0 : BitVec 32 := Scalar.remui arg15_r0 c2_i32_222_r0
  ![v317_r0.toNat]
def k0_cond14 (k0_t1 : Fin k0_t1_loop.trips) (arg17_r0 : BitVec 32) : BitVec 1 :=
  let c0_i32_107_r0 : BitVec 32 := 0#32
  let v104_r0 : BitVec 32 := Scalar.addi arg17_r0 c0_i32_107_r0
  let c0_i32_151_r0 : BitVec 32 := 0#32
  let v161_r0 : BitVec 32 := Scalar.addi v104_r0 c0_i32_151_r0
  let true_114_r0 : BitVec 1 := 1#1
  let c1_i32_113_r0 : BitVec 32 := 1#32
  let v110_r0 : BitVec 32 := Scalar.addi arg17_r0 c1_i32_113_r0
  let v111_r0 : BitVec 32 := Scalar.select true_114_r0 v110_r0 arg17_r0
  let c64_i32_115_r0 : BitVec 32 := 64#32
  let v112_r0 : BitVec 1 := Scalar.cmpi .eq v111_r0 c64_i32_115_r0
  let c0_i32_116_r0 : BitVec 32 := 0#32
  let v113_r0 : BitVec 32 := Scalar.select v112_r0 c0_i32_116_r0 v111_r0
  let c0_i32_117_r0 : BitVec 32 := 0#32
  let v114_r0 : BitVec 32 := Scalar.addi v113_r0 c0_i32_117_r0
  let c0_i32_152_r0 : BitVec 32 := 0#32
  let v162_r0 : BitVec 32 := Scalar.addi v114_r0 c0_i32_152_r0
  let v262_r0 : BitVec 1 := Scalar.cmpi .ne v161_r0 v162_r0
  let c0_i32_72_r0 : BitVec 32 := 0#32
  let c1_i32_74_r0 : BitVec 32 := 1#32
  let arg6_r0 : BitVec 32 := Scf.iv c0_i32_72_r0 c1_i32_74_r0 k0_t1
  let c63_i32_106_r0 : BitVec 32 := 63#32
  let v103_r0 : BitVec 1 := Scalar.cmpi .eq arg6_r0 c63_i32_106_r0
  let v263_r0 : BitVec 1 := Scalar.ori v262_r0 v103_r0
  let v264_r0 : BitVec 32 := Scalar.extui v263_r0
  let c0_i32_195_r0 : BitVec 32 := 0#32
  let v265_r0 : BitVec 1 := Scalar.cmpi .ne v264_r0 c0_i32_195_r0
  v265_r0

def k0_off35 (arg17_r0 : BitVec 32) : Fin 2 → Nat :=
  let c256_i32_224_r0 : BitVec 32 := 256#32
  let c0_i32_107_r0 : BitVec 32 := 0#32
  let v104_r0 : BitVec 32 := Scalar.addi arg17_r0 c0_i32_107_r0
  let c0_i32_223_r0 : BitVec 32 := 0#32
  let v318_r0 : BitVec 32 := Scalar.addi v104_r0 c0_i32_223_r0
  let v319_r0 : BitVec 32 := Scalar.muli c256_i32_224_r0 v318_r0
  let c0_i32_225_r0 : BitVec 32 := 0#32
  ![v319_r0.toNat, 0]
def k0_off36 (arg15_r0 : BitVec 32) : Fin 3 → Nat :=
  let c2_i32_222_r0 : BitVec 32 := 2#32
  let v317_r0 : BitVec 32 := Scalar.remui arg15_r0 c2_i32_222_r0
  let c0_i32_226_r0 : BitVec 32 := 0#32
  let c0_i32_227_r0 : BitVec 32 := 0#32
  ![v317_r0.toNat, 0, 0]
def k0_off37 (arg16_r0 : BitVec 32) : Fin 1 → Nat :=
  let c2_i32_222_r0 : BitVec 32 := 2#32
  let v317_r0 : BitVec 32 := Scalar.remui arg16_r0 c2_i32_222_r0
  ![v317_r0.toNat]
def k0_cond18 (k0_t1 : Fin k0_t1_loop.trips) (arg17_r0 : BitVec 32) : BitVec 1 :=
  let c0_i32_107_r0 : BitVec 32 := 0#32
  let v104_r0 : BitVec 32 := Scalar.addi arg17_r0 c0_i32_107_r0
  let c0_i32_151_r0 : BitVec 32 := 0#32
  let v161_r0 : BitVec 32 := Scalar.addi v104_r0 c0_i32_151_r0
  let true_109_r0 : BitVec 1 := 1#1
  let c1_i32_108_r0 : BitVec 32 := 1#32
  let v105_r0 : BitVec 32 := Scalar.subi arg17_r0 c1_i32_108_r0
  let v106_r0 : BitVec 32 := Scalar.select true_109_r0 v105_r0 arg17_r0
  let c_m1_i32_110_r0 : BitVec 32 := 4294967295#32
  let v107_r0 : BitVec 1 := Scalar.cmpi .eq v106_r0 c_m1_i32_110_r0
  let c63_i32_111_r0 : BitVec 32 := 63#32
  let v108_r0 : BitVec 32 := Scalar.select v107_r0 c63_i32_111_r0 v106_r0
  let c0_i32_112_r0 : BitVec 32 := 0#32
  let v109_r0 : BitVec 32 := Scalar.addi v108_r0 c0_i32_112_r0
  let c0_i32_167_r0 : BitVec 32 := 0#32
  let v191_r0 : BitVec 32 := Scalar.addi v109_r0 c0_i32_167_r0
  let v287_r0 : BitVec 1 := Scalar.cmpi .ne v161_r0 v191_r0
  let c0_i32_72_r0 : BitVec 32 := 0#32
  let c1_i32_74_r0 : BitVec 32 := 1#32
  let arg6_r0 : BitVec 32 := Scf.iv c0_i32_72_r0 c1_i32_74_r0 k0_t1
  let c0_i32_105_r0 : BitVec 32 := 0#32
  let v102_r0 : BitVec 1 := Scalar.cmpi .eq arg6_r0 c0_i32_105_r0
  let true_207_r0 : BitVec 1 := 1#1
  let v288_r0 : BitVec 1 := Scalar.xori v102_r0 true_207_r0
  let v289_r0 : BitVec 1 := Scalar.andi v287_r0 v288_r0
  let v290_r0 : BitVec 32 := Scalar.extui v289_r0
  let c0_i32_208_r0 : BitVec 32 := 0#32
  let v291_r0 : BitVec 1 := Scalar.cmpi .ne v290_r0 c0_i32_208_r0
  v291_r0

def k0_off38 (arg17_r0 : BitVec 32) : Fin 2 → Nat :=
  let c256_i32_224_r0 : BitVec 32 := 256#32
  let true_109_r0 : BitVec 1 := 1#1
  let c1_i32_108_r0 : BitVec 32 := 1#32
  let v105_r0 : BitVec 32 := Scalar.subi arg17_r0 c1_i32_108_r0
  let v106_r0 : BitVec 32 := Scalar.select true_109_r0 v105_r0 arg17_r0
  let c_m1_i32_110_r0 : BitVec 32 := 4294967295#32
  let v107_r0 : BitVec 1 := Scalar.cmpi .eq v106_r0 c_m1_i32_110_r0
  let c63_i32_111_r0 : BitVec 32 := 63#32
  let v108_r0 : BitVec 32 := Scalar.select v107_r0 c63_i32_111_r0 v106_r0
  let c0_i32_112_r0 : BitVec 32 := 0#32
  let v109_r0 : BitVec 32 := Scalar.addi v108_r0 c0_i32_112_r0
  let c0_i32_223_r0 : BitVec 32 := 0#32
  let v318_r0 : BitVec 32 := Scalar.addi v109_r0 c0_i32_223_r0
  let v319_r0 : BitVec 32 := Scalar.muli c256_i32_224_r0 v318_r0
  let c0_i32_225_r0 : BitVec 32 := 0#32
  ![v319_r0.toNat, 0]
def k0_off39 (arg16_r0 : BitVec 32) : Fin 3 → Nat :=
  let c2_i32_222_r0 : BitVec 32 := 2#32
  let v317_r0 : BitVec 32 := Scalar.remui arg16_r0 c2_i32_222_r0
  let c0_i32_226_r0 : BitVec 32 := 0#32
  let c0_i32_227_r0 : BitVec 32 := 0#32
  ![v317_r0.toNat, 0, 0]

def k0_chk1 (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) : Prop :=
  (∀ (k0_h4 : k0_cond4 k0_t1 arg17_r0 = 1#1), ∀ a, (k0_off12 arg7_r0) a + S1.size a ≤ S3.size a) ∧
  (∀ (k0_h4 : k0_cond4 k0_t1 arg17_r0 = 1#1), ∀ a, (k0_off13 arg7_r0) a + S1x256x4096.size a ≤ S3x256x4096.size a) ∧
  (∀ (k0_h4 : k0_cond4 k0_t1 arg17_r0 = 1#1), ∀ a, (k0_off14 arg17_r0) a + S256x4096.size a ≤ S16384x4096.size a) ∧
  (∀ (k0_h5 : k0_cond5 k0_t1 arg17_r0 = 1#1), ∀ a, (k0_off15 arg9_r0) a + S1.size a ≤ S3.size a) ∧
  (∀ (k0_h5 : k0_cond5 k0_t1 arg17_r0 = 1#1), ∀ a, (k0_off16 arg9_r0) a + S1x256x4096.size a ≤ S3x256x4096.size a) ∧
  (∀ (k0_h5 : k0_cond5 k0_t1 arg17_r0 = 1#1), ∀ a, (k0_off17 arg17_r0) a + S256x4096.size a ≤ S24576x4096.size a) ∧
  (∀ (k0_h5 : k0_cond5 k0_t1 arg17_r0 = 1#1), ∀ (hinb : ∀ a, (k0_off17 arg17_r0) a + S256x4096.size a ≤ S24576x4096.size a), (Rect.unit (s := S24576x4096) (k0_off17 arg17_r0) S256x4096.size hinb).WholeWords (EltTy.packing .bf16)) ∧
  (∀ (k0_h5 : k0_cond5 k0_t1 arg17_r0 = 1#1), ∀ (hinb : ∀ a, (k0_off16 arg9_r0) a + S1x256x4096.size a ≤ S3x256x4096.size a), (Rect.unit (s := S3x256x4096) (k0_off16 arg9_r0) S1x256x4096.size hinb).WholeWords (EltTy.packing .bf16)) ∧
  (∀ (k0_h6 : k0_cond6 k0_t1 arg17_r0 = 1#1), ∀ a, (k0_off18 arg11_r0) a + S1.size a ≤ S3.size a) ∧
  (∀ (k0_h6 : k0_cond6 k0_t1 arg17_r0 = 1#1), ∀ a, (k0_off19 arg11_r0) a + S1x256x4096.size a ≤ S3x256x4096.size a) ∧
  (∀ (k0_h6 : k0_cond6 k0_t1 arg17_r0 = 1#1), ∀ a, (k0_off20 arg17_r0) a + S256x4096.size a ≤ S24576x4096.size a) ∧
  (∀ (k0_h6 : k0_cond6 k0_t1 arg17_r0 = 1#1), ∀ (hinb : ∀ a, (k0_off20 arg17_r0) a + S256x4096.size a ≤ S24576x4096.size a), (Rect.unit (s := S24576x4096) (k0_off20 arg17_r0) S256x4096.size hinb).WholeWords (EltTy.packing .bf16)) ∧
  (∀ (k0_h6 : k0_cond6 k0_t1 arg17_r0 = 1#1), ∀ (hinb : ∀ a, (k0_off19 arg11_r0) a + S1x256x4096.size a ≤ S3x256x4096.size a), (Rect.unit (s := S3x256x4096) (k0_off19 arg11_r0) S1x256x4096.size hinb).WholeWords (EltTy.packing .bf16)) ∧
  (∀ (k0_h7 : k0_cond7 k0_t1 arg17_r0 = 1#1), ∀ a, (k0_off21 arg8_r0) a + S1.size a ≤ S3.size a) ∧
  (∀ (k0_h7 : k0_cond7 k0_t1 arg17_r0 = 1#1), ∀ a, (k0_off22 arg8_r0) a + S1x256x4096.size a ≤ S3x256x4096.size a) ∧
  (∀ (k0_h7 : k0_cond7 k0_t1 arg17_r0 = 1#1), ∀ a, (k0_off23 arg17_r0) a + S256x4096.size a ≤ S16384x4096.size a) ∧
  (∀ (k0_h8 : k0_cond8 k0_t1 arg17_r0 = 1#1), ∀ a, (k0_off24 arg10_r0) a + S1.size a ≤ S3.size a) ∧
  (∀ (k0_h8 : k0_cond8 k0_t1 arg17_r0 = 1#1), ∀ a, (k0_off25 arg10_r0) a + S1x256x4096.size a ≤ S3x256x4096.size a) ∧
  (∀ (k0_h8 : k0_cond8 k0_t1 arg17_r0 = 1#1), ∀ a, (k0_off26 arg17_r0) a + S256x4096.size a ≤ S24576x4096.size a) ∧
  (∀ (k0_h8 : k0_cond8 k0_t1 arg17_r0 = 1#1), ∀ (hinb : ∀ a, (k0_off26 arg17_r0) a + S256x4096.size a ≤ S24576x4096.size a), (Rect.unit (s := S24576x4096) (k0_off26 arg17_r0) S256x4096.size hinb).WholeWords (EltTy.packing .bf16)) ∧
  (∀ (k0_h8 : k0_cond8 k0_t1 arg17_r0 = 1#1), ∀ (hinb : ∀ a, (k0_off25 arg10_r0) a + S1x256x4096.size a ≤ S3x256x4096.size a), (Rect.unit (s := S3x256x4096) (k0_off25 arg10_r0) S1x256x4096.size hinb).WholeWords (EltTy.packing .bf16)) ∧
  (∀ (k0_h9 : k0_cond9 k0_t1 arg17_r0 = 1#1), ∀ a, (k0_off27 arg12_r0) a + S1.size a ≤ S3.size a) ∧
  (∀ (k0_h9 : k0_cond9 k0_t1 arg17_r0 = 1#1), ∀ a, (k0_off28 arg12_r0) a + S1x256x4096.size a ≤ S3x256x4096.size a) ∧
  (∀ (k0_h9 : k0_cond9 k0_t1 arg17_r0 = 1#1), ∀ a, (k0_off29 arg17_r0) a + S256x4096.size a ≤ S24576x4096.size a) ∧
  (∀ (k0_h9 : k0_cond9 k0_t1 arg17_r0 = 1#1), ∀ (hinb : ∀ a, (k0_off29 arg17_r0) a + S256x4096.size a ≤ S24576x4096.size a), (Rect.unit (s := S24576x4096) (k0_off29 arg17_r0) S256x4096.size hinb).WholeWords (EltTy.packing .bf16)) ∧
  (∀ (k0_h9 : k0_cond9 k0_t1 arg17_r0 = 1#1), ∀ (hinb : ∀ a, (k0_off28 arg12_r0) a + S1x256x4096.size a ≤ S3x256x4096.size a), (Rect.unit (s := S3x256x4096) (k0_off28 arg12_r0) S1x256x4096.size hinb).WholeWords (EltTy.packing .bf16)) ∧
  (∀ (k0_h14 : k0_cond14 k0_t1 arg17_r0 = 1#1), ∀ a, (k0_off34 arg15_r0) a + S1.size a ≤ S2.size a) ∧
  (∀ (k0_h14 : k0_cond14 k0_t1 arg17_r0 = 1#1), ∀ a, (k0_off35 arg17_r0) a + S256x4096.size a ≤ S16384x4096.size a) ∧
  (∀ (k0_h14 : k0_cond14 k0_t1 arg17_r0 = 1#1), ∀ a, (k0_off36 arg15_r0) a + S1x256x4096.size a ≤ S2x256x4096.size a) ∧
  (∀ (k0_h18 : k0_cond18 k0_t1 arg17_r0 = 1#1), ∀ a, (k0_off37 arg16_r0) a + S1.size a ≤ S2.size a) ∧
  (∀ (k0_h18 : k0_cond18 k0_t1 arg17_r0 = 1#1), ∀ a, (k0_off38 arg17_r0) a + S256x4096.size a ≤ S16384x4096.size a) ∧
  (∀ (k0_h18 : k0_cond18 k0_t1 arg17_r0 = 1#1), ∀ a, (k0_off39 arg16_r0) a + S1x256x4096.size a ≤ S2x256x4096.size a)
theorem k0_off12_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h4 : k0_cond4 k0_t1 arg17_r0 = 1#1), ∀ a, (k0_off12 arg7_r0) a + S1.size a ≤ S3.size a := fun k0_t1 arg7_r0 arg8_r0 arg9_r0 arg10_r0 arg11_r0 arg12_r0 arg15_r0 arg16_r0 arg17_r0 k0_hw1 k0_h4 => k0_hw1.1 k0_h4
theorem k0_off13_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h4 : k0_cond4 k0_t1 arg17_r0 = 1#1), ∀ a, (k0_off13 arg7_r0) a + S1x256x4096.size a ≤ S3x256x4096.size a := fun k0_t1 arg7_r0 arg8_r0 arg9_r0 arg10_r0 arg11_r0 arg12_r0 arg15_r0 arg16_r0 arg17_r0 k0_hw1 k0_h4 => k0_hw1.2.1 k0_h4
theorem k0_off14_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h4 : k0_cond4 k0_t1 arg17_r0 = 1#1), ∀ a, (k0_off14 arg17_r0) a + S256x4096.size a ≤ S16384x4096.size a := fun k0_t1 arg7_r0 arg8_r0 arg9_r0 arg10_r0 arg11_r0 arg12_r0 arg15_r0 arg16_r0 arg17_r0 k0_hw1 k0_h4 => k0_hw1.2.2.1 k0_h4
theorem k0_off15_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h5 : k0_cond5 k0_t1 arg17_r0 = 1#1), ∀ a, (k0_off15 arg9_r0) a + S1.size a ≤ S3.size a := fun k0_t1 arg7_r0 arg8_r0 arg9_r0 arg10_r0 arg11_r0 arg12_r0 arg15_r0 arg16_r0 arg17_r0 k0_hw1 k0_h5 => k0_hw1.2.2.2.1 k0_h5
theorem k0_off16_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h5 : k0_cond5 k0_t1 arg17_r0 = 1#1), ∀ a, (k0_off16 arg9_r0) a + S1x256x4096.size a ≤ S3x256x4096.size a := fun k0_t1 arg7_r0 arg8_r0 arg9_r0 arg10_r0 arg11_r0 arg12_r0 arg15_r0 arg16_r0 arg17_r0 k0_hw1 k0_h5 => k0_hw1.2.2.2.2.1 k0_h5
theorem k0_off17_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h5 : k0_cond5 k0_t1 arg17_r0 = 1#1), ∀ a, (k0_off17 arg17_r0) a + S256x4096.size a ≤ S24576x4096.size a := fun k0_t1 arg7_r0 arg8_r0 arg9_r0 arg10_r0 arg11_r0 arg12_r0 arg15_r0 arg16_r0 arg17_r0 k0_hw1 k0_h5 => k0_hw1.2.2.2.2.2.1 k0_h5
theorem k0_off17_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h5 : k0_cond5 k0_t1 arg17_r0 = 1#1), (Rect.unit (s := S24576x4096) (k0_off17 arg17_r0) S256x4096.size (k0_off17_inb k0_t1 arg7_r0 arg8_r0 arg9_r0 arg10_r0 arg11_r0 arg12_r0 arg15_r0 arg16_r0 arg17_r0 k0_hw1 k0_h5)).WholeWords (EltTy.packing .bf16) := fun k0_t1 arg7_r0 arg8_r0 arg9_r0 arg10_r0 arg11_r0 arg12_r0 arg15_r0 arg16_r0 arg17_r0 k0_hw1 k0_h5 => k0_hw1.2.2.2.2.2.2.1 k0_h5 (k0_off17_inb k0_t1 arg7_r0 arg8_r0 arg9_r0 arg10_r0 arg11_r0 arg12_r0 arg15_r0 arg16_r0 arg17_r0 k0_hw1 k0_h5)
theorem k0_off16_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h5 : k0_cond5 k0_t1 arg17_r0 = 1#1), (Rect.unit (s := S3x256x4096) (k0_off16 arg9_r0) S1x256x4096.size (k0_off16_inb k0_t1 arg7_r0 arg8_r0 arg9_r0 arg10_r0 arg11_r0 arg12_r0 arg15_r0 arg16_r0 arg17_r0 k0_hw1 k0_h5)).WholeWords (EltTy.packing .bf16) := fun k0_t1 arg7_r0 arg8_r0 arg9_r0 arg10_r0 arg11_r0 arg12_r0 arg15_r0 arg16_r0 arg17_r0 k0_hw1 k0_h5 => k0_hw1.2.2.2.2.2.2.2.1 k0_h5 (k0_off16_inb k0_t1 arg7_r0 arg8_r0 arg9_r0 arg10_r0 arg11_r0 arg12_r0 arg15_r0 arg16_r0 arg17_r0 k0_hw1 k0_h5)
theorem k0_off18_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h6 : k0_cond6 k0_t1 arg17_r0 = 1#1), ∀ a, (k0_off18 arg11_r0) a + S1.size a ≤ S3.size a := fun k0_t1 arg7_r0 arg8_r0 arg9_r0 arg10_r0 arg11_r0 arg12_r0 arg15_r0 arg16_r0 arg17_r0 k0_hw1 k0_h6 => k0_hw1.2.2.2.2.2.2.2.2.1 k0_h6
theorem k0_off19_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h6 : k0_cond6 k0_t1 arg17_r0 = 1#1), ∀ a, (k0_off19 arg11_r0) a + S1x256x4096.size a ≤ S3x256x4096.size a := fun k0_t1 arg7_r0 arg8_r0 arg9_r0 arg10_r0 arg11_r0 arg12_r0 arg15_r0 arg16_r0 arg17_r0 k0_hw1 k0_h6 => k0_hw1.2.2.2.2.2.2.2.2.2.1 k0_h6
theorem k0_off20_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h6 : k0_cond6 k0_t1 arg17_r0 = 1#1), ∀ a, (k0_off20 arg17_r0) a + S256x4096.size a ≤ S24576x4096.size a := fun k0_t1 arg7_r0 arg8_r0 arg9_r0 arg10_r0 arg11_r0 arg12_r0 arg15_r0 arg16_r0 arg17_r0 k0_hw1 k0_h6 => k0_hw1.2.2.2.2.2.2.2.2.2.2.1 k0_h6
theorem k0_off20_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h6 : k0_cond6 k0_t1 arg17_r0 = 1#1), (Rect.unit (s := S24576x4096) (k0_off20 arg17_r0) S256x4096.size (k0_off20_inb k0_t1 arg7_r0 arg8_r0 arg9_r0 arg10_r0 arg11_r0 arg12_r0 arg15_r0 arg16_r0 arg17_r0 k0_hw1 k0_h6)).WholeWords (EltTy.packing .bf16) := fun k0_t1 arg7_r0 arg8_r0 arg9_r0 arg10_r0 arg11_r0 arg12_r0 arg15_r0 arg16_r0 arg17_r0 k0_hw1 k0_h6 => k0_hw1.2.2.2.2.2.2.2.2.2.2.2.1 k0_h6 (k0_off20_inb k0_t1 arg7_r0 arg8_r0 arg9_r0 arg10_r0 arg11_r0 arg12_r0 arg15_r0 arg16_r0 arg17_r0 k0_hw1 k0_h6)
theorem k0_off19_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h6 : k0_cond6 k0_t1 arg17_r0 = 1#1), (Rect.unit (s := S3x256x4096) (k0_off19 arg11_r0) S1x256x4096.size (k0_off19_inb k0_t1 arg7_r0 arg8_r0 arg9_r0 arg10_r0 arg11_r0 arg12_r0 arg15_r0 arg16_r0 arg17_r0 k0_hw1 k0_h6)).WholeWords (EltTy.packing .bf16) := fun k0_t1 arg7_r0 arg8_r0 arg9_r0 arg10_r0 arg11_r0 arg12_r0 arg15_r0 arg16_r0 arg17_r0 k0_hw1 k0_h6 => k0_hw1.2.2.2.2.2.2.2.2.2.2.2.2.1 k0_h6 (k0_off19_inb k0_t1 arg7_r0 arg8_r0 arg9_r0 arg10_r0 arg11_r0 arg12_r0 arg15_r0 arg16_r0 arg17_r0 k0_hw1 k0_h6)
theorem k0_off21_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h7 : k0_cond7 k0_t1 arg17_r0 = 1#1), ∀ a, (k0_off21 arg8_r0) a + S1.size a ≤ S3.size a := fun k0_t1 arg7_r0 arg8_r0 arg9_r0 arg10_r0 arg11_r0 arg12_r0 arg15_r0 arg16_r0 arg17_r0 k0_hw1 k0_h7 => k0_hw1.2.2.2.2.2.2.2.2.2.2.2.2.2.1 k0_h7
theorem k0_off22_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h7 : k0_cond7 k0_t1 arg17_r0 = 1#1), ∀ a, (k0_off22 arg8_r0) a + S1x256x4096.size a ≤ S3x256x4096.size a := fun k0_t1 arg7_r0 arg8_r0 arg9_r0 arg10_r0 arg11_r0 arg12_r0 arg15_r0 arg16_r0 arg17_r0 k0_hw1 k0_h7 => k0_hw1.2.2.2.2.2.2.2.2.2.2.2.2.2.2.1 k0_h7
theorem k0_off23_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h7 : k0_cond7 k0_t1 arg17_r0 = 1#1), ∀ a, (k0_off23 arg17_r0) a + S256x4096.size a ≤ S16384x4096.size a := fun k0_t1 arg7_r0 arg8_r0 arg9_r0 arg10_r0 arg11_r0 arg12_r0 arg15_r0 arg16_r0 arg17_r0 k0_hw1 k0_h7 => k0_hw1.2.2.2.2.2.2.2.2.2.2.2.2.2.2.2.1 k0_h7
theorem k0_off24_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h8 : k0_cond8 k0_t1 arg17_r0 = 1#1), ∀ a, (k0_off24 arg10_r0) a + S1.size a ≤ S3.size a := fun k0_t1 arg7_r0 arg8_r0 arg9_r0 arg10_r0 arg11_r0 arg12_r0 arg15_r0 arg16_r0 arg17_r0 k0_hw1 k0_h8 => k0_hw1.2.2.2.2.2.2.2.2.2.2.2.2.2.2.2.2.1 k0_h8
theorem k0_off25_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h8 : k0_cond8 k0_t1 arg17_r0 = 1#1), ∀ a, (k0_off25 arg10_r0) a + S1x256x4096.size a ≤ S3x256x4096.size a := fun k0_t1 arg7_r0 arg8_r0 arg9_r0 arg10_r0 arg11_r0 arg12_r0 arg15_r0 arg16_r0 arg17_r0 k0_hw1 k0_h8 => k0_hw1.2.2.2.2.2.2.2.2.2.2.2.2.2.2.2.2.2.1 k0_h8
theorem k0_off26_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h8 : k0_cond8 k0_t1 arg17_r0 = 1#1), ∀ a, (k0_off26 arg17_r0) a + S256x4096.size a ≤ S24576x4096.size a := fun k0_t1 arg7_r0 arg8_r0 arg9_r0 arg10_r0 arg11_r0 arg12_r0 arg15_r0 arg16_r0 arg17_r0 k0_hw1 k0_h8 => k0_hw1.2.2.2.2.2.2.2.2.2.2.2.2.2.2.2.2.2.2.1 k0_h8
theorem k0_off26_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h8 : k0_cond8 k0_t1 arg17_r0 = 1#1), (Rect.unit (s := S24576x4096) (k0_off26 arg17_r0) S256x4096.size (k0_off26_inb k0_t1 arg7_r0 arg8_r0 arg9_r0 arg10_r0 arg11_r0 arg12_r0 arg15_r0 arg16_r0 arg17_r0 k0_hw1 k0_h8)).WholeWords (EltTy.packing .bf16) := fun k0_t1 arg7_r0 arg8_r0 arg9_r0 arg10_r0 arg11_r0 arg12_r0 arg15_r0 arg16_r0 arg17_r0 k0_hw1 k0_h8 => k0_hw1.2.2.2.2.2.2.2.2.2.2.2.2.2.2.2.2.2.2.2.1 k0_h8 (k0_off26_inb k0_t1 arg7_r0 arg8_r0 arg9_r0 arg10_r0 arg11_r0 arg12_r0 arg15_r0 arg16_r0 arg17_r0 k0_hw1 k0_h8)
theorem k0_off25_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h8 : k0_cond8 k0_t1 arg17_r0 = 1#1), (Rect.unit (s := S3x256x4096) (k0_off25 arg10_r0) S1x256x4096.size (k0_off25_inb k0_t1 arg7_r0 arg8_r0 arg9_r0 arg10_r0 arg11_r0 arg12_r0 arg15_r0 arg16_r0 arg17_r0 k0_hw1 k0_h8)).WholeWords (EltTy.packing .bf16) := fun k0_t1 arg7_r0 arg8_r0 arg9_r0 arg10_r0 arg11_r0 arg12_r0 arg15_r0 arg16_r0 arg17_r0 k0_hw1 k0_h8 => k0_hw1.2.2.2.2.2.2.2.2.2.2.2.2.2.2.2.2.2.2.2.2.1 k0_h8 (k0_off25_inb k0_t1 arg7_r0 arg8_r0 arg9_r0 arg10_r0 arg11_r0 arg12_r0 arg15_r0 arg16_r0 arg17_r0 k0_hw1 k0_h8)
theorem k0_off27_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h9 : k0_cond9 k0_t1 arg17_r0 = 1#1), ∀ a, (k0_off27 arg12_r0) a + S1.size a ≤ S3.size a := fun k0_t1 arg7_r0 arg8_r0 arg9_r0 arg10_r0 arg11_r0 arg12_r0 arg15_r0 arg16_r0 arg17_r0 k0_hw1 k0_h9 => k0_hw1.2.2.2.2.2.2.2.2.2.2.2.2.2.2.2.2.2.2.2.2.2.1 k0_h9
theorem k0_off28_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h9 : k0_cond9 k0_t1 arg17_r0 = 1#1), ∀ a, (k0_off28 arg12_r0) a + S1x256x4096.size a ≤ S3x256x4096.size a := fun k0_t1 arg7_r0 arg8_r0 arg9_r0 arg10_r0 arg11_r0 arg12_r0 arg15_r0 arg16_r0 arg17_r0 k0_hw1 k0_h9 => k0_hw1.2.2.2.2.2.2.2.2.2.2.2.2.2.2.2.2.2.2.2.2.2.2.1 k0_h9
theorem k0_off29_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h9 : k0_cond9 k0_t1 arg17_r0 = 1#1), ∀ a, (k0_off29 arg17_r0) a + S256x4096.size a ≤ S24576x4096.size a := fun k0_t1 arg7_r0 arg8_r0 arg9_r0 arg10_r0 arg11_r0 arg12_r0 arg15_r0 arg16_r0 arg17_r0 k0_hw1 k0_h9 => k0_hw1.2.2.2.2.2.2.2.2.2.2.2.2.2.2.2.2.2.2.2.2.2.2.2.1 k0_h9
theorem k0_off29_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h9 : k0_cond9 k0_t1 arg17_r0 = 1#1), (Rect.unit (s := S24576x4096) (k0_off29 arg17_r0) S256x4096.size (k0_off29_inb k0_t1 arg7_r0 arg8_r0 arg9_r0 arg10_r0 arg11_r0 arg12_r0 arg15_r0 arg16_r0 arg17_r0 k0_hw1 k0_h9)).WholeWords (EltTy.packing .bf16) := fun k0_t1 arg7_r0 arg8_r0 arg9_r0 arg10_r0 arg11_r0 arg12_r0 arg15_r0 arg16_r0 arg17_r0 k0_hw1 k0_h9 => k0_hw1.2.2.2.2.2.2.2.2.2.2.2.2.2.2.2.2.2.2.2.2.2.2.2.2.1 k0_h9 (k0_off29_inb k0_t1 arg7_r0 arg8_r0 arg9_r0 arg10_r0 arg11_r0 arg12_r0 arg15_r0 arg16_r0 arg17_r0 k0_hw1 k0_h9)
theorem k0_off28_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h9 : k0_cond9 k0_t1 arg17_r0 = 1#1), (Rect.unit (s := S3x256x4096) (k0_off28 arg12_r0) S1x256x4096.size (k0_off28_inb k0_t1 arg7_r0 arg8_r0 arg9_r0 arg10_r0 arg11_r0 arg12_r0 arg15_r0 arg16_r0 arg17_r0 k0_hw1 k0_h9)).WholeWords (EltTy.packing .bf16) := fun k0_t1 arg7_r0 arg8_r0 arg9_r0 arg10_r0 arg11_r0 arg12_r0 arg15_r0 arg16_r0 arg17_r0 k0_hw1 k0_h9 => k0_hw1.2.2.2.2.2.2.2.2.2.2.2.2.2.2.2.2.2.2.2.2.2.2.2.2.2.1 k0_h9 (k0_off28_inb k0_t1 arg7_r0 arg8_r0 arg9_r0 arg10_r0 arg11_r0 arg12_r0 arg15_r0 arg16_r0 arg17_r0 k0_hw1 k0_h9)
theorem k0_off34_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h14 : k0_cond14 k0_t1 arg17_r0 = 1#1), ∀ a, (k0_off34 arg15_r0) a + S1.size a ≤ S2.size a := fun k0_t1 arg7_r0 arg8_r0 arg9_r0 arg10_r0 arg11_r0 arg12_r0 arg15_r0 arg16_r0 arg17_r0 k0_hw1 k0_h14 => k0_hw1.2.2.2.2.2.2.2.2.2.2.2.2.2.2.2.2.2.2.2.2.2.2.2.2.2.2.1 k0_h14
theorem k0_off35_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h14 : k0_cond14 k0_t1 arg17_r0 = 1#1), ∀ a, (k0_off35 arg17_r0) a + S256x4096.size a ≤ S16384x4096.size a := fun k0_t1 arg7_r0 arg8_r0 arg9_r0 arg10_r0 arg11_r0 arg12_r0 arg15_r0 arg16_r0 arg17_r0 k0_hw1 k0_h14 => k0_hw1.2.2.2.2.2.2.2.2.2.2.2.2.2.2.2.2.2.2.2.2.2.2.2.2.2.2.2.1 k0_h14
theorem k0_off36_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h14 : k0_cond14 k0_t1 arg17_r0 = 1#1), ∀ a, (k0_off36 arg15_r0) a + S1x256x4096.size a ≤ S2x256x4096.size a := fun k0_t1 arg7_r0 arg8_r0 arg9_r0 arg10_r0 arg11_r0 arg12_r0 arg15_r0 arg16_r0 arg17_r0 k0_hw1 k0_h14 => k0_hw1.2.2.2.2.2.2.2.2.2.2.2.2.2.2.2.2.2.2.2.2.2.2.2.2.2.2.2.2.1 k0_h14
theorem k0_off37_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h18 : k0_cond18 k0_t1 arg17_r0 = 1#1), ∀ a, (k0_off37 arg16_r0) a + S1.size a ≤ S2.size a := fun k0_t1 arg7_r0 arg8_r0 arg9_r0 arg10_r0 arg11_r0 arg12_r0 arg15_r0 arg16_r0 arg17_r0 k0_hw1 k0_h18 => k0_hw1.2.2.2.2.2.2.2.2.2.2.2.2.2.2.2.2.2.2.2.2.2.2.2.2.2.2.2.2.2.1 k0_h18
theorem k0_off38_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h18 : k0_cond18 k0_t1 arg17_r0 = 1#1), ∀ a, (k0_off38 arg17_r0) a + S256x4096.size a ≤ S16384x4096.size a := fun k0_t1 arg7_r0 arg8_r0 arg9_r0 arg10_r0 arg11_r0 arg12_r0 arg15_r0 arg16_r0 arg17_r0 k0_hw1 k0_h18 => k0_hw1.2.2.2.2.2.2.2.2.2.2.2.2.2.2.2.2.2.2.2.2.2.2.2.2.2.2.2.2.2.2.1 k0_h18
theorem k0_off39_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h18 : k0_cond18 k0_t1 arg17_r0 = 1#1), ∀ a, (k0_off39 arg16_r0) a + S1x256x4096.size a ≤ S2x256x4096.size a := fun k0_t1 arg7_r0 arg8_r0 arg9_r0 arg10_r0 arg11_r0 arg12_r0 arg15_r0 arg16_r0 arg17_r0 k0_hw1 k0_h18 => k0_hw1.2.2.2.2.2.2.2.2.2.2.2.2.2.2.2.2.2.2.2.2.2.2.2.2.2.2.2.2.2.2.2 k0_h18

def k0_off40 (v68_9_r0 : BitVec 32) : Fin 1 → Nat :=
  let c2_i32_r0 : BitVec 32 := 2#32
  let v94_r0 : BitVec 32 := Scalar.remui v68_9_r0 c2_i32_r0
  ![v94_r0.toNat]

def k0_off41 (v68_10_r0 : BitVec 32) : Fin 2 → Nat :=
  let c256_i32_r0 : BitVec 32 := 256#32
  let true_77_r0 : BitVec 1 := 1#1
  let c1_i32_76_r0 : BitVec 32 := 1#32
  let v69_r0 : BitVec 32 := Scalar.subi v68_10_r0 c1_i32_76_r0
  let v70_r0 : BitVec 32 := Scalar.select true_77_r0 v69_r0 v68_10_r0
  let c_m1_i32_78_r0 : BitVec 32 := 4294967295#32
  let v71_r0 : BitVec 1 := Scalar.cmpi .eq v70_r0 c_m1_i32_78_r0
  let c63_i32_79_r0 : BitVec 32 := 63#32
  let v72_r0 : BitVec 32 := Scalar.select v71_r0 c63_i32_79_r0 v70_r0
  let c0_i32_80_r0 : BitVec 32 := 0#32
  let v73_r0 : BitVec 32 := Scalar.addi v72_r0 c0_i32_80_r0
  let c0_i32_101_r0 : BitVec 32 := 0#32
  let v95_r0 : BitVec 32 := Scalar.addi v73_r0 c0_i32_101_r0
  let v96_r0 : BitVec 32 := Scalar.muli c256_i32_r0 v95_r0
  let c0_i32_102_r0 : BitVec 32 := 0#32
  ![v96_r0.toNat, 0]

def k0_chk7 (v68_10_r0 : BitVec 32) : Prop :=
  (∀ a, (k0_off41 v68_10_r0) a + S256x4096.size a ≤ S16384x4096.size a)
theorem k0_off41_inb : ∀ (v68_10_r0 : BitVec 32) (k0_hw7 : k0_chk7 v68_10_r0), ∀ a, (k0_off41 v68_10_r0) a + S256x4096.size a ≤ S16384x4096.size a := fun v68_10_r0 k0_hw7 => k0_hw7

def k0_off42 (v68_9_r0 : BitVec 32) : Fin 3 → Nat :=
  let c2_i32_r0 : BitVec 32 := 2#32
  let v94_r0 : BitVec 32 := Scalar.remui v68_9_r0 c2_i32_r0
  let c0_i32_103_r0 : BitVec 32 := 0#32
  let c0_i32_104_r0 : BitVec 32 := 0#32
  ![v94_r0.toNat, 0, 0]

def k0_chk6 (v68_9_r0 : BitVec 32) : Prop :=
  (∀ a, (k0_off40 v68_9_r0) a + S1.size a ≤ S2.size a) ∧
  (∀ a, (k0_off42 v68_9_r0) a + S1x256x4096.size a ≤ S2x256x4096.size a)
theorem k0_off40_inb : ∀ (v68_9_r0 : BitVec 32) (k0_hw6 : k0_chk6 v68_9_r0), ∀ a, (k0_off40 v68_9_r0) a + S1.size a ≤ S2.size a := fun v68_9_r0 k0_hw6 => k0_hw6.1
theorem k0_off42_inb : ∀ (v68_9_r0 : BitVec 32) (k0_hw6 : k0_chk6 v68_9_r0), ∀ a, (k0_off42 v68_9_r0) a + S1x256x4096.size a ≤ S2x256x4096.size a := fun v68_9_r0 k0_hw6 => k0_hw6.2
-- ==== ReferenceIdeal.lean ====
abbrev S16384x4096 : Shape := ⟨2, ![16384, 4096]⟩
abbrev S24576x4096 : Shape := ⟨2, ![24576, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S24576x4096, .bf16⟩
  | .hbm, ⟨2, _⟩ => ⟨S24576x4096, .bf16⟩
  | .hbm, ⟨3, _⟩ => ⟨S1x4096, .f32⟩
  | .hbm, ⟨4, _⟩ => ⟨S1x4096, .f32⟩
  | .hbm, ⟨5, _⟩ => ⟨S16384x4096, .bf16⟩
  | .hbm, ⟨6, _⟩ => ⟨S16384x4096, .f32⟩
  | .hbm, ⟨7, _⟩ => ⟨S16384x4096, .bf16⟩
  | .hbm, ⟨8, _⟩ => ⟨S16384x4096, .f32⟩
  | .hbm, ⟨9, _⟩ => ⟨S4096, .f32⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x4096, .f32⟩
  | .hbm, ⟨22, _⟩ => ⟨S16384x4096, .f32⟩
  | .hbm, ⟨23, _⟩ => ⟨S1x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S4096, .f32⟩
  | .hbm, ⟨28, _⟩ => ⟨S16384x4096, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x4096, .f32⟩
  | .hbm, ⟨40, _⟩ => ⟨S16384x4096, .f32⟩
  | .hbm, ⟨41, _⟩ => ⟨S1x4096, .f32⟩
  | .hbm, ⟨42, _⟩ => ⟨S16384x4096, .f32⟩
  | .hbm, ⟨43, _⟩ => ⟨S16384x4096, .f32⟩
  | .hbm, ⟨44, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== GateUp.lean ====
abbrev S24576x4096 : Shape := ⟨2, ![24576, 4096]⟩
abbrev S1x4096x11008 : Shape := ⟨3, ![1, 4096, 11008]⟩
abbrev S4096x11008 : Shape := ⟨2, ![4096, 11008]⟩
abbrev S24576x10752 : Shape := ⟨2, ![24576, 10752]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S24576x4096, .bf16⟩
  | .hbm, ⟨1, _⟩ => ⟨S1x4096x11008, .f32⟩
  | .hbm, ⟨2, _⟩ => ⟨S1x4096x11008, .f32⟩
  | .hbm, ⟨3, _⟩ => ⟨S4096x11008, .f32⟩
  | .hbm, ⟨4, _⟩ => ⟨S4096x11008, .f32⟩
  | .hbm, ⟨5, _⟩ => ⟨S24576x10752, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S4096x512, .f32⟩
  | .local _ .vmem, ⟨5, _⟩ => ⟨S4096x512, .f32⟩
  | .local _ .vmem, ⟨6, _⟩ => ⟨S1024x512, .bf16⟩
  | .local _ .vmem, ⟨7, _⟩ => ⟨S1024x512, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 21], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpRefIdeal.lean ====
abbrev S24576x4096 : Shape := ⟨2, ![24576, 4096]⟩
abbrev S1x4096x11008 : Shape := ⟨3, ![1, 4096, 11008]⟩
abbrev S1x4096x10752 : Shape := ⟨3, ![1, 4096, 10752]⟩
abbrev S4096x10752 : Shape := ⟨2, ![4096, 10752]⟩
abbrev S24576x10752 : Shape := ⟨2, ![24576, 10752]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S1x4096x11008, .f32⟩
  | .hbm, ⟨2, _⟩ => ⟨S1x4096x11008, .f32⟩
  | .hbm, ⟨3, _⟩ => ⟨S24576x4096, .f32⟩
  | .hbm, ⟨4, _⟩ => ⟨S1x4096x10752, .f32⟩
  | .hbm, ⟨5, _⟩ => ⟨S4096x10752, .f32⟩
  | .hbm, ⟨6, _⟩ => ⟨S24576x10752, .f32⟩
  | .hbm, ⟨7, _⟩ => ⟨S24576x10752, .f32⟩
  | .hbm, ⟨8, _⟩ => ⟨S24576x10752, .f32⟩
  | .hbm, ⟨9, _⟩ => ⟨S_, .f32⟩
  | .hbm, ⟨10, _⟩ => ⟨S24576x10752, .f32⟩
  | .hbm, ⟨11, _⟩ => ⟨S24576x10752, .f32⟩
  | .hbm, ⟨12, _⟩ => ⟨S_, .f32⟩
  | .hbm, ⟨13, _⟩ => ⟨S24576x10752, .f32⟩
  | .hbm, ⟨14, _⟩ => ⟨S24576x10752, .f32⟩
  | .hbm, ⟨15, _⟩ => ⟨S24576x10752, .f32⟩
  | .hbm, ⟨16, _⟩ => ⟨S1x4096x10752, .f32⟩
  | .hbm, ⟨17, _⟩ => ⟨S4096x10752, .f32⟩
  | .hbm, ⟨18, _⟩ => ⟨S24576x10752, .f32⟩
  | .hbm, ⟨19, _⟩ => ⟨S24576x10752, .f32⟩
  | .hbm, ⟨20, _⟩ => ⟨S24576x10752, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== GateUpTail.lean ====
abbrev S24576x4096 : Shape := ⟨2, ![24576, 4096]⟩
abbrev S1x4096x11008 : Shape := ⟨3, ![1, 4096, 11008]⟩
abbrev S4096x11008 : Shape := ⟨2, ![4096, 11008]⟩
abbrev S24576x256 : Shape := ⟨2, ![24576, 256]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 6
  | .vmem => 6
  | .smem => 0
  | _ => 0

abbrev bufTy : (tb : Table) → Fin (tcTables nBuf tb) → BufTy
  | .hbm, ⟨0, _⟩ => ⟨S24576x4096, .bf16⟩
  | .hbm, ⟨1, _⟩ => ⟨S1x4096x11008, .f32⟩
  | .hbm, ⟨2, _⟩ => ⟨S1x4096x11008, .f32⟩
  | .hbm, ⟨3, _⟩ => ⟨S4096x11008, .f32⟩
  | .hbm, ⟨4, _⟩ => ⟨S4096x11008, .f32⟩
  | .hbm, ⟨5, _⟩ => ⟨S24576x256, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S1024x256, .bf16⟩
  | .local _ .vmem, ⟨5, _⟩ => ⟨S1024x256, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![24, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi arg1 c42_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi arg1 c42_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpTailRefIdeal.lean ====
abbrev S24576x4096 : Shape := ⟨2, ![24576, 4096]⟩
abbrev S1x4096x11008 : Shape := ⟨3, ![1, 4096, 11008]⟩
abbrev S1x4096x256 : Shape := ⟨3, ![1, 4096, 256]⟩
abbrev S4096x256 : Shape := ⟨2, ![4096, 256]⟩
abbrev S24576x256 : Shape := ⟨2, ![24576, 256]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S1x4096x11008, .f32⟩
  | .hbm, ⟨2, _⟩ => ⟨S1x4096x11008, .f32⟩
  | .hbm, ⟨3, _⟩ => ⟨S24576x4096, .f32⟩
  | .hbm, ⟨4, _⟩ => ⟨S1x4096x256, .f32⟩
  | .hbm, ⟨5, _⟩ => ⟨S4096x256, .f32⟩
  | .hbm, ⟨6, _⟩ => ⟨S24576x256, .f32⟩
  | .hbm, ⟨7, _⟩ => ⟨S24576x256, .f32⟩
  | .hbm, ⟨8, _⟩ => ⟨S24576x256, .f32⟩
  | .hbm, ⟨9, _⟩ => ⟨S_, .f32⟩
  | .hbm, ⟨10, _⟩ => ⟨S24576x256, .f32⟩
  | .hbm, ⟨11, _⟩ => ⟨S24576x256, .f32⟩
  | .hbm, ⟨12, _⟩ => ⟨S_, .f32⟩
  | .hbm, ⟨13, _⟩ => ⟨S24576x256, .f32⟩
  | .hbm, ⟨14, _⟩ => ⟨S24576x256, .f32⟩
  | .hbm, ⟨15, _⟩ => ⟨S24576x256, .f32⟩
  | .hbm, ⟨16, _⟩ => ⟨S1x4096x256, .f32⟩
  | .hbm, ⟨17, _⟩ => ⟨S4096x256, .f32⟩
  | .hbm, ⟨18, _⟩ => ⟨S24576x256, .f32⟩
  | .hbm, ⟨19, _⟩ => ⟨S24576x256, .f32⟩
  | .hbm, ⟨20, _⟩ => ⟨S24576x256, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S24576x10752 : Shape := ⟨2, ![24576, 10752]⟩
abbrev S24576x256 : Shape := ⟨2, ![24576, 256]⟩
abbrev S1x11008x4096 : Shape := ⟨3, ![1, 11008, 4096]⟩
abbrev S11008x4096 : Shape := ⟨2, ![11008, 4096]⟩
abbrev S24576x4096 : Shape := ⟨2, ![24576, 4096]⟩
abbrev S1024x3584 : Shape := ⟨2, ![1024, 3584]⟩
abbrev S1024x256 : Shape := ⟨2, ![1024, 256]⟩
abbrev S3584x1024 : Shape := ⟨2, ![3584, 1024]⟩
abbrev S256x1024 : Shape := ⟨2, ![256, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S24576x10752, .bf16⟩
  | .hbm, ⟨1, _⟩ => ⟨S24576x256, .bf16⟩
  | .hbm, ⟨2, _⟩ => ⟨S1x11008x4096, .f32⟩
  | .hbm, ⟨3, _⟩ => ⟨S11008x4096, .f32⟩
  | .hbm, ⟨4, _⟩ => ⟨S24576x4096, .bf16⟩
  | .local _ .vmem, ⟨0, _⟩ => ⟨S1024x3584, .bf16⟩
  | .local _ .vmem, ⟨1, _⟩ => ⟨S1024x3584, .bf16⟩
  | .local _ .vmem, ⟨2, _⟩ => ⟨S1024x256, .bf16⟩
  | .local _ .vmem, ⟨3, _⟩ => ⟨S1024x256, .bf16⟩
  | .local _ .vmem, ⟨4, _⟩ => ⟨S3584x1024, .f32⟩
  | .local _ .vmem, ⟨5, _⟩ => ⟨S3584x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S24576x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![24, 4, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c42_i32 : BitVec 32 := 42#32
  let c0_i32 : BitVec 32 := 0#32
  ![c42_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S3584x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DownRefIdeal.lean ====
abbrev S24576x10752 : Shape := ⟨2, ![24576, 10752]⟩
abbrev S24576x256 : Shape := ⟨2, ![24576, 256]⟩
abbrev S1x11008x4096 : Shape := ⟨3, ![1, 11008, 4096]⟩
abbrev S24576x11008 : Shape := ⟨2, ![24576, 11008]⟩
abbrev S11008x4096 : Shape := ⟨2, ![11008, 4096]⟩
abbrev S24576x4096 : Shape := ⟨2, ![24576, 4096]⟩

abbrev nBuf : Space → Nat
  | .hbm => 8
  | .vmem => 0
  | .smem => 0
  | _ => 0

abbrev bufTy : (tb : Table) → Fin (tcTables nBuf tb) → BufTy
  | .hbm, ⟨0, _⟩ => ⟨S24576x10752, .bf16⟩
  | .hbm, ⟨1, _⟩ => ⟨S24576x256, .bf16⟩
  | .hbm, ⟨2, _⟩ => ⟨S1x11008x4096, .f32⟩
  | .hbm, ⟨3, _⟩ => ⟨S24576x11008, .bf16⟩
  | .hbm, ⟨4, _⟩ => ⟨S24576x11008, .f32⟩
  | .hbm, ⟨5, _⟩ => ⟨S11008x4096, .f32⟩
  | .hbm, ⟨6, _⟩ => ⟨S24576x4096, .f32⟩
  | .hbm, ⟨7, _⟩ => ⟨S24576x4096, .bf16⟩
  | _, _ => ⟨S24576x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjectIn.lean ====
abbrev S24576x4096 : Shape := ⟨2, ![24576, 4096]⟩
abbrev S1x4096x9216 : Shape := ⟨3, ![1, 4096, 9216]⟩
abbrev S1x9216 : Shape := ⟨2, ![1, 9216]⟩
abbrev S4096x9216 : Shape := ⟨2, ![4096, 9216]⟩
abbrev S24576x9216 : Shape := ⟨2, ![24576, 9216]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S24576x4096, .bf16⟩
  | .hbm, ⟨1, _⟩ => ⟨S1x4096x9216, .f32⟩
  | .hbm, ⟨2, _⟩ => ⟨S1x9216, .f32⟩
  | .hbm, ⟨3, _⟩ => ⟨S4096x9216, .f32⟩
  | .hbm, ⟨4, _⟩ => ⟨S24576x9216, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .f32⟩
  | .local _ .vmem, ⟨3, _⟩ => ⟨S4096x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjectInRefIdeal.lean ====
abbrev S24576x4096 : Shape := ⟨2, ![24576, 4096]⟩
abbrev S1x4096x9216 : Shape := ⟨3, ![1, 4096, 9216]⟩
abbrev S4096x9216 : Shape := ⟨2, ![4096, 9216]⟩
abbrev S24576x9216 : Shape := ⟨2, ![24576, 9216]⟩
abbrev S24576x2048 : Shape := ⟨2, ![24576, 2048]⟩
abbrev S24576x1024 : Shape := ⟨2, ![24576, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S1x4096x9216, .f32⟩
  | .hbm, ⟨2, _⟩ => ⟨S24576x4096, .f32⟩
  | .hbm, ⟨3, _⟩ => ⟨S4096x9216, .f32⟩
  | .hbm, ⟨4, _⟩ => ⟨S24576x9216, .f32⟩
  | .hbm, ⟨5, _⟩ => ⟨S24576x2048, .f32⟩
  | .hbm, ⟨6, _⟩ => ⟨S24576x4096, .f32⟩
  | .hbm, ⟨7, _⟩ => ⟨S24576x2048, .f32⟩
  | .hbm, ⟨8, _⟩ => ⟨S24576x1024, .f32⟩
  | .hbm, ⟨9, _⟩ => ⟨S_, .f32⟩
  | .hbm, ⟨10, _⟩ => ⟨S24576x2048, .f32⟩
  | .hbm, ⟨11, _⟩ => ⟨S24576x2048, .f32⟩
  | .hbm, ⟨12, _⟩ => ⟨S_, .f32⟩
  | .hbm, ⟨13, _⟩ => ⟨S24576x2048, .f32⟩
  | .hbm, ⟨14, _⟩ => ⟨S24576x2048, .f32⟩
  | .hbm, ⟨15, _⟩ => ⟨S24576x9216, .f32⟩
  | .hbm, ⟨16, _⟩ => ⟨S24576x9216, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== ProjectOut.lean ====
abbrev S24576x2048 : Shape := ⟨2, ![24576, 2048]⟩
abbrev S1x4096x4096 : Shape := ⟨3, ![1, 4096, 4096]⟩
abbrev S4096x4096 : Shape := ⟨2, ![4096, 4096]⟩
abbrev S24576x4096 : Shape := ⟨2, ![24576, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S24576x2048, .bf16⟩
  | .hbm, ⟨1, _⟩ => ⟨S24576x2048, .bf16⟩
  | .hbm, ⟨2, _⟩ => ⟨S1x4096x4096, .f32⟩
  | .hbm, ⟨3, _⟩ => ⟨S4096x4096, .f32⟩
  | .hbm, ⟨4, _⟩ => ⟨S24576x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | .local _ .vmem, ⟨8, _⟩ => ⟨S1024x1024, .bf16⟩
  | .local _ .vmem, ⟨9, _⟩ => ⟨S1024x1024, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjectOutRefIdeal.lean ====
abbrev S24576x2048 : Shape := ⟨2, ![24576, 2048]⟩
abbrev S1x4096x4096 : Shape := ⟨3, ![1, 4096, 4096]⟩
abbrev S24576x4096 : Shape := ⟨2, ![24576, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S24576x2048, .bf16⟩
  | .hbm, ⟨2, _⟩ => ⟨S1x4096x4096, .f32⟩
  | .hbm, ⟨3, _⟩ => ⟨S24576x4096, .bf16⟩
  | .hbm, ⟨4, _⟩ => ⟨S24576x4096, .f32⟩
  | .hbm, ⟨5, _⟩ => ⟨S4096x4096, .f32⟩
  | .hbm, ⟨6, _⟩ => ⟨S24576x4096, .f32⟩
  | .hbm, ⟨7, _⟩ => ⟨S24576x4096, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PostSample.lean ====
abbrev S8192x4096 : Shape := ⟨2, ![8192, 4096]⟩
abbrev S24576x4096 : Shape := ⟨2, ![24576, 4096]⟩
abbrev S1x4096 : Shape := ⟨2, ![1, 4096]⟩
abbrev S4096 : Shape := ⟨1, ![4096]⟩
abbrev S3x256x4096 : Shape := ⟨3, ![3, 256, 4096]⟩
abbrev S3 : Shape := ⟨1, ![3]⟩
abbrev S2x256x4096 : Shape := ⟨3, ![2, 256, 4096]⟩
abbrev S2 : Shape := ⟨1, ![2]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S24576x4096, .bf16⟩
  | .hbm, ⟨2, _⟩ => ⟨S24576x4096, .bf16⟩
  | .hbm, ⟨3, _⟩ => ⟨S1x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S8192x4096, .f32⟩
  | .local _ .vmem, ⟨0, _⟩ => ⟨S3x256x4096, .f32⟩
  | .local _ .vmem, ⟨1, _⟩ => ⟨S3x256x4096, .bf16⟩
  | .local _ .vmem, ⟨2, _⟩ => ⟨S3x256x4096, .bf16⟩
  | .local _ .vmem, ⟨3, _⟩ => ⟨S1x4096, .f32⟩
  | .local _ .vmem, ⟨4, _⟩ => ⟨S1x4096, .f32⟩
  | .local _ .vmem, ⟨5, _⟩ => ⟨S2x256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped7 : Ref sig .tc := ⟨.vmem, 4, rfl⟩
abbrev cc0_scoped8 : Ref sig .tc := ⟨.vmem, 5, rfl⟩

abbrev nD : Nat := 1
abbrev τ : Topo := Topo.v7x

variable {F : FTy → Type} [FloatOps F]

abbrev grid0 : Pipeline.Grid := .none

def k0_off1 : Fin 1 → Nat :=
  let c0_i32_21_r0 : BitVec 32 := 0#32
  let c3_i32_r0 : BitVec 32 := 3#32
  let v22_r0 : BitVec 32 := Scalar.remui c0_i32_21_r0 c3_i32_r0
  ![v22_r0.toNat]
def k0_off2 : Fin 3 → Nat :=
  let c0_i32_21_r0 : BitVec 32 := 0#32
  let c3_i32_r0 : BitVec 32 := 3#32
  let v22_r0 : BitVec 32 := Scalar.remui c0_i32_21_r0 c3_i32_r0
  let c0_i32_22_r0 : BitVec 32 := 0#32
  let c0_i32_23_r0 : BitVec 32 := 0#32
  ![v22_r0.toNat, 0, 0]
def k0_cond1 : BitVec 1 :=
  let true_45_r0 : BitVec 1 := 1#1
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c32_i32_r0 : BitVec 32 := 32#32
  let v9_r0 : BitVec 1 := Scalar.cmpi .eq v8_r0 c32_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c0_i32_43_r0 : BitVec 32 := 0#32
  let v43_r0 : BitVec 32 := Scalar.addi v11_r0 c0_i32_43_r0
  let c0_i32_44_r0 : BitVec 32 := 0#32
  let v44_r0 : BitVec 1 := Scalar.cmpi .ne v43_r0 c0_i32_44_r0
  let v45_r0 : BitVec 1 := Scalar.andi true_45_r0 v44_r0
  let true_46_r0 : BitVec 1 := 1#1
  let v46_r0 : BitVec 1 := Scalar.andi v45_r0 true_46_r0
  let v47_r0 : BitVec 32 := Scalar.extui v46_r0
  let c0_i32_47_r0 : BitVec 32 := 0#32
  let v48_r0 : BitVec 1 := Scalar.cmpi .ne v47_r0 c0_i32_47_r0
  v48_r0

def k0_off3 : Fin 1 → Nat :=
  let c0_i32_26_r0 : BitVec 32 := 0#32
  let c1_i32_27_r0 : BitVec 32 := 1#32
  let v28_r0 : BitVec 32 := Scalar.addi c0_i32_26_r0 c1_i32_27_r0
  let c3_i32_103_r0 : BitVec 32 := 3#32
  let v102_r0 : BitVec 32 := Scalar.remui v28_r0 c3_i32_103_r0
  ![v102_r0.toNat]
def k0_off4 : Fin 3 → Nat :=
  let c0_i32_26_r0 : BitVec 32 := 0#32
  let c1_i32_27_r0 : BitVec 32 := 1#32
  let v28_r0 : BitVec 32 := Scalar.addi c0_i32_26_r0 c1_i32_27_r0
  let c3_i32_103_r0 : BitVec 32 := 3#32
  let v102_r0 : BitVec 32 := Scalar.remui v28_r0 c3_i32_103_r0
  let c0_i32_106_r0 : BitVec 32 := 0#32
  let c0_i32_107_r0 : BitVec 32 := 0#32
  ![v102_r0.toNat, 0, 0]
def k0_off5 : Fin 2 → Nat :=
  let c256_i32_105_r0 : BitVec 32 := 256#32
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c32_i32_r0 : BitVec 32 := 32#32
  let v9_r0 : BitVec 1 := Scalar.cmpi .eq v8_r0 c32_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c0_i32_104_r0 : BitVec 32 := 0#32
  let v103_r0 : BitVec 32 := Scalar.addi v11_r0 c0_i32_104_r0
  let v104_r0 : BitVec 32 := Scalar.muli c256_i32_105_r0 v103_r0
  let c0_i32_108_r0 : BitVec 32 := 0#32
  ![v104_r0.toNat, 0]
def k0_cond2 : BitVec 1 :=
  let true_50_r0 : BitVec 1 := 1#1
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c32_i32_r0 : BitVec 32 := 32#32
  let v9_r0 : BitVec 1 := Scalar.cmpi .eq v8_r0 c32_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c64_i32_r0 : BitVec 32 := 64#32
  let v51_r0 : BitVec 32 := Scalar.addi v11_r0 c64_i32_r0
  let c64_i32_49_r0 : BitVec 32 := 64#32
  let v52_r0 : BitVec 1 := Scalar.cmpi .ne v51_r0 c64_i32_49_r0
  let v53_r0 : BitVec 1 := Scalar.andi true_50_r0 v52_r0
  let true_51_r0 : BitVec 1 := 1#1
  let v54_r0 : BitVec 1 := Scalar.andi v53_r0 true_51_r0
  let v55_r0 : BitVec 32 := Scalar.extui v54_r0
  let c0_i32_52_r0 : BitVec 32 := 0#32
  let v56_r0 : BitVec 1 := Scalar.cmpi .ne v55_r0 c0_i32_52_r0
  v56_r0

def k0_off6 : Fin 1 → Nat :=
  let c0_i32_33_r0 : BitVec 32 := 0#32
  let c1_i32_34_r0 : BitVec 32 := 1#32
  let v35_r0 : BitVec 32 := Scalar.addi c0_i32_33_r0 c1_i32_34_r0
  let c3_i32_103_r0 : BitVec 32 := 3#32
  let v102_r0 : BitVec 32 := Scalar.remui v35_r0 c3_i32_103_r0
  ![v102_r0.toNat]
def k0_off7 : Fin 3 → Nat :=
  let c0_i32_33_r0 : BitVec 32 := 0#32
  let c1_i32_34_r0 : BitVec 32 := 1#32
  let v35_r0 : BitVec 32 := Scalar.addi c0_i32_33_r0 c1_i32_34_r0
  let c3_i32_103_r0 : BitVec 32 := 3#32
  let v102_r0 : BitVec 32 := Scalar.remui v35_r0 c3_i32_103_r0
  let c0_i32_106_r0 : BitVec 32 := 0#32
  let c0_i32_107_r0 : BitVec 32 := 0#32
  ![v102_r0.toNat, 0, 0]
def k0_off8 : Fin 2 → Nat :=
  let c256_i32_105_r0 : BitVec 32 := 256#32
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c32_i32_r0 : BitVec 32 := 32#32
  let v9_r0 : BitVec 1 := Scalar.cmpi .eq v8_r0 c32_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c64_i32_104_r0 : BitVec 32 := 64#32
  let v103_r0 : BitVec 32 := Scalar.addi v11_r0 c64_i32_104_r0
  let v104_r0 : BitVec 32 := Scalar.muli c256_i32_105_r0 v103_r0
  let c0_i32_108_r0 : BitVec 32 := 0#32
  ![v104_r0.toNat, 0]
def k0_cond3 : BitVec 1 :=
  let true_56_r0 : BitVec 1 := 1#1
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c32_i32_r0 : BitVec 32 := 32#32
  let v9_r0 : BitVec 1 := Scalar.cmpi .eq v8_r0 c32_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c64_i32_54_r0 : BitVec 32 := 64#32
  let v59_r0 : BitVec 32 := Scalar.addi v11_r0 c64_i32_54_r0
  let c64_i32_55_r0 : BitVec 32 := 64#32
  let v60_r0 : BitVec 1 := Scalar.cmpi .ne v59_r0 c64_i32_55_r0
  let v61_r0 : BitVec 1 := Scalar.andi true_56_r0 v60_r0
  let true_57_r0 : BitVec 1 := 1#1
  let v62_r0 : BitVec 1 := Scalar.andi v61_r0 true_57_r0
  let v63_r0 : BitVec 32 := Scalar.extui v62_r0
  let c0_i32_58_r0 : BitVec 32 := 0#32
  let v64_r0 : BitVec 1 := Scalar.cmpi .ne v63_r0 c0_i32_58_r0
  v64_r0

def k0_off9 : Fin 1 → Nat :=
  let c0_i32_41_r0 : BitVec 32 := 0#32
  let c1_i32_42_r0 : BitVec 32 := 1#32
  let v42_r0 : BitVec 32 := Scalar.addi c0_i32_41_r0 c1_i32_42_r0
  let c3_i32_103_r0 : BitVec 32 := 3#32
  let v102_r0 : BitVec 32 := Scalar.remui v42_r0 c3_i32_103_r0
  ![v102_r0.toNat]
def k0_off10 : Fin 3 → Nat :=
  let c0_i32_41_r0 : BitVec 32 := 0#32
  let c1_i32_42_r0 : BitVec 32 := 1#32
  let v42_r0 : BitVec 32 := Scalar.addi c0_i32_41_r0 c1_i32_42_r0
  let c3_i32_103_r0 : BitVec 32 := 3#32
  let v102_r0 : BitVec 32 := Scalar.remui v42_r0 c3_i32_103_r0
  let c0_i32_106_r0 : BitVec 32 := 0#32
  let c0_i32_107_r0 : BitVec 32 := 0#32
  ![v102_r0.toNat, 0, 0]
def k0_off11 : Fin 2 → Nat :=
  let c256_i32_105_r0 : BitVec 32 := 256#32
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c32_i32_r0 : BitVec 32 := 32#32
  let v9_r0 : BitVec 1 := Scalar.cmpi .eq v8_r0 c32_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c64_i32_104_r0 : BitVec 32 := 64#32
  let v103_r0 : BitVec 32 := Scalar.addi v11_r0 c64_i32_104_r0
  let v104_r0 : BitVec 32 := Scalar.muli c256_i32_105_r0 v103_r0
  let c0_i32_108_r0 : BitVec 32 := 0#32
  ![v104_r0.toNat, 0]
@[reducible] def k0_t1_loop : Scf.Loop 32 :=
  let c0_i32_70_r0 : BitVec 32 := 0#32
  let c32_i32_71_r0 : BitVec 32 := 32#32
  let v67_r0 : BitVec 32 := Scalar.addi c0_i32_70_r0 c32_i32_71_r0
  let c1_i32_72_r0 : BitVec 32 := 1#32
  ⟨c0_i32_70_r0, v67_r0, c1_i32_72_r0⟩
def k0_off12 (arg7_r0 : BitVec 32) : Fin 1 → Nat :=
  let c3_i32_220_r0 : BitVec 32 := 3#32
  let v317_r0 : BitVec 32 := Scalar.remui arg7_r0 c3_i32_220_r0
  ![v317_r0.toNat]
def k0_cond4 (k0_t1 : Fin k0_t1_loop.trips) (arg17_r0 : BitVec 32) : BitVec 1 :=
  let true_112_r0 : BitVec 1 := 1#1
  let c1_i32_111_r0 : BitVec 32 := 1#32
  let v110_r0 : BitVec 32 := Scalar.addi arg17_r0 c1_i32_111_r0
  let v111_r0 : BitVec 32 := Scalar.select true_112_r0 v110_r0 arg17_r0
  let c32_i32_113_r0 : BitVec 32 := 32#32
  let v112_r0 : BitVec 1 := Scalar.cmpi .eq v111_r0 c32_i32_113_r0
  let c0_i32_114_r0 : BitVec 32 := 0#32
  let v113_r0 : BitVec 32 := Scalar.select v112_r0 c0_i32_114_r0 v111_r0
  let c0_i32_115_r0 : BitVec 32 := 0#32
  let v114_r0 : BitVec 32 := Scalar.addi v113_r0 c0_i32_115_r0
  let c0_i32_126_r0 : BitVec 32 := 0#32
  let v125_r0 : BitVec 32 := Scalar.addi v114_r0 c0_i32_126_r0
  let true_117_r0 : BitVec 1 := 1#1
  let c1_i32_116_r0 : BitVec 32 := 1#32
  let v115_r0 : BitVec 32 := Scalar.addi v113_r0 c1_i32_116_r0
  let v116_r0 : BitVec 32 := Scalar.select true_117_r0 v115_r0 v113_r0
  let c32_i32_118_r0 : BitVec 32 := 32#32
  let v117_r0 : BitVec 1 := Scalar.cmpi .eq v116_r0 c32_i32_118_r0
  let c0_i32_119_r0 : BitVec 32 := 0#32
  let v118_r0 : BitVec 32 := Scalar.select v117_r0 c0_i32_119_r0 v116_r0
  let c0_i32_120_r0 : BitVec 32 := 0#32
  let v119_r0 : BitVec 32 := Scalar.addi v118_r0 c0_i32_120_r0
  let c0_i32_127_r0 : BitVec 32 := 0#32
  let v126_r0 : BitVec 32 := Scalar.addi v119_r0 c0_i32_127_r0
  let v127_r0 : BitVec 1 := Scalar.cmpi .ne v125_r0 v126_r0
  let c0_i32_70_r0 : BitVec 32 := 0#32
  let c1_i32_72_r0 : BitVec 32 := 1#32
  let arg6_r0 : BitVec 32 := Scf.iv c0_i32_70_r0 c1_i32_72_r0 k0_t1
  let c30_i32_r0 : BitVec 32 := 30#32
  let v128_r0 : BitVec 1 := Scalar.cmpi .sge arg6_r0 c30_i32_r0
  let true_128_r0 : BitVec 1 := 1#1
  let v129_r0 : BitVec 1 := Scalar.xori v128_r0 true_128_r0
  let v130_r0 : BitVec 1 := Scalar.andi v127_r0 v129_r0
  let true_129_r0 : BitVec 1 := 1#1
  let v131_r0 : BitVec 1 := Scalar.andi v130_r0 true_129_r0
  let v132_r0 : BitVec 32 := Scalar.extui v131_r0
  let c0_i32_130_r0 : BitVec 32 := 0#32
  let v133_r0 : BitVec 1 := Scalar.cmpi .ne v132_r0 c0_i32_130_r0
  v133_r0

def k0_off13 (arg7_r0 : BitVec 32) : Fin 3 → Nat :=
  let c3_i32_220_r0 : BitVec 32 := 3#32
  let v317_r0 : BitVec 32 := Scalar.remui arg7_r0 c3_i32_220_r0
  let c0_i32_223_r0 : BitVec 32 := 0#32
  let c0_i32_224_r0 : BitVec 32 := 0#32
  ![v317_r0.toNat, 0, 0]
def k0_off14 (arg17_r0 : BitVec 32) : Fin 2 → Nat :=
  let c256_i32_222_r0 : BitVec 32 := 256#32
  let true_117_r0 : BitVec 1 := 1#1
  let true_112_r0 : BitVec 1 := 1#1
  let c1_i32_111_r0 : BitVec 32 := 1#32
  let v110_r0 : BitVec 32 := Scalar.addi arg17_r0 c1_i32_111_r0
  let v111_r0 : BitVec 32 := Scalar.select true_112_r0 v110_r0 arg17_r0
  let c32_i32_113_r0 : BitVec 32 := 32#32
  let v112_r0 : BitVec 1 := Scalar.cmpi .eq v111_r0 c32_i32_113_r0
  let c0_i32_114_r0 : BitVec 32 := 0#32
  let v113_r0 : BitVec 32 := Scalar.select v112_r0 c0_i32_114_r0 v111_r0
  let c1_i32_116_r0 : BitVec 32 := 1#32
  let v115_r0 : BitVec 32 := Scalar.addi v113_r0 c1_i32_116_r0
  let v116_r0 : BitVec 32 := Scalar.select true_117_r0 v115_r0 v113_r0
  let c32_i32_118_r0 : BitVec 32 := 32#32
  let v117_r0 : BitVec 1 := Scalar.cmpi .eq v116_r0 c32_i32_118_r0
  let c0_i32_119_r0 : BitVec 32 := 0#32
  let v118_r0 : BitVec 32 := Scalar.select v117_r0 c0_i32_119_r0 v116_r0
  let c0_i32_120_r0 : BitVec 32 := 0#32
  let v119_r0 : BitVec 32 := Scalar.addi v118_r0 c0_i32_120_r0
  let c0_i32_221_r0 : BitVec 32 := 0#32
  let v318_r0 : BitVec 32 := Scalar.addi v119_r0 c0_i32_221_r0
  let v319_r0 : BitVec 32 := Scalar.muli c256_i32_222_r0 v318_r0
  let c0_i32_225_r0 : BitVec 32 := 0#32
  ![v319_r0.toNat, 0]
def k0_off15 (arg9_r0 : BitVec 32) : Fin 1 → Nat :=
  let c3_i32_220_r0 : BitVec 32 := 3#32
  let v317_r0 : BitVec 32 := Scalar.remui arg9_r0 c3_i32_220_r0
  ![v317_r0.toNat]
def k0_cond5 (k0_t1 : Fin k0_t1_loop.trips) (arg17_r0 : BitVec 32) : BitVec 1 :=
  let true_112_r0 : BitVec 1 := 1#1
  let c1_i32_111_r0 : BitVec 32 := 1#32
  let v110_r0 : BitVec 32 := Scalar.addi arg17_r0 c1_i32_111_r0
  let v111_r0 : BitVec 32 := Scalar.select true_112_r0 v110_r0 arg17_r0
  let c32_i32_113_r0 : BitVec 32 := 32#32
  let v112_r0 : BitVec 1 := Scalar.cmpi .eq v111_r0 c32_i32_113_r0
  let c0_i32_114_r0 : BitVec 32 := 0#32
  let v113_r0 : BitVec 32 := Scalar.select v112_r0 c0_i32_114_r0 v111_r0
  let c0_i32_115_r0 : BitVec 32 := 0#32
  let v114_r0 : BitVec 32 := Scalar.addi v113_r0 c0_i32_115_r0
  let c64_i32_133_r0 : BitVec 32 := 64#32
  let v137_r0 : BitVec 32 := Scalar.addi v114_r0 c64_i32_133_r0
  let true_117_r0 : BitVec 1 := 1#1
  let c1_i32_116_r0 : BitVec 32 := 1#32
  let v115_r0 : BitVec 32 := Scalar.addi v113_r0 c1_i32_116_r0
  let v116_r0 : BitVec 32 := Scalar.select true_117_r0 v115_r0 v113_r0
  let c32_i32_118_r0 : BitVec 32 := 32#32
  let v117_r0 : BitVec 1 := Scalar.cmpi .eq v116_r0 c32_i32_118_r0
  let c0_i32_119_r0 : BitVec 32 := 0#32
  let v118_r0 : BitVec 32 := Scalar.select v117_r0 c0_i32_119_r0 v116_r0
  let c0_i32_120_r0 : BitVec 32 := 0#32
  let v119_r0 : BitVec 32 := Scalar.addi v118_r0 c0_i32_120_r0
  let c64_i32_134_r0 : BitVec 32 := 64#32
  let v138_r0 : BitVec 32 := Scalar.addi v119_r0 c64_i32_134_r0
  let v139_r0 : BitVec 1 := Scalar.cmpi .ne v137_r0 v138_r0
  let c0_i32_70_r0 : BitVec 32 := 0#32
  let c1_i32_72_r0 : BitVec 32 := 1#32
  let arg6_r0 : BitVec 32 := Scf.iv c0_i32_70_r0 c1_i32_72_r0 k0_t1
  let c30_i32_135_r0 : BitVec 32 := 30#32
  let v140_r0 : BitVec 1 := Scalar.cmpi .sge arg6_r0 c30_i32_135_r0
  let true_136_r0 : BitVec 1 := 1#1
  let v141_r0 : BitVec 1 := Scalar.xori v140_r0 true_136_r0
  let v142_r0 : BitVec 1 := Scalar.andi v139_r0 v141_r0
  let true_137_r0 : BitVec 1 := 1#1
  let v143_r0 : BitVec 1 := Scalar.andi v142_r0 true_137_r0
  let v144_r0 : BitVec 32 := Scalar.extui v143_r0
  let c0_i32_138_r0 : BitVec 32 := 0#32
  let v145_r0 : BitVec 1 := Scalar.cmpi .ne v144_r0 c0_i32_138_r0
  v145_r0

def k0_off16 (arg9_r0 : BitVec 32) : Fin 3 → Nat :=
  let c3_i32_220_r0 : BitVec 32 := 3#32
  let v317_r0 : BitVec 32 := Scalar.remui arg9_r0 c3_i32_220_r0
  let c0_i32_223_r0 : BitVec 32 := 0#32
  let c0_i32_224_r0 : BitVec 32 := 0#32
  ![v317_r0.toNat, 0, 0]
def k0_off17 (arg17_r0 : BitVec 32) : Fin 2 → Nat :=
  let c256_i32_222_r0 : BitVec 32 := 256#32
  let true_117_r0 : BitVec 1 := 1#1
  let true_112_r0 : BitVec 1 := 1#1
  let c1_i32_111_r0 : BitVec 32 := 1#32
  let v110_r0 : BitVec 32 := Scalar.addi arg17_r0 c1_i32_111_r0
  let v111_r0 : BitVec 32 := Scalar.select true_112_r0 v110_r0 arg17_r0
  let c32_i32_113_r0 : BitVec 32 := 32#32
  let v112_r0 : BitVec 1 := Scalar.cmpi .eq v111_r0 c32_i32_113_r0
  let c0_i32_114_r0 : BitVec 32 := 0#32
  let v113_r0 : BitVec 32 := Scalar.select v112_r0 c0_i32_114_r0 v111_r0
  let c1_i32_116_r0 : BitVec 32 := 1#32
  let v115_r0 : BitVec 32 := Scalar.addi v113_r0 c1_i32_116_r0
  let v116_r0 : BitVec 32 := Scalar.select true_117_r0 v115_r0 v113_r0
  let c32_i32_118_r0 : BitVec 32 := 32#32
  let v117_r0 : BitVec 1 := Scalar.cmpi .eq v116_r0 c32_i32_118_r0
  let c0_i32_119_r0 : BitVec 32 := 0#32
  let v118_r0 : BitVec 32 := Scalar.select v117_r0 c0_i32_119_r0 v116_r0
  let c0_i32_120_r0 : BitVec 32 := 0#32
  let v119_r0 : BitVec 32 := Scalar.addi v118_r0 c0_i32_120_r0
  let c64_i32_221_r0 : BitVec 32 := 64#32
  let v318_r0 : BitVec 32 := Scalar.addi v119_r0 c64_i32_221_r0
  let v319_r0 : BitVec 32 := Scalar.muli c256_i32_222_r0 v318_r0
  let c0_i32_225_r0 : BitVec 32 := 0#32
  ![v319_r0.toNat, 0]
def k0_off18 (arg11_r0 : BitVec 32) : Fin 1 → Nat :=
  let c3_i32_220_r0 : BitVec 32 := 3#32
  let v317_r0 : BitVec 32 := Scalar.remui arg11_r0 c3_i32_220_r0
  ![v317_r0.toNat]
def k0_cond6 (k0_t1 : Fin k0_t1_loop.trips) (arg17_r0 : BitVec 32) : BitVec 1 :=
  let true_112_r0 : BitVec 1 := 1#1
  let c1_i32_111_r0 : BitVec 32 := 1#32
  let v110_r0 : BitVec 32 := Scalar.addi arg17_r0 c1_i32_111_r0
  let v111_r0 : BitVec 32 := Scalar.select true_112_r0 v110_r0 arg17_r0
  let c32_i32_113_r0 : BitVec 32 := 32#32
  let v112_r0 : BitVec 1 := Scalar.cmpi .eq v111_r0 c32_i32_113_r0
  let c0_i32_114_r0 : BitVec 32 := 0#32
  let v113_r0 : BitVec 32 := Scalar.select v112_r0 c0_i32_114_r0 v111_r0
  let c0_i32_115_r0 : BitVec 32 := 0#32
  let v114_r0 : BitVec 32 := Scalar.addi v113_r0 c0_i32_115_r0
  let c64_i32_141_r0 : BitVec 32 := 64#32
  let v149_r0 : BitVec 32 := Scalar.addi v114_r0 c64_i32_141_r0
  let true_117_r0 : BitVec 1 := 1#1
  let c1_i32_116_r0 : BitVec 32 := 1#32
  let v115_r0 : BitVec 32 := Scalar.addi v113_r0 c1_i32_116_r0
  let v116_r0 : BitVec 32 := Scalar.select true_117_r0 v115_r0 v113_r0
  let c32_i32_118_r0 : BitVec 32 := 32#32
  let v117_r0 : BitVec 1 := Scalar.cmpi .eq v116_r0 c32_i32_118_r0
  let c0_i32_119_r0 : BitVec 32 := 0#32
  let v118_r0 : BitVec 32 := Scalar.select v117_r0 c0_i32_119_r0 v116_r0
  let c0_i32_120_r0 : BitVec 32 := 0#32
  let v119_r0 : BitVec 32 := Scalar.addi v118_r0 c0_i32_120_r0
  let c64_i32_142_r0 : BitVec 32 := 64#32
  let v150_r0 : BitVec 32 := Scalar.addi v119_r0 c64_i32_142_r0
  let v151_r0 : BitVec 1 := Scalar.cmpi .ne v149_r0 v150_r0
  let c0_i32_70_r0 : BitVec 32 := 0#32
  let c1_i32_72_r0 : BitVec 32 := 1#32
  let arg6_r0 : BitVec 32 := Scf.iv c0_i32_70_r0 c1_i32_72_r0 k0_t1
  let c30_i32_143_r0 : BitVec 32 := 30#32
  let v152_r0 : BitVec 1 := Scalar.cmpi .sge arg6_r0 c30_i32_143_r0
  let true_144_r0 : BitVec 1 := 1#1
  let v153_r0 : BitVec 1 := Scalar.xori v152_r0 true_144_r0
  let v154_r0 : BitVec 1 := Scalar.andi v151_r0 v153_r0
  let true_145_r0 : BitVec 1 := 1#1
  let v155_r0 : BitVec 1 := Scalar.andi v154_r0 true_145_r0
  let v156_r0 : BitVec 32 := Scalar.extui v155_r0
  let c0_i32_146_r0 : BitVec 32 := 0#32
  let v157_r0 : BitVec 1 := Scalar.cmpi .ne v156_r0 c0_i32_146_r0
  v157_r0

def k0_off19 (arg11_r0 : BitVec 32) : Fin 3 → Nat :=
  let c3_i32_220_r0 : BitVec 32 := 3#32
  let v317_r0 : BitVec 32 := Scalar.remui arg11_r0 c3_i32_220_r0
  let c0_i32_223_r0 : BitVec 32 := 0#32
  let c0_i32_224_r0 : BitVec 32 := 0#32
  ![v317_r0.toNat, 0, 0]
def k0_off20 (arg17_r0 : BitVec 32) : Fin 2 → Nat :=
  let c256_i32_222_r0 : BitVec 32 := 256#32
  let true_117_r0 : BitVec 1 := 1#1
  let true_112_r0 : BitVec 1 := 1#1
  let c1_i32_111_r0 : BitVec 32 := 1#32
  let v110_r0 : BitVec 32 := Scalar.addi arg17_r0 c1_i32_111_r0
  let v111_r0 : BitVec 32 := Scalar.select true_112_r0 v110_r0 arg17_r0
  let c32_i32_113_r0 : BitVec 32 := 32#32
  let v112_r0 : BitVec 1 := Scalar.cmpi .eq v111_r0 c32_i32_113_r0
  let c0_i32_114_r0 : BitVec 32 := 0#32
  let v113_r0 : BitVec 32 := Scalar.select v112_r0 c0_i32_114_r0 v111_r0
  let c1_i32_116_r0 : BitVec 32 := 1#32
  let v115_r0 : BitVec 32 := Scalar.addi v113_r0 c1_i32_116_r0
  let v116_r0 : BitVec 32 := Scalar.select true_117_r0 v115_r0 v113_r0
  let c32_i32_118_r0 : BitVec 32 := 32#32
  let v117_r0 : BitVec 1 := Scalar.cmpi .eq v116_r0 c32_i32_118_r0
  let c0_i32_119_r0 : BitVec 32 := 0#32
  let v118_r0 : BitVec 32 := Scalar.select v117_r0 c0_i32_119_r0 v116_r0
  let c0_i32_120_r0 : BitVec 32 := 0#32
  let v119_r0 : BitVec 32 := Scalar.addi v118_r0 c0_i32_120_r0
  let c64_i32_221_r0 : BitVec 32 := 64#32
  let v318_r0 : BitVec 32 := Scalar.addi v119_r0 c64_i32_221_r0
  let v319_r0 : BitVec 32 := Scalar.muli c256_i32_222_r0 v318_r0
  let c0_i32_225_r0 : BitVec 32 := 0#32
  ![v319_r0.toNat, 0]
def k0_off21 (arg8_r0 : BitVec 32) : Fin 1 → Nat :=
  let c3_i32_222_r0 : BitVec 32 := 3#32
  let v319_r0 : BitVec 32 := Scalar.remui arg8_r0 c3_i32_222_r0
  ![v319_r0.toNat]
def k0_cond7 (k0_t1 : Fin k0_t1_loop.trips) (arg17_r0 : BitVec 32) : BitVec 1 :=
  let c0_i32_105_r0 : BitVec 32 := 0#32
  let v104_r0 : BitVec 32 := Scalar.addi arg17_r0 c0_i32_105_r0
  let c0_i32_153_r0 : BitVec 32 := 0#32
  let v167_r0 : BitVec 32 := Scalar.addi v104_r0 c0_i32_153_r0
  let true_107_r0 : BitVec 1 := 1#1
  let c1_i32_106_r0 : BitVec 32 := 1#32
  let v105_r0 : BitVec 32 := Scalar.subi arg17_r0 c1_i32_106_r0
  let v106_r0 : BitVec 32 := Scalar.select true_107_r0 v105_r0 arg17_r0
  let c_m1_i32_108_r0 : BitVec 32 := 4294967295#32
  let v107_r0 : BitVec 1 := Scalar.cmpi .eq v106_r0 c_m1_i32_108_r0
  let c31_i32_109_r0 : BitVec 32 := 31#32
  let v108_r0 : BitVec 32 := Scalar.select v107_r0 c31_i32_109_r0 v106_r0
  let c0_i32_110_r0 : BitVec 32 := 0#32
  let v109_r0 : BitVec 32 := Scalar.addi v108_r0 c0_i32_110_r0
  let c0_i32_154_r0 : BitVec 32 := 0#32
  let v168_r0 : BitVec 32 := Scalar.addi v109_r0 c0_i32_154_r0
  let v169_r0 : BitVec 1 := Scalar.cmpi .ne v167_r0 v168_r0
  let c0_i32_70_r0 : BitVec 32 := 0#32
  let c1_i32_72_r0 : BitVec 32 := 1#32
  let arg6_r0 : BitVec 32 := Scf.iv c0_i32_70_r0 c1_i32_72_r0 k0_t1
  let c0_i32_103_r0 : BitVec 32 := 0#32
  let v102_r0 : BitVec 1 := Scalar.cmpi .eq arg6_r0 c0_i32_103_r0
  let v170_r0 : BitVec 1 := Scalar.ori v169_r0 v102_r0
  let c0_i32_155_r0 : BitVec 32 := 0#32
  let v171_r0 : BitVec 1 := Scalar.cmpi .sge arg6_r0 c0_i32_155_r0
  let v172_r0 : BitVec 1 := Scalar.andi v170_r0 v171_r0
  let v173_r0 : BitVec 32 := Scalar.extui v172_r0
  let c0_i32_156_r0 : BitVec 32 := 0#32
  let v174_r0 : BitVec 1 := Scalar.cmpi .ne v173_r0 c0_i32_156_r0
  v174_r0

def k0_off22 (arg8_r0 : BitVec 32) : Fin 3 → Nat :=
  let c3_i32_222_r0 : BitVec 32 := 3#32
  let v319_r0 : BitVec 32 := Scalar.remui arg8_r0 c3_i32_222_r0
  let c0_i32_223_r0 : BitVec 32 := 0#32
  let c0_i32_224_r0 : BitVec 32 := 0#32
  ![v319_r0.toNat, 0, 0]
def k0_off23 (arg17_r0 : BitVec 32) : Fin 2 → Nat :=
  let c256_i32_221_r0 : BitVec 32 := 256#32
  let c0_i32_105_r0 : BitVec 32 := 0#32
  let v104_r0 : BitVec 32 := Scalar.addi arg17_r0 c0_i32_105_r0
  let c0_i32_220_r0 : BitVec 32 := 0#32
  let v317_r0 : BitVec 32 := Scalar.addi v104_r0 c0_i32_220_r0
  let v318_r0 : BitVec 32 := Scalar.muli c256_i32_221_r0 v317_r0
  let c0_i32_225_r0 : BitVec 32 := 0#32
  ![v318_r0.toNat, 0]
def k0_off24 (arg10_r0 : BitVec 32) : Fin 1 → Nat :=
  let c3_i32_222_r0 : BitVec 32 := 3#32
  let v319_r0 : BitVec 32 := Scalar.remui arg10_r0 c3_i32_222_r0
  ![v319_r0.toNat]
def k0_cond8 (k0_t1 : Fin k0_t1_loop.trips) (arg17_r0 : BitVec 32) : BitVec 1 :=
  let c0_i32_105_r0 : BitVec 32 := 0#32
  let v104_r0 : BitVec 32 := Scalar.addi arg17_r0 c0_i32_105_r0
  let c64_i32_157_r0 : BitVec 32 := 64#32
  let v175_r0 : BitVec 32 := Scalar.addi v104_r0 c64_i32_157_r0
  let true_107_r0 : BitVec 1 := 1#1
  let c1_i32_106_r0 : BitVec 32 := 1#32
  let v105_r0 : BitVec 32 := Scalar.subi arg17_r0 c1_i32_106_r0
  let v106_r0 : BitVec 32 := Scalar.select true_107_r0 v105_r0 arg17_r0
  let c_m1_i32_108_r0 : BitVec 32 := 4294967295#32
  let v107_r0 : BitVec 1 := Scalar.cmpi .eq v106_r0 c_m1_i32_108_r0
  let c31_i32_109_r0 : BitVec 32 := 31#32
  let v108_r0 : BitVec 32 := Scalar.select v107_r0 c31_i32_109_r0 v106_r0
  let c0_i32_110_r0 : BitVec 32 := 0#32
  let v109_r0 : BitVec 32 := Scalar.addi v108_r0 c0_i32_110_r0
  let c64_i32_158_r0 : BitVec 32 := 64#32
  let v176_r0 : BitVec 32 := Scalar.addi v109_r0 c64_i32_158_r0
  let v177_r0 : BitVec 1 := Scalar.cmpi .ne v175_r0 v176_r0
  let c0_i32_70_r0 : BitVec 32 := 0#32
  let c1_i32_72_r0 : BitVec 32 := 1#32
  let arg6_r0 : BitVec 32 := Scf.iv c0_i32_70_r0 c1_i32_72_r0 k0_t1
  let c0_i32_103_r0 : BitVec 32 := 0#32
  let v102_r0 : BitVec 1 := Scalar.cmpi .eq arg6_r0 c0_i32_103_r0
  let v178_r0 : BitVec 1 := Scalar.ori v177_r0 v102_r0
  let c0_i32_159_r0 : BitVec 32 := 0#32
  let v179_r0 : BitVec 1 := Scalar.cmpi .sge arg6_r0 c0_i32_159_r0
  let v180_r0 : BitVec 1 := Scalar.andi v178_r0 v179_r0
  let v181_r0 : BitVec 32 := Scalar.extui v180_r0
  let c0_i32_160_r0 : BitVec 32 := 0#32
  let v182_r0 : BitVec 1 := Scalar.cmpi .ne v181_r0 c0_i32_160_r0
  v182_r0

def k0_off25 (arg10_r0 : BitVec 32) : Fin 3 → Nat :=
  let c3_i32_222_r0 : BitVec 32 := 3#32
  let v319_r0 : BitVec 32 := Scalar.remui arg10_r0 c3_i32_222_r0
  let c0_i32_223_r0 : BitVec 32 := 0#32
  let c0_i32_224_r0 : BitVec 32 := 0#32
  ![v319_r0.toNat, 0, 0]
def k0_off26 (arg17_r0 : BitVec 32) : Fin 2 → Nat :=
  let c256_i32_221_r0 : BitVec 32 := 256#32
  let c0_i32_105_r0 : BitVec 32 := 0#32
  let v104_r0 : BitVec 32 := Scalar.addi arg17_r0 c0_i32_105_r0
  let c64_i32_220_r0 : BitVec 32 := 64#32
  let v317_r0 : BitVec 32 := Scalar.addi v104_r0 c64_i32_220_r0
  let v318_r0 : BitVec 32 := Scalar.muli c256_i32_221_r0 v317_r0
  let c0_i32_225_r0 : BitVec 32 := 0#32
  ![v318_r0.toNat, 0]
def k0_off27 (arg12_r0 : BitVec 32) : Fin 1 → Nat :=
  let c3_i32_222_r0 : BitVec 32 := 3#32
  let v319_r0 : BitVec 32 := Scalar.remui arg12_r0 c3_i32_222_r0
  ![v319_r0.toNat]
def k0_cond9 (k0_t1 : Fin k0_t1_loop.trips) (arg17_r0 : BitVec 32) : BitVec 1 :=
  let c0_i32_105_r0 : BitVec 32 := 0#32
  let v104_r0 : BitVec 32 := Scalar.addi arg17_r0 c0_i32_105_r0
  let c64_i32_161_r0 : BitVec 32 := 64#32
  let v183_r0 : BitVec 32 := Scalar.addi v104_r0 c64_i32_161_r0
  let true_107_r0 : BitVec 1 := 1#1
  let c1_i32_106_r0 : BitVec 32 := 1#32
  let v105_r0 : BitVec 32 := Scalar.subi arg17_r0 c1_i32_106_r0
  let v106_r0 : BitVec 32 := Scalar.select true_107_r0 v105_r0 arg17_r0
  let c_m1_i32_108_r0 : BitVec 32 := 4294967295#32
  let v107_r0 : BitVec 1 := Scalar.cmpi .eq v106_r0 c_m1_i32_108_r0
  let c31_i32_109_r0 : BitVec 32 := 31#32
  let v108_r0 : BitVec 32 := Scalar.select v107_r0 c31_i32_109_r0 v106_r0
  let c0_i32_110_r0 : BitVec 32 := 0#32
  let v109_r0 : BitVec 32 := Scalar.addi v108_r0 c0_i32_110_r0
  let c64_i32_162_r0 : BitVec 32 := 64#32
  let v184_r0 : BitVec 32 := Scalar.addi v109_r0 c64_i32_162_r0
  let v185_r0 : BitVec 1 := Scalar.cmpi .ne v183_r0 v184_r0
  let c0_i32_70_r0 : BitVec 32 := 0#32
  let c1_i32_72_r0 : BitVec 32 := 1#32
  let arg6_r0 : BitVec 32 := Scf.iv c0_i32_70_r0 c1_i32_72_r0 k0_t1
  let c0_i32_103_r0 : BitVec 32 := 0#32
  let v102_r0 : BitVec 1 := Scalar.cmpi .eq arg6_r0 c0_i32_103_r0
  let v186_r0 : BitVec 1 := Scalar.ori v185_r0 v102_r0
  let c0_i32_163_r0 : BitVec 32 := 0#32
  let v187_r0 : BitVec 1 := Scalar.cmpi .sge arg6_r0 c0_i32_163_r0
  let v188_r0 : BitVec 1 := Scalar.andi v186_r0 v187_r0
  let v189_r0 : BitVec 32 := Scalar.extui v188_r0
  let c0_i32_164_r0 : BitVec 32 := 0#32
  let v190_r0 : BitVec 1 := Scalar.cmpi .ne v189_r0 c0_i32_164_r0
  v190_r0

def k0_off28 (arg12_r0 : BitVec 32) : Fin 3 → Nat :=
  let c3_i32_222_r0 : BitVec 32 := 3#32
  let v319_r0 : BitVec 32 := Scalar.remui arg12_r0 c3_i32_222_r0
  let c0_i32_223_r0 : BitVec 32 := 0#32
  let c0_i32_224_r0 : BitVec 32 := 0#32
  ![v319_r0.toNat, 0, 0]
def k0_off29 (arg17_r0 : BitVec 32) : Fin 2 → Nat :=
  let c256_i32_221_r0 : BitVec 32 := 256#32
  let c0_i32_105_r0 : BitVec 32 := 0#32
  let v104_r0 : BitVec 32 := Scalar.addi arg17_r0 c0_i32_105_r0
  let c64_i32_220_r0 : BitVec 32 := 64#32
  let v317_r0 : BitVec 32 := Scalar.addi v104_r0 c64_i32_220_r0
  let v318_r0 : BitVec 32 := Scalar.muli c256_i32_221_r0 v317_r0
  let c0_i32_225_r0 : BitVec 32 := 0#32
  ![v318_r0.toNat, 0]
def k0_off30 (arg8_r0 : BitVec 32) : Fin 3 → Nat :=
  let c3_i32_168_r0 : BitVec 32 := 3#32
  let v198_r0 : BitVec 32 := Scalar.remui arg8_r0 c3_i32_168_r0
  let v202_r0 : Index := Scalar.indexCast v198_r0
  let c0_r0 : Index := 0#32
  let c0_172_r0 : Index := 0#32
  ![v202_r0.toNat, 0, 0]

def k0_chk2 (arg8_r0 : BitVec 32) : Prop :=
  (∀ a, (k0_off30 arg8_r0) a + S1x256x4096.size a ≤ S3x256x4096.size a)
theorem k0_off30_inb : ∀ (arg8_r0 : BitVec 32) (k0_hw2 : k0_chk2 arg8_r0), ∀ a, (k0_off30 arg8_r0) a + S1x256x4096.size a ≤ S3x256x4096.size a := fun arg8_r0 k0_hw2 => k0_hw2

def k0_off31 (arg10_r0 : BitVec 32) : Fin 3 → Nat :=
  let c3_i32_169_r0 : BitVec 32 := 3#32
  let v199_r0 : BitVec 32 := Scalar.remui arg10_r0 c3_i32_169_r0
  let v205_r0 : Index := Scalar.indexCast v199_r0
  let c0_173_r0 : Index := 0#32
  let c0_174_r0 : Index := 0#32
  ![v205_r0.toNat, 0, 0]

def k0_chk3 (arg10_r0 : BitVec 32) : Prop :=
  (∀ a, (k0_off31 arg10_r0) a + S1x256x4096.size a ≤ S3x256x4096.size a)
theorem k0_off31_inb : ∀ (arg10_r0 : BitVec 32) (k0_hw3 : k0_chk3 arg10_r0), ∀ a, (k0_off31 arg10_r0) a + S1x256x4096.size a ≤ S3x256x4096.size a := fun arg10_r0 k0_hw3 => k0_hw3

def k0_off32 (arg12_r0 : BitVec 32) : Fin 3 → Nat :=
  let c3_i32_170_r0 : BitVec 32 := 3#32
  let v200_r0 : BitVec 32 := Scalar.remui arg12_r0 c3_i32_170_r0
  let v224_r0 : Index := Scalar.indexCast v200_r0
  let c0_179_r0 : Index := 0#32
  let c0_180_r0 : Index := 0#32
  ![v224_r0.toNat, 0, 0]

def k0_chk4 (arg12_r0 : BitVec 32) : Prop :=
  (∀ a, (k0_off32 arg12_r0) a + S1x256x4096.size a ≤ S3x256x4096.size a)
theorem k0_off32_inb : ∀ (arg12_r0 : BitVec 32) (k0_hw4 : k0_chk4 arg12_r0), ∀ a, (k0_off32 arg12_r0) a + S1x256x4096.size a ≤ S3x256x4096.size a := fun arg12_r0 k0_hw4 => k0_hw4

def k0_off33 (arg15_r0 : BitVec 32) : Fin 3 → Nat :=
  let c2_i32_171_r0 : BitVec 32 := 2#32
  let v201_r0 : BitVec 32 := Scalar.remui arg15_r0 c2_i32_171_r0
  let v243_r0 : Index := Scalar.indexCast v201_r0
  let c0_186_r0 : Index := 0#32
  let c0_187_r0 : Index := 0#32
  ![v243_r0.toNat, 0, 0]

def k0_chk5 (arg15_r0 : BitVec 32) : Prop :=
  (∀ a, (k0_off33 arg15_r0) a + S1x256x4096.size a ≤ S2x256x4096.size a)
theorem k0_off33_inb : ∀ (arg15_r0 : BitVec 32) (k0_hw5 : k0_chk5 arg15_r0), ∀ a, (k0_off33 arg15_r0) a + S1x256x4096.size a ≤ S2x256x4096.size a := fun arg15_r0 k0_hw5 => k0_hw5

def k0_off34 (arg15_r0 : BitVec 32) : Fin 1 → Nat :=
  let c2_i32_220_r0 : BitVec 32 := 2#32
  let v317_r0 : BitVec 32 := Scalar.remui arg15_r0 c2_i32_220_r0
  ![v317_r0.toNat]
def k0_cond14 (k0_t1 : Fin k0_t1_loop.trips) (arg17_r0 : BitVec 32) : BitVec 1 :=
  let c0_i32_105_r0 : BitVec 32 := 0#32
  let v104_r0 : BitVec 32 := Scalar.addi arg17_r0 c0_i32_105_r0
  let c0_i32_149_r0 : BitVec 32 := 0#32
  let v161_r0 : BitVec 32 := Scalar.addi v104_r0 c0_i32_149_r0
  let true_112_r0 : BitVec 1 := 1#1
  let c1_i32_111_r0 : BitVec 32 := 1#32
  let v110_r0 : BitVec 32 := Scalar.addi arg17_r0 c1_i32_111_r0
  let v111_r0 : BitVec 32 := Scalar.select true_112_r0 v110_r0 arg17_r0
  let c32_i32_113_r0 : BitVec 32 := 32#32
  let v112_r0 : BitVec 1 := Scalar.cmpi .eq v111_r0 c32_i32_113_r0
  let c0_i32_114_r0 : BitVec 32 := 0#32
  let v113_r0 : BitVec 32 := Scalar.select v112_r0 c0_i32_114_r0 v111_r0
  let c0_i32_115_r0 : BitVec 32 := 0#32
  let v114_r0 : BitVec 32 := Scalar.addi v113_r0 c0_i32_115_r0
  let c0_i32_150_r0 : BitVec 32 := 0#32
  let v162_r0 : BitVec 32 := Scalar.addi v114_r0 c0_i32_150_r0
  let v262_r0 : BitVec 1 := Scalar.cmpi .ne v161_r0 v162_r0
  let c0_i32_70_r0 : BitVec 32 := 0#32
  let c1_i32_72_r0 : BitVec 32 := 1#32
  let arg6_r0 : BitVec 32 := Scf.iv c0_i32_70_r0 c1_i32_72_r0 k0_t1
  let c31_i32_104_r0 : BitVec 32 := 31#32
  let v103_r0 : BitVec 1 := Scalar.cmpi .eq arg6_r0 c31_i32_104_r0
  let v263_r0 : BitVec 1 := Scalar.ori v262_r0 v103_r0
  let v264_r0 : BitVec 32 := Scalar.extui v263_r0
  let c0_i32_193_r0 : BitVec 32 := 0#32
  let v265_r0 : BitVec 1 := Scalar.cmpi .ne v264_r0 c0_i32_193_r0
  v265_r0

def k0_off35 (arg17_r0 : BitVec 32) : Fin 2 → Nat :=
  let c256_i32_222_r0 : BitVec 32 := 256#32
  let c0_i32_105_r0 : BitVec 32 := 0#32
  let v104_r0 : BitVec 32 := Scalar.addi arg17_r0 c0_i32_105_r0
  let c0_i32_221_r0 : BitVec 32 := 0#32
  let v318_r0 : BitVec 32 := Scalar.addi v104_r0 c0_i32_221_r0
  let v319_r0 : BitVec 32 := Scalar.muli c256_i32_222_r0 v318_r0
  let c0_i32_223_r0 : BitVec 32 := 0#32
  ![v319_r0.toNat, 0]
def k0_off36 (arg15_r0 : BitVec 32) : Fin 3 → Nat :=
  let c2_i32_220_r0 : BitVec 32 := 2#32
  let v317_r0 : BitVec 32 := Scalar.remui arg15_r0 c2_i32_220_r0
  let c0_i32_224_r0 : BitVec 32 := 0#32
  let c0_i32_225_r0 : BitVec 32 := 0#32
  ![v317_r0.toNat, 0, 0]
def k0_off37 (arg16_r0 : BitVec 32) : Fin 1 → Nat :=
  let c2_i32_220_r0 : BitVec 32 := 2#32
  let v317_r0 : BitVec 32 := Scalar.remui arg16_r0 c2_i32_220_r0
  ![v317_r0.toNat]
def k0_cond18 (k0_t1 : Fin k0_t1_loop.trips) (arg17_r0 : BitVec 32) : BitVec 1 :=
  let c0_i32_105_r0 : BitVec 32 := 0#32
  let v104_r0 : BitVec 32 := Scalar.addi arg17_r0 c0_i32_105_r0
  let c0_i32_149_r0 : BitVec 32 := 0#32
  let v161_r0 : BitVec 32 := Scalar.addi v104_r0 c0_i32_149_r0
  let true_107_r0 : BitVec 1 := 1#1
  let c1_i32_106_r0 : BitVec 32 := 1#32
  let v105_r0 : BitVec 32 := Scalar.subi arg17_r0 c1_i32_106_r0
  let v106_r0 : BitVec 32 := Scalar.select true_107_r0 v105_r0 arg17_r0
  let c_m1_i32_108_r0 : BitVec 32 := 4294967295#32
  let v107_r0 : BitVec 1 := Scalar.cmpi .eq v106_r0 c_m1_i32_108_r0
  let c31_i32_109_r0 : BitVec 32 := 31#32
  let v108_r0 : BitVec 32 := Scalar.select v107_r0 c31_i32_109_r0 v106_r0
  let c0_i32_110_r0 : BitVec 32 := 0#32
  let v109_r0 : BitVec 32 := Scalar.addi v108_r0 c0_i32_110_r0
  let c0_i32_165_r0 : BitVec 32 := 0#32
  let v191_r0 : BitVec 32 := Scalar.addi v109_r0 c0_i32_165_r0
  let v287_r0 : BitVec 1 := Scalar.cmpi .ne v161_r0 v191_r0
  let c0_i32_70_r0 : BitVec 32 := 0#32
  let c1_i32_72_r0 : BitVec 32 := 1#32
  let arg6_r0 : BitVec 32 := Scf.iv c0_i32_70_r0 c1_i32_72_r0 k0_t1
  let c0_i32_103_r0 : BitVec 32 := 0#32
  let v102_r0 : BitVec 1 := Scalar.cmpi .eq arg6_r0 c0_i32_103_r0
  let true_205_r0 : BitVec 1 := 1#1
  let v288_r0 : BitVec 1 := Scalar.xori v102_r0 true_205_r0
  let v289_r0 : BitVec 1 := Scalar.andi v287_r0 v288_r0
  let v290_r0 : BitVec 32 := Scalar.extui v289_r0
  let c0_i32_206_r0 : BitVec 32 := 0#32
  let v291_r0 : BitVec 1 := Scalar.cmpi .ne v290_r0 c0_i32_206_r0
  v291_r0

def k0_off38 (arg17_r0 : BitVec 32) : Fin 2 → Nat :=
  let c256_i32_222_r0 : BitVec 32 := 256#32
  let true_107_r0 : BitVec 1 := 1#1
  let c1_i32_106_r0 : BitVec 32 := 1#32
  let v105_r0 : BitVec 32 := Scalar.subi arg17_r0 c1_i32_106_r0
  let v106_r0 : BitVec 32 := Scalar.select true_107_r0 v105_r0 arg17_r0
  let c_m1_i32_108_r0 : BitVec 32 := 4294967295#32
  let v107_r0 : BitVec 1 := Scalar.cmpi .eq v106_r0 c_m1_i32_108_r0
  let c31_i32_109_r0 : BitVec 32 := 31#32
  let v108_r0 : BitVec 32 := Scalar.select v107_r0 c31_i32_109_r0 v106_r0
  let c0_i32_110_r0 : BitVec 32 := 0#32
  let v109_r0 : BitVec 32 := Scalar.addi v108_r0 c0_i32_110_r0
  let c0_i32_221_r0 : BitVec 32 := 0#32
  let v318_r0 : BitVec 32 := Scalar.addi v109_r0 c0_i32_221_r0
  let v319_r0 : BitVec 32 := Scalar.muli c256_i32_222_r0 v318_r0
  let c0_i32_223_r0 : BitVec 32 := 0#32
  ![v319_r0.toNat, 0]
def k0_off39 (arg16_r0 : BitVec 32) : Fin 3 → Nat :=
  let c2_i32_220_r0 : BitVec 32 := 2#32
  let v317_r0 : BitVec 32 := Scalar.remui arg16_r0 c2_i32_220_r0
  let c0_i32_224_r0 : BitVec 32 := 0#32
  let c0_i32_225_r0 : BitVec 32 := 0#32
  ![v317_r0.toNat, 0, 0]

def k0_chk1 (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) : Prop :=
  (∀ (k0_h4 : k0_cond4 k0_t1 arg17_r0 = 1#1), ∀ a, (k0_off12 arg7_r0) a + S1.size a ≤ S3.size a) ∧
  (∀ (k0_h4 : k0_cond4 k0_t1 arg17_r0 = 1#1), ∀ a, (k0_off13 arg7_r0) a + S1x256x4096.size a ≤ S3x256x4096.size a) ∧
  (∀ (k0_h4 : k0_cond4 k0_t1 arg17_r0 = 1#1), ∀ a, (k0_off14 arg17_r0) a + S256x4096.size a ≤ S8192x4096.size a) ∧
  (∀ (k0_h5 : k0_cond5 k0_t1 arg17_r0 = 1#1), ∀ a, (k0_off15 arg9_r0) a + S1.size a ≤ S3.size a) ∧
  (∀ (k0_h5 : k0_cond5 k0_t1 arg17_r0 = 1#1), ∀ a, (k0_off16 arg9_r0) a + S1x256x4096.size a ≤ S3x256x4096.size a) ∧
  (∀ (k0_h5 : k0_cond5 k0_t1 arg17_r0 = 1#1), ∀ a, (k0_off17 arg17_r0) a + S256x4096.size a ≤ S24576x4096.size a) ∧
  (∀ (k0_h5 : k0_cond5 k0_t1 arg17_r0 = 1#1), ∀ (hinb : ∀ a, (k0_off17 arg17_r0) a + S256x4096.size a ≤ S24576x4096.size a), (Rect.unit (s := S24576x4096) (k0_off17 arg17_r0) S256x4096.size hinb).WholeWords (EltTy.packing .bf16)) ∧
  (∀ (k0_h5 : k0_cond5 k0_t1 arg17_r0 = 1#1), ∀ (hinb : ∀ a, (k0_off16 arg9_r0) a + S1x256x4096.size a ≤ S3x256x4096.size a), (Rect.unit (s := S3x256x4096) (k0_off16 arg9_r0) S1x256x4096.size hinb).WholeWords (EltTy.packing .bf16)) ∧
  (∀ (k0_h6 : k0_cond6 k0_t1 arg17_r0 = 1#1), ∀ a, (k0_off18 arg11_r0) a + S1.size a ≤ S3.size a) ∧
  (∀ (k0_h6 : k0_cond6 k0_t1 arg17_r0 = 1#1), ∀ a, (k0_off19 arg11_r0) a + S1x256x4096.size a ≤ S3x256x4096.size a) ∧
  (∀ (k0_h6 : k0_cond6 k0_t1 arg17_r0 = 1#1), ∀ a, (k0_off20 arg17_r0) a + S256x4096.size a ≤ S24576x4096.size a) ∧
  (∀ (k0_h6 : k0_cond6 k0_t1 arg17_r0 = 1#1), ∀ (hinb : ∀ a, (k0_off20 arg17_r0) a + S256x4096.size a ≤ S24576x4096.size a), (Rect.unit (s := S24576x4096) (k0_off20 arg17_r0) S256x4096.size hinb).WholeWords (EltTy.packing .bf16)) ∧
  (∀ (k0_h6 : k0_cond6 k0_t1 arg17_r0 = 1#1), ∀ (hinb : ∀ a, (k0_off19 arg11_r0) a + S1x256x4096.size a ≤ S3x256x4096.size a), (Rect.unit (s := S3x256x4096) (k0_off19 arg11_r0) S1x256x4096.size hinb).WholeWords (EltTy.packing .bf16)) ∧
  (∀ (k0_h7 : k0_cond7 k0_t1 arg17_r0 = 1#1), ∀ a, (k0_off21 arg8_r0) a + S1.size a ≤ S3.size a) ∧
  (∀ (k0_h7 : k0_cond7 k0_t1 arg17_r0 = 1#1), ∀ a, (k0_off22 arg8_r0) a + S1x256x4096.size a ≤ S3x256x4096.size a) ∧
  (∀ (k0_h7 : k0_cond7 k0_t1 arg17_r0 = 1#1), ∀ a, (k0_off23 arg17_r0) a + S256x4096.size a ≤ S8192x4096.size a) ∧
  (∀ (k0_h8 : k0_cond8 k0_t1 arg17_r0 = 1#1), ∀ a, (k0_off24 arg10_r0) a + S1.size a ≤ S3.size a) ∧
  (∀ (k0_h8 : k0_cond8 k0_t1 arg17_r0 = 1#1), ∀ a, (k0_off25 arg10_r0) a + S1x256x4096.size a ≤ S3x256x4096.size a) ∧
  (∀ (k0_h8 : k0_cond8 k0_t1 arg17_r0 = 1#1), ∀ a, (k0_off26 arg17_r0) a + S256x4096.size a ≤ S24576x4096.size a) ∧
  (∀ (k0_h8 : k0_cond8 k0_t1 arg17_r0 = 1#1), ∀ (hinb : ∀ a, (k0_off26 arg17_r0) a + S256x4096.size a ≤ S24576x4096.size a), (Rect.unit (s := S24576x4096) (k0_off26 arg17_r0) S256x4096.size hinb).WholeWords (EltTy.packing .bf16)) ∧
  (∀ (k0_h8 : k0_cond8 k0_t1 arg17_r0 = 1#1), ∀ (hinb : ∀ a, (k0_off25 arg10_r0) a + S1x256x4096.size a ≤ S3x256x4096.size a), (Rect.unit (s := S3x256x4096) (k0_off25 arg10_r0) S1x256x4096.size hinb).WholeWords (EltTy.packing .bf16)) ∧
  (∀ (k0_h9 : k0_cond9 k0_t1 arg17_r0 = 1#1), ∀ a, (k0_off27 arg12_r0) a + S1.size a ≤ S3.size a) ∧
  (∀ (k0_h9 : k0_cond9 k0_t1 arg17_r0 = 1#1), ∀ a, (k0_off28 arg12_r0) a + S1x256x4096.size a ≤ S3x256x4096.size a) ∧
  (∀ (k0_h9 : k0_cond9 k0_t1 arg17_r0 = 1#1), ∀ a, (k0_off29 arg17_r0) a + S256x4096.size a ≤ S24576x4096.size a) ∧
  (∀ (k0_h9 : k0_cond9 k0_t1 arg17_r0 = 1#1), ∀ (hinb : ∀ a, (k0_off29 arg17_r0) a + S256x4096.size a ≤ S24576x4096.size a), (Rect.unit (s := S24576x4096) (k0_off29 arg17_r0) S256x4096.size hinb).WholeWords (EltTy.packing .bf16)) ∧
  (∀ (k0_h9 : k0_cond9 k0_t1 arg17_r0 = 1#1), ∀ (hinb : ∀ a, (k0_off28 arg12_r0) a + S1x256x4096.size a ≤ S3x256x4096.size a), (Rect.unit (s := S3x256x4096) (k0_off28 arg12_r0) S1x256x4096.size hinb).WholeWords (EltTy.packing .bf16)) ∧
  (∀ (k0_h14 : k0_cond14 k0_t1 arg17_r0 = 1#1), ∀ a, (k0_off34 arg15_r0) a + S1.size a ≤ S2.size a) ∧
  (∀ (k0_h14 : k0_cond14 k0_t1 arg17_r0 = 1#1), ∀ a, (k0_off35 arg17_r0) a + S256x4096.size a ≤ S8192x4096.size a) ∧
  (∀ (k0_h14 : k0_cond14 k0_t1 arg17_r0 = 1#1), ∀ a, (k0_off36 arg15_r0) a + S1x256x4096.size a ≤ S2x256x4096.size a) ∧
  (∀ (k0_h18 : k0_cond18 k0_t1 arg17_r0 = 1#1), ∀ a, (k0_off37 arg16_r0) a + S1.size a ≤ S2.size a) ∧
  (∀ (k0_h18 : k0_cond18 k0_t1 arg17_r0 = 1#1), ∀ a, (k0_off38 arg17_r0) a + S256x4096.size a ≤ S8192x4096.size a) ∧
  (∀ (k0_h18 : k0_cond18 k0_t1 arg17_r0 = 1#1), ∀ a, (k0_off39 arg16_r0) a + S1x256x4096.size a ≤ S2x256x4096.size a)
theorem k0_off12_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h4 : k0_cond4 k0_t1 arg17_r0 = 1#1), ∀ a, (k0_off12 arg7_r0) a + S1.size a ≤ S3.size a := fun k0_t1 arg7_r0 arg8_r0 arg9_r0 arg10_r0 arg11_r0 arg12_r0 arg15_r0 arg16_r0 arg17_r0 k0_hw1 k0_h4 => k0_hw1.1 k0_h4
theorem k0_off13_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h4 : k0_cond4 k0_t1 arg17_r0 = 1#1), ∀ a, (k0_off13 arg7_r0) a + S1x256x4096.size a ≤ S3x256x4096.size a := fun k0_t1 arg7_r0 arg8_r0 arg9_r0 arg10_r0 arg11_r0 arg12_r0 arg15_r0 arg16_r0 arg17_r0 k0_hw1 k0_h4 => k0_hw1.2.1 k0_h4
theorem k0_off14_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h4 : k0_cond4 k0_t1 arg17_r0 = 1#1), ∀ a, (k0_off14 arg17_r0) a + S256x4096.size a ≤ S8192x4096.size a := fun k0_t1 arg7_r0 arg8_r0 arg9_r0 arg10_r0 arg11_r0 arg12_r0 arg15_r0 arg16_r0 arg17_r0 k0_hw1 k0_h4 => k0_hw1.2.2.1 k0_h4
theorem k0_off15_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h5 : k0_cond5 k0_t1 arg17_r0 = 1#1), ∀ a, (k0_off15 arg9_r0) a + S1.size a ≤ S3.size a := fun k0_t1 arg7_r0 arg8_r0 arg9_r0 arg10_r0 arg11_r0 arg12_r0 arg15_r0 arg16_r0 arg17_r0 k0_hw1 k0_h5 => k0_hw1.2.2.2.1 k0_h5
theorem k0_off16_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h5 : k0_cond5 k0_t1 arg17_r0 = 1#1), ∀ a, (k0_off16 arg9_r0) a + S1x256x4096.size a ≤ S3x256x4096.size a := fun k0_t1 arg7_r0 arg8_r0 arg9_r0 arg10_r0 arg11_r0 arg12_r0 arg15_r0 arg16_r0 arg17_r0 k0_hw1 k0_h5 => k0_hw1.2.2.2.2.1 k0_h5
theorem k0_off17_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h5 : k0_cond5 k0_t1 arg17_r0 = 1#1), ∀ a, (k0_off17 arg17_r0) a + S256x4096.size a ≤ S24576x4096.size a := fun k0_t1 arg7_r0 arg8_r0 arg9_r0 arg10_r0 arg11_r0 arg12_r0 arg15_r0 arg16_r0 arg17_r0 k0_hw1 k0_h5 => k0_hw1.2.2.2.2.2.1 k0_h5
theorem k0_off17_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h5 : k0_cond5 k0_t1 arg17_r0 = 1#1), (Rect.unit (s := S24576x4096) (k0_off17 arg17_r0) S256x4096.size (k0_off17_inb k0_t1 arg7_r0 arg8_r0 arg9_r0 arg10_r0 arg11_r0 arg12_r0 arg15_r0 arg16_r0 arg17_r0 k0_hw1 k0_h5)).WholeWords (EltTy.packing .bf16) := fun k0_t1 arg7_r0 arg8_r0 arg9_r0 arg10_r0 arg11_r0 arg12_r0 arg15_r0 arg16_r0 arg17_r0 k0_hw1 k0_h5 => k0_hw1.2.2.2.2.2.2.1 k0_h5 (k0_off17_inb k0_t1 arg7_r0 arg8_r0 arg9_r0 arg10_r0 arg11_r0 arg12_r0 arg15_r0 arg16_r0 arg17_r0 k0_hw1 k0_h5)
theorem k0_off16_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h5 : k0_cond5 k0_t1 arg17_r0 = 1#1), (Rect.unit (s := S3x256x4096) (k0_off16 arg9_r0) S1x256x4096.size (k0_off16_inb k0_t1 arg7_r0 arg8_r0 arg9_r0 arg10_r0 arg11_r0 arg12_r0 arg15_r0 arg16_r0 arg17_r0 k0_hw1 k0_h5)).WholeWords (EltTy.packing .bf16) := fun k0_t1 arg7_r0 arg8_r0 arg9_r0 arg10_r0 arg11_r0 arg12_r0 arg15_r0 arg16_r0 arg17_r0 k0_hw1 k0_h5 => k0_hw1.2.2.2.2.2.2.2.1 k0_h5 (k0_off16_inb k0_t1 arg7_r0 arg8_r0 arg9_r0 arg10_r0 arg11_r0 arg12_r0 arg15_r0 arg16_r0 arg17_r0 k0_hw1 k0_h5)
theorem k0_off18_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h6 : k0_cond6 k0_t1 arg17_r0 = 1#1), ∀ a, (k0_off18 arg11_r0) a + S1.size a ≤ S3.size a := fun k0_t1 arg7_r0 arg8_r0 arg9_r0 arg10_r0 arg11_r0 arg12_r0 arg15_r0 arg16_r0 arg17_r0 k0_hw1 k0_h6 => k0_hw1.2.2.2.2.2.2.2.2.1 k0_h6
theorem k0_off19_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h6 : k0_cond6 k0_t1 arg17_r0 = 1#1), ∀ a, (k0_off19 arg11_r0) a + S1x256x4096.size a ≤ S3x256x4096.size a := fun k0_t1 arg7_r0 arg8_r0 arg9_r0 arg10_r0 arg11_r0 arg12_r0 arg15_r0 arg16_r0 arg17_r0 k0_hw1 k0_h6 => k0_hw1.2.2.2.2.2.2.2.2.2.1 k0_h6
theorem k0_off20_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h6 : k0_cond6 k0_t1 arg17_r0 = 1#1), ∀ a, (k0_off20 arg17_r0) a + S256x4096.size a ≤ S24576x4096.size a := fun k0_t1 arg7_r0 arg8_r0 arg9_r0 arg10_r0 arg11_r0 arg12_r0 arg15_r0 arg16_r0 arg17_r0 k0_hw1 k0_h6 => k0_hw1.2.2.2.2.2.2.2.2.2.2.1 k0_h6
theorem k0_off20_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h6 : k0_cond6 k0_t1 arg17_r0 = 1#1), (Rect.unit (s := S24576x4096) (k0_off20 arg17_r0) S256x4096.size (k0_off20_inb k0_t1 arg7_r0 arg8_r0 arg9_r0 arg10_r0 arg11_r0 arg12_r0 arg15_r0 arg16_r0 arg17_r0 k0_hw1 k0_h6)).WholeWords (EltTy.packing .bf16) := fun k0_t1 arg7_r0 arg8_r0 arg9_r0 arg10_r0 arg11_r0 arg12_r0 arg15_r0 arg16_r0 arg17_r0 k0_hw1 k0_h6 => k0_hw1.2.2.2.2.2.2.2.2.2.2.2.1 k0_h6 (k0_off20_inb k0_t1 arg7_r0 arg8_r0 arg9_r0 arg10_r0 arg11_r0 arg12_r0 arg15_r0 arg16_r0 arg17_r0 k0_hw1 k0_h6)
theorem k0_off19_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h6 : k0_cond6 k0_t1 arg17_r0 = 1#1), (Rect.unit (s := S3x256x4096) (k0_off19 arg11_r0) S1x256x4096.size (k0_off19_inb k0_t1 arg7_r0 arg8_r0 arg9_r0 arg10_r0 arg11_r0 arg12_r0 arg15_r0 arg16_r0 arg17_r0 k0_hw1 k0_h6)).WholeWords (EltTy.packing .bf16) := fun k0_t1 arg7_r0 arg8_r0 arg9_r0 arg10_r0 arg11_r0 arg12_r0 arg15_r0 arg16_r0 arg17_r0 k0_hw1 k0_h6 => k0_hw1.2.2.2.2.2.2.2.2.2.2.2.2.1 k0_h6 (k0_off19_inb k0_t1 arg7_r0 arg8_r0 arg9_r0 arg10_r0 arg11_r0 arg12_r0 arg15_r0 arg16_r0 arg17_r0 k0_hw1 k0_h6)
theorem k0_off21_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h7 : k0_cond7 k0_t1 arg17_r0 = 1#1), ∀ a, (k0_off21 arg8_r0) a + S1.size a ≤ S3.size a := fun k0_t1 arg7_r0 arg8_r0 arg9_r0 arg10_r0 arg11_r0 arg12_r0 arg15_r0 arg16_r0 arg17_r0 k0_hw1 k0_h7 => k0_hw1.2.2.2.2.2.2.2.2.2.2.2.2.2.1 k0_h7
theorem k0_off22_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h7 : k0_cond7 k0_t1 arg17_r0 = 1#1), ∀ a, (k0_off22 arg8_r0) a + S1x256x4096.size a ≤ S3x256x4096.size a := fun k0_t1 arg7_r0 arg8_r0 arg9_r0 arg10_r0 arg11_r0 arg12_r0 arg15_r0 arg16_r0 arg17_r0 k0_hw1 k0_h7 => k0_hw1.2.2.2.2.2.2.2.2.2.2.2.2.2.2.1 k0_h7
theorem k0_off23_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h7 : k0_cond7 k0_t1 arg17_r0 = 1#1), ∀ a, (k0_off23 arg17_r0) a + S256x4096.size a ≤ S8192x4096.size a := fun k0_t1 arg7_r0 arg8_r0 arg9_r0 arg10_r0 arg11_r0 arg12_r0 arg15_r0 arg16_r0 arg17_r0 k0_hw1 k0_h7 => k0_hw1.2.2.2.2.2.2.2.2.2.2.2.2.2.2.2.1 k0_h7
theorem k0_off24_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h8 : k0_cond8 k0_t1 arg17_r0 = 1#1), ∀ a, (k0_off24 arg10_r0) a + S1.size a ≤ S3.size a := fun k0_t1 arg7_r0 arg8_r0 arg9_r0 arg10_r0 arg11_r0 arg12_r0 arg15_r0 arg16_r0 arg17_r0 k0_hw1 k0_h8 => k0_hw1.2.2.2.2.2.2.2.2.2.2.2.2.2.2.2.2.1 k0_h8
theorem k0_off25_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h8 : k0_cond8 k0_t1 arg17_r0 = 1#1), ∀ a, (k0_off25 arg10_r0) a + S1x256x4096.size a ≤ S3x256x4096.size a := fun k0_t1 arg7_r0 arg8_r0 arg9_r0 arg10_r0 arg11_r0 arg12_r0 arg15_r0 arg16_r0 arg17_r0 k0_hw1 k0_h8 => k0_hw1.2.2.2.2.2.2.2.2.2.2.2.2.2.2.2.2.2.1 k0_h8
theorem k0_off26_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h8 : k0_cond8 k0_t1 arg17_r0 = 1#1), ∀ a, (k0_off26 arg17_r0) a + S256x4096.size a ≤ S24576x4096.size a := fun k0_t1 arg7_r0 arg8_r0 arg9_r0 arg10_r0 arg11_r0 arg12_r0 arg15_r0 arg16_r0 arg17_r0 k0_hw1 k0_h8 => k0_hw1.2.2.2.2.2.2.2.2.2.2.2.2.2.2.2.2.2.2.1 k0_h8
theorem k0_off26_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h8 : k0_cond8 k0_t1 arg17_r0 = 1#1), (Rect.unit (s := S24576x4096) (k0_off26 arg17_r0) S256x4096.size (k0_off26_inb k0_t1 arg7_r0 arg8_r0 arg9_r0 arg10_r0 arg11_r0 arg12_r0 arg15_r0 arg16_r0 arg17_r0 k0_hw1 k0_h8)).WholeWords (EltTy.packing .bf16) := fun k0_t1 arg7_r0 arg8_r0 arg9_r0 arg10_r0 arg11_r0 arg12_r0 arg15_r0 arg16_r0 arg17_r0 k0_hw1 k0_h8 => k0_hw1.2.2.2.2.2.2.2.2.2.2.2.2.2.2.2.2.2.2.2.1 k0_h8 (k0_off26_inb k0_t1 arg7_r0 arg8_r0 arg9_r0 arg10_r0 arg11_r0 arg12_r0 arg15_r0 arg16_r0 arg17_r0 k0_hw1 k0_h8)
theorem k0_off25_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h8 : k0_cond8 k0_t1 arg17_r0 = 1#1), (Rect.unit (s := S3x256x4096) (k0_off25 arg10_r0) S1x256x4096.size (k0_off25_inb k0_t1 arg7_r0 arg8_r0 arg9_r0 arg10_r0 arg11_r0 arg12_r0 arg15_r0 arg16_r0 arg17_r0 k0_hw1 k0_h8)).WholeWords (EltTy.packing .bf16) := fun k0_t1 arg7_r0 arg8_r0 arg9_r0 arg10_r0 arg11_r0 arg12_r0 arg15_r0 arg16_r0 arg17_r0 k0_hw1 k0_h8 => k0_hw1.2.2.2.2.2.2.2.2.2.2.2.2.2.2.2.2.2.2.2.2.1 k0_h8 (k0_off25_inb k0_t1 arg7_r0 arg8_r0 arg9_r0 arg10_r0 arg11_r0 arg12_r0 arg15_r0 arg16_r0 arg17_r0 k0_hw1 k0_h8)
theorem k0_off27_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h9 : k0_cond9 k0_t1 arg17_r0 = 1#1), ∀ a, (k0_off27 arg12_r0) a + S1.size a ≤ S3.size a := fun k0_t1 arg7_r0 arg8_r0 arg9_r0 arg10_r0 arg11_r0 arg12_r0 arg15_r0 arg16_r0 arg17_r0 k0_hw1 k0_h9 => k0_hw1.2.2.2.2.2.2.2.2.2.2.2.2.2.2.2.2.2.2.2.2.2.1 k0_h9
theorem k0_off28_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h9 : k0_cond9 k0_t1 arg17_r0 = 1#1), ∀ a, (k0_off28 arg12_r0) a + S1x256x4096.size a ≤ S3x256x4096.size a := fun k0_t1 arg7_r0 arg8_r0 arg9_r0 arg10_r0 arg11_r0 arg12_r0 arg15_r0 arg16_r0 arg17_r0 k0_hw1 k0_h9 => k0_hw1.2.2.2.2.2.2.2.2.2.2.2.2.2.2.2.2.2.2.2.2.2.2.1 k0_h9
theorem k0_off29_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h9 : k0_cond9 k0_t1 arg17_r0 = 1#1), ∀ a, (k0_off29 arg17_r0) a + S256x4096.size a ≤ S24576x4096.size a := fun k0_t1 arg7_r0 arg8_r0 arg9_r0 arg10_r0 arg11_r0 arg12_r0 arg15_r0 arg16_r0 arg17_r0 k0_hw1 k0_h9 => k0_hw1.2.2.2.2.2.2.2.2.2.2.2.2.2.2.2.2.2.2.2.2.2.2.2.1 k0_h9
theorem k0_off29_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h9 : k0_cond9 k0_t1 arg17_r0 = 1#1), (Rect.unit (s := S24576x4096) (k0_off29 arg17_r0) S256x4096.size (k0_off29_inb k0_t1 arg7_r0 arg8_r0 arg9_r0 arg10_r0 arg11_r0 arg12_r0 arg15_r0 arg16_r0 arg17_r0 k0_hw1 k0_h9)).WholeWords (EltTy.packing .bf16) := fun k0_t1 arg7_r0 arg8_r0 arg9_r0 arg10_r0 arg11_r0 arg12_r0 arg15_r0 arg16_r0 arg17_r0 k0_hw1 k0_h9 => k0_hw1.2.2.2.2.2.2.2.2.2.2.2.2.2.2.2.2.2.2.2.2.2.2.2.2.1 k0_h9 (k0_off29_inb k0_t1 arg7_r0 arg8_r0 arg9_r0 arg10_r0 arg11_r0 arg12_r0 arg15_r0 arg16_r0 arg17_r0 k0_hw1 k0_h9)
theorem k0_off28_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h9 : k0_cond9 k0_t1 arg17_r0 = 1#1), (Rect.unit (s := S3x256x4096) (k0_off28 arg12_r0) S1x256x4096.size (k0_off28_inb k0_t1 arg7_r0 arg8_r0 arg9_r0 arg10_r0 arg11_r0 arg12_r0 arg15_r0 arg16_r0 arg17_r0 k0_hw1 k0_h9)).WholeWords (EltTy.packing .bf16) := fun k0_t1 arg7_r0 arg8_r0 arg9_r0 arg10_r0 arg11_r0 arg12_r0 arg15_r0 arg16_r0 arg17_r0 k0_hw1 k0_h9 => k0_hw1.2.2.2.2.2.2.2.2.2.2.2.2.2.2.2.2.2.2.2.2.2.2.2.2.2.1 k0_h9 (k0_off28_inb k0_t1 arg7_r0 arg8_r0 arg9_r0 arg10_r0 arg11_r0 arg12_r0 arg15_r0 arg16_r0 arg17_r0 k0_hw1 k0_h9)
theorem k0_off34_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h14 : k0_cond14 k0_t1 arg17_r0 = 1#1), ∀ a, (k0_off34 arg15_r0) a + S1.size a ≤ S2.size a := fun k0_t1 arg7_r0 arg8_r0 arg9_r0 arg10_r0 arg11_r0 arg12_r0 arg15_r0 arg16_r0 arg17_r0 k0_hw1 k0_h14 => k0_hw1.2.2.2.2.2.2.2.2.2.2.2.2.2.2.2.2.2.2.2.2.2.2.2.2.2.2.1 k0_h14
theorem k0_off35_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h14 : k0_cond14 k0_t1 arg17_r0 = 1#1), ∀ a, (k0_off35 arg17_r0) a + S256x4096.size a ≤ S8192x4096.size a := fun k0_t1 arg7_r0 arg8_r0 arg9_r0 arg10_r0 arg11_r0 arg12_r0 arg15_r0 arg16_r0 arg17_r0 k0_hw1 k0_h14 => k0_hw1.2.2.2.2.2.2.2.2.2.2.2.2.2.2.2.2.2.2.2.2.2.2.2.2.2.2.2.1 k0_h14
theorem k0_off36_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h14 : k0_cond14 k0_t1 arg17_r0 = 1#1), ∀ a, (k0_off36 arg15_r0) a + S1x256x4096.size a ≤ S2x256x4096.size a := fun k0_t1 arg7_r0 arg8_r0 arg9_r0 arg10_r0 arg11_r0 arg12_r0 arg15_r0 arg16_r0 arg17_r0 k0_hw1 k0_h14 => k0_hw1.2.2.2.2.2.2.2.2.2.2.2.2.2.2.2.2.2.2.2.2.2.2.2.2.2.2.2.2.1 k0_h14
theorem k0_off37_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h18 : k0_cond18 k0_t1 arg17_r0 = 1#1), ∀ a, (k0_off37 arg16_r0) a + S1.size a ≤ S2.size a := fun k0_t1 arg7_r0 arg8_r0 arg9_r0 arg10_r0 arg11_r0 arg12_r0 arg15_r0 arg16_r0 arg17_r0 k0_hw1 k0_h18 => k0_hw1.2.2.2.2.2.2.2.2.2.2.2.2.2.2.2.2.2.2.2.2.2.2.2.2.2.2.2.2.2.1 k0_h18
theorem k0_off38_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h18 : k0_cond18 k0_t1 arg17_r0 = 1#1), ∀ a, (k0_off38 arg17_r0) a + S256x4096.size a ≤ S8192x4096.size a := fun k0_t1 arg7_r0 arg8_r0 arg9_r0 arg10_r0 arg11_r0 arg12_r0 arg15_r0 arg16_r0 arg17_r0 k0_hw1 k0_h18 => k0_hw1.2.2.2.2.2.2.2.2.2.2.2.2.2.2.2.2.2.2.2.2.2.2.2.2.2.2.2.2.2.2.1 k0_h18
theorem k0_off39_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg15_r0 : BitVec 32) (arg16_r0 : BitVec 32) (arg17_r0 : BitVec 32) (k0_hw1 : k0_chk1 k0_t1 arg7_r0 arg8_r0 arg9_r0 arg10_r0 arg11_r0 arg12_r0 arg15_r0 arg16_r0 arg17_r0), ∀ (k0_h18 : k0_cond18 k0_t1 arg17_r0 = 1#1), ∀ a, (k0_off39 arg16_r0) a + S1x256x4096.size a ≤ S2x256x4096.size a := fun k0_t1 arg7_r0 arg8_r0 arg9_r0 arg10_r0 arg11_r0 arg12_r0 arg15_r0 arg16_r0 arg17_r0 k0_hw1 k0_h18 => k0_hw1.2.2.2.2.2.2.2.2.2.2.2.2.2.2.2.2.2.2.2.2.2.2.2.2.2.2.2.2.2.2.2 k0_h18

def k0_off40 (v68_9_r0 : BitVec 32) : Fin 1 → Nat :=
  let c2_i32_r0 : BitVec 32 := 2#32
  let v94_r0 : BitVec 32 := Scalar.remui v68_9_r0 c2_i32_r0
  ![v94_r0.toNat]

def k0_off41 (v68_10_r0 : BitVec 32) : Fin 2 → Nat :=
  let c256_i32_r0 : BitVec 32 := 256#32
  let true_75_r0 : BitVec 1 := 1#1
  let c1_i32_74_r0 : BitVec 32 := 1#32
  let v69_r0 : BitVec 32 := Scalar.subi v68_10_r0 c1_i32_74_r0
  let v70_r0 : BitVec 32 := Scalar.select true_75_r0 v69_r0 v68_10_r0
  let c_m1_i32_76_r0 : BitVec 32 := 4294967295#32
  let v71_r0 : BitVec 1 := Scalar.cmpi .eq v70_r0 c_m1_i32_76_r0
  let c31_i32_77_r0 : BitVec 32 := 31#32
  let v72_r0 : BitVec 32 := Scalar.select v71_r0 c31_i32_77_r0 v70_r0
  let c0_i32_78_r0 : BitVec 32 := 0#32
  let v73_r0 : BitVec 32 := Scalar.addi v72_r0 c0_i32_78_r0
  let c0_i32_99_r0 : BitVec 32 := 0#32
  let v95_r0 : BitVec 32 := Scalar.addi v73_r0 c0_i32_99_r0
  let v96_r0 : BitVec 32 := Scalar.muli c256_i32_r0 v95_r0
  let c0_i32_100_r0 : BitVec 32 := 0#32
  ![v96_r0.toNat, 0]

def k0_chk7 (v68_10_r0 : BitVec 32) : Prop :=
  (∀ a, (k0_off41 v68_10_r0) a + S256x4096.size a ≤ S8192x4096.size a)
theorem k0_off41_inb : ∀ (v68_10_r0 : BitVec 32) (k0_hw7 : k0_chk7 v68_10_r0), ∀ a, (k0_off41 v68_10_r0) a + S256x4096.size a ≤ S8192x4096.size a := fun v68_10_r0 k0_hw7 => k0_hw7

def k0_off42 (v68_9_r0 : BitVec 32) : Fin 3 → Nat :=
  let c2_i32_r0 : BitVec 32 := 2#32
  let v94_r0 : BitVec 32 := Scalar.remui v68_9_r0 c2_i32_r0
  let c0_i32_101_r0 : BitVec 32 := 0#32
  let c0_i32_102_r0 : BitVec 32 := 0#32
  ![v94_r0.toNat, 0, 0]

def k0_chk6 (v68_9_r0 : BitVec 32) : Prop :=
  (∀ a, (k0_off40 v68_9_r0) a + S1.size a ≤ S2.size a) ∧
  (∀ a, (k0_off42 v68_9_r0) a + S1x256x4096.size a ≤ S2x256x4096.size a)
theorem k0_off40_inb : ∀ (v68_9_r0 : BitVec 32) (k0_hw6 : k0_chk6 v68_9_r0), ∀ a, (k0_off40 v68_9_r0) a + S1.size a ≤ S2.size a := fun v68_9_r0 k0_hw6 => k0_hw6.1
theorem k0_off42_inb : ∀ (v68_9_r0 : BitVec 32) (k0_hw6 : k0_chk6 v68_9_r0), ∀ a, (k0_off42 v68_9_r0) a + S1x256x4096.size a ≤ S2x256x4096.size a := fun v68_9_r0 k0_hw6 => k0_hw6.2
-- ==== PostSampleRefIdeal.lean ====
abbrev S8192x4096 : Shape := ⟨2, ![8192, 4096]⟩
abbrev S24576x4096 : Shape := ⟨2, ![24576, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S24576x4096, .bf16⟩
  | .hbm, ⟨2, _⟩ => ⟨S24576x4096, .bf16⟩
  | .hbm, ⟨3, _⟩ => ⟨S1x4096, .f32⟩
  | .hbm, ⟨4, _⟩ => ⟨S1x4096, .f32⟩
  | .hbm, ⟨5, _⟩ => ⟨S8192x4096, .bf16⟩
  | .hbm, ⟨6, _⟩ => ⟨S8192x4096, .f32⟩
  | .hbm, ⟨7, _⟩ => ⟨S8192x4096, .bf16⟩
  | .hbm, ⟨8, _⟩ => ⟨S8192x4096, .f32⟩
  | .hbm, ⟨9, _⟩ => ⟨S4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S4096, .f32⟩
  | .hbm, ⟨28, _⟩ => ⟨S8192x4096, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x4096, .f32⟩
  | .hbm, ⟨40, _⟩ => ⟨S8192x4096, .f32⟩
  | .hbm, ⟨41, _⟩ => ⟨S1x4096, .f32⟩
  | .hbm, ⟨42, _⟩ => ⟨S8192x4096, .f32⟩
  | .hbm, ⟨43, _⟩ => ⟨S8192x4096, .f32⟩
  | .hbm, ⟨44, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Swa.lean ====
abbrev S24576x9216 : Shape := ⟨2, ![24576, 9216]⟩
abbrev S128x5120 : Shape := ⟨2, ![128, 5120]⟩
abbrev S1x16 : Shape := ⟨2, ![1, 16]⟩
abbrev S4x16x128x384 : Shape := ⟨4, ![4, 16, 128, 384]⟩
abbrev S1x2048 : Shape := ⟨2, ![1, 2048]⟩
abbrev S192 : Shape := ⟨1, ![192]⟩
abbrev S16 : Shape := ⟨1, ![16]⟩
abbrev S24576x2048 : Shape := ⟨2, ![24576, 2048]⟩
abbrev S128x2048 : Shape := ⟨2, ![128, 2048]⟩
abbrev S128x512 : Shape := ⟨2, ![128, 512]⟩
abbrev S1 : Shape := ⟨1, ![1]⟩
abbrev S1x16x128x384 : Shape := ⟨4, ![1, 16, 128, 384]⟩
abbrev S512x384 : Shape := ⟨2, ![512, 384]⟩
abbrev S64x1 : Shape := ⟨2, ![64, 1]⟩
abbrev S128x128 : Shape := ⟨2, ![128, 128]⟩
abbrev S64x128 : Shape := ⟨2, ![64, 128]⟩
abbrev S384x128 : Shape := ⟨2, ![384, 128]⟩
abbrev S256x128 : Shape := ⟨2, ![256, 128]⟩
abbrev S256x384 : Shape := ⟨2, ![256, 384]⟩
abbrev S64x384 : Shape := ⟨2, ![64, 384]⟩
abbrev S1x1x64x384 : Shape := ⟨4, ![1, 1, 64, 384]⟩
abbrev S64 : Shape := ⟨1, ![64]⟩
abbrev S128x1 : Shape := ⟨2, ![128, 1]⟩

abbrev nBuf : Space → Nat
  | .hbm => 7
  | .vmem => 24
  | .smem => 4
  | _ => 0

abbrev bufTy : (tb : Table) → Fin (tcTables nBuf tb) → BufTy
  | .hbm, ⟨0, _⟩ => ⟨S24576x9216, .bf16⟩
  | .hbm, ⟨1, _⟩ => ⟨S128x5120, .bf16⟩
  | .hbm, ⟨2, _⟩ => ⟨S1x16, .f32⟩
  | .hbm, ⟨3, _⟩ => ⟨S4x16x128x384, .f32⟩
  | .hbm, ⟨4, _⟩ => ⟨S1x2048, .f32⟩
  | .hbm, ⟨5, _⟩ => ⟨S16, .f32⟩
  | .hbm, ⟨6, _⟩ => ⟨S24576x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S1x16x128x384, .f32⟩
  | .local _ .vmem, ⟨17, _⟩ => ⟨S1x16x128x384, .f32⟩
  | .local _ .vmem, ⟨18, _⟩ => ⟨S1x2048, .f32⟩
  | .local _ .vmem, ⟨19, _⟩ => ⟨S128x2048, .bf16⟩
  | .local _ .vmem, ⟨20, _⟩ => ⟨S128x2048, .bf16⟩
  | .local _ .vmem, ⟨21, _⟩ => ⟨S128x2048, .f32⟩
  | .local _ .vmem, ⟨22, _⟩ => ⟨S512x384, .f32⟩
  | .local _ .vmem, ⟨23, _⟩ => ⟨S512x384, .f32⟩
  | .local _ .smem, ⟨0, _⟩ => ⟨S192, .i32⟩
  | .local _ .smem, ⟨1, _⟩ => ⟨S192, .i32⟩
  | .local _ .smem, ⟨2, _⟩ => ⟨S192, .i32⟩
  | .local _ .smem, ⟨3, _⟩ => ⟨S16, .f32⟩
  | _, _ => ⟨S24576x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨3, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_stg0_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![192], ![false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (k0_off1_inb : ∀ i : grid0.Coords, ∀ a, (k0_off1 i) a + S1.size a ≤ S192.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c16_i32 : BitVec 32 := 16#32
  let c0_i32 : BitVec 32 := 0#32
  ![v1.toNat, c16_i32.toNat]

def cc0_transform_3 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_4 (k0_off1_inb : ∀ i : grid0.Coords, ∀ a, (k0_off1 i) a + S1.size a ≤ S192.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S192) ![v0.toNat] S1.size (k0_off1_inb i)) numel1_S1
  let c16_i32 : BitVec 32 := 16#32
  let c0_i32 : BitVec 32 := 0#32
  ![v1.toNat, c16_i32.toNat]

def cc0_transform_5 (k0_off1_inb : ∀ i : grid0.Coords, ∀ a, (k0_off1 i) a + S1.size a ≤ S192.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c17_i32 : BitVec 32 := 17#32
  let c0_i32 : BitVec 32 := 0#32
  ![v1.toNat, c17_i32.toNat]

def cc0_transform_6 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_7 (k0_off1_inb : ∀ i : grid0.Coords, ∀ a, (k0_off1 i) a + S1.size a ≤ S192.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S192) ![v0.toNat] S1.size (k0_off1_inb i)) numel1_S1
  let c17_i32 : BitVec 32 := 17#32
  let c0_i32 : BitVec 32 := 0#32
  ![v1.toNat, c17_i32.toNat]

def cc0_transform_8 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_9 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_10 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 2 (Rect.unit (s := S192) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x16x128x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== SwaBias.lean ====
abbrev S16 : Shape := ⟨1, ![16]⟩
abbrev S4x16x128x384 : Shape := ⟨4, ![4, 16, 128, 384]⟩
abbrev S4x1x128x384 : Shape := ⟨4, ![4, 1, 128, 384]⟩
abbrev S1 : Shape := ⟨1, ![1]⟩
abbrev S128x384 : Shape := ⟨2, ![128, 384]⟩
abbrev S1x1x128x384 : Shape := ⟨4, ![1, 1, 128, 384]⟩

abbrev nBuf : Space → Nat
  | .hbm => 2
  | .vmem => 2
  | .smem => 1
  | _ => 0

abbrev bufTy : (tb : Table) → Fin (tcTables nBuf tb) → BufTy
  | .hbm, ⟨0, _⟩ => ⟨S16, .f32⟩
  | .hbm, ⟨1, _⟩ => ⟨S4x16x128x384, .f32⟩
  | .local _ .vmem, ⟨0, _⟩ => ⟨S4x1x128x384, .f32⟩
  | .local _ .vmem, ⟨1, _⟩ => ⟨S4x1x128x384, .f32⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x1x128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SwaBiasRefIdeal.lean ====
abbrev S16 : Shape := ⟨1, ![16]⟩
abbrev S16x1x1 : Shape := ⟨3, ![16, 1, 1]⟩
abbrev S128 : Shape := ⟨1, ![128]⟩
abbrev S_ : Shape := ⟨0, ![]⟩
abbrev S384 : Shape := ⟨1, ![384]⟩
abbrev S128x1 : Shape := ⟨2, ![128, 1]⟩
abbrev S1x384 : Shape := ⟨2, ![1, 384]⟩
abbrev S128x384 : Shape := ⟨2, ![128, 384]⟩
abbrev S1x128x384 : Shape := ⟨3, ![1, 128, 384]⟩
abbrev S16x128x384 : Shape := ⟨3, ![16, 128, 384]⟩
abbrev S1x16 : Shape := ⟨2, ![1, 16]⟩
abbrev S128x16 : Shape := ⟨2, ![128, 16]⟩
abbrev S1x128x16 : Shape := ⟨3, ![1, 128, 16]⟩
abbrev S16x128x16 : Shape := ⟨3, ![16, 128, 16]⟩
abbrev S16x128x48 : Shape := ⟨3, ![16, 128, 48]⟩
abbrev S16x64x320 : Shape := ⟨3, ![16, 64, 320]⟩
abbrev S16x64x16 : Shape := ⟨3, ![16, 64, 16]⟩
abbrev S16x64x48 : Shape := ⟨3, ![16, 64, 48]⟩
abbrev S16x64x384 : Shape := ⟨3, ![16, 64, 384]⟩
abbrev S16x64x64 : Shape := ⟨3, ![16, 64, 64]⟩
abbrev S16x64x256 : Shape := ⟨3, ![16, 64, 256]⟩
abbrev S1x16x128x384 : Shape := ⟨4, ![1, 16, 128, 384]⟩
abbrev S4x16x128x384 : Shape := ⟨4, ![4, 16, 128, 384]⟩

abbrev nBuf : Space → Nat
  | .hbm => 287
  | .vmem => 0
  | .smem => 0
  | _ => 0

abbrev hbmTy0_0 (i : Nat) : BufTy := match i % 128 with
  | 0 => ⟨S16, .f32⟩
  | 1 => ⟨S16x1x1, .f32⟩
  | 2 => ⟨S128, .i32⟩
  | 3 => ⟨S_, .i32⟩
  | 4 => ⟨S128, .i32⟩
  | 5 => ⟨S128, .i32⟩
  | 6 => ⟨S384, .i32⟩
  | 7 => ⟨S_, .i32⟩
  | 8 => ⟨S384, .i32⟩
  | 9 => ⟨S384, .i32⟩
  | 10 => ⟨S128x1, .i32⟩
  | 11 => ⟨S1x384, .i32⟩
  | 12 => ⟨S128x384, .i32⟩
  | 13 => ⟨S128x384, .i32⟩
  | 14 => ⟨S128x384, .i32⟩
  | 15 => ⟨S128x384, .i32⟩
  | 16 => ⟨S_, .i32⟩
  | 17 => ⟨S128x384, .i32⟩
  | 18 => ⟨S128x384, .i1⟩
  | 19 => ⟨S1x384, .i32⟩
  | 20 => ⟨S_, .i32⟩
  | 21 => ⟨S1x384, .i32⟩
  | 22 => ⟨S1x384, .i1⟩
  | 23 => ⟨S128x384, .i1⟩
  | 24 => ⟨S128x384, .i1⟩
  | 25 => ⟨S1x384, .i32⟩
  | 26 => ⟨S_, .i32⟩
  | 27 => ⟨S1x384, .i32⟩
  | 28 => ⟨S1x384, .i1⟩
  | 29 => ⟨S128x384, .i1⟩
  | 30 => ⟨S128x384, .i1⟩
  | 31 => ⟨S16x1x1, .f32⟩
  | 32 => ⟨S128x384, .f32⟩
  | 33 => ⟨S1x128x384, .f32⟩
  | 34 => ⟨S16x128x384, .f32⟩
  | 35 => ⟨S16x128x384, .f32⟩
  | 36 => ⟨S16x128x384, .f32⟩
  | 37 => ⟨S_, .f32⟩
  | 38 => ⟨S_, .f32⟩
  | 39 => ⟨S16x128x384, .i1⟩
  | 40 => ⟨S16x128x384, .f32⟩
  | 41 => ⟨S16x128x384, .f32⟩
  | 42 => ⟨S128x1, .i32⟩
  | 43 => ⟨S_, .i32⟩
  | 44 => ⟨S128x1, .i32⟩
  | 45 => ⟨S128x1, .i32⟩
  | 46 => ⟨S16, .i32⟩
  | 47 => ⟨S1x16, .i32⟩
  | 48 => ⟨S128x16, .i32⟩
  | 49 => ⟨S128x16, .i32⟩
  | 50 => ⟨S128x16, .i32⟩
  | 51 => ⟨S_, .i32⟩
  | 52 => ⟨S128x16, .i32⟩
  | 53 => ⟨S128x16, .i32⟩
  | 54 => ⟨S128x16, .f32⟩
  | 55 => ⟨S16x1x1, .f32⟩
  | 56 => ⟨S1x128x16, .f32⟩
  | 57 => ⟨S16x128x16, .f32⟩
  | 58 => ⟨S16x128x16, .f32⟩
  | 59 => ⟨S16x128x16, .f32⟩
  | 60 => ⟨S_, .f32⟩
  | 61 => ⟨S16x128x48, .f32⟩
  | 62 => ⟨S16x64x320, .f32⟩
  | 63 => ⟨S16x64x16, .f32⟩
  | 64 => ⟨S16x64x48, .f32⟩
  | 65 => ⟨S16x64x384, .f32⟩
  | 66 => ⟨S16x64x64, .f32⟩
  | 67 => ⟨S16x64x16, .f32⟩
  | 68 => ⟨S16x64x48, .f32⟩
  | 69 => ⟨S16x64x256, .f32⟩
  | 70 => ⟨S16x64x384, .f32⟩
  | 71 => ⟨S16x128x384, .f32⟩
  | 72 => ⟨S128, .i32⟩
  | 73 => ⟨S_, .i32⟩
  | 74 => ⟨S128, .i32⟩
  | 75 => ⟨S128, .i32⟩
  | 76 => ⟨S384, .i32⟩
  | 77 => ⟨S_, .i32⟩
  | 78 => ⟨S384, .i32⟩
  | 79 => ⟨S384, .i32⟩
  | 80 => ⟨S128x1, .i32⟩
  | 81 => ⟨S1x384, .i32⟩
  | 82 => ⟨S128x384, .i32⟩
  | 83 => ⟨S128x384, .i32⟩
  | 84 => ⟨S128x384, .i32⟩
  | 85 => ⟨S128x384, .i32⟩
  | 86 => ⟨S_, .i32⟩
  | 87 => ⟨S128x384, .i32⟩
  | 88 => ⟨S128x384, .i1⟩
  | 89 => ⟨S1x384, .i32⟩
  | 90 => ⟨S_, .i32⟩
  | 91 => ⟨S1x384, .i32⟩
  | 92 => ⟨S1x384, .i1⟩
  | 93 => ⟨S128x384, .i1⟩
  | 94 => ⟨S128x384, .i1⟩
  | 95 => ⟨S1x384, .i32⟩
  | 96 => ⟨S_, .i32⟩
  | 97 => ⟨S1x384, .i32⟩
  | 98 => ⟨S1x384, .i1⟩
  | 99 => ⟨S128x384, .i1⟩
  | 100 => ⟨S128x384, .i1⟩
  | 101 => ⟨S16x1x1, .f32⟩
  | 102 => ⟨S128x384, .f32⟩
  | 103 => ⟨S1x128x384, .f32⟩
  | 104 => ⟨S16x128x384, .f32⟩
  | 105 => ⟨S16x128x384, .f32⟩
  | 106 => ⟨S16x128x384, .f32⟩
  | 107 => ⟨S_, .f32⟩
  | 108 => ⟨S_, .f32⟩
  | 109 => ⟨S16x128x384, .i1⟩
  | 110 => ⟨S16x128x384, .f32⟩
  | 111 => ⟨S16x128x384, .f32⟩
  | 112 => ⟨S128x1, .i32⟩
  | 113 => ⟨S_, .i32⟩
  | 114 => ⟨S128x1, .i32⟩
  | 115 => ⟨S128x1, .i32⟩
  | 116 => ⟨S16, .i32⟩
  | 117 => ⟨S1x16, .i32⟩
  | 118 => ⟨S128x16, .i32⟩
  | 119 => ⟨S128x16, .i32⟩
  | 120 => ⟨S128x16, .i32⟩
  | 121 => ⟨S_, .i32⟩
  | 122 => ⟨S128x16, .i32⟩
  | 123 => ⟨S128x16, .i32⟩
  | 124 => ⟨S128x16, .f32⟩
  | 125 => ⟨S16x1x1, .f32⟩
  | 126 => ⟨S1x128x16, .f32⟩
  | 127 => ⟨S16x128x16, .f32⟩
  | _ => ⟨S16, .f32⟩

abbrev hbmTy0_1 (i : Nat) : BufTy := match i % 128 with
  | 0 => ⟨S16x128x16, .f32⟩
  | 1 => ⟨S16x128x16, .f32⟩
  | 2 => ⟨S_, .f32⟩
  | 3 => ⟨S16x128x48, .f32⟩
  | 4 => ⟨S16x64x320, .f32⟩
  | 5 => ⟨S16x64x16, .f32⟩
  | 6 => ⟨S16x64x48, .f32⟩
  | 7 => ⟨S16x64x384, .f32⟩
  | 8 => ⟨S16x64x64, .f32⟩
  | 9 => ⟨S16x64x16, .f32⟩
  | 10 => ⟨S16x64x48, .f32⟩
  | 11 => ⟨S16x64x256, .f32⟩
  | 12 => ⟨S16x64x384, .f32⟩
  | 13 => ⟨S16x128x384, .f32⟩
  | 14 => ⟨S128, .i32⟩
  | 15 => ⟨S_, .i32⟩
  | 16 => ⟨S128, .i32⟩
  | 17 => ⟨S128, .i32⟩
  | 18 => ⟨S384, .i32⟩
  | 19 => ⟨S_, .i32⟩
  | 20 => ⟨S384, .i32⟩
  | 21 => ⟨S384, .i32⟩
  | 22 => ⟨S128x1, .i32⟩
  | 23 => ⟨S1x384, .i32⟩
  | 24 => ⟨S128x384, .i32⟩
  | 25 => ⟨S128x384, .i32⟩
  | 26 => ⟨S128x384, .i32⟩
  | 27 => ⟨S128x384, .i32⟩
  | 28 => ⟨S_, .i32⟩
  | 29 => ⟨S128x384, .i32⟩
  | 30 => ⟨S128x384, .i1⟩
  | 31 => ⟨S1x384, .i32⟩
  | 32 => ⟨S_, .i32⟩
  | 33 => ⟨S1x384, .i32⟩
  | 34 => ⟨S1x384, .i1⟩
  | 35 => ⟨S128x384, .i1⟩
  | 36 => ⟨S128x384, .i1⟩
  | 37 => ⟨S1x384, .i32⟩
  | 38 => ⟨S_, .i32⟩
  | 39 => ⟨S1x384, .i32⟩
  | 40 => ⟨S1x384, .i1⟩
  | 41 => ⟨S128x384, .i1⟩
  | 42 => ⟨S128x384, .i1⟩
  | 43 => ⟨S16x1x1, .f32⟩
  | 44 => ⟨S128x384, .f32⟩
  | 45 => ⟨S1x128x384, .f32⟩
  | 46 => ⟨S16x128x384, .f32⟩
  | 47 => ⟨S16x128x384, .f32⟩
  | 48 => ⟨S16x128x384, .f32⟩
  | 49 => ⟨S_, .f32⟩
  | 50 => ⟨S_, .f32⟩
  | 51 => ⟨S16x128x384, .i1⟩
  | 52 => ⟨S16x128x384, .f32⟩
  | 53 => ⟨S16x128x384, .f32⟩
  | 54 => ⟨S128x1, .i32⟩
  | 55 => ⟨S_, .i32⟩
  | 56 => ⟨S128x1, .i32⟩
  | 57 => ⟨S128x1, .i32⟩
  | 58 => ⟨S16, .i32⟩
  | 59 => ⟨S1x16, .i32⟩
  | 60 => ⟨S128x16, .i32⟩
  | 61 => ⟨S128x16, .i32⟩
  | 62 => ⟨S128x16, .i32⟩
  | 63 => ⟨S_, .i32⟩
  | 64 => ⟨S128x16, .i32⟩
  | 65 => ⟨S128x16, .i32⟩
  | 66 => ⟨S128x16, .f32⟩
  | 67 => ⟨S16x1x1, .f32⟩
  | 68 => ⟨S1x128x16, .f32⟩
  | 69 => ⟨S16x128x16, .f32⟩
  | 70 => ⟨S16x128x16, .f32⟩
  | 71 => ⟨S16x128x16, .f32⟩
  | 72 => ⟨S_, .f32⟩
  | 73 => ⟨S16x128x48, .f32⟩
  | 74 => ⟨S16x64x320, .f32⟩
  | 75 => ⟨S16x64x16, .f32⟩
  | 76 => ⟨S16x64x48, .f32⟩
  | 77 => ⟨S16x64x384, .f32⟩
  | 78 => ⟨S16x64x64, .f32⟩
  | 79 => ⟨S16x64x16, .f32⟩
  | 80 => ⟨S16x64x48, .f32⟩
  | 81 => ⟨S16x64x256, .f32⟩
  | 82 => ⟨S16x64x384, .f32⟩
  | 83 => ⟨S16x128x384, .f32⟩
  | 84 => ⟨S128, .i32⟩
  | 85 => ⟨S_, .i32⟩
  | 86 => ⟨S128, .i32⟩
  | 87 => ⟨S128, .i32⟩
  | 88 => ⟨S384, .i32⟩
  | 89 => ⟨S_, .i32⟩
  | 90 => ⟨S384, .i32⟩
  | 91 => ⟨S384, .i32⟩
  | 92 => ⟨S128x1, .i32⟩
  | 93 => ⟨S1x384, .i32⟩
  | 94 => ⟨S128x384, .i32⟩
  | 95 => ⟨S128x384, .i32⟩
  | 96 => ⟨S128x384, .i32⟩
  | 97 => ⟨S128x384, .i32⟩
  | 98 => ⟨S_, .i32⟩
  | 99 => ⟨S128x384, .i32⟩
  | 100 => ⟨S128x384, .i1⟩
  | 101 => ⟨S1x384, .i32⟩
  | 102 => ⟨S_, .i32⟩
  | 103 => ⟨S1x384, .i32⟩
  | 104 => ⟨S1x384, .i1⟩
  | 105 => ⟨S128x384, .i1⟩
  | 106 => ⟨S128x384, .i1⟩
  | 107 => ⟨S1x384, .i32⟩
  | 108 => ⟨S_, .i32⟩
  | 109 => ⟨S1x384, .i32⟩
  | 110 => ⟨S1x384, .i1⟩
  | 111 => ⟨S128x384, .i1⟩
  | 112 => ⟨S128x384, .i1⟩
  | 113 => ⟨S16x1x1, .f32⟩
  | 114 => ⟨S128x384, .f32⟩
  | 115 => ⟨S1x128x384, .f32⟩
  | 116 => ⟨S16x128x384, .f32⟩
  | 117 => ⟨S16x128x384, .f32⟩
  | 118 => ⟨S16x128x384, .f32⟩
  | 119 => ⟨S_, .f32⟩
  | 120 => ⟨S_, .f32⟩
  | 121 => ⟨S16x128x384, .i1⟩
  | 122 => ⟨S16x128x384, .f32⟩
  | 123 => ⟨S16x128x384, .f32⟩
  | 124 => ⟨S128x1, .i32⟩
  | 125 => ⟨S_, .i32⟩
  | 126 => ⟨S128x1, .i32⟩
  | 127 => ⟨S128x1, .i32⟩
  | _ => ⟨S16, .f32⟩

abbrev hbmTy0_2 (i : Nat) : BufTy := match i % 128 with
  | 0 => ⟨S16, .i32⟩
  | 1 => ⟨S1x16, .i32⟩
  | 2 => ⟨S128x16, .i32⟩
  | 3 => ⟨S128x16, .i32⟩
  | 4 => ⟨S128x16, .i32⟩
  | 5 => ⟨S_, .i32⟩
  | 6 => ⟨S128x16, .i32⟩
  | 7 => ⟨S128x16, .i32⟩
  | 8 => ⟨S128x16, .f32⟩
  | 9 => ⟨S16x1x1, .f32⟩
  | 10 => ⟨S1x128x16, .f32⟩
  | 11 => ⟨S16x128x16, .f32⟩
  | 12 => ⟨S16x128x16, .f32⟩
  | 13 => ⟨S16x128x16, .f32⟩
  | 14 => ⟨S_, .f32⟩
  | 15 => ⟨S16x128x48, .f32⟩
  | 16 => ⟨S16x64x320, .f32⟩
  | 17 => ⟨S16x64x16, .f32⟩
  | 18 => ⟨S16x64x48, .f32⟩
  | 19 => ⟨S16x64x384, .f32⟩
  | 20 => ⟨S16x64x64, .f32⟩
  | 21 => ⟨S16x64x16, .f32⟩
  | 22 => ⟨S16x64x48, .f32⟩
  | 23 => ⟨S16x64x256, .f32⟩
  | 24 => ⟨S16x64x384, .f32⟩
  | 25 => ⟨S16x128x384, .f32⟩
  | 26 => ⟨S1x16x128x384, .f32⟩
  | 27 => ⟨S1x16x128x384, .f32⟩
  | 28 => ⟨S1x16x128x384, .f32⟩
  | 29 => ⟨S1x16x128x384, .f32⟩
  | 30 => ⟨S4x16x128x384, .f32⟩
  | _ => ⟨S16, .f32⟩

abbrev hbmTy (i : Nat) : BufTy := match i / 128 with
  | 0 => hbmTy0_0 i
  | 1 => hbmTy0_1 i
  | 2 => hbmTy0_2 i
  | _ => ⟨S16, .f32⟩

abbrev bufTy : (tb : Table) → Fin (tcTables nBuf tb) → BufTy
  | .hbm, ⟨i, _⟩ => hbmTy i
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_c_8 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_c_9 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_c_10 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_c_11 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_12 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v89 : Ref sig .tc := ⟨.hbm, 111, rfl⟩
abbrev main_v90 : Ref sig .tc := ⟨.hbm, 112, rfl⟩
abbrev main_c_13 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_c_14 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_15 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_c_16 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_c_17 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_c_18 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_c_19 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_c_20 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_cst_21 : Ref sig .tc := ⟨.hbm, 177, rfl⟩
abbrev main_call2_v0 : Ref sig .tc := ⟨.hbm, 178, rfl⟩
abbrev main_call2_v1 : Ref sig .tc := ⟨.hbm, 179, rfl⟩
abbrev main_call2_v2 : Ref sig .tc := ⟨.hbm, 180, rfl⟩
abbrev main_v147 : Ref sig .tc := ⟨.hbm, 181, rfl⟩
abbrev main_v148 : Ref sig .tc := ⟨.hbm, 182, rfl⟩
abbrev main_c_22 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_c_23 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_cst_24 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_c_25 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_c_26 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_c_27 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_c_28 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_c_29 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_cst_30 : Ref sig .tc := ⟨.hbm, 247, rfl⟩
abbrev main_call3_v0 : Ref sig .tc := ⟨.hbm, 248, rfl⟩
abbrev main_call3_v1 : Ref sig .tc := ⟨.hbm, 249, rfl⟩
abbrev main_call3_v2 : Ref sig .tc := ⟨.hbm, 250, rfl⟩
abbrev main_v205 : Ref sig .tc := ⟨.hbm, 251, rfl⟩
abbrev main_v206 : Ref sig .tc := ⟨.hbm, 252, rfl⟩
abbrev main_c_31 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_c_32 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_cst_33 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩

abbrev nD : Nat := 1
abbrev τ : Topo := Topo.v7x

variable {F : FTy → Type} [FloatOps F]
-- ==== MetaNorm.lean ====
abbrev S16x4096 : Shape := ⟨2, ![16, 4096]⟩
abbrev S1x4096 : Shape := ⟨2, ![1, 4096]⟩
abbrev S_ : Shape := ⟨0, ![]⟩
abbrev S96x4096 : Shape := ⟨2, ![96, 4096]⟩
abbrev S128x4096 : Shape := ⟨2, ![128, 4096]⟩
abbrev S4096 : Shape := ⟨1, ![4096]⟩
abbrev S128 : Shape := ⟨1, ![128]⟩
abbrev S128x1 : Shape := ⟨2, ![128, 1]⟩

abbrev nBuf : Space → Nat
  | .hbm => 8
  | .vmem => 3
  | .smem => 0
  | _ => 0

abbrev bufTy : (tb : Table) → Fin (tcTables nBuf tb) → BufTy
  | .hbm, ⟨0, _⟩ => ⟨S16x4096, .f32⟩
  | .hbm, ⟨1, _⟩ => ⟨S1x4096, .f32⟩
  | .hbm, ⟨2, _⟩ => ⟨S_, .f32⟩
  | .hbm, ⟨3, _⟩ => ⟨S96x4096, .f32⟩
  | .hbm, ⟨4, _⟩ => ⟨S128x4096, .f32⟩
  | .hbm, ⟨5, _⟩ => ⟨S4096, .f32⟩
  | .hbm, ⟨6, _⟩ => ⟨S1x4096, .f32⟩
  | .hbm, ⟨7, _⟩ => ⟨S128x4096, .bf16⟩
  | .local _ .vmem, ⟨0, _⟩ => ⟨S128x4096, .f32⟩
  | .local _ .vmem, ⟨1, _⟩ => ⟨S1x4096, .f32⟩
  | .local _ .vmem, ⟨2, _⟩ => ⟨S128x4096, .bf16⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== MetaNormRefIdeal.lean ====
abbrev S16x4096 : Shape := ⟨2, ![16, 4096]⟩
abbrev S1x4096 : Shape := ⟨2, ![1, 4096]⟩
abbrev S4096 : Shape := ⟨1, ![4096]⟩
abbrev S_ : Shape := ⟨0, ![]⟩
abbrev S16 : Shape := ⟨1, ![16]⟩
abbrev S16x1 : Shape := ⟨2, ![16, 1]⟩
abbrev S96x4096 : Shape := ⟨2, ![96, 4096]⟩
abbrev S128x4096 : Shape := ⟨2, ![128, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S1x4096, .f32⟩
  | .hbm, ⟨2, _⟩ => ⟨S4096, .f32⟩
  | .hbm, ⟨3, _⟩ => ⟨S16x4096, .f32⟩
  | .hbm, ⟨4, _⟩ => ⟨S_, .f32⟩
  | .hbm, ⟨5, _⟩ => ⟨S16, .f32⟩
  | .hbm, ⟨6, _⟩ => ⟨S16x1, .f32⟩
  | .hbm, ⟨7, _⟩ => ⟨S_, .f32⟩
  | .hbm, ⟨8, _⟩ => ⟨S16x1, .f32⟩
  | .hbm, ⟨9, _⟩ => ⟨S16x1, .f32⟩
  | .hbm, ⟨10, _⟩ => ⟨S_, .f32⟩
  | .hbm, ⟨11, _⟩ => ⟨S16x1, .f32⟩
  | .hbm, ⟨12, _⟩ => ⟨S16x1, .f32⟩
  | .hbm, ⟨13, _⟩ => ⟨S16x1, .f32⟩
  | .hbm, ⟨14, _⟩ => ⟨S16x4096, .f32⟩
  | .hbm, ⟨15, _⟩ => ⟨S16x4096, .f32⟩
  | .hbm, ⟨16, _⟩ => ⟨S1x4096, .f32⟩
  | .hbm, ⟨17, _⟩ => ⟨S16x4096, .f32⟩
  | .hbm, ⟨18, _⟩ => ⟨S16x4096, .f32⟩
  | .hbm, ⟨19, _⟩ => ⟨S_, .f32⟩
  | .hbm, ⟨20, _⟩ => ⟨S96x4096, .f32⟩
  | .hbm, ⟨21, _⟩ => ⟨S128x4096, .f32⟩
  | .hbm, ⟨22, _⟩ => ⟨S128x4096, .bf16⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== MetaProject.lean ====
abbrev S128x4096 : Shape := ⟨2, ![128, 4096]⟩
abbrev S1x4096x9216 : Shape := ⟨3, ![1, 4096, 9216]⟩
abbrev S1x9216 : Shape := ⟨2, ![1, 9216]⟩
abbrev S4096x9216 : Shape := ⟨2, ![4096, 9216]⟩
abbrev S128x5120 : Shape := ⟨2, ![128, 5120]⟩
abbrev S4096x1024 : Shape := ⟨2, ![4096, 1024]⟩
abbrev S1x1024 : Shape := ⟨2, ![1, 1024]⟩
abbrev S128x1024 : Shape := ⟨2, ![128, 1024]⟩

abbrev nBuf : Space → Nat
  | .hbm => 5
  | .vmem => 7
  | .smem => 0
  | _ => 0

abbrev bufTy : (tb : Table) → Fin (tcTables nBuf tb) → BufTy
  | .hbm, ⟨0, _⟩ => ⟨S128x4096, .bf16⟩
  | .hbm, ⟨1, _⟩ => ⟨S1x4096x9216, .f32⟩
  | .hbm, ⟨2, _⟩ => ⟨S1x9216, .f32⟩
  | .hbm, ⟨3, _⟩ => ⟨S4096x9216, .f32⟩
  | .hbm, ⟨4, _⟩ => ⟨S128x5120, .bf16⟩
  | .local _ .vmem, ⟨0, _⟩ => ⟨S128x4096, .bf16⟩
  | .local _ .vmem, ⟨1, _⟩ => ⟨S4096x1024, .f32⟩
  | .local _ .vmem, ⟨2, _⟩ => ⟨S4096x1024, .f32⟩
  | .local _ .vmem, ⟨3, _⟩ => ⟨S1x1024, .f32⟩
  | .local _ .vmem, ⟨4, _⟩ => ⟨S1x1024, .f32⟩
  | .local _ .vmem, ⟨5, _⟩ => ⟨S128x1024, .bf16⟩
  | .local _ .vmem, ⟨6, _⟩ => ⟨S128x1024, .bf16⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c2_i32 : BitVec 32 := 2#32
  let v1 : BitVec 32 := Scalar.addi arg1 c2_i32
  let c8_i32 : BitVec 32 := 8#32
  let v2 : BitVec 32 := Scalar.select v0 v1 c8_i32
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c2_i32 : BitVec 32 := 2#32
  let v1 : BitVec 32 := Scalar.addi arg1 c2_i32
  let c8_i32 : BitVec 32 := 8#32
  let v2 : BitVec 32 := Scalar.select v0 v1 c8_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MetaProjectRefIdeal.lean ====
abbrev S128x4096 : Shape := ⟨2, ![128, 4096]⟩
abbrev S1x4096x9216 : Shape := ⟨3, ![1, 4096, 9216]⟩
abbrev S4096x9216 : Shape := ⟨2, ![4096, 9216]⟩
abbrev S128x9216 : Shape := ⟨2, ![128, 9216]⟩
abbrev S128x2048 : Shape := ⟨2, ![128, 2048]⟩
abbrev S128x1024 : Shape := ⟨2, ![128, 1024]⟩
abbrev S128x5120 : Shape := ⟨2, ![128, 5120]⟩

abbrev nBuf : Space → Nat
  | .hbm => 11
  | .vmem => 0
  | .smem => 0
  | _ => 0

abbrev bufTy : (tb : Table) → Fin (tcTables nBuf tb) → BufTy
  | .hbm, ⟨0, _⟩ => ⟨S128x4096, .bf16⟩
  | .hbm, ⟨1, _⟩ => ⟨S1x4096x9216, .f32⟩
  | .hbm, ⟨2, _⟩ => ⟨S128x4096, .f32⟩
  | .hbm, ⟨3, _⟩ => ⟨S4096x9216, .f32⟩
  | .hbm, ⟨4, _⟩ => ⟨S128x9216, .f32⟩
  | .hbm, ⟨5, _⟩ => ⟨S128x2048, .f32⟩
  | .hbm, ⟨6, _⟩ => ⟨S128x4096, .f32⟩
  | .hbm, ⟨7, _⟩ => ⟨S128x2048, .f32⟩
  | .hbm, ⟨8, _⟩ => ⟨S128x1024, .f32⟩
  | .hbm, ⟨9, _⟩ => ⟨S128x5120, .f32⟩
  | .hbm, ⟨10, _⟩ => ⟨S128x5120, .bf16⟩
  | _, _ => ⟨S128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Proof.Words.lean ====
/- The counters the row-streaming loop of `post_ffn` carries, in closed form.

   The loop makes 64 trips. Before trip `k` its eleven carried words are functions of `k` alone: the three input
   rings' issue counters, their wait counters, the output ring's counters, and the block index. This module gives
   those words, the branch conditions at them, the printed in-bounds checks at them, and the offsets they compute.
   Every statement is about one of 64 trips, and is decided by evaluation. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Ring
public import Idealize.ShloMosaic.Lib.Affine
public import Idealize.ShloMosaic.Lib.Tactic

@[expose] public section

noncomputable section

namespace Cert.Proof.Post2

open Cert.KernelIdeal Cert.KernelIdeal.Gen
open Idealize.ShloMosaic

/-- The loop makes 64 trips. -/
theorem trips_eq : k0_t1_loop.trips = 64 := by decide

/-- The issue counters of the input rings before trip `k` (two blocks ahead). -/
def wIn (k : ℕ) : BitVec 32 := BitVec.ofNat 32 (min (k + 2) 64)
/-- The wait counters of the input rings, and the output ring's issue counter, before trip `k`. -/
def wK (k : ℕ) : BitVec 32 := BitVec.ofNat 32 k
/-- The gain vectors' counters: they move only at the last trip. -/
def wG (k : ℕ) : BitVec 32 := BitVec.ofNat 32 (k / 64)
/-- The output ring's wait counter before trip `k`. -/
def wO (k : ℕ) : BitVec 32 := BitVec.ofNat 32 (k - 1)
/-- The block index before trip `k`: it returns to zero after the last. -/
def wB (k : ℕ) : BitVec 32 := BitVec.ofNat 32 (k % 64)

/-! ## Checks -/

theorem chk1_at : ∀ k : Fin k0_t1_loop.trips, k0_chk1 k (wIn k.val) (wK k.val) (wIn k.val) (wK k.val) (wIn k.val) (wK k.val) (wK k.val) (wO k.val) (wB k.val) := by decide +kernel
theorem chk2_at : ∀ k : Fin k0_t1_loop.trips, k0_chk2 (wK k.val) := by decide +kernel
theorem chk3_at : ∀ k : Fin k0_t1_loop.trips, k0_chk3 (wK k.val) := by decide +kernel
theorem chk4_at : ∀ k : Fin k0_t1_loop.trips, k0_chk4 (wK k.val) := by decide +kernel
theorem chk5_at : ∀ k : Fin k0_t1_loop.trips, k0_chk5 (wK k.val) := by decide +kernel
theorem chk6_end : k0_chk6 (wO 64) := by decide +kernel
theorem chk7_end : k0_chk7 (wB 64) := by decide +kernel

/-! ## Conditions -/

theorem cond4_lo : ∀ k : Fin k0_t1_loop.trips, k.val < 62 → k0_cond4 k (wB k.val) = 1#1 := by decide +kernel
theorem cond5_lo : ∀ k : Fin k0_t1_loop.trips, k.val < 62 → k0_cond5 k (wB k.val) = 1#1 := by decide +kernel
theorem cond6_lo : ∀ k : Fin k0_t1_loop.trips, k.val < 62 → k0_cond6 k (wB k.val) = 1#1 := by decide +kernel
theorem cond4_hi : ∀ k : Fin k0_t1_loop.trips, 62 ≤ k.val → ¬ k0_cond4 k (wB k.val) = 1#1 := by decide +kernel
theorem cond5_hi : ∀ k : Fin k0_t1_loop.trips, 62 ≤ k.val → ¬ k0_cond5 k (wB k.val) = 1#1 := by decide +kernel
theorem cond6_hi : ∀ k : Fin k0_t1_loop.trips, 62 ≤ k.val → ¬ k0_cond6 k (wB k.val) = 1#1 := by decide +kernel
theorem cond7_at : ∀ k : Fin k0_t1_loop.trips, k0_cond7 k (wB k.val) = 1#1 := by decide +kernel
theorem cond8_at : ∀ k : Fin k0_t1_loop.trips, k0_cond8 k (wB k.val) = 1#1 := by decide +kernel
theorem cond9_at : ∀ k : Fin k0_t1_loop.trips, k0_cond9 k (wB k.val) = 1#1 := by decide +kernel
theorem cond14_at : ∀ k : Fin k0_t1_loop.trips, k0_cond14 k (wB k.val) = 1#1 := by decide +kernel
theorem cond18_zero : ∀ k : Fin k0_t1_loop.trips, k.val = 0 → ¬ k0_cond18 k (wB k.val) = 1#1 := by decide +kernel
theorem cond18_pos : ∀ k : Fin k0_t1_loop.trips, 1 ≤ k.val → k0_cond18 k (wB k.val) = 1#1 := by decide +kernel
theorem cond1_at : k0_cond1 = 1#1 := by decide +kernel
theorem cond2_at : k0_cond2 = 1#1 := by decide +kernel
theorem cond3_at : k0_cond3 = 1#1 := by decide +kernel

/-! ## Canonical offsets -/

/-- Row block `b` of a 4096-column array. -/
abbrev blkOff (b : Fin 64) : Fin 2 → Nat := ![256 * b.val, 0]
/-- Slot `s` of a three-slot ring. -/
abbrev slotOff (s : Fin 3) : Fin 3 → Nat := ![s.val, 0, 0]
/-- Slot `s` of the two-slot ring. -/
abbrev slotOff2 (s : Fin 2) : Fin 3 → Nat := ![s.val, 0, 0]
abbrev semOff (s : Fin 3) : Fin 1 → Nat := ![s.val]
abbrev semOff2 (s : Fin 2) : Fin 1 → Nat := ![s.val]

theorem off12_eq : ∀ k : Fin k0_t1_loop.trips, k.val < 62 → k0_off12 (wIn k.val) = semOff (Ring.sl 3 (k.val + 2)) := by decide +kernel
theorem off15_eq : ∀ k : Fin k0_t1_loop.trips, k.val < 62 → k0_off15 (wIn k.val) = semOff (Ring.sl 3 (k.val + 2)) := by decide +kernel
theorem off18_eq : ∀ k : Fin k0_t1_loop.trips, k.val < 62 → k0_off18 (wIn k.val) = semOff (Ring.sl 3 (k.val + 2)) := by decide +kernel
theorem off13_eq : ∀ k : Fin k0_t1_loop.trips, k.val < 62 → k0_off13 (wIn k.val) = slotOff (Ring.sl 3 (k.val + 2)) := by decide +kernel
theorem off16_eq : ∀ k : Fin k0_t1_loop.trips, k.val < 62 → k0_off16 (wIn k.val) = slotOff (Ring.sl 3 (k.val + 2)) := by decide +kernel
theorem off19_eq : ∀ k : Fin k0_t1_loop.trips, k.val < 62 → k0_off19 (wIn k.val) = slotOff (Ring.sl 3 (k.val + 2)) := by decide +kernel
theorem off14_eq : ∀ k : Fin k0_t1_loop.trips, k.val < 62 → k0_off14 (wB k.val) = blkOff (Ring.bk 64 (k.val + 2)) := by decide +kernel
theorem off17_eq : ∀ k : Fin k0_t1_loop.trips, k.val < 62 → k0_off17 (wB k.val) = blkOff (Ring.bk 64 (k.val + 2)) := by decide +kernel
theorem off20_eq : ∀ k : Fin k0_t1_loop.trips, k.val < 62 → k0_off20 (wB k.val) = blkOff (Ring.bk 64 (k.val + 2)) := by decide +kernel

theorem off21_eq : ∀ k : Fin k0_t1_loop.trips, k0_off21 (wK k.val) = semOff (Ring.sl 3 k.val) := by decide +kernel
theorem off24_eq : ∀ k : Fin k0_t1_loop.trips, k0_off24 (wK k.val) = semOff (Ring.sl 3 k.val) := by decide +kernel
theorem off27_eq : ∀ k : Fin k0_t1_loop.trips, k0_off27 (wK k.val) = semOff (Ring.sl 3 k.val) := by decide +kernel
theorem off22_eq : ∀ k : Fin k0_t1_loop.trips, k0_off22 (wK k.val) = slotOff (Ring.sl 3 k.val) := by decide +kernel
theorem off25_eq : ∀ k : Fin k0_t1_loop.trips, k0_off25 (wK k.val) = slotOff (Ring.sl 3 k.val) := by decide +kernel
theorem off28_eq : ∀ k : Fin k0_t1_loop.trips, k0_off28 (wK k.val) = slotOff (Ring.sl 3 k.val) := by decide +kernel
theorem off23_eq : ∀ k : Fin k0_t1_loop.trips, k0_off23 (wB k.val) = blkOff (Ring.bk 64 k.val) := by decide +kernel
theorem off26_eq : ∀ k : Fin k0_t1_loop.trips, k0_off26 (wB k.val) = blkOff (Ring.bk 64 k.val) := by decide +kernel
theorem off29_eq : ∀ k : Fin k0_t1_loop.trips, k0_off29 (wB k.val) = blkOff (Ring.bk 64 k.val) := by decide +kernel

theorem off30_eq : ∀ k : Fin k0_t1_loop.trips, k0_off30 (wK k.val) = slotOff (Ring.sl 3 k.val) := by decide +kernel
theorem off31_eq : ∀ k : Fin k0_t1_loop.trips, k0_off31 (wK k.val) = slotOff (Ring.sl 3 k.val) := by decide +kernel
theorem off32_eq : ∀ k : Fin k0_t1_loop.trips, k0_off32 (wK k.val) = slotOff (Ring.sl 3 k.val) := by decide +kernel
theorem off33_eq : ∀ k : Fin k0_t1_loop.trips, k0_off33 (wK k.val) = slotOff2 (Ring.sl 2 k.val) := by decide +kernel

theorem off34_eq : ∀ k : Fin k0_t1_loop.trips, k0_off34 (wK k.val) = semOff2 (Ring.sl 2 k.val) := by decide +kernel
theorem off35_eq : ∀ k : Fin k0_t1_loop.trips, k0_off35 (wB k.val) = blkOff (Ring.bk 64 k.val) := by decide +kernel
theorem off36_eq : ∀ k : Fin k0_t1_loop.trips, k0_off36 (wK k.val) = slotOff2 (Ring.sl 2 k.val) := by decide +kernel
theorem off37_eq : ∀ k : Fin k0_t1_loop.trips, 1 ≤ k.val → k0_off37 (wO k.val) = semOff2 (Ring.sl 2 (k.val + 1)) := by decide +kernel
theorem off38_eq : ∀ k : Fin k0_t1_loop.trips, 1 ≤ k.val → k0_off38 (wB k.val) = blkOff (Ring.bk 64 (k.val - 1)) := by decide +kernel
theorem off39_eq : ∀ k : Fin k0_t1_loop.trips, 1 ≤ k.val → k0_off39 (wO k.val) = slotOff2 (Ring.sl 2 (k.val + 1)) := by decide +kernel

theorem off40_eq : k0_off40 (wO 64) = semOff2 1 := by decide +kernel
theorem off41_eq : k0_off41 (wB 64) = blkOff 63 := by decide +kernel
theorem off42_eq : k0_off42 (wO 64) = slotOff2 1 := by decide +kernel

end Cert.Proof.Post2

end
-- ==== Proof.Names.lean ====
/- Canonical names for what the row-streaming loop of `post_ffn` moves: the row blocks of the three inputs and of
   the result, the slots of the four rings, their semaphores; and the equations by which the slices the kernel
   computes from its counters are those. -/
module

public import proofs.«01_k».proof.Proof.Words
public import Idealize.ShloMosaic.Lib.Pipeline.Quiescent

@[expose] public section

noncomputable section

namespace Cert.Proof.Post2

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := Pipeline.UD sig nD τ
local notation "𝕄" => MT nD τ sig Unit (Elt F) ℕ (UU nD τ) ℕ
abbrev 𝒱₀ : Variants := Variants.none

theorem blkOff_inb (b : Fin 64) : ∀ a, blkOff b a + S256x4096.size a ≤ S16384x4096.size a := by
  have := b.isLt; intro a; fin_cases a
  · show 256 * b.val + 256 ≤ 16384; omega
  · show 0 + 4096 ≤ 4096; omega
theorem blkOff_inb' (b : Fin 64) : ∀ a, blkOff b a + S256x4096.size a ≤ S24576x4096.size a := by
  have := b.isLt; intro a; fin_cases a
  · show 256 * b.val + 256 ≤ 24576; omega
  · show 0 + 4096 ≤ 4096; omega
theorem slotOff_inb (s : Fin 3) : ∀ a, slotOff s a + S1x256x4096.size a ≤ S3x256x4096.size a := by
  have := s.isLt; intro a; fin_cases a
  · show s.val + 1 ≤ 3; omega
  · show 0 + 256 ≤ 256; omega
  · show 0 + 4096 ≤ 4096; omega
theorem slotOff2_inb (s : Fin 2) : ∀ a, slotOff2 s a + S1x256x4096.size a ≤ S2x256x4096.size a := by
  have := s.isLt; intro a; fin_cases a
  · show s.val + 1 ≤ 2; omega
  · show 0 + 256 ≤ 256; omega
  · show 0 + 4096 ≤ 4096; omega
theorem semOff_inb (s : Fin 3) : ∀ a, semOff s a + S1.size a ≤ S3.size a := by
  have := s.isLt; intro a; fin_cases a; show s.val + 1 ≤ 3; omega
theorem semOff2_inb (s : Fin 2) : ∀ a, semOff2 s a + S1.size a ≤ S2.size a := by
  have := s.isLt; intro a; fin_cases a; show s.val + 1 ≤ 2; omega

instance (s : Fin 3) : ClosedOff (slotOff s) := ⟨slotOff s, rfl⟩
instance (s : Fin 2) : ClosedOff (slotOff2 s) := ⟨slotOff2 s, rfl⟩
instance (b : Fin 64) : ClosedOff (blkOff b) := ⟨blkOff b, rfl⟩
instance (k : Fin k0_t1_loop.trips) : ClosedOff (k0_off30 (wK k.val)) := ⟨slotOff (Ring.sl 3 k.val), off30_eq k⟩
instance (k : Fin k0_t1_loop.trips) : ClosedOff (k0_off31 (wK k.val)) := ⟨slotOff (Ring.sl 3 k.val), off31_eq k⟩
instance (k : Fin k0_t1_loop.trips) : ClosedOff (k0_off32 (wK k.val)) := ⟨slotOff (Ring.sl 3 k.val), off32_eq k⟩
instance (k : Fin k0_t1_loop.trips) : ClosedOff (k0_off33 (wK k.val)) := ⟨slotOff2 (Ring.sl 2 k.val), off33_eq k⟩

/-! ## The ring of `x` -/

abbrev xM : Memref sig .tc .hbm S16384x4096 .f32 := Memref.whole main_arg0
abbrev xB : Memref sig .tc .vmem S3x256x4096 .f32 := Memref.whole cc0_scoped0
/-- Row block `b` of `x`. -/
def xblk (b : Fin 64) : Memref sig .tc .hbm S256x4096 .f32 :=
  xM.slice (Rect.unit (s := S16384x4096) (blkOff b) S256x4096.size (blkOff_inb b)) (fun _ => rfl)
/-- Slot `s` of its ring. -/
def xslot (s : Fin 3) : Memref sig .tc .vmem S256x4096 .f32 :=
  (xB.slice (Rect.unit (s := S3x256x4096) (slotOff s) S1x256x4096.size (slotOff_inb s)) (fun _ => rfl)).squeeze S256x4096 squeezes_S1x256x4096_S256x4096
/-- Slot `s`'s semaphore. -/
def xsem (s : Fin 3) : DmaSems sig S_ := (cc0_scoped1.slice (Rect.unit (s := S3) (semOff s) S1.size (semOff_inb s))).squeeze S_ squeezes_S1_S_

theorem xsem_congr {off : Fin 1 → Nat} {s : Fin 3} (e : off = semOff s) (hh) :
    (cc0_scoped1.slice (Rect.unit (s := S3) off S1.size hh)).squeeze S_ squeezes_S1_S_ = xsem s :=
  congrArg (fun A : DmaSems sig S1 => A.squeeze S_ squeezes_S1_S_) (SemArray.slice_unit_congr _ e _ _)
theorem xslot_congr {off : Fin 3 → Nat} {s : Fin 3} (e : off = slotOff s) (hh hs) :
    (xB.slice (Rect.unit (s := S3x256x4096) off S1x256x4096.size hh) hs).squeeze S256x4096 squeezes_S1x256x4096_S256x4096 = xslot s :=
  congrArg (fun M : Memref sig .tc .vmem S1x256x4096 .f32 => M.squeeze S256x4096 squeezes_S1x256x4096_S256x4096) (Memref.slice_unit_congr _ e _ _ _ _)
theorem xblk_congr {off : Fin 2 → Nat} {b : Fin 64} (e : off = blkOff b) (hh hs) :
    xM.slice (Rect.unit (s := S16384x4096) off S256x4096.size hh) hs = xblk b :=
  Memref.slice_unit_congr _ e _ _ _ (fun _ => rfl)

@[sl_canon] theorem xsemL0 (hh) : (cc0_scoped1.slice (Rect.unit (s := S3) k0_off1 S1.size hh)).squeeze S_ squeezes_S1_S_ = xsem 0 := xsem_congr (by decide +kernel) _
@[sl_canon] theorem xslotL0 (hh hs) : (xB.slice (Rect.unit (s := S3x256x4096) k0_off2 S1x256x4096.size hh) hs).squeeze S256x4096 squeezes_S1x256x4096_S256x4096 = xslot 0 := xslot_congr (by decide +kernel) _ _
@[sl_canon] theorem xblkL0 (hh hs) : xM.slice (Rect.unit (s := S16384x4096) ![0, 0] S256x4096.size hh) hs = xblk 0 := xblk_congr (by decide +kernel) _ _
@[sl_canon] theorem xsemL1 (hh) : (cc0_scoped1.slice (Rect.unit (s := S3) k0_off3 S1.size hh)).squeeze S_ squeezes_S1_S_ = xsem 1 := xsem_congr (by decide +kernel) _
@[sl_canon] theorem xslotL1 (hh hs) : (xB.slice (Rect.unit (s := S3x256x4096) k0_off4 S1x256x4096.size hh) hs).squeeze S256x4096 squeezes_S1x256x4096_S256x4096 = xslot 1 := xslot_congr (by decide +kernel) _ _
@[sl_canon] theorem xblkL1 (hh hs) : xM.slice (Rect.unit (s := S16384x4096) k0_off5 S256x4096.size hh) hs = xblk 1 := xblk_congr (by decide +kernel) _ _
@[sl_canon] theorem xsemI (k : Fin k0_t1_loop.trips) (h : k.val < 62) (hh) : (cc0_scoped1.slice (Rect.unit (s := S3) (k0_off12 (wIn k.val)) S1.size hh)).squeeze S_ squeezes_S1_S_ = xsem (Ring.sl 3 (k.val + 2)) := xsem_congr (off12_eq k h) _
@[sl_canon] theorem xslotI (k : Fin k0_t1_loop.trips) (h : k.val < 62) (hh hs) : (xB.slice (Rect.unit (s := S3x256x4096) (k0_off13 (wIn k.val)) S1x256x4096.size hh) hs).squeeze S256x4096 squeezes_S1x256x4096_S256x4096 = xslot (Ring.sl 3 (k.val + 2)) := xslot_congr (off13_eq k h) _ _
@[sl_canon] theorem xblkI (k : Fin k0_t1_loop.trips) (h : k.val < 62) (hh hs) : xM.slice (Rect.unit (s := S16384x4096) (k0_off14 (wB k.val)) S256x4096.size hh) hs = xblk (Ring.bk 64 (k.val + 2)) := xblk_congr (off14_eq k h) _ _
@[sl_canon] theorem xsemW (k : Fin k0_t1_loop.trips) (hh) : (cc0_scoped1.slice (Rect.unit (s := S3) (k0_off21 (wK k.val)) S1.size hh)).squeeze S_ squeezes_S1_S_ = xsem (Ring.sl 3 k.val) := xsem_congr (off21_eq k) _
@[sl_canon] theorem xslotW (k : Fin k0_t1_loop.trips) (hh hs) : (xB.slice (Rect.unit (s := S3x256x4096) (k0_off22 (wK k.val)) S1x256x4096.size hh) hs).squeeze S256x4096 squeezes_S1x256x4096_S256x4096 = xslot (Ring.sl 3 k.val) := xslot_congr (off22_eq k) _ _
@[sl_canon] theorem xblkW (k : Fin k0_t1_loop.trips) (hh hs) : xM.slice (Rect.unit (s := S16384x4096) (k0_off23 (wB k.val)) S256x4096.size hh) hs = xblk (Ring.bk 64 k.val) := xblk_congr (off23_eq k) _ _

/-! ## The ring of `mix` -/

abbrev mM : Memref sig .tc .hbm S24576x4096 .bf16 := Memref.whole main_arg1
abbrev mB : Memref sig .tc .vmem S3x256x4096 .bf16 := Memref.whole cc0_scoped2
/-- Row block `b` of `mix`. -/
def mblk (b : Fin 64) : Memref sig .tc .hbm S256x4096 .bf16 :=
  mM.slice (Rect.unit (s := S24576x4096) (blkOff b) S256x4096.size (blkOff_inb' b)) (fun _ => rfl)
/-- Slot `s` of its ring. -/
def mslot (s : Fin 3) : Memref sig .tc .vmem S256x4096 .bf16 :=
  (mB.slice (Rect.unit (s := S3x256x4096) (slotOff s) S1x256x4096.size (slotOff_inb s)) (fun _ => rfl)).squeeze S256x4096 squeezes_S1x256x4096_S256x4096
/-- Slot `s`'s semaphore. -/
def msem (s : Fin 3) : DmaSems sig S_ := (cc0_scoped3.slice (Rect.unit (s := S3) (semOff s) S1.size (semOff_inb s))).squeeze S_ squeezes_S1_S_

theorem msem_congr {off : Fin 1 → Nat} {s : Fin 3} (e : off = semOff s) (hh) :
    (cc0_scoped3.slice (Rect.unit (s := S3) off S1.size hh)).squeeze S_ squeezes_S1_S_ = msem s :=
  congrArg (fun A : DmaSems sig S1 => A.squeeze S_ squeezes_S1_S_) (SemArray.slice_unit_congr _ e _ _)
theorem mslot_congr {off : Fin 3 → Nat} {s : Fin 3} (e : off = slotOff s) (hh hs) :
    (mB.slice (Rect.unit (s := S3x256x4096) off S1x256x4096.size hh) hs).squeeze S256x4096 squeezes_S1x256x4096_S256x4096 = mslot s :=
  congrArg (fun M : Memref sig .tc .vmem S1x256x4096 .bf16 => M.squeeze S256x4096 squeezes_S1x256x4096_S256x4096) (Memref.slice_unit_congr _ e _ _ _ _)
theorem mblk_congr {off : Fin 2 → Nat} {b : Fin 64} (e : off = blkOff b) (hh hs) :
    mM.slice (Rect.unit (s := S24576x4096) off S256x4096.size hh) hs = mblk b :=
  Memref.slice_unit_congr _ e _ _ _ (fun _ => rfl)

@[sl_canon] theorem msemL0 (hh) : (cc0_scoped3.slice (Rect.unit (s := S3) k0_off1 S1.size hh)).squeeze S_ squeezes_S1_S_ = msem 0 := msem_congr (by decide +kernel) _
@[sl_canon] theorem mslotL0 (hh hs) : (mB.slice (Rect.unit (s := S3x256x4096) k0_off2 S1x256x4096.size hh) hs).squeeze S256x4096 squeezes_S1x256x4096_S256x4096 = mslot 0 := mslot_congr (by decide +kernel) _ _
@[sl_canon] theorem mblkL0 (hh hs) : mM.slice (Rect.unit (s := S24576x4096) ![0, 0] S256x4096.size hh) hs = mblk 0 := mblk_congr (by decide +kernel) _ _
@[sl_canon] theorem msemL1 (hh) : (cc0_scoped3.slice (Rect.unit (s := S3) k0_off6 S1.size hh)).squeeze S_ squeezes_S1_S_ = msem 1 := msem_congr (by decide +kernel) _
@[sl_canon] theorem mslotL1 (hh hs) : (mB.slice (Rect.unit (s := S3x256x4096) k0_off7 S1x256x4096.size hh) hs).squeeze S256x4096 squeezes_S1x256x4096_S256x4096 = mslot 1 := mslot_congr (by decide +kernel) _ _
@[sl_canon] theorem mblkL1 (hh hs) : mM.slice (Rect.unit (s := S24576x4096) k0_off8 S256x4096.size hh) hs = mblk 1 := mblk_congr (by decide +kernel) _ _
@[sl_canon] theorem msemI (k : Fin k0_t1_loop.trips) (h : k.val < 62) (hh) : (cc0_scoped3.slice (Rect.unit (s := S3) (k0_off15 (wIn k.val)) S1.size hh)).squeeze S_ squeezes_S1_S_ = msem (Ring.sl 3 (k.val + 2)) := msem_congr (off15_eq k h) _
@[sl_canon] theorem mslotI (k : Fin k0_t1_loop.trips) (h : k.val < 62) (hh hs) : (mB.slice (Rect.unit (s := S3x256x4096) (k0_off16 (wIn k.val)) S1x256x4096.size hh) hs).squeeze S256x4096 squeezes_S1x256x4096_S256x4096 = mslot (Ring.sl 3 (k.val + 2)) := mslot_congr (off16_eq k h) _ _
@[sl_canon] theorem mblkI (k : Fin k0_t1_loop.trips) (h : k.val < 62) (hh hs) : mM.slice (Rect.unit (s := S24576x4096) (k0_off17 (wB k.val)) S256x4096.size hh) hs = mblk (Ring.bk 64 (k.val + 2)) := mblk_congr (off17_eq k h) _ _
@[sl_canon] theorem msemW (k : Fin k0_t1_loop.trips) (hh) : (cc0_scoped3.slice (Rect.unit (s := S3) (k0_off24 (wK k.val)) S1.size hh)).squeeze S_ squeezes_S1_S_ = msem (Ring.sl 3 k.val) := msem_congr (off24_eq k) _
@[sl_canon] theorem mslotW (k : Fin k0_t1_loop.trips) (hh hs) : (mB.slice (Rect.unit (s := S3x256x4096) (k0_off25 (wK k.val)) S1x256x4096.size hh) hs).squeeze S256x4096 squeezes_S1x256x4096_S256x4096 = mslot (Ring.sl 3 k.val) := mslot_congr (off25_eq k) _ _
@[sl_canon] theorem mblkW (k : Fin k0_t1_loop.trips) (hh hs) : mM.slice (Rect.unit (s := S24576x4096) (k0_off26 (wB k.val)) S256x4096.size hh) hs = mblk (Ring.bk 64 k.val) := mblk_congr (off26_eq k) _ _

/-! ## The ring of `f` -/

abbrev gM : Memref sig .tc .hbm S24576x4096 .bf16 := Memref.whole main_arg2
abbrev gB : Memref sig .tc .vmem S3x256x4096 .bf16 := Memref.whole cc0_scoped4
/-- Row block `b` of `f`. -/
def gblk (b : Fin 64) : Memref sig .tc .hbm S256x4096 .bf16 :=
  gM.slice (Rect.unit (s := S24576x4096) (blkOff b) S256x4096.size (blkOff_inb' b)) (fun _ => rfl)
/-- Slot `s` of its ring. -/
def gslot (s : Fin 3) : Memref sig .tc .vmem S256x4096 .bf16 :=
  (gB.slice (Rect.unit (s := S3x256x4096) (slotOff s) S1x256x4096.size (slotOff_inb s)) (fun _ => rfl)).squeeze S256x4096 squeezes_S1x256x4096_S256x4096
/-- Slot `s`'s semaphore. -/
def gsem (s : Fin 3) : DmaSems sig S_ := (cc0_scoped5.slice (Rect.unit (s := S3) (semOff s) S1.size (semOff_inb s))).squeeze S_ squeezes_S1_S_

theorem gsem_congr {off : Fin 1 → Nat} {s : Fin 3} (e : off = semOff s) (hh) :
    (cc0_scoped5.slice (Rect.unit (s := S3) off S1.size hh)).squeeze S_ squeezes_S1_S_ = gsem s :=
  congrArg (fun A : DmaSems sig S1 => A.squeeze S_ squeezes_S1_S_) (SemArray.slice_unit_congr _ e _ _)
theorem gslot_congr {off : Fin 3 → Nat} {s : Fin 3} (e : off = slotOff s) (hh hs) :
    (gB.slice (Rect.unit (s := S3x256x4096) off S1x256x4096.size hh) hs).squeeze S256x4096 squeezes_S1x256x4096_S256x4096 = gslot s :=
  congrArg (fun M : Memref sig .tc .vmem S1x256x4096 .bf16 => M.squeeze S256x4096 squeezes_S1x256x4096_S256x4096) (Memref.slice_unit_congr _ e _ _ _ _)
theorem gblk_congr {off : Fin 2 → Nat} {b : Fin 64} (e : off = blkOff b) (hh hs) :
    gM.slice (Rect.unit (s := S24576x4096) off S256x4096.size hh) hs = gblk b :=
  Memref.slice_unit_congr _ e _ _ _ (fun _ => rfl)

@[sl_canon] theorem gsemL0 (hh) : (cc0_scoped5.slice (Rect.unit (s := S3) k0_off1 S1.size hh)).squeeze S_ squeezes_S1_S_ = gsem 0 := gsem_congr (by decide +kernel) _
@[sl_canon] theorem gslotL0 (hh hs) : (gB.slice (Rect.unit (s := S3x256x4096) k0_off2 S1x256x4096.size hh) hs).squeeze S256x4096 squeezes_S1x256x4096_S256x4096 = gslot 0 := gslot_congr (by decide +kernel) _ _
@[sl_canon] theorem gblkL0 (hh hs) : gM.slice (Rect.unit (s := S24576x4096) ![0, 0] S256x4096.size hh) hs = gblk 0 := gblk_congr (by decide +kernel) _ _
@[sl_canon] theorem gsemL1 (hh) : (cc0_scoped5.slice (Rect.unit (s := S3) k0_off9 S1.size hh)).squeeze S_ squeezes_S1_S_ = gsem 1 := gsem_congr (by decide +kernel) _
@[sl_canon] theorem gslotL1 (hh hs) : (gB.slice (Rect.unit (s := S3x256x4096) k0_off10 S1x256x4096.size hh) hs).squeeze S256x4096 squeezes_S1x256x4096_S256x4096 = gslot 1 := gslot_congr (by decide +kernel) _ _
@[sl_canon] theorem gblkL1 (hh hs) : gM.slice (Rect.unit (s := S24576x4096) k0_off11 S256x4096.size hh) hs = gblk 1 := gblk_congr (by decide +kernel) _ _
@[sl_canon] theorem gsemI (k : Fin k0_t1_loop.trips) (h : k.val < 62) (hh) : (cc0_scoped5.slice (Rect.unit (s := S3) (k0_off18 (wIn k.val)) S1.size hh)).squeeze S_ squeezes_S1_S_ = gsem (Ring.sl 3 (k.val + 2)) := gsem_congr (off18_eq k h) _
@[sl_canon] theorem gslotI (k : Fin k0_t1_loop.trips) (h : k.val < 62) (hh hs) : (gB.slice (Rect.unit (s := S3x256x4096) (k0_off19 (wIn k.val)) S1x256x4096.size hh) hs).squeeze S256x4096 squeezes_S1x256x4096_S256x4096 = gslot (Ring.sl 3 (k.val + 2)) := gslot_congr (off19_eq k h) _ _
@[sl_canon] theorem gblkI (k : Fin k0_t1_loop.trips) (h : k.val < 62) (hh hs) : gM.slice (Rect.unit (s := S24576x4096) (k0_off20 (wB k.val)) S256x4096.size hh) hs = gblk (Ring.bk 64 (k.val + 2)) := gblk_congr (off20_eq k h) _ _
@[sl_canon] theorem gsemW (k : Fin k0_t1_loop.trips) (hh) : (cc0_scoped5.slice (Rect.unit (s := S3) (k0_off27 (wK k.val)) S1.size hh)).squeeze S_ squeezes_S1_S_ = gsem (Ring.sl 3 k.val) := gsem_congr (off27_eq k) _
@[sl_canon] theorem gslotW (k : Fin k0_t1_loop.trips) (hh hs) : (gB.slice (Rect.unit (s := S3x256x4096) (k0_off28 (wK k.val)) S1x256x4096.size hh) hs).squeeze S256x4096 squeezes_S1x256x4096_S256x4096 = gslot (Ring.sl 3 k.val) := gslot_congr (off28_eq k) _ _
@[sl_canon] theorem gblkW (k : Fin k0_t1_loop.trips) (hh hs) : gM.slice (Rect.unit (s := S24576x4096) (k0_off29 (wB k.val)) S256x4096.size hh) hs = gblk (Ring.bk 64 k.val) := gblk_congr (off29_eq k) _ _

/-! ## The output ring -/

abbrev oM : Memref sig .tc .hbm S16384x4096 .f32 := Memref.whole main_v4
abbrev oB : Memref sig .tc .vmem S2x256x4096 .f32 := Memref.whole cc0_scoped8
/-- Row block `b` of the result. -/
def oblk (b : Fin 64) : Memref sig .tc .hbm S256x4096 .f32 :=
  oM.slice (Rect.unit (s := S16384x4096) (blkOff b) S256x4096.size (blkOff_inb b)) (fun _ => rfl)
/-- Slot `s` of the output ring. -/
def oslot (s : Fin 2) : Memref sig .tc .vmem S256x4096 .f32 :=
  (oB.slice (Rect.unit (s := S2x256x4096) (slotOff2 s) S1x256x4096.size (slotOff2_inb s)) (fun _ => rfl)).squeeze S256x4096 squeezes_S1x256x4096_S256x4096
def osem (s : Fin 2) : DmaSems sig S_ := (cc0_scoped9.slice (Rect.unit (s := S2) (semOff2 s) S1.size (semOff2_inb s))).squeeze S_ squeezes_S1_S_

theorem osem_congr {off : Fin 1 → Nat} {s : Fin 2} (e : off = semOff2 s) (hh) :
    (cc0_scoped9.slice (Rect.unit (s := S2) off S1.size hh)).squeeze S_ squeezes_S1_S_ = osem s :=
  congrArg (fun A : DmaSems sig S1 => A.squeeze S_ squeezes_S1_S_) (SemArray.slice_unit_congr _ e _ _)
theorem oslot_congr {off : Fin 3 → Nat} {s : Fin 2} (e : off = slotOff2 s) (hh hs) :
    (oB.slice (Rect.unit (s := S2x256x4096) off S1x256x4096.size hh) hs).squeeze S256x4096 squeezes_S1x256x4096_S256x4096 = oslot s :=
  congrArg (fun M : Memref sig .tc .vmem S1x256x4096 .f32 => M.squeeze S256x4096 squeezes_S1x256x4096_S256x4096) (Memref.slice_unit_congr _ e _ _ _ _)
theorem oblk_congr {off : Fin 2 → Nat} {b : Fin 64} (e : off = blkOff b) (hh hs) :
    oM.slice (Rect.unit (s := S16384x4096) off S256x4096.size hh) hs = oblk b :=
  Memref.slice_unit_congr _ e _ _ _ (fun _ => rfl)

@[sl_canon] theorem osemI (k : Fin k0_t1_loop.trips) (hh) : (cc0_scoped9.slice (Rect.unit (s := S2) (k0_off34 (wK k.val)) S1.size hh)).squeeze S_ squeezes_S1_S_ = osem (Ring.sl 2 k.val) := osem_congr (off34_eq k) _
@[sl_canon] theorem oblkI (k : Fin k0_t1_loop.trips) (hh hs) : oM.slice (Rect.unit (s := S16384x4096) (k0_off35 (wB k.val)) S256x4096.size hh) hs = oblk (Ring.bk 64 k.val) := oblk_congr (off35_eq k) _ _
@[sl_canon] theorem oslotI (k : Fin k0_t1_loop.trips) (hh hs) : (oB.slice (Rect.unit (s := S2x256x4096) (k0_off36 (wK k.val)) S1x256x4096.size hh) hs).squeeze S256x4096 squeezes_S1x256x4096_S256x4096 = oslot (Ring.sl 2 k.val) := oslot_congr (off36_eq k) _ _
@[sl_canon] theorem osemW (k : Fin k0_t1_loop.trips) (h : 1 ≤ k.val) (hh) : (cc0_scoped9.slice (Rect.unit (s := S2) (k0_off37 (wO k.val)) S1.size hh)).squeeze S_ squeezes_S1_S_ = osem (Ring.sl 2 (k.val + 1)) := osem_congr (off37_eq k h) _
@[sl_canon] theorem oblkW (k : Fin k0_t1_loop.trips) (h : 1 ≤ k.val) (hh hs) : oM.slice (Rect.unit (s := S16384x4096) (k0_off38 (wB k.val)) S256x4096.size hh) hs = oblk (Ring.bk 64 (k.val - 1)) := oblk_congr (off38_eq k h) _ _
@[sl_canon] theorem oslotW (k : Fin k0_t1_loop.trips) (h : 1 ≤ k.val) (hh hs) : (oB.slice (Rect.unit (s := S2x256x4096) (k0_off39 (wO k.val)) S1x256x4096.size hh) hs).squeeze S256x4096 squeezes_S1x256x4096_S256x4096 = oslot (Ring.sl 2 (k.val + 1)) := oslot_congr (off39_eq k h) _ _
@[sl_canon] theorem osemE (hh) : (cc0_scoped9.slice (Rect.unit (s := S2) (k0_off40 (wO 64)) S1.size hh)).squeeze S_ squeezes_S1_S_ = osem 1 := osem_congr off40_eq _
@[sl_canon] theorem oblkE (hh hs) : oM.slice (Rect.unit (s := S16384x4096) (k0_off41 (wB 64)) S256x4096.size hh) hs = oblk 63 := oblk_congr off41_eq _ _
@[sl_canon] theorem oslotE (hh hs) : (oB.slice (Rect.unit (s := S2x256x4096) (k0_off42 (wO 64)) S1x256x4096.size hh) hs).squeeze S256x4096 squeezes_S1x256x4096_S256x4096 = oslot 1 := oslot_congr off42_eq _ _

/-! ## The pieces: a block at home, a slot held, a cell at zero, a transfer in flight -/

section Pieces
variable (c : Dev nD)

variable (XA : Buf (Elt F) (xM.view.loc (c : Thread nD τ)))
abbrev xcellP (s : Fin 3) : sProp 𝕄 := semVal ((c : Thread nD τ), SemLoc.dma (xsem s).sem) 0
abbrev xslotP (s : Fin 3) (f : Buf (Elt F) ((xslot s).view.loc (c : Thread nD τ))) : sProp 𝕄 :=
  (xslot s).view.loc (c : Thread nD τ) ↦[(xslot s).view.set]{fullShare} f
abbrev xhomeP (b : Fin 64) : sProp 𝕄 := (xblk b).view.loc (c : Thread nD τ) ↦[(xblk b).view.set]{fullShare} XA
abbrev xpayload (b : Fin 64) : S256x4096.Idx → Elt F .f32 := ReadAs.same.apply ((xblk b).view.read (Elt F) XA)
abbrev xlanded (s : Fin 3) (b : Fin 64) (f : Buf (Elt F) ((xslot s).view.loc (c : Thread nD τ))) : Buf (Elt F) ((xslot s).view.loc (c : Thread nD τ)) :=
  (xslot s).view.writes (Elt F) f [⟨Rect.whole S256x4096, xpayload c XA b⟩]
abbrev xN : ℕ := 131072
abbrev xflightP (s : Fin 3) (b : Fin 64) (f : Buf (Elt F) ((xslot s).view.loc (c : Thread nD τ))) : sProp 𝕄 :=
  Transfers.Flight countersEmb (c : Thread nD τ) (SemLoc.dma (xsem s).sem) () xN iprop(xslotP c s (xlanded c XA s b f) ∗ xhomeP c XA b)

variable (MA : Buf (Elt F) (mM.view.loc (c : Thread nD τ)))
abbrev mcellP (s : Fin 3) : sProp 𝕄 := semVal ((c : Thread nD τ), SemLoc.dma (msem s).sem) 0
abbrev mslotP (s : Fin 3) (f : Buf (Elt F) ((mslot s).view.loc (c : Thread nD τ))) : sProp 𝕄 :=
  (mslot s).view.loc (c : Thread nD τ) ↦[(mslot s).view.set]{fullShare} f
abbrev mhomeP (b : Fin 64) : sProp 𝕄 := (mblk b).view.loc (c : Thread nD τ) ↦[(mblk b).view.set]{fullShare} MA
abbrev mpayload (b : Fin 64) : S256x4096.Idx → Elt F .bf16 := ReadAs.same.apply ((mblk b).view.read (Elt F) MA)
abbrev mlanded (s : Fin 3) (b : Fin 64) (f : Buf (Elt F) ((mslot s).view.loc (c : Thread nD τ))) : Buf (Elt F) ((mslot s).view.loc (c : Thread nD τ)) :=
  (mslot s).view.writes (Elt F) f [⟨Rect.whole S256x4096, mpayload c MA b⟩]
abbrev mN : ℕ := 65536
abbrev mflightP (s : Fin 3) (b : Fin 64) (f : Buf (Elt F) ((mslot s).view.loc (c : Thread nD τ))) : sProp 𝕄 :=
  Transfers.Flight countersEmb (c : Thread nD τ) (SemLoc.dma (msem s).sem) () mN iprop(mslotP c s (mlanded c MA s b f) ∗ mhomeP c MA b)

variable (FA : Buf (Elt F) (gM.view.loc (c : Thread nD τ)))
abbrev gcellP (s : Fin 3) : sProp 𝕄 := semVal ((c : Thread nD τ), SemLoc.dma (gsem s).sem) 0
abbrev gslotP (s : Fin 3) (f : Buf (Elt F) ((gslot s).view.loc (c : Thread nD τ))) : sProp 𝕄 :=
  (gslot s).view.loc (c : Thread nD τ) ↦[(gslot s).view.set]{fullShare} f
abbrev ghomeP (b : Fin 64) : sProp 𝕄 := (gblk b).view.loc (c : Thread nD τ) ↦[(gblk b).view.set]{fullShare} FA
abbrev gpayload (b : Fin 64) : S256x4096.Idx → Elt F .bf16 := ReadAs.same.apply ((gblk b).view.read (Elt F) FA)
abbrev glanded (s : Fin 3) (b : Fin 64) (f : Buf (Elt F) ((gslot s).view.loc (c : Thread nD τ))) : Buf (Elt F) ((gslot s).view.loc (c : Thread nD τ)) :=
  (gslot s).view.writes (Elt F) f [⟨Rect.whole S256x4096, gpayload c FA b⟩]
abbrev gN : ℕ := 65536
abbrev gflightP (s : Fin 3) (b : Fin 64) (f : Buf (Elt F) ((gslot s).view.loc (c : Thread nD τ))) : sProp 𝕄 :=
  Transfers.Flight countersEmb (c : Thread nD τ) (SemLoc.dma (gsem s).sem) () gN iprop(gslotP c s (glanded c FA s b f) ∗ ghomeP c FA b)

end Pieces

end Cert.Proof.Post2

end
-- ==== Proof.Res.lean ====
/- What the row-streaming loop of `post_ffn` holds before trip `k`: which row blocks are at home, which slots are in
   flight and with which block, which result blocks are written. -/
module

public import proofs.«01_k».proof.Proof.Names
public import Idealize.ShloMosaic.Lib.Ring
public import Idealize.ShloMosaic.Lib.Ring.Trips
public import Idealize.ShloMosaic.Lib.Pipeline.Value

@[expose] public section

noncomputable section

namespace Cert.Proof.Post2

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

omit [FloatOps F] in
theorem entails_of_eq {P Q : sProp 𝕄} (e : P = Q) : P ⊢ Q := e ▸ .rfl

/-! ## The blocks at home -/

/-- Every block but `k` and `k + 1`. -/
def homes (k : ℕ) : Finset (Fin 64) := Finset.univ.filter fun b => b.val < k ∨ k + 2 ≤ b.val
/-- Every block but `k`, `k + 1` and `k + 2`. -/
def rest (k : ℕ) : Finset (Fin 64) := Finset.univ.filter fun b => b.val < k ∨ k + 3 ≤ b.val
/-- The result blocks not yet begun. -/
def ahead (k : ℕ) : Finset (Fin 64) := Finset.univ.filter fun b => k ≤ b.val
/-- The result blocks delivered: all before the one in flight. -/
def behind (k : ℕ) : Finset (Fin 64) := Finset.univ.filter fun b => b.val + 1 < k

theorem mem_homes (k : ℕ) (b : Fin 64) : b ∈ homes k ↔ b.val < k ∨ k + 2 ≤ b.val := by simp [homes]
theorem mem_rest (k : ℕ) (b : Fin 64) : b ∈ rest k ↔ b.val < k ∨ k + 3 ≤ b.val := by simp [rest]
theorem mem_ahead (k : ℕ) (b : Fin 64) : b ∈ ahead k ↔ k ≤ b.val := by simp [ahead]
theorem mem_behind (k : ℕ) (b : Fin 64) : b ∈ behind k ↔ b.val + 1 < k := by simp [behind]

section Sets
variable {M : Type*} [URA M] (Φ : Fin 64 → sProp M)
theorem homes_lo (k : ℕ) (h : k < 62) : bigSep (homes k) Φ = iprop(Φ (Ring.bk 64 (k + 2)) ∗ bigSep (rest k) Φ) := by
  have e : homes k = insert (Ring.bk 64 (k + 2)) (rest k) := by
    ext b; simp only [Finset.mem_insert, mem_homes, mem_rest, Fin.ext_iff, Ring.bk_val (show k + 2 < 64 by omega)]; omega
  rw [e, bigSep_insert (by simp only [mem_rest, Ring.bk_val (show k + 2 < 64 by omega)]; omega)]; rfl
theorem homes_hi (k : ℕ) (h : 62 ≤ k) : bigSep (homes k) Φ = bigSep (rest k) Φ := by
  have e : homes k = rest k := by ext b; have := b.isLt; simp only [mem_homes, mem_rest]; omega
  rw [e]
theorem homes_succ (k : ℕ) (h : k < 64) : bigSep (homes (k + 1)) Φ = iprop(Φ (Ring.bk 64 k) ∗ bigSep (rest k) Φ) := by
  have e : homes (k + 1) = insert (Ring.bk 64 k) (rest k) := by
    ext b; simp only [Finset.mem_insert, mem_homes, mem_rest, Fin.ext_iff, Ring.bk_val h]; omega
  rw [e, bigSep_insert (by simp only [mem_rest, Ring.bk_val h]; omega)]; rfl
theorem homes_zero : bigSep Finset.univ Φ = iprop(Φ 0 ∗ Φ 1 ∗ bigSep (homes 0) Φ) := by
  have e : (Finset.univ : Finset (Fin 64)) = insert 0 (insert 1 (homes 0)) := by decide
  rw [e, bigSep_insert (by decide), bigSep_insert (by decide)]; rfl
theorem homes_end : bigSep (homes 64) Φ = bigSep Finset.univ Φ := by
  have e : homes 64 = Finset.univ := by decide
  rw [e]
theorem ahead_out (k : ℕ) (h : k < 64) : bigSep (ahead k) Φ = iprop(Φ (Ring.bk 64 k) ∗ bigSep (ahead (k + 1)) Φ) := by
  have e : ahead k = insert (Ring.bk 64 k) (ahead (k + 1)) := by
    ext b; simp only [Finset.mem_insert, mem_ahead, Fin.ext_iff, Ring.bk_val h]; omega
  rw [e, bigSep_insert (by simp only [mem_ahead, Ring.bk_val h]; omega)]; rfl
theorem ahead_zero : bigSep (ahead 0) Φ = bigSep Finset.univ Φ := by
  have e : ahead 0 = Finset.univ := by decide
  rw [e]
theorem behind_in (k : ℕ) (h1 : 1 ≤ k) (h : k < 65) : bigSep (behind (k + 1)) Φ = iprop(Φ (Ring.bk 64 (k - 1)) ∗ bigSep (behind k) Φ) := by
  have e : behind (k + 1) = insert (Ring.bk 64 (k - 1)) (behind k) := by
    ext b; simp only [Finset.mem_insert, mem_behind, Fin.ext_iff, Ring.bk_val (show k - 1 < 64 by omega)]; omega
  rw [e, bigSep_insert (by simp only [mem_behind, Ring.bk_val (show k - 1 < 64 by omega)]; omega)]; rfl
theorem behind_zero : bigSep (behind 0) Φ = iprop(emp) := by
  have e : behind 0 = ∅ := by decide
  rw [e]; rfl
theorem behind_one : bigSep (behind (0 + 1)) Φ = bigSep (behind 0) Φ := by
  have e : behind (0 + 1) = behind 0 := by decide
  rw [e]
theorem behind_end : bigSep (behind 65) Φ = bigSep Finset.univ Φ := by
  have e : behind 65 = Finset.univ := by decide
  rw [e]
end Sets

theorem sl3_turn (k : ℕ) : Ring.sl 3 (k + 1 + 2) = Ring.sl 3 k := Ring.sl_succ_add 3 k 2 rfl
theorem sl2_turn (k : ℕ) : Ring.sl 2 (k + 1 + 1) = Ring.sl 2 k := Ring.sl_succ_add 2 k 1 rfl

/-! ## The result's blocks -/

section Res
variable (c : Dev nD)
  (XA : Buf (Elt F) (xM.view.loc (c : Thread nD τ))) (MA : Buf (Elt F) (mM.view.loc (c : Thread nD τ)))
  (FA : Buf (Elt F) (gM.view.loc (c : Thread nD τ)))

abbrev gain2M : Memref sig .tc .vmem S1x4096 .f32 := Memref.whole cc0_scoped6
abbrev gain3M : Memref sig .tc .vmem S1x4096 .f32 := Memref.whole cc0_scoped7
abbrev RG : Rect S1x4096 := Rect.unit (s := S1x4096) ![0, 0] S1x4096.size inb_S1x4096_S1x4096_0_0
abbrev gain2P (g2 : Buf (Elt F) (gain2M.view.loc (c : Thread nD τ))) : sProp 𝕄 := gain2M.view.loc (c : Thread nD τ) ↦[gain2M.view.set]{fullShare} g2
abbrev gain3P (g3 : Buf (Elt F) (gain3M.view.loc (c : Thread nD τ))) : sProp 𝕄 := gain3M.view.loc (c : Thread nD τ) ↦[gain3M.view.set]{fullShare} g3

variable (g2 : Buf (Elt F) (gain2M.view.loc (c : Thread nD τ))) (g3 : Buf (Elt F) (gain3M.view.loc (c : Thread nD τ)))
  (OV : Buf (Elt F) (oM.view.loc (c : Thread nD τ)))

/-- Block `b` of the result, from block `b` of each input and the two gain vectors. -/
def outB (b : Fin 64) : S256x4096.Idx → Elt F .f32 :=
  k0_pay1 (shapeCast S1x256x4096 (xpayload c XA b) shapeCasts_S256x4096_S1x256x4096)
    (shapeCast S1x256x4096 (mpayload c MA b) shapeCasts_S256x4096_S1x256x4096)
    (gain2M.view.readAt (Elt F) RG.toLoadRect g2)
    (shapeCast S1x256x4096 (gpayload c FA b) shapeCasts_S256x4096_S1x256x4096)
    (gain3M.view.readAt (Elt F) RG.toLoadRect g3)

/-- The result whole: row `r` is row `r % 256` of block `r / 256`. -/
def outG : Buf (Elt F) (oM.view.loc (c : Thread nD τ)) := fun (i : S16384x4096.Idx) =>
  outB c XA MA FA g2 g3 ⟨(i 0).val / 256, by have : (i 0).val < 16384 := (i 0).isLt; omega⟩
    (fun a => match a with
      | ⟨0, _⟩ => ⟨(i 0).val % 256, Nat.mod_lt _ (by decide)⟩
      | ⟨1, _⟩ => i 1)

abbrev ocellP (s : Fin 2) : sProp 𝕄 := semVal ((c : Thread nD τ), SemLoc.dma (osem s).sem) 0
abbrev oslotP (s : Fin 2) (f : Buf (Elt F) ((oslot s).view.loc (c : Thread nD τ))) : sProp 𝕄 :=
  (oslot s).view.loc (c : Thread nD τ) ↦[(oslot s).view.set]{fullShare} f
abbrev ohomeP (f : Buf (Elt F) (oM.view.loc (c : Thread nD τ))) (b : Fin 64) : sProp 𝕄 := (oblk b).view.loc (c : Thread nD τ) ↦[(oblk b).view.set]{fullShare} f
abbrev odone (b : Fin 64) (p : S256x4096.Idx → Elt F .f32) : sProp 𝕄 :=
  (oblk b).view.loc (c : Thread nD τ) ↦[(oblk b).view.set]{fullShare} (oblk b).view.writes (Elt F) OV [⟨Rect.whole S256x4096, p⟩]
abbrev oflightP (s : Fin 2) (b : Fin 64) (f : Buf (Elt F) ((oslot s).view.loc (c : Thread nD τ))) (p : S256x4096.Idx → Elt F .f32) : sProp 𝕄 :=
  Transfers.Flight countersEmb (c : Thread nD τ) (SemLoc.dma (osem s).sem) () 131072 iprop(odone c OV b p ∗ oslotP c s f)

/-- A delivered block is the block of the result. -/
theorem odone_eq (b : Fin 64) : odone c OV b (outB c XA MA FA g2 g3 b) = ohomeP c (outG c XA MA FA g2 g3) b := by
  refine pointsTo_congr fun i hi => ?_
  obtain ⟨z, -, rfl⟩ := Finset.mem_map.mp hi
  refine (congrFun (View.write_univ_eq_writes_whole (Val := Elt F) (oblk b).view OV [] (outB c XA MA FA g2 g3 b)).symm _).trans ?_
  rw [View.write_emb_of_mem _ _ (Finset.mem_univ _)]
  have h0 : ((show S16384x4096.Idx from (oblk b).view.emb z) 0).val = 256 * b.val + (z 0).val := by
    show (blkOff b) 0 + 1 * (z 0).val = _; simp
  have h1 : (show S16384x4096.Idx from (oblk b).view.emb z) 1 = z 1 := by
    apply Fin.ext; show (blkOff b) 1 + 1 * (z 1).val = _; simp
  have hz : (z 0).val < 256 := (z 0).isLt
  show outB c XA MA FA g2 g3 b z = outG c XA MA FA g2 g3 ((oblk b).view.emb z)
  unfold outG
  congr 1
  · apply Fin.ext; show b.val = ((show S16384x4096.Idx from (oblk b).view.emb z) 0).val / 256; rw [h0]; omega
  · funext a; fin_cases a
    · apply Fin.ext; show (z 0).val = ((show S16384x4096.Idx from (oblk b).view.emb z) 0).val % 256; rw [h0]; omega
    · exact h1.symm

/-! ## Roles -/

/-- A slot of the ring not in flight. -/
def xfree (s : Fin 3) : sProp 𝕄 := iprop(xcellP c s ∗ ∃ f, xslotP c s f)
/-- Slot `k mod 3`: in flight with block `k`, or free past the last block. -/
def xrole (k : ℕ) : sProp 𝕄 := if k < 64 then iprop(∃ f, xflightP c XA (Ring.sl 3 k) (Ring.bk 64 k) f) else xfree c (Ring.sl 3 k)
theorem xrole_lo (k : ℕ) (h : k < 64) : xrole c XA k = iprop(∃ f, xflightP c XA (Ring.sl 3 k) (Ring.bk 64 k) f) := if_pos h
theorem xrole_hi (k : ℕ) (h : 64 ≤ k) : xrole c XA k = xfree c (Ring.sl 3 k) := if_neg (by omega)
/-- The ring of the input before trip `k`. -/
def xres (k : ℕ) : sProp 𝕄 := iprop(bigSep (homes k) (xhomeP c XA) ∗ xrole c XA k ∗ xrole c XA (k + 1) ∗ xfree c (Ring.sl 3 (k + 2)))
/-- What a slot holding block `b` reads as. -/
theorem xload (s : Fin 3) (b : Fin 64) (off : Fin 3 → ℕ) (inb) (e : off = slotOff s) :
    xB.view.readAt (Elt F) (Rect.unit (s := S3x256x4096) off S1x256x4096.size inb).toLoadRect
      ((xslot s).view.writes (Elt F) (xslot s).view.junk [⟨Rect.whole S256x4096, xpayload c XA b⟩])
      = shapeCast S1x256x4096 (xpayload c XA b) shapeCasts_S256x4096_S1x256x4096 := by
  subst e
  have h1 : (xslot s).view.read (Elt F) ((xslot s).view.writes (Elt F) (xslot s).view.junk [⟨Rect.whole S256x4096, xpayload c XA b⟩]) = xpayload c XA b :=
    (congrArg ((xslot s).view.read (Elt F)) (View.write_univ_eq_writes_whole (Val := Elt F) (xslot s).view (xslot s).view.junk [] (xpayload c XA b)).symm).trans
      (View.read_write_univ (v := (xslot s).view) (Val := Elt F) _ _)
  have h2 := congrArg (fun v => shapeCast S1x256x4096 v shapeCasts_S256x4096_S1x256x4096) h1
  exact (shapeCast_shapeCast (xB.view.readAt (Elt F) (Rect.unit (s := S3x256x4096) (slotOff s) S1x256x4096.size inb).toLoadRect
      ((xslot s).view.writes (Elt F) (xslot s).view.junk [⟨Rect.whole S256x4096, xpayload c XA b⟩])) shapeCasts_S1x256x4096_S256x4096 shapeCasts_S256x4096_S1x256x4096).symm.trans h2

/-- A slot of the ring not in flight. -/
def mfree (s : Fin 3) : sProp 𝕄 := iprop(mcellP c s ∗ ∃ f, mslotP c s f)
/-- Slot `k mod 3`: in flight with block `k`, or free past the last block. -/
def mrole (k : ℕ) : sProp 𝕄 := if k < 64 then iprop(∃ f, mflightP c MA (Ring.sl 3 k) (Ring.bk 64 k) f) else mfree c (Ring.sl 3 k)
theorem mrole_lo (k : ℕ) (h : k < 64) : mrole c MA k = iprop(∃ f, mflightP c MA (Ring.sl 3 k) (Ring.bk 64 k) f) := if_pos h
theorem mrole_hi (k : ℕ) (h : 64 ≤ k) : mrole c MA k = mfree c (Ring.sl 3 k) := if_neg (by omega)
/-- The ring of the input before trip `k`. -/
def mres (k : ℕ) : sProp 𝕄 := iprop(bigSep (homes k) (mhomeP c MA) ∗ mrole c MA k ∗ mrole c MA (k + 1) ∗ mfree c (Ring.sl 3 (k + 2)))
/-- What a slot holding block `b` reads as. -/
theorem mload (s : Fin 3) (b : Fin 64) (off : Fin 3 → ℕ) (inb) (e : off = slotOff s) :
    mB.view.readAt (Elt F) (Rect.unit (s := S3x256x4096) off S1x256x4096.size inb).toLoadRect
      ((mslot s).view.writes (Elt F) (mslot s).view.junk [⟨Rect.whole S256x4096, mpayload c MA b⟩])
      = shapeCast S1x256x4096 (mpayload c MA b) shapeCasts_S256x4096_S1x256x4096 := by
  subst e
  have h1 : (mslot s).view.read (Elt F) ((mslot s).view.writes (Elt F) (mslot s).view.junk [⟨Rect.whole S256x4096, mpayload c MA b⟩]) = mpayload c MA b :=
    (congrArg ((mslot s).view.read (Elt F)) (View.write_univ_eq_writes_whole (Val := Elt F) (mslot s).view (mslot s).view.junk [] (mpayload c MA b)).symm).trans
      (View.read_write_univ (v := (mslot s).view) (Val := Elt F) _ _)
  have h2 := congrArg (fun v => shapeCast S1x256x4096 v shapeCasts_S256x4096_S1x256x4096) h1
  exact (shapeCast_shapeCast (mB.view.readAt (Elt F) (Rect.unit (s := S3x256x4096) (slotOff s) S1x256x4096.size inb).toLoadRect
      ((mslot s).view.writes (Elt F) (mslot s).view.junk [⟨Rect.whole S256x4096, mpayload c MA b⟩])) shapeCasts_S1x256x4096_S256x4096 shapeCasts_S256x4096_S1x256x4096).symm.trans h2

/-- A slot of the ring not in flight. -/
def gfree (s : Fin 3) : sProp 𝕄 := iprop(gcellP c s ∗ ∃ f, gslotP c s f)
/-- Slot `k mod 3`: in flight with block `k`, or free past the last block. -/
def grole (k : ℕ) : sProp 𝕄 := if k < 64 then iprop(∃ f, gflightP c FA (Ring.sl 3 k) (Ring.bk 64 k) f) else gfree c (Ring.sl 3 k)
theorem grole_lo (k : ℕ) (h : k < 64) : grole c FA k = iprop(∃ f, gflightP c FA (Ring.sl 3 k) (Ring.bk 64 k) f) := if_pos h
theorem grole_hi (k : ℕ) (h : 64 ≤ k) : grole c FA k = gfree c (Ring.sl 3 k) := if_neg (by omega)
/-- The ring of the input before trip `k`. -/
def gres (k : ℕ) : sProp 𝕄 := iprop(bigSep (homes k) (ghomeP c FA) ∗ grole c FA k ∗ grole c FA (k + 1) ∗ gfree c (Ring.sl 3 (k + 2)))
/-- What a slot holding block `b` reads as. -/
theorem gload (s : Fin 3) (b : Fin 64) (off : Fin 3 → ℕ) (inb) (e : off = slotOff s) :
    gB.view.readAt (Elt F) (Rect.unit (s := S3x256x4096) off S1x256x4096.size inb).toLoadRect
      ((gslot s).view.writes (Elt F) (gslot s).view.junk [⟨Rect.whole S256x4096, gpayload c FA b⟩])
      = shapeCast S1x256x4096 (gpayload c FA b) shapeCasts_S256x4096_S1x256x4096 := by
  subst e
  have h1 : (gslot s).view.read (Elt F) ((gslot s).view.writes (Elt F) (gslot s).view.junk [⟨Rect.whole S256x4096, gpayload c FA b⟩]) = gpayload c FA b :=
    (congrArg ((gslot s).view.read (Elt F)) (View.write_univ_eq_writes_whole (Val := Elt F) (gslot s).view (gslot s).view.junk [] (gpayload c FA b)).symm).trans
      (View.read_write_univ (v := (gslot s).view) (Val := Elt F) _ _)
  have h2 := congrArg (fun v => shapeCast S1x256x4096 v shapeCasts_S256x4096_S1x256x4096) h1
  exact (shapeCast_shapeCast (gB.view.readAt (Elt F) (Rect.unit (s := S3x256x4096) (slotOff s) S1x256x4096.size inb).toLoadRect
      ((gslot s).view.writes (Elt F) (gslot s).view.junk [⟨Rect.whole S256x4096, gpayload c FA b⟩])) shapeCasts_S1x256x4096_S256x4096 shapeCasts_S256x4096_S1x256x4096).symm.trans h2

/-- A slot of the output ring not in flight. -/
def ofree (s : Fin 2) : sProp 𝕄 := iprop(ocellP c s ∗ ∃ f, oslotP c s f)
/-- The other slot of the output ring: in flight with block `k - 1`, or free before the first. -/
def oprev (k : ℕ) : sProp 𝕄 := if k = 0 then ofree c (Ring.sl 2 (k + 1))
  else iprop(∃ f, oflightP c OV (Ring.sl 2 (k + 1)) (Ring.bk 64 (k - 1)) f (outB c XA MA FA g2 g3 (Ring.bk 64 (k - 1))))
theorem oprev_zero (k : ℕ) (h : k = 0) : oprev c XA MA FA g2 g3 OV k = ofree c (Ring.sl 2 (k + 1)) := if_pos h
theorem oprev_pos (k : ℕ) (h : 1 ≤ k) : oprev c XA MA FA g2 g3 OV k
    = iprop(∃ f, oflightP c OV (Ring.sl 2 (k + 1)) (Ring.bk 64 (k - 1)) f (outB c XA MA FA g2 g3 (Ring.bk 64 (k - 1)))) := if_neg (by omega)
theorem oprev_succ (k : ℕ) : oprev c XA MA FA g2 g3 OV (k + 1)
    = iprop(∃ f, oflightP c OV (Ring.sl 2 k) (Ring.bk 64 k) f (outB c XA MA FA g2 g3 (Ring.bk 64 k))) := by
  rw [oprev_pos _ _ _ _ _ _ _ _ (by omega), sl2_turn]; rfl
/-- The output ring and the result before trip `k`. -/
def ores (k : ℕ) : sProp 𝕄 := iprop(ofree c (Ring.sl 2 k) ∗ bigSep (ahead k) (ohomeP c OV)
  ∗ bigSep (behind k) (ohomeP c (outG c XA MA FA g2 g3)) ∗ oprev c XA MA FA g2 g3 OV k)

/-- Everything before trip `k`. -/
def resAt (k : ℕ) : sProp 𝕄 := iprop(gain2P c g2 ∗ gain3P c g3 ∗ (∃ W, owes (c : Thread nD τ) 0 W)
  ∗ xres c XA k ∗ mres c MA k ∗ gres c FA k ∗ ores c XA MA FA g2 g3 OV k)

/-- The stored slot, read back whole, is the block stored. -/
theorem oslot_read (s : Fin 2) (off : Fin 3 → ℕ) (inb) (e : off = slotOff2 s) (f : Buf (Elt F) ((oslot s).view.loc (c : Thread nD τ)))
    (p : S256x4096.Idx → Elt F .f32) :
    (oslot s).view.read (Elt F) ((oB.access (Rect.unit (s := S2x256x4096) off S1x256x4096.size inb)).write (Elt F) f
      (shapeCast S1x256x4096 p shapeCasts_S256x4096_S1x256x4096) Finset.univ) = p := by
  subst e
  have h := View.read_write_univ (v := oB.access (Rect.unit (s := S2x256x4096) (slotOff2 s) S1x256x4096.size inb)) (Val := Elt F) f
      (shapeCast S1x256x4096 p shapeCasts_S256x4096_S1x256x4096)
  have h2 := congrArg (fun v => shapeCast S256x4096 v shapeCasts_S1x256x4096_S256x4096) h
  exact h2.trans (shapeCast_shapeCast _ _ _)

theorem pay_congr (b : Fin 64) (vx vm vf) (hx : vx = shapeCast S1x256x4096 (xpayload c XA b) shapeCasts_S256x4096_S1x256x4096)
    (hm : vm = shapeCast S1x256x4096 (mpayload c MA b) shapeCasts_S256x4096_S1x256x4096)
    (hf : vf = shapeCast S1x256x4096 (gpayload c FA b) shapeCasts_S256x4096_S1x256x4096) :
    k0_pay1 vx vm (gain2M.view.readAt (Elt F) RG.toLoadRect g2) vf (gain3M.view.readAt (Elt F) RG.toLoadRect g3) = outB c XA MA FA g2 g3 b := by
  subst hx hm hf; rfl

/-- The words carried into trip `k`. -/
abbrev words (k : ℕ) : BitVec 32 × BitVec 32 × BitVec 32 × BitVec 32 × BitVec 32 × BitVec 32 × BitVec 32 × BitVec 32 × BitVec 32 × BitVec 32 × BitVec 32 :=
  (wIn k, wK k, wIn k, wK k, wIn k, wK k, wG k, wG k, wK k, wO k, wB k)

abbrev body (v11 v35 v42 v50 : BitVec 32) (v53 : BitVec 1) (v55 : BitVec 32) (k : Fin k0_t1_loop.trips) :=
  k0_t1_body (F := F) xM (Memref.isWhole_whole _) mM (Memref.isWhole_whole _) gM (Memref.isWhole_whole _) (Memref.whole main_v1) (Memref.isWhole_whole _) (Memref.whole main_v3) (Memref.isWhole_whole _) oM (Memref.isWhole_whole _) xB (Memref.isWhole_whole _) cc0_scoped1 mB (Memref.isWhole_whole _) cc0_scoped3 gB (Memref.isWhole_whole _) cc0_scoped5 gain2M (Memref.isWhole_whole _) gain3M (Memref.isWhole_whole _) oB (Memref.isWhole_whole _) cc0_scoped9 cc0_scoped10 cc0_scoped11 v11 v35 v42 v50 v53 v55
    k (words k.val)
end Res

end Cert.Proof.Post2

end
-- ==== Proof.Trip.lean ====
/- One trip of the row-streaming loop of `post_ffn`, over a symbolic trip number: the first trip, the trips that issue
   a further block, and the last two. -/
module

public import proofs.«01_k».proof.Proof.Res
public import Idealize.ShloMosaic.Lib.Ring
public import Idealize.ShloMosaic.Lib.Ring.Trips
public import Idealize.ShloMosaic.Lib.Pipeline.Value

@[expose] public section

noncomputable section

namespace Cert.Proof.Post2

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip
variable (c : Dev nD)
  (XA : Buf (Elt F) (xM.view.loc (c : Thread nD τ))) (MA : Buf (Elt F) (mM.view.loc (c : Thread nD τ)))
  (FA : Buf (Elt F) (gM.view.loc (c : Thread nD τ)))
  (g2 : Buf (Elt F) (gain2M.view.loc (c : Thread nD τ))) (g3 : Buf (Elt F) (gain3M.view.loc (c : Thread nD τ)))
  (OV : Buf (Elt F) (oM.view.loc (c : Thread nD τ)))
  (v11 v35 v42 v50 : BitVec 32) (v53 : BitVec 1) (v55 : BitVec 32)

set_option maxHeartbeats 4000000 in
theorem trip_first (k : Fin k0_t1_loop.trips) (h0 : k.val = 0) :
    resAt c XA MA FA g2 g3 OV k.val
    ⊢ wp frame (wpE (defs₀ (F := F)) 𝒱₀ (c : Thread nD τ) none) Set.univ (body v11 v35 v42 v50 v53 v55 k)
        (fun acc => iprop(⌜acc = words (k.val + 1)⌝ ∗ resAt c XA MA FA g2 g3 OV (k.val + 1))) := by
  have h64 : k.val < 64 := lt_of_lt_of_eq k.isLt trips_eq
  have h62 : k.val < 62 := by omega
  have hw1 := chk1_at k
  have hw2 := chk2_at k
  have hw3 := chk3_at k
  have hw4 := chk4_at k
  have hw5 := chk5_at k
  have hc4 := cond4_lo k h62
  have hc5 := cond5_lo k h62
  have hc6 := cond6_lo k h62
  have hc7 := cond7_at k
  have hc8 := cond8_at k
  have hc9 := cond9_at k
  have hc14 := cond14_at k
  have hc18 := cond18_zero k h0
  unfold resAt xres mres gres ores
  rw [homes_lo (xhomeP c XA) k.val h62]
  rw [homes_succ (xhomeP c XA) k.val h64, xrole_lo c XA k.val h64]
  rw [sl3_turn]
  rw [homes_lo (mhomeP c MA) k.val h62]
  rw [homes_succ (mhomeP c MA) k.val h64, mrole_lo c MA k.val h64]
  rw [homes_lo (ghomeP c FA) k.val h62]
  rw [homes_succ (ghomeP c FA) k.val h64, grole_lo c FA k.val h64]
  rw [ahead_out (ohomeP c OV) k.val h64, oprev_succ]
  rw [oprev_zero _ _ _ _ _ _ _ _ h0]
  have hb : bigSep (behind (k.val + 1)) (ohomeP c (outG c XA MA FA g2 g3)) = bigSep (behind k.val) (ohomeP c (outG c XA MA FA g2 g3)) := by rw [h0]; exact behind_one _
  rw [hb]
  rw [xrole_lo c XA (k.val + 1 + 1) (by omega)]
  rw [mrole_lo c MA (k.val + 1 + 1) (by omega)]
  rw [grole_lo c FA (k.val + 1 + 1) (by omega)]
  unfold xfree mfree gfree ofree
  iintro ⟨Hg2, Hg3, ⟨%W, HW⟩, ⟨⟨Hhx, Hrx⟩, ⟨%fx, HFx⟩, HRx, ⟨Hcx, ⟨%ex, Hsx⟩⟩⟩, ⟨⟨Hhm, Hrm⟩, ⟨%fm, HFm⟩, HRm, ⟨Hcm, ⟨%em, Hsm⟩⟩⟩, ⟨⟨Hhg, Hrg⟩, ⟨%fg, HFg⟩, HRg, ⟨Hcg, ⟨%eg, Hsg⟩⟩⟩, ⟨⟨Hco, ⟨%eo, Hso⟩⟩, ⟨Hho, Hah⟩, Hbe, Hop⟩⟩
  dsimp only [body]
  sl_unfold [k0_t1_body]
  sl_exec
  sl_step
  isplitr
  · ipureintro
    refine Prod.ext ?_ (Prod.ext ?_ (Prod.ext ?_ (Prod.ext ?_ (Prod.ext ?_ (Prod.ext ?_ (Prod.ext ?_ (Prod.ext ?_ (Prod.ext ?_ (Prod.ext ?_ ?_)))))))))
    all_goals (clear * - h0; revert k; decide +kernel)
  have eo : trip_first.sl.dma7 c XA MA FA g2 g3 k hw2 hw3 hw4 hw5 eo = outB c XA MA FA g2 g3 (Ring.bk 64 k.val) := by
    delta trip_first.sl.dma7 trip_first.sl.Hso_w1 trip_first.sl.v246_r0 trip_first.sl.r
    refine (oslot_read c (Ring.sl 2 k.val) _ _ (off33_eq k) _ _).trans ?_
    delta trip_first.sl.v203_r0 trip_first.sl.v206_r0 trip_first.sl.v225_r0
    exact pay_congr c XA MA FA g2 g3 _ _ _ _ (xload c XA _ _ _ _ (off30_eq k)) (mload c MA _ _ _ _ (off31_eq k)) (gload c FA _ _ _ _ (off32_eq k))
  isplitl [Hg2]; · iexact Hg2
  isplitl [Hg3]; · iexact Hg3
  isplitl [HW]; · iexists _; iexact HW
  isplitl [HFx_src Hrx HRx Hcx HFx HFx_dst]
  · isplitl [HFx_src Hrx]
    · isplitl [HFx_src]; · iexact HFx_src
      iexact Hrx
    isplitl [HRx]; · iexact HRx
    isplitl [Hcx]; · iexists ex; iexact Hcx
    isplitl [HFx]; · iexact HFx
    iexists _; iexact HFx_dst
  isplitl [HFm_src Hrm HRm Hcm HFm HFm_dst]
  · isplitl [HFm_src Hrm]
    · isplitl [HFm_src]; · iexact HFm_src
      iexact Hrm
    isplitl [HRm]; · iexact HRm
    isplitl [Hcm]; · iexists em; iexact Hcm
    isplitl [HFm]; · iexact HFm
    iexists _; iexact HFm_dst
  isplitl [HFg_src Hrg HRg Hcg HFg HFg_dst]
  · isplitl [HFg_src Hrg]
    · isplitl [HFg_src]; · iexact HFg_src
      iexact Hrg
    isplitl [HRg]; · iexact HRg
    isplitl [Hcg]; · iexists eg; iexact Hcg
    isplitl [HFg]; · iexact HFg
    iexists _; iexact HFg_dst
  isplitl [Hop]; · iexact Hop
  isplitl [Hah]; · iexact Hah
  isplitl [Hbe]; · iexact Hbe
  rw [eo]
  iexists _; iexact Hco

set_option maxHeartbeats 4000000 in
theorem trip_mid (k : Fin k0_t1_loop.trips) (h1 : 1 ≤ k.val) (h62 : k.val < 62) :
    resAt c XA MA FA g2 g3 OV k.val
    ⊢ wp frame (wpE (defs₀ (F := F)) 𝒱₀ (c : Thread nD τ) none) Set.univ (body v11 v35 v42 v50 v53 v55 k)
        (fun acc => iprop(⌜acc = words (k.val + 1)⌝ ∗ resAt c XA MA FA g2 g3 OV (k.val + 1))) := by
  have h64 : k.val < 64 := lt_of_lt_of_eq k.isLt trips_eq
  have hw1 := chk1_at k
  have hw2 := chk2_at k
  have hw3 := chk3_at k
  have hw4 := chk4_at k
  have hw5 := chk5_at k
  have hc4 := cond4_lo k h62
  have hc5 := cond5_lo k h62
  have hc6 := cond6_lo k h62
  have hc7 := cond7_at k
  have hc8 := cond8_at k
  have hc9 := cond9_at k
  have hc14 := cond14_at k
  have hc18 := cond18_pos k h1
  unfold resAt xres mres gres ores
  rw [homes_lo (xhomeP c XA) k.val h62]
  rw [homes_succ (xhomeP c XA) k.val h64, xrole_lo c XA k.val h64]
  rw [sl3_turn]
  rw [homes_lo (mhomeP c MA) k.val h62]
  rw [homes_succ (mhomeP c MA) k.val h64, mrole_lo c MA k.val h64]
  rw [homes_lo (ghomeP c FA) k.val h62]
  rw [homes_succ (ghomeP c FA) k.val h64, grole_lo c FA k.val h64]
  rw [ahead_out (ohomeP c OV) k.val h64, oprev_succ]
  rw [oprev_pos _ _ _ _ _ _ _ _ h1, behind_in (ohomeP c (outG c XA MA FA g2 g3)) k.val h1 (by omega)]
  rw [xrole_lo c XA (k.val + 1 + 1) (by omega)]
  rw [mrole_lo c MA (k.val + 1 + 1) (by omega)]
  rw [grole_lo c FA (k.val + 1 + 1) (by omega)]
  unfold xfree mfree gfree ofree
  iintro ⟨Hg2, Hg3, ⟨%W, HW⟩, ⟨⟨Hhx, Hrx⟩, ⟨%fx, HFx⟩, HRx, ⟨Hcx, ⟨%ex, Hsx⟩⟩⟩, ⟨⟨Hhm, Hrm⟩, ⟨%fm, HFm⟩, HRm, ⟨Hcm, ⟨%em, Hsm⟩⟩⟩, ⟨⟨Hhg, Hrg⟩, ⟨%fg, HFg⟩, HRg, ⟨Hcg, ⟨%eg, Hsg⟩⟩⟩, ⟨⟨Hco, ⟨%eo, Hso⟩⟩, ⟨Hho, Hah⟩, Hbe, ⟨%fo, HFo⟩⟩⟩
  dsimp only [body]
  sl_unfold [k0_t1_body]
  sl_exec
  sl_step
  isplitr
  · ipureintro
    refine Prod.ext ?_ (Prod.ext ?_ (Prod.ext ?_ (Prod.ext ?_ (Prod.ext ?_ (Prod.ext ?_ (Prod.ext ?_ (Prod.ext ?_ (Prod.ext ?_ (Prod.ext ?_ ?_)))))))))
    all_goals (clear * - h1 h62; revert k; decide +kernel)
  have eo : trip_mid.sl.dma7 c XA MA FA g2 g3 k hw2 hw3 hw4 hw5 eo = outB c XA MA FA g2 g3 (Ring.bk 64 k.val) := by
    delta trip_mid.sl.dma7 trip_mid.sl.Hso_w1 trip_mid.sl.v246_r0 trip_mid.sl.r
    refine (oslot_read c (Ring.sl 2 k.val) _ _ (off33_eq k) _ _).trans ?_
    delta trip_mid.sl.v203_r0 trip_mid.sl.v206_r0 trip_mid.sl.v225_r0
    exact pay_congr c XA MA FA g2 g3 _ _ _ _ (xload c XA _ _ _ _ (off30_eq k)) (mload c MA _ _ _ _ (off31_eq k)) (gload c FA _ _ _ _ (off32_eq k))
  isplitl [Hg2]; · iexact Hg2
  isplitl [Hg3]; · iexact Hg3
  isplitl [HW]; · iexists _; iexact HW
  isplitl [HFx_src Hrx HRx Hcx HFx HFx_dst]
  · isplitl [HFx_src Hrx]
    · isplitl [HFx_src]; · iexact HFx_src
      iexact Hrx
    isplitl [HRx]; · iexact HRx
    isplitl [Hcx]; · iexists ex; iexact Hcx
    isplitl [HFx]; · iexact HFx
    iexists _; iexact HFx_dst
  isplitl [HFm_src Hrm HRm Hcm HFm HFm_dst]
  · isplitl [HFm_src Hrm]
    · isplitl [HFm_src]; · iexact HFm_src
      iexact Hrm
    isplitl [HRm]; · iexact HRm
    isplitl [Hcm]; · iexists em; iexact Hcm
    isplitl [HFm]; · iexact HFm
    iexists _; iexact HFm_dst
  isplitl [HFg_src Hrg HRg Hcg HFg HFg_dst]
  · isplitl [HFg_src Hrg]
    · isplitl [HFg_src]; · iexact HFg_src
      iexact Hrg
    isplitl [HRg]; · iexact HRg
    isplitl [Hcg]; · iexists eg; iexact Hcg
    isplitl [HFg]; · iexact HFg
    iexists _; iexact HFg_dst
  isplitl [HFo HFo_src]
  · isplitl [HFo]; · iexact HFo
    iexists _; iexact HFo_src
  isplitl [Hah]; · iexact Hah
  isplitl [HFo_dst Hbe]
  · isplitl [HFo_dst]
    · iapply (entails_of_eq (odone_eq c XA MA FA g2 g3 OV (Ring.bk 64 (k.val - 1)))); iexact HFo_dst
    iexact Hbe
  rw [eo]
  iexists _; iexact Hco

set_option maxHeartbeats 4000000 in
theorem trip_last (k : Fin k0_t1_loop.trips) (h62 : 62 ≤ k.val) :
    resAt c XA MA FA g2 g3 OV k.val
    ⊢ wp frame (wpE (defs₀ (F := F)) 𝒱₀ (c : Thread nD τ) none) Set.univ (body v11 v35 v42 v50 v53 v55 k)
        (fun acc => iprop(⌜acc = words (k.val + 1)⌝ ∗ resAt c XA MA FA g2 g3 OV (k.val + 1))) := by
  have h64 : k.val < 64 := lt_of_lt_of_eq k.isLt trips_eq
  have h1 : 1 ≤ k.val := by omega
  have hw1 := chk1_at k
  have hw2 := chk2_at k
  have hw3 := chk3_at k
  have hw4 := chk4_at k
  have hw5 := chk5_at k
  have hc4 := cond4_hi k h62
  have hc5 := cond5_hi k h62
  have hc6 := cond6_hi k h62
  have hc7 := cond7_at k
  have hc8 := cond8_at k
  have hc9 := cond9_at k
  have hc14 := cond14_at k
  have hc18 := cond18_pos k h1
  unfold resAt xres mres gres ores
  rw [homes_hi (xhomeP c XA) k.val h62]
  rw [homes_succ (xhomeP c XA) k.val h64, xrole_lo c XA k.val h64]
  rw [sl3_turn]
  rw [homes_hi (mhomeP c MA) k.val h62]
  rw [homes_succ (mhomeP c MA) k.val h64, mrole_lo c MA k.val h64]
  rw [homes_hi (ghomeP c FA) k.val h62]
  rw [homes_succ (ghomeP c FA) k.val h64, grole_lo c FA k.val h64]
  rw [ahead_out (ohomeP c OV) k.val h64, oprev_succ]
  rw [oprev_pos _ _ _ _ _ _ _ _ h1, behind_in (ohomeP c (outG c XA MA FA g2 g3)) k.val h1 (by omega)]
  rw [xrole_hi c XA (k.val + 1 + 1) (by omega)]
  rw [mrole_hi c MA (k.val + 1 + 1) (by omega)]
  rw [grole_hi c FA (k.val + 1 + 1) (by omega)]
  unfold xfree mfree gfree ofree
  iintro ⟨Hg2, Hg3, ⟨%W, HW⟩, ⟨Hrx, ⟨%fx, HFx⟩, HRx, Hfrx⟩, ⟨Hrm, ⟨%fm, HFm⟩, HRm, Hfrm⟩, ⟨Hrg, ⟨%fg, HFg⟩, HRg, Hfrg⟩, ⟨⟨Hco, ⟨%eo, Hso⟩⟩, ⟨Hho, Hah⟩, Hbe, ⟨%fo, HFo⟩⟩⟩
  dsimp only [body]
  sl_unfold [k0_t1_body]
  sl_exec
  sl_step
  isplitr
  · ipureintro
    refine Prod.ext ?_ (Prod.ext ?_ (Prod.ext ?_ (Prod.ext ?_ (Prod.ext ?_ (Prod.ext ?_ (Prod.ext ?_ (Prod.ext ?_ (Prod.ext ?_ (Prod.ext ?_ ?_)))))))))
    all_goals (clear * - h62; revert k; decide +kernel)
  have eo : trip_last.sl.dma7 c XA MA FA g2 g3 k hw2 hw3 hw4 hw5 eo = outB c XA MA FA g2 g3 (Ring.bk 64 k.val) := by
    delta trip_last.sl.dma7 trip_last.sl.Hso_w1 trip_last.sl.v246_r0 trip_last.sl.r
    refine (oslot_read c (Ring.sl 2 k.val) _ _ (off33_eq k) _ _).trans ?_
    delta trip_last.sl.v203_r0 trip_last.sl.v206_r0 trip_last.sl.v225_r0
    exact pay_congr c XA MA FA g2 g3 _ _ _ _ (xload c XA _ _ _ _ (off30_eq k)) (mload c MA _ _ _ _ (off31_eq k)) (gload c FA _ _ _ _ (off32_eq k))
  isplitl [Hg2]; · iexact Hg2
  isplitl [Hg3]; · iexact Hg3
  isplitl [HW]; · iexists _; iexact HW
  isplitl [HFx_src Hrx HRx Hfrx HFx HFx_dst]
  · isplitl [HFx_src Hrx]
    · isplitl [HFx_src]; · iexact HFx_src
      iexact Hrx
    isplitl [HRx]; · iexact HRx
    isplitl [Hfrx]; · iexact Hfrx
    isplitl [HFx]; · iexact HFx
    iexists _; iexact HFx_dst
  isplitl [HFm_src Hrm HRm Hfrm HFm HFm_dst]
  · isplitl [HFm_src Hrm]
    · isplitl [HFm_src]; · iexact HFm_src
      iexact Hrm
    isplitl [HRm]; · iexact HRm
    isplitl [Hfrm]; · iexact Hfrm
    isplitl [HFm]; · iexact HFm
    iexists _; iexact HFm_dst
  isplitl [HFg_src Hrg HRg Hfrg HFg HFg_dst]
  · isplitl [HFg_src Hrg]
    · isplitl [HFg_src]; · iexact HFg_src
      iexact Hrg
    isplitl [HRg]; · iexact HRg
    isplitl [Hfrg]; · iexact Hfrg
    isplitl [HFg]; · iexact HFg
    iexists _; iexact HFg_dst
  isplitl [HFo HFo_src]
  · isplitl [HFo]; · iexact HFo
    iexists _; iexact HFo_src
  isplitl [Hah]; · iexact Hah
  isplitl [HFo_dst Hbe]
  · isplitl [HFo_dst]
    · iapply (entails_of_eq (odone_eq c XA MA FA g2 g3 OV (Ring.bk 64 (k.val - 1)))); iexact HFo_dst
    iexact Hbe
  rw [eo]
  iexists _; iexact Hco

end Trip

end Cert.Proof.Post2

end
-- ==== Proof.Body.lean ====
/- The whole of `post_ffn`: the two gain vectors fetched, the rings primed, the loop, the last block drained. -/
module

public import proofs.«01_k».proof.Proof.Trip
public import Idealize.ShloMosaic.Lib.Ring
public import Idealize.ShloMosaic.Lib.Ring.Trips
public import Idealize.ShloMosaic.Lib.Pipeline.Value

@[expose] public section

noncomputable section

namespace Cert.Proof.Post2

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Body
variable (c : Dev nD)
  (XA : Buf (Elt F) (xM.view.loc (c : Thread nD τ))) (MA : Buf (Elt F) (mM.view.loc (c : Thread nD τ)))
  (FA : Buf (Elt F) (gM.view.loc (c : Thread nD τ)))
  (OV : Buf (Elt F) (oM.view.loc (c : Thread nD τ)))

/-- One trip, whichever it is. -/
theorem trip (g2 : Buf (Elt F) (gain2M.view.loc (c : Thread nD τ))) (g3 : Buf (Elt F) (gain3M.view.loc (c : Thread nD τ)))
    (v11 v35 v42 v50 : BitVec 32) (v53 : BitVec 1) (v55 : BitVec 32) (k : Fin k0_t1_loop.trips) :
    resAt c XA MA FA g2 g3 OV k.val
    ⊢ wp frame (wpE (defs₀ (F := F)) 𝒱₀ (c : Thread nD τ) none) Set.univ (body v11 v35 v42 v50 v53 v55 k)
        (fun acc => iprop(⌜acc = words (k.val + 1)⌝ ∗ resAt c XA MA FA g2 g3 OV (k.val + 1))) := by
  by_cases h0 : k.val = 0
  · exact trip_first c XA MA FA g2 g3 OV v11 v35 v42 v50 v53 v55 k h0
  by_cases h62 : k.val < 62
  · exact trip_mid c XA MA FA g2 g3 OV v11 v35 v42 v50 v53 v55 k (by omega) h62
  · exact trip_last c XA MA FA g2 g3 OV v11 v35 v42 v50 v53 v55 k (by omega)

abbrev a3M : Memref sig .tc .hbm S1x4096 .f32 := Memref.whole main_v1
abbrev a4M : Memref sig .tc .hbm S1x4096 .f32 := Memref.whole main_v3
variable (A3 : Buf (Elt F) (a3M.view.loc (c : Thread nD τ))) (A4 : Buf (Elt F) (a4M.view.loc (c : Thread nD τ)))
abbrev a3P : sProp 𝕄 := a3M.view.loc (c : Thread nD τ) ↦[a3M.view.set]{fullShare} A3
abbrev a4P : sProp 𝕄 := a4M.view.loc (c : Thread nD τ) ↦[a4M.view.set]{fullShare} A4
abbrev dcellAP : sProp 𝕄 := semVal ((c : Thread nD τ), SemLoc.dma cc0_scoped10.sem) 0
abbrev dcellBP : sProp 𝕄 := semVal ((c : Thread nD τ), SemLoc.dma cc0_scoped11.sem) 0

abbrev prog : Prog (TpuEff nD τ sig (Elt F) Λ₀ .tc) PUnit :=
  cc0_post_ffn xM (Memref.isWhole_whole _) mM (Memref.isWhole_whole _) gM (Memref.isWhole_whole _) a3M (Memref.isWhole_whole _) a4M (Memref.isWhole_whole _) oM (Memref.isWhole_whole _) xB (Memref.isWhole_whole _) cc0_scoped1 mB (Memref.isWhole_whole _) cc0_scoped3 gB (Memref.isWhole_whole _) cc0_scoped5 gain2M (Memref.isWhole_whole _) gain3M (Memref.isWhole_whole _) oB (Memref.isWhole_whole _) cc0_scoped9 cc0_scoped10 cc0_scoped11

def PRE : sProp 𝕄 := iprop(a3P c A3
  ∗ a4P c A4
  ∗ (∃ g, gain2P c g)
  ∗ (∃ g, gain3P c g)
  ∗ dcellAP c
  ∗ dcellBP c
  ∗ (∃ W, owes (c : Thread nD τ) 0 W)
  ∗ bigSep Finset.univ (xhomeP c XA)
  ∗ xfree c 0
  ∗ xfree c 1
  ∗ xfree c 2
  ∗ bigSep Finset.univ (mhomeP c MA)
  ∗ mfree c 0
  ∗ mfree c 1
  ∗ mfree c 2
  ∗ bigSep Finset.univ (ghomeP c FA)
  ∗ gfree c 0
  ∗ gfree c 1
  ∗ gfree c 2
  ∗ bigSep Finset.univ (ohomeP c OV)
  ∗ ofree c 0
  ∗ ofree c 1)

variable (g2 : Buf (Elt F) (gain2M.view.loc (c : Thread nD τ))) (g3 : Buf (Elt F) (gain3M.view.loc (c : Thread nD τ)))
/-- The gain vectors as the kernel fetches them. -/
abbrev gain2V : Buf (Elt F) (gain2M.view.loc (c : Thread nD τ)) :=
  gain2M.view.writes (Elt F) gain2M.view.junk [⟨Rect.whole S1x4096, ReadAs.same.apply (a3M.view.read (Elt F) A3)⟩]
abbrev gain3V : Buf (Elt F) (gain3M.view.loc (c : Thread nD τ)) :=
  gain3M.view.writes (Elt F) gain3M.view.junk [⟨Rect.whole S1x4096, ReadAs.same.apply (a4M.view.read (Elt F) A4)⟩]

theorem ahead_end (Φ : Fin 64 → sProp 𝕄) : bigSep (ahead 64) Φ = iprop(emp) := by
  have e : ahead 64 = ∅ := by decide
  rw [e]; rfl

/-- What the first trip starts from. -/
theorem resAt_zero :
    resAt c XA MA FA g2 g3 OV 0 = iprop(gain2P c g2 ∗ gain3P c g3 ∗ (∃ W, owes (c : Thread nD τ) 0 W)
      ∗ (bigSep (homes 0) (xhomeP c XA) ∗ (∃ f, xflightP c XA 0 0 f) ∗ (∃ f, xflightP c XA 1 1 f) ∗ xfree c 2)
      ∗ (bigSep (homes 0) (mhomeP c MA) ∗ (∃ f, mflightP c MA 0 0 f) ∗ (∃ f, mflightP c MA 1 1 f) ∗ mfree c 2)
      ∗ (bigSep (homes 0) (ghomeP c FA) ∗ (∃ f, gflightP c FA 0 0 f) ∗ (∃ f, gflightP c FA 1 1 f) ∗ gfree c 2)
      ∗ ofree c 0 ∗ bigSep Finset.univ (ohomeP c OV) ∗ emp ∗ ofree c 1) := by
  unfold resAt xres mres gres ores
  rw [ahead_zero, behind_zero, oprev_zero _ _ _ _ _ _ _ _ rfl]
  rw [xrole_lo c XA 0 (by omega), xrole_lo c XA (0 + 1) (by omega)]
  rw [mrole_lo c MA 0 (by omega), mrole_lo c MA (0 + 1) (by omega)]
  rw [grole_lo c FA 0 (by omega), grole_lo c FA (0 + 1) (by omega)]
  rfl

/-- What the last trip leaves. -/
theorem resAt_end (n : ℕ) (hn : n = 64) :
    resAt c XA MA FA g2 g3 OV n = iprop(gain2P c g2 ∗ gain3P c g3 ∗ (∃ W, owes (c : Thread nD τ) 0 W)
      ∗ (bigSep Finset.univ (xhomeP c XA) ∗ xfree c 1 ∗ xfree c 2 ∗ xfree c 0)
      ∗ (bigSep Finset.univ (mhomeP c MA) ∗ mfree c 1 ∗ mfree c 2 ∗ mfree c 0)
      ∗ (bigSep Finset.univ (ghomeP c FA) ∗ gfree c 1 ∗ gfree c 2 ∗ gfree c 0)
      ∗ ofree c 0 ∗ emp ∗ bigSep (behind 64) (ohomeP c (outG c XA MA FA g2 g3))
      ∗ (∃ f, oflightP c OV 1 63 f (outB c XA MA FA g2 g3 63))) := by
  subst hn
  unfold resAt xres mres gres ores
  rw [ahead_end, oprev_pos _ _ _ _ _ _ _ _ (by omega)]
  rw [xrole_hi c XA 64 (by omega), xrole_hi c XA (64 + 1) (by omega), homes_end (xhomeP c XA)]
  rw [mrole_hi c MA 64 (by omega), mrole_hi c MA (64 + 1) (by omega), homes_end (mhomeP c MA)]
  rw [grole_hi c FA 64 (by omega), grole_hi c FA (64 + 1) (by omega), homes_end (ghomeP c FA)]
  rfl

set_option maxHeartbeats 4000000 in
theorem bodyRun (Q : PUnit → sProp 𝕄) :
    iprop(PRE c XA MA FA OV A3 A4 ∗ (PRE c XA MA FA (outG c XA MA FA (gain2V c A3) (gain3V c A4)) A3 A4 -∗ Q ⟨⟩))
      ⊢ wp frame (wpE (defs₀ (F := F)) 𝒱₀ (c : Thread nD τ) none) Set.univ (prog (F := F)) Q := by
  unfold PRE prog
  have hc1 := cond1_at; have hc2 := cond2_at; have hc3 := cond3_at
  have hw6 := chk6_end; have hw7 := chk7_end
  simp only [cc0_post_ffn_eq_skeleton]; unfold cc0_post_ffn_skel
  iintro ⟨⟨HA3, HA4, ⟨%g2, Hg2⟩, ⟨%g3, Hg3⟩, HcA, HcB, ⟨%W, HW⟩, Hhx, Hfx0, Hfx1, Hfx2, Hhm, Hfm0, Hfm1, Hfm2, Hhg, Hfg0, Hfg1, Hfg2, Hho, Hfo0, Hfo1⟩, Hk⟩
  unfold xfree mfree gfree
  ihave Hh3x := (entails_of_eq (homes_zero (xhomeP c XA))) $$ Hhx
  icases Hh3x with ⟨Hhx0, Hhx1, Hhx⟩
  icases Hfx0 with ⟨Hcx0, ⟨%ex0, Hsx0⟩⟩
  icases Hfx1 with ⟨Hcx1, ⟨%ex1, Hsx1⟩⟩
  ihave Hh3m := (entails_of_eq (homes_zero (mhomeP c MA))) $$ Hhm
  icases Hh3m with ⟨Hhm0, Hhm1, Hhm⟩
  icases Hfm0 with ⟨Hcm0, ⟨%em0, Hsm0⟩⟩
  icases Hfm1 with ⟨Hcm1, ⟨%em1, Hsm1⟩⟩
  ihave Hh3g := (entails_of_eq (homes_zero (ghomeP c FA))) $$ Hhg
  icases Hh3g with ⟨Hhg0, Hhg1, Hhg⟩
  icases Hfg0 with ⟨Hcg0, ⟨%eg0, Hsg0⟩⟩
  icases Hfg1 with ⟨Hcg1, ⟨%eg1, Hsg1⟩⟩
  sl_exec
  sl_for (fun (k : ℕ) acc => (iprop(⌜acc = words k⌝ ∗ resAt c XA MA FA (gain2V c A3) (gain3V c A4) OV k) : sProp 𝕄)) $$ [Hg2 Hg3 HW Hcx0 Hcx1 Hhx Hfx2 Hcm0 Hcm1 Hhm Hfm2 Hcg0 Hcg1 Hhg Hfg2 Hho Hfo0 Hfo1]
  · intro k acc
    iintro ⟨%hacc, H⟩
    subst hacc
    iapply (trip c XA MA FA OV (gain2V c A3) (gain3V c A4) 1#32 1#32 1#32 2#32 1#1 1#32 k); iexact H
  · isplitr; · ipureintro; rfl
    rw [resAt_zero]
    unfold xfree mfree gfree
    isplitl [Hg2]; · iexact Hg2
    isplitl [Hg3]; · iexact Hg3
    isplitl [HW]; · iexists _; iexact HW
    isplitl [Hcx0 Hcx1 Hhx Hfx2]
    · isplitl [Hhx]; · iexact Hhx
      isplitl [Hcx0]; · iexists ex0; iexact Hcx0
      isplitl [Hcx1]; · iexists ex1; iexact Hcx1
      iexact Hfx2
    isplitl [Hcm0 Hcm1 Hhm Hfm2]
    · isplitl [Hhm]; · iexact Hhm
      isplitl [Hcm0]; · iexists em0; iexact Hcm0
      isplitl [Hcm1]; · iexists em1; iexact Hcm1
      iexact Hfm2
    isplitl [Hcg0 Hcg1 Hhg Hfg2]
    · isplitl [Hhg]; · iexact Hhg
      isplitl [Hcg0]; · iexists eg0; iexact Hcg0
      isplitl [Hcg1]; · iexists eg1; iexact Hcg1
      iexact Hfg2
    isplitl [Hfo0]; · iexact Hfo0
    isplitl [Hho]; · iexact Hho
    isplitr; · iempintro
    iexact Hfo1
  iintro %acc ⟨%hacc, HR⟩
  have hacc' : acc = words 64 := hacc.trans (congrArg words trips_eq)
  subst hacc'
  ihave HR2 := (entails_of_eq (resAt_end c XA MA FA OV (gain2V c A3) (gain3V c A4) (Scf.trips k0_t1_loop.lb k0_t1_loop.ub k0_t1_loop.st) trips_eq)) $$ HR
  icases HR2 with ⟨Hg2, Hg3, ⟨%W', HW⟩, ⟨Hhx, Hfx1, Hfx2, Hfx0⟩, ⟨Hhm, Hfm1, Hfm2, Hfm0⟩, ⟨Hhg, Hfg1, Hfg2, Hfg0⟩, Hfo0, -, Hbe, ⟨%fo, HFo⟩⟩
  unfold xfree mfree gfree
  sl_exec
  sl_step
  iapply Hk
  isplitl [HA3]; · iexact HA3
  isplitl [HA4]; · iexact HA4
  isplitl [Hg2]; · iexists _; iexact Hg2
  isplitl [Hg3]; · iexists _; iexact Hg3
  isplitl [HcA]; · iexact HcA
  isplitl [HcB]; · iexact HcB
  isplitl [HW]; · iexists _; iexact HW
  isplitl [Hhx]; · iexact Hhx
  isplitl [Hfx0]; · iexact Hfx0
  isplitl [Hfx1]; · iexact Hfx1
  isplitl [Hfx2]; · iexact Hfx2
  isplitl [Hhm]; · iexact Hhm
  isplitl [Hfm0]; · iexact Hfm0
  isplitl [Hfm1]; · iexact Hfm1
  isplitl [Hfm2]; · iexact Hfm2
  isplitl [Hhg]; · iexact Hhg
  isplitl [Hfg0]; · iexact Hfg0
  isplitl [Hfg1]; · iexact Hfg1
  isplitl [Hfg2]; · iexact Hfg2
  isplitl [Hbe HFo_dst]
  · iapply (entails_of_eq (behind_end (ohomeP c (outG c XA MA FA (gain2V c A3) (gain3V c A4)))))
    iapply (entails_of_eq (behind_in (ohomeP c (outG c XA MA FA (gain2V c A3) (gain3V c A4))) 64 (by omega) (by omega)).symm)
    isplitl [HFo_dst]
    · iapply (entails_of_eq (odone_eq c XA MA FA (gain2V c A3) (gain3V c A4) OV 63)); iexact HFo_dst
    iexact Hbe
  isplitl [Hfo0]; · iexact Hfo0
  unfold ofree
  isplitl [HFo]; · iexact HFo
  iexists _; iexact HFo_src
end Body

end Cert.Proof.Post2

end
-- ==== Proof.Run.lean ====
/- The launch: the buffers cut into the blocks and slots the body runs on, the run of the whole program, its frame and
   the contents it leaves. -/
module

public import proofs.«01_k».proof.Proof.Body
public import Idealize.ShloMosaic.Lib.Pipeline.FrameBody
public import Idealize.ShloMosaic.Lib.Pipeline.FrameValue
public import Idealize.ShloMosaic.Lib.Ring
public import Idealize.ShloMosaic.Lib.Ring.Trips
public import Idealize.ShloMosaic.Lib.Pipeline.Value

@[expose] public section

noncomputable section

namespace Cert.Proof.Post2

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

open Idealize.ShloMosaic.Pipeline (Dat Cfg Window BodyObligation)

/-! ## Element sets -/

abbrev G16 (b : Fin 64) : Finset S16384x4096.Idx := (Rect.unit (s := S16384x4096) (blkOff b) S256x4096.size (blkOff_inb b)).set
abbrev G24 (b : Fin 64) : Finset S24576x4096.Idx := (Rect.unit (s := S24576x4096) (blkOff b) S256x4096.size (blkOff_inb' b)).set
abbrev SS3 (s : Fin 3) : Finset S3x256x4096.Idx := (Rect.unit (s := S3x256x4096) (slotOff s) S1x256x4096.size (slotOff_inb s)).set
abbrev SS2 (s : Fin 2) : Finset S2x256x4096.Idx := (Rect.unit (s := S2x256x4096) (slotOff2 s) S1x256x4096.size (slotOff2_inb s)).set

theorem mem_G16 (b : Fin 64) (y : S16384x4096.Idx) : y ∈ G16 b ↔ (y 0).val / 256 = b.val := by
  rw [Rect.mem_set_unit]
  have h1 : (y 1).val < 4096 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4096; omega
theorem G16_disjoint : ∀ b b' : Fin 64, b ≠ b' → Disjoint (G16 b) (G16 b') := by
  intro b b' hne; rw [Finset.disjoint_left]; intro y hy hy'; rw [mem_G16] at hy hy'; exact hne (Fin.ext (hy.symm.trans hy'))
theorem mem_G24 (b : Fin 64) (y : S24576x4096.Idx) : y ∈ G24 b ↔ (y 0).val / 256 = b.val := by
  rw [Rect.mem_set_unit]
  have h1 : (y 1).val < 4096 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4096; omega
theorem G24_disjoint : ∀ b b' : Fin 64, b ≠ b' → Disjoint (G24 b) (G24 b') := by
  intro b b' hne; rw [Finset.disjoint_left]; intro y hy hy'; rw [mem_G24] at hy hy'; exact hne (Fin.ext (hy.symm.trans hy'))
theorem G16_cover : (Finset.univ : Finset (Fin 64)).biUnion G16 = Finset.univ := by
  ext y; simp only [Finset.mem_biUnion, Finset.mem_univ, true_and, iff_true]
  have h0 : (y 0).val < 16384 := (y 0).isLt
  exact ⟨⟨(y 0).val / 256, by omega⟩, by rw [mem_G16]⟩
theorem mem_SS3 (s : Fin 3) (y : S3x256x4096.Idx) : y ∈ SS3 s ↔ (y 0).val = s.val := by
  rw [Rect.mem_set_unit]
  have h1 : (y 1).val < 256 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
theorem SS3_disjoint : ∀ s s' : Fin 3, s ≠ s' → Disjoint (SS3 s) (SS3 s') := by
  intro s s' hne; rw [Finset.disjoint_left]; intro y hy hy'; rw [mem_SS3] at hy hy'; exact hne (Fin.ext (hy.symm.trans hy'))
theorem SS3_cover : (Finset.univ : Finset (Fin 3)).biUnion SS3 = Finset.univ := by
  ext y; simp only [Finset.mem_biUnion, Finset.mem_univ, true_and, iff_true]; exact ⟨(y 0).cast (by decide), by rw [mem_SS3]; rfl⟩
theorem mem_SS2 (s : Fin 2) (y : S2x256x4096.Idx) : y ∈ SS2 s ↔ (y 0).val = s.val := by
  rw [Rect.mem_set_unit]
  have h1 : (y 1).val < 256 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
theorem SS2_disjoint : ∀ s s' : Fin 2, s ≠ s' → Disjoint (SS2 s) (SS2 s') := by
  intro s s' hne; rw [Finset.disjoint_left]; intro y hy hy'; rw [mem_SS2] at hy hy'; exact hne (Fin.ext (hy.symm.trans hy'))
theorem SS2_cover : (Finset.univ : Finset (Fin 2)).biUnion SS2 = Finset.univ := by
  ext y; simp only [Finset.mem_biUnion, Finset.mem_univ, true_and, iff_true]; exact ⟨(y 0).cast (by decide), by rw [mem_SS2]; rfl⟩
theorem xblk_set (b : Fin 64) : (xblk b).view.set = G16 b := View.set_slice_whole _ _
theorem xslot_set (s : Fin 3) : (xslot s).view.set = SS3 s := (View.set_reshape _ _).trans (View.set_slice_whole _ _)
theorem mblk_set (b : Fin 64) : (mblk b).view.set = G24 b := View.set_slice_whole _ _
theorem mslot_set (s : Fin 3) : (mslot s).view.set = SS3 s := (View.set_reshape _ _).trans (View.set_slice_whole _ _)
theorem gblk_set (b : Fin 64) : (gblk b).view.set = G24 b := View.set_slice_whole _ _
theorem gslot_set (s : Fin 3) : (gslot s).view.set = SS3 s := (View.set_reshape _ _).trans (View.set_slice_whole _ _)
theorem oblk_set (b : Fin 64) : (oblk b).view.set = G16 b := View.set_slice_whole _ _
theorem oslot_set (s : Fin 2) : (oslot s).view.set = SS2 s := (View.set_reshape _ _).trans (View.set_slice_whole _ _)

section Cut
variable (c : Dev nD)
  (XA : Buf (Elt F) (xM.view.loc (c : Thread nD τ))) (MA : Buf (Elt F) (mM.view.loc (c : Thread nD τ)))
  (FA : Buf (Elt F) (gM.view.loc (c : Thread nD τ)))
  (OV : Buf (Elt F) (oM.view.loc (c : Thread nD τ)))

theorem x_eq : (((c : Thread nD τ).loc main_arg0) ↦{fullShare} XA : sProp 𝕄) = bigSep Finset.univ (xhomeP c XA) := by
  rw [Ring.pointsTo_blocks (ℓ := (c : Thread nD τ).loc main_arg0) G16 G16_disjoint G16_cover]
  exact bigSep_congr fun b _ => by rw [← xblk_set]; rfl
theorem o_eq : (((c : Thread nD τ).loc main_v4) ↦{fullShare} OV : sProp 𝕄) = bigSep Finset.univ (ohomeP c OV) := by
  rw [Ring.pointsTo_blocks (ℓ := (c : Thread nD τ).loc main_v4) G16 G16_disjoint G16_cover]
  exact bigSep_congr fun b _ => by unfold ohomeP; rw [← oblk_set]; rfl
/-- The rows no block of this call reaches. -/
abbrev mspare : sProp 𝕄 := ((c : Thread nD τ).loc main_arg1) ↦[Finset.univ \ Finset.univ.biUnion G24]{fullShare} MA
abbrev gspare : sProp 𝕄 := ((c : Thread nD τ).loc main_arg2) ↦[Finset.univ \ Finset.univ.biUnion G24]{fullShare} FA
theorem m_blocks : (((c : Thread nD τ).loc main_arg1) ↦[Finset.univ.biUnion G24]{fullShare} MA : sProp 𝕄) = bigSep Finset.univ (mhomeP c MA) := by
  rw [Ring.pointsTo_sub_blocks (ℓ := (c : Thread nD τ).loc main_arg1) G24 G24_disjoint _ rfl]
  exact bigSep_congr fun b _ => by rw [← mblk_set]; rfl
theorem m_cut : (((c : Thread nD τ).loc main_arg1) ↦{fullShare} MA : sProp 𝕄) ⊢ iprop(bigSep Finset.univ (mhomeP c MA) ∗ mspare c MA) := by
  rw [← m_blocks]
  exact (pointsTo_split_subset (q := fullShare) (f := MA) (Finset.subset_univ (Finset.univ.biUnion G24))).1
theorem m_uncut : iprop(bigSep Finset.univ (mhomeP c MA) ∗ mspare c MA) ⊢ (((c : Thread nD τ).loc main_arg1) ↦{fullShare} MA : sProp 𝕄) := by
  rw [← m_blocks]
  exact (pointsTo_split_subset (q := fullShare) (f := MA) (Finset.subset_univ (Finset.univ.biUnion G24))).2
theorem g_blocks : (((c : Thread nD τ).loc main_arg2) ↦[Finset.univ.biUnion G24]{fullShare} FA : sProp 𝕄) = bigSep Finset.univ (ghomeP c FA) := by
  rw [Ring.pointsTo_sub_blocks (ℓ := (c : Thread nD τ).loc main_arg2) G24 G24_disjoint _ rfl]
  exact bigSep_congr fun b _ => by rw [← gblk_set]; rfl
theorem g_cut : (((c : Thread nD τ).loc main_arg2) ↦{fullShare} FA : sProp 𝕄) ⊢ iprop(bigSep Finset.univ (ghomeP c FA) ∗ gspare c FA) := by
  rw [← g_blocks]
  exact (pointsTo_split_subset (q := fullShare) (f := FA) (Finset.subset_univ (Finset.univ.biUnion G24))).1
theorem g_uncut : iprop(bigSep Finset.univ (ghomeP c FA) ∗ gspare c FA) ⊢ (((c : Thread nD τ).loc main_arg2) ↦{fullShare} FA : sProp 𝕄) := by
  rw [← g_blocks]
  exact (pointsTo_split_subset (q := fullShare) (f := FA) (Finset.subset_univ (Finset.univ.biUnion G24))).2
theorem xslotP_eq (s : Fin 3) (f) : xslotP c s f = (((c : Thread nD τ).loc cc0_scoped0) ↦[SS3 s]{fullShare} f : sProp 𝕄) :=
  congrArg (fun S => (_ ↦[S]{fullShare} f : sProp 𝕄)) (xslot_set s)
theorem xbuf_split : iprop(∃ f : Buf (Elt F) ((c : Thread nD τ).loc cc0_scoped0), ((c : Thread nD τ).loc cc0_scoped0) ↦{fullShare} f)
      ⊢ (iprop((∃ f, xslotP c 0 f) ∗ (∃ f, xslotP c 1 f) ∗ (∃ f, xslotP c 2 f)) : sProp 𝕄) :=
  Ring.slots3_split (ℓ := (c : Thread nD τ).loc cc0_scoped0) SS3 SS3_disjoint SS3_cover (xslotP c 0) (xslotP c 1) (xslotP c 2) (xslotP_eq c 0) (xslotP_eq c 1) (xslotP_eq c 2)
theorem xbuf_join : (iprop((∃ f, xslotP c 0 f) ∗ (∃ f, xslotP c 1 f) ∗ (∃ f, xslotP c 2 f)) : sProp 𝕄)
      ⊢ iprop(∃ f : Buf (Elt F) ((c : Thread nD τ).loc cc0_scoped0), ((c : Thread nD τ).loc cc0_scoped0) ↦{fullShare} f) :=
  Ring.slots3_join (ℓ := (c : Thread nD τ).loc cc0_scoped0) SS3 SS3_disjoint SS3_cover (xslotP c 0) (xslotP c 1) (xslotP c 2) (xslotP_eq c 0) (xslotP_eq c 1) (xslotP_eq c 2)
theorem mslotP_eq (s : Fin 3) (f) : mslotP c s f = (((c : Thread nD τ).loc cc0_scoped2) ↦[SS3 s]{fullShare} f : sProp 𝕄) :=
  congrArg (fun S => (_ ↦[S]{fullShare} f : sProp 𝕄)) (mslot_set s)
theorem mbuf_split : iprop(∃ f : Buf (Elt F) ((c : Thread nD τ).loc cc0_scoped2), ((c : Thread nD τ).loc cc0_scoped2) ↦{fullShare} f)
      ⊢ (iprop((∃ f, mslotP c 0 f) ∗ (∃ f, mslotP c 1 f) ∗ (∃ f, mslotP c 2 f)) : sProp 𝕄) :=
  Ring.slots3_split (ℓ := (c : Thread nD τ).loc cc0_scoped2) SS3 SS3_disjoint SS3_cover (mslotP c 0) (mslotP c 1) (mslotP c 2) (mslotP_eq c 0) (mslotP_eq c 1) (mslotP_eq c 2)
theorem mbuf_join : (iprop((∃ f, mslotP c 0 f) ∗ (∃ f, mslotP c 1 f) ∗ (∃ f, mslotP c 2 f)) : sProp 𝕄)
      ⊢ iprop(∃ f : Buf (Elt F) ((c : Thread nD τ).loc cc0_scoped2), ((c : Thread nD τ).loc cc0_scoped2) ↦{fullShare} f) :=
  Ring.slots3_join (ℓ := (c : Thread nD τ).loc cc0_scoped2) SS3 SS3_disjoint SS3_cover (mslotP c 0) (mslotP c 1) (mslotP c 2) (mslotP_eq c 0) (mslotP_eq c 1) (mslotP_eq c 2)
theorem gslotP_eq (s : Fin 3) (f) : gslotP c s f = (((c : Thread nD τ).loc cc0_scoped4) ↦[SS3 s]{fullShare} f : sProp 𝕄) :=
  congrArg (fun S => (_ ↦[S]{fullShare} f : sProp 𝕄)) (gslot_set s)
theorem gbuf_split : iprop(∃ f : Buf (Elt F) ((c : Thread nD τ).loc cc0_scoped4), ((c : Thread nD τ).loc cc0_scoped4) ↦{fullShare} f)
      ⊢ (iprop((∃ f, gslotP c 0 f) ∗ (∃ f, gslotP c 1 f) ∗ (∃ f, gslotP c 2 f)) : sProp 𝕄) :=
  Ring.slots3_split (ℓ := (c : Thread nD τ).loc cc0_scoped4) SS3 SS3_disjoint SS3_cover (gslotP c 0) (gslotP c 1) (gslotP c 2) (gslotP_eq c 0) (gslotP_eq c 1) (gslotP_eq c 2)
theorem gbuf_join : (iprop((∃ f, gslotP c 0 f) ∗ (∃ f, gslotP c 1 f) ∗ (∃ f, gslotP c 2 f)) : sProp 𝕄)
      ⊢ iprop(∃ f : Buf (Elt F) ((c : Thread nD τ).loc cc0_scoped4), ((c : Thread nD τ).loc cc0_scoped4) ↦{fullShare} f) :=
  Ring.slots3_join (ℓ := (c : Thread nD τ).loc cc0_scoped4) SS3 SS3_disjoint SS3_cover (gslotP c 0) (gslotP c 1) (gslotP c 2) (gslotP_eq c 0) (gslotP_eq c 1) (gslotP_eq c 2)
theorem oslotP_eq (s : Fin 2) (f) : oslotP c s f = (((c : Thread nD τ).loc cc0_scoped8) ↦[SS2 s]{fullShare} f : sProp 𝕄) :=
  congrArg (fun S => (_ ↦[S]{fullShare} f : sProp 𝕄)) (oslot_set s)
theorem obuf_split : iprop(∃ f : Buf (Elt F) ((c : Thread nD τ).loc cc0_scoped8), ((c : Thread nD τ).loc cc0_scoped8) ↦{fullShare} f)
      ⊢ (iprop((∃ f, oslotP c 0 f) ∗ (∃ f, oslotP c 1 f)) : sProp 𝕄) :=
  Ring.slots2_split (ℓ := (c : Thread nD τ).loc cc0_scoped8) SS2 SS2_disjoint SS2_cover (oslotP c 0) (oslotP c 1) (oslotP_eq c 0) (oslotP_eq c 1)
theorem obuf_join : (iprop((∃ f, oslotP c 0 f) ∗ (∃ f, oslotP c 1 f)) : sProp 𝕄)
      ⊢ iprop(∃ f : Buf (Elt F) ((c : Thread nD τ).loc cc0_scoped8), ((c : Thread nD τ).loc cc0_scoped8) ↦{fullShare} f) :=
  Ring.slots2_join (ℓ := (c : Thread nD τ).loc cc0_scoped8) SS2 SS2_disjoint SS2_cover (oslotP c 0) (oslotP c 1) (oslotP_eq c 0) (oslotP_eq c 1)
end Cut

/-! ## The kernel's own semaphores and buffers -/

abbrev osem0 : Fin 13 → SemLoc sig := fun j => (![SemLoc.dma 0, SemLoc.dma 1, SemLoc.dma 2, SemLoc.dma 3, SemLoc.dma 4, SemLoc.dma 5, SemLoc.dma 6,
  SemLoc.dma 7, SemLoc.dma 8, SemLoc.dma 9, SemLoc.dma 10, SemLoc.dma 11, SemLoc.dma 12] : Fin 13 → SemLoc sig) j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(xcellP c 0 ∗ xcellP c 1 ∗ xcellP c 2 ∗ mcellP c 0 ∗ mcellP c 1 ∗ mcellP c 2 ∗ gcellP c 0 ∗ gcellP c 1 ∗ gcellP c 2
          ∗ ocellP c 0 ∗ ocellP c 1 ∗ dcellAP c ∗ dcellBP c) := by
  rw [Pipeline.ownSems0_eq_of_list c osem0 [0, 1, 2, 3, 4, 5, 6, 7, 8, 9, 10, 11, 12] (by decide) (by decide)]; rfl

/-- What the body reads in place: the three row arrays and the two gain vectors. -/
def H0 : Finset (Ref sig .tc) := {main_arg0, main_arg1, main_arg2, main_v1, main_v3}
theorem H0_sub : H0 ⊆ Pipeline.restRefs sig cfg0.spec := by decide
/-- What it writes in place: the result. -/
def R0 : Finset (Ref sig .tc) := {main_v4}
theorem R0_sub : R0 ⊆ Pipeline.restRefs sig cfg0.spec \ H0 := by decide

section Launch
variable (m : (ℓ : Loc nD τ sig) → Buf (Elt F) ℓ) (ρ : Dev nD → PrngReg)

theorem read0_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ a3P c (V m c main_v1) ∗ a4P c (V m c main_v3)) := by
  rw [BI.bigSep_eq_bigSepL_of_eq [main_arg0, main_arg1, main_arg2, main_v1, main_v3] (by decide) (by decide)]
  simp only [BI.bigSepL_cons_cons, BI.bigSepL_singleton]
  unfold a3P a4P
  rw [show (a3M : Memref sig .tc .hbm S1x4096 .f32).view.set = Finset.univ from View.set_whole _,
    show (a4M : Memref sig .tc .hbm S1x4096 .f32).view.set = Finset.univ from View.set_whole _]; rfl

/-- The result's contents when the region returns. -/
def resultV (c : Dev nD) : Buf (Elt F) ((c : Thread nD τ).loc main_v4) :=
  outG c (V m c main_arg0) (V m c main_arg1) (V m c main_arg2) (gain2V c (V m c main_v1)) (gain3V c (V m c main_v3))
/-- The buffers' contents when the region returns: the result's, else those it was entered with. -/
def Gv (c : Dev nD) : (b : Ref sig .tc) → Buf (Elt F) ((c : Thread nD τ).loc b) := Function.update (V m c) main_v4 (resultV m c)

theorem routed0_eq (c : Dev nD) (W : (b : Ref sig .tc) → Buf (Elt F) ((c : Thread nD τ).loc b)) :
    (Pipeline.routed R0 c W : sProp 𝕄) = ((c : Thread nD τ).loc main_v4) ↦{fullShare} W main_v4 := by
  unfold Pipeline.routed; rw [BI.bigSep_eq_bigSepL_of_eq [main_v4] (by decide) (by decide)]; rfl

theorem gain_eq (c : Dev nD) :
    (iprop((∃ f : Buf (Elt F) ((c : Thread nD τ).loc cc0_scoped6), ((c : Thread nD τ).loc cc0_scoped6) ↦{fullShare} f)) : sProp 𝕄) = iprop(∃ g, gain2P c g) := by
  unfold gain2P
  rw [show (gain2M : Memref sig .tc .vmem S1x4096 .f32).view.set = Finset.univ from View.set_whole _]
theorem gain_eq' (c : Dev nD) :
    (iprop((∃ f : Buf (Elt F) ((c : Thread nD τ).loc cc0_scoped7), ((c : Thread nD τ).loc cc0_scoped7) ↦{fullShare} f)) : sProp 𝕄) = iprop(∃ g, gain3P c g) := by
  unfold gain3P
  rw [show (gain3M : Memref sig .tc .vmem S1x4096 .f32).view.set = Finset.univ from View.set_whole _]

/-- What the region holds beside the register and the waits, at the result's contents `OV`. -/
def held (c : Dev nD) (OV : Buf (Elt F) ((c : Thread nD τ).loc main_v4)) : sProp 𝕄 :=
  iprop(Pipeline.scopedRest (Ix := Unit) (Name := ℕ) (U := Pipeline.UD sig nD τ) (Lvl := ℕ) (Val := Elt F) cfg0.spec c
    ∗ Pipeline.ownSems0 (Ix := Unit) (Name := ℕ) (U := Pipeline.UD sig nD τ) (Lvl := ℕ) (Val := Elt F) (τ := τ) osem0 c
    ∗ (bigSep H0 fun b => ((c.tc : Thread nD τ).loc b) ↦{fullShare} V m c b) ∗ (((c : Thread nD τ).loc main_v4) ↦{fullShare} OV))

theorem held_cut (c : Dev nD) (OV : Buf (Elt F) ((c : Thread nD τ).loc main_v4)) :
    iprop(held m c OV ∗ (∃ W, owes (c : Thread nD τ) 0 W))
      ⊢ (iprop(PRE c (V m c main_arg0) (V m c main_arg1) (V m c main_arg2) OV (V m c main_v1) (V m c main_v3) ∗ mspare c (V m c main_arg1) ∗ gspare c (V m c main_arg2)) : sProp 𝕄) := by
  unfold held PRE xfree mfree gfree ofree
  rw [scopedRest0_eq, ownSems00_eq, read0_eq, x_eq, o_eq, gain_eq, gain_eq']
  iintro ⟨⟨⟨Hbx, Hbm, Hbg, H6, H7, Hbo⟩, ⟨Hcx0, Hcx1, Hcx2, Hcm0, Hcm1, Hcm2, Hcg0, Hcg1, Hcg2, Hco0, Hco1, HcA, HcB⟩, ⟨Hx, Hm, Hg, H3, H4⟩, Ho⟩, HW⟩
  ihave Hm2 := (m_cut c _) $$ Hm
  icases Hm2 with ⟨Hm, Hms⟩
  ihave Hg2 := (g_cut c _) $$ Hg
  icases Hg2 with ⟨Hg, Hgs⟩
  ihave Hsx := (xbuf_split c) $$ Hbx
  icases Hsx with ⟨Hsx0, Hsx1, Hsx2⟩
  ihave Hsm := (mbuf_split c) $$ Hbm
  icases Hsm with ⟨Hsm0, Hsm1, Hsm2⟩
  ihave Hsg := (gbuf_split c) $$ Hbg
  icases Hsg with ⟨Hsg0, Hsg1, Hsg2⟩
  ihave Hso := (obuf_split c) $$ Hbo
  icases Hso with ⟨Hso0, Hso1⟩
  isplitl [H3 H4 H6 H7 HcA HcB HW Hx Hcx0 Hsx0 Hcx1 Hsx1 Hcx2 Hsx2 Hm Hcm0 Hsm0 Hcm1 Hsm1 Hcm2 Hsm2 Hg Hcg0 Hsg0 Hcg1 Hsg1 Hcg2 Hsg2 Ho Hco0 Hso0 Hco1 Hso1]
  · isplitl [H3]; · iexact H3
    isplitl [H4]; · iexact H4
    isplitl [H6]; · iexact H6
    isplitl [H7]; · iexact H7
    isplitl [HcA]; · iexact HcA
    isplitl [HcB]; · iexact HcB
    isplitl [HW]; · iexact HW
    isplitl [Hx]; · iexact Hx
    isplitl [Hcx0 Hsx0]
    · isplitl [Hcx0]; · iexact Hcx0
      iexact Hsx0
    isplitl [Hcx1 Hsx1]
    · isplitl [Hcx1]; · iexact Hcx1
      iexact Hsx1
    isplitl [Hcx2 Hsx2]
    · isplitl [Hcx2]; · iexact Hcx2
      iexact Hsx2
    isplitl [Hm]; · iexact Hm
    isplitl [Hcm0 Hsm0]
    · isplitl [Hcm0]; · iexact Hcm0
      iexact Hsm0
    isplitl [Hcm1 Hsm1]
    · isplitl [Hcm1]; · iexact Hcm1
      iexact Hsm1
    isplitl [Hcm2 Hsm2]
    · isplitl [Hcm2]; · iexact Hcm2
      iexact Hsm2
    isplitl [Hg]; · iexact Hg
    isplitl [Hcg0 Hsg0]
    · isplitl [Hcg0]; · iexact Hcg0
      iexact Hsg0
    isplitl [Hcg1 Hsg1]
    · isplitl [Hcg1]; · iexact Hcg1
      iexact Hsg1
    isplitl [Hcg2 Hsg2]
    · isplitl [Hcg2]; · iexact Hcg2
      iexact Hsg2
    isplitl [Ho]; · iexact Ho
    isplitl [Hco0 Hso0]
    · isplitl [Hco0]; · iexact Hco0
      iexact Hso0
    isplitl [Hco1]; · iexact Hco1
    iexact Hso1
  isplitl [Hms]; · iexact Hms
  iexact Hgs

theorem held_uncut (c : Dev nD) (OV : Buf (Elt F) ((c : Thread nD τ).loc main_v4)) :
    (iprop(PRE c (V m c main_arg0) (V m c main_arg1) (V m c main_arg2) OV (V m c main_v1) (V m c main_v3) ∗ mspare c (V m c main_arg1) ∗ gspare c (V m c main_arg2)) : sProp 𝕄)
      ⊢ iprop(held m c OV ∗ (∃ W, owes (c : Thread nD τ) 0 W)) := by
  unfold held PRE xfree mfree gfree ofree
  rw [scopedRest0_eq, ownSems00_eq, read0_eq, x_eq, o_eq, gain_eq, gain_eq']
  iintro ⟨⟨H3, H4, H6, H7, HcA, HcB, HW, Hx, ⟨Hcx0, Hsx0⟩, ⟨Hcx1, Hsx1⟩, ⟨Hcx2, Hsx2⟩, Hm, ⟨Hcm0, Hsm0⟩, ⟨Hcm1, Hsm1⟩, ⟨Hcm2, Hsm2⟩, Hg, ⟨Hcg0, Hsg0⟩, ⟨Hcg1, Hsg1⟩, ⟨Hcg2, Hsg2⟩, Ho, ⟨Hco0, Hso0⟩, ⟨Hco1, Hso1⟩⟩, Hms, Hgs⟩
  isplitr [HW]; swap; · iexact HW
  isplitl [Hsx0 Hsx1 Hsx2 Hsm0 Hsm1 Hsm2 Hsg0 Hsg1 Hsg2 H6 H7 Hso0 Hso1]
  · isplitl [Hsx0 Hsx1 Hsx2]
    · iapply (xbuf_join c)
      isplitl [Hsx0]; · iexact Hsx0
      isplitl [Hsx1]; · iexact Hsx1
      iexact Hsx2
    isplitl [Hsm0 Hsm1 Hsm2]
    · iapply (mbuf_join c)
      isplitl [Hsm0]; · iexact Hsm0
      isplitl [Hsm1]; · iexact Hsm1
      iexact Hsm2
    isplitl [Hsg0 Hsg1 Hsg2]
    · iapply (gbuf_join c)
      isplitl [Hsg0]; · iexact Hsg0
      isplitl [Hsg1]; · iexact Hsg1
      iexact Hsg2
    isplitl [H6]; · iexact H6
    isplitl [H7]; · iexact H7
    iapply (obuf_join c)
    isplitl [Hso0]; · iexact Hso0
    iexact Hso1
  isplitl [Hcx0 Hcx1 Hcx2 Hcm0 Hcm1 Hcm2 Hcg0 Hcg1 Hcg2 Hco0 Hco1 HcA HcB]
  · isplitl [Hcx0]; · iexact Hcx0
    isplitl [Hcx1]; · iexact Hcx1
    isplitl [Hcx2]; · iexact Hcx2
    isplitl [Hcm0]; · iexact Hcm0
    isplitl [Hcm1]; · iexact Hcm1
    isplitl [Hcm2]; · iexact Hcm2
    isplitl [Hcg0]; · iexact Hcg0
    isplitl [Hcg1]; · iexact Hcg1
    isplitl [Hcg2]; · iexact Hcg2
    isplitl [Hco0]; · iexact Hco0
    isplitl [Hco1]; · iexact Hco1
    isplitl [HcA]; · iexact HcA
    iexact HcB
  isplitr [Ho]; swap; · iexact Ho
  isplitl [Hx]; · iexact Hx
  isplitl [Hm Hms]
  · iapply (m_uncut c _); isplitl [Hm]; · iexact Hm
    iexact Hms
  isplitl [Hg Hgs]
  · iapply (g_uncut c _); isplitl [Hg]; · iexact Hg
    iexact Hgs
  isplitl [H3]; · iexact H3
  iexact H4

/-! ## The region's data and its body -/

def Φr (c : Dev nD) (n : ℕ) : sProp 𝕄 :=
  if n = 0 then Pipeline.ΦDRG osem0 cfg0.spec H0 R0 (V m) (V m) c else Pipeline.ΦDRG osem0 cfg0.spec H0 R0 (V m) (Gv m) c

def dats (_ : Fin 1) (c : Dev nD) : Dat τ (Elt F) Unit ℕ (Pipeline.UD sig nD τ) ℕ cfg0 c where
  A w := V m c (Pipeline.arrRef cfg0.spec w)
  after w _ := w.elim0
  Φ t := Φr m c t.val
  q _ := fullShare
  owed _ := 0

theorem A_eq (c : Dev nD) (w : Fin cfg0.W) : (dats m 0 c).A w = V m c (Pipeline.arrRef cfg0.spec w) := by
  dsimp only [dats]

def bodyPre (c : Dev nD) (t : Fin cfg0.N) : sProp 𝕄 := iprop((dats m 0 c).Φ t.castSucc ∗ (dats m 0 c).owesAt () t.castSucc)
def bodyPost (c : Dev nD) (t : Fin cfg0.N) : sProp 𝕄 := iprop((dats m 0 c).Φ t.succ ∗ (dats m 0 c).owesAt () t.succ)

theorem Gv_v4 (c : Dev nD) : Gv m c main_v4 = resultV m c := Function.update_self _ _ _

theorem sound_body (c : Dev nD) (t : Fin cfg0.N) :
    bodyPre m c t ⊢ wp frame (wpE (defs₀ (F := F)) Variants.none c none) Set.univ (bodyAt0 t) (fun _ => bodyPost m c t) := by
  unfold bodyPre bodyPost
  obtain rfl : t = t0_0 := fin_N0 t
  rw [show (dats m 0 c).Φ (t0_0 : Fin cfg0.N).castSucc = Pipeline.ΦDRG osem0 cfg0.spec H0 R0 (V m) (V m) c from rfl,
    show (dats m 0 c).Φ (t0_0 : Fin cfg0.N).succ = Pipeline.ΦDRG osem0 cfg0.spec H0 R0 (V m) (Gv m) c from rfl,
    Pipeline.ΦDRG_eq, Pipeline.ΦDRG_eq, routed0_eq, routed0_eq, Gv_v4]
  unfold Dat.owesAt Pipeline.owesWithin
  rw [show (dats m 0 c).owed (t0_0 : Fin cfg0.N).castSucc = 0 from rfl, show (dats m 0 c).owed (t0_0 : Fin cfg0.N).succ = 0 from rfl]
  iintro ⟨⟨HS, Hp, Hq, HH, Ho⟩, ⟨%W, -, HW⟩⟩
  ihave Hc := (held_cut m c (V m c main_v4)) $$ [HS Hq HH Ho HW]
  · unfold held
    isplitr [HW]
    · isplitl [HS]; · iexact HS
      isplitl [Hq]; · iexact Hq
      isplitl [HH]; · iexact HH
      iexact Ho
    iexists _; iexact HW
  icases Hc with ⟨HP, Hms, Hgs⟩
  iapply (bodyRun c (V m c main_arg0) (V m c main_arg1) (V m c main_arg2) (V m c main_v4) (V m c main_v1) (V m c main_v3))
  isplitl [HP]; · iexact HP
  iintro HP
  ihave Hc := (held_uncut m c (resultV m c)) $$ [HP Hms Hgs]
  · isplitl [HP]; · iexact HP
    isplitl [Hms]; · iexact Hms
    iexact Hgs
  unfold held
  icases Hc with ⟨⟨HS, Hq, HH, Ho⟩, ⟨%W', HW⟩⟩
  isplitr [HW]
  · isplitl [HS]; · iexact HS
    isplitl [Hp]; · iexact Hp
    isplitl [Hq]; · iexact Hq
    isplitl [HH]; · iexact HH
    iexact Ho
  iexists W'; isplitr; · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem bigSep_W0 (Ψ : Fin cfg0.W → sProp 𝕄) : bigSep Finset.univ Ψ = iprop(emp) := rfl
set_option backward.isDefEq.respectTransparency.types false in
theorem body_obligation (c : Dev nD) : BodyObligation (dats (F := F) m 0 c) (defs₀ (F := F)) Variants.none () Set.univ := fun t => by
  rw [bigSep_W0, bigSep_W0, defs₀_row]
  have h := sound_body m c t
  unfold bodyPre bodyPost at h
  iintro ⟨H1, H2, -⟩
  iapply (wp_wand_r Idealize.ShloMosaic.frame (wpE (defs₀ (F := F)) Variants.none (c : Thread nD τ) none) Set.univ)
  isplitl [H1 H2]
  · iapply h
    isplitl [H1]; · iexact H1
    iexact H2
  iintro %_ ⟨H1, H2⟩
  isplitl [H1]; · iexact H1
  isplitl [H2]; · iexact H2
  iempintro

/-! ## The run -/

set_option maxHeartbeats 800000 in
theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ)
    (fun r => Pipeline.FramePostRG cfgs (dats m) 0 R0 (V m) (Gv m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m) (G := Gv m)
    (hin := fun _ => .rfl) (hout := fun _ => .rfl)

/-- The run: it ends, the arguments unchanged, every counter at zero, the result at `resultV`. -/
theorem run : θ_run defs (onTc (τ := τ) (main (F := F))) ⟨m, fun _ => 0, ρ⟩ (fun r =>
    ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
    ∧ ∀ c : Dev nD, r.2.mem ((c.tc : Thread nD τ).loc main_v4) = resultV m c) := by
  refine (θ_run defs _ _).mono (fun r h => ⟨⟨fun c => ?_, h.2⟩, fun c => ?_⟩) (run_main m ρ)
  · refine ⟨?_, ?_, ?_, ?_, ?_⟩
    · exact ((h.1.toR c).2 main_arg0 (Finset.mem_sdiff.mpr ⟨Pipeline.mem_restRefs_of main_arg0 (by decide) (by decide), by decide⟩)).trans (V_main_arg0 m c)
    · exact ((h.1.toR c).2 main_arg1 (Finset.mem_sdiff.mpr ⟨Pipeline.mem_restRefs_of main_arg1 (by decide) (by decide), by decide⟩)).trans (V_main_arg1 m c)
    · exact ((h.1.toR c).2 main_arg2 (Finset.mem_sdiff.mpr ⟨Pipeline.mem_restRefs_of main_arg2 (by decide) (by decide), by decide⟩)).trans (V_main_arg2 m c)
    · exact ((h.1.toR c).2 main_arg3 (Finset.mem_sdiff.mpr ⟨Pipeline.mem_restRefs_of main_arg3 (by decide) (by decide), by decide⟩)).trans (V_main_arg3 m c)
    · exact ((h.1.toR c).2 main_arg4 (Finset.mem_sdiff.mpr ⟨Pipeline.mem_restRefs_of main_arg4 (by decide) (by decide), by decide⟩)).trans (V_main_arg4 m c)
  · exact (h.1.written c (by decide)).trans (Gv_v4 m c)

end Launch

end Cert.Proof.Post2

end
-- ==== Proof.RefVal.lean ====
/- The reference's result at an index: the row of `x`, plus the normed and scaled row of the mix, plus the normed and
   scaled row of the feed-forward's output. -/
module

public import proofs.«01_k».proof.Proof.Gen.ReferenceIdeal.Run
public import Idealize.ShloMosaic.Lib.Pointwise

@[expose] public section

noncomputable section

namespace Cert.Proof.Post2

open Idealize.ShloMosaic

/-- One entry of a row's norm, scaled: `v · rsqrt (mean of squares + ε) · g`. -/
def nrm (row : Fin 4096 → EReal) (g v : EReal) : EReal :=
  v * Ideal.rsqrt (Ideal.div (∑ x, row x * row x) (Ideal.ofBits FTy.f32 1166016512#32) + Ideal.ofBits FTy.f32 897988541#32) * g

/-- Two entries of the result are equal when their parts are. -/
theorem entry_congr {x x' g2 g2' v2 v2' g3 g3' v3 v3' : EReal} {r2 r2' r3 r3' : Fin 4096 → EReal} (hx : x = x') (h2 : ∀ k, r2 k = r2' k)
    (hg2 : g2 = g2') (hv2 : v2 = v2') (h3 : ∀ k, r3 k = r3' k) (hg3 : g3 = g3') (hv3 : v3 = v3') :
    x + nrm r2 g2 v2 + nrm r3 g3 v3 = x' + nrm r2' g2' v2' + nrm r3' g3' v3' := by
  obtain rfl := funext h2; obtain rfl := funext h3; subst hx hg2 hv2 hg3 hv3; rfl

section Ref
open Cert.ReferenceIdeal Cert.ReferenceIdeal.Gen
variable (x : FVec Ideal S16384x4096 .f32) (mx f : FVec Ideal S24576x4096 .bf16) (g2 g3 : FVec Ideal S1x4096 .f32)

/-- The reference's composed term. -/
def refOut : FVec Ideal S16384x4096 .f32 :=
  addf (addf x (mulf (mulf (extf .f32 (extractStridedSlice S16384x4096 ![0, 0] mx slices_S24576x4096_S16384x4096_0_0) bitsLt_bf16_f32) (broadcastInDim S16384x4096 ![0, 1] bcast_S16384x1_S16384x4096_0_1 (Host.rsqrt (addf (Host.divf (broadcastInDim S16384x1 ![0] bcast_S16384_S16384x1_0 (Host.reduceAdd (mulf (extf .f32 (extractStridedSlice S16384x4096 ![0, 0] mx slices_S24576x4096_S16384x4096_0_0) bitsLt_bf16_f32) (extf .f32 (extractStridedSlice S16384x4096 ![0, 0] mx slices_S24576x4096_S16384x4096_0_0) bitsLt_bf16_f32)) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ g2 shapeCasts_S1x4096_S4096))))) (mulf (mulf (extf .f32 (extractStridedSlice S16384x4096 ![0, 0] f slices_S24576x4096_S16384x4096_0_0) bitsLt_bf16_f32) (broadcastInDim S16384x4096 ![0, 1] bcast_S16384x1_S16384x4096_0_1 (Host.rsqrt (addf (Host.divf (broadcastInDim S16384x1 ![0] bcast_S16384_S16384x1_0 (Host.reduceAdd (mulf (extf .f32 (extractStridedSlice S16384x4096 ![0, 0] f slices_S24576x4096_S16384x4096_0_0) bitsLt_bf16_f32) (extf .f32 (extractStridedSlice S16384x4096 ![0, 0] f slices_S24576x4096_S16384x4096_0_0) bitsLt_bf16_f32)) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ g3 shapeCasts_S1x4096_S4096))))

theorem refOut_apply (i : S16384x4096.Idx) :
    refOut x mx f g2 g3 i
      = x i + nrm (fun k => mx (ix2 ⟨(i 0).val, by have : (i 0).val < 16384 := (i 0).isLt; omega⟩ k)) (g2 (ix2 0 (i 1))) (mx (ix2 ⟨(i 0).val, by have : (i 0).val < 16384 := (i 0).isLt; omega⟩ (i 1)))
        + nrm (fun k => f (ix2 ⟨(i 0).val, by have : (i 0).val < 16384 := (i 0).isLt; omega⟩ k)) (g3 (ix2 0 (i 1))) (f (ix2 ⟨(i 0).val, by have : (i 0).val < 16384 := (i 0).isLt; omega⟩ (i 1))) := by
  pointwise [refOut, nrm]
end Ref

end Cert.Proof.Post2

end
-- ==== Proof.Value.lean ====
/- The result the run leaves is the reference's term of the arguments, at the ideal instance. -/
module
public import proofs.«01_k».proof.Proof.Run
public import proofs.«01_k».proof.Proof.RefVal
public import Idealize.ShloMosaic.Lib.Pointwise
@[expose] public section
noncomputable section
namespace Cert.Proof.Post2
open Cert.KernelIdeal Cert.KernelIdeal.Gen
open Idealize.ShloMosaic Idealize.ShloMosaic.TcCoe Idealize.SL.Sem

theorem pay1_apply (vx : Vec Ideal S1x256x4096 .f32) (vm : Vec Ideal S1x256x4096 .bf16) (v2 : Vec Ideal S1x4096 .f32) (vf : Vec Ideal S1x256x4096 .bf16) (v3 : Vec Ideal S1x4096 .f32) (j : S256x4096.Idx) :
   k0_pay1 (F := Ideal) vx vm v2 vf v3 j = vx (ix3 0 (j 0) (j 1)) + nrm (fun k => vm (ix3 0 (j 0) k)) (v2 (ix2 0 (j 1))) (vm (ix3 0 (j 0) (j 1)))
      + nrm (fun k => vf (ix3 0 (j 0) k)) (v3 (ix2 0 (j 1))) (vf (ix3 0 (j 0) (j 1))) := by
  pointwise [k0_pay1, nrm]

section
variable (c : Dev nD) {F : FTy → Type} [FloatOps F]
theorem xp (XA : Buf (Elt F) (xM.view.loc (c : Thread nD τ))) (b : Fin 64) (r : Fin 256) (k : Fin 4096) :
    shapeCast S1x256x4096 (xpayload c XA b) shapeCasts_S256x4096_S1x256x4096 (ix3 0 r k) = XA (show S16384x4096.Idx from ix2 ⟨256 * b.val + r.val, by omega⟩ k) := by
  have h : shapeCast S1x256x4096 (xpayload c XA b) shapeCasts_S256x4096_S1x256x4096 (ix3 0 r k) = xpayload c XA b (ix2 r k) := by pointwise
  refine h.trans (congrArg XA ?_)
  show (show S16384x4096.Idx from (xblk b).view.emb (ix2 r k)) = ix2 ⟨256 * b.val + r.val, by omega⟩ k
  funext a; fin_cases a
  · apply Fin.ext; show (blkOff b) 0 + 1 * r.val = _; simp
  · apply Fin.ext; show (blkOff b) 1 + 1 * k.val = _; simp
theorem mp (MA : Buf (Elt F) (mM.view.loc (c : Thread nD τ))) (b : Fin 64) (r : Fin 256) (k : Fin 4096) :
    shapeCast S1x256x4096 (mpayload c MA b) shapeCasts_S256x4096_S1x256x4096 (ix3 0 r k) = MA (show S24576x4096.Idx from ix2 ⟨256 * b.val + r.val, by omega⟩ k) := by
  have h : shapeCast S1x256x4096 (mpayload c MA b) shapeCasts_S256x4096_S1x256x4096 (ix3 0 r k) = mpayload c MA b (ix2 r k) := by pointwise
  refine h.trans (congrArg MA ?_)
  show (show S24576x4096.Idx from (mblk b).view.emb (ix2 r k)) = ix2 ⟨256 * b.val + r.val, by omega⟩ k
  funext a; fin_cases a
  · apply Fin.ext; show (blkOff b) 0 + 1 * r.val = _; simp
  · apply Fin.ext; show (blkOff b) 1 + 1 * k.val = _; simp
theorem gp (FA : Buf (Elt F) (gM.view.loc (c : Thread nD τ))) (b : Fin 64) (r : Fin 256) (k : Fin 4096) :
    shapeCast S1x256x4096 (gpayload c FA b) shapeCasts_S256x4096_S1x256x4096 (ix3 0 r k) = FA (show S24576x4096.Idx from ix2 ⟨256 * b.val + r.val, by omega⟩ k) := by
  have h : shapeCast S1x256x4096 (gpayload c FA b) shapeCasts_S256x4096_S1x256x4096 (ix3 0 r k) = gpayload c FA b (ix2 r k) := by pointwise
  refine h.trans (congrArg FA ?_)
  show (show S24576x4096.Idx from (gblk b).view.emb (ix2 r k)) = ix2 ⟨256 * b.val + r.val, by omega⟩ k
  funext a; fin_cases a
  · apply Fin.ext; show (blkOff b) 0 + 1 * r.val = _; simp
  · apply Fin.ext; show (blkOff b) 1 + 1 * k.val = _; simp

theorem RG_emb (i : S1x4096.Idx) : RG.emb i = i := by
  funext a; fin_cases a
  · apply Fin.ext; show 0 + 1 * (i 0).val = _; simp
  · apply Fin.ext; show 0 + 1 * (i 1).val = _; simp
theorem whole_emb (i : S1x4096.Idx) : (Rect.whole S1x4096).emb i = i := by
  funext a; apply Fin.ext; show 0 + 1 * (i a).val = _; simp
theorem g2r (A3 : Buf (Elt F) (a3M.view.loc (c : Thread nD τ))) (i : S1x4096.Idx) : gain2M.view.readAt (Elt F) RG.toLoadRect (gain2V c A3) i = (show S1x4096.Idx → Elt F .f32 from A3) i :=
  (congrArg (gain2M.view.read (Elt F) (gain2V c A3)) (RG_emb i)).trans
    ((congrArg (gain2M.view.read (Elt F) (gain2V c A3)) (whole_emb i)).symm.trans
      (View.read_writes_cons_emb gain2M.view gain2M.view.junk (Rect.whole S1x4096) (ReadAs.same.apply (a3M.view.read (Elt F) A3)) [] i))
theorem g3r (A4 : Buf (Elt F) (a4M.view.loc (c : Thread nD τ))) (i : S1x4096.Idx) : gain3M.view.readAt (Elt F) RG.toLoadRect (gain3V c A4) i = (show S1x4096.Idx → Elt F .f32 from A4) i :=
  (congrArg (gain3M.view.read (Elt F) (gain3V c A4)) (RG_emb i)).trans
    ((congrArg (gain3M.view.read (Elt F) (gain3V c A4)) (whole_emb i)).symm.trans
      (View.read_writes_cons_emb gain3M.view gain3M.view.junk (Rect.whole S1x4096) (ReadAs.same.apply (a4M.view.read (Elt F) A4)) [] i))
theorem casts (A : S1x4096.Idx → Elt F .f32) : shapeCast S1x4096 (shapeCast S4096 A shapeCasts_S1x4096_S4096) shapeCasts_S4096_S1x4096 = A :=
  shapeCast_shapeCast _ _ _
theorem V_v1 (m : (ℓ : Loc nD τ sig) → Buf (Elt F) ℓ) : V m c main_v1 = m ((c.tc : Thread nD τ).loc main_arg3) := by
  unfold V
  after_results_simp
  exact casts _
theorem V_v3 (m : (ℓ : Loc nD τ sig) → Buf (Elt F) ℓ) : V m c main_v3 = m ((c.tc : Thread nD τ).loc main_arg4) := by
  unfold V
  after_results_simp
  exact casts _
end

theorem rows_eq {n : ℕ} (r : ℕ) (h h') (k : Fin 4096) : (ix2 (⟨256 * (r / 256) + r % 256, h⟩ : Fin n) k) = ix2 (⟨r, h'⟩ : Fin n) k := by
  have e : 256 * (r / 256) + r % 256 = r := by omega
  congr 1; exact Fin.ext e
theorem rows_eq' (i : S16384x4096.Idx) (h) : (ix2 (⟨256 * ((i 0).val / 256) + (i 0).val % 256, h⟩ : Fin 16384) (i 1)) = i := by
  have e : 256 * ((i 0).val / 256) + (i 0).val % 256 = (i 0).val := by omega
  funext a; fin_cases a
  · exact Fin.ext e
  · rfl

theorem outG_apply (c : Dev nD) (XA : Buf (Elt Ideal) (xM.view.loc (c : Thread nD τ))) (MA : Buf (Elt Ideal) (mM.view.loc (c : Thread nD τ)))
    (FA : Buf (Elt Ideal) (gM.view.loc (c : Thread nD τ))) (A3 : Buf (Elt Ideal) (a3M.view.loc (c : Thread nD τ))) (A4 : Buf (Elt Ideal) (a4M.view.loc (c : Thread nD τ))) :
    outG c XA MA FA (gain2V c A3) (gain3V c A4) = refOut XA MA FA A3 A4 := by
  funext i
  refine Eq.trans ?_ (refOut_apply XA MA FA A3 A4 i).symm
  refine (pay1_apply _ _ _ _ _ _).trans (entry_congr ?_ (fun k => ?_) ?_ ?_ (fun k => ?_) ?_ ?_)
  · exact (xp c XA _ _ _).trans (congrArg XA (rows_eq' i _))
  · exact (mp c MA _ _ _).trans (congrArg MA (rows_eq _ _ _ _))
  · exact g2r c A3 _
  · exact (mp c MA _ _ _).trans (congrArg MA (rows_eq _ _ _ _))
  · exact (gp c FA _ _ _).trans (congrArg FA (rows_eq _ _ _ _))
  · exact g3r c A4 _
  · exact (gp c FA _ _ _).trans (congrArg FA (rows_eq _ _ _ _))

theorem resultV_eq (m : (ℓ : Loc nD τ sig) → Buf (Elt Ideal) ℓ) (c : Dev nD) :
    resultV m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold resultV
  rw [V_main_arg0, V_main_arg1, V_main_arg2, V_v1, V_v3]
  exact outG_apply c _ _ _ _ _
end Cert.Proof.Post2
end
-- ==== Proof.SampleWords.lean ====
/- The counters the row-streaming loop of `post_ffn` for the sample rows carries, in closed form.

   The loop makes 32 trips. Before trip `k` its eleven carried words are functions of `k` alone: the three input
   rings' issue counters, their wait counters, the output ring's counters, and the block index. This module gives
   those words, the branch conditions at them, the printed in-bounds checks at them, and the offsets they compute.
   Every statement is about one of 32 trips, and is decided by evaluation. -/
module

public import proofs.«01_k».proof.Defs
public import proofs.«01_k».proof.Proof.Gen.PostSampleIdeal
public import proofs.«01_k».proof.Proof.Gen.PostSampleIdeal.Skeleton
public import proofs.«01_k».proof.Proof.Gen.PostSampleIdeal.Loops
public import proofs.«01_k».proof.Proof.Gen.PostSampleIdeal.Launch
public import proofs.«01_k».proof.Proof.Gen.PostSampleIdeal.Points
public import proofs.«01_k».proof.Proof.Gen.PostSampleIdeal.Frame
public import Idealize.ShloMosaic.Lib.Ring
public import Idealize.ShloMosaic.Lib.Affine
public import Idealize.ShloMosaic.Lib.Tactic

@[expose] public section

noncomputable section

namespace Cert.Proof.PostSample

open Cert.PostSampleIdeal Cert.PostSampleIdeal.Gen
open Idealize.ShloMosaic

/-- The loop makes 32 trips. -/
theorem trips_eq : k0_t1_loop.trips = 32 := by decide

/-- The issue counters of the input rings before trip `k` (two blocks ahead). -/
def wIn (k : ℕ) : BitVec 32 := BitVec.ofNat 32 (min (k + 2) 32)
/-- The wait counters of the input rings, and the output ring's issue counter, before trip `k`. -/
def wK (k : ℕ) : BitVec 32 := BitVec.ofNat 32 k
/-- The gain vectors' counters: they move only at the last trip. -/
def wG (k : ℕ) : BitVec 32 := BitVec.ofNat 32 (k / 32)
/-- The output ring's wait counter before trip `k`. -/
def wO (k : ℕ) : BitVec 32 := BitVec.ofNat 32 (k - 1)
/-- The block index before trip `k`: it returns to zero after the last. -/
def wB (k : ℕ) : BitVec 32 := BitVec.ofNat 32 (k % 32)

/-! ## Checks -/

theorem chk1_at : ∀ k : Fin k0_t1_loop.trips, k0_chk1 k (wIn k.val) (wK k.val) (wIn k.val) (wK k.val) (wIn k.val) (wK k.val) (wK k.val) (wO k.val) (wB k.val) := by decide +kernel
theorem chk2_at : ∀ k : Fin k0_t1_loop.trips, k0_chk2 (wK k.val) := by decide +kernel
theorem chk3_at : ∀ k : Fin k0_t1_loop.trips, k0_chk3 (wK k.val) := by decide +kernel
theorem chk4_at : ∀ k : Fin k0_t1_loop.trips, k0_chk4 (wK k.val) := by decide +kernel
theorem chk5_at : ∀ k : Fin k0_t1_loop.trips, k0_chk5 (wK k.val) := by decide +kernel
theorem chk6_end : k0_chk6 (wO 32) := by decide +kernel
theorem chk7_end : k0_chk7 (wB 32) := by decide +kernel

/-! ## Conditions -/

theorem cond4_lo : ∀ k : Fin k0_t1_loop.trips, k.val < 30 → k0_cond4 k (wB k.val) = 1#1 := by decide +kernel
theorem cond5_lo : ∀ k : Fin k0_t1_loop.trips, k.val < 30 → k0_cond5 k (wB k.val) = 1#1 := by decide +kernel
theorem cond6_lo : ∀ k : Fin k0_t1_loop.trips, k.val < 30 → k0_cond6 k (wB k.val) = 1#1 := by decide +kernel
theorem cond4_hi : ∀ k : Fin k0_t1_loop.trips, 30 ≤ k.val → ¬ k0_cond4 k (wB k.val) = 1#1 := by decide +kernel
theorem cond5_hi : ∀ k : Fin k0_t1_loop.trips, 30 ≤ k.val → ¬ k0_cond5 k (wB k.val) = 1#1 := by decide +kernel
theorem cond6_hi : ∀ k : Fin k0_t1_loop.trips, 30 ≤ k.val → ¬ k0_cond6 k (wB k.val) = 1#1 := by decide +kernel
theorem cond7_at : ∀ k : Fin k0_t1_loop.trips, k0_cond7 k (wB k.val) = 1#1 := by decide +kernel
theorem cond8_at : ∀ k : Fin k0_t1_loop.trips, k0_cond8 k (wB k.val) = 1#1 := by decide +kernel
theorem cond9_at : ∀ k : Fin k0_t1_loop.trips, k0_cond9 k (wB k.val) = 1#1 := by decide +kernel
theorem cond14_at : ∀ k : Fin k0_t1_loop.trips, k0_cond14 k (wB k.val) = 1#1 := by decide +kernel
theorem cond18_zero : ∀ k : Fin k0_t1_loop.trips, k.val = 0 → ¬ k0_cond18 k (wB k.val) = 1#1 := by decide +kernel
theorem cond18_pos : ∀ k : Fin k0_t1_loop.trips, 1 ≤ k.val → k0_cond18 k (wB k.val) = 1#1 := by decide +kernel
theorem cond1_at : k0_cond1 = 1#1 := by decide +kernel
theorem cond2_at : k0_cond2 = 1#1 := by decide +kernel
theorem cond3_at : k0_cond3 = 1#1 := by decide +kernel

/-! ## Canonical offsets -/

/-- Row block `b` of a 4096-column array. -/
abbrev blkOff (b : Fin 32) : Fin 2 → Nat := ![256 * b.val, 0]
/-- Row block `b` of the sample rows, in an array that holds the 16384 prompt rows above them. -/
abbrev blkOffS (b : Fin 32) : Fin 2 → Nat := ![16384 + 256 * b.val, 0]
/-- Slot `s` of a three-slot ring. -/
abbrev slotOff (s : Fin 3) : Fin 3 → Nat := ![s.val, 0, 0]
/-- Slot `s` of the two-slot ring. -/
abbrev slotOff2 (s : Fin 2) : Fin 3 → Nat := ![s.val, 0, 0]
abbrev semOff (s : Fin 3) : Fin 1 → Nat := ![s.val]
abbrev semOff2 (s : Fin 2) : Fin 1 → Nat := ![s.val]

theorem off12_eq : ∀ k : Fin k0_t1_loop.trips, k.val < 30 → k0_off12 (wIn k.val) = semOff (Ring.sl 3 (k.val + 2)) := by decide +kernel
theorem off15_eq : ∀ k : Fin k0_t1_loop.trips, k.val < 30 → k0_off15 (wIn k.val) = semOff (Ring.sl 3 (k.val + 2)) := by decide +kernel
theorem off18_eq : ∀ k : Fin k0_t1_loop.trips, k.val < 30 → k0_off18 (wIn k.val) = semOff (Ring.sl 3 (k.val + 2)) := by decide +kernel
theorem off13_eq : ∀ k : Fin k0_t1_loop.trips, k.val < 30 → k0_off13 (wIn k.val) = slotOff (Ring.sl 3 (k.val + 2)) := by decide +kernel
theorem off16_eq : ∀ k : Fin k0_t1_loop.trips, k.val < 30 → k0_off16 (wIn k.val) = slotOff (Ring.sl 3 (k.val + 2)) := by decide +kernel
theorem off19_eq : ∀ k : Fin k0_t1_loop.trips, k.val < 30 → k0_off19 (wIn k.val) = slotOff (Ring.sl 3 (k.val + 2)) := by decide +kernel
theorem off14_eq : ∀ k : Fin k0_t1_loop.trips, k.val < 30 → k0_off14 (wB k.val) = blkOff (Ring.bk 32 (k.val + 2)) := by decide +kernel
theorem off17_eq : ∀ k : Fin k0_t1_loop.trips, k.val < 30 → k0_off17 (wB k.val) = blkOffS (Ring.bk 32 (k.val + 2)) := by decide +kernel
theorem off20_eq : ∀ k : Fin k0_t1_loop.trips, k.val < 30 → k0_off20 (wB k.val) = blkOffS (Ring.bk 32 (k.val + 2)) := by decide +kernel

theorem off21_eq : ∀ k : Fin k0_t1_loop.trips, k0_off21 (wK k.val) = semOff (Ring.sl 3 k.val) := by decide +kernel
theorem off24_eq : ∀ k : Fin k0_t1_loop.trips, k0_off24 (wK k.val) = semOff (Ring.sl 3 k.val) := by decide +kernel
theorem off27_eq : ∀ k : Fin k0_t1_loop.trips, k0_off27 (wK k.val) = semOff (Ring.sl 3 k.val) := by decide +kernel
theorem off22_eq : ∀ k : Fin k0_t1_loop.trips, k0_off22 (wK k.val) = slotOff (Ring.sl 3 k.val) := by decide +kernel
theorem off25_eq : ∀ k : Fin k0_t1_loop.trips, k0_off25 (wK k.val) = slotOff (Ring.sl 3 k.val) := by decide +kernel
theorem off28_eq : ∀ k : Fin k0_t1_loop.trips, k0_off28 (wK k.val) = slotOff (Ring.sl 3 k.val) := by decide +kernel
theorem off23_eq : ∀ k : Fin k0_t1_loop.trips, k0_off23 (wB k.val) = blkOff (Ring.bk 32 k.val) := by decide +kernel
theorem off26_eq : ∀ k : Fin k0_t1_loop.trips, k0_off26 (wB k.val) = blkOffS (Ring.bk 32 k.val) := by decide +kernel
theorem off29_eq : ∀ k : Fin k0_t1_loop.trips, k0_off29 (wB k.val) = blkOffS (Ring.bk 32 k.val) := by decide +kernel

theorem off30_eq : ∀ k : Fin k0_t1_loop.trips, k0_off30 (wK k.val) = slotOff (Ring.sl 3 k.val) := by decide +kernel
theorem off31_eq : ∀ k : Fin k0_t1_loop.trips, k0_off31 (wK k.val) = slotOff (Ring.sl 3 k.val) := by decide +kernel
theorem off32_eq : ∀ k : Fin k0_t1_loop.trips, k0_off32 (wK k.val) = slotOff (Ring.sl 3 k.val) := by decide +kernel
theorem off33_eq : ∀ k : Fin k0_t1_loop.trips, k0_off33 (wK k.val) = slotOff2 (Ring.sl 2 k.val) := by decide +kernel

theorem off34_eq : ∀ k : Fin k0_t1_loop.trips, k0_off34 (wK k.val) = semOff2 (Ring.sl 2 k.val) := by decide +kernel
theorem off35_eq : ∀ k : Fin k0_t1_loop.trips, k0_off35 (wB k.val) = blkOff (Ring.bk 32 k.val) := by decide +kernel
theorem off36_eq : ∀ k : Fin k0_t1_loop.trips, k0_off36 (wK k.val) = slotOff2 (Ring.sl 2 k.val) := by decide +kernel
theorem off37_eq : ∀ k : Fin k0_t1_loop.trips, 1 ≤ k.val → k0_off37 (wO k.val) = semOff2 (Ring.sl 2 (k.val + 1)) := by decide +kernel
theorem off38_eq : ∀ k : Fin k0_t1_loop.trips, 1 ≤ k.val → k0_off38 (wB k.val) = blkOff (Ring.bk 32 (k.val - 1)) := by decide +kernel
theorem off39_eq : ∀ k : Fin k0_t1_loop.trips, 1 ≤ k.val → k0_off39 (wO k.val) = slotOff2 (Ring.sl 2 (k.val + 1)) := by decide +kernel

theorem off40_eq : k0_off40 (wO 32) = semOff2 1 := by decide +kernel
theorem off41_eq : k0_off41 (wB 32) = blkOff 31 := by decide +kernel
theorem off42_eq : k0_off42 (wO 32) = slotOff2 1 := by decide +kernel

end Cert.Proof.PostSample

end
-- ==== Proof.SampleNames.lean ====
/- Canonical names for what the row-streaming loop of `post_ffn` for the sample rows moves: the row blocks of the three inputs and of
   the result, the slots of the four rings, their semaphores; and the equations by which the slices the kernel
   computes from its counters are those. -/
module

public import proofs.«01_k».proof.Proof.SampleWords
public import Idealize.ShloMosaic.Lib.Pipeline.Quiescent

@[expose] public section

noncomputable section

namespace Cert.Proof.PostSample

open Cert.PostSampleIdeal Cert.PostSampleIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := Pipeline.UD sig nD τ
local notation "𝕄" => MT nD τ sig Unit (Elt F) ℕ (UU nD τ) ℕ
abbrev 𝒱₀ : Variants := Variants.none

theorem blkOff_inb (b : Fin 32) : ∀ a, blkOff b a + S256x4096.size a ≤ S8192x4096.size a := by
  have := b.isLt; intro a; fin_cases a
  · show 256 * b.val + 256 ≤ 8192; omega
  · show 0 + 4096 ≤ 4096; omega
theorem blkOff_inb' (b : Fin 32) : ∀ a, blkOffS b a + S256x4096.size a ≤ S24576x4096.size a := by
  have := b.isLt; intro a; fin_cases a
  · show 16384 + 256 * b.val + 256 ≤ 24576; omega
  · show 0 + 4096 ≤ 4096; omega
theorem slotOff_inb (s : Fin 3) : ∀ a, slotOff s a + S1x256x4096.size a ≤ S3x256x4096.size a := by
  have := s.isLt; intro a; fin_cases a
  · show s.val + 1 ≤ 3; omega
  · show 0 + 256 ≤ 256; omega
  · show 0 + 4096 ≤ 4096; omega
theorem slotOff2_inb (s : Fin 2) : ∀ a, slotOff2 s a + S1x256x4096.size a ≤ S2x256x4096.size a := by
  have := s.isLt; intro a; fin_cases a
  · show s.val + 1 ≤ 2; omega
  · show 0 + 256 ≤ 256; omega
  · show 0 + 4096 ≤ 4096; omega
theorem semOff_inb (s : Fin 3) : ∀ a, semOff s a + S1.size a ≤ S3.size a := by
  have := s.isLt; intro a; fin_cases a; show s.val + 1 ≤ 3; omega
theorem semOff2_inb (s : Fin 2) : ∀ a, semOff2 s a + S1.size a ≤ S2.size a := by
  have := s.isLt; intro a; fin_cases a; show s.val + 1 ≤ 2; omega

instance (s : Fin 3) : ClosedOff (slotOff s) := ⟨slotOff s, rfl⟩
instance (s : Fin 2) : ClosedOff (slotOff2 s) := ⟨slotOff2 s, rfl⟩
instance (b : Fin 32) : ClosedOff (blkOff b) := ⟨blkOff b, rfl⟩
instance (b : Fin 32) : ClosedOff (blkOffS b) := ⟨blkOffS b, rfl⟩
instance (k : Fin k0_t1_loop.trips) : ClosedOff (k0_off30 (wK k.val)) := ⟨slotOff (Ring.sl 3 k.val), off30_eq k⟩
instance (k : Fin k0_t1_loop.trips) : ClosedOff (k0_off31 (wK k.val)) := ⟨slotOff (Ring.sl 3 k.val), off31_eq k⟩
instance (k : Fin k0_t1_loop.trips) : ClosedOff (k0_off32 (wK k.val)) := ⟨slotOff (Ring.sl 3 k.val), off32_eq k⟩
instance (k : Fin k0_t1_loop.trips) : ClosedOff (k0_off33 (wK k.val)) := ⟨slotOff2 (Ring.sl 2 k.val), off33_eq k⟩

/-! ## The ring of `x` -/

abbrev xM : Memref sig .tc .hbm S8192x4096 .f32 := Memref.whole main_arg0
abbrev xB : Memref sig .tc .vmem S3x256x4096 .f32 := Memref.whole cc0_scoped0
/-- Row block `b` of `x`. -/
def xblk (b : Fin 32) : Memref sig .tc .hbm S256x4096 .f32 :=
  xM.slice (Rect.unit (s := S8192x4096) (blkOff b) S256x4096.size (blkOff_inb b)) (fun _ => rfl)
/-- Slot `s` of its ring. -/
def xslot (s : Fin 3) : Memref sig .tc .vmem S256x4096 .f32 :=
  (xB.slice (Rect.unit (s := S3x256x4096) (slotOff s) S1x256x4096.size (slotOff_inb s)) (fun _ => rfl)).squeeze S256x4096 squeezes_S1x256x4096_S256x4096
/-- Slot `s`'s semaphore. -/
def xsem (s : Fin 3) : DmaSems sig S_ := (cc0_scoped1.slice (Rect.unit (s := S3) (semOff s) S1.size (semOff_inb s))).squeeze S_ squeezes_S1_S_

theorem xsem_congr {off : Fin 1 → Nat} {s : Fin 3} (e : off = semOff s) (hh) :
    (cc0_scoped1.slice (Rect.unit (s := S3) off S1.size hh)).squeeze S_ squeezes_S1_S_ = xsem s :=
  congrArg (fun A : DmaSems sig S1 => A.squeeze S_ squeezes_S1_S_) (SemArray.slice_unit_congr _ e _ _)
theorem xslot_congr {off : Fin 3 → Nat} {s : Fin 3} (e : off = slotOff s) (hh hs) :
    (xB.slice (Rect.unit (s := S3x256x4096) off S1x256x4096.size hh) hs).squeeze S256x4096 squeezes_S1x256x4096_S256x4096 = xslot s :=
  congrArg (fun M : Memref sig .tc .vmem S1x256x4096 .f32 => M.squeeze S256x4096 squeezes_S1x256x4096_S256x4096) (Memref.slice_unit_congr _ e _ _ _ _)
theorem xblk_congr {off : Fin 2 → Nat} {b : Fin 32} (e : off = blkOff b) (hh hs) :
    xM.slice (Rect.unit (s := S8192x4096) off S256x4096.size hh) hs = xblk b :=
  Memref.slice_unit_congr _ e _ _ _ (fun _ => rfl)

@[sl_canon] theorem xsemL0 (hh) : (cc0_scoped1.slice (Rect.unit (s := S3) k0_off1 S1.size hh)).squeeze S_ squeezes_S1_S_ = xsem 0 := xsem_congr (by decide +kernel) _
@[sl_canon] theorem xslotL0 (hh hs) : (xB.slice (Rect.unit (s := S3x256x4096) k0_off2 S1x256x4096.size hh) hs).squeeze S256x4096 squeezes_S1x256x4096_S256x4096 = xslot 0 := xslot_congr (by decide +kernel) _ _
@[sl_canon] theorem xblkL0 (hh hs) : xM.slice (Rect.unit (s := S8192x4096) ![0, 0] S256x4096.size hh) hs = xblk 0 := xblk_congr (by decide +kernel) _ _
@[sl_canon] theorem xsemL1 (hh) : (cc0_scoped1.slice (Rect.unit (s := S3) k0_off3 S1.size hh)).squeeze S_ squeezes_S1_S_ = xsem 1 := xsem_congr (by decide +kernel) _
@[sl_canon] theorem xslotL1 (hh hs) : (xB.slice (Rect.unit (s := S3x256x4096) k0_off4 S1x256x4096.size hh) hs).squeeze S256x4096 squeezes_S1x256x4096_S256x4096 = xslot 1 := xslot_congr (by decide +kernel) _ _
@[sl_canon] theorem xblkL1 (hh hs) : xM.slice (Rect.unit (s := S8192x4096) k0_off5 S256x4096.size hh) hs = xblk 1 := xblk_congr (by decide +kernel) _ _
@[sl_canon] theorem xsemI (k : Fin k0_t1_loop.trips) (h : k.val < 30) (hh) : (cc0_scoped1.slice (Rect.unit (s := S3) (k0_off12 (wIn k.val)) S1.size hh)).squeeze S_ squeezes_S1_S_ = xsem (Ring.sl 3 (k.val + 2)) := xsem_congr (off12_eq k h) _
@[sl_canon] theorem xslotI (k : Fin k0_t1_loop.trips) (h : k.val < 30) (hh hs) : (xB.slice (Rect.unit (s := S3x256x4096) (k0_off13 (wIn k.val)) S1x256x4096.size hh) hs).squeeze S256x4096 squeezes_S1x256x4096_S256x4096 = xslot (Ring.sl 3 (k.val + 2)) := xslot_congr (off13_eq k h) _ _
@[sl_canon] theorem xblkI (k : Fin k0_t1_loop.trips) (h : k.val < 30) (hh hs) : xM.slice (Rect.unit (s := S8192x4096) (k0_off14 (wB k.val)) S256x4096.size hh) hs = xblk (Ring.bk 32 (k.val + 2)) := xblk_congr (off14_eq k h) _ _
@[sl_canon] theorem xsemW (k : Fin k0_t1_loop.trips) (hh) : (cc0_scoped1.slice (Rect.unit (s := S3) (k0_off21 (wK k.val)) S1.size hh)).squeeze S_ squeezes_S1_S_ = xsem (Ring.sl 3 k.val) := xsem_congr (off21_eq k) _
@[sl_canon] theorem xslotW (k : Fin k0_t1_loop.trips) (hh hs) : (xB.slice (Rect.unit (s := S3x256x4096) (k0_off22 (wK k.val)) S1x256x4096.size hh) hs).squeeze S256x4096 squeezes_S1x256x4096_S256x4096 = xslot (Ring.sl 3 k.val) := xslot_congr (off22_eq k) _ _
@[sl_canon] theorem xblkW (k : Fin k0_t1_loop.trips) (hh hs) : xM.slice (Rect.unit (s := S8192x4096) (k0_off23 (wB k.val)) S256x4096.size hh) hs = xblk (Ring.bk 32 k.val) := xblk_congr (off23_eq k) _ _

/-! ## The ring of `mix` -/

abbrev mM : Memref sig .tc .hbm S24576x4096 .bf16 := Memref.whole main_arg1
abbrev mB : Memref sig .tc .vmem S3x256x4096 .bf16 := Memref.whole cc0_scoped2
/-- Row block `b` of `mix`. -/
def mblk (b : Fin 32) : Memref sig .tc .hbm S256x4096 .bf16 :=
  mM.slice (Rect.unit (s := S24576x4096) (blkOffS b) S256x4096.size (blkOff_inb' b)) (fun _ => rfl)
/-- Slot `s` of its ring. -/
def mslot (s : Fin 3) : Memref sig .tc .vmem S256x4096 .bf16 :=
  (mB.slice (Rect.unit (s := S3x256x4096) (slotOff s) S1x256x4096.size (slotOff_inb s)) (fun _ => rfl)).squeeze S256x4096 squeezes_S1x256x4096_S256x4096
/-- Slot `s`'s semaphore. -/
def msem (s : Fin 3) : DmaSems sig S_ := (cc0_scoped3.slice (Rect.unit (s := S3) (semOff s) S1.size (semOff_inb s))).squeeze S_ squeezes_S1_S_

theorem msem_congr {off : Fin 1 → Nat} {s : Fin 3} (e : off = semOff s) (hh) :
    (cc0_scoped3.slice (Rect.unit (s := S3) off S1.size hh)).squeeze S_ squeezes_S1_S_ = msem s :=
  congrArg (fun A : DmaSems sig S1 => A.squeeze S_ squeezes_S1_S_) (SemArray.slice_unit_congr _ e _ _)
theorem mslot_congr {off : Fin 3 → Nat} {s : Fin 3} (e : off = slotOff s) (hh hs) :
    (mB.slice (Rect.unit (s := S3x256x4096) off S1x256x4096.size hh) hs).squeeze S256x4096 squeezes_S1x256x4096_S256x4096 = mslot s :=
  congrArg (fun M : Memref sig .tc .vmem S1x256x4096 .bf16 => M.squeeze S256x4096 squeezes_S1x256x4096_S256x4096) (Memref.slice_unit_congr _ e _ _ _ _)
theorem mblk_congr {off : Fin 2 → Nat} {b : Fin 32} (e : off = blkOffS b) (hh hs) :
    mM.slice (Rect.unit (s := S24576x4096) off S256x4096.size hh) hs = mblk b :=
  Memref.slice_unit_congr _ e _ _ _ (fun _ => rfl)

@[sl_canon] theorem msemL0 (hh) : (cc0_scoped3.slice (Rect.unit (s := S3) k0_off1 S1.size hh)).squeeze S_ squeezes_S1_S_ = msem 0 := msem_congr (by decide +kernel) _
@[sl_canon] theorem mslotL0 (hh hs) : (mB.slice (Rect.unit (s := S3x256x4096) k0_off2 S1x256x4096.size hh) hs).squeeze S256x4096 squeezes_S1x256x4096_S256x4096 = mslot 0 := mslot_congr (by decide +kernel) _ _
@[sl_canon] theorem mblkL0 (hh hs) : mM.slice (Rect.unit (s := S24576x4096) ![16384, 0] S256x4096.size hh) hs = mblk 0 := mblk_congr (by decide +kernel) _ _
@[sl_canon] theorem msemL1 (hh) : (cc0_scoped3.slice (Rect.unit (s := S3) k0_off6 S1.size hh)).squeeze S_ squeezes_S1_S_ = msem 1 := msem_congr (by decide +kernel) _
@[sl_canon] theorem mslotL1 (hh hs) : (mB.slice (Rect.unit (s := S3x256x4096) k0_off7 S1x256x4096.size hh) hs).squeeze S256x4096 squeezes_S1x256x4096_S256x4096 = mslot 1 := mslot_congr (by decide +kernel) _ _
@[sl_canon] theorem mblkL1 (hh hs) : mM.slice (Rect.unit (s := S24576x4096) k0_off8 S256x4096.size hh) hs = mblk 1 := mblk_congr (by decide +kernel) _ _
@[sl_canon] theorem msemI (k : Fin k0_t1_loop.trips) (h : k.val < 30) (hh) : (cc0_scoped3.slice (Rect.unit (s := S3) (k0_off15 (wIn k.val)) S1.size hh)).squeeze S_ squeezes_S1_S_ = msem (Ring.sl 3 (k.val + 2)) := msem_congr (off15_eq k h) _
@[sl_canon] theorem mslotI (k : Fin k0_t1_loop.trips) (h : k.val < 30) (hh hs) : (mB.slice (Rect.unit (s := S3x256x4096) (k0_off16 (wIn k.val)) S1x256x4096.size hh) hs).squeeze S256x4096 squeezes_S1x256x4096_S256x4096 = mslot (Ring.sl 3 (k.val + 2)) := mslot_congr (off16_eq k h) _ _
@[sl_canon] theorem mblkI (k : Fin k0_t1_loop.trips) (h : k.val < 30) (hh hs) : mM.slice (Rect.unit (s := S24576x4096) (k0_off17 (wB k.val)) S256x4096.size hh) hs = mblk (Ring.bk 32 (k.val + 2)) := mblk_congr (off17_eq k h) _ _
@[sl_canon] theorem msemW (k : Fin k0_t1_loop.trips) (hh) : (cc0_scoped3.slice (Rect.unit (s := S3) (k0_off24 (wK k.val)) S1.size hh)).squeeze S_ squeezes_S1_S_ = msem (Ring.sl 3 k.val) := msem_congr (off24_eq k) _
@[sl_canon] theorem mslotW (k : Fin k0_t1_loop.trips) (hh hs) : (mB.slice (Rect.unit (s := S3x256x4096) (k0_off25 (wK k.val)) S1x256x4096.size hh) hs).squeeze S256x4096 squeezes_S1x256x4096_S256x4096 = mslot (Ring.sl 3 k.val) := mslot_congr (off25_eq k) _ _
@[sl_canon] theorem mblkW (k : Fin k0_t1_loop.trips) (hh hs) : mM.slice (Rect.unit (s := S24576x4096) (k0_off26 (wB k.val)) S256x4096.size hh) hs = mblk (Ring.bk 32 k.val) := mblk_congr (off26_eq k) _ _

/-! ## The ring of `f` -/

abbrev gM : Memref sig .tc .hbm S24576x4096 .bf16 := Memref.whole main_arg2
abbrev gB : Memref sig .tc .vmem S3x256x4096 .bf16 := Memref.whole cc0_scoped4
/-- Row block `b` of `f`. -/
def gblk (b : Fin 32) : Memref sig .tc .hbm S256x4096 .bf16 :=
  gM.slice (Rect.unit (s := S24576x4096) (blkOffS b) S256x4096.size (blkOff_inb' b)) (fun _ => rfl)
/-- Slot `s` of its ring. -/
def gslot (s : Fin 3) : Memref sig .tc .vmem S256x4096 .bf16 :=
  (gB.slice (Rect.unit (s := S3x256x4096) (slotOff s) S1x256x4096.size (slotOff_inb s)) (fun _ => rfl)).squeeze S256x4096 squeezes_S1x256x4096_S256x4096
/-- Slot `s`'s semaphore. -/
def gsem (s : Fin 3) : DmaSems sig S_ := (cc0_scoped5.slice (Rect.unit (s := S3) (semOff s) S1.size (semOff_inb s))).squeeze S_ squeezes_S1_S_

theorem gsem_congr {off : Fin 1 → Nat} {s : Fin 3} (e : off = semOff s) (hh) :
    (cc0_scoped5.slice (Rect.unit (s := S3) off S1.size hh)).squeeze S_ squeezes_S1_S_ = gsem s :=
  congrArg (fun A : DmaSems sig S1 => A.squeeze S_ squeezes_S1_S_) (SemArray.slice_unit_congr _ e _ _)
theorem gslot_congr {off : Fin 3 → Nat} {s : Fin 3} (e : off = slotOff s) (hh hs) :
    (gB.slice (Rect.unit (s := S3x256x4096) off S1x256x4096.size hh) hs).squeeze S256x4096 squeezes_S1x256x4096_S256x4096 = gslot s :=
  congrArg (fun M : Memref sig .tc .vmem S1x256x4096 .bf16 => M.squeeze S256x4096 squeezes_S1x256x4096_S256x4096) (Memref.slice_unit_congr _ e _ _ _ _)
theorem gblk_congr {off : Fin 2 → Nat} {b : Fin 32} (e : off = blkOffS b) (hh hs) :
    gM.slice (Rect.unit (s := S24576x4096) off S256x4096.size hh) hs = gblk b :=
  Memref.slice_unit_congr _ e _ _ _ (fun _ => rfl)

@[sl_canon] theorem gsemL0 (hh) : (cc0_scoped5.slice (Rect.unit (s := S3) k0_off1 S1.size hh)).squeeze S_ squeezes_S1_S_ = gsem 0 := gsem_congr (by decide +kernel) _
@[sl_canon] theorem gslotL0 (hh hs) : (gB.slice (Rect.unit (s := S3x256x4096) k0_off2 S1x256x4096.size hh) hs).squeeze S256x4096 squeezes_S1x256x4096_S256x4096 = gslot 0 := gslot_congr (by decide +kernel) _ _
@[sl_canon] theorem gblkL0 (hh hs) : gM.slice (Rect.unit (s := S24576x4096) ![16384, 0] S256x4096.size hh) hs = gblk 0 := gblk_congr (by decide +kernel) _ _
@[sl_canon] theorem gsemL1 (hh) : (cc0_scoped5.slice (Rect.unit (s := S3) k0_off9 S1.size hh)).squeeze S_ squeezes_S1_S_ = gsem 1 := gsem_congr (by decide +kernel) _
@[sl_canon] theorem gslotL1 (hh hs) : (gB.slice (Rect.unit (s := S3x256x4096) k0_off10 S1x256x4096.size hh) hs).squeeze S256x4096 squeezes_S1x256x4096_S256x4096 = gslot 1 := gslot_congr (by decide +kernel) _ _
@[sl_canon] theorem gblkL1 (hh hs) : gM.slice (Rect.unit (s := S24576x4096) k0_off11 S256x4096.size hh) hs = gblk 1 := gblk_congr (by decide +kernel) _ _
@[sl_canon] theorem gsemI (k : Fin k0_t1_loop.trips) (h : k.val < 30) (hh) : (cc0_scoped5.slice (Rect.unit (s := S3) (k0_off18 (wIn k.val)) S1.size hh)).squeeze S_ squeezes_S1_S_ = gsem (Ring.sl 3 (k.val + 2)) := gsem_congr (off18_eq k h) _
@[sl_canon] theorem gslotI (k : Fin k0_t1_loop.trips) (h : k.val < 30) (hh hs) : (gB.slice (Rect.unit (s := S3x256x4096) (k0_off19 (wIn k.val)) S1x256x4096.size hh) hs).squeeze S256x4096 squeezes_S1x256x4096_S256x4096 = gslot (Ring.sl 3 (k.val + 2)) := gslot_congr (off19_eq k h) _ _
@[sl_canon] theorem gblkI (k : Fin k0_t1_loop.trips) (h : k.val < 30) (hh hs) : gM.slice (Rect.unit (s := S24576x4096) (k0_off20 (wB k.val)) S256x4096.size hh) hs = gblk (Ring.bk 32 (k.val + 2)) := gblk_congr (off20_eq k h) _ _
@[sl_canon] theorem gsemW (k : Fin k0_t1_loop.trips) (hh) : (cc0_scoped5.slice (Rect.unit (s := S3) (k0_off27 (wK k.val)) S1.size hh)).squeeze S_ squeezes_S1_S_ = gsem (Ring.sl 3 k.val) := gsem_congr (off27_eq k) _
@[sl_canon] theorem gslotW (k : Fin k0_t1_loop.trips) (hh hs) : (gB.slice (Rect.unit (s := S3x256x4096) (k0_off28 (wK k.val)) S1x256x4096.size hh) hs).squeeze S256x4096 squeezes_S1x256x4096_S256x4096 = gslot (Ring.sl 3 k.val) := gslot_congr (off28_eq k) _ _
@[sl_canon] theorem gblkW (k : Fin k0_t1_loop.trips) (hh hs) : gM.slice (Rect.unit (s := S24576x4096) (k0_off29 (wB k.val)) S256x4096.size hh) hs = gblk (Ring.bk 32 k.val) := gblk_congr (off29_eq k) _ _

/-! ## The output ring -/

abbrev oM : Memref sig .tc .hbm S8192x4096 .f32 := Memref.whole main_v4
abbrev oB : Memref sig .tc .vmem S2x256x4096 .f32 := Memref.whole cc0_scoped8
/-- Row block `b` of the result. -/
def oblk (b : Fin 32) : Memref sig .tc .hbm S256x4096 .f32 :=
  oM.slice (Rect.unit (s := S8192x4096) (blkOff b) S256x4096.size (blkOff_inb b)) (fun _ => rfl)
/-- Slot `s` of the output ring. -/
def oslot (s : Fin 2) : Memref sig .tc .vmem S256x4096 .f32 :=
  (oB.slice (Rect.unit (s := S2x256x4096) (slotOff2 s) S1x256x4096.size (slotOff2_inb s)) (fun _ => rfl)).squeeze S256x4096 squeezes_S1x256x4096_S256x4096
def osem (s : Fin 2) : DmaSems sig S_ := (cc0_scoped9.slice (Rect.unit (s := S2) (semOff2 s) S1.size (semOff2_inb s))).squeeze S_ squeezes_S1_S_

theorem osem_congr {off : Fin 1 → Nat} {s : Fin 2} (e : off = semOff2 s) (hh) :
    (cc0_scoped9.slice (Rect.unit (s := S2) off S1.size hh)).squeeze S_ squeezes_S1_S_ = osem s :=
  congrArg (fun A : DmaSems sig S1 => A.squeeze S_ squeezes_S1_S_) (SemArray.slice_unit_congr _ e _ _)
theorem oslot_congr {off : Fin 3 → Nat} {s : Fin 2} (e : off = slotOff2 s) (hh hs) :
    (oB.slice (Rect.unit (s := S2x256x4096) off S1x256x4096.size hh) hs).squeeze S256x4096 squeezes_S1x256x4096_S256x4096 = oslot s :=
  congrArg (fun M : Memref sig .tc .vmem S1x256x4096 .f32 => M.squeeze S256x4096 squeezes_S1x256x4096_S256x4096) (Memref.slice_unit_congr _ e _ _ _ _)
theorem oblk_congr {off : Fin 2 → Nat} {b : Fin 32} (e : off = blkOff b) (hh hs) :
    oM.slice (Rect.unit (s := S8192x4096) off S256x4096.size hh) hs = oblk b :=
  Memref.slice_unit_congr _ e _ _ _ (fun _ => rfl)

@[sl_canon] theorem osemI (k : Fin k0_t1_loop.trips) (hh) : (cc0_scoped9.slice (Rect.unit (s := S2) (k0_off34 (wK k.val)) S1.size hh)).squeeze S_ squeezes_S1_S_ = osem (Ring.sl 2 k.val) := osem_congr (off34_eq k) _
@[sl_canon] theorem oblkI (k : Fin k0_t1_loop.trips) (hh hs) : oM.slice (Rect.unit (s := S8192x4096) (k0_off35 (wB k.val)) S256x4096.size hh) hs = oblk (Ring.bk 32 k.val) := oblk_congr (off35_eq k) _ _
@[sl_canon] theorem oslotI (k : Fin k0_t1_loop.trips) (hh hs) : (oB.slice (Rect.unit (s := S2x256x4096) (k0_off36 (wK k.val)) S1x256x4096.size hh) hs).squeeze S256x4096 squeezes_S1x256x4096_S256x4096 = oslot (Ring.sl 2 k.val) := oslot_congr (off36_eq k) _ _
@[sl_canon] theorem osemW (k : Fin k0_t1_loop.trips) (h : 1 ≤ k.val) (hh) : (cc0_scoped9.slice (Rect.unit (s := S2) (k0_off37 (wO k.val)) S1.size hh)).squeeze S_ squeezes_S1_S_ = osem (Ring.sl 2 (k.val + 1)) := osem_congr (off37_eq k h) _
@[sl_canon] theorem oblkW (k : Fin k0_t1_loop.trips) (h : 1 ≤ k.val) (hh hs) : oM.slice (Rect.unit (s := S8192x4096) (k0_off38 (wB k.val)) S256x4096.size hh) hs = oblk (Ring.bk 32 (k.val - 1)) := oblk_congr (off38_eq k h) _ _
@[sl_canon] theorem oslotW (k : Fin k0_t1_loop.trips) (h : 1 ≤ k.val) (hh hs) : (oB.slice (Rect.unit (s := S2x256x4096) (k0_off39 (wO k.val)) S1x256x4096.size hh) hs).squeeze S256x4096 squeezes_S1x256x4096_S256x4096 = oslot (Ring.sl 2 (k.val + 1)) := oslot_congr (off39_eq k h) _ _
@[sl_canon] theorem osemE (hh) : (cc0_scoped9.slice (Rect.unit (s := S2) (k0_off40 (wO 32)) S1.size hh)).squeeze S_ squeezes_S1_S_ = osem 1 := osem_congr off40_eq _
@[sl_canon] theorem oblkE (hh hs) : oM.slice (Rect.unit (s := S8192x4096) (k0_off41 (wB 32)) S256x4096.size hh) hs = oblk 31 := oblk_congr off41_eq _ _
@[sl_canon] theorem oslotE (hh hs) : (oB.slice (Rect.unit (s := S2x256x4096) (k0_off42 (wO 32)) S1x256x4096.size hh) hs).squeeze S256x4096 squeezes_S1x256x4096_S256x4096 = oslot 1 := oslot_congr off42_eq _ _

/-! ## The pieces: a block at home, a slot held, a cell at zero, a transfer in flight -/

section Pieces
variable (c : Dev nD)

variable (XA : Buf (Elt F) (xM.view.loc (c : Thread nD τ)))
abbrev xcellP (s : Fin 3) : sProp 𝕄 := semVal ((c : Thread nD τ), SemLoc.dma (xsem s).sem) 0
abbrev xslotP (s : Fin 3) (f : Buf (Elt F) ((xslot s).view.loc (c : Thread nD τ))) : sProp 𝕄 :=
  (xslot s).view.loc (c : Thread nD τ) ↦[(xslot s).view.set]{fullShare} f
abbrev xhomeP (b : Fin 32) : sProp 𝕄 := (xblk b).view.loc (c : Thread nD τ) ↦[(xblk b).view.set]{fullShare} XA
abbrev xpayload (b : Fin 32) : S256x4096.Idx → Elt F .f32 := ReadAs.same.apply ((xblk b).view.read (Elt F) XA)
abbrev xlanded (s : Fin 3) (b : Fin 32) (f : Buf (Elt F) ((xslot s).view.loc (c : Thread nD τ))) : Buf (Elt F) ((xslot s).view.loc (c : Thread nD τ)) :=
  (xslot s).view.writes (Elt F) f [⟨Rect.whole S256x4096, xpayload c XA b⟩]
abbrev xN : ℕ := 131072
abbrev xflightP (s : Fin 3) (b : Fin 32) (f : Buf (Elt F) ((xslot s).view.loc (c : Thread nD τ))) : sProp 𝕄 :=
  Transfers.Flight countersEmb (c : Thread nD τ) (SemLoc.dma (xsem s).sem) () xN iprop(xslotP c s (xlanded c XA s b f) ∗ xhomeP c XA b)

variable (MA : Buf (Elt F) (mM.view.loc (c : Thread nD τ)))
abbrev mcellP (s : Fin 3) : sProp 𝕄 := semVal ((c : Thread nD τ), SemLoc.dma (msem s).sem) 0
abbrev mslotP (s : Fin 3) (f : Buf (Elt F) ((mslot s).view.loc (c : Thread nD τ))) : sProp 𝕄 :=
  (mslot s).view.loc (c : Thread nD τ) ↦[(mslot s).view.set]{fullShare} f
abbrev mhomeP (b : Fin 32) : sProp 𝕄 := (mblk b).view.loc (c : Thread nD τ) ↦[(mblk b).view.set]{fullShare} MA
abbrev mpayload (b : Fin 32) : S256x4096.Idx → Elt F .bf16 := ReadAs.same.apply ((mblk b).view.read (Elt F) MA)
abbrev mlanded (s : Fin 3) (b : Fin 32) (f : Buf (Elt F) ((mslot s).view.loc (c : Thread nD τ))) : Buf (Elt F) ((mslot s).view.loc (c : Thread nD τ)) :=
  (mslot s).view.writes (Elt F) f [⟨Rect.whole S256x4096, mpayload c MA b⟩]
abbrev mN : ℕ := 65536
abbrev mflightP (s : Fin 3) (b : Fin 32) (f : Buf (Elt F) ((mslot s).view.loc (c : Thread nD τ))) : sProp 𝕄 :=
  Transfers.Flight countersEmb (c : Thread nD τ) (SemLoc.dma (msem s).sem) () mN iprop(mslotP c s (mlanded c MA s b f) ∗ mhomeP c MA b)

variable (FA : Buf (Elt F) (gM.view.loc (c : Thread nD τ)))
abbrev gcellP (s : Fin 3) : sProp 𝕄 := semVal ((c : Thread nD τ), SemLoc.dma (gsem s).sem) 0
abbrev gslotP (s : Fin 3) (f : Buf (Elt F) ((gslot s).view.loc (c : Thread nD τ))) : sProp 𝕄 :=
  (gslot s).view.loc (c : Thread nD τ) ↦[(gslot s).view.set]{fullShare} f
abbrev ghomeP (b : Fin 32) : sProp 𝕄 := (gblk b).view.loc (c : Thread nD τ) ↦[(gblk b).view.set]{fullShare} FA
abbrev gpayload (b : Fin 32) : S256x4096.Idx → Elt F .bf16 := ReadAs.same.apply ((gblk b).view.read (Elt F) FA)
abbrev glanded (s : Fin 3) (b : Fin 32) (f : Buf (Elt F) ((gslot s).view.loc (c : Thread nD τ))) : Buf (Elt F) ((gslot s).view.loc (c : Thread nD τ)) :=
  (gslot s).view.writes (Elt F) f [⟨Rect.whole S256x4096, gpayload c FA b⟩]
abbrev gN : ℕ := 65536
abbrev gflightP (s : Fin 3) (b : Fin 32) (f : Buf (Elt F) ((gslot s).view.loc (c : Thread nD τ))) : sProp 𝕄 :=
  Transfers.Flight countersEmb (c : Thread nD τ) (SemLoc.dma (gsem s).sem) () gN iprop(gslotP c s (glanded c FA s b f) ∗ ghomeP c FA b)

end Pieces

end Cert.Proof.PostSample

end
-- ==== Proof.SampleRes.lean ====
/- What the row-streaming loop of `post_ffn` for the sample rows holds before trip `k`: which row blocks are at home, which slots are in
   flight and with which block, which result blocks are written. -/
module

public import proofs.«01_k».proof.Proof.SampleNames
public import Idealize.ShloMosaic.Lib.Ring
public import Idealize.ShloMosaic.Lib.Ring.Trips
public import Idealize.ShloMosaic.Lib.Pipeline.Value

@[expose] public section

noncomputable section

namespace Cert.Proof.PostSample

open Cert.PostSampleIdeal Cert.PostSampleIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

omit [FloatOps F] in
theorem entails_of_eq {P Q : sProp 𝕄} (e : P = Q) : P ⊢ Q := e ▸ .rfl

/-! ## The blocks at home -/

/-- Every block but `k` and `k + 1`. -/
def homes (k : ℕ) : Finset (Fin 32) := Finset.univ.filter fun b => b.val < k ∨ k + 2 ≤ b.val
/-- Every block but `k`, `k + 1` and `k + 2`. -/
def rest (k : ℕ) : Finset (Fin 32) := Finset.univ.filter fun b => b.val < k ∨ k + 3 ≤ b.val
/-- The result blocks not yet begun. -/
def ahead (k : ℕ) : Finset (Fin 32) := Finset.univ.filter fun b => k ≤ b.val
/-- The result blocks delivered: all before the one in flight. -/
def behind (k : ℕ) : Finset (Fin 32) := Finset.univ.filter fun b => b.val + 1 < k

theorem mem_homes (k : ℕ) (b : Fin 32) : b ∈ homes k ↔ b.val < k ∨ k + 2 ≤ b.val := by simp [homes]
theorem mem_rest (k : ℕ) (b : Fin 32) : b ∈ rest k ↔ b.val < k ∨ k + 3 ≤ b.val := by simp [rest]
theorem mem_ahead (k : ℕ) (b : Fin 32) : b ∈ ahead k ↔ k ≤ b.val := by simp [ahead]
theorem mem_behind (k : ℕ) (b : Fin 32) : b ∈ behind k ↔ b.val + 1 < k := by simp [behind]

section Sets
variable {M : Type*} [URA M] (Φ : Fin 32 → sProp M)
theorem homes_lo (k : ℕ) (h : k < 30) : bigSep (homes k) Φ = iprop(Φ (Ring.bk 32 (k + 2)) ∗ bigSep (rest k) Φ) := by
  have e : homes k = insert (Ring.bk 32 (k + 2)) (rest k) := by
    ext b; simp only [Finset.mem_insert, mem_homes, mem_rest, Fin.ext_iff, Ring.bk_val (show k + 2 < 32 by omega)]; omega
  rw [e, bigSep_insert (by simp only [mem_rest, Ring.bk_val (show k + 2 < 32 by omega)]; omega)]; rfl
theorem homes_hi (k : ℕ) (h : 30 ≤ k) : bigSep (homes k) Φ = bigSep (rest k) Φ := by
  have e : homes k = rest k := by ext b; have := b.isLt; simp only [mem_homes, mem_rest]; omega
  rw [e]
theorem homes_succ (k : ℕ) (h : k < 32) : bigSep (homes (k + 1)) Φ = iprop(Φ (Ring.bk 32 k) ∗ bigSep (rest k) Φ) := by
  have e : homes (k + 1) = insert (Ring.bk 32 k) (rest k) := by
    ext b; simp only [Finset.mem_insert, mem_homes, mem_rest, Fin.ext_iff, Ring.bk_val h]; omega
  rw [e, bigSep_insert (by simp only [mem_rest, Ring.bk_val h]; omega)]; rfl
theorem homes_zero : bigSep Finset.univ Φ = iprop(Φ 0 ∗ Φ 1 ∗ bigSep (homes 0) Φ) := by
  have e : (Finset.univ : Finset (Fin 32)) = insert 0 (insert 1 (homes 0)) := by decide
  rw [e, bigSep_insert (by decide), bigSep_insert (by decide)]; rfl
theorem homes_end : bigSep (homes 32) Φ = bigSep Finset.univ Φ := by
  have e : homes 32 = Finset.univ := by decide
  rw [e]
theorem ahead_out (k : ℕ) (h : k < 32) : bigSep (ahead k) Φ = iprop(Φ (Ring.bk 32 k) ∗ bigSep (ahead (k + 1)) Φ) := by
  have e : ahead k = insert (Ring.bk 32 k) (ahead (k + 1)) := by
    ext b; simp only [Finset.mem_insert, mem_ahead, Fin.ext_iff, Ring.bk_val h]; omega
  rw [e, bigSep_insert (by simp only [mem_ahead, Ring.bk_val h]; omega)]; rfl
theorem ahead_zero : bigSep (ahead 0) Φ = bigSep Finset.univ Φ := by
  have e : ahead 0 = Finset.univ := by decide
  rw [e]
theorem behind_in (k : ℕ) (h1 : 1 ≤ k) (h : k < 33) : bigSep (behind (k + 1)) Φ = iprop(Φ (Ring.bk 32 (k - 1)) ∗ bigSep (behind k) Φ) := by
  have e : behind (k + 1) = insert (Ring.bk 32 (k - 1)) (behind k) := by
    ext b; simp only [Finset.mem_insert, mem_behind, Fin.ext_iff, Ring.bk_val (show k - 1 < 32 by omega)]; omega
  rw [e, bigSep_insert (by simp only [mem_behind, Ring.bk_val (show k - 1 < 32 by omega)]; omega)]; rfl
theorem behind_zero : bigSep (behind 0) Φ = iprop(emp) := by
  have e : behind 0 = ∅ := by decide
  rw [e]; rfl
theorem behind_one : bigSep (behind (0 + 1)) Φ = bigSep (behind 0) Φ := by
  have e : behind (0 + 1) = behind 0 := by decide
  rw [e]
theorem behind_end : bigSep (behind 33) Φ = bigSep Finset.univ Φ := by
  have e : behind 33 = Finset.univ := by decide
  rw [e]
end Sets

theorem sl3_turn (k : ℕ) : Ring.sl 3 (k + 1 + 2) = Ring.sl 3 k := Ring.sl_succ_add 3 k 2 rfl
theorem sl2_turn (k : ℕ) : Ring.sl 2 (k + 1 + 1) = Ring.sl 2 k := Ring.sl_succ_add 2 k 1 rfl

/-! ## The result's blocks -/

section Res
variable (c : Dev nD)
  (XA : Buf (Elt F) (xM.view.loc (c : Thread nD τ))) (MA : Buf (Elt F) (mM.view.loc (c : Thread nD τ)))
  (FA : Buf (Elt F) (gM.view.loc (c : Thread nD τ)))

abbrev gain2M : Memref sig .tc .vmem S1x4096 .f32 := Memref.whole cc0_scoped6
abbrev gain3M : Memref sig .tc .vmem S1x4096 .f32 := Memref.whole cc0_scoped7
abbrev RG : Rect S1x4096 := Rect.unit (s := S1x4096) ![0, 0] S1x4096.size inb_S1x4096_S1x4096_0_0
abbrev gain2P (g2 : Buf (Elt F) (gain2M.view.loc (c : Thread nD τ))) : sProp 𝕄 := gain2M.view.loc (c : Thread nD τ) ↦[gain2M.view.set]{fullShare} g2
abbrev gain3P (g3 : Buf (Elt F) (gain3M.view.loc (c : Thread nD τ))) : sProp 𝕄 := gain3M.view.loc (c : Thread nD τ) ↦[gain3M.view.set]{fullShare} g3

variable (g2 : Buf (Elt F) (gain2M.view.loc (c : Thread nD τ))) (g3 : Buf (Elt F) (gain3M.view.loc (c : Thread nD τ)))
  (OV : Buf (Elt F) (oM.view.loc (c : Thread nD τ)))

/-- Block `b` of the result, from block `b` of each input and the two gain vectors. -/
def outB (b : Fin 32) : S256x4096.Idx → Elt F .f32 :=
  k0_pay1 (shapeCast S1x256x4096 (xpayload c XA b) shapeCasts_S256x4096_S1x256x4096)
    (shapeCast S1x256x4096 (mpayload c MA b) shapeCasts_S256x4096_S1x256x4096)
    (gain2M.view.readAt (Elt F) RG.toLoadRect g2)
    (shapeCast S1x256x4096 (gpayload c FA b) shapeCasts_S256x4096_S1x256x4096)
    (gain3M.view.readAt (Elt F) RG.toLoadRect g3)

/-- The result whole: row `r` is row `r % 256` of block `r / 256`. -/
def outG : Buf (Elt F) (oM.view.loc (c : Thread nD τ)) := fun (i : S8192x4096.Idx) =>
  outB c XA MA FA g2 g3 ⟨(i 0).val / 256, by have : (i 0).val < 8192 := (i 0).isLt; omega⟩
    (fun a => match a with
      | ⟨0, _⟩ => ⟨(i 0).val % 256, Nat.mod_lt _ (by decide)⟩
      | ⟨1, _⟩ => i 1)

abbrev ocellP (s : Fin 2) : sProp 𝕄 := semVal ((c : Thread nD τ), SemLoc.dma (osem s).sem) 0
abbrev oslotP (s : Fin 2) (f : Buf (Elt F) ((oslot s).view.loc (c : Thread nD τ))) : sProp 𝕄 :=
  (oslot s).view.loc (c : Thread nD τ) ↦[(oslot s).view.set]{fullShare} f
abbrev ohomeP (f : Buf (Elt F) (oM.view.loc (c : Thread nD τ))) (b : Fin 32) : sProp 𝕄 := (oblk b).view.loc (c : Thread nD τ) ↦[(oblk b).view.set]{fullShare} f
abbrev odone (b : Fin 32) (p : S256x4096.Idx → Elt F .f32) : sProp 𝕄 :=
  (oblk b).view.loc (c : Thread nD τ) ↦[(oblk b).view.set]{fullShare} (oblk b).view.writes (Elt F) OV [⟨Rect.whole S256x4096, p⟩]
abbrev oflightP (s : Fin 2) (b : Fin 32) (f : Buf (Elt F) ((oslot s).view.loc (c : Thread nD τ))) (p : S256x4096.Idx → Elt F .f32) : sProp 𝕄 :=
  Transfers.Flight countersEmb (c : Thread nD τ) (SemLoc.dma (osem s).sem) () 131072 iprop(odone c OV b p ∗ oslotP c s f)

/-- A delivered block is the block of the result. -/
theorem odone_eq (b : Fin 32) : odone c OV b (outB c XA MA FA g2 g3 b) = ohomeP c (outG c XA MA FA g2 g3) b := by
  refine pointsTo_congr fun i hi => ?_
  obtain ⟨z, -, rfl⟩ := Finset.mem_map.mp hi
  refine (congrFun (View.write_univ_eq_writes_whole (Val := Elt F) (oblk b).view OV [] (outB c XA MA FA g2 g3 b)).symm _).trans ?_
  rw [View.write_emb_of_mem _ _ (Finset.mem_univ _)]
  have h0 : ((show S8192x4096.Idx from (oblk b).view.emb z) 0).val = 256 * b.val + (z 0).val := by
    show (blkOff b) 0 + 1 * (z 0).val = _; simp
  have h1 : (show S8192x4096.Idx from (oblk b).view.emb z) 1 = z 1 := by
    apply Fin.ext; show (blkOff b) 1 + 1 * (z 1).val = _; simp
  have hz : (z 0).val < 256 := (z 0).isLt
  show outB c XA MA FA g2 g3 b z = outG c XA MA FA g2 g3 ((oblk b).view.emb z)
  unfold outG
  congr 1
  · apply Fin.ext; show b.val = ((show S8192x4096.Idx from (oblk b).view.emb z) 0).val / 256; rw [h0]; omega
  · funext a; fin_cases a
    · apply Fin.ext; show (z 0).val = ((show S8192x4096.Idx from (oblk b).view.emb z) 0).val % 256; rw [h0]; omega
    · exact h1.symm

/-! ## Roles -/

/-- A slot of the ring not in flight. -/
def xfree (s : Fin 3) : sProp 𝕄 := iprop(xcellP c s ∗ ∃ f, xslotP c s f)
/-- Slot `k mod 3`: in flight with block `k`, or free past the last block. -/
def xrole (k : ℕ) : sProp 𝕄 := if k < 32 then iprop(∃ f, xflightP c XA (Ring.sl 3 k) (Ring.bk 32 k) f) else xfree c (Ring.sl 3 k)
theorem xrole_lo (k : ℕ) (h : k < 32) : xrole c XA k = iprop(∃ f, xflightP c XA (Ring.sl 3 k) (Ring.bk 32 k) f) := if_pos h
theorem xrole_hi (k : ℕ) (h : 32 ≤ k) : xrole c XA k = xfree c (Ring.sl 3 k) := if_neg (by omega)
/-- The ring of the input before trip `k`. -/
def xres (k : ℕ) : sProp 𝕄 := iprop(bigSep (homes k) (xhomeP c XA) ∗ xrole c XA k ∗ xrole c XA (k + 1) ∗ xfree c (Ring.sl 3 (k + 2)))
/-- What a slot holding block `b` reads as. -/
theorem xload (s : Fin 3) (b : Fin 32) (off : Fin 3 → ℕ) (inb) (e : off = slotOff s) :
    xB.view.readAt (Elt F) (Rect.unit (s := S3x256x4096) off S1x256x4096.size inb).toLoadRect
      ((xslot s).view.writes (Elt F) (xslot s).view.junk [⟨Rect.whole S256x4096, xpayload c XA b⟩])
      = shapeCast S1x256x4096 (xpayload c XA b) shapeCasts_S256x4096_S1x256x4096 := by
  subst e
  have h1 : (xslot s).view.read (Elt F) ((xslot s).view.writes (Elt F) (xslot s).view.junk [⟨Rect.whole S256x4096, xpayload c XA b⟩]) = xpayload c XA b :=
    (congrArg ((xslot s).view.read (Elt F)) (View.write_univ_eq_writes_whole (Val := Elt F) (xslot s).view (xslot s).view.junk [] (xpayload c XA b)).symm).trans
      (View.read_write_univ (v := (xslot s).view) (Val := Elt F) _ _)
  have h2 := congrArg (fun v => shapeCast S1x256x4096 v shapeCasts_S256x4096_S1x256x4096) h1
  exact (shapeCast_shapeCast (xB.view.readAt (Elt F) (Rect.unit (s := S3x256x4096) (slotOff s) S1x256x4096.size inb).toLoadRect
      ((xslot s).view.writes (Elt F) (xslot s).view.junk [⟨Rect.whole S256x4096, xpayload c XA b⟩])) shapeCasts_S1x256x4096_S256x4096 shapeCasts_S256x4096_S1x256x4096).symm.trans h2

/-- A slot of the ring not in flight. -/
def mfree (s : Fin 3) : sProp 𝕄 := iprop(mcellP c s ∗ ∃ f, mslotP c s f)
/-- Slot `k mod 3`: in flight with block `k`, or free past the last block. -/
def mrole (k : ℕ) : sProp 𝕄 := if k < 32 then iprop(∃ f, mflightP c MA (Ring.sl 3 k) (Ring.bk 32 k) f) else mfree c (Ring.sl 3 k)
theorem mrole_lo (k : ℕ) (h : k < 32) : mrole c MA k = iprop(∃ f, mflightP c MA (Ring.sl 3 k) (Ring.bk 32 k) f) := if_pos h
theorem mrole_hi (k : ℕ) (h : 32 ≤ k) : mrole c MA k = mfree c (Ring.sl 3 k) := if_neg (by omega)
/-- The ring of the input before trip `k`. -/
def mres (k : ℕ) : sProp 𝕄 := iprop(bigSep (homes k) (mhomeP c MA) ∗ mrole c MA k ∗ mrole c MA (k + 1) ∗ mfree c (Ring.sl 3 (k + 2)))
/-- What a slot holding block `b` reads as. -/
theorem mload (s : Fin 3) (b : Fin 32) (off : Fin 3 → ℕ) (inb) (e : off = slotOff s) :
    mB.view.readAt (Elt F) (Rect.unit (s := S3x256x4096) off S1x256x4096.size inb).toLoadRect
      ((mslot s).view.writes (Elt F) (mslot s).view.junk [⟨Rect.whole S256x4096, mpayload c MA b⟩])
      = shapeCast S1x256x4096 (mpayload c MA b) shapeCasts_S256x4096_S1x256x4096 := by
  subst e
  have h1 : (mslot s).view.read (Elt F) ((mslot s).view.writes (Elt F) (mslot s).view.junk [⟨Rect.whole S256x4096, mpayload c MA b⟩]) = mpayload c MA b :=
    (congrArg ((mslot s).view.read (Elt F)) (View.write_univ_eq_writes_whole (Val := Elt F) (mslot s).view (mslot s).view.junk [] (mpayload c MA b)).symm).trans
      (View.read_write_univ (v := (mslot s).view) (Val := Elt F) _ _)
  have h2 := congrArg (fun v => shapeCast S1x256x4096 v shapeCasts_S256x4096_S1x256x4096) h1
  exact (shapeCast_shapeCast (mB.view.readAt (Elt F) (Rect.unit (s := S3x256x4096) (slotOff s) S1x256x4096.size inb).toLoadRect
      ((mslot s).view.writes (Elt F) (mslot s).view.junk [⟨Rect.whole S256x4096, mpayload c MA b⟩])) shapeCasts_S1x256x4096_S256x4096 shapeCasts_S256x4096_S1x256x4096).symm.trans h2

/-- A slot of the ring not in flight. -/
def gfree (s : Fin 3) : sProp 𝕄 := iprop(gcellP c s ∗ ∃ f, gslotP c s f)
/-- Slot `k mod 3`: in flight with block `k`, or free past the last block. -/
def grole (k : ℕ) : sProp 𝕄 := if k < 32 then iprop(∃ f, gflightP c FA (Ring.sl 3 k) (Ring.bk 32 k) f) else gfree c (Ring.sl 3 k)
theorem grole_lo (k : ℕ) (h : k < 32) : grole c FA k = iprop(∃ f, gflightP c FA (Ring.sl 3 k) (Ring.bk 32 k) f) := if_pos h
theorem grole_hi (k : ℕ) (h : 32 ≤ k) : grole c FA k = gfree c (Ring.sl 3 k) := if_neg (by omega)
/-- The ring of the input before trip `k`. -/
def gres (k : ℕ) : sProp 𝕄 := iprop(bigSep (homes k) (ghomeP c FA) ∗ grole c FA k ∗ grole c FA (k + 1) ∗ gfree c (Ring.sl 3 (k + 2)))
/-- What a slot holding block `b` reads as. -/
theorem gload (s : Fin 3) (b : Fin 32) (off : Fin 3 → ℕ) (inb) (e : off = slotOff s) :
    gB.view.readAt (Elt F) (Rect.unit (s := S3x256x4096) off S1x256x4096.size inb).toLoadRect
      ((gslot s).view.writes (Elt F) (gslot s).view.junk [⟨Rect.whole S256x4096, gpayload c FA b⟩])
      = shapeCast S1x256x4096 (gpayload c FA b) shapeCasts_S256x4096_S1x256x4096 := by
  subst e
  have h1 : (gslot s).view.read (Elt F) ((gslot s).view.writes (Elt F) (gslot s).view.junk [⟨Rect.whole S256x4096, gpayload c FA b⟩]) = gpayload c FA b :=
    (congrArg ((gslot s).view.read (Elt F)) (View.write_univ_eq_writes_whole (Val := Elt F) (gslot s).view (gslot s).view.junk [] (gpayload c FA b)).symm).trans
      (View.read_write_univ (v := (gslot s).view) (Val := Elt F) _ _)
  have h2 := congrArg (fun v => shapeCast S1x256x4096 v shapeCasts_S256x4096_S1x256x4096) h1
  exact (shapeCast_shapeCast (gB.view.readAt (Elt F) (Rect.unit (s := S3x256x4096) (slotOff s) S1x256x4096.size inb).toLoadRect
      ((gslot s).view.writes (Elt F) (gslot s).view.junk [⟨Rect.whole S256x4096, gpayload c FA b⟩])) shapeCasts_S1x256x4096_S256x4096 shapeCasts_S256x4096_S1x256x4096).symm.trans h2

/-- A slot of the output ring not in flight. -/
def ofree (s : Fin 2) : sProp 𝕄 := iprop(ocellP c s ∗ ∃ f, oslotP c s f)
/-- The other slot of the output ring: in flight with block `k - 1`, or free before the first. -/
def oprev (k : ℕ) : sProp 𝕄 := if k = 0 then ofree c (Ring.sl 2 (k + 1))
  else iprop(∃ f, oflightP c OV (Ring.sl 2 (k + 1)) (Ring.bk 32 (k - 1)) f (outB c XA MA FA g2 g3 (Ring.bk 32 (k - 1))))
theorem oprev_zero (k : ℕ) (h : k = 0) : oprev c XA MA FA g2 g3 OV k = ofree c (Ring.sl 2 (k + 1)) := if_pos h
theorem oprev_pos (k : ℕ) (h : 1 ≤ k) : oprev c XA MA FA g2 g3 OV k
    = iprop(∃ f, oflightP c OV (Ring.sl 2 (k + 1)) (Ring.bk 32 (k - 1)) f (outB c XA MA FA g2 g3 (Ring.bk 32 (k - 1)))) := if_neg (by omega)
theorem oprev_succ (k : ℕ) : oprev c XA MA FA g2 g3 OV (k + 1)
    = iprop(∃ f, oflightP c OV (Ring.sl 2 k) (Ring.bk 32 k) f (outB c XA MA FA g2 g3 (Ring.bk 32 k))) := by
  rw [oprev_pos _ _ _ _ _ _ _ _ (by omega), sl2_turn]; rfl
/-- The output ring and the result before trip `k`. -/
def ores (k : ℕ) : sProp 𝕄 := iprop(ofree c (Ring.sl 2 k) ∗ bigSep (ahead k) (ohomeP c OV)
  ∗ bigSep (behind k) (ohomeP c (outG c XA MA FA g2 g3)) ∗ oprev c XA MA FA g2 g3 OV k)

/-- Everything before trip `k`. -/
def resAt (k : ℕ) : sProp 𝕄 := iprop(gain2P c g2 ∗ gain3P c g3 ∗ (∃ W, owes (c : Thread nD τ) 0 W)
  ∗ xres c XA k ∗ mres c MA k ∗ gres c FA k ∗ ores c XA MA FA g2 g3 OV k)

/-- The stored slot, read back whole, is the block stored. -/
theorem oslot_read (s : Fin 2) (off : Fin 3 → ℕ) (inb) (e : off = slotOff2 s) (f : Buf (Elt F) ((oslot s).view.loc (c : Thread nD τ)))
    (p : S256x4096.Idx → Elt F .f32) :
    (oslot s).view.read (Elt F) ((oB.access (Rect.unit (s := S2x256x4096) off S1x256x4096.size inb)).write (Elt F) f
      (shapeCast S1x256x4096 p shapeCasts_S256x4096_S1x256x4096) Finset.univ) = p := by
  subst e
  have h := View.read_write_univ (v := oB.access (Rect.unit (s := S2x256x4096) (slotOff2 s) S1x256x4096.size inb)) (Val := Elt F) f
      (shapeCast S1x256x4096 p shapeCasts_S256x4096_S1x256x4096)
  have h2 := congrArg (fun v => shapeCast S256x4096 v shapeCasts_S1x256x4096_S256x4096) h
  exact h2.trans (shapeCast_shapeCast _ _ _)

theorem pay_congr (b : Fin 32) (vx vm vf) (hx : vx = shapeCast S1x256x4096 (xpayload c XA b) shapeCasts_S256x4096_S1x256x4096)
    (hm : vm = shapeCast S1x256x4096 (mpayload c MA b) shapeCasts_S256x4096_S1x256x4096)
    (hf : vf = shapeCast S1x256x4096 (gpayload c FA b) shapeCasts_S256x4096_S1x256x4096) :
    k0_pay1 vx vm (gain2M.view.readAt (Elt F) RG.toLoadRect g2) vf (gain3M.view.readAt (Elt F) RG.toLoadRect g3) = outB c XA MA FA g2 g3 b := by
  subst hx hm hf; rfl

/-- The words carried into trip `k`. -/
abbrev words (k : ℕ) : BitVec 32 × BitVec 32 × BitVec 32 × BitVec 32 × BitVec 32 × BitVec 32 × BitVec 32 × BitVec 32 × BitVec 32 × BitVec 32 × BitVec 32 :=
  (wIn k, wK k, wIn k, wK k, wIn k, wK k, wG k, wG k, wK k, wO k, wB k)

abbrev body (v11 v35 v42 v50 : BitVec 32) (v53 : BitVec 1) (v55 : BitVec 32) (k : Fin k0_t1_loop.trips) :=
  k0_t1_body (F := F) xM (Memref.isWhole_whole _) mM (Memref.isWhole_whole _) gM (Memref.isWhole_whole _) (Memref.whole main_v1) (Memref.isWhole_whole _) (Memref.whole main_v3) (Memref.isWhole_whole _) oM (Memref.isWhole_whole _) xB (Memref.isWhole_whole _) cc0_scoped1 mB (Memref.isWhole_whole _) cc0_scoped3 gB (Memref.isWhole_whole _) cc0_scoped5 gain2M (Memref.isWhole_whole _) gain3M (Memref.isWhole_whole _) oB (Memref.isWhole_whole _) cc0_scoped9 cc0_scoped10 cc0_scoped11 v11 v35 v42 v50 v53 v55
    k (words k.val)
end Res

end Cert.Proof.PostSample

end
-- ==== Proof.SampleTrip.lean ====
/- One trip of the row-streaming loop of `post_ffn` for the sample rows, over a symbolic trip number: the first trip, the trips that issue
   a further block, and the last two. -/
module

public import proofs.«01_k».proof.Proof.SampleRes
public import Idealize.ShloMosaic.Lib.Ring
public import Idealize.ShloMosaic.Lib.Ring.Trips
public import Idealize.ShloMosaic.Lib.Pipeline.Value

@[expose] public section

noncomputable section

namespace Cert.Proof.PostSample

open Cert.PostSampleIdeal Cert.PostSampleIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip
variable (c : Dev nD)
  (XA : Buf (Elt F) (xM.view.loc (c : Thread nD τ))) (MA : Buf (Elt F) (mM.view.loc (c : Thread nD τ)))
  (FA : Buf (Elt F) (gM.view.loc (c : Thread nD τ)))
  (g2 : Buf (Elt F) (gain2M.view.loc (c : Thread nD τ))) (g3 : Buf (Elt F) (gain3M.view.loc (c : Thread nD τ)))
  (OV : Buf (Elt F) (oM.view.loc (c : Thread nD τ)))
  (v11 v35 v42 v50 : BitVec 32) (v53 : BitVec 1) (v55 : BitVec 32)

set_option maxHeartbeats 4000000 in
theorem trip_first (k : Fin k0_t1_loop.trips) (h0 : k.val = 0) :
    resAt c XA MA FA g2 g3 OV k.val
    ⊢ wp frame (wpE (defs₀ (F := F)) 𝒱₀ (c : Thread nD τ) none) Set.univ (body v11 v35 v42 v50 v53 v55 k)
        (fun acc => iprop(⌜acc = words (k.val + 1)⌝ ∗ resAt c XA MA FA g2 g3 OV (k.val + 1))) := by
  have h32 : k.val < 32 := lt_of_lt_of_eq k.isLt trips_eq
  have h30 : k.val < 30 := by omega
  have hw1 := chk1_at k
  have hw2 := chk2_at k
  have hw3 := chk3_at k
  have hw4 := chk4_at k
  have hw5 := chk5_at k
  have hc4 := cond4_lo k h30
  have hc5 := cond5_lo k h30
  have hc6 := cond6_lo k h30
  have hc7 := cond7_at k
  have hc8 := cond8_at k
  have hc9 := cond9_at k
  have hc14 := cond14_at k
  have hc18 := cond18_zero k h0
  unfold resAt xres mres gres ores
  rw [homes_lo (xhomeP c XA) k.val h30]
  rw [homes_succ (xhomeP c XA) k.val h32, xrole_lo c XA k.val h32]
  rw [sl3_turn]
  rw [homes_lo (mhomeP c MA) k.val h30]
  rw [homes_succ (mhomeP c MA) k.val h32, mrole_lo c MA k.val h32]
  rw [homes_lo (ghomeP c FA) k.val h30]
  rw [homes_succ (ghomeP c FA) k.val h32, grole_lo c FA k.val h32]
  rw [ahead_out (ohomeP c OV) k.val h32, oprev_succ]
  rw [oprev_zero _ _ _ _ _ _ _ _ h0]
  have hb : bigSep (behind (k.val + 1)) (ohomeP c (outG c XA MA FA g2 g3)) = bigSep (behind k.val) (ohomeP c (outG c XA MA FA g2 g3)) := by rw [h0]; exact behind_one _
  rw [hb]
  rw [xrole_lo c XA (k.val + 1 + 1) (by omega)]
  rw [mrole_lo c MA (k.val + 1 + 1) (by omega)]
  rw [grole_lo c FA (k.val + 1 + 1) (by omega)]
  unfold xfree mfree gfree ofree
  iintro ⟨Hg2, Hg3, ⟨%W, HW⟩, ⟨⟨Hhx, Hrx⟩, ⟨%fx, HFx⟩, HRx, ⟨Hcx, ⟨%ex, Hsx⟩⟩⟩, ⟨⟨Hhm, Hrm⟩, ⟨%fm, HFm⟩, HRm, ⟨Hcm, ⟨%em, Hsm⟩⟩⟩, ⟨⟨Hhg, Hrg⟩, ⟨%fg, HFg⟩, HRg, ⟨Hcg, ⟨%eg, Hsg⟩⟩⟩, ⟨⟨Hco, ⟨%eo, Hso⟩⟩, ⟨Hho, Hah⟩, Hbe, Hop⟩⟩
  dsimp only [body]
  sl_unfold [k0_t1_body]
  sl_exec
  sl_step
  isplitr
  · ipureintro
    refine Prod.ext ?_ (Prod.ext ?_ (Prod.ext ?_ (Prod.ext ?_ (Prod.ext ?_ (Prod.ext ?_ (Prod.ext ?_ (Prod.ext ?_ (Prod.ext ?_ (Prod.ext ?_ ?_)))))))))
    all_goals (clear * - h0; revert k; decide +kernel)
  have eo : trip_first.sl.dma7 c XA MA FA g2 g3 k hw2 hw3 hw4 hw5 eo = outB c XA MA FA g2 g3 (Ring.bk 32 k.val) := by
    delta trip_first.sl.dma7 trip_first.sl.Hso_w1 trip_first.sl.v246_r0 trip_first.sl.r
    refine (oslot_read c (Ring.sl 2 k.val) _ _ (off33_eq k) _ _).trans ?_
    delta trip_first.sl.v203_r0 trip_first.sl.v206_r0 trip_first.sl.v225_r0
    exact pay_congr c XA MA FA g2 g3 _ _ _ _ (xload c XA _ _ _ _ (off30_eq k)) (mload c MA _ _ _ _ (off31_eq k)) (gload c FA _ _ _ _ (off32_eq k))
  isplitl [Hg2]; · iexact Hg2
  isplitl [Hg3]; · iexact Hg3
  isplitl [HW]; · iexists _; iexact HW
  isplitl [HFx_src Hrx HRx Hcx HFx HFx_dst]
  · isplitl [HFx_src Hrx]
    · isplitl [HFx_src]; · iexact HFx_src
      iexact Hrx
    isplitl [HRx]; · iexact HRx
    isplitl [Hcx]; · iexists ex; iexact Hcx
    isplitl [HFx]; · iexact HFx
    iexists _; iexact HFx_dst
  isplitl [HFm_src Hrm HRm Hcm HFm HFm_dst]
  · isplitl [HFm_src Hrm]
    · isplitl [HFm_src]; · iexact HFm_src
      iexact Hrm
    isplitl [HRm]; · iexact HRm
    isplitl [Hcm]; · iexists em; iexact Hcm
    isplitl [HFm]; · iexact HFm
    iexists _; iexact HFm_dst
  isplitl [HFg_src Hrg HRg Hcg HFg HFg_dst]
  · isplitl [HFg_src Hrg]
    · isplitl [HFg_src]; · iexact HFg_src
      iexact Hrg
    isplitl [HRg]; · iexact HRg
    isplitl [Hcg]; · iexists eg; iexact Hcg
    isplitl [HFg]; · iexact HFg
    iexists _; iexact HFg_dst
  isplitl [Hop]; · iexact Hop
  isplitl [Hah]; · iexact Hah
  isplitl [Hbe]; · iexact Hbe
  rw [eo]
  iexists _; iexact Hco

set_option maxHeartbeats 4000000 in
theorem trip_mid (k : Fin k0_t1_loop.trips) (h1 : 1 ≤ k.val) (h30 : k.val < 30) :
    resAt c XA MA FA g2 g3 OV k.val
    ⊢ wp frame (wpE (defs₀ (F := F)) 𝒱₀ (c : Thread nD τ) none) Set.univ (body v11 v35 v42 v50 v53 v55 k)
        (fun acc => iprop(⌜acc = words (k.val + 1)⌝ ∗ resAt c XA MA FA g2 g3 OV (k.val + 1))) := by
  have h32 : k.val < 32 := lt_of_lt_of_eq k.isLt trips_eq
  have hw1 := chk1_at k
  have hw2 := chk2_at k
  have hw3 := chk3_at k
  have hw4 := chk4_at k
  have hw5 := chk5_at k
  have hc4 := cond4_lo k h30
  have hc5 := cond5_lo k h30
  have hc6 := cond6_lo k h30
  have hc7 := cond7_at k
  have hc8 := cond8_at k
  have hc9 := cond9_at k
  have hc14 := cond14_at k
  have hc18 := cond18_pos k h1
  unfold resAt xres mres gres ores
  rw [homes_lo (xhomeP c XA) k.val h30]
  rw [homes_succ (xhomeP c XA) k.val h32, xrole_lo c XA k.val h32]
  rw [sl3_turn]
  rw [homes_lo (mhomeP c MA) k.val h30]
  rw [homes_succ (mhomeP c MA) k.val h32, mrole_lo c MA k.val h32]
  rw [homes_lo (ghomeP c FA) k.val h30]
  rw [homes_succ (ghomeP c FA) k.val h32, grole_lo c FA k.val h32]
  rw [ahead_out (ohomeP c OV) k.val h32, oprev_succ]
  rw [oprev_pos _ _ _ _ _ _ _ _ h1, behind_in (ohomeP c (outG c XA MA FA g2 g3)) k.val h1 (by omega)]
  rw [xrole_lo c XA (k.val + 1 + 1) (by omega)]
  rw [mrole_lo c MA (k.val + 1 + 1) (by omega)]
  rw [grole_lo c FA (k.val + 1 + 1) (by omega)]
  unfold xfree mfree gfree ofree
  iintro ⟨Hg2, Hg3, ⟨%W, HW⟩, ⟨⟨Hhx, Hrx⟩, ⟨%fx, HFx⟩, HRx, ⟨Hcx, ⟨%ex, Hsx⟩⟩⟩, ⟨⟨Hhm, Hrm⟩, ⟨%fm, HFm⟩, HRm, ⟨Hcm, ⟨%em, Hsm⟩⟩⟩, ⟨⟨Hhg, Hrg⟩, ⟨%fg, HFg⟩, HRg, ⟨Hcg, ⟨%eg, Hsg⟩⟩⟩, ⟨⟨Hco, ⟨%eo, Hso⟩⟩, ⟨Hho, Hah⟩, Hbe, ⟨%fo, HFo⟩⟩⟩
  dsimp only [body]
  sl_unfold [k0_t1_body]
  sl_exec
  sl_step
  isplitr
  · ipureintro
    refine Prod.ext ?_ (Prod.ext ?_ (Prod.ext ?_ (Prod.ext ?_ (Prod.ext ?_ (Prod.ext ?_ (Prod.ext ?_ (Prod.ext ?_ (Prod.ext ?_ (Prod.ext ?_ ?_)))))))))
    all_goals (clear * - h1 h30; revert k; decide +kernel)
  have eo : trip_mid.sl.dma7 c XA MA FA g2 g3 k hw2 hw3 hw4 hw5 eo = outB c XA MA FA g2 g3 (Ring.bk 32 k.val) := by
    delta trip_mid.sl.dma7 trip_mid.sl.Hso_w1 trip_mid.sl.v246_r0 trip_mid.sl.r
    refine (oslot_read c (Ring.sl 2 k.val) _ _ (off33_eq k) _ _).trans ?_
    delta trip_mid.sl.v203_r0 trip_mid.sl.v206_r0 trip_mid.sl.v225_r0
    exact pay_congr c XA MA FA g2 g3 _ _ _ _ (xload c XA _ _ _ _ (off30_eq k)) (mload c MA _ _ _ _ (off31_eq k)) (gload c FA _ _ _ _ (off32_eq k))
  isplitl [Hg2]; · iexact Hg2
  isplitl [Hg3]; · iexact Hg3
  isplitl [HW]; · iexists _; iexact HW
  isplitl [HFx_src Hrx HRx Hcx HFx HFx_dst]
  · isplitl [HFx_src Hrx]
    · isplitl [HFx_src]; · iexact HFx_src
      iexact Hrx
    isplitl [HRx]; · iexact HRx
    isplitl [Hcx]; · iexists ex; iexact Hcx
    isplitl [HFx]; · iexact HFx
    iexists _; iexact HFx_dst
  isplitl [HFm_src Hrm HRm Hcm HFm HFm_dst]
  · isplitl [HFm_src Hrm]
    · isplitl [HFm_src]; · iexact HFm_src
      iexact Hrm
    isplitl [HRm]; · iexact HRm
    isplitl [Hcm]; · iexists em; iexact Hcm
    isplitl [HFm]; · iexact HFm
    iexists _; iexact HFm_dst
  isplitl [HFg_src Hrg HRg Hcg HFg HFg_dst]
  · isplitl [HFg_src Hrg]
    · isplitl [HFg_src]; · iexact HFg_src
      iexact Hrg
    isplitl [HRg]; · iexact HRg
    isplitl [Hcg]; · iexists eg; iexact Hcg
    isplitl [HFg]; · iexact HFg
    iexists _; iexact HFg_dst
  isplitl [HFo HFo_src]
  · isplitl [HFo]; · iexact HFo
    iexists _; iexact HFo_src
  isplitl [Hah]; · iexact Hah
  isplitl [HFo_dst Hbe]
  · isplitl [HFo_dst]
    · iapply (entails_of_eq (odone_eq c XA MA FA g2 g3 OV (Ring.bk 32 (k.val - 1)))); iexact HFo_dst
    iexact Hbe
  rw [eo]
  iexists _; iexact Hco

set_option maxHeartbeats 4000000 in
theorem trip_last (k : Fin k0_t1_loop.trips) (h30 : 30 ≤ k.val) :
    resAt c XA MA FA g2 g3 OV k.val
    ⊢ wp frame (wpE (defs₀ (F := F)) 𝒱₀ (c : Thread nD τ) none) Set.univ (body v11 v35 v42 v50 v53 v55 k)
        (fun acc => iprop(⌜acc = words (k.val + 1)⌝ ∗ resAt c XA MA FA g2 g3 OV (k.val + 1))) := by
  have h32 : k.val < 32 := lt_of_lt_of_eq k.isLt trips_eq
  have h1 : 1 ≤ k.val := by omega
  have hw1 := chk1_at k
  have hw2 := chk2_at k
  have hw3 := chk3_at k
  have hw4 := chk4_at k
  have hw5 := chk5_at k
  have hc4 := cond4_hi k h30
  have hc5 := cond5_hi k h30
  have hc6 := cond6_hi k h30
  have hc7 := cond7_at k
  have hc8 := cond8_at k
  have hc9 := cond9_at k
  have hc14 := cond14_at k
  have hc18 := cond18_pos k h1
  unfold resAt xres mres gres ores
  rw [homes_hi (xhomeP c XA) k.val h30]
  rw [homes_succ (xhomeP c XA) k.val h32, xrole_lo c XA k.val h32]
  rw [sl3_turn]
  rw [homes_hi (mhomeP c MA) k.val h30]
  rw [homes_succ (mhomeP c MA) k.val h32, mrole_lo c MA k.val h32]
  rw [homes_hi (ghomeP c FA) k.val h30]
  rw [homes_succ (ghomeP c FA) k.val h32, grole_lo c FA k.val h32]
  rw [ahead_out (ohomeP c OV) k.val h32, oprev_succ]
  rw [oprev_pos _ _ _ _ _ _ _ _ h1, behind_in (ohomeP c (outG c XA MA FA g2 g3)) k.val h1 (by omega)]
  rw [xrole_hi c XA (k.val + 1 + 1) (by omega)]
  rw [mrole_hi c MA (k.val + 1 + 1) (by omega)]
  rw [grole_hi c FA (k.val + 1 + 1) (by omega)]
  unfold xfree mfree gfree ofree
  iintro ⟨Hg2, Hg3, ⟨%W, HW⟩, ⟨Hrx, ⟨%fx, HFx⟩, HRx, Hfrx⟩, ⟨Hrm, ⟨%fm, HFm⟩, HRm, Hfrm⟩, ⟨Hrg, ⟨%fg, HFg⟩, HRg, Hfrg⟩, ⟨⟨Hco, ⟨%eo, Hso⟩⟩, ⟨Hho, Hah⟩, Hbe, ⟨%fo, HFo⟩⟩⟩
  dsimp only [body]
  sl_unfold [k0_t1_body]
  sl_exec
  sl_step
  isplitr
  · ipureintro
    refine Prod.ext ?_ (Prod.ext ?_ (Prod.ext ?_ (Prod.ext ?_ (Prod.ext ?_ (Prod.ext ?_ (Prod.ext ?_ (Prod.ext ?_ (Prod.ext ?_ (Prod.ext ?_ ?_)))))))))
    all_goals (clear * - h30; revert k; decide +kernel)
  have eo : trip_last.sl.dma7 c XA MA FA g2 g3 k hw2 hw3 hw4 hw5 eo = outB c XA MA FA g2 g3 (Ring.bk 32 k.val) := by
    delta trip_last.sl.dma7 trip_last.sl.Hso_w1 trip_last.sl.v246_r0 trip_last.sl.r
    refine (oslot_read c (Ring.sl 2 k.val) _ _ (off33_eq k) _ _).trans ?_
    delta trip_last.sl.v203_r0 trip_last.sl.v206_r0 trip_last.sl.v225_r0
    exact pay_congr c XA MA FA g2 g3 _ _ _ _ (xload c XA _ _ _ _ (off30_eq k)) (mload c MA _ _ _ _ (off31_eq k)) (gload c FA _ _ _ _ (off32_eq k))
  isplitl [Hg2]; · iexact Hg2
  isplitl [Hg3]; · iexact Hg3
  isplitl [HW]; · iexists _; iexact HW
  isplitl [HFx_src Hrx HRx Hfrx HFx HFx_dst]
  · isplitl [HFx_src Hrx]
    · isplitl [HFx_src]; · iexact HFx_src
      iexact Hrx
    isplitl [HRx]; · iexact HRx
    isplitl [Hfrx]; · iexact Hfrx
    isplitl [HFx]; · iexact HFx
    iexists _; iexact HFx_dst
  isplitl [HFm_src Hrm HRm Hfrm HFm HFm_dst]
  · isplitl [HFm_src Hrm]
    · isplitl [HFm_src]; · iexact HFm_src
      iexact Hrm
    isplitl [HRm]; · iexact HRm
    isplitl [Hfrm]; · iexact Hfrm
    isplitl [HFm]; · iexact HFm
    iexists _; iexact HFm_dst
  isplitl [HFg_src Hrg HRg Hfrg HFg HFg_dst]
  · isplitl [HFg_src Hrg]
    · isplitl [HFg_src]; · iexact HFg_src
      iexact Hrg
    isplitl [HRg]; · iexact HRg
    isplitl [Hfrg]; · iexact Hfrg
    isplitl [HFg]; · iexact HFg
    iexists _; iexact HFg_dst
  isplitl [HFo HFo_src]
  · isplitl [HFo]; · iexact HFo
    iexists _; iexact HFo_src
  isplitl [Hah]; · iexact Hah
  isplitl [HFo_dst Hbe]
  · isplitl [HFo_dst]
    · iapply (entails_of_eq (odone_eq c XA MA FA g2 g3 OV (Ring.bk 32 (k.val - 1)))); iexact HFo_dst
    iexact Hbe
  rw [eo]
  iexists _; iexact Hco

end Trip

end Cert.Proof.PostSample

end
-- ==== Proof.SampleBody.lean ====
/- The whole of `post_ffn` for the sample rows: the two gain vectors fetched, the rings primed, the loop, the last block drained. -/
module

public import proofs.«01_k».proof.Proof.SampleTrip
public import Idealize.ShloMosaic.Lib.Ring
public import Idealize.ShloMosaic.Lib.Ring.Trips
public import Idealize.ShloMosaic.Lib.Pipeline.Value

@[expose] public section

noncomputable section

namespace Cert.Proof.PostSample

open Cert.PostSampleIdeal Cert.PostSampleIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Body
variable (c : Dev nD)
  (XA : Buf (Elt F) (xM.view.loc (c : Thread nD τ))) (MA : Buf (Elt F) (mM.view.loc (c : Thread nD τ)))
  (FA : Buf (Elt F) (gM.view.loc (c : Thread nD τ)))
  (OV : Buf (Elt F) (oM.view.loc (c : Thread nD τ)))

/-- One trip, whichever it is. -/
theorem trip (g2 : Buf (Elt F) (gain2M.view.loc (c : Thread nD τ))) (g3 : Buf (Elt F) (gain3M.view.loc (c : Thread nD τ)))
    (v11 v35 v42 v50 : BitVec 32) (v53 : BitVec 1) (v55 : BitVec 32) (k : Fin k0_t1_loop.trips) :
    resAt c XA MA FA g2 g3 OV k.val
    ⊢ wp frame (wpE (defs₀ (F := F)) 𝒱₀ (c : Thread nD τ) none) Set.univ (body v11 v35 v42 v50 v53 v55 k)
        (fun acc => iprop(⌜acc = words (k.val + 1)⌝ ∗ resAt c XA MA FA g2 g3 OV (k.val + 1))) := by
  by_cases h0 : k.val = 0
  · exact trip_first c XA MA FA g2 g3 OV v11 v35 v42 v50 v53 v55 k h0
  by_cases h30 : k.val < 30
  · exact trip_mid c XA MA FA g2 g3 OV v11 v35 v42 v50 v53 v55 k (by omega) h30
  · exact trip_last c XA MA FA g2 g3 OV v11 v35 v42 v50 v53 v55 k (by omega)

abbrev a3M : Memref sig .tc .hbm S1x4096 .f32 := Memref.whole main_v1
abbrev a4M : Memref sig .tc .hbm S1x4096 .f32 := Memref.whole main_v3
variable (A3 : Buf (Elt F) (a3M.view.loc (c : Thread nD τ))) (A4 : Buf (Elt F) (a4M.view.loc (c : Thread nD τ)))
abbrev a3P : sProp 𝕄 := a3M.view.loc (c : Thread nD τ) ↦[a3M.view.set]{fullShare} A3
abbrev a4P : sProp 𝕄 := a4M.view.loc (c : Thread nD τ) ↦[a4M.view.set]{fullShare} A4
abbrev dcellAP : sProp 𝕄 := semVal ((c : Thread nD τ), SemLoc.dma cc0_scoped10.sem) 0
abbrev dcellBP : sProp 𝕄 := semVal ((c : Thread nD τ), SemLoc.dma cc0_scoped11.sem) 0

abbrev prog : Prog (TpuEff nD τ sig (Elt F) Λ₀ .tc) PUnit :=
  cc0_post_ffn xM (Memref.isWhole_whole _) mM (Memref.isWhole_whole _) gM (Memref.isWhole_whole _) a3M (Memref.isWhole_whole _) a4M (Memref.isWhole_whole _) oM (Memref.isWhole_whole _) xB (Memref.isWhole_whole _) cc0_scoped1 mB (Memref.isWhole_whole _) cc0_scoped3 gB (Memref.isWhole_whole _) cc0_scoped5 gain2M (Memref.isWhole_whole _) gain3M (Memref.isWhole_whole _) oB (Memref.isWhole_whole _) cc0_scoped9 cc0_scoped10 cc0_scoped11

def PRE : sProp 𝕄 := iprop(a3P c A3
  ∗ a4P c A4
  ∗ (∃ g, gain2P c g)
  ∗ (∃ g, gain3P c g)
  ∗ dcellAP c
  ∗ dcellBP c
  ∗ (∃ W, owes (c : Thread nD τ) 0 W)
  ∗ bigSep Finset.univ (xhomeP c XA)
  ∗ xfree c 0
  ∗ xfree c 1
  ∗ xfree c 2
  ∗ bigSep Finset.univ (mhomeP c MA)
  ∗ mfree c 0
  ∗ mfree c 1
  ∗ mfree c 2
  ∗ bigSep Finset.univ (ghomeP c FA)
  ∗ gfree c 0
  ∗ gfree c 1
  ∗ gfree c 2
  ∗ bigSep Finset.univ (ohomeP c OV)
  ∗ ofree c 0
  ∗ ofree c 1)

variable (g2 : Buf (Elt F) (gain2M.view.loc (c : Thread nD τ))) (g3 : Buf (Elt F) (gain3M.view.loc (c : Thread nD τ)))
/-- The gain vectors as the kernel fetches them. -/
abbrev gain2V : Buf (Elt F) (gain2M.view.loc (c : Thread nD τ)) :=
  gain2M.view.writes (Elt F) gain2M.view.junk [⟨Rect.whole S1x4096, ReadAs.same.apply (a3M.view.read (Elt F) A3)⟩]
abbrev gain3V : Buf (Elt F) (gain3M.view.loc (c : Thread nD τ)) :=
  gain3M.view.writes (Elt F) gain3M.view.junk [⟨Rect.whole S1x4096, ReadAs.same.apply (a4M.view.read (Elt F) A4)⟩]

theorem ahead_end (Φ : Fin 32 → sProp 𝕄) : bigSep (ahead 32) Φ = iprop(emp) := by
  have e : ahead 32 = ∅ := by decide
  rw [e]; rfl

/-- What the first trip starts from. -/
theorem resAt_zero :
    resAt c XA MA FA g2 g3 OV 0 = iprop(gain2P c g2 ∗ gain3P c g3 ∗ (∃ W, owes (c : Thread nD τ) 0 W)
      ∗ (bigSep (homes 0) (xhomeP c XA) ∗ (∃ f, xflightP c XA 0 0 f) ∗ (∃ f, xflightP c XA 1 1 f) ∗ xfree c 2)
      ∗ (bigSep (homes 0) (mhomeP c MA) ∗ (∃ f, mflightP c MA 0 0 f) ∗ (∃ f, mflightP c MA 1 1 f) ∗ mfree c 2)
      ∗ (bigSep (homes 0) (ghomeP c FA) ∗ (∃ f, gflightP c FA 0 0 f) ∗ (∃ f, gflightP c FA 1 1 f) ∗ gfree c 2)
      ∗ ofree c 0 ∗ bigSep Finset.univ (ohomeP c OV) ∗ emp ∗ ofree c 1) := by
  unfold resAt xres mres gres ores
  rw [ahead_zero, behind_zero, oprev_zero _ _ _ _ _ _ _ _ rfl]
  rw [xrole_lo c XA 0 (by omega), xrole_lo c XA (0 + 1) (by omega)]
  rw [mrole_lo c MA 0 (by omega), mrole_lo c MA (0 + 1) (by omega)]
  rw [grole_lo c FA 0 (by omega), grole_lo c FA (0 + 1) (by omega)]
  rfl

/-- What the last trip leaves. -/
theorem resAt_end (n : ℕ) (hn : n = 32) :
    resAt c XA MA FA g2 g3 OV n = iprop(gain2P c g2 ∗ gain3P c g3 ∗ (∃ W, owes (c : Thread nD τ) 0 W)
      ∗ (bigSep Finset.univ (xhomeP c XA) ∗ xfree c 2 ∗ xfree c 0 ∗ xfree c 1)
      ∗ (bigSep Finset.univ (mhomeP c MA) ∗ mfree c 2 ∗ mfree c 0 ∗ mfree c 1)
      ∗ (bigSep Finset.univ (ghomeP c FA) ∗ gfree c 2 ∗ gfree c 0 ∗ gfree c 1)
      ∗ ofree c 0 ∗ emp ∗ bigSep (behind 32) (ohomeP c (outG c XA MA FA g2 g3))
      ∗ (∃ f, oflightP c OV 1 31 f (outB c XA MA FA g2 g3 31))) := by
  subst hn
  unfold resAt xres mres gres ores
  rw [ahead_end, oprev_pos _ _ _ _ _ _ _ _ (by omega)]
  rw [xrole_hi c XA 32 (by omega), xrole_hi c XA (32 + 1) (by omega), homes_end (xhomeP c XA)]
  rw [mrole_hi c MA 32 (by omega), mrole_hi c MA (32 + 1) (by omega), homes_end (mhomeP c MA)]
  rw [grole_hi c FA 32 (by omega), grole_hi c FA (32 + 1) (by omega), homes_end (ghomeP c FA)]
  rfl

set_option maxHeartbeats 4000000 in
theorem bodyRun (Q : PUnit → sProp 𝕄) :
    iprop(PRE c XA MA FA OV A3 A4 ∗ (PRE c XA MA FA (outG c XA MA FA (gain2V c A3) (gain3V c A4)) A3 A4 -∗ Q ⟨⟩))
      ⊢ wp frame (wpE (defs₀ (F := F)) 𝒱₀ (c : Thread nD τ) none) Set.univ (prog (F := F)) Q := by
  unfold PRE prog
  have hc1 := cond1_at; have hc2 := cond2_at; have hc3 := cond3_at
  have hw6 := chk6_end; have hw7 := chk7_end
  simp only [cc0_post_ffn_eq_skeleton]; unfold cc0_post_ffn_skel
  iintro ⟨⟨HA3, HA4, ⟨%g2, Hg2⟩, ⟨%g3, Hg3⟩, HcA, HcB, ⟨%W, HW⟩, Hhx, Hfx0, Hfx1, Hfx2, Hhm, Hfm0, Hfm1, Hfm2, Hhg, Hfg0, Hfg1, Hfg2, Hho, Hfo0, Hfo1⟩, Hk⟩
  unfold xfree mfree gfree
  ihave Hh3x := (entails_of_eq (homes_zero (xhomeP c XA))) $$ Hhx
  icases Hh3x with ⟨Hhx0, Hhx1, Hhx⟩
  icases Hfx0 with ⟨Hcx0, ⟨%ex0, Hsx0⟩⟩
  icases Hfx1 with ⟨Hcx1, ⟨%ex1, Hsx1⟩⟩
  ihave Hh3m := (entails_of_eq (homes_zero (mhomeP c MA))) $$ Hhm
  icases Hh3m with ⟨Hhm0, Hhm1, Hhm⟩
  icases Hfm0 with ⟨Hcm0, ⟨%em0, Hsm0⟩⟩
  icases Hfm1 with ⟨Hcm1, ⟨%em1, Hsm1⟩⟩
  ihave Hh3g := (entails_of_eq (homes_zero (ghomeP c FA))) $$ Hhg
  icases Hh3g with ⟨Hhg0, Hhg1, Hhg⟩
  icases Hfg0 with ⟨Hcg0, ⟨%eg0, Hsg0⟩⟩
  icases Hfg1 with ⟨Hcg1, ⟨%eg1, Hsg1⟩⟩
  sl_exec
  sl_for (fun (k : ℕ) acc => (iprop(⌜acc = words k⌝ ∗ resAt c XA MA FA (gain2V c A3) (gain3V c A4) OV k) : sProp 𝕄)) $$ [Hg2 Hg3 HW Hcx0 Hcx1 Hhx Hfx2 Hcm0 Hcm1 Hhm Hfm2 Hcg0 Hcg1 Hhg Hfg2 Hho Hfo0 Hfo1]
  · intro k acc
    iintro ⟨%hacc, H⟩
    subst hacc
    iapply (trip c XA MA FA OV (gain2V c A3) (gain3V c A4) 1#32 1#32 1#32 2#32 1#1 1#32 k); iexact H
  · isplitr; · ipureintro; rfl
    rw [resAt_zero]
    unfold xfree mfree gfree
    isplitl [Hg2]; · iexact Hg2
    isplitl [Hg3]; · iexact Hg3
    isplitl [HW]; · iexists _; iexact HW
    isplitl [Hcx0 Hcx1 Hhx Hfx2]
    · isplitl [Hhx]; · iexact Hhx
      isplitl [Hcx0]; · iexists ex0; iexact Hcx0
      isplitl [Hcx1]; · iexists ex1; iexact Hcx1
      iexact Hfx2
    isplitl [Hcm0 Hcm1 Hhm Hfm2]
    · isplitl [Hhm]; · iexact Hhm
      isplitl [Hcm0]; · iexists em0; iexact Hcm0
      isplitl [Hcm1]; · iexists em1; iexact Hcm1
      iexact Hfm2
    isplitl [Hcg0 Hcg1 Hhg Hfg2]
    · isplitl [Hhg]; · iexact Hhg
      isplitl [Hcg0]; · iexists eg0; iexact Hcg0
      isplitl [Hcg1]; · iexists eg1; iexact Hcg1
      iexact Hfg2
    isplitl [Hfo0]; · iexact Hfo0
    isplitl [Hho]; · iexact Hho
    isplitr; · iempintro
    iexact Hfo1
  iintro %acc ⟨%hacc, HR⟩
  have hacc' : acc = words 32 := hacc.trans (congrArg words trips_eq)
  subst hacc'
  ihave HR2 := (entails_of_eq (resAt_end c XA MA FA OV (gain2V c A3) (gain3V c A4) (Scf.trips k0_t1_loop.lb k0_t1_loop.ub k0_t1_loop.st) trips_eq)) $$ HR
  icases HR2 with ⟨Hg2, Hg3, ⟨%W', HW⟩, ⟨Hhx, Hfx2, Hfx0, Hfx1⟩, ⟨Hhm, Hfm2, Hfm0, Hfm1⟩, ⟨Hhg, Hfg2, Hfg0, Hfg1⟩, Hfo0, -, Hbe, ⟨%fo, HFo⟩⟩
  unfold xfree mfree gfree
  sl_exec
  sl_step
  iapply Hk
  isplitl [HA3]; · iexact HA3
  isplitl [HA4]; · iexact HA4
  isplitl [Hg2]; · iexists _; iexact Hg2
  isplitl [Hg3]; · iexists _; iexact Hg3
  isplitl [HcA]; · iexact HcA
  isplitl [HcB]; · iexact HcB
  isplitl [HW]; · iexists _; iexact HW
  isplitl [Hhx]; · iexact Hhx
  isplitl [Hfx0]; · iexact Hfx0
  isplitl [Hfx1]; · iexact Hfx1
  isplitl [Hfx2]; · iexact Hfx2
  isplitl [Hhm]; · iexact Hhm
  isplitl [Hfm0]; · iexact Hfm0
  isplitl [Hfm1]; · iexact Hfm1
  isplitl [Hfm2]; · iexact Hfm2
  isplitl [Hhg]; · iexact Hhg
  isplitl [Hfg0]; · iexact Hfg0
  isplitl [Hfg1]; · iexact Hfg1
  isplitl [Hfg2]; · iexact Hfg2
  isplitl [Hbe HFo_dst]
  · iapply (entails_of_eq (behind_end (ohomeP c (outG c XA MA FA (gain2V c A3) (gain3V c A4)))))
    iapply (entails_of_eq (behind_in (ohomeP c (outG c XA MA FA (gain2V c A3) (gain3V c A4))) 32 (by omega) (by omega)).symm)
    isplitl [HFo_dst]
    · iapply (entails_of_eq (odone_eq c XA MA FA (gain2V c A3) (gain3V c A4) OV 31)); iexact HFo_dst
    iexact Hbe
  isplitl [Hfo0]; · iexact Hfo0
  unfold ofree
  isplitl [HFo]; · iexact HFo
  iexists _; iexact HFo_src
end Body

end Cert.Proof.PostSample

end
-- ==== Proof.SampleRun.lean ====
/- The launch: the buffers cut into the blocks and slots the body runs on, the run of the whole program, its frame and
   the contents it leaves. -/
module

public import proofs.«01_k».proof.Proof.SampleBody
public import Idealize.ShloMosaic.Lib.Pipeline.FrameBody
public import Idealize.ShloMosaic.Lib.Pipeline.FrameValue
public import Idealize.ShloMosaic.Lib.Ring
public import Idealize.ShloMosaic.Lib.Ring.Trips
public import Idealize.ShloMosaic.Lib.Pipeline.Value

@[expose] public section

noncomputable section

namespace Cert.Proof.PostSample

open Cert.PostSampleIdeal Cert.PostSampleIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

open Idealize.ShloMosaic.Pipeline (Dat Cfg Window BodyObligation)

/-! ## Element sets -/

abbrev G8 (b : Fin 32) : Finset S8192x4096.Idx := (Rect.unit (s := S8192x4096) (blkOff b) S256x4096.size (blkOff_inb b)).set
abbrev G24 (b : Fin 32) : Finset S24576x4096.Idx := (Rect.unit (s := S24576x4096) (blkOffS b) S256x4096.size (blkOff_inb' b)).set
abbrev SS3 (s : Fin 3) : Finset S3x256x4096.Idx := (Rect.unit (s := S3x256x4096) (slotOff s) S1x256x4096.size (slotOff_inb s)).set
abbrev SS2 (s : Fin 2) : Finset S2x256x4096.Idx := (Rect.unit (s := S2x256x4096) (slotOff2 s) S1x256x4096.size (slotOff2_inb s)).set

theorem mem_G8 (b : Fin 32) (y : S8192x4096.Idx) : y ∈ G8 b ↔ (y 0).val / 256 = b.val := by
  rw [Rect.mem_set_unit]
  have h1 : (y 1).val < 4096 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4096; omega
theorem G8_disjoint : ∀ b b' : Fin 32, b ≠ b' → Disjoint (G8 b) (G8 b') := by
  intro b b' hne; rw [Finset.disjoint_left]; intro y hy hy'; rw [mem_G8] at hy hy'; exact hne (Fin.ext (hy.symm.trans hy'))
theorem mem_G24 (b : Fin 32) (y : S24576x4096.Idx) : y ∈ G24 b ↔ (y 0).val / 256 = 64 + b.val := by
  rw [Rect.mem_set_unit]
  have h1 : (y 1).val < 4096 := (y 1).isLt
  constructor
  · intro H; have a0 : 16384 + 256 * b.val ≤ (y 0).val ∧ (y 0).val < 16384 + 256 * b.val + 256 := H 0; omega
  · intro H i; fin_cases i
    · show 16384 + 256 * b.val ≤ (y 0).val ∧ (y 0).val < 16384 + 256 * b.val + 256; omega
    · show 0 ≤ (y 1).val ∧ (y 1).val < 0 + 4096; omega
theorem G24_disjoint : ∀ b b' : Fin 32, b ≠ b' → Disjoint (G24 b) (G24 b') := by
  intro b b' hne; rw [Finset.disjoint_left]; intro y hy hy'; rw [mem_G24] at hy hy'; exact hne (Fin.ext (by omega))
theorem G8_cover : (Finset.univ : Finset (Fin 32)).biUnion G8 = Finset.univ := by
  ext y; simp only [Finset.mem_biUnion, Finset.mem_univ, true_and, iff_true]
  have h0 : (y 0).val < 8192 := (y 0).isLt
  exact ⟨⟨(y 0).val / 256, by omega⟩, by rw [mem_G8]⟩
theorem mem_SS3 (s : Fin 3) (y : S3x256x4096.Idx) : y ∈ SS3 s ↔ (y 0).val = s.val := by
  rw [Rect.mem_set_unit]
  have h1 : (y 1).val < 256 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
theorem SS3_disjoint : ∀ s s' : Fin 3, s ≠ s' → Disjoint (SS3 s) (SS3 s') := by
  intro s s' hne; rw [Finset.disjoint_left]; intro y hy hy'; rw [mem_SS3] at hy hy'; exact hne (Fin.ext (hy.symm.trans hy'))
theorem SS3_cover : (Finset.univ : Finset (Fin 3)).biUnion SS3 = Finset.univ := by
  ext y; simp only [Finset.mem_biUnion, Finset.mem_univ, true_and, iff_true]; exact ⟨(y 0).cast (by decide), by rw [mem_SS3]; rfl⟩
theorem mem_SS2 (s : Fin 2) (y : S2x256x4096.Idx) : y ∈ SS2 s ↔ (y 0).val = s.val := by
  rw [Rect.mem_set_unit]
  have h1 : (y 1).val < 256 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
theorem SS2_disjoint : ∀ s s' : Fin 2, s ≠ s' → Disjoint (SS2 s) (SS2 s') := by
  intro s s' hne; rw [Finset.disjoint_left]; intro y hy hy'; rw [mem_SS2] at hy hy'; exact hne (Fin.ext (hy.symm.trans hy'))
theorem SS2_cover : (Finset.univ : Finset (Fin 2)).biUnion SS2 = Finset.univ := by
  ext y; simp only [Finset.mem_biUnion, Finset.mem_univ, true_and, iff_true]; exact ⟨(y 0).cast (by decide), by rw [mem_SS2]; rfl⟩
theorem xblk_set (b : Fin 32) : (xblk b).view.set = G8 b := View.set_slice_whole _ _
theorem xslot_set (s : Fin 3) : (xslot s).view.set = SS3 s := (View.set_reshape _ _).trans (View.set_slice_whole _ _)
theorem mblk_set (b : Fin 32) : (mblk b).view.set = G24 b := View.set_slice_whole _ _
theorem mslot_set (s : Fin 3) : (mslot s).view.set = SS3 s := (View.set_reshape _ _).trans (View.set_slice_whole _ _)
theorem gblk_set (b : Fin 32) : (gblk b).view.set = G24 b := View.set_slice_whole _ _
theorem gslot_set (s : Fin 3) : (gslot s).view.set = SS3 s := (View.set_reshape _ _).trans (View.set_slice_whole _ _)
theorem oblk_set (b : Fin 32) : (oblk b).view.set = G8 b := View.set_slice_whole _ _
theorem oslot_set (s : Fin 2) : (oslot s).view.set = SS2 s := (View.set_reshape _ _).trans (View.set_slice_whole _ _)

section Cut
variable (c : Dev nD)
  (XA : Buf (Elt F) (xM.view.loc (c : Thread nD τ))) (MA : Buf (Elt F) (mM.view.loc (c : Thread nD τ)))
  (FA : Buf (Elt F) (gM.view.loc (c : Thread nD τ)))
  (OV : Buf (Elt F) (oM.view.loc (c : Thread nD τ)))

theorem x_eq : (((c : Thread nD τ).loc main_arg0) ↦{fullShare} XA : sProp 𝕄) = bigSep Finset.univ (xhomeP c XA) := by
  rw [Ring.pointsTo_blocks (ℓ := (c : Thread nD τ).loc main_arg0) G8 G8_disjoint G8_cover]
  exact bigSep_congr fun b _ => by rw [← xblk_set]; rfl
theorem o_eq : (((c : Thread nD τ).loc main_v4) ↦{fullShare} OV : sProp 𝕄) = bigSep Finset.univ (ohomeP c OV) := by
  rw [Ring.pointsTo_blocks (ℓ := (c : Thread nD τ).loc main_v4) G8 G8_disjoint G8_cover]
  exact bigSep_congr fun b _ => by unfold ohomeP; rw [← oblk_set]; rfl
/-- The rows no block of this call reaches. -/
abbrev mspare : sProp 𝕄 := ((c : Thread nD τ).loc main_arg1) ↦[Finset.univ \ Finset.univ.biUnion G24]{fullShare} MA
abbrev gspare : sProp 𝕄 := ((c : Thread nD τ).loc main_arg2) ↦[Finset.univ \ Finset.univ.biUnion G24]{fullShare} FA
theorem m_blocks : (((c : Thread nD τ).loc main_arg1) ↦[Finset.univ.biUnion G24]{fullShare} MA : sProp 𝕄) = bigSep Finset.univ (mhomeP c MA) := by
  rw [Ring.pointsTo_sub_blocks (ℓ := (c : Thread nD τ).loc main_arg1) G24 G24_disjoint _ rfl]
  exact bigSep_congr fun b _ => by rw [← mblk_set]; rfl
theorem m_cut : (((c : Thread nD τ).loc main_arg1) ↦{fullShare} MA : sProp 𝕄) ⊢ iprop(bigSep Finset.univ (mhomeP c MA) ∗ mspare c MA) := by
  rw [← m_blocks]
  exact (pointsTo_split_subset (q := fullShare) (f := MA) (Finset.subset_univ (Finset.univ.biUnion G24))).1
theorem m_uncut : iprop(bigSep Finset.univ (mhomeP c MA) ∗ mspare c MA) ⊢ (((c : Thread nD τ).loc main_arg1) ↦{fullShare} MA : sProp 𝕄) := by
  rw [← m_blocks]
  exact (pointsTo_split_subset (q := fullShare) (f := MA) (Finset.subset_univ (Finset.univ.biUnion G24))).2
theorem g_blocks : (((c : Thread nD τ).loc main_arg2) ↦[Finset.univ.biUnion G24]{fullShare} FA : sProp 𝕄) = bigSep Finset.univ (ghomeP c FA) := by
  rw [Ring.pointsTo_sub_blocks (ℓ := (c : Thread nD τ).loc main_arg2) G24 G24_disjoint _ rfl]
  exact bigSep_congr fun b _ => by rw [← gblk_set]; rfl
theorem g_cut : (((c : Thread nD τ).loc main_arg2) ↦{fullShare} FA : sProp 𝕄) ⊢ iprop(bigSep Finset.univ (ghomeP c FA) ∗ gspare c FA) := by
  rw [← g_blocks]
  exact (pointsTo_split_subset (q := fullShare) (f := FA) (Finset.subset_univ (Finset.univ.biUnion G24))).1
theorem g_uncut : iprop(bigSep Finset.univ (ghomeP c FA) ∗ gspare c FA) ⊢ (((c : Thread nD τ).loc main_arg2) ↦{fullShare} FA : sProp 𝕄) := by
  rw [← g_blocks]
  exact (pointsTo_split_subset (q := fullShare) (f := FA) (Finset.subset_univ (Finset.univ.biUnion G24))).2
theorem xslotP_eq (s : Fin 3) (f) : xslotP c s f = (((c : Thread nD τ).loc cc0_scoped0) ↦[SS3 s]{fullShare} f : sProp 𝕄) :=
  congrArg (fun S => (_ ↦[S]{fullShare} f : sProp 𝕄)) (xslot_set s)
theorem xbuf_split : iprop(∃ f : Buf (Elt F) ((c : Thread nD τ).loc cc0_scoped0), ((c : Thread nD τ).loc cc0_scoped0) ↦{fullShare} f)
      ⊢ (iprop((∃ f, xslotP c 0 f) ∗ (∃ f, xslotP c 1 f) ∗ (∃ f, xslotP c 2 f)) : sProp 𝕄) :=
  Ring.slots3_split (ℓ := (c : Thread nD τ).loc cc0_scoped0) SS3 SS3_disjoint SS3_cover (xslotP c 0) (xslotP c 1) (xslotP c 2) (xslotP_eq c 0) (xslotP_eq c 1) (xslotP_eq c 2)
theorem xbuf_join : (iprop((∃ f, xslotP c 0 f) ∗ (∃ f, xslotP c 1 f) ∗ (∃ f, xslotP c 2 f)) : sProp 𝕄)
      ⊢ iprop(∃ f : Buf (Elt F) ((c : Thread nD τ).loc cc0_scoped0), ((c : Thread nD τ).loc cc0_scoped0) ↦{fullShare} f) :=
  Ring.slots3_join (ℓ := (c : Thread nD τ).loc cc0_scoped0) SS3 SS3_disjoint SS3_cover (xslotP c 0) (xslotP c 1) (xslotP c 2) (xslotP_eq c 0) (xslotP_eq c 1) (xslotP_eq c 2)
theorem mslotP_eq (s : Fin 3) (f) : mslotP c s f = (((c : Thread nD τ).loc cc0_scoped2) ↦[SS3 s]{fullShare} f : sProp 𝕄) :=
  congrArg (fun S => (_ ↦[S]{fullShare} f : sProp 𝕄)) (mslot_set s)
theorem mbuf_split : iprop(∃ f : Buf (Elt F) ((c : Thread nD τ).loc cc0_scoped2), ((c : Thread nD τ).loc cc0_scoped2) ↦{fullShare} f)
      ⊢ (iprop((∃ f, mslotP c 0 f) ∗ (∃ f, mslotP c 1 f) ∗ (∃ f, mslotP c 2 f)) : sProp 𝕄) :=
  Ring.slots3_split (ℓ := (c : Thread nD τ).loc cc0_scoped2) SS3 SS3_disjoint SS3_cover (mslotP c 0) (mslotP c 1) (mslotP c 2) (mslotP_eq c 0) (mslotP_eq c 1) (mslotP_eq c 2)
theorem mbuf_join : (iprop((∃ f, mslotP c 0 f) ∗ (∃ f, mslotP c 1 f) ∗ (∃ f, mslotP c 2 f)) : sProp 𝕄)
      ⊢ iprop(∃ f : Buf (Elt F) ((c : Thread nD τ).loc cc0_scoped2), ((c : Thread nD τ).loc cc0_scoped2) ↦{fullShare} f) :=
  Ring.slots3_join (ℓ := (c : Thread nD τ).loc cc0_scoped2) SS3 SS3_disjoint SS3_cover (mslotP c 0) (mslotP c 1) (mslotP c 2) (mslotP_eq c 0) (mslotP_eq c 1) (mslotP_eq c 2)
theorem gslotP_eq (s : Fin 3) (f) : gslotP c s f = (((c : Thread nD τ).loc cc0_scoped4) ↦[SS3 s]{fullShare} f : sProp 𝕄) :=
  congrArg (fun S => (_ ↦[S]{fullShare} f : sProp 𝕄)) (gslot_set s)
theorem gbuf_split : iprop(∃ f : Buf (Elt F) ((c : Thread nD τ).loc cc0_scoped4), ((c : Thread nD τ).loc cc0_scoped4) ↦{fullShare} f)
      ⊢ (iprop((∃ f, gslotP c 0 f) ∗ (∃ f, gslotP c 1 f) ∗ (∃ f, gslotP c 2 f)) : sProp 𝕄) :=
  Ring.slots3_split (ℓ := (c : Thread nD τ).loc cc0_scoped4) SS3 SS3_disjoint SS3_cover (gslotP c 0) (gslotP c 1) (gslotP c 2) (gslotP_eq c 0) (gslotP_eq c 1) (gslotP_eq c 2)
theorem gbuf_join : (iprop((∃ f, gslotP c 0 f) ∗ (∃ f, gslotP c 1 f) ∗ (∃ f, gslotP c 2 f)) : sProp 𝕄)
      ⊢ iprop(∃ f : Buf (Elt F) ((c : Thread nD τ).loc cc0_scoped4), ((c : Thread nD τ).loc cc0_scoped4) ↦{fullShare} f) :=
  Ring.slots3_join (ℓ := (c : Thread nD τ).loc cc0_scoped4) SS3 SS3_disjoint SS3_cover (gslotP c 0) (gslotP c 1) (gslotP c 2) (gslotP_eq c 0) (gslotP_eq c 1) (gslotP_eq c 2)
theorem oslotP_eq (s : Fin 2) (f) : oslotP c s f = (((c : Thread nD τ).loc cc0_scoped8) ↦[SS2 s]{fullShare} f : sProp 𝕄) :=
  congrArg (fun S => (_ ↦[S]{fullShare} f : sProp 𝕄)) (oslot_set s)
theorem obuf_split : iprop(∃ f : Buf (Elt F) ((c : Thread nD τ).loc cc0_scoped8), ((c : Thread nD τ).loc cc0_scoped8) ↦{fullShare} f)
      ⊢ (iprop((∃ f, oslotP c 0 f) ∗ (∃ f, oslotP c 1 f)) : sProp 𝕄) :=
  Ring.slots2_split (ℓ := (c : Thread nD τ).loc cc0_scoped8) SS2 SS2_disjoint SS2_cover (oslotP c 0) (oslotP c 1) (oslotP_eq c 0) (oslotP_eq c 1)
theorem obuf_join : (iprop((∃ f, oslotP c 0 f) ∗ (∃ f, oslotP c 1 f)) : sProp 𝕄)
      ⊢ iprop(∃ f : Buf (Elt F) ((c : Thread nD τ).loc cc0_scoped8), ((c : Thread nD τ).loc cc0_scoped8) ↦{fullShare} f) :=
  Ring.slots2_join (ℓ := (c : Thread nD τ).loc cc0_scoped8) SS2 SS2_disjoint SS2_cover (oslotP c 0) (oslotP c 1) (oslotP_eq c 0) (oslotP_eq c 1)
end Cut

/-! ## The kernel's own semaphores and buffers -/

abbrev osem0 : Fin 13 → SemLoc sig := fun j => (![SemLoc.dma 0, SemLoc.dma 1, SemLoc.dma 2, SemLoc.dma 3, SemLoc.dma 4, SemLoc.dma 5, SemLoc.dma 6,
  SemLoc.dma 7, SemLoc.dma 8, SemLoc.dma 9, SemLoc.dma 10, SemLoc.dma 11, SemLoc.dma 12] : Fin 13 → SemLoc sig) j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(xcellP c 0 ∗ xcellP c 1 ∗ xcellP c 2 ∗ mcellP c 0 ∗ mcellP c 1 ∗ mcellP c 2 ∗ gcellP c 0 ∗ gcellP c 1 ∗ gcellP c 2
          ∗ ocellP c 0 ∗ ocellP c 1 ∗ dcellAP c ∗ dcellBP c) := by
  rw [Pipeline.ownSems0_eq_of_list c osem0 [0, 1, 2, 3, 4, 5, 6, 7, 8, 9, 10, 11, 12] (by decide) (by decide)]; rfl

/-- What the body reads in place: the three row arrays and the two gain vectors. -/
def H0 : Finset (Ref sig .tc) := {main_arg0, main_arg1, main_arg2, main_v1, main_v3}
theorem H0_sub : H0 ⊆ Pipeline.restRefs sig cfg0.spec := by decide
/-- What it writes in place: the result. -/
def R0 : Finset (Ref sig .tc) := {main_v4}
theorem R0_sub : R0 ⊆ Pipeline.restRefs sig cfg0.spec \ H0 := by decide

section Launch
variable (m : (ℓ : Loc nD τ sig) → Buf (Elt F) ℓ) (ρ : Dev nD → PrngReg)

theorem read0_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ a3P c (V m c main_v1) ∗ a4P c (V m c main_v3)) := by
  rw [BI.bigSep_eq_bigSepL_of_eq [main_arg0, main_arg1, main_arg2, main_v1, main_v3] (by decide) (by decide)]
  simp only [BI.bigSepL_cons_cons, BI.bigSepL_singleton]
  unfold a3P a4P
  rw [show (a3M : Memref sig .tc .hbm S1x4096 .f32).view.set = Finset.univ from View.set_whole _,
    show (a4M : Memref sig .tc .hbm S1x4096 .f32).view.set = Finset.univ from View.set_whole _]; rfl

/-- The result's contents when the region returns. -/
def resultV (c : Dev nD) : Buf (Elt F) ((c : Thread nD τ).loc main_v4) :=
  outG c (V m c main_arg0) (V m c main_arg1) (V m c main_arg2) (gain2V c (V m c main_v1)) (gain3V c (V m c main_v3))
/-- The buffers' contents when the region returns: the result's, else those it was entered with. -/
def Gv (c : Dev nD) : (b : Ref sig .tc) → Buf (Elt F) ((c : Thread nD τ).loc b) := Function.update (V m c) main_v4 (resultV m c)

theorem routed0_eq (c : Dev nD) (W : (b : Ref sig .tc) → Buf (Elt F) ((c : Thread nD τ).loc b)) :
    (Pipeline.routed R0 c W : sProp 𝕄) = ((c : Thread nD τ).loc main_v4) ↦{fullShare} W main_v4 := by
  unfold Pipeline.routed; rw [BI.bigSep_eq_bigSepL_of_eq [main_v4] (by decide) (by decide)]; rfl

theorem gain_eq (c : Dev nD) :
    (iprop((∃ f : Buf (Elt F) ((c : Thread nD τ).loc cc0_scoped6), ((c : Thread nD τ).loc cc0_scoped6) ↦{fullShare} f)) : sProp 𝕄) = iprop(∃ g, gain2P c g) := by
  unfold gain2P
  rw [show (gain2M : Memref sig .tc .vmem S1x4096 .f32).view.set = Finset.univ from View.set_whole _]
theorem gain_eq' (c : Dev nD) :
    (iprop((∃ f : Buf (Elt F) ((c : Thread nD τ).loc cc0_scoped7), ((c : Thread nD τ).loc cc0_scoped7) ↦{fullShare} f)) : sProp 𝕄) = iprop(∃ g, gain3P c g) := by
  unfold gain3P
  rw [show (gain3M : Memref sig .tc .vmem S1x4096 .f32).view.set = Finset.univ from View.set_whole _]

/-- What the region holds beside the register and the waits, at the result's contents `OV`. -/
def held (c : Dev nD) (OV : Buf (Elt F) ((c : Thread nD τ).loc main_v4)) : sProp 𝕄 :=
  iprop(Pipeline.scopedRest (Ix := Unit) (Name := ℕ) (U := Pipeline.UD sig nD τ) (Lvl := ℕ) (Val := Elt F) cfg0.spec c
    ∗ Pipeline.ownSems0 (Ix := Unit) (Name := ℕ) (U := Pipeline.UD sig nD τ) (Lvl := ℕ) (Val := Elt F) (τ := τ) osem0 c
    ∗ (bigSep H0 fun b => ((c.tc : Thread nD τ).loc b) ↦{fullShare} V m c b) ∗ (((c : Thread nD τ).loc main_v4) ↦{fullShare} OV))

theorem held_cut (c : Dev nD) (OV : Buf (Elt F) ((c : Thread nD τ).loc main_v4)) :
    iprop(held m c OV ∗ (∃ W, owes (c : Thread nD τ) 0 W))
      ⊢ (iprop(PRE c (V m c main_arg0) (V m c main_arg1) (V m c main_arg2) OV (V m c main_v1) (V m c main_v3) ∗ mspare c (V m c main_arg1) ∗ gspare c (V m c main_arg2)) : sProp 𝕄) := by
  unfold held PRE xfree mfree gfree ofree
  rw [scopedRest0_eq, ownSems00_eq, read0_eq, x_eq, o_eq, gain_eq, gain_eq']
  iintro ⟨⟨⟨Hbx, Hbm, Hbg, H6, H7, Hbo⟩, ⟨Hcx0, Hcx1, Hcx2, Hcm0, Hcm1, Hcm2, Hcg0, Hcg1, Hcg2, Hco0, Hco1, HcA, HcB⟩, ⟨Hx, Hm, Hg, H3, H4⟩, Ho⟩, HW⟩
  ihave Hm2 := (m_cut c _) $$ Hm
  icases Hm2 with ⟨Hm, Hms⟩
  ihave Hg2 := (g_cut c _) $$ Hg
  icases Hg2 with ⟨Hg, Hgs⟩
  ihave Hsx := (xbuf_split c) $$ Hbx
  icases Hsx with ⟨Hsx0, Hsx1, Hsx2⟩
  ihave Hsm := (mbuf_split c) $$ Hbm
  icases Hsm with ⟨Hsm0, Hsm1, Hsm2⟩
  ihave Hsg := (gbuf_split c) $$ Hbg
  icases Hsg with ⟨Hsg0, Hsg1, Hsg2⟩
  ihave Hso := (obuf_split c) $$ Hbo
  icases Hso with ⟨Hso0, Hso1⟩
  isplitl [H3 H4 H6 H7 HcA HcB HW Hx Hcx0 Hsx0 Hcx1 Hsx1 Hcx2 Hsx2 Hm Hcm0 Hsm0 Hcm1 Hsm1 Hcm2 Hsm2 Hg Hcg0 Hsg0 Hcg1 Hsg1 Hcg2 Hsg2 Ho Hco0 Hso0 Hco1 Hso1]
  · isplitl [H3]; · iexact H3
    isplitl [H4]; · iexact H4
    isplitl [H6]; · iexact H6
    isplitl [H7]; · iexact H7
    isplitl [HcA]; · iexact HcA
    isplitl [HcB]; · iexact HcB
    isplitl [HW]; · iexact HW
    isplitl [Hx]; · iexact Hx
    isplitl [Hcx0 Hsx0]
    · isplitl [Hcx0]; · iexact Hcx0
      iexact Hsx0
    isplitl [Hcx1 Hsx1]
    · isplitl [Hcx1]; · iexact Hcx1
      iexact Hsx1
    isplitl [Hcx2 Hsx2]
    · isplitl [Hcx2]; · iexact Hcx2
      iexact Hsx2
    isplitl [Hm]; · iexact Hm
    isplitl [Hcm0 Hsm0]
    · isplitl [Hcm0]; · iexact Hcm0
      iexact Hsm0
    isplitl [Hcm1 Hsm1]
    · isplitl [Hcm1]; · iexact Hcm1
      iexact Hsm1
    isplitl [Hcm2 Hsm2]
    · isplitl [Hcm2]; · iexact Hcm2
      iexact Hsm2
    isplitl [Hg]; · iexact Hg
    isplitl [Hcg0 Hsg0]
    · isplitl [Hcg0]; · iexact Hcg0
      iexact Hsg0
    isplitl [Hcg1 Hsg1]
    · isplitl [Hcg1]; · iexact Hcg1
      iexact Hsg1
    isplitl [Hcg2 Hsg2]
    · isplitl [Hcg2]; · iexact Hcg2
      iexact Hsg2
    isplitl [Ho]; · iexact Ho
    isplitl [Hco0 Hso0]
    · isplitl [Hco0]; · iexact Hco0
      iexact Hso0
    isplitl [Hco1]; · iexact Hco1
    iexact Hso1
  isplitl [Hms]; · iexact Hms
  iexact Hgs

theorem held_uncut (c : Dev nD) (OV : Buf (Elt F) ((c : Thread nD τ).loc main_v4)) :
    (iprop(PRE c (V m c main_arg0) (V m c main_arg1) (V m c main_arg2) OV (V m c main_v1) (V m c main_v3) ∗ mspare c (V m c main_arg1) ∗ gspare c (V m c main_arg2)) : sProp 𝕄)
      ⊢ iprop(held m c OV ∗ (∃ W, owes (c : Thread nD τ) 0 W)) := by
  unfold held PRE xfree mfree gfree ofree
  rw [scopedRest0_eq, ownSems00_eq, read0_eq, x_eq, o_eq, gain_eq, gain_eq']
  iintro ⟨⟨H3, H4, H6, H7, HcA, HcB, HW, Hx, ⟨Hcx0, Hsx0⟩, ⟨Hcx1, Hsx1⟩, ⟨Hcx2, Hsx2⟩, Hm, ⟨Hcm0, Hsm0⟩, ⟨Hcm1, Hsm1⟩, ⟨Hcm2, Hsm2⟩, Hg, ⟨Hcg0, Hsg0⟩, ⟨Hcg1, Hsg1⟩, ⟨Hcg2, Hsg2⟩, Ho, ⟨Hco0, Hso0⟩, ⟨Hco1, Hso1⟩⟩, Hms, Hgs⟩
  isplitr [HW]; swap; · iexact HW
  isplitl [Hsx0 Hsx1 Hsx2 Hsm0 Hsm1 Hsm2 Hsg0 Hsg1 Hsg2 H6 H7 Hso0 Hso1]
  · isplitl [Hsx0 Hsx1 Hsx2]
    · iapply (xbuf_join c)
      isplitl [Hsx0]; · iexact Hsx0
      isplitl [Hsx1]; · iexact Hsx1
      iexact Hsx2
    isplitl [Hsm0 Hsm1 Hsm2]
    · iapply (mbuf_join c)
      isplitl [Hsm0]; · iexact Hsm0
      isplitl [Hsm1]; · iexact Hsm1
      iexact Hsm2
    isplitl [Hsg0 Hsg1 Hsg2]
    · iapply (gbuf_join c)
      isplitl [Hsg0]; · iexact Hsg0
      isplitl [Hsg1]; · iexact Hsg1
      iexact Hsg2
    isplitl [H6]; · iexact H6
    isplitl [H7]; · iexact H7
    iapply (obuf_join c)
    isplitl [Hso0]; · iexact Hso0
    iexact Hso1
  isplitl [Hcx0 Hcx1 Hcx2 Hcm0 Hcm1 Hcm2 Hcg0 Hcg1 Hcg2 Hco0 Hco1 HcA HcB]
  · isplitl [Hcx0]; · iexact Hcx0
    isplitl [Hcx1]; · iexact Hcx1
    isplitl [Hcx2]; · iexact Hcx2
    isplitl [Hcm0]; · iexact Hcm0
    isplitl [Hcm1]; · iexact Hcm1
    isplitl [Hcm2]; · iexact Hcm2
    isplitl [Hcg0]; · iexact Hcg0
    isplitl [Hcg1]; · iexact Hcg1
    isplitl [Hcg2]; · iexact Hcg2
    isplitl [Hco0]; · iexact Hco0
    isplitl [Hco1]; · iexact Hco1
    isplitl [HcA]; · iexact HcA
    iexact HcB
  isplitr [Ho]; swap; · iexact Ho
  isplitl [Hx]; · iexact Hx
  isplitl [Hm Hms]
  · iapply (m_uncut c _); isplitl [Hm]; · iexact Hm
    iexact Hms
  isplitl [Hg Hgs]
  · iapply (g_uncut c _); isplitl [Hg]; · iexact Hg
    iexact Hgs
  isplitl [H3]; · iexact H3
  iexact H4

/-! ## The region's data and its body -/

def Φr (c : Dev nD) (n : ℕ) : sProp 𝕄 :=
  if n = 0 then Pipeline.ΦDRG osem0 cfg0.spec H0 R0 (V m) (V m) c else Pipeline.ΦDRG osem0 cfg0.spec H0 R0 (V m) (Gv m) c

def dats (_ : Fin 1) (c : Dev nD) : Dat τ (Elt F) Unit ℕ (Pipeline.UD sig nD τ) ℕ cfg0 c where
  A w := V m c (Pipeline.arrRef cfg0.spec w)
  after w _ := w.elim0
  Φ t := Φr m c t.val
  q _ := fullShare
  owed _ := 0

theorem A_eq (c : Dev nD) (w : Fin cfg0.W) : (dats m 0 c).A w = V m c (Pipeline.arrRef cfg0.spec w) := by
  dsimp only [dats]

def bodyPre (c : Dev nD) (t : Fin cfg0.N) : sProp 𝕄 := iprop((dats m 0 c).Φ t.castSucc ∗ (dats m 0 c).owesAt () t.castSucc)
def bodyPost (c : Dev nD) (t : Fin cfg0.N) : sProp 𝕄 := iprop((dats m 0 c).Φ t.succ ∗ (dats m 0 c).owesAt () t.succ)

theorem Gv_v4 (c : Dev nD) : Gv m c main_v4 = resultV m c := Function.update_self _ _ _

theorem sound_body (c : Dev nD) (t : Fin cfg0.N) :
    bodyPre m c t ⊢ wp frame (wpE (defs₀ (F := F)) Variants.none c none) Set.univ (bodyAt0 t) (fun _ => bodyPost m c t) := by
  unfold bodyPre bodyPost
  obtain rfl : t = t0_0 := fin_N0 t
  rw [show (dats m 0 c).Φ (t0_0 : Fin cfg0.N).castSucc = Pipeline.ΦDRG osem0 cfg0.spec H0 R0 (V m) (V m) c from rfl,
    show (dats m 0 c).Φ (t0_0 : Fin cfg0.N).succ = Pipeline.ΦDRG osem0 cfg0.spec H0 R0 (V m) (Gv m) c from rfl,
    Pipeline.ΦDRG_eq, Pipeline.ΦDRG_eq, routed0_eq, routed0_eq, Gv_v4]
  unfold Dat.owesAt Pipeline.owesWithin
  rw [show (dats m 0 c).owed (t0_0 : Fin cfg0.N).castSucc = 0 from rfl, show (dats m 0 c).owed (t0_0 : Fin cfg0.N).succ = 0 from rfl]
  iintro ⟨⟨HS, Hp, Hq, HH, Ho⟩, ⟨%W, -, HW⟩⟩
  ihave Hc := (held_cut m c (V m c main_v4)) $$ [HS Hq HH Ho HW]
  · unfold held
    isplitr [HW]
    · isplitl [HS]; · iexact HS
      isplitl [Hq]; · iexact Hq
      isplitl [HH]; · iexact HH
      iexact Ho
    iexists _; iexact HW
  icases Hc with ⟨HP, Hms, Hgs⟩
  iapply (bodyRun c (V m c main_arg0) (V m c main_arg1) (V m c main_arg2) (V m c main_v4) (V m c main_v1) (V m c main_v3))
  isplitl [HP]; · iexact HP
  iintro HP
  ihave Hc := (held_uncut m c (resultV m c)) $$ [HP Hms Hgs]
  · isplitl [HP]; · iexact HP
    isplitl [Hms]; · iexact Hms
    iexact Hgs
  unfold held
  icases Hc with ⟨⟨HS, Hq, HH, Ho⟩, ⟨%W', HW⟩⟩
  isplitr [HW]
  · isplitl [HS]; · iexact HS
    isplitl [Hp]; · iexact Hp
    isplitl [Hq]; · iexact Hq
    isplitl [HH]; · iexact HH
    iexact Ho
  iexists W'; isplitr; · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem bigSep_W0 (Ψ : Fin cfg0.W → sProp 𝕄) : bigSep Finset.univ Ψ = iprop(emp) := rfl
set_option backward.isDefEq.respectTransparency.types false in
theorem body_obligation (c : Dev nD) : BodyObligation (dats (F := F) m 0 c) (defs₀ (F := F)) Variants.none () Set.univ := fun t => by
  rw [bigSep_W0, bigSep_W0, defs₀_row]
  have h := sound_body m c t
  unfold bodyPre bodyPost at h
  iintro ⟨H1, H2, -⟩
  iapply (wp_wand_r Idealize.ShloMosaic.frame (wpE (defs₀ (F := F)) Variants.none (c : Thread nD τ) none) Set.univ)
  isplitl [H1 H2]
  · iapply h
    isplitl [H1]; · iexact H1
    iexact H2
  iintro %_ ⟨H1, H2⟩
  isplitl [H1]; · iexact H1
  isplitl [H2]; · iexact H2
  iempintro

/-! ## The run -/

set_option maxHeartbeats 800000 in
theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ)
    (fun r => Pipeline.FramePostRG cfgs (dats m) 0 R0 (V m) (Gv m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m) (G := Gv m)
    (hin := fun _ => .rfl) (hout := fun _ => .rfl)

/-- The run: it ends, the arguments unchanged, every counter at zero, the result at `resultV`. -/
theorem run : θ_run defs (onTc (τ := τ) (main (F := F))) ⟨m, fun _ => 0, ρ⟩ (fun r =>
    ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
    ∧ ∀ c : Dev nD, r.2.mem ((c.tc : Thread nD τ).loc main_v4) = resultV m c) := by
  refine (θ_run defs _ _).mono (fun r h => ⟨⟨fun c => ?_, h.2⟩, fun c => ?_⟩) (run_main m ρ)
  · refine ⟨?_, ?_, ?_, ?_, ?_⟩
    · exact ((h.1.toR c).2 main_arg0 (Finset.mem_sdiff.mpr ⟨Pipeline.mem_restRefs_of main_arg0 (by decide) (by decide), by decide⟩)).trans (V_main_arg0 m c)
    · exact ((h.1.toR c).2 main_arg1 (Finset.mem_sdiff.mpr ⟨Pipeline.mem_restRefs_of main_arg1 (by decide) (by decide), by decide⟩)).trans (V_main_arg1 m c)
    · exact ((h.1.toR c).2 main_arg2 (Finset.mem_sdiff.mpr ⟨Pipeline.mem_restRefs_of main_arg2 (by decide) (by decide), by decide⟩)).trans (V_main_arg2 m c)
    · exact ((h.1.toR c).2 main_arg3 (Finset.mem_sdiff.mpr ⟨Pipeline.mem_restRefs_of main_arg3 (by decide) (by decide), by decide⟩)).trans (V_main_arg3 m c)
    · exact ((h.1.toR c).2 main_arg4 (Finset.mem_sdiff.mpr ⟨Pipeline.mem_restRefs_of main_arg4 (by decide) (by decide), by decide⟩)).trans (V_main_arg4 m c)
  · exact (h.1.written c (by decide)).trans (Gv_v4 m c)

end Launch

end Cert.Proof.PostSample

end
-- ==== Proof.SampleRefVal.lean ====
/- The sample rows' reference at an index: the row of `x`, plus the normed and scaled row of the mix, plus the normed and
   scaled row of the feed-forward's output. -/
module

public import proofs.«01_k».proof.Proof.Gen.PostSampleRefIdeal.Run
public import proofs.«01_k».proof.Proof.RefVal
public import Idealize.ShloMosaic.Lib.Pointwise

@[expose] public section

noncomputable section

namespace Cert.Proof.PostSample

open Idealize.ShloMosaic

open Post2 (nrm)

section Ref
open Cert.PostSampleRefIdeal Cert.PostSampleRefIdeal.Gen
variable (x : FVec Ideal S8192x4096 .f32) (mx f : FVec Ideal S24576x4096 .bf16) (g2 g3 : FVec Ideal S1x4096 .f32)

/-- The reference's composed term. -/
def refOut : FVec Ideal S8192x4096 .f32 :=
  addf (addf x (mulf (mulf (extf .f32 (extractStridedSlice S8192x4096 ![16384, 0] mx slices_S24576x4096_S8192x4096_16384_0) bitsLt_bf16_f32) (broadcastInDim S8192x4096 ![0, 1] bcast_S8192x1_S8192x4096_0_1 (Host.rsqrt (addf (Host.divf (broadcastInDim S8192x1 ![0] bcast_S8192_S8192x1_0 (Host.reduceAdd (mulf (extf .f32 (extractStridedSlice S8192x4096 ![16384, 0] mx slices_S24576x4096_S8192x4096_16384_0) bitsLt_bf16_f32) (extf .f32 (extractStridedSlice S8192x4096 ![16384, 0] mx slices_S24576x4096_S8192x4096_16384_0) bitsLt_bf16_f32)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 (shapeCast _ g2 shapeCasts_S1x4096_S4096))))) (mulf (mulf (extf .f32 (extractStridedSlice S8192x4096 ![16384, 0] f slices_S24576x4096_S8192x4096_16384_0) bitsLt_bf16_f32) (broadcastInDim S8192x4096 ![0, 1] bcast_S8192x1_S8192x4096_0_1 (Host.rsqrt (addf (Host.divf (broadcastInDim S8192x1 ![0] bcast_S8192_S8192x1_0 (Host.reduceAdd (mulf (extf .f32 (extractStridedSlice S8192x4096 ![16384, 0] f slices_S24576x4096_S8192x4096_16384_0) bitsLt_bf16_f32) (extf .f32 (extractStridedSlice S8192x4096 ![16384, 0] f slices_S24576x4096_S8192x4096_16384_0) bitsLt_bf16_f32)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 (shapeCast _ g3 shapeCasts_S1x4096_S4096))))

theorem refOut_apply (i : S8192x4096.Idx) :
    refOut x mx f g2 g3 i
      = x i + nrm (fun k => mx (ix2 ⟨16384 + (i 0).val, by have : (i 0).val < 8192 := (i 0).isLt; omega⟩ k)) (g2 (ix2 0 (i 1))) (mx (ix2 ⟨16384 + (i 0).val, by have : (i 0).val < 8192 := (i 0).isLt; omega⟩ (i 1)))
        + nrm (fun k => f (ix2 ⟨16384 + (i 0).val, by have : (i 0).val < 8192 := (i 0).isLt; omega⟩ k)) (g3 (ix2 0 (i 1))) (f (ix2 ⟨16384 + (i 0).val, by have : (i 0).val < 8192 := (i 0).isLt; omega⟩ (i 1))) := by
  pointwise [refOut, nrm]
end Ref

end Cert.Proof.PostSample

end
-- ==== Proof.SampleValue.lean ====
/- The result the run leaves is the reference's term of the arguments, at the ideal instance. -/
module
public import proofs.«01_k».proof.Proof.SampleRun
public import proofs.«01_k».proof.Proof.SampleRefVal
public import Idealize.ShloMosaic.Lib.Pointwise
@[expose] public section
noncomputable section
namespace Cert.Proof.PostSample
open Post2 (nrm entry_congr)
open Cert.PostSampleIdeal Cert.PostSampleIdeal.Gen
open Idealize.ShloMosaic Idealize.ShloMosaic.TcCoe Idealize.SL.Sem

theorem pay1_apply (vx : Vec Ideal S1x256x4096 .f32) (vm : Vec Ideal S1x256x4096 .bf16) (v2 : Vec Ideal S1x4096 .f32) (vf : Vec Ideal S1x256x4096 .bf16) (v3 : Vec Ideal S1x4096 .f32) (j : S256x4096.Idx) :
   k0_pay1 (F := Ideal) vx vm v2 vf v3 j = vx (ix3 0 (j 0) (j 1)) + nrm (fun k => vm (ix3 0 (j 0) k)) (v2 (ix2 0 (j 1))) (vm (ix3 0 (j 0) (j 1)))
      + nrm (fun k => vf (ix3 0 (j 0) k)) (v3 (ix2 0 (j 1))) (vf (ix3 0 (j 0) (j 1))) := by
  pointwise [k0_pay1, nrm]

section
variable (c : Dev nD) {F : FTy → Type} [FloatOps F]
theorem xp (XA : Buf (Elt F) (xM.view.loc (c : Thread nD τ))) (b : Fin 32) (r : Fin 256) (k : Fin 4096) :
    shapeCast S1x256x4096 (xpayload c XA b) shapeCasts_S256x4096_S1x256x4096 (ix3 0 r k) = XA (show S8192x4096.Idx from ix2 ⟨256 * b.val + r.val, by omega⟩ k) := by
  have h : shapeCast S1x256x4096 (xpayload c XA b) shapeCasts_S256x4096_S1x256x4096 (ix3 0 r k) = xpayload c XA b (ix2 r k) := by pointwise
  refine h.trans (congrArg XA ?_)
  show (show S8192x4096.Idx from (xblk b).view.emb (ix2 r k)) = ix2 ⟨256 * b.val + r.val, by omega⟩ k
  funext a; fin_cases a
  · apply Fin.ext; show (blkOff b) 0 + 1 * r.val = _; simp
  · apply Fin.ext; show (blkOff b) 1 + 1 * k.val = _; simp
theorem mp (MA : Buf (Elt F) (mM.view.loc (c : Thread nD τ))) (b : Fin 32) (r : Fin 256) (k : Fin 4096) :
    shapeCast S1x256x4096 (mpayload c MA b) shapeCasts_S256x4096_S1x256x4096 (ix3 0 r k) = MA (show S24576x4096.Idx from ix2 ⟨16384 + 256 * b.val + r.val, by omega⟩ k) := by
  have h : shapeCast S1x256x4096 (mpayload c MA b) shapeCasts_S256x4096_S1x256x4096 (ix3 0 r k) = mpayload c MA b (ix2 r k) := by pointwise
  refine h.trans (congrArg MA ?_)
  show (show S24576x4096.Idx from (mblk b).view.emb (ix2 r k)) = ix2 ⟨16384 + 256 * b.val + r.val, by omega⟩ k
  funext a; fin_cases a
  · apply Fin.ext; show (blkOffS b) 0 + 1 * r.val = _; simp
  · apply Fin.ext; show (blkOffS b) 1 + 1 * k.val = _; simp
theorem gp (FA : Buf (Elt F) (gM.view.loc (c : Thread nD τ))) (b : Fin 32) (r : Fin 256) (k : Fin 4096) :
    shapeCast S1x256x4096 (gpayload c FA b) shapeCasts_S256x4096_S1x256x4096 (ix3 0 r k) = FA (show S24576x4096.Idx from ix2 ⟨16384 + 256 * b.val + r.val, by omega⟩ k) := by
  have h : shapeCast S1x256x4096 (gpayload c FA b) shapeCasts_S256x4096_S1x256x4096 (ix3 0 r k) = gpayload c FA b (ix2 r k) := by pointwise
  refine h.trans (congrArg FA ?_)
  show (show S24576x4096.Idx from (gblk b).view.emb (ix2 r k)) = ix2 ⟨16384 + 256 * b.val + r.val, by omega⟩ k
  funext a; fin_cases a
  · apply Fin.ext; show (blkOffS b) 0 + 1 * r.val = _; simp
  · apply Fin.ext; show (blkOffS b) 1 + 1 * k.val = _; simp

theorem RG_emb (i : S1x4096.Idx) : RG.emb i = i := by
  funext a; fin_cases a
  · apply Fin.ext; show 0 + 1 * (i 0).val = _; simp
  · apply Fin.ext; show 0 + 1 * (i 1).val = _; simp
theorem whole_emb (i : S1x4096.Idx) : (Rect.whole S1x4096).emb i = i := by
  funext a; apply Fin.ext; show 0 + 1 * (i a).val = _; simp
theorem g2r (A3 : Buf (Elt F) (a3M.view.loc (c : Thread nD τ))) (i : S1x4096.Idx) : gain2M.view.readAt (Elt F) RG.toLoadRect (gain2V c A3) i = (show S1x4096.Idx → Elt F .f32 from A3) i :=
  (congrArg (gain2M.view.read (Elt F) (gain2V c A3)) (RG_emb i)).trans
    ((congrArg (gain2M.view.read (Elt F) (gain2V c A3)) (whole_emb i)).symm.trans
      (View.read_writes_cons_emb gain2M.view gain2M.view.junk (Rect.whole S1x4096) (ReadAs.same.apply (a3M.view.read (Elt F) A3)) [] i))
theorem g3r (A4 : Buf (Elt F) (a4M.view.loc (c : Thread nD τ))) (i : S1x4096.Idx) : gain3M.view.readAt (Elt F) RG.toLoadRect (gain3V c A4) i = (show S1x4096.Idx → Elt F .f32 from A4) i :=
  (congrArg (gain3M.view.read (Elt F) (gain3V c A4)) (RG_emb i)).trans
    ((congrArg (gain3M.view.read (Elt F) (gain3V c A4)) (whole_emb i)).symm.trans
      (View.read_writes_cons_emb gain3M.view gain3M.view.junk (Rect.whole S1x4096) (ReadAs.same.apply (a4M.view.read (Elt F) A4)) [] i))
theorem casts (A : S1x4096.Idx → Elt F .f32) : shapeCast S1x4096 (shapeCast S4096 A shapeCasts_S1x4096_S4096) shapeCasts_S4096_S1x4096 = A :=
  shapeCast_shapeCast _ _ _
theorem V_v1 (m : (ℓ : Loc nD τ sig) → Buf (Elt F) ℓ) : V m c main_v1 = m ((c.tc : Thread nD τ).loc main_arg3) := by
  unfold V
  after_results_simp
  exact casts _
theorem V_v3 (m : (ℓ : Loc nD τ sig) → Buf (Elt F) ℓ) : V m c main_v3 = m ((c.tc : Thread nD τ).loc main_arg4) := by
  unfold V
  after_results_simp
  exact casts _
end

theorem rows_eq {n : ℕ} (r : ℕ) (h h') (k : Fin 4096) : (ix2 (⟨16384 + 256 * (r / 256) + r % 256, h⟩ : Fin n) k) = ix2 (⟨16384 + r, h'⟩ : Fin n) k := by
  have e : 16384 + 256 * (r / 256) + r % 256 = 16384 + r := by omega
  congr 1; exact Fin.ext e
theorem rows_eq' (i : S8192x4096.Idx) (h) : (ix2 (⟨256 * ((i 0).val / 256) + (i 0).val % 256, h⟩ : Fin 8192) (i 1)) = i := by
  have e : 256 * ((i 0).val / 256) + (i 0).val % 256 = (i 0).val := by omega
  funext a; fin_cases a
  · exact Fin.ext e
  · rfl

theorem outG_apply (c : Dev nD) (XA : Buf (Elt Ideal) (xM.view.loc (c : Thread nD τ))) (MA : Buf (Elt Ideal) (mM.view.loc (c : Thread nD τ)))
    (FA : Buf (Elt Ideal) (gM.view.loc (c : Thread nD τ))) (A3 : Buf (Elt Ideal) (a3M.view.loc (c : Thread nD τ))) (A4 : Buf (Elt Ideal) (a4M.view.loc (c : Thread nD τ))) :
    outG c XA MA FA (gain2V c A3) (gain3V c A4) = refOut XA MA FA A3 A4 := by
  funext i
  refine Eq.trans ?_ (refOut_apply XA MA FA A3 A4 i).symm
  refine (pay1_apply _ _ _ _ _ _).trans (entry_congr ?_ (fun k => ?_) ?_ ?_ (fun k => ?_) ?_ ?_)
  · exact (xp c XA _ _ _).trans (congrArg XA (rows_eq' i _))
  · exact (mp c MA _ _ _).trans (congrArg MA (rows_eq _ _ _ _))
  · exact g2r c A3 _
  · exact (mp c MA _ _ _).trans (congrArg MA (rows_eq _ _ _ _))
  · exact (gp c FA _ _ _).trans (congrArg FA (rows_eq _ _ _ _))
  · exact g3r c A4 _
  · exact (gp c FA _ _ _).trans (congrArg FA (rows_eq _ _ _ _))

theorem resultV_eq (m : (ℓ : Loc nD τ sig) → Buf (Elt Ideal) ℓ) (c : Dev nD) :
    resultV m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold resultV
  rw [V_main_arg0, V_main_arg1, V_main_arg2, V_v1, V_v3]
  exact outG_apply c _ _ _ _ _
end Cert.Proof.PostSample
end
-- ==== Proof.SwaSetup.lean ====
module

public import proofs.«01_k».proof.Proof.Gen.SwaIdeal.Launch
public import proofs.«01_k».proof.Proof.Gen.SwaIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The region finds a buffer that none of the four host operations writes as it was launched. -/
theorem V_kept (c : Dev nD) (b : Ref sig .tc) (hb : b ≠ main_c ∧ b ≠ main_c_0 ∧ b ≠ main_c_1 ∧ b ≠ main_v0) :
    V m c b = m ((c : Thread nD τ).loc b) :=
  StableHlo.after_of_forall_not_mem (b := Proc.devRef .tc b) _ _ (List.forall_iff_forall_mem.mp (by
    simp only [hostOps0, List.Forall, StableHlo.nullary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2⟩))

/-! ## The prefetched tables, read off the launch memory -/

/-- The tables' contents when the region is entered (`V`; the program runs on one device). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`). `SwaTables.lean` proves it. -/
abbrev Ok : Prop := ok0 (F := F) (tbl m)
/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S192 .i32 := Memref.whole main_c
abbrev htbM0_0 : tbM0_0.IsWhole := Memref.isWhole_whole _
abbrev tbM0_1 : Memref sig .tc .smem S192 .i32 := Memref.whole main_c_0
abbrev htbM0_1 : tbM0_1.IsWhole := Memref.isWhole_whole _
abbrev tbM0_2 : Memref sig .tc .smem S192 .i32 := Memref.whole main_c_1
abbrev htbM0_2 : tbM0_2.IsWhole := Memref.isWhole_whole _

/-- A table memref's buffer on core `c`: its contents type, and it held at half the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window whose body leaves its block in place holds, at every point, what a fetch there puts in its buffer,
    for proof data over the arrays that the region finds. -/
theorem before_of (hO : Ok m) {c : Dev nD} (dat : Dat τ (Elt F) Unit ℕ (UR sig nD τ) ℕ (cfgM m hO) c) (w : Fin (cfgM m hO).W)
    (hA : dat.A w = V m c (Pipeline.arrRef spec0 w)) (hw : ((cfgM m hO).win w).isOut = false)
    (hlive : ∀ i, (cfgM m hO).idle w i = false)
    (hclip : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (hkeep : ∀ t, ((cfgM m hO).win w).cut ((cfgM m hO).grid.coords t) (dat.after w t) = iblk m hO c w t)
    (t : Fin (cfgM m hO).N) (d) :
    dat.before w t d = ((cfgM m hO).win w).fill ((cfgM m hO).grid.coords t) d (iblk m hO c w t) :=
  (dat.before_in_eq_fetched w hw hlive hclip (fun t => by rw [hkeep]; unfold Dat.blockOf iblk; rw [hA]) t d).trans
    (by unfold Dat.fetched Dat.blockOf iblk; rw [hA])

/-! The queries' window is cut nowhere: its columns 6144 to 8191 lie inside the array's 9216. -/

/-- What the queries' window holds where no fetch fills it; nothing reads it. -/
def dfltQ (hO : Ok m) : ((cfgM m hO).win 1).block.Idx → Elt F ((cfgM m hO).win 1).elt := fun _ => Classical.choice inferInstance

/-- What the queries' buffer holds at point `t`: the window's block, as a whole block. -/
def XQ (hO : Ok m) (c : Dev nD) (t : Fin (cfgM m hO).N) : ((cfgM m hO).win 1).block.Idx → Elt F ((cfgM m hO).win 1).elt :=
  ((cfgM m hO).win 1).fill ((cfgM m hO).grid.coords t) (dfltQ m hO) (iblk m hO c 1 t)

/-- At every grid point the part that a transfer moves is the whole block. -/
theorem extent_q : ∀ t : Fin grid0.N, ∀ a, (clip0_1 (grid0.coords t) a).extent (S128x2048.size a) = S128x2048.size a := by
  decide +kernel

theorem moved_q (hO : Ok m) (t : Fin (cfgM m hO).N) (j : ((cfgM m hO).win 1).block.Idx) :
    ((cfgM m hO).win 1).moved ((cfgM m hO).grid.coords t) j = true :=
  (((cfgM m hO).win 1).moved_iff _ j).mpr fun a => (j a).isLt.trans_eq (extent_q t a).symm

theorem fill_q (hO : Ok m) (t : Fin (cfgM m hO).N) (d d' : ((cfgM m hO).win 1).block.Idx → Elt F ((cfgM m hO).win 1).elt) (g) :
    ((cfgM m hO).win 1).fill ((cfgM m hO).grid.coords t) d g = ((cfgM m hO).win 1).fill ((cfgM m hO).grid.coords t) d' g := by
  funext j; unfold Pipeline.Window.fill; rw [dif_pos (moved_q m hO t j), dif_pos (moved_q m hO t j)]

/-! ## The frame claim's post from the frame run's -/

/-- A run of the launch leaves every argument as it was. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 7).trans (((dats 0 c).arrAt_in 7 rfl _).trans ((hA c 7).trans (V_kept m c main_arg0 (by decide)))),
      ((h c).1 9).trans (((dats 0 c).arrAt_in 9 rfl _).trans ((hA c 9).trans (V_kept m c main_arg1 (by decide)))),
      ((h c).2 main_arg2 (by decide : main_arg2 ∈ Pipeline.restRefs sig spec0)).trans (V_kept m c main_arg2 (by decide)),
      ((h c).1 10).trans (((dats 0 c).arrAt_in 10 rfl _).trans ((hA c 10).trans (V_kept m c main_arg3 (by decide)))),
      ((h c).1 11).trans (((dats 0 c).arrAt_in 11 rfl _).trans ((hA c 11).trans (V_kept m c main_arg4 (by decide))))⟩) h

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_swa_attention (grid0.coords t) (Memref.whole main_c) (Memref.isWhole_whole _) (Memref.whole main_c_0) (Memref.isWhole_whole _) (Memref.whole main_c_1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _)

/-! ## The kernel body on any staging memrefs -/

/-- One staging buffer of output window 12, through which its contents are stated (`View.read_writes_of_cover`: the
    choice does not matter). -/
abbrev VO0_12 : View sig .tc .vmem S128x2048 .bf16 := (Memref.whole cc0_stg12_0 : Memref sig .tc .vmem S128x2048 .bf16).view
/-- Each window's current staging memref at point `t`, spelled as the pipeline passes it (`bodyAt0`), and its wholeness. -/
abbrev ms0_0 (hO : Ok m) (t : Fin (cfgM m hO).N) : Memref sig .tc .smem S16 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x2048 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S128x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S128x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S128x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S128x512 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S128x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S128x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S128x512 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S128x512 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x16x128x384 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x2048 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S128x2048 .bf16 := spec0_12.stage ((cfgM m hO).slots t 12)
abbrev hs0_12 (hO : Ok m) (t : Fin (cfgM m hO).N) : (ms0_12 m hO t).IsWhole := hstage0_12 (((cfgM m hO).slots t 12).cast nbuf0_12)
/-- The scratch operands: whole scoped buffers of the kernel's own, passed beside the windows. -/
abbrev scM0_0 : Memref sig .tc .vmem S128x2048 .f32 := Memref.whole cc0_scratch0
abbrev scM0_1 : Memref sig .tc .vmem S512x384 .f32 := Memref.whole cc0_scratch1
abbrev scM0_2 : Memref sig .tc .vmem S512x384 .f32 := Memref.whole cc0_scratch2

/-- The invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Proof.Swa

end
-- ==== Proof.SwaTables.lean ====
module

public import proofs.«01_k».proof.Proof.SwaSetup
public import Idealize.ShloMosaic.Lib.Affine
public import Idealize.ShloMosaic.Lib.StableHlo.Run

@[expose] public section

set_option maxRecDepth 16384

noncomputable section

namespace Cert.Proof.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The three tables, which the host line writes as constants -/

theorem tbl_prev (j : S192.Idx) : tbl m 0 j = lit0 (S192.rowMajor j) := by
  unfold tbl V; after_results_simp; rfl
theorem tbl_next (j : S192.Idx) : tbl m 1 j = lit1 (S192.rowMajor j) := by
  unfold tbl V; after_results_simp; rfl
theorem tbl_pat (j : S192.Idx) : tbl m 2 j = lit2 (S192.rowMajor j) := by
  unfold tbl V; after_results_simp; rfl

/-- The block before a block, and the block after it, are among the 192; the pattern is one of four. -/
theorem prev_lt : ∀ k : Fin 192, (lit0 k).toNat < 192 := by decide +kernel
theorem next_lt : ∀ k : Fin 192, (lit1 k).toNat < 192 := by decide +kernel
theorem pat_lt : ∀ k : Fin 192, (lit2 k).toNat < 4 := by decide +kernel

/-- A block of 128 rows and 512 columns at a row block below 192 and one of the last two column blocks lies inside the
    projected rows, and its transfers move whole words. -/
theorem ok_kv (v : BitVec 32) (ix : Fin 2 → Nat) (k : Nat) (hk : k = 16 ∨ k = 17) (hv : v.toNat < 192) (h : ix = ![v.toNat, k]) :
    ∃ h : (∀ a, (ix a + 1) * S128x512.size a ≤ S24576x9216.size a),
      EltTy.bits .bf16 = 32 ∨ (Rect.block (s := S24576x9216) S128x512.size ix h).WholeWords (EltTy.packing .bf16) := by
  subst h
  refine ⟨fun a => ?_, .inr (Affine.block_words_dvd (by decide) (by decide))⟩
  match a with
  | ⟨0, _⟩ => show (v.toNat + 1) * 128 ≤ 24576; omega
  | ⟨1, _⟩ => show (k + 1) * 512 ≤ 9216; omega

/-- One of the four bias tables lies inside the array of the four, and its transfers move whole words. -/
theorem ok_bias (v : BitVec 32) (ix : Fin 4 → Nat) (hv : v.toNat < 4) (h : ix = ![v.toNat, 0, 0, 0]) :
    ∃ h : (∀ a, (ix a + 1) * S1x16x128x384.size a ≤ S4x16x128x384.size a),
      EltTy.bits .f32 = 32 ∨ (Rect.block (s := S4x16x128x384) S1x16x128x384.size ix h).WholeWords (EltTy.packing .f32) := by
  subst h
  refine ⟨fun a => ?_, .inl rfl⟩
  match a with
  | ⟨0, _⟩ => show (v.toNat + 1) * 1 ≤ 4; omega
  | ⟨1, _⟩ => show (0 + 1) * 16 ≤ 16; omega
  | ⟨2, _⟩ => show (0 + 1) * 128 ≤ 128; omega
  | ⟨3, _⟩ => show (0 + 1) * 384 ≤ 384; omega

/-- Every window that a table places has its block inside its array at every point. -/
theorem ok : Ok m := by
  refine ⟨fun i => ?_, fun i => ?_, fun i => ?_, fun i => ?_, fun i => ?_⟩
  · exact ok_kv _ _ 16 (.inl rfl) ((congrArg BitVec.toNat (tbl_prev m _)).trans_lt (prev_lt _)) rfl
  · exact ok_kv _ _ 16 (.inl rfl) ((congrArg BitVec.toNat (tbl_next m _)).trans_lt (next_lt _)) rfl
  · exact ok_kv _ _ 17 (.inr rfl) ((congrArg BitVec.toNat (tbl_prev m _)).trans_lt (prev_lt _)) rfl
  · exact ok_kv _ _ 17 (.inr rfl) ((congrArg BitVec.toNat (tbl_next m _)).trans_lt (next_lt _)) rfl
  · exact ok_bias _ _ ((congrArg BitVec.toNat (tbl_pat m _)).trans_lt (pat_lt _)) rfl

end Cert.Proof.Swa

end
-- ==== Proof.SwaBody.lean ====
module

public import proofs.«01_k».proof.Proof.SwaSetup

@[expose] public section

set_option maxRecDepth 16384

noncomputable section

namespace Cert.Proof.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 2224000 in
/-- What the body's stores leave in each output's staging memref, as pieces (last first), with the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs; the pieces are
    the witness that run finds. -/
noncomputable def kernelRun0_A (c : Dev nD) (i : grid0.Coords) (arg4 : Memref sig .tc .smem S16 .f32) (harg4 : arg4.IsWhole) (arg5 : Memref sig .tc .vmem S128x2048 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S128x512 .bf16) (harg13 : arg13.IsWhole) (arg14 : Memref sig .tc .vmem S1x16x128x384 .f32) (harg14 : arg14.IsWhole) (arg15 : Memref sig .tc .vmem S1x2048 .f32) (harg15 : arg15.IsWhole) (arg16 : Memref sig .tc .vmem S128x2048 .bf16) (harg16 : arg16.IsWhole) (arg17 : Memref sig .tc .vmem S128x2048 .f32) (harg17 : arg17.IsWhole) (arg18 : Memref sig .tc .vmem S512x384 .f32) (harg18 : arg18.IsWhole) (arg19 : Memref sig .tc .vmem S512x384 .f32) (harg19 : arg19.IsWhole)
    (x0 : Vec F S16 .f32) (x1 : Vec F S128x2048 .bf16) (x2 : Vec F S128x512 .bf16) (x3 : Vec F S128x512 .bf16) (x4 : Vec F S128x512 .bf16) (x5 : Vec F S128x512 .bf16) (x6 : Vec F S128x512 .bf16) (x7 : Vec F S128x512 .bf16) (x8 : Vec F S128x512 .bf16) (x9 : Vec F S128x512 .bf16) (x10 : Vec F S1x16x128x384 .f32) (x11 : Vec F S1x2048 .f32) (xt0 : TbBuf0 (F := F) c tbM0_0) (xt1 : TbBuf0 (F := F) c tbM0_1) (xt2 : TbBuf0 (F := F) c tbM0_2) :
    Σ' (L12 : List (View.Piece (Elt F) S128x2048 .bf16)), Σ' (LT0 : List (View.Piece (Elt F) S128x2048 .f32)), Σ' (LT1 : List (View.Piece (Elt F) S512x384 .f32)), { LT2 : List (View.Piece (Elt F) S512x384 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ (∃ f, arg16.view.loc (c : Thread nD τ) ↦[arg16.view.set]{fullShare} arg16.view.writes (Elt F) f L12) ∗ (∃ f, arg17.view.loc (c : Thread nD τ) ↦[arg17.view.set]{fullShare} arg17.view.writes (Elt F) f LT0) ∗ (∃ f, arg18.view.loc (c : Thread nD τ) ↦[arg18.view.set]{fullShare} arg18.view.writes (Elt F) f LT1) ∗ (∃ f, arg19.view.loc (c : Thread nD τ) ↦[arg19.view.set]{fullShare} arg19.view.writes (Elt F) f LT2) ∗ tbPt0 c tbM0_0 xt0 ∗ tbPt0 c tbM0_1 xt1 ∗ tbPt0 c tbM0_2 xt2) -∗ K ⟨⟩))
          ⊢ wp frame (wpE (defs₀ (F := F)) Variants.none c none) E (cc0_swa_attention i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc0_swa_attention_eq_skeleton]; unfold cc0_swa_attention_skel
    simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, ⟨%ds2, %fs2, -, HS2⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9; obtain rfl := harg14.eq_unread hf10; obtain rfl := harg15.eq_unread hf11
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; · ipureintro; exact harg13.read_unread _
      iexact H9
    isplitl [H10]
    · iexists _; isplitr; · ipureintro; exact harg14.read_unread _
      iexact H10
    isplitl [H11]
    · iexists _; isplitr; · ipureintro; exact harg15.read_unread _
      iexact H11
    isplitl [H12]; · iexists _; iexact H12
    isplitl [HS0]; · iexists _; iexact HS0
    isplitl [HS1]; · iexists _; iexact HS1
    isplitl [HS2]; · iexists _; iexact HS2
    isplitl [HT0]; · iexact HT0
    isplitl [HT1]; · iexact HT1
    iexact HT2

end Cert.Proof.Swa

end
-- ==== Proof.SwaFrame.lean ====
module

public import proofs.«01_k».proof.Proof.SwaBody
public import Idealize.ShloMosaic.Lib.Claim

@[expose] public section

set_option maxRecDepth 16384

noncomputable section

namespace Cert.Proof.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 12 tile its block (one store of `S128x2048`), so they cover it. -/
theorem cover0_A_12 (c : Dev nD) (i : grid0.Coords) (arg4 : Memref sig .tc .smem S16 .f32) (harg4 : arg4.IsWhole) (arg5 : Memref sig .tc .vmem S128x2048 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S128x512 .bf16) (harg13 : arg13.IsWhole) (arg14 : Memref sig .tc .vmem S1x16x128x384 .f32) (harg14 : arg14.IsWhole) (arg15 : Memref sig .tc .vmem S1x2048 .f32) (harg15 : arg15.IsWhole) (arg16 : Memref sig .tc .vmem S128x2048 .bf16) (harg16 : arg16.IsWhole) (arg17 : Memref sig .tc .vmem S128x2048 .f32) (harg17 : arg17.IsWhole) (arg18 : Memref sig .tc .vmem S512x384 .f32) (harg18 : arg18.IsWhole) (arg19 : Memref sig .tc .vmem S512x384 .f32) (harg19 : arg19.IsWhole)
    (x0 : Vec F S16 .f32) (x1 : Vec F S128x2048 .bf16) (x2 : Vec F S128x512 .bf16) (x3 : Vec F S128x512 .bf16) (x4 : Vec F S128x512 .bf16) (x5 : Vec F S128x512 .bf16) (x6 : Vec F S128x512 .bf16) (x7 : Vec F S128x512 .bf16) (x8 : Vec F S128x512 .bf16) (x9 : Vec F S128x512 .bf16) (x10 : Vec F S1x16x128x384 .f32) (x11 : Vec F S1x2048 .f32) (xt0 : TbBuf0 (F := F) c tbM0_0) (xt1 : TbBuf0 (F := F) c tbM0_1) (xt2 : TbBuf0 (F := F) c tbM0_2) (y : S128x2048.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xt0 xt1 xt2).1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xt0 xt1 xt2).1 S128x2048.size (by sl_kernel_rfl) y

/-- What the run leaves in output 12's staging buffer: its pieces read back over junk. -/
def out0_A_12 (c : Dev nD) (i : grid0.Coords) (arg4 : Memref sig .tc .smem S16 .f32) (harg4 : arg4.IsWhole) (arg5 : Memref sig .tc .vmem S128x2048 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x512 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S128x512 .bf16) (harg11 : arg11.IsWhole) (arg12 : Memref sig .tc .vmem S128x512 .bf16) (harg12 : arg12.IsWhole) (arg13 : Memref sig .tc .vmem S128x512 .bf16) (harg13 : arg13.IsWhole) (arg14 : Memref sig .tc .vmem S1x16x128x384 .f32) (harg14 : arg14.IsWhole) (arg15 : Memref sig .tc .vmem S1x2048 .f32) (harg15 : arg15.IsWhole) (arg16 : Memref sig .tc .vmem S128x2048 .bf16) (harg16 : arg16.IsWhole) (arg17 : Memref sig .tc .vmem S128x2048 .f32) (harg17 : arg17.IsWhole) (arg18 : Memref sig .tc .vmem S512x384 .f32) (harg18 : arg18.IsWhole) (arg19 : Memref sig .tc .vmem S512x384 .f32) (harg19 : arg19.IsWhole)
    (x0 : Vec F S16 .f32) (x1 : Vec F S128x2048 .bf16) (x2 : Vec F S128x512 .bf16) (x3 : Vec F S128x512 .bf16) (x4 : Vec F S128x512 .bf16) (x5 : Vec F S128x512 .bf16) (x6 : Vec F S128x512 .bf16) (x7 : Vec F S128x512 .bf16) (x8 : Vec F S128x512 .bf16) (x9 : Vec F S128x512 .bf16) (x10 : Vec F S1x16x128x384 .f32) (x11 : Vec F S1x2048 .f32) (xt0 : TbBuf0 (F := F) c tbM0_0) (xt1 : TbBuf0 (F := F) c tbM0_1) (xt2 : TbBuf0 (F := F) c tbM0_2) : Vec F S128x2048 .bf16 :=
  VO0_12.read (Elt F) (VO0_12.writes (Elt F) VO0_12.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 xt0 xt1 xt2).1)

/-! ## What the outputs hold after each point -/

/-- What the outputs' staging buffers hold after the body at point `t`: the run's contents at
    the point's memrefs and input blocks. -/
def outsAt0 (hO : Ok m) (c : Dev nD) (t : Fin (cfgM m hO).N) : Vec F S128x2048 .bf16 :=
  out0_A_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (iblk m hO c 0 t) (XQ m hO c t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (tbl m 1) (tbl m 2)

/-! ## The pipeline's proof data -/

/-- The proof data of the one pipeline on core `c`: the arrays as the region finds them (`V`); after the body at
    point `t` each input's buffer at its block and the outputs' at `outsAt0`; the invariant is the
    scoped rest and the generator register (`ΦA`) with the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => XQ m hO c t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => (outsAt0 m hO c t)
  Φ _ := iprop(Pipeline.ΦA spec0 c ∗ Pipeline.ΦT pre0 (tbl m) c)
  q w := Pipeline.shareOf spec0 w
  owed _ := 0

/-- The proof data's arrays are the region-entry contents: stated so that
    `V` is never unfolded to check it. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = XQ m hO c t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = (outsAt0 m hO c t) := by dsimp only [dats]; try rfl

/-! Each input's buffer holds its block at every point, fetched there or not. -/

/-- The queries' buffer holds the whole block. -/
theorem before0_1 (hO : Ok m) (c : Dev nD) (t : Fin (cfgM m hO).N) (d) : (dats m hO 0 c).before 1 t d = XQ m hO c t :=
  (before_of m hO (dats m hO 0 c) 1 (A_eq m hO c 1) rfl (fun _ => rfl)
      (fun t t' h => funext fun a => congrArg (fun n => Pipeline.Clip.of n (S128x2048.size a) (S24576x9216.size a)) (congrFun h a))
      (fun t => by rw [after0_1]; unfold XQ; rw [Pipeline.Window.cut_fill]) t d).trans
    (fill_q m hO t d (dfltQ m hO) (iblk m hO c 1 t))

theorem before0_0 (hO : Ok m) (c : Dev nD) (t : Fin (cfgM m hO).N) (d) : (dats m hO 0 c).before 0 t d = iblk m hO c 0 t :=
  before_of m hO (dats m hO 0 c) 0 (A_eq m hO c 0) rfl (fun _ => rfl) (fun _ _ _ => rfl) (fun t => by rw [after0_0]; rfl) t d
theorem before0_2 (hO : Ok m) (c : Dev nD) (t : Fin (cfgM m hO).N) (d) : (dats m hO 0 c).before 2 t d = iblk m hO c 2 t :=
  before_of m hO (dats m hO 0 c) 2 (A_eq m hO c 2) rfl (fun _ => rfl) (fun _ _ _ => rfl) (fun t => by rw [after0_2]; rfl) t d
theorem before0_3 (hO : Ok m) (c : Dev nD) (t : Fin (cfgM m hO).N) (d) : (dats m hO 0 c).before 3 t d = iblk m hO c 3 t :=
  before_of m hO (dats m hO 0 c) 3 (A_eq m hO c 3) rfl (fun _ => rfl) (fun _ _ _ => rfl) (fun t => by rw [after0_3]; rfl) t d
theorem before0_4 (hO : Ok m) (c : Dev nD) (t : Fin (cfgM m hO).N) (d) : (dats m hO 0 c).before 4 t d = iblk m hO c 4 t :=
  before_of m hO (dats m hO 0 c) 4 (A_eq m hO c 4) rfl (fun _ => rfl) (fun _ _ _ => rfl) (fun t => by rw [after0_4]; rfl) t d
theorem before0_5 (hO : Ok m) (c : Dev nD) (t : Fin (cfgM m hO).N) (d) : (dats m hO 0 c).before 5 t d = iblk m hO c 5 t :=
  before_of m hO (dats m hO 0 c) 5 (A_eq m hO c 5) rfl (fun _ => rfl) (fun _ _ _ => rfl) (fun t => by rw [after0_5]; rfl) t d
theorem before0_6 (hO : Ok m) (c : Dev nD) (t : Fin (cfgM m hO).N) (d) : (dats m hO 0 c).before 6 t d = iblk m hO c 6 t :=
  before_of m hO (dats m hO 0 c) 6 (A_eq m hO c 6) rfl (fun _ => rfl) (fun _ _ _ => rfl) (fun t => by rw [after0_6]; rfl) t d
theorem before0_7 (hO : Ok m) (c : Dev nD) (t : Fin (cfgM m hO).N) (d) : (dats m hO 0 c).before 7 t d = iblk m hO c 7 t :=
  before_of m hO (dats m hO 0 c) 7 (A_eq m hO c 7) rfl (fun _ => rfl) (fun _ _ _ => rfl) (fun t => by rw [after0_7]; rfl) t d
theorem before0_8 (hO : Ok m) (c : Dev nD) (t : Fin (cfgM m hO).N) (d) : (dats m hO 0 c).before 8 t d = iblk m hO c 8 t :=
  before_of m hO (dats m hO 0 c) 8 (A_eq m hO c 8) rfl (fun _ => rfl) (fun _ _ _ => rfl) (fun t => by rw [after0_8]; rfl) t d
theorem before0_9 (hO : Ok m) (c : Dev nD) (t : Fin (cfgM m hO).N) (d) : (dats m hO 0 c).before 9 t d = iblk m hO c 9 t :=
  before_of m hO (dats m hO 0 c) 9 (A_eq m hO c 9) rfl (fun _ => rfl) (fun _ _ _ => rfl) (fun t => by rw [after0_9]; rfl) t d
theorem before0_10 (hO : Ok m) (c : Dev nD) (t : Fin (cfgM m hO).N) (d) : (dats m hO 0 c).before 10 t d = iblk m hO c 10 t :=
  before_of m hO (dats m hO 0 c) 10 (A_eq m hO c 10) rfl (fun _ => rfl) (fun _ _ _ => rfl) (fun t => by rw [after0_10]; rfl) t d
theorem before0_11 (hO : Ok m) (c : Dev nD) (t : Fin (cfgM m hO).N) (d) : (dats m hO 0 c).before 11 t d = iblk m hO c 11 t :=
  before_of m hO (dats m hO 0 c) 11 (A_eq m hO c 11) rfl (fun _ => rfl) (fun _ _ _ => rfl) (fun t => by rw [after0_11]; rfl) t d

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12]
  rw [show (dats m hO 0 c).Φ t.castSucc = iprop(Pipeline.ΦA spec0 c ∗ Pipeline.ΦT pre0 (tbl m) c) from rfl, PhiT0_eq, PhiA0_eq]
  unfold outsAt0
  unfold out0_A_12
  iintro ⟨⟨⟨⟨HS0, HS1, HS2⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ _ _ _ _ _ _ (iblk m hO c 0 t) (XQ m hO c t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (tbl m 1) (tbl m 2)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  isplitl [HT0]; · iexact HT0
  isplitl [HT1]; · iexact HT1
  isplitl [HT2]; · iexact HT2
  iintro ⟨H0, H1, H2, H3, H4, H5, H6, H7, H8, H9, H10, H11, ⟨%e12, H12⟩, ⟨%fT0, HS0⟩, ⟨%fT1, HS1⟩, ⟨%fT2, HS2⟩, HT0, HT1, HT2⟩
  isplitl [HS0 HS1 HS2 Hg HT0 HT1 HT2]
  · isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        iexists _; unfold owns; iexists _; isplitr
        swap; · iexact HS2
        ipureintro; rfl
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- The launch: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (`FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame, for any float type: the run ends, the argument arrays are as they were and every counter is at zero, once
    every window that a table places lies inside its array (`Ok m`). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Proof.Swa

end
-- ==== Proof.Gate.lean ====
/- The gated product of two scalars, at the ideal instance. -/
module
public import Idealize.ShloMosaic.PureOps.Ideal
public import Idealize.ShloMosaic.Lib.IdealHost
@[expose] public section
noncomputable section
namespace Cert.Proof
open Idealize.ShloMosaic

/-- The kernel's gate: `g / (1 + e^(0 - g))`, times `u`. -/
def gated (g u : EReal) : EReal := Ideal.div g (1 + Ideal.exp (0 - g)) * u

theorem exp_nonneg (x : EReal) : 0 ≤ Ideal.exp x := by
  induction x with
  | bot => exact le_refl _
  | top => exact le_top
  | coe r => exact EReal.coe_nonneg.mpr (Real.exp_pos r).le

theorem one_add_exp_ne_zero (x : EReal) : 1 + Ideal.exp x ≠ 0 := by
  have h : (1 : EReal) ≤ 1 + Ideal.exp x := le_add_of_nonneg_right (exp_nonneg x)
  intro e; rw [e] at h; exact absurd h (by simp)

/-- Multiplying by the logistic of `g` is the kernel's division. -/
theorem mul_logistic (g u : EReal) : g * Ideal.div 1 (1 + Ideal.exp (-g)) * u = gated g u := by
  unfold gated
  rw [Ideal.mul_one_div (one_add_exp_ne_zero _), zero_sub]

end Cert.Proof
end
-- ==== Proof.GateUp.lean ====
/- The gated product's first 10752 columns, as the array the run leaves, at the ideal instance. -/
module
public import proofs.«01_k».proof.Proof.Gen.GateUpIdeal.Value
public import proofs.«01_k».proof.Proof.Gen.GateUpRefIdeal.Run
public import proofs.«01_k».proof.Proof.Gate
public import Idealize.ShloMosaic.Lib.Pointwise
@[expose] public section
noncomputable section
namespace Cert.Proof.GateUp
open Idealize.ShloMosaic Idealize.ShloMosaic.TcCoe Idealize.SL.Sem
open Idealize.ShloMosaic.Pipeline (Dat)

section
open Cert.GateUpIdeal Cert.GateUpIdeal.Gen Cert.GateUpIdeal.Value

theorem out_eq {F : FTy → Type} [FloatOps F] (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S4096x512 .f32) (harg4 : arg4.IsWhole) (arg5 : Memref sig .tc .vmem S1024x512 .bf16) (harg5 : arg5.IsWhole)
    (x0 : Vec F S1024x4096 .bf16) (x1 : Vec F S4096x512 .f32) (x2 : Vec F S4096x512 .f32) :
    out0_A_3 c i arg2 harg2 arg3 harg3 arg4 harg4 arg5 harg5 x0 x1 x2 = k0_pay1 x0 x1 x2 := by
  have hz2 : (![0, 0] : Fin S1024x512.rank → Nat) = fun _ => 0 := funext fun a => by fin_cases a <;> rfl
  have hz0 : (![0, 0] : Fin S1024x4096.rank → Nat) = fun _ => 0 := funext fun a => by fin_cases a <;> rfl
  have hz1 : (![0, 0] : Fin S4096x512.rank → Nat) = fun _ => 0 := funext fun a => by fin_cases a <;> rfl
  unfold out0_A_3
  rw [View.read_writes_eq_canon _ _ _ (cover0_A_3 c i arg2 harg2 arg3 harg3 arg4 harg4 arg5 harg5 x0 x1 x2)]
  unfold kernelRun0_A
  dsimp only
  rw [View.canon_unit_zero hz2]
  simp only [View.readAt_eq_ld, harg2.read_unread, harg3.read_unread, harg4.read_unread, View.ld_unit_zero (S := S1024x4096) hz0, View.ld_unit_zero (S := S4096x512) hz1]

theorem pay_apply (x0 : Vec Ideal S1024x4096 .bf16) (x1 : Vec Ideal S4096x512 .f32) (x2 : Vec Ideal S4096x512 .f32) (j : S1024x512.Idx) :
    k0_pay1 (F := Ideal) x0 x1 x2 j = gated (∑ k : Fin 4096, x0 (ix2 (j 0) k) * x1 (ix2 k (j 1))) (∑ k : Fin 4096, x0 (ix2 (j 0) k) * x2 (ix2 k (j 1))) := by
  pointwise [k0_pay1, gated]

/-- The result index by index: the two products with the weights' column `0 + j`, gated. -/
def T (a : S24576x4096.Idx → EReal) (wg wu : S1x4096x11008.Idx → EReal) : S24576x10752.Idx → EReal := fun i =>
  gated (∑ k : Fin 4096, a (ix2 (i 0) k) * wg (ix3 0 k ⟨0 + (i 1).val, by have h : (i 1).val < 10752 := (i 1).isLt; omega⟩))
    (∑ k : Fin 4096, a (ix2 (i 0) k) * wu (ix3 0 k ⟨0 + (i 1).val, by have h : (i 1).val < 10752 := (i 1).isLt; omega⟩))

theorem idx_eq : ∀ t : Fin cfg0.N, win0_0.index t = ![win0_3.index t 0, 0] ∧ win0_1.index t = ![0, 0 + win0_3.index t 1]
    ∧ win0_2.index t = ![0, 0 + win0_3.index t 1] ∧ win0_3.index t = ![t.val / 21, t.val % 21] ∧ win0_3.flush t = true :=
  (by decide +kernel : ∀ t : Fin grid0.N, _)

variable (m : (ℓ : Loc nD τ sig) → Buf (Elt Ideal) ℓ) (c : Dev nD)

theorem V_v0 : V m c main_v0 = shapeCast S4096x11008 (m ((c : Thread nD τ).loc main_arg1)) shapeCasts_S1x4096x11008_S4096x11008 := by
  unfold V
  after_results_simp
  rfl
theorem V_v1 : V m c main_v1 = shapeCast S4096x11008 (m ((c : Thread nD τ).loc main_arg2)) shapeCasts_S1x4096x11008_S4096x11008 := by
  unfold V
  after_results_simp
  rfl

theorem cast_apply (w : Vec Ideal S1x4096x11008 .f32) (k : Fin 4096) (q : Fin 11008) : shapeCast S4096x11008 w shapeCasts_S1x4096x11008_S4096x11008 (ix2 k q) = w (ix3 0 k q) := by
  pointwise

theorem blk0 (t : Fin cfg0.N) (r : Fin 1024) (k : Fin 4096) (R : Fin 24576) (hR : R.val = win0_3.index t 0 * 1024 + r.val) :
    iblk m c 0 t (ix2 r k) = m ((c : Thread nD τ).loc main_arg0) (ix2 R k) := by
  have h := (idx_eq t).1
  refine (congrFun (V_main_arg0 m c) _).trans (congrArg (m ((c : Thread nD τ).loc main_arg0)) ?_)
  funext a; fin_cases a
  · apply Fin.ext; show win0_0.index t 0 * 1024 + 1 * r.val = R.val; rw [h, hR]; simp
  · apply Fin.ext; show win0_0.index t 1 * 4096 + 1 * k.val = k.val; rw [h]; simp
theorem blk1 (t : Fin cfg0.N) (k : Fin 4096) (q : Fin 512) (Q : Fin 11008) (hQ : Q.val = 0 + (win0_3.index t 1 * 512 + q.val)) :
    X0_1 m c t (ix2 k q) = m ((c : Thread nD τ).loc main_arg1) (ix3 0 k Q) := by
  have h := (idx_eq t).2.1
  refine (dif_pos (moved0_1 t (ix2 k q))).trans ?_
  refine (congrFun (V_v0 m c) _).trans ((congrArg _ ?_).trans (cast_apply _ k Q))
  funext a; fin_cases a
  · apply Fin.ext; show win0_1.index t 0 * 4096 + 1 * k.val = k.val; rw [h]; simp
  · apply Fin.ext; show win0_1.index t 1 * 512 + 1 * q.val = Q.val; rw [h, hQ]; show (0 + win0_3.index t 1) * 512 + 1 * q.val = _; omega
theorem blk2 (t : Fin cfg0.N) (k : Fin 4096) (q : Fin 512) (Q : Fin 11008) (hQ : Q.val = 0 + (win0_3.index t 1 * 512 + q.val)) :
    X0_2 m c t (ix2 k q) = m ((c : Thread nD τ).loc main_arg2) (ix3 0 k Q) := by
  have h := (idx_eq t).2.2.1
  refine (dif_pos (moved0_2 t (ix2 k q))).trans ?_
  refine (congrFun (V_v1 m c) _).trans ((congrArg _ ?_).trans (cast_apply _ k Q))
  funext a; fin_cases a
  · apply Fin.ext; show win0_2.index t 0 * 4096 + 1 * k.val = k.val; rw [h]; simp
  · apply Fin.ext; show win0_2.index t 1 * 512 + 1 * q.val = Q.val; rw [h, hQ]; show (0 + win0_3.index t 1) * 512 + 1 * q.val = _; omega

theorem flushed_eq (t : Fin cfg0.N) : (dats m 0 c).flushed 3 t = ((cfg0.win 3).blk t).view.read (Elt Ideal)
    (T (m ((c : Thread nD τ).loc main_arg0)) (m ((c : Thread nD τ).loc main_arg1)) (m ((c : Thread nD τ).loc main_arg2))) := by
  rw [flushed3_A, out_eq]
  funext y
  have h0 : (((cfg0.win 3).blk t).view.emb y 0).val = win0_3.index t 0 * 1024 + (y 0).val :=
    (show _ = win0_3.index t 0 * 1024 + 1 * (y 0).val from rfl).trans (by omega)
  have h1 : (((cfg0.win 3).blk t).view.emb y 1).val = win0_3.index t 1 * 512 + (y 1).val :=
    (show _ = win0_3.index t 1 * 512 + 1 * (y 1).val from rfl).trans (by omega)
  refine (pay_apply _ _ _ _).trans ?_
  refine congrArg₂ gated (Finset.sum_congr rfl fun k _ => ?_) (Finset.sum_congr rfl fun k _ => ?_)
  · exact congrArg₂ (· * ·) (blk0 m c t _ k _ h0) (blk1 m c t k _ _ (congrArg (0 + ·) h1))
  · exact congrArg₂ (· * ·) (blk0 m c t _ k _ h0) (blk2 m c t k _ _ (congrArg (0 + ·) h1))

theorem covered (i : S24576x10752.Idx) : ∃ t : Fin cfg0.N, (cfg0.win 3).flush t = true ∧ i ∈ ((cfg0.win 3).blk t).view.set := by
  have b0 : (i 0).val < 24576 := (i 0).isLt
  have b1 : (i 1).val < 10752 := (i 1).isLt
  have hN : 21 * ((i 0).val / 1024) + (i 1).val / 512 < cfg0.N := lt_of_lt_of_eq (by omega) N_0.symm
  have h := (idx_eq ⟨21 * ((i 0).val / 1024) + (i 1).val / 512, hN⟩).2.2.2
  refine ⟨⟨21 * ((i 0).val / 1024) + (i 1).val / 512, hN⟩, h.2, ?_⟩
  show i ∈ ((View.whole main_v2).slice (win0_3.rect (⟨21 * ((i 0).val / 1024) + (i 1).val / 512, hN⟩ : Fin cfg0.N))).set
  rw [View.set_slice_whole, Rect.mem_set_unit]
  intro a
  show win0_3.index _ a * S1024x512.size a ≤ (i a).val ∧ (i a).val < win0_3.index _ a * S1024x512.size a + S1024x512.size a
  rw [h.1]
  fin_cases a
  · show (21 * ((i 0).val / 1024) + (i 1).val / 512) / 21 * 1024 ≤ (i 0).val ∧ (i 0).val < (21 * ((i 0).val / 1024) + (i 1).val / 512) / 21 * 1024 + 1024
    omega
  · show (21 * ((i 0).val / 1024) + (i 1).val / 512) % 21 * 512 ≤ (i 1).val ∧ (i 1).val < (21 * ((i 0).val / 1024) + (i 1).val / 512) % 21 * 512 + 512
    omega

theorem final : (dats m 0 c).arrAt 3 cfg0.N = T (m ((c : Thread nD τ).loc main_arg0)) (m ((c : Thread nD τ).loc main_arg1)) (m ((c : Thread nD τ).loc main_arg2)) :=
  (dats m 0 c).arrAt_eq_of_cover 3 _ (fun t _ => flushed_eq m c t) covered
end

section
open Cert.GateUpRefIdeal Cert.GateUpRefIdeal.Gen
/-- The reference's result as its printed term. -/
def refOut (a : FVec Ideal S24576x4096 .bf16) (wg wu : FVec Ideal S1x4096x11008 .f32) : FVec Ideal S24576x10752 .bf16 :=
  truncf .bf16 (mulf (mulf (Host.dotGeneral dot_S24576x4096_S4096x10752_S24576x10752_1_0_0_1_n_n none (extf .f32 a bitsLt_bf16_f32) (shapeCast _ (extractStridedSlice S1x4096x10752 ![0, 0, 0] wg slices_S1x4096x11008_S1x4096x10752_0_0_0) shapeCasts_S1x4096x10752_S4096x10752)) (Host.divf (broadcastInDim S24576x10752 ![] bcast_S_S24576x10752 (constant S_ .f32 0x3F800000#32)) (addf (broadcastInDim S24576x10752 ![] bcast_S_S24576x10752 (constant S_ .f32 0x3F800000#32)) (Host.exp (Host.negf (Host.dotGeneral dot_S24576x4096_S4096x10752_S24576x10752_1_0_0_1_n_n none (extf .f32 a bitsLt_bf16_f32) (shapeCast _ (extractStridedSlice S1x4096x10752 ![0, 0, 0] wg slices_S1x4096x11008_S1x4096x10752_0_0_0) shapeCasts_S1x4096x10752_S4096x10752))))))) (Host.dotGeneral dot_S24576x4096_S4096x10752_S24576x10752_1_0_0_1_n_n none (extf .f32 a bitsLt_bf16_f32) (shapeCast _ (extractStridedSlice S1x4096x10752 ![0, 0, 0] wu slices_S1x4096x11008_S1x4096x10752_0_0_0) shapeCasts_S1x4096x10752_S4096x10752))) bitsLt_bf16_f32

theorem ref_eq (a : FVec Ideal S24576x4096 .bf16) (wg wu : FVec Ideal S1x4096x11008 .f32) : refOut a wg wu = T a wg wu := by
  funext i
  refine Eq.trans ?_ (mul_logistic _ _)
  pointwise [refOut]
end
end Cert.Proof.GateUp
-- ==== Proof.GateUpTail.lean ====
/- The gated product's last 256 columns, as the array the run leaves, at the ideal instance. -/
module
public import proofs.«01_k».proof.Proof.Gen.GateUpTailIdeal.Value
public import proofs.«01_k».proof.Proof.Gen.GateUpTailRefIdeal.Run
public import proofs.«01_k».proof.Proof.Gate
public import Idealize.ShloMosaic.Lib.Pointwise
@[expose] public section
noncomputable section
namespace Cert.Proof.GateUpTail
open Idealize.ShloMosaic Idealize.ShloMosaic.TcCoe Idealize.SL.Sem
open Idealize.ShloMosaic.Pipeline (Dat)

section
open Cert.GateUpTailIdeal Cert.GateUpTailIdeal.Gen Cert.GateUpTailIdeal.Value

theorem out_eq {F : FTy → Type} [FloatOps F] (x0 : Vec F S1024x4096 .bf16) (x1 : Vec F S4096x256 .f32) (x2 : Vec F S4096x256 .f32) :
    out0_3 x0 x1 x2 = k0_pay1 x0 x1 x2 := by
  have hz2 : (![0, 0] : Fin S1024x256.rank → Nat) = fun _ => 0 := funext fun a => by fin_cases a <;> rfl
  have hz0 : (![0, 0] : Fin S1024x4096.rank → Nat) = fun _ => 0 := funext fun a => by fin_cases a <;> rfl
  have hz1 : (![0, 0] : Fin S4096x256.rank → Nat) = fun _ => 0 := funext fun a => by fin_cases a <;> rfl
  unfold out0_3
  rw [View.canon_unit_zero hz2, View.ld_unit_zero hz0, View.ld_unit_zero hz1, View.ld_unit_zero hz1]

theorem pay_apply (x0 : Vec Ideal S1024x4096 .bf16) (x1 : Vec Ideal S4096x256 .f32) (x2 : Vec Ideal S4096x256 .f32) (j : S1024x256.Idx) :
    k0_pay1 (F := Ideal) x0 x1 x2 j = gated (∑ k : Fin 4096, x0 (ix2 (j 0) k) * x1 (ix2 k (j 1))) (∑ k : Fin 4096, x0 (ix2 (j 0) k) * x2 (ix2 k (j 1))) := by
  pointwise [k0_pay1, gated]

/-- The result index by index: the two products with the weights' column `10752 + j`, gated. -/
def T (a : S24576x4096.Idx → EReal) (wg wu : S1x4096x11008.Idx → EReal) : S24576x256.Idx → EReal := fun i =>
  gated (∑ k : Fin 4096, a (ix2 (i 0) k) * wg (ix3 0 k ⟨10752 + (i 1).val, by have h : (i 1).val < 256 := (i 1).isLt; omega⟩))
    (∑ k : Fin 4096, a (ix2 (i 0) k) * wu (ix3 0 k ⟨10752 + (i 1).val, by have h : (i 1).val < 256 := (i 1).isLt; omega⟩))

theorem idx_eq : ∀ t : Fin cfg0.N, win0_0.index t = ![win0_3.index t 0, 0] ∧ win0_1.index t = ![0, 42 + win0_3.index t 1]
    ∧ win0_2.index t = ![0, 42 + win0_3.index t 1] ∧ win0_3.index t = ![t.val / 1, t.val % 1] ∧ win0_3.flush t = true :=
  (by decide +kernel : ∀ t : Fin grid0.N, _)

variable (m : (ℓ : Loc nD τ sig) → Buf (Elt Ideal) ℓ) (c : Dev nD)

theorem V_v0 : V m c main_v0 = shapeCast S4096x11008 (m ((c : Thread nD τ).loc main_arg1)) shapeCasts_S1x4096x11008_S4096x11008 := by
  unfold V
  after_results_simp
  rfl
theorem V_v1 : V m c main_v1 = shapeCast S4096x11008 (m ((c : Thread nD τ).loc main_arg2)) shapeCasts_S1x4096x11008_S4096x11008 := by
  unfold V
  after_results_simp
  rfl

theorem cast_apply (w : Vec Ideal S1x4096x11008 .f32) (k : Fin 4096) (q : Fin 11008) : shapeCast S4096x11008 w shapeCasts_S1x4096x11008_S4096x11008 (ix2 k q) = w (ix3 0 k q) := by
  pointwise

theorem blk0 (t : Fin cfg0.N) (r : Fin 1024) (k : Fin 4096) (R : Fin 24576) (hR : R.val = win0_3.index t 0 * 1024 + r.val) :
    iblk m c 0 t (ix2 r k) = m ((c : Thread nD τ).loc main_arg0) (ix2 R k) := by
  have h := (idx_eq t).1
  refine (congrFun (V_main_arg0 m c) _).trans (congrArg (m ((c : Thread nD τ).loc main_arg0)) ?_)
  funext a; fin_cases a
  · apply Fin.ext; show win0_0.index t 0 * 1024 + 1 * r.val = R.val; rw [h, hR]; simp
  · apply Fin.ext; show win0_0.index t 1 * 4096 + 1 * k.val = k.val; rw [h]; simp
theorem blk1 (t : Fin cfg0.N) (k : Fin 4096) (q : Fin 256) (Q : Fin 11008) (hQ : Q.val = 10752 + (win0_3.index t 1 * 256 + q.val)) :
    iblk m c 1 t (ix2 k q) = m ((c : Thread nD τ).loc main_arg1) (ix3 0 k Q) := by
  have h := (idx_eq t).2.1
  refine (congrFun (V_v0 m c) _).trans ((congrArg _ ?_).trans (cast_apply _ k Q))
  funext a; fin_cases a
  · apply Fin.ext; show win0_1.index t 0 * 4096 + 1 * k.val = k.val; rw [h]; simp
  · apply Fin.ext; show win0_1.index t 1 * 256 + 1 * q.val = Q.val; rw [h, hQ]; show (42 + win0_3.index t 1) * 256 + 1 * q.val = _; omega
theorem blk2 (t : Fin cfg0.N) (k : Fin 4096) (q : Fin 256) (Q : Fin 11008) (hQ : Q.val = 10752 + (win0_3.index t 1 * 256 + q.val)) :
    iblk m c 2 t (ix2 k q) = m ((c : Thread nD τ).loc main_arg2) (ix3 0 k Q) := by
  have h := (idx_eq t).2.2.1
  refine (congrFun (V_v1 m c) _).trans ((congrArg _ ?_).trans (cast_apply _ k Q))
  funext a; fin_cases a
  · apply Fin.ext; show win0_2.index t 0 * 4096 + 1 * k.val = k.val; rw [h]; simp
  · apply Fin.ext; show win0_2.index t 1 * 256 + 1 * q.val = Q.val; rw [h, hQ]; show (42 + win0_3.index t 1) * 256 + 1 * q.val = _; omega

theorem flushed_eq (t : Fin cfg0.N) : (dats m 0 c).flushed 3 t = ((cfg0.win 3).blk t).view.read (Elt Ideal)
    (T (m ((c : Thread nD τ).loc main_arg0)) (m ((c : Thread nD τ).loc main_arg1)) (m ((c : Thread nD τ).loc main_arg2))) := by
  rw [flushed3, out_eq]
  funext y
  have h0 : (((cfg0.win 3).blk t).view.emb y 0).val = win0_3.index t 0 * 1024 + (y 0).val :=
    (show _ = win0_3.index t 0 * 1024 + 1 * (y 0).val from rfl).trans (by omega)
  have h1 : (((cfg0.win 3).blk t).view.emb y 1).val = win0_3.index t 1 * 256 + (y 1).val :=
    (show _ = win0_3.index t 1 * 256 + 1 * (y 1).val from rfl).trans (by omega)
  refine (pay_apply _ _ _ _).trans ?_
  refine congrArg₂ gated (Finset.sum_congr rfl fun k _ => ?_) (Finset.sum_congr rfl fun k _ => ?_)
  · exact congrArg₂ (· * ·) (blk0 m c t _ k _ h0) (blk1 m c t k _ _ (congrArg (10752 + ·) h1))
  · exact congrArg₂ (· * ·) (blk0 m c t _ k _ h0) (blk2 m c t k _ _ (congrArg (10752 + ·) h1))

theorem covered (i : S24576x256.Idx) : ∃ t : Fin cfg0.N, (cfg0.win 3).flush t = true ∧ i ∈ ((cfg0.win 3).blk t).view.set := by
  have b0 : (i 0).val < 24576 := (i 0).isLt
  have b1 : (i 1).val < 256 := (i 1).isLt
  have hN : 1 * ((i 0).val / 1024) + (i 1).val / 256 < cfg0.N := lt_of_lt_of_eq (by omega) N_0.symm
  have h := (idx_eq ⟨1 * ((i 0).val / 1024) + (i 1).val / 256, hN⟩).2.2.2
  refine ⟨⟨1 * ((i 0).val / 1024) + (i 1).val / 256, hN⟩, h.2, ?_⟩
  show i ∈ ((View.whole main_v2).slice (win0_3.rect (⟨1 * ((i 0).val / 1024) + (i 1).val / 256, hN⟩ : Fin cfg0.N))).set
  rw [View.set_slice_whole, Rect.mem_set_unit]
  intro a
  show win0_3.index _ a * S1024x256.size a ≤ (i a).val ∧ (i a).val < win0_3.index _ a * S1024x256.size a + S1024x256.size a
  rw [h.1]
  fin_cases a
  · show (1 * ((i 0).val / 1024) + (i 1).val / 256) / 1 * 1024 ≤ (i 0).val ∧ (i 0).val < (1 * ((i 0).val / 1024) + (i 1).val / 256) / 1 * 1024 + 1024
    omega
  · show (1 * ((i 0).val / 1024) + (i 1).val / 256) % 1 * 256 ≤ (i 1).val ∧ (i 1).val < (1 * ((i 0).val / 1024) + (i 1).val / 256) % 1 * 256 + 256
    omega

theorem final : (dats m 0 c).arrAt 3 cfg0.N = T (m ((c : Thread nD τ).loc main_arg0)) (m ((c : Thread nD τ).loc main_arg1)) (m ((c : Thread nD τ).loc main_arg2)) :=
  (dats m 0 c).arrAt_eq_of_cover 3 _ (fun t _ => flushed_eq m c t) covered
end

section
open Cert.GateUpTailRefIdeal Cert.GateUpTailRefIdeal.Gen
/-- The reference's result as its printed term. -/
def refOut (a : FVec Ideal S24576x4096 .bf16) (wg wu : FVec Ideal S1x4096x11008 .f32) : FVec Ideal S24576x256 .bf16 :=
  truncf .bf16 (mulf (mulf (Host.dotGeneral dot_S24576x4096_S4096x256_S24576x256_1_0_0_1_n_n none (extf .f32 a bitsLt_bf16_f32) (shapeCast _ (extractStridedSlice S1x4096x256 ![0, 0, 10752] wg slices_S1x4096x11008_S1x4096x256_0_0_10752) shapeCasts_S1x4096x256_S4096x256)) (Host.divf (broadcastInDim S24576x256 ![] bcast_S_S24576x256 (constant S_ .f32 0x3F800000#32)) (addf (broadcastInDim S24576x256 ![] bcast_S_S24576x256 (constant S_ .f32 0x3F800000#32)) (Host.exp (Host.negf (Host.dotGeneral dot_S24576x4096_S4096x256_S24576x256_1_0_0_1_n_n none (extf .f32 a bitsLt_bf16_f32) (shapeCast _ (extractStridedSlice S1x4096x256 ![0, 0, 10752] wg slices_S1x4096x11008_S1x4096x256_0_0_10752) shapeCasts_S1x4096x256_S4096x256))))))) (Host.dotGeneral dot_S24576x4096_S4096x256_S24576x256_1_0_0_1_n_n none (extf .f32 a bitsLt_bf16_f32) (shapeCast _ (extractStridedSlice S1x4096x256 ![0, 0, 10752] wu slices_S1x4096x11008_S1x4096x256_0_0_10752) shapeCasts_S1x4096x256_S4096x256))) bitsLt_bf16_f32

theorem ref_eq (a : FVec Ideal S24576x4096 .bf16) (wg wu : FVec Ideal S1x4096x11008 .f32) : refOut a wg wu = T a wg wu := by
  funext i
  refine Eq.trans ?_ (mul_logistic _ _)
  pointwise [refOut]
end
end Cert.Proof.GateUpTail
-- ==== Proof.Down.lean ====
/- The down projection: three column blocks of the product added up over the tail's, as the array the run leaves, at the ideal instance. -/
module
public import proofs.«01_k».proof.Proof.Gen.DownIdeal.Value
public import proofs.«01_k».proof.Proof.Gen.DownRefIdeal.Run
public import Idealize.ShloMosaic.Lib.Pointwise
@[expose] public section
noncomputable section
namespace Cert.Proof.Down
open Idealize.ShloMosaic Idealize.ShloMosaic.TcCoe Idealize.SL.Sem
open Idealize.ShloMosaic.Pipeline (Dat)

section
open Cert.DownIdeal Cert.DownIdeal.Gen Cert.DownIdeal.Value

theorem hzO : (![0, 0] : Fin S1024x1024.rank → Nat) = fun _ => 0 := funext fun a => by fin_cases a <;> rfl
theorem hzA : (![0, 0] : Fin S1024x3584.rank → Nat) = fun _ => 0 := funext fun a => by fin_cases a <;> rfl
theorem hzB : (![0, 0] : Fin S1024x256.rank → Nat) = fun _ => 0 := funext fun a => by fin_cases a <;> rfl
theorem hzW : (![0, 0] : Fin S3584x1024.rank → Nat) = fun _ => 0 := funext fun a => by fin_cases a <;> rfl
theorem hzV : (![0, 0] : Fin S256x1024.rank → Nat) = fun _ => 0 := funext fun a => by fin_cases a <;> rfl

/-- The first step of a block leaves the tail product plus the first column block. -/
theorem sout0_A_0_eq {F : FTy → Type} [FloatOps F] (c : Dev nD) (i : grid0.Coords) (arg3 : Memref sig .tc .vmem S1024x3584 .bf16) (harg3 : arg3.IsWhole) (arg4 : Memref sig .tc .vmem S1024x256 .bf16) (harg4 : arg4.IsWhole) (arg5 : Memref sig .tc .vmem S3584x1024 .f32) (harg5 : arg5.IsWhole) (arg6 : Memref sig .tc .vmem S256x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x3584 .bf16) (x1 : Vec F S1024x256 .bf16) (x2 : Vec F S3584x1024 .f32) (x3 : Vec F S256x1024 .f32) :
    sout0_A_0 c i arg3 harg3 arg4 harg4 arg5 harg5 arg6 harg6 arg7 harg7 arg8 harg8 hc0 hc1 x0 x1 x2 x3 = k0_pay2 (k0_pay1 x1 x3) x0 x2 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hzO, View.readCov_unit_zero (S := S1024x1024) _ hzO]
  simp only [View.readAt_eq_ld, harg3.read_unread, harg4.read_unread, harg5.read_unread, harg6.read_unread, harg8.read_unread, View.ld_unit_zero (S := S1024x1024) hzO, View.ld_unit_zero (S := S1024x3584) hzA, View.ld_unit_zero (S := S1024x256) hzB, View.ld_unit_zero (S := S3584x1024) hzW, View.ld_unit_zero (S := S256x1024) hzV]

/-- The second step adds its column block to what the first left. -/
theorem sout0_B_0_eq {F : FTy → Type} [FloatOps F] (c : Dev nD) (i : grid0.Coords) (arg3 : Memref sig .tc .vmem S1024x3584 .bf16) (harg3 : arg3.IsWhole) (arg4 : Memref sig .tc .vmem S1024x256 .bf16) (harg4 : arg4.IsWhole) (arg5 : Memref sig .tc .vmem S3584x1024 .f32) (harg5 : arg5.IsWhole) (arg6 : Memref sig .tc .vmem S256x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x3584 .bf16) (x1 : Vec F S1024x256 .bf16) (x2 : Vec F S3584x1024 .f32) (x3 : Vec F S256x1024 .f32) (xs0 : Vec F S1024x1024 .f32) :
    sout0_B_0 c i arg3 harg3 arg4 harg4 arg5 harg5 arg6 harg6 arg7 harg7 arg8 harg8 hc0 hc1 x0 x1 x2 x3 xs0 = k0_pay2 xs0 x0 x2 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hzO]
  simp only [View.readAt_eq_ld, harg3.read_unread, harg4.read_unread, harg5.read_unread, harg6.read_unread, harg8.read_unread, View.ld_unit_zero (S := S1024x1024) hzO, View.ld_unit_zero (S := S1024x3584) hzA, View.ld_unit_zero (S := S1024x256) hzB, View.ld_unit_zero (S := S3584x1024) hzW, View.ld_unit_zero (S := S256x1024) hzV]

/-- The third step adds its column block and writes the total. -/
theorem out0_C_4_eq {F : FTy → Type} [FloatOps F] (c : Dev nD) (i : grid0.Coords) (arg3 : Memref sig .tc .vmem S1024x3584 .bf16) (harg3 : arg3.IsWhole) (arg4 : Memref sig .tc .vmem S1024x256 .bf16) (harg4 : arg4.IsWhole) (arg5 : Memref sig .tc .vmem S3584x1024 .f32) (harg5 : arg5.IsWhole) (arg6 : Memref sig .tc .vmem S256x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x3584 .bf16) (x1 : Vec F S1024x256 .bf16) (x2 : Vec F S3584x1024 .f32) (x3 : Vec F S256x1024 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 xs0 x0 x2) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hzO, View.readCov_unit_zero (S := S1024x1024) _ hzO]
  simp only [View.readAt_eq_ld, harg3.read_unread, harg4.read_unread, harg5.read_unread, harg6.read_unread, harg8.read_unread, View.ld_unit_zero (S := S1024x1024) hzO, View.ld_unit_zero (S := S1024x3584) hzA, View.ld_unit_zero (S := S1024x256) hzB, View.ld_unit_zero (S := S3584x1024) hzW, View.ld_unit_zero (S := S256x1024) hzV]

theorem pay1_apply (x1 : Vec Ideal S1024x256 .bf16) (x3 : Vec Ideal S256x1024 .f32) (j : S1024x1024.Idx) :
    k0_pay1 (F := Ideal) x1 x3 j = ∑ k : Fin 256, x1 (ix2 (j 0) k) * x3 (ix2 k (j 1)) := by
  pointwise [k0_pay1]

theorem pay2_apply (xs : Vec Ideal S1024x1024 .f32) (x0 : Vec Ideal S1024x3584 .bf16) (x2 : Vec Ideal S3584x1024 .f32) (j : S1024x1024.Idx) :
    k0_pay2 (F := Ideal) xs x0 x2 j = xs j + ∑ k : Fin 3584, x0 (ix2 (j 0) k) * x2 (ix2 k (j 1)) := by
  pointwise [k0_pay2]

theorem pay3_apply (v : Vec Ideal S1024x1024 .f32) (j : S1024x1024.Idx) : k0_pay3 (F := Ideal) v j = v j := by
  pointwise [k0_pay3]

/-- Column block `b`'s share of a result entry. -/
def part (a0 : S24576x10752.Idx → EReal) (w : S1x11008x4096.Idx → EReal) (i : S24576x4096.Idx) (b : Fin 3) : EReal :=
  ∑ k : Fin 3584, a0 (ix2 (i 0) ⟨b.val * 3584 + k.val, by omega⟩) * w (ix3 0 ⟨b.val * 3584 + k.val, by omega⟩ (i 1))

/-- The tail columns' share of a result entry. -/
def tail (a1 : S24576x256.Idx → EReal) (w : S1x11008x4096.Idx → EReal) (i : S24576x4096.Idx) : EReal :=
  ∑ k : Fin 256, a1 (ix2 (i 0) k) * w (ix3 0 ⟨10752 + k.val, by omega⟩ (i 1))

/-- The result index by index: the tail's product and the three column blocks, added in the order the run takes them. -/
def T (a0 : S24576x10752.Idx → EReal) (a1 : S24576x256.Idx → EReal) (w : S1x11008x4096.Idx → EReal) : S24576x4096.Idx → EReal := fun i =>
  tail a1 w i + part a0 w i 0 + part a0 w i 1 + part a0 w i 2

theorem idx_eq : ∀ t : Fin cfg0.N, win0_0.index t = ![t.val / 12, t.val % 3] ∧ win0_1.index t = ![t.val / 12, 0]
    ∧ win0_2.index t = ![t.val % 3, t.val / 3 % 4] ∧ win0_3.index t = ![42, t.val / 3 % 4] ∧ win0_4.index t = ![t.val / 12, t.val / 3 % 4] :=
  (by decide +kernel : ∀ t : Fin grid0.N, _)

variable (m : (ℓ : Loc nD τ sig) → Buf (Elt Ideal) ℓ) (c : Dev nD)

theorem V_v0 : V m c main_v0 = shapeCast S11008x4096 (m ((c : Thread nD τ).loc main_arg2)) shapeCasts_S1x11008x4096_S11008x4096 := by
  unfold V
  after_results_simp
  rfl

theorem cast_apply (w : Vec Ideal S1x11008x4096 .f32) (k : Fin 11008) (q : Fin 4096) : shapeCast S11008x4096 w shapeCasts_S1x11008x4096_S11008x4096 (ix2 k q) = w (ix3 0 k q) := by
  pointwise

theorem blk0 (t : Fin cfg0.N) (r : Fin 1024) (k : Fin 3584) (R : Fin 24576) (K : Fin 10752) (hR : R.val = t.val / 12 * 1024 + r.val) (hK : K.val = t.val % 3 * 3584 + k.val) :
    iblk m c 0 t (ix2 r k) = m ((c : Thread nD τ).loc main_arg0) (ix2 R K) := by
  have h := (idx_eq t).1
  refine (congrFun (V_main_arg0 m c) _).trans (congrArg (m ((c : Thread nD τ).loc main_arg0)) ?_)
  funext a; fin_cases a
  · apply Fin.ext; show win0_0.index t 0 * 1024 + 1 * r.val = R.val; rw [h, hR]; simp
  · apply Fin.ext; show win0_0.index t 1 * 3584 + 1 * k.val = K.val; rw [h, hK]; simp
theorem blk1 (t : Fin cfg0.N) (r : Fin 1024) (k : Fin 256) (R : Fin 24576) (hR : R.val = t.val / 12 * 1024 + r.val) :
    iblk m c 1 t (ix2 r k) = m ((c : Thread nD τ).loc main_arg1) (ix2 R k) := by
  have h := (idx_eq t).2.1
  refine (congrFun (V_main_arg1 m c) _).trans (congrArg (m ((c : Thread nD τ).loc main_arg1)) ?_)
  funext a; fin_cases a
  · apply Fin.ext; show win0_1.index t 0 * 1024 + 1 * r.val = R.val; rw [h, hR]; simp
  · apply Fin.ext; show win0_1.index t 1 * 256 + 1 * k.val = k.val; rw [h]; simp
theorem blk2 (t : Fin cfg0.N) (k : Fin 3584) (q : Fin 1024) (K : Fin 11008) (Q : Fin 4096) (hK : K.val = t.val % 3 * 3584 + k.val) (hQ : Q.val = t.val / 3 % 4 * 1024 + q.val) :
    X0_2 m c t (ix2 k q) = m ((c : Thread nD τ).loc main_arg2) (ix3 0 K Q) := by
  have h := (idx_eq t).2.2.1
  refine (dif_pos (moved0_2 t (ix2 k q))).trans ?_
  refine (congrFun (V_v0 m c) _).trans ((congrArg _ ?_).trans (cast_apply _ K Q))
  funext a; fin_cases a
  · apply Fin.ext; show win0_2.index t 0 * 3584 + 1 * k.val = K.val; rw [h, hK]; simp
  · apply Fin.ext; show win0_2.index t 1 * 1024 + 1 * q.val = Q.val; rw [h, hQ]; simp
theorem blk3 (t : Fin cfg0.N) (k : Fin 256) (q : Fin 1024) (K : Fin 11008) (Q : Fin 4096) (hK : K.val = 10752 + k.val) (hQ : Q.val = t.val / 3 % 4 * 1024 + q.val) :
    iblk m c 3 t (ix2 k q) = m ((c : Thread nD τ).loc main_arg2) (ix3 0 K Q) := by
  have h := (idx_eq t).2.2.2.1
  refine (congrFun (V_v0 m c) _).trans ((congrArg _ ?_).trans (cast_apply _ K Q))
  funext a; fin_cases a
  · apply Fin.ext; show win0_3.index t 0 * 256 + 1 * k.val = K.val; rw [h, hK]; simp
  · apply Fin.ext; show win0_3.index t 1 * 1024 + 1 * q.val = Q.val; rw [h, hQ]; simp

/-- What a block's first step leaves in the running total. -/
theorem acc_A (t : Fin cfg0.N) (h : t.val % 3 = 0) : (outsAt0 m c t.val t.isLt).2 = k0_pay2 (F := Ideal) (k0_pay1 (iblk m c 1 t) (iblk m c 3 t)) (iblk m c 0 t) (X0_2 m c t) := by
  rw [outsAt0_A m c t h (by omega)]
  dsimp only
  rw [sout0_A_0_eq]
/-- What a block's second step leaves in the running total. -/
theorem acc_B (t : Fin cfg0.N) (h : t.val % 3 = 1) : (outsAt0 m c t.val t.isLt).2
    = k0_pay2 (F := Ideal) (outsAt0 m c (t.val - 1) (Nat.lt_of_le_of_lt (Nat.sub_le _ _) t.isLt)).2 (iblk m c 0 t) (X0_2 m c t) := by
  rw [outsAt0_B m c t (by omega) (by omega)]
  dsimp only
  rw [sout0_B_0_eq]

/-- Point `t` adds column block `t % 3`'s share to an entry. -/
theorem step_apply (t : Fin cfg0.N) (b : Fin 3) (hb : b.val = t.val % 3) (xs : Vec Ideal S1024x1024 .f32) (y : S1024x1024.Idx) (i : S24576x4096.Idx)
    (h0 : (i 0).val = t.val / 12 * 1024 + (y 0).val) (h1 : (i 1).val = t.val / 3 % 4 * 1024 + (y 1).val) :
    k0_pay2 (F := Ideal) xs (iblk m c 0 t) (X0_2 m c t) y
      = xs y + part (m ((c : Thread nD τ).loc main_arg0)) (m ((c : Thread nD τ).loc main_arg2)) i b :=
  (pay2_apply _ _ _ _).trans (congrArg (xs y + ·) (Finset.sum_congr rfl fun k _ => congrArg₂ (· * ·)
    (blk0 m c t _ k _ _ h0 (congrArg (· * 3584 + k.val) hb)) (blk2 m c t k _ _ _ (congrArg (· * 3584 + k.val) hb) h1)))

/-- The tail's product at an entry, from the blocks point `t` reads. -/
theorem tail_apply (t : Fin cfg0.N) (y : S1024x1024.Idx) (i : S24576x4096.Idx)
    (h0 : (i 0).val = t.val / 12 * 1024 + (y 0).val) (h1 : (i 1).val = t.val / 3 % 4 * 1024 + (y 1).val) :
    k0_pay1 (F := Ideal) (iblk m c 1 t) (iblk m c 3 t) y
      = tail (m ((c : Thread nD τ).loc main_arg1)) (m ((c : Thread nD τ).loc main_arg2)) i :=
  (pay1_apply _ _ _).trans (Finset.sum_congr rfl fun k _ => congrArg₂ (· * ·)
    (blk1 m c t _ k _ h0) (blk3 m c t k _ _ _ rfl h1))

/-- The three points of a block: what the last of them computes is the tail's product and the three shares. -/
theorem point_apply (t0 t1 t2 : Fin cfg0.N) (e0 : t0.val % 3 = 0) (e1 : t1.val = t0.val + 1) (e2 : t2.val = t0.val + 2) (y : S1024x1024.Idx) (i : S24576x4096.Idx)
    (h0 : (i 0).val = t2.val / 12 * 1024 + (y 0).val) (h1 : (i 1).val = t2.val / 3 % 4 * 1024 + (y 1).val) :
    k0_pay2 (F := Ideal) (k0_pay2 (k0_pay2 (k0_pay1 (iblk m c 1 t0) (iblk m c 3 t0)) (iblk m c 0 t0) (X0_2 m c t0)) (iblk m c 0 t1) (X0_2 m c t1)) (iblk m c 0 t2) (X0_2 m c t2) y
      = T (m ((c : Thread nD τ).loc main_arg0)) (m ((c : Thread nD τ).loc main_arg1)) (m ((c : Thread nD τ).loc main_arg2)) i := by
  have a0 : t2.val / 12 = t0.val / 12 := by omega
  have a1 : t2.val / 12 = t1.val / 12 := by omega
  have b0 : t2.val / 3 = t0.val / 3 := by omega
  have b1 : t2.val / 3 = t1.val / 3 := by omega
  rw [step_apply m c t2 2 (by show 2 = t2.val % 3; omega) _ y i h0 h1,
    step_apply m c t1 1 (by show 1 = t1.val % 3; omega) _ y i (a1 ▸ h0) (b1 ▸ h1),
    step_apply m c t0 0 (by show 0 = t0.val % 3; omega) _ y i (a0 ▸ h0) (b0 ▸ h1),
    tail_apply m c t0 y i (a0 ▸ h0) (b0 ▸ h1)]
  rfl

theorem flushed_eq (t : Fin cfg0.N) (h : t.val % 3 = 2) : (dats m 0 c).flushed 4 t = ((cfg0.win 4).blk t).view.read (Elt Ideal)
    (T (m ((c : Thread nD τ).loc main_arg0)) (m ((c : Thread nD τ).loc main_arg1)) (m ((c : Thread nD τ).loc main_arg2))) := by
  rw [flushed4_C m c t (by omega) h, out0_C_4_eq,
    acc_B m c ⟨t.val - 1, Nat.lt_of_le_of_lt (Nat.sub_le _ _) t.isLt⟩ (by show (t.val - 1) % 3 = 1; omega),
    acc_A m c ⟨t.val - 1 - 1, Nat.lt_of_le_of_lt (Nat.sub_le _ _) (Nat.lt_of_le_of_lt (Nat.sub_le _ _) t.isLt)⟩ (by show (t.val - 1 - 1) % 3 = 0; omega)]
  funext y
  have hi := (idx_eq t).2.2.2.2
  have h0 : (((cfg0.win 4).blk t).view.emb y 0).val = t.val / 12 * 1024 + (y 0).val :=
    (show _ = win0_4.index t 0 * 1024 + 1 * (y 0).val from rfl).trans (by rw [hi]; simp)
  have h1 : (((cfg0.win 4).blk t).view.emb y 1).val = t.val / 3 % 4 * 1024 + (y 1).val :=
    (show _ = win0_4.index t 1 * 1024 + 1 * (y 1).val from rfl).trans (by rw [hi]; simp)
  exact (pay3_apply _ _).trans (point_apply m c _ _ t (by show (t.val - 1 - 1) % 3 = 0; omega) (by show t.val - 1 = t.val - 1 - 1 + 1; omega)
    (by show t.val = t.val - 1 - 1 + 2; omega) _ _ h0 h1)

theorem covered (i : S24576x4096.Idx) : ∃ t : Fin cfg0.N, (cfg0.win 4).flush t = true ∧ i ∈ ((cfg0.win 4).blk t).view.set := by
  have b0 : (i 0).val < 24576 := (i 0).isLt
  have b1 : (i 1).val < 4096 := (i 1).isLt
  have hN : 12 * ((i 0).val / 1024) + 3 * ((i 1).val / 1024) + 2 < cfg0.N := lt_of_lt_of_eq (by omega) N_0.symm
  have h := (idx_eq ⟨12 * ((i 0).val / 1024) + 3 * ((i 1).val / 1024) + 2, hN⟩).2.2.2.2
  refine ⟨⟨12 * ((i 0).val / 1024) + 3 * ((i 1).val / 1024) + 2, hN⟩, ?_, ?_⟩
  · exact (flush0_4 _).mpr (by show (12 * ((i 0).val / 1024) + 3 * ((i 1).val / 1024) + 2) % 3 = 2; omega)
  show i ∈ ((View.whole main_v1).slice (win0_4.rect (⟨12 * ((i 0).val / 1024) + 3 * ((i 1).val / 1024) + 2, hN⟩ : Fin cfg0.N))).set
  rw [View.set_slice_whole, Rect.mem_set_unit]
  intro a
  show win0_4.index _ a * S1024x1024.size a ≤ (i a).val ∧ (i a).val < win0_4.index _ a * S1024x1024.size a + S1024x1024.size a
  rw [h]
  fin_cases a
  · show (12 * ((i 0).val / 1024) + 3 * ((i 1).val / 1024) + 2) / 12 * 1024 ≤ (i 0).val ∧ (i 0).val < (12 * ((i 0).val / 1024) + 3 * ((i 1).val / 1024) + 2) / 12 * 1024 + 1024
    omega
  · show (12 * ((i 0).val / 1024) + 3 * ((i 1).val / 1024) + 2) / 3 % 4 * 1024 ≤ (i 1).val ∧ (i 1).val < (12 * ((i 0).val / 1024) + 3 * ((i 1).val / 1024) + 2) / 3 % 4 * 1024 + 1024
    omega

theorem final : (dats m 0 c).arrAt 4 cfg0.N = T (m ((c : Thread nD τ).loc main_arg0)) (m ((c : Thread nD τ).loc main_arg1)) (m ((c : Thread nD τ).loc main_arg2)) :=
  (dats m 0 c).arrAt_eq_of_cover 4 _ (fun t hf => flushed_eq m c t ((flush0_4 t).mp hf)) covered
end

section
open Cert.DownRefIdeal Cert.DownRefIdeal.Gen
/-- The reference's result as its printed term: one product with the joined columns. -/
def refOut (a0 : FVec Ideal S24576x10752 .bf16) (a1 : FVec Ideal S24576x256 .bf16) (w : FVec Ideal S1x11008x4096 .f32) : FVec Ideal S24576x4096 .bf16 :=
  truncf .bf16 (Host.dotGeneral (φ₁ := .f32) (φ₂ := .f32) dot_S24576x11008_S11008x4096_S24576x4096_1_0_0_1_n_n none (extf .f32 (concatenate S24576x11008 1 [⟨S24576x10752, a0⟩, ⟨S24576x256, a1⟩] concatenates_S24576x10752_S24576x256_S24576x11008_d1 : FVec Ideal S24576x11008 .bf16) bitsLt_bf16_f32) (shapeCast _ w shapeCasts_S1x11008x4096_S11008x4096)) bitsLt_bf16_f32

/-- One term of the reference's sum over the joined columns. -/
def term (a0 : S24576x10752.Idx → EReal) (a1 : S24576x256.Idx → EReal) (w : S1x11008x4096.Idx → EReal) (i : S24576x4096.Idx) (k : Fin 11008) : EReal :=
  (if h : k.val < 10752 then a0 (ix2 (i 0) ⟨k.val, h⟩) else a1 (ix2 (i 0) ⟨k.val - 10752, by omega⟩)) * w (ix3 0 k (i 1))

theorem ref_apply (a0 : FVec Ideal S24576x10752 .bf16) (a1 : FVec Ideal S24576x256 .bf16) (w : FVec Ideal S1x11008x4096 .f32) (i : S24576x4096.Idx) :
    refOut a0 a1 w i = ∑ k : Fin 11008, term a0 a1 w i k := by
  pointwise [refOut, term]

/-- A run of 3584 terms from column `b * 3584` is that column block's share. -/
theorem sum_block (a0 : S24576x10752.Idx → EReal) (a1 : S24576x256.Idx → EReal) (w : S1x11008x4096.Idx → EReal) (i : S24576x4096.Idx) (b : Fin 3)
    (e : Fin 3584 → Fin 11008) (he : ∀ k, (e k).val = b.val * 3584 + k.val) : (∑ k : Fin 3584, term a0 a1 w i (e k)) = part a0 w i b :=
  Finset.sum_congr rfl fun k _ => by
    have h : e k = ⟨b.val * 3584 + k.val, by omega⟩ := Fin.ext (he k)
    rw [h]
    have hlt : b.val * 3584 + k.val < 10752 := by omega
    exact congrArg (· * _) (dif_pos hlt)

/-- The one sum over all 11008 columns is the tail's and the three blocks' shares, in any order. -/
theorem ref_eq (a0 : FVec Ideal S24576x10752 .bf16) (a1 : FVec Ideal S24576x256 .bf16) (w : FVec Ideal S1x11008x4096 .f32) :
    refOut a0 a1 w = T a0 a1 w := by
  funext i
  refine (ref_apply a0 a1 w i).trans ?_
  refine (Fin.sum_univ_add (a := 10752) (b := 256) _).trans ((add_comm _ _).trans ?_)
  unfold T
  rw [add_assoc, add_assoc]
  refine congrArg₂ (· + ·) (Finset.sum_congr rfl fun k _ => ?_) ?_
  · have h : ¬ (Fin.natAdd 10752 k).val < 10752 := by simp
    refine congrArg₂ (· * ·) ((dif_neg h).trans (congrArg a1 (congrArg (ix2 (i 0)) (Fin.ext ?_)))) rfl
    show 10752 + k.val - 10752 = k.val
    omega
  · rw [← add_assoc]
    refine (Fin.sum_univ_add (a := 7168) (b := 3584) _).trans (congrArg₂ (· + ·) ((Fin.sum_univ_add (a := 3584) (b := 3584) _).trans (congrArg₂ (· + ·) ?_ ?_)) ?_)
    · exact sum_block a0 a1 w i 0 _ fun k => by show k.val = 0 * 3584 + k.val; omega
    · exact sum_block a0 a1 w i 1 _ fun k => by show 3584 + k.val = 1 * 3584 + k.val; omega
    · exact sum_block a0 a1 w i 2 _ fun k => by show 7168 + k.val = 2 * 3584 + k.val; omega
end
end Cert.Proof.Down
-- ==== Proof.ProjectIn.lean ====
/- The input projection: a product with its query columns scaled, as the array the run leaves, at the ideal instance. -/
module
public import proofs.«01_k».proof.Proof.Gen.ProjectInIdeal.Value
public import proofs.«01_k».proof.Proof.Gen.ProjectInRefIdeal.Run
public import Idealize.ShloMosaic.Lib.Pointwise
@[expose] public section
noncomputable section
namespace Cert.Proof.ProjectIn
open Idealize.ShloMosaic Idealize.ShloMosaic.TcCoe Idealize.SL.Sem
open Idealize.ShloMosaic.Pipeline (Dat)

section
open Cert.ProjectInIdeal Cert.ProjectInIdeal.Gen Cert.ProjectInIdeal.Value

theorem out_eq {F : FTy → Type} [FloatOps F] (x0 : Vec F S1024x4096 .bf16) (x1 : Vec F S4096x1024 .f32) (x2 : Vec F S1x1024 .f32) :
    out0_3 x0 x1 x2 = k0_pay1 x0 x1 x2 := by
  have hz3 : (![0, 0] : Fin S1024x1024.rank → Nat) = fun _ => 0 := funext fun a => by fin_cases a <;> rfl
  have hz0 : (![0, 0] : Fin S1024x4096.rank → Nat) = fun _ => 0 := funext fun a => by fin_cases a <;> rfl
  have hz1 : (![0, 0] : Fin S4096x1024.rank → Nat) = fun _ => 0 := funext fun a => by fin_cases a <;> rfl
  have hz2 : (![0, 0] : Fin S1x1024.rank → Nat) = fun _ => 0 := funext fun a => by fin_cases a <;> rfl
  unfold out0_3
  rw [View.canon_unit_zero hz3, View.ld_unit_zero hz0, View.ld_unit_zero hz1, View.ld_unit_zero hz2]

theorem pay_apply (x0 : Vec Ideal S1024x4096 .bf16) (x1 : Vec Ideal S4096x1024 .f32) (x2 : Vec Ideal S1x1024 .f32) (j : S1024x1024.Idx) :
    k0_pay1 (F := Ideal) x0 x1 x2 j = (∑ k : Fin 4096, x0 (ix2 (j 0) k) * x1 (ix2 k (j 1))) * x2 (ix2 0 (j 1)) := by
  pointwise [k0_pay1]

/-- The columns that hold a query: the first 2048 of each half's share. -/
def isQuery (q : Nat) : Bool := q < 2048 || (6144 ≤ q && q < 8192)

/-- A column's scale: the attention scale in a query column, one elsewhere. -/
def scale (q : Nat) : EReal := if isQuery q then Ideal.ofBits .f32 0x3E0293EE#32 else 1

/-- The table of scales word by word. -/
theorem table_eq : ∀ q : Fin 9216, lit0 q = if isQuery q.val then 0x3E0293EE#32 else 0x3F800000#32 := by
  decide +kernel

/-- The result index by index: the product times the column's scale. -/
def T (h : S24576x4096.Idx → EReal) (w : S1x4096x9216.Idx → EReal) : S24576x9216.Idx → EReal := fun i =>
  (∑ k : Fin 4096, h (ix2 (i 0) k) * w (ix3 0 k (i 1))) * scale (i 1).val

theorem idx_eq : ∀ t : Fin cfg0.N, win0_0.index t = ![win0_3.index t 0, 0] ∧ win0_1.index t = ![0, win0_3.index t 1]
    ∧ win0_2.index t = ![0, win0_3.index t 1] ∧ win0_3.index t = ![t.val / 9, t.val % 9] :=
  (by decide +kernel : ∀ t : Fin grid0.N, _)

variable (m : (ℓ : Loc nD τ sig) → Buf (Elt Ideal) ℓ) (c : Dev nD)

theorem V_v0 : V m c main_v0 = shapeCast S4096x9216 (m ((c : Thread nD τ).loc main_arg1)) shapeCasts_S1x4096x9216_S4096x9216 := by
  unfold V
  after_results_simp
  rfl

theorem V_cst : V m c main_cst = fun i => FloatOps.ofBits (F := Ideal) .f32 (lit0 (S1x9216.rowMajor i)) := by
  unfold V
  after_results_simp
  rfl

theorem cast_apply (w : Vec Ideal S1x4096x9216 .f32) (k : Fin 4096) (q : Fin 9216) : shapeCast S4096x9216 w shapeCasts_S1x4096x9216_S4096x9216 (ix2 k q) = w (ix3 0 k q) := by
  pointwise

theorem table_apply (q : Fin 9216) : FloatOps.ofBits (F := Ideal) .f32 (lit0 (S1x9216.rowMajor (ix2 0 q))) = scale q.val := by
  have h : S1x9216.rowMajor (ix2 0 q) = q := Fin.ext ((Shape.rowMajor_val_two _).trans (by
    show 0 * 9216 + q.val = q.val
    omega))
  rw [h, table_eq]
  show Ideal.ofBits .f32 _ = _
  unfold scale
  split
  · rfl
  · exact Ideal.ofBits_one_f32

theorem blk0 (t : Fin cfg0.N) (r : Fin 1024) (k : Fin 4096) (R : Fin 24576) (hR : R.val = win0_3.index t 0 * 1024 + r.val) :
    iblk m c 0 t (ix2 r k) = m ((c : Thread nD τ).loc main_arg0) (ix2 R k) := by
  have h := (idx_eq t).1
  refine (congrFun (V_main_arg0 m c) _).trans (congrArg (m ((c : Thread nD τ).loc main_arg0)) ?_)
  funext a; fin_cases a
  · apply Fin.ext; show win0_0.index t 0 * 1024 + 1 * r.val = R.val; rw [h, hR]; simp
  · apply Fin.ext; show win0_0.index t 1 * 4096 + 1 * k.val = k.val; rw [h]; simp
theorem blk1 (t : Fin cfg0.N) (k : Fin 4096) (q : Fin 1024) (Q : Fin 9216) (hQ : Q.val = win0_3.index t 1 * 1024 + q.val) :
    iblk m c 1 t (ix2 k q) = m ((c : Thread nD τ).loc main_arg1) (ix3 0 k Q) := by
  have h := (idx_eq t).2.1
  refine (congrFun (V_v0 m c) _).trans ((congrArg _ ?_).trans (cast_apply _ k Q))
  funext a; fin_cases a
  · apply Fin.ext; show win0_1.index t 0 * 4096 + 1 * k.val = k.val; rw [h]; simp
  · apply Fin.ext; show win0_1.index t 1 * 1024 + 1 * q.val = Q.val; rw [h, hQ]; simp
theorem blk2 (t : Fin cfg0.N) (q : Fin 1024) (Q : Fin 9216) (hQ : Q.val = win0_3.index t 1 * 1024 + q.val) :
    iblk m c 2 t (ix2 0 q) = scale Q.val := by
  have h := (idx_eq t).2.2.1
  refine (congrFun (V_cst m c) _).trans (Eq.trans (congrArg (fun i => FloatOps.ofBits (F := Ideal) .f32 (lit0 (S1x9216.rowMajor i))) ?_) (table_apply Q))
  funext a; fin_cases a
  · apply Fin.ext; show win0_2.index t 0 * 1 + 1 * 0 = 0; rw [h]; simp
  · apply Fin.ext; show win0_2.index t 1 * 1024 + 1 * q.val = Q.val; rw [h, hQ]; simp

theorem flushed_eq (t : Fin cfg0.N) : (dats m 0 c).flushed 3 t = ((cfg0.win 3).blk t).view.read (Elt Ideal)
    (T (m ((c : Thread nD τ).loc main_arg0)) (m ((c : Thread nD τ).loc main_arg1))) := by
  rw [flushed3, out_eq]
  funext y
  have h0 : (((cfg0.win 3).blk t).view.emb y 0).val = win0_3.index t 0 * 1024 + (y 0).val :=
    (show _ = win0_3.index t 0 * 1024 + 1 * (y 0).val from rfl).trans (by omega)
  have h1 : (((cfg0.win 3).blk t).view.emb y 1).val = win0_3.index t 1 * 1024 + (y 1).val :=
    (show _ = win0_3.index t 1 * 1024 + 1 * (y 1).val from rfl).trans (by omega)
  refine (pay_apply _ _ _ _).trans ?_
  refine congrArg₂ (· * ·) (Finset.sum_congr rfl fun k _ => ?_) (blk2 m c t _ _ h1)
  exact congrArg₂ (· * ·) (blk0 m c t _ k _ h0) (blk1 m c t k _ _ h1)

theorem covered (i : S24576x9216.Idx) : ∃ t : Fin cfg0.N, (cfg0.win 3).flush t = true ∧ i ∈ ((cfg0.win 3).blk t).view.set := by
  have b0 : (i 0).val < 24576 := (i 0).isLt
  have b1 : (i 1).val < 9216 := (i 1).isLt
  have hN : 9 * ((i 0).val / 1024) + (i 1).val / 1024 < cfg0.N := lt_of_lt_of_eq (by omega) N_0.symm
  refine ⟨⟨9 * ((i 0).val / 1024) + (i 1).val / 1024, hN⟩, ?_, ?_⟩
  · exact flush0_3 _
  · have h := (idx_eq ⟨9 * ((i 0).val / 1024) + (i 1).val / 1024, hN⟩).2.2.2
    show i ∈ ((View.whole main_v1).slice (win0_3.rect (⟨9 * ((i 0).val / 1024) + (i 1).val / 1024, hN⟩ : Fin cfg0.N))).set
    rw [View.set_slice_whole, Rect.mem_set_unit]
    intro a
    show win0_3.index _ a * S1024x1024.size a ≤ (i a).val ∧ (i a).val < win0_3.index _ a * S1024x1024.size a + S1024x1024.size a
    rw [h]
    fin_cases a
    · show (9 * ((i 0).val / 1024) + (i 1).val / 1024) / 9 * 1024 ≤ (i 0).val ∧ (i 0).val < (9 * ((i 0).val / 1024) + (i 1).val / 1024) / 9 * 1024 + 1024
      omega
    · show (9 * ((i 0).val / 1024) + (i 1).val / 1024) % 9 * 1024 ≤ (i 1).val ∧ (i 1).val < (9 * ((i 0).val / 1024) + (i 1).val / 1024) % 9 * 1024 + 1024
      omega

theorem final : (dats m 0 c).arrAt 3 cfg0.N = T (m ((c : Thread nD τ).loc main_arg0)) (m ((c : Thread nD τ).loc main_arg1)) :=
  (dats m 0 c).arrAt_eq_of_cover 3 _ (fun t _ => flushed_eq m c t) covered
end

section
open Cert.ProjectInRefIdeal Cert.ProjectInRefIdeal.Gen

/-- The reference's unscaled product. -/
def prod (h : FVec Ideal S24576x4096 .bf16) (w : FVec Ideal S1x4096x9216 .f32) : FVec Ideal S24576x9216 .f32 :=
  Host.dotGeneral (φ₁ := .f32) (φ₂ := .f32) dot_S24576x4096_S4096x9216_S24576x9216_1_0_0_1_n_n none (extf .f32 h bitsLt_bf16_f32) (shapeCast _ w shapeCasts_S1x4096x9216_S4096x9216)

/-- The reference's result: the product cut into four runs of columns, the query runs scaled, and joined again. -/
def refOut (h : FVec Ideal S24576x4096 .bf16) (w : FVec Ideal S1x4096x9216 .f32) : FVec Ideal S24576x9216 .bf16 :=
  truncf .bf16 (concatenate S24576x9216 1
    [⟨S24576x2048, mulf (extractStridedSlice S24576x2048 ![0, 0] (prod h w) slices_S24576x9216_S24576x2048_0_0) (broadcastInDim S24576x2048 ![] bcast_S_S24576x2048 (constant S_ .f32 0x3E0293EE#32))⟩,
     ⟨S24576x4096, extractStridedSlice S24576x4096 ![0, 2048] (prod h w) slices_S24576x9216_S24576x4096_0_2048⟩,
     ⟨S24576x2048, mulf (extractStridedSlice S24576x2048 ![0, 6144] (prod h w) slices_S24576x9216_S24576x2048_0_6144) (broadcastInDim S24576x2048 ![] bcast_S_S24576x2048 (constant S_ .f32 0x3E0293EE#32))⟩,
     ⟨S24576x1024, extractStridedSlice S24576x1024 ![0, 8192] (prod h w) slices_S24576x9216_S24576x1024_0_8192⟩]
    concatenates_S24576x2048_S24576x4096_S24576x2048_S24576x1024_S24576x9216_d1 : FVec Ideal S24576x9216 .f32) bitsLt_bf16_f32

theorem prod_apply (h : FVec Ideal S24576x4096 .bf16) (w : FVec Ideal S1x4096x9216 .f32) (i : S24576x9216.Idx) :
    prod h w i = ∑ k : Fin 4096, h (ix2 (i 0) k) * w (ix3 0 k (i 1)) := by
  pointwise [prod]

theorem ref_apply (h : FVec Ideal S24576x4096 .bf16) (w : FVec Ideal S1x4096x9216 .f32) (i : S24576x9216.Idx) :
    refOut h w i = if h1 : (i 1).val < 2048 then prod h w i * Ideal.ofBits .f32 0x3E0293EE#32
      else if h2 : (i 1).val - 2048 < 4096 then prod h w (ix2 (i 0) ⟨2048 + ((i 1).val - 2048), by omega⟩)
      else if h3 : (i 1).val - 2048 - 4096 < 2048 then prod h w (ix2 (i 0) ⟨6144 + ((i 1).val - 2048 - 4096), by omega⟩) * Ideal.ofBits .f32 0x3E0293EE#32
      else prod h w (ix2 (i 0) ⟨8192 + ((i 1).val - 2048 - 4096 - 2048), by have b : (i 1).val < 9216 := (i 1).isLt; omega⟩) := by
  pointwise [refOut]

/-- A column named by an equal number is the same column. -/
theorem prod_col (h : FVec Ideal S24576x4096 .bf16) (w : FVec Ideal S1x4096x9216 .f32) (i : S24576x9216.Idx) (n : Nat) (hn : n < 9216) (e : n = (i 1).val) :
    prod h w (ix2 (i 0) ⟨n, hn⟩) = ∑ k : Fin 4096, h (ix2 (i 0) k) * w (ix3 0 k (i 1)) := by
  subst e
  exact prod_apply h w _

/-- The four runs of columns, each at its scale, are the product at every column's own scale. -/
theorem ref_eq (h : FVec Ideal S24576x4096 .bf16) (w : FVec Ideal S1x4096x9216 .f32) : refOut h w = T h w := by
  funext i
  have b : (i 1).val < 9216 := (i 1).isLt
  rw [ref_apply]
  unfold T scale isQuery
  split
  · rw [if_pos (by simp; omega), prod_apply]
  split
  · rw [if_neg (by simp; omega), prod_col h w i _ _ (by omega), mul_one]
  split
  · rw [if_pos (by simp; omega), prod_col h w i _ _ (by omega)]
  · rw [if_neg (by simp; omega), prod_col h w i _ _ (by omega), mul_one]
end
end Cert.Proof.ProjectIn
-- ==== Proof.ProjectOut.lean ====
/- The output projection: the two halves' products summed, as the array the run leaves, at the ideal instance. -/
module
public import proofs.«01_k».proof.Proof.Gen.ProjectOutIdeal.Value
public import proofs.«01_k».proof.Proof.Gen.ProjectOutRefIdeal.Run
public import Idealize.ShloMosaic.Lib.Pointwise
@[expose] public section
noncomputable section
namespace Cert.Proof.ProjectOut
open Idealize.ShloMosaic Idealize.ShloMosaic.TcCoe Idealize.SL.Sem
open Idealize.ShloMosaic.Pipeline (Dat)

section
open Cert.ProjectOutIdeal Cert.ProjectOutIdeal.Gen Cert.ProjectOutIdeal.Value

theorem out_eq {F : FTy → Type} [FloatOps F] (x0 : Vec F S1024x2048 .bf16) (x1 : Vec F S1024x2048 .bf16) (x2 : Vec F S2048x1024 .f32) (x3 : Vec F S2048x1024 .f32) :
    out0_4 x0 x1 x2 x3 = k0_pay1 x0 x2 x1 x3 := by
  have hz2 : (![0, 0] : Fin S1024x1024.rank → Nat) = fun _ => 0 := funext fun a => by fin_cases a <;> rfl
  have hz0 : (![0, 0] : Fin S1024x2048.rank → Nat) = fun _ => 0 := funext fun a => by fin_cases a <;> rfl
  have hz1 : (![0, 0] : Fin S2048x1024.rank → Nat) = fun _ => 0 := funext fun a => by fin_cases a <;> rfl
  unfold out0_4
  rw [View.canon_unit_zero hz2, View.ld_unit_zero hz0, View.ld_unit_zero hz1, View.ld_unit_zero hz0, View.ld_unit_zero hz1]

theorem pay_apply (x0 : Vec Ideal S1024x2048 .bf16) (x2 : Vec Ideal S2048x1024 .f32) (x1 : Vec Ideal S1024x2048 .bf16) (x3 : Vec Ideal S2048x1024 .f32) (j : S1024x1024.Idx) :
    k0_pay1 (F := Ideal) x0 x2 x1 x3 j = (∑ k : Fin 2048, x0 (ix2 (j 0) k) * x2 (ix2 k (j 1))) + ∑ k : Fin 2048, x1 (ix2 (j 0) k) * x3 (ix2 k (j 1)) := by
  pointwise [k0_pay1]

/-- The result index by index: each half's product with its rows of the weight. -/
def T (a0 a1 : S24576x2048.Idx → EReal) (w : S1x4096x4096.Idx → EReal) : S24576x4096.Idx → EReal := fun i =>
  (∑ k : Fin 2048, a0 (ix2 (i 0) k) * w (ix3 0 (Fin.castLE (by decide) k) (i 1)))
    + ∑ k : Fin 2048, a1 (ix2 (i 0) k) * w (ix3 0 (Fin.natAdd 2048 k) (i 1))

theorem idx_eq : ∀ t : Fin cfg0.N, win0_0.index t = ![win0_4.index t 0, 0] ∧ win0_1.index t = ![win0_4.index t 0, 0]
    ∧ win0_2.index t = ![0, win0_4.index t 1] ∧ win0_3.index t = ![1, win0_4.index t 1] ∧ win0_4.index t = ![t.val / 4, t.val % 4] :=
  (by decide +kernel : ∀ t : Fin grid0.N, _)

variable (m : (ℓ : Loc nD τ sig) → Buf (Elt Ideal) ℓ) (c : Dev nD)

theorem V_v0 : V m c main_v0 = shapeCast S4096x4096 (m ((c : Thread nD τ).loc main_arg2)) shapeCasts_S1x4096x4096_S4096x4096 := by
  unfold V
  after_results_simp
  rfl

theorem cast_apply (w : Vec Ideal S1x4096x4096 .f32) (k q : Fin 4096) : shapeCast S4096x4096 w shapeCasts_S1x4096x4096_S4096x4096 (ix2 k q) = w (ix3 0 k q) := by
  pointwise

theorem blk0 (t : Fin cfg0.N) (r : Fin 1024) (k : Fin 2048) (R : Fin 24576) (hR : R.val = win0_4.index t 0 * 1024 + r.val) :
    iblk m c 0 t (ix2 r k) = m ((c : Thread nD τ).loc main_arg0) (ix2 R k) := by
  have h := (idx_eq t).1
  refine (congrFun (V_main_arg0 m c) _).trans (congrArg (m ((c : Thread nD τ).loc main_arg0)) ?_)
  funext a; fin_cases a
  · apply Fin.ext; show win0_0.index t 0 * 1024 + 1 * r.val = R.val; rw [h, hR]; simp
  · apply Fin.ext; show win0_0.index t 1 * 2048 + 1 * k.val = k.val; rw [h]; simp
theorem blk1 (t : Fin cfg0.N) (r : Fin 1024) (k : Fin 2048) (R : Fin 24576) (hR : R.val = win0_4.index t 0 * 1024 + r.val) :
    iblk m c 1 t (ix2 r k) = m ((c : Thread nD τ).loc main_arg1) (ix2 R k) := by
  have h := (idx_eq t).2.1
  refine (congrFun (V_main_arg1 m c) _).trans (congrArg (m ((c : Thread nD τ).loc main_arg1)) ?_)
  funext a; fin_cases a
  · apply Fin.ext; show win0_1.index t 0 * 1024 + 1 * r.val = R.val; rw [h, hR]; simp
  · apply Fin.ext; show win0_1.index t 1 * 2048 + 1 * k.val = k.val; rw [h]; simp
theorem blk2 (t : Fin cfg0.N) (k : Fin 2048) (q : Fin 1024) (K Q : Fin 4096) (hK : K.val = k.val) (hQ : Q.val = win0_4.index t 1 * 1024 + q.val) :
    iblk m c 2 t (ix2 k q) = m ((c : Thread nD τ).loc main_arg2) (ix3 0 K Q) := by
  have h := (idx_eq t).2.2.1
  refine (congrFun (V_v0 m c) _).trans ((congrArg _ ?_).trans (cast_apply _ K Q))
  funext a; fin_cases a
  · apply Fin.ext; show win0_2.index t 0 * 2048 + 1 * k.val = K.val; rw [h, hK]; simp
  · apply Fin.ext; show win0_2.index t 1 * 1024 + 1 * q.val = Q.val; rw [h, hQ]; simp
theorem blk3 (t : Fin cfg0.N) (k : Fin 2048) (q : Fin 1024) (K Q : Fin 4096) (hK : K.val = 2048 + k.val) (hQ : Q.val = win0_4.index t 1 * 1024 + q.val) :
    iblk m c 3 t (ix2 k q) = m ((c : Thread nD τ).loc main_arg2) (ix3 0 K Q) := by
  have h := (idx_eq t).2.2.2.1
  refine (congrFun (V_v0 m c) _).trans ((congrArg _ ?_).trans (cast_apply _ K Q))
  funext a; fin_cases a
  · apply Fin.ext; show win0_3.index t 0 * 2048 + 1 * k.val = K.val; rw [h, hK]; simp
  · apply Fin.ext; show win0_3.index t 1 * 1024 + 1 * q.val = Q.val; rw [h, hQ]; simp

theorem flushed_eq (t : Fin cfg0.N) : (dats m 0 c).flushed 4 t = ((cfg0.win 4).blk t).view.read (Elt Ideal)
    (T (m ((c : Thread nD τ).loc main_arg0)) (m ((c : Thread nD τ).loc main_arg1)) (m ((c : Thread nD τ).loc main_arg2))) := by
  rw [flushed4, out_eq]
  funext y
  have h0 : (((cfg0.win 4).blk t).view.emb y 0).val = win0_4.index t 0 * 1024 + (y 0).val :=
    (show _ = win0_4.index t 0 * 1024 + 1 * (y 0).val from rfl).trans (by omega)
  have h1 : (((cfg0.win 4).blk t).view.emb y 1).val = win0_4.index t 1 * 1024 + (y 1).val :=
    (show _ = win0_4.index t 1 * 1024 + 1 * (y 1).val from rfl).trans (by omega)
  refine (pay_apply _ _ _ _ _).trans ?_
  refine congrArg₂ (· + ·) (Finset.sum_congr rfl fun k _ => ?_) (Finset.sum_congr rfl fun k _ => ?_)
  · exact congrArg₂ (· * ·) (blk0 m c t _ k _ h0) (blk2 m c t k _ _ _ rfl h1)
  · exact congrArg₂ (· * ·) (blk1 m c t _ k _ h0) (blk3 m c t k _ _ _ rfl h1)

theorem covered (i : S24576x4096.Idx) : ∃ t : Fin cfg0.N, (cfg0.win 4).flush t = true ∧ i ∈ ((cfg0.win 4).blk t).view.set := by
  have b0 : (i 0).val < 24576 := (i 0).isLt
  have b1 : (i 1).val < 4096 := (i 1).isLt
  have hN : 4 * ((i 0).val / 1024) + (i 1).val / 1024 < cfg0.N := lt_of_lt_of_eq (by omega) N_0.symm
  refine ⟨⟨4 * ((i 0).val / 1024) + (i 1).val / 1024, hN⟩, ?_, ?_⟩
  · exact flush0_4 _
  · have h := (idx_eq ⟨4 * ((i 0).val / 1024) + (i 1).val / 1024, hN⟩).2.2.2.2
    show i ∈ ((View.whole main_v1).slice (win0_4.rect (⟨4 * ((i 0).val / 1024) + (i 1).val / 1024, hN⟩ : Fin cfg0.N))).set
    rw [View.set_slice_whole, Rect.mem_set_unit]
    intro a
    show win0_4.index _ a * S1024x1024.size a ≤ (i a).val ∧ (i a).val < win0_4.index _ a * S1024x1024.size a + S1024x1024.size a
    rw [h]
    fin_cases a
    · show (4 * ((i 0).val / 1024) + (i 1).val / 1024) / 4 * 1024 ≤ (i 0).val ∧ (i 0).val < (4 * ((i 0).val / 1024) + (i 1).val / 1024) / 4 * 1024 + 1024
      omega
    · show (4 * ((i 0).val / 1024) + (i 1).val / 1024) % 4 * 1024 ≤ (i 1).val ∧ (i 1).val < (4 * ((i 0).val / 1024) + (i 1).val / 1024) % 4 * 1024 + 1024
      omega

theorem final : (dats m 0 c).arrAt 4 cfg0.N = T (m ((c : Thread nD τ).loc main_arg0)) (m ((c : Thread nD τ).loc main_arg1)) (m ((c : Thread nD τ).loc main_arg2)) :=
  (dats m 0 c).arrAt_eq_of_cover 4 _ (fun t _ => flushed_eq m c t) covered
end

section
open Cert.ProjectOutRefIdeal Cert.ProjectOutRefIdeal.Gen
/-- The reference's result index by index: one product over all 4096 columns. -/
theorem ref_apply (a0 a1 : Vec Ideal S24576x2048 .bf16) (w : Vec Ideal S1x4096x4096 .f32) (i : S24576x4096.Idx) :
    truncf (F := Ideal) .bf16 (Host.dotGeneral (φ₁ := .f32) (φ₂ := .f32) dot_S24576x4096_S4096x4096_S24576x4096_1_0_0_1_n_n none (extf .f32 (concatenate S24576x4096 1 [⟨S24576x2048, a0⟩, ⟨S24576x2048, a1⟩] concatenates_S24576x2048_S24576x2048_S24576x4096_d1) bitsLt_bf16_f32) (shapeCast _ (w : FVec Ideal S1x4096x4096 .f32) shapeCasts_S1x4096x4096_S4096x4096)) bitsLt_bf16_f32 i
      = ∑ k : Fin 4096, (if h : k.val < 2048 then a0 (ix2 (i 0) ⟨k.val, h⟩) else a1 (ix2 (i 0) ⟨k.val - 2048, by omega⟩)) * w (ix3 0 k (i 1)) := by
  pointwise

/-- The two halves' sums are the one sum over all 4096 columns. -/
theorem ref_eq (a0 a1 : Vec Ideal S24576x2048 .bf16) (w : Vec Ideal S1x4096x4096 .f32) :
    truncf (F := Ideal) .bf16 (Host.dotGeneral (φ₁ := .f32) (φ₂ := .f32) dot_S24576x4096_S4096x4096_S24576x4096_1_0_0_1_n_n none (extf .f32 (concatenate S24576x4096 1 [⟨S24576x2048, a0⟩, ⟨S24576x2048, a1⟩] concatenates_S24576x2048_S24576x2048_S24576x4096_d1) bitsLt_bf16_f32) (shapeCast _ (w : FVec Ideal S1x4096x4096 .f32) shapeCasts_S1x4096x4096_S4096x4096)) bitsLt_bf16_f32
      = T a0 a1 w := by
  funext i
  rw [ref_apply]
  refine (Fin.sum_univ_add (a := 2048) (b := 2048) _).trans (congrArg₂ (· + ·) (Finset.sum_congr rfl fun k _ => ?_) (Finset.sum_congr rfl fun k _ => ?_))
  · have h : (Fin.castAdd 2048 k).val < 2048 := k.isLt
    rw [dif_pos h]; rfl
  · have h : ¬ (Fin.natAdd 2048 k).val < 2048 := by simp
    rw [dif_neg h]
    refine congrArg₂ (· * ·) (congrArg a1 (congrArg (ix2 (i 0)) (Fin.ext ?_))) rfl
    show 2048 + k.val - 2048 = k.val
    omega
end
end Cert.Proof.ProjectOut
-- ==== Proof.SwaBias.lean ====
/- The sliding-window attention's bias table: the array the run leaves, at the ideal instance. -/
module
public import proofs.«01_k».proof.Proof.Gen.SwaBiasIdeal.Value
public import proofs.«01_k».proof.Proof.Gen.SwaBiasRefIdeal.Run
public import Idealize.ShloMosaic.Lib.Pointwise
@[expose] public section
noncomputable section
namespace Cert.Proof.SwaBias
open Idealize.ShloMosaic Idealize.ShloMosaic.TcCoe Idealize.SL.Sem
open Idealize.ShloMosaic.Pipeline (Dat)

/-! ## Words that hold small integers -/

/-- The word of an integer, and the bit of a proposition. -/
abbrev W (z : Int) : BitVec 32 := BitVec.ofInt 32 z
def B (p : Prop) : BitVec 1 := open Classical in if p then 1#1 else 0#1

theorem B_congr {p q : Prop} (h : p ↔ q) : B p = B q := congrArg B (propext h)
theorem B_pos {p : Prop} (h : p) : B p = 1#1 := if_pos h
theorem B_neg {p : Prop} (h : ¬p) : B p = 0#1 := if_neg h

theorem toInt_W (z : Int) (h : -2000 ≤ z ∧ z ≤ 2000) : (W z).toInt = z := by
  rw [BitVec.toInt_ofInt]
  exact Int.bmod_eq_of_le (by omega) (by omega)

theorem W_nat (n : Nat) : BitVec.ofNat 32 n = W n := (BitVec.ofInt_natCast 32 n).symm

theorem sub_W (a b : Int) : IntOp.subi (W a) (W b) = W (a - b) := by
  apply BitVec.eq_of_toInt_eq
  show (BitVec.ofInt 32 a - BitVec.ofInt 32 b).toInt = _
  rw [BitVec.toInt_sub, BitVec.toInt_ofInt, BitVec.toInt_ofInt, BitVec.toInt_ofInt]
  simp
theorem add_W (a b : Int) : IntOp.addi (W a) (W b) = W (a + b) := (BitVec.ofInt_add a b).symm

theorem ofBool_B (b : Bool) : BitVec.ofBool b = B (b = true) := by
  cases b
  · exact (B_neg (by decide)).symm
  · exact (B_pos rfl).symm

theorem slt_W (a b : Int) (ha : -2000 ≤ a ∧ a ≤ 2000) (hb : -2000 ≤ b ∧ b ≤ 2000) : IntOp.cmpi .slt (W a) (W b) = B (a < b) := by
  show BitVec.ofBool ((W a).slt (W b)) = _
  rw [ofBool_B, BitVec.slt_iff_toInt_lt, toInt_W a ha, toInt_W b hb]
theorem sle_W (a b : Int) (ha : -2000 ≤ a ∧ a ≤ 2000) (hb : -2000 ≤ b ∧ b ≤ 2000) : IntOp.cmpi .sle (W a) (W b) = B (a ≤ b) := by
  show BitVec.ofBool ((W a).sle (W b)) = _
  rw [ofBool_B, BitVec.sle_iff_toInt_le, toInt_W a ha, toInt_W b hb]
theorem sge_W (a b : Int) (ha : -2000 ≤ a ∧ a ≤ 2000) (hb : -2000 ≤ b ∧ b ≤ 2000) : IntOp.cmpi .sge (W a) (W b) = B (b ≤ a) := by
  show BitVec.ofBool ((W b).sle (W a)) = _
  rw [ofBool_B, BitVec.sle_iff_toInt_le, toInt_W a ha, toInt_W b hb]

theorem abs_W (a : Int) (ha : -2000 ≤ a ∧ a ≤ 2000) : IntOp.absi (W a) = W |a| := by
  show (if (W a).msb then -(W a) else W a) = _
  rw [BitVec.msb_eq_toInt, toInt_W a ha]
  by_cases h : a < 0
  · rw [if_pos (by simpa using h), abs_of_neg h]
    exact BitVec.ofInt_neg.symm
  · rw [if_neg (by simpa using h), abs_of_nonneg (by omega)]
theorem min_W (a b : Int) (ha : -2000 ≤ a ∧ a ≤ 2000) (hb : -2000 ≤ b ∧ b ≤ 2000) : IntOp.minsi (W a) (W b) = W (min a b) := by
  show (if (W a).slt (W b) then W a else W b) = _
  by_cases h : a < b
  · rw [if_pos (by rw [BitVec.slt_iff_toInt_lt, toInt_W a ha, toInt_W b hb]; exact h), min_eq_left h.le]
  · rw [if_neg (by rw [BitVec.slt_iff_toInt_lt, toInt_W a ha, toInt_W b hb]; exact h), min_eq_right (by omega)]

theorem and_B (p q : Prop) : IntOp.andi (B p) (B q) = B (p ∧ q) := by
  by_cases hp : p <;> by_cases hq : q <;> simp [B, hp, hq, IntOp.andi]
theorem or_B (p q : Prop) : IntOp.ori (B p) (B q) = B (p ∨ q) := by
  by_cases hp : p <;> by_cases hq : q <;> simp [B, hp, hq, IntOp.ori]
theorem not_B (p : Prop) : IntOp.xori (B p) 1#1 = B (¬p) := by
  by_cases hp : p <;> simp [B, hp, IntOp.xori]
theorem select_B {α : Type} (p : Prop) [Decidable p] (a b : α) : Scalar.select (B p) a b = if p then a else b := by
  by_cases hp : p <;> simp [B, hp, Scalar.select]

/-! ## The call's words -/

section
open Cert.SwaBiasIdeal Cert.SwaBiasIdeal.Gen Cert.SwaBiasIdeal.Value

/-- Where the call's table holds a bias and not the large negative number: real keys of columns `lo` to `hi` in the band, and meta keys. -/
def valid (lo hi : BitVec 32) : IVec S128x384 1 :=
  ori (andi (andi (andi k0_pay4 (k0_pay10 k0_pay8 k0_pay9 256#32)) (cmpi .sge k0_pay6 (broadcast S128x384 lo))) (cmpi .slt k0_pay6 (broadcast S128x384 hi))) k0_pay5

/-- The distance of a query and a key; `far` is that of the meta keys. -/
def dist (far : IVec S128x384 32) : IVec S128x384 32 :=
  select k0_pay4 (absi (subi k0_pay8 (broadcast S128x384 128#32))) far

/-- The meta keys' distance in the first block, and in the others. -/
def near : IVec S128x384 32 :=
  minsi (subi (addi (broadcast S128x384 16#32) (iota .tc S128x384 32 [0] iota_S128x384_d0_w32)) k0_pay7) (broadcast S128x384 128#32)
def away : IVec S128x384 32 := broadcast S128x384 128#32

/-- A table from its words. -/
def cell {F : FTy → Type} [FloatOps F] (v : Elt F .f32) (w : IVec S128x384 1) (d : IVec S128x384 32) : FVec F S1x1x128x384 .f32 :=
  shapeCast S1x1x128x384 (select w (mulf (broadcast S128x384 (Scalar.subf (Scalar.ofBits .f32 0x00000000#32) v)) (sitofp .f32 d)) (broadcast S128x384 (Scalar.ofBits .f32 0xF149F2CA#32)))
    shapeCasts_S128x384_S1x1x128x384

end

section
open Cert.SwaBiasRefIdeal Cert.SwaBiasRefIdeal.Gen

/-- The reference's positions of the queries, from `a`, and of the keys, from `b`. -/
def qpos (a : BitVec 32) : IVec S128 32 := addi (broadcastInDim S128 ![] bcast_S_S128 (constantI S_ 32 a)) (iotaInDim S128 32 0)
def kpos (b : BitVec 32) : IVec S384 32 := addi (broadcastInDim S384 ![] bcast_S_S384 (constantI S_ 32 b)) (iotaInDim S384 32 0)

/-- The reference's distances and mask. -/
def rdist (a b : BitVec 32) : IVec S128x384 32 :=
  absi (subi (broadcastInDim S128x384 ![0, 1] bcast_S128x1_S128x384_0_1 (broadcastInDim S128x1 ![0] bcast_S128_S128x1_0 (qpos a))) (broadcastInDim S128x384 ![0, 1] bcast_S1x384_S128x384_0_1 (broadcastInDim S1x384 ![1] bcast_S384_S1x384_1 (kpos b))))
def rvalid (a b n : BitVec 32) : IVec S128x384 1 :=
  andi (andi (cmpi .sle (rdist a b) (broadcastInDim S128x384 ![] bcast_S_S128x384 (constantI S_ 32 128#32))) (broadcastInDim S128x384 ![0, 1] bcast_S1x384_S128x384_0_1 (cmpi .sge (broadcastInDim S1x384 ![1] bcast_S384_S1x384_1 (kpos b)) (broadcastInDim S1x384 ![] bcast_S_S1x384 (constantI S_ 32 0#32))))) (broadcastInDim S128x384 ![0, 1] bcast_S1x384_S128x384_0_1 (cmpi .slt (broadcastInDim S1x384 ![1] bcast_S384_S1x384_1 (kpos b)) (broadcastInDim S1x384 ![] bcast_S_S1x384 (constantI S_ 32 n))))
def rmeta (a : BitVec 32) : IVec S128x16 32 :=
  minsi (subi (broadcastInDim S128x16 ![0, 1] bcast_S128x1_S128x16_0_1 (addi (broadcastInDim S128x1 ![] bcast_S_S128x1 (constantI S_ 32 16#32)) (broadcastInDim S128x1 ![0] bcast_S128_S128x1_0 (qpos a)))) (broadcastInDim S128x16 ![0, 1] bcast_S1x16_S128x16_0_1 (broadcastInDim S1x16 ![1] bcast_S16_S1x16_1 (iotaInDim S16 32 0)))) (broadcastInDim S128x16 ![] bcast_S_S128x16 (constantI S_ 32 128#32))
end

section
open Cert.SwaBiasIdeal Cert.SwaBiasIdeal.Gen

variable (r : Fin 128) (c : Fin 384)

theorem iota0 : (iota .tc S128x384 32 [0] iota_S128x384_d0_w32 : IVec S128x384 32) (ix2 r c) = W r.val :=
  (show _ = BitVec.ofNat 32 (0 * 128 + r.val) from rfl).trans (by rw [Nat.zero_mul, Nat.zero_add]; exact W_nat _)
theorem iota1 : (iota .tc S128x384 32 [1] iota_S128x384_d1_w32 : IVec S128x384 32) (ix2 r c) = W c.val :=
  (show _ = BitVec.ofNat 32 (0 * 384 + c.val) from rfl).trans (by rw [Nat.zero_mul, Nat.zero_add]; exact W_nat _)

theorem pay2_W : (k0_pay2 (ix2 r c) : BitVec 1) = B ((r.val : Int) < 64) := by
  refine (show _ = IntOp.cmpi .slt _ (W 64) from rfl).trans ?_
  rw [iota0, slt_W _ _ (by omega) (by omega)]
theorem pay3_W : (k0_pay3 (ix2 r c) : BitVec 1) = B (¬(r.val : Int) < 64) :=
  (show _ = IntOp.xori (k0_pay2 (ix2 r c)) 1#1 from rfl).trans (by rw [pay2_W, not_B])
theorem col_lt (z : Int) (hz : -2000 ≤ z ∧ z ≤ 2000) : (cmpi .slt (iota .tc S128x384 32 [1] iota_S128x384_d1_w32) (broadcast S128x384 (W z)) (ix2 r c) : BitVec 1) = B ((c.val : Int) < z) :=
  (show _ = IntOp.cmpi .slt ((iota .tc S128x384 32 [1] iota_S128x384_d1_w32 : IVec S128x384 32) (ix2 r c)) (W z) from rfl).trans
    (by rw [iota1, slt_W _ _ (by omega) hz])
theorem col_ge (z : Int) (hz : -2000 ≤ z ∧ z ≤ 2000) : (cmpi .sge (iota .tc S128x384 32 [1] iota_S128x384_d1_w32) (broadcast S128x384 (W z)) (ix2 r c) : BitVec 1) = B (z ≤ (c.val : Int)) :=
  (show _ = IntOp.cmpi .sge ((iota .tc S128x384 32 [1] iota_S128x384_d1_w32 : IVec S128x384 32) (ix2 r c)) (W z) from rfl).trans
    (by rw [iota1, sge_W _ _ (by omega) hz])

/-- The columns of real keys, of meta keys, and the key a column holds. -/
def real : Prop := ((r.val : Int) < 64 ∧ (c.val : Int) < 320) ∨ (¬(r.val : Int) < 64 ∧ ((c.val : Int) < 64 ∨ 128 ≤ (c.val : Int)))
def meta' : Prop := (((r.val : Int) < 64 ∧ 320 ≤ (c.val : Int)) ∧ (c.val : Int) < 336) ∨ ((¬(r.val : Int) < 64 ∧ 64 ≤ (c.val : Int)) ∧ (c.val : Int) < 80)
def key : Int := if ¬(r.val : Int) < 64 ∧ (c.val : Int) < 64 then (c.val : Int) + 64 else c.val

theorem key_bound : 0 ≤ key r c ∧ key r c < 384 := by unfold key; split <;> omega

theorem pay4_W : (k0_pay4 (ix2 r c) : BitVec 1) = B (real r c) := by
  refine (show _ = IntOp.ori (IntOp.andi (k0_pay2 (ix2 r c)) (cmpi .slt (iota .tc S128x384 32 [1] iota_S128x384_d1_w32) (broadcast S128x384 (W 320)) (ix2 r c)))
    (IntOp.andi (k0_pay3 (ix2 r c)) (IntOp.ori (cmpi .slt (iota .tc S128x384 32 [1] iota_S128x384_d1_w32) (broadcast S128x384 (W 64)) (ix2 r c)) (cmpi .sge (iota .tc S128x384 32 [1] iota_S128x384_d1_w32) (broadcast S128x384 (W 128)) (ix2 r c)))) from rfl).trans ?_
  rw [pay2_W, pay3_W, col_lt r c 320 (by omega), col_lt r c 64 (by omega), col_ge r c 128 (by omega), or_B, and_B, and_B, or_B]
  rfl
theorem pay5_W : (k0_pay5 (ix2 r c) : BitVec 1) = B (meta' r c) := by
  refine (show _ = IntOp.ori (IntOp.andi (IntOp.andi (k0_pay2 (ix2 r c)) (cmpi .sge (iota .tc S128x384 32 [1] iota_S128x384_d1_w32) (broadcast S128x384 (W 320)) (ix2 r c))) (cmpi .slt (iota .tc S128x384 32 [1] iota_S128x384_d1_w32) (broadcast S128x384 (W 336)) (ix2 r c)))
    (IntOp.andi (IntOp.andi (k0_pay3 (ix2 r c)) (cmpi .sge (iota .tc S128x384 32 [1] iota_S128x384_d1_w32) (broadcast S128x384 (W 64)) (ix2 r c))) (cmpi .slt (iota .tc S128x384 32 [1] iota_S128x384_d1_w32) (broadcast S128x384 (W 80)) (ix2 r c))) from rfl).trans ?_
  rw [pay2_W, pay3_W, col_ge r c 320 (by omega), col_lt r c 336 (by omega), col_ge r c 64 (by omega), col_lt r c 80 (by omega), and_B, and_B, and_B, and_B, or_B]
  rfl
theorem pay6_W : (k0_pay6 (ix2 r c) : BitVec 32) = W (key r c) := by
  refine (show _ = Scalar.select (IntOp.andi (k0_pay3 (ix2 r c)) (cmpi .slt (iota .tc S128x384 32 [1] iota_S128x384_d1_w32) (broadcast S128x384 (W 64)) (ix2 r c)))
    (IntOp.addi ((iota .tc S128x384 32 [1] iota_S128x384_d1_w32 : IVec S128x384 32) (ix2 r c)) (W 64)) ((iota .tc S128x384 32 [1] iota_S128x384_d1_w32 : IVec S128x384 32) (ix2 r c)) from rfl).trans ?_
  rw [pay3_W, col_lt r c 64 (by omega), and_B, iota1, add_W, select_B]
  exact (apply_ite W _ _ _).symm
theorem pay7_W : (k0_pay7 (ix2 r c) : BitVec 32) = W (if (r.val : Int) < 64 then (c.val : Int) - 320 else (c.val : Int) - 64) := by
  refine (show _ = Scalar.select (k0_pay2 (ix2 r c)) (IntOp.subi ((iota .tc S128x384 32 [1] iota_S128x384_d1_w32 : IVec S128x384 32) (ix2 r c)) (W 320))
    (IntOp.subi ((iota .tc S128x384 32 [1] iota_S128x384_d1_w32 : IVec S128x384 32) (ix2 r c)) (W 64)) from rfl).trans ?_
  rw [pay2_W, iota1, sub_W, sub_W, select_B]
  exact (apply_ite W _ _ _).symm
theorem pay8_W : (k0_pay8 (ix2 r c) : BitVec 32) = W (key r c - r.val) :=
  (show _ = IntOp.subi (k0_pay6 (ix2 r c)) ((iota .tc S128x384 32 [0] iota_S128x384_d0_w32 : IVec S128x384 32) (ix2 r c)) from rfl).trans (by rw [pay6_W, iota0, sub_W])
theorem band_W : (k0_pay10 k0_pay8 k0_pay9 256#32 (ix2 r c) : BitVec 1) = B (0 ≤ key r c - r.val ∧ key r c - r.val ≤ 256) := by
  have hk := key_bound r c
  refine (show _ = IntOp.andi (IntOp.cmpi .sge (k0_pay8 (ix2 r c)) (W 0)) (IntOp.cmpi .sle (k0_pay8 (ix2 r c)) (W 256)) from rfl).trans ?_
  rw [pay8_W, sge_W _ _ (by omega) (by omega), sle_W _ _ (by omega) (by omega), and_B]

theorem valid_W (lo hi : Int) (hl : -2000 ≤ lo ∧ lo ≤ 2000) (hh : -2000 ≤ hi ∧ hi ≤ 2000) : (valid (W lo) (W hi) (ix2 r c) : BitVec 1)
    = B ((((real r c ∧ 0 ≤ key r c - r.val ∧ key r c - r.val ≤ 256) ∧ lo ≤ key r c) ∧ key r c < hi) ∨ meta' r c) := by
  have hk := key_bound r c
  refine (show _ = IntOp.ori (IntOp.andi (IntOp.andi (IntOp.andi (k0_pay4 (ix2 r c)) (k0_pay10 k0_pay8 k0_pay9 256#32 (ix2 r c))) (IntOp.cmpi .sge (k0_pay6 (ix2 r c)) (W lo))) (IntOp.cmpi .slt (k0_pay6 (ix2 r c)) (W hi)))
    (k0_pay5 (ix2 r c)) from rfl).trans ?_
  rw [pay4_W, band_W, pay6_W, pay5_W, sge_W _ _ (by omega) hl, slt_W _ _ (by omega) hh, and_B, and_B, and_B, or_B]

open Classical in
theorem dist_W (far : IVec S128x384 32) : (dist far (ix2 r c) : BitVec 32) = if real r c then W |key r c - r.val - 128| else far (ix2 r c) := by
  have hk := key_bound r c
  refine (show _ = Scalar.select (k0_pay4 (ix2 r c)) (IntOp.absi (IntOp.subi (k0_pay8 (ix2 r c)) (W 128))) (far (ix2 r c)) from rfl).trans ?_
  rw [pay4_W, pay8_W, sub_W, abs_W _ (by omega), select_B]
theorem near_W : (near (ix2 r c) : BitVec 32) = W (min (16 + r.val - (if (r.val : Int) < 64 then (c.val : Int) - 320 else (c.val : Int) - 64)) 128) := by
  refine (show _ = IntOp.minsi (IntOp.subi (IntOp.addi (W 16) ((iota .tc S128x384 32 [0] iota_S128x384_d0_w32 : IVec S128x384 32) (ix2 r c))) (k0_pay7 (ix2 r c))) (W 128) from rfl).trans ?_
  rw [iota0, pay7_W, add_W, sub_W, min_W _ _ (by split <;> omega) (by omega)]
end

section
open Cert.SwaBiasRefIdeal Cert.SwaBiasRefIdeal.Gen

theorem qpos_W (a : Int) (r : Fin 128) (q : S128.Idx) (h : (q 0).val = r.val) : (qpos (W a) q : BitVec 32) = W (a + r.val) := by
  refine (show _ = IntOp.addi (W a) (BitVec.ofNat 32 (q 0).val) from rfl).trans ?_
  rw [W_nat, add_W, h]
theorem kpos_W (b : Int) (k : Fin 384) (q : S384.Idx) (h : (q 0).val = k.val) : (kpos (W b) q : BitVec 32) = W (b + k.val) := by
  refine (show _ = IntOp.addi (W b) (BitVec.ofNat 32 (q 0).val) from rfl).trans ?_
  rw [W_nat, add_W, h]

variable (a b n : Int) (ha : -500 ≤ a ∧ a ≤ 500) (hb : -500 ≤ b ∧ b ≤ 500) (hn : -500 ≤ n ∧ n ≤ 500)
include ha hb

theorem rdist_W (r : Fin 128) (k : Fin 384) : (rdist (W a) (W b) (ix2 r k) : BitVec 32) = W |a + r.val - (b + k.val)| := by
  refine (show _ = IntOp.absi (IntOp.subi (qpos (W a) _) (kpos (W b) _)) from rfl).trans ?_
  rw [qpos_W a r _ rfl, kpos_W b k _ rfl, sub_W, abs_W _ (by omega)]
include hn
theorem rvalid_W (r : Fin 128) (k : Fin 384) : (rvalid (W a) (W b) (W n) (ix2 r k) : BitVec 1) = B ((|a + r.val - (b + k.val)| ≤ 128 ∧ 0 ≤ b + k.val) ∧ b + k.val < n) := by
  refine (show _ = IntOp.andi (IntOp.andi (IntOp.cmpi .sle (rdist (W a) (W b) (ix2 r k)) (W 128)) (IntOp.cmpi .sge (kpos (W b) _) (W 0))) (IntOp.cmpi .slt (kpos (W b) _) (W n)) from rfl).trans ?_
  have h : -2000 ≤ |a + r.val - (b + k.val)| ∧ |a + r.val - (b + k.val)| ≤ 2000 := by
    rcases abs_cases (a + (r.val : Int) - (b + k.val)) with h | h <;> omega
  rw [rdist_W a b ha hb, kpos_W b k _ rfl, sle_W _ _ h (by omega), sge_W _ _ (by omega) (by omega), slt_W _ _ (by omega) (by omega), and_B, and_B]
omit hb hn
theorem rmeta_W (r : Fin 128) (j : Fin 16) : (rmeta (W a) (ix2 r j) : BitVec 32) = W (min (16 + (a + r.val) - j.val) 128) := by
  refine (show _ = IntOp.minsi (IntOp.subi (IntOp.addi (W 16) (qpos (W a) _)) (BitVec.ofNat 32 j.val)) (W 128) from rfl).trans ?_
  rw [qpos_W a r _ rfl, W_nat, add_W, sub_W, min_W _ _ (by omega) (by omega)]
end

section
open Cert.SwaBiasRefIdeal Cert.SwaBiasRefIdeal.Gen

/-- The reference's biases of the three blocks' keys, of the meta keys, and of the unused columns. -/
def real3 (a b n : BitVec 32) (x : FVec Ideal S16 .f32) : FVec Ideal S16x128x384 .f32 :=
  select (broadcastInDim S16x128x384 ![1, 2] bcast_S128x384_S16x128x384_1_2 (rvalid a b n)) (mulf (broadcastInDim S16x128x384 ![0, 1, 2] bcast_S16x1x1_S16x128x384_0_1_2 (Host.negf (broadcastInDim S16x1x1 ![0] bcast_S16_S16x1x1_0 x))) (broadcastInDim S16x128x384 ![0, 1, 2] bcast_S1x128x384_S16x128x384_0_1_2 (broadcastInDim S1x128x384 ![1, 2] bcast_S128x384_S1x128x384_1_2 (sitofp .f32 (rdist a b))))) (broadcastInDim S16x128x384 ![] bcast_S_S16x128x384 (id (constant S_ .f32 0xF149F2CA#32)))
def meta3 (a : BitVec 32) (x : FVec Ideal S16 .f32) : FVec Ideal S16x128x16 .f32 :=
  mulf (broadcastInDim S16x128x16 ![0, 1, 2] bcast_S16x1x1_S16x128x16_0_1_2 (Host.negf (broadcastInDim S16x1x1 ![0] bcast_S16_S16x1x1_0 x))) (broadcastInDim S16x128x16 ![0, 1, 2] bcast_S1x128x16_S16x128x16_0_1_2 (broadcastInDim S1x128x16 ![1, 2] bcast_S128x16_S1x128x16_1_2 (sitofp .f32 (rmeta a))))
def none3 : FVec Ideal S16x128x48 .f32 := broadcastInDim S16x128x48 ![] bcast_S_S16x128x48 (constant S_ .f32 0xF149F2CA#32)

/-- The reference's table of one kind of block. -/
def table (u : FVec Ideal S16x128x384 .f32) (v : FVec Ideal S16x128x16 .f32) (w : FVec Ideal S16x128x48 .f32) : FVec Ideal S16x128x384 .f32 :=
  concatenate S16x128x384 1 [⟨S16x64x384, (concatenate S16x64x384 2 [⟨S16x64x320, (extractStridedSlice S16x64x320 ![0, 0, 0] u slices_S16x128x384_S16x64x320_0_0_0 : FVec Ideal S16x64x320 .f32)⟩, ⟨S16x64x16, (extractStridedSlice S16x64x16 ![0, 0, 0] v slices_S16x128x16_S16x64x16_0_0_0 : FVec Ideal S16x64x16 .f32)⟩, ⟨S16x64x48, (extractStridedSlice S16x64x48 ![0, 0, 0] w slices_S16x128x48_S16x64x48_0_0_0 : FVec Ideal S16x64x48 .f32)⟩] concatenates_S16x64x320_S16x64x16_S16x64x48_S16x64x384_d2 : FVec Ideal S16x64x384 .f32)⟩,
    ⟨S16x64x384, (concatenate S16x64x384 2 [⟨S16x64x64, (extractStridedSlice S16x64x64 ![0, 64, 64] u slices_S16x128x384_S16x64x64_0_64_64 : FVec Ideal S16x64x64 .f32)⟩, ⟨S16x64x16, (extractStridedSlice S16x64x16 ![0, 64, 0] v slices_S16x128x16_S16x64x16_0_64_0 : FVec Ideal S16x64x16 .f32)⟩, ⟨S16x64x48, (extractStridedSlice S16x64x48 ![0, 64, 0] w slices_S16x128x48_S16x64x48_0_64_0 : FVec Ideal S16x64x48 .f32)⟩, ⟨S16x64x256, (extractStridedSlice S16x64x256 ![0, 64, 128] u slices_S16x128x384_S16x64x256_0_64_128 : FVec Ideal S16x64x256 .f32)⟩] concatenates_S16x64x64_S16x64x16_S16x64x48_S16x64x256_S16x64x384_d2 : FVec Ideal S16x64x384 .f32)⟩] concatenates_S16x64x384_S16x64x384_S16x128x384_d1

def tableOf (a b n : BitVec 32) (x : FVec Ideal S16 .f32) : FVec Ideal S16x128x384 .f32 := table (real3 a b n x) (meta3 a x) none3

/-- The reference's result: the tables of the four kinds of block. -/
def refOut (x : FVec Ideal S16 .f32) : FVec Ideal S4x16x128x384 .f32 :=
  concatenate S4x16x128x384 0 [⟨S1x16x128x384, (broadcastInDim S1x16x128x384 ![1, 2, 3] bcast_S16x128x384_S1x16x128x384_1_2_3 (tableOf 128#32 0#32 384#32 x) : FVec Ideal S1x16x128x384 .f32)⟩,
    ⟨S1x16x128x384, (broadcastInDim S1x16x128x384 ![1, 2, 3] bcast_S16x128x384_S1x16x128x384_1_2_3 (tableOf 0#32 4294967168#32 256#32 x) : FVec Ideal S1x16x128x384 .f32)⟩,
    ⟨S1x16x128x384, (broadcastInDim S1x16x128x384 ![1, 2, 3] bcast_S16x128x384_S1x16x128x384_1_2_3 (tableOf 128#32 0#32 256#32 x) : FVec Ideal S1x16x128x384 .f32)⟩,
    ⟨S1x16x128x384, (broadcastInDim S1x16x128x384 ![1, 2, 3] bcast_S16x128x384_S1x16x128x384_1_2_3 (tableOf 0#32 4294967168#32 128#32 x) : FVec Ideal S1x16x128x384 .f32)⟩]
    concatenates_S1x16x128x384_S1x16x128x384_S1x16x128x384_S1x16x128x384_S4x16x128x384_d0

theorem ref_out (V0 : Valuation τ sig (Elt Ideal)) : Value.res_out0 V0 = refOut (V0 (Proc.devRef .tc main_arg0)) := rfl

theorem real3_apply (a b n : BitVec 32) (x : FVec Ideal S16 .f32) (h : Fin 16) (r : Fin 128) (k : Fin 384) :
    real3 a b n x (ix3 h r k) = if rvalid a b n (ix2 r k) = 1#1 then -(x (ix1 h)) * (((rdist a b (ix2 r k) : BitVec 32).toInt : ℝ) : EReal) else Ideal.ofBits .f32 0xF149F2CA#32 := by
  pointwise [real3]
  rfl
theorem meta3_apply (a : BitVec 32) (x : FVec Ideal S16 .f32) (h : Fin 16) (r : Fin 128) (k : Fin 16) :
    meta3 a x (ix3 h r k) = -(x (ix1 h)) * (((rmeta a (ix2 r k) : BitVec 32).toInt : ℝ) : EReal) := by
  pointwise [meta3]
  rfl
theorem table_apply (u : FVec Ideal S16x128x384 .f32) (v : FVec Ideal S16x128x16 .f32) (w : FVec Ideal S16x128x48 .f32) (h : Fin 16) (r : Fin 128) (k : Fin 384) :
    table u v w (ix3 h r k) = if r.val < 64 then if hk : k.val < 320 then u (ix3 h r k) else if hk : k.val - 320 < 16 then v (ix3 h r ⟨k.val - 320, hk⟩) else w (ix3 h r ⟨k.val - 320 - 16, by omega⟩)
      else if hk : k.val < 64 then u (ix3 h r ⟨64 + k.val, by omega⟩) else if hk : k.val - 64 < 16 then v (ix3 h r ⟨k.val - 64, hk⟩) else if hk : k.val - 64 - 16 < 48 then w (ix3 h r ⟨k.val - 64 - 16, hk⟩)
        else u (ix3 h r ⟨128 + (k.val - 64 - 16 - 48), by omega⟩) := by
  pointwise [table]
  by_cases hr : r.val < 64
  · rw [dif_pos hr, if_pos hr]
  · rw [dif_neg hr, if_neg hr]
    have e : (⟨64 + (r.val - 64), by omega⟩ : Fin 128) = r := Fin.ext (by show 64 + (r.val - 64) = r.val; omega)
    simp only [e]
end

/-! ## The two tables cell by cell -/

theorem B_iff (p : Prop) : B p = 1#1 ↔ p := by
  by_cases h : p <;> simp [B, h]

theorem bias_congr {v : EReal} {p q : Prop} {d d' : BitVec 32} {z : EReal} (h : p ↔ q) (hd : d = d') :
    (if B p = 1#1 then (Ideal.ofBits .f32 0x00000000#32 - v) * ((d.toInt : ℝ) : EReal) else z) = if B q = 1#1 then -v * ((d'.toInt : ℝ) : EReal) else z := by
  rw [B_congr h, hd, Ideal.ofBits_zero_f32, zero_sub]

section
open Cert.SwaBiasIdeal Cert.SwaBiasIdeal.Gen

theorem cell_apply (v : Elt Ideal .f32) (w : IVec S128x384 1) (d : IVec S128x384 32) (r : Fin 128) (c : Fin 384) :
    cell (F := Ideal) v w d (ix4 0 0 r c) = if w (ix2 r c) = 1#1 then (Ideal.ofBits .f32 0x00000000#32 - v) * (((d (ix2 r c) : BitVec 32).toInt : ℝ) : EReal) else Ideal.ofBits .f32 0xF149F2CA#32 := by
  pointwise [cell]
  rfl

theorem cell_eq (a b n lo hi : Int) (ha : 0 ≤ a ∧ a ≤ 128) (hb : b = a - 128) (hn : -500 ≤ n ∧ n ≤ 500) (hl : lo = -b) (hh : hi = n - b)
    (far : IVec S128x384 32) (x : FVec Ideal S16 .f32) (h : Fin 16) (r : Fin 128) (c : Fin 384)
    (hf : meta' r c → (far (ix2 r c) : BitVec 32) = W (min (16 + (a + r.val) - (if (r.val : Int) < 64 then (c.val : Int) - 320 else (c.val : Int) - 64)) 128)) :
    cell (F := Ideal) (x (ix1 h)) (valid (W lo) (W hi)) (dist far) (ix4 0 0 r c) = tableOf (W a) (W b) (W n) x (ix3 h r c) := by
  have hr2 := r.isLt
  have hc2 := c.isLt
  rw [cell_apply, valid_W r c lo hi (by omega) (by omega), dist_W]
  unfold tableOf
  rw [table_apply]
  have real_case (k : Fin 384) (hreal : real r c) (hm : ¬meta' r c) (hk : key r c = k.val) :
      (if B ((((real r c ∧ 0 ≤ key r c - r.val ∧ key r c - r.val ≤ 256) ∧ lo ≤ key r c) ∧ key r c < hi) ∨ meta' r c) = 1#1
        then (Ideal.ofBits .f32 0x00000000#32 - x (ix1 h)) * ((((W |key r c - r.val - 128|) : BitVec 32).toInt : ℝ) : EReal) else Ideal.ofBits .f32 0xF149F2CA#32)
        = real3 (W a) (W b) (W n) x (ix3 h r k) := by
    rw [real3_apply, rvalid_W a b n (by omega) (by omega) hn, rdist_W a b (by omega) (by omega), hk]
    have e : |a + r.val - (b + k.val)| = |(k.val : Int) - r.val - 128| := by
      rw [show a + (r.val : Int) - (b + k.val) = -((k.val : Int) - r.val - 128) by omega, abs_neg]
    rw [e]
    refine bias_congr ?_ rfl
    rw [abs_le]
    constructor
    · rintro (⟨⟨⟨-, g1, g2⟩, g3⟩, g4⟩ | g)
      · exact ⟨⟨⟨by omega, by omega⟩, by omega⟩, by omega⟩
      · exact absurd g hm
    · rintro ⟨⟨⟨g1, g2⟩, g3⟩, g4⟩
      exact .inl ⟨⟨⟨hreal, by omega, by omega⟩, by omega⟩, by omega⟩
  have meta_case (j : Fin 16) (hreal : ¬real r c) (hm : meta' r c) (hj : (if (r.val : Int) < 64 then (c.val : Int) - 320 else (c.val : Int) - 64) = j.val) :
      (if B ((((real r c ∧ 0 ≤ key r c - r.val ∧ key r c - r.val ≤ 256) ∧ lo ≤ key r c) ∧ key r c < hi) ∨ meta' r c) = 1#1
        then (Ideal.ofBits .f32 0x00000000#32 - x (ix1 h)) * (((far (ix2 r c) : BitVec 32).toInt : ℝ) : EReal) else Ideal.ofBits .f32 0xF149F2CA#32)
        = meta3 (W a) x (ix3 h r j) := by
    rw [meta3_apply, rmeta_W a (by omega), hf hm, hj, if_pos ((B_iff _).2 (.inr hm)), Ideal.ofBits_zero_f32, zero_sub]
  have none_case (j : Fin 48) (d : BitVec 32) (hreal : ¬real r c) (hm : ¬meta' r c) :
      (if B ((((real r c ∧ 0 ≤ key r c - r.val ∧ key r c - r.val ≤ 256) ∧ lo ≤ key r c) ∧ key r c < hi) ∨ meta' r c) = 1#1
        then (Ideal.ofBits .f32 0x00000000#32 - x (ix1 h)) * ((d.toInt : ℝ) : EReal) else Ideal.ofBits .f32 0xF149F2CA#32)
        = none3 (ix3 h r j) :=
    if_neg fun g => ((B_iff _).1 g).elim (fun g => hreal g.1.1.1) hm
  by_cases hr : r.val < 64
  · rw [if_pos hr]
    by_cases h1 : c.val < 320
    · have hreal : real r c := .inl ⟨by omega, by omega⟩
      rw [dif_pos h1, if_pos hreal]
      exact real_case c hreal (by unfold meta'; omega) (if_neg (by omega))
    rw [dif_neg h1]
    have hreal : ¬real r c := by unfold real; omega
    rw [if_neg hreal]
    by_cases h2 : c.val - 320 < 16
    · rw [dif_pos h2]
      exact meta_case _ hreal (.inl ⟨⟨by omega, by omega⟩, by omega⟩) ((if_pos (by omega)).trans (by show (c.val : Int) - 320 = ((c.val - 320 : Nat) : Int); omega))
    · rw [dif_neg h2]
      exact none_case _ _ hreal (by unfold meta'; omega)
  · rw [if_neg hr]
    by_cases h1 : c.val < 64
    · have hreal : real r c := .inr ⟨by omega, .inl (by omega)⟩
      rw [dif_pos h1, if_pos hreal]
      exact real_case _ hreal (by unfold meta'; omega) ((if_pos ⟨by omega, by omega⟩).trans (by show (c.val : Int) + 64 = ((64 + c.val : Nat) : Int); omega))
    rw [dif_neg h1]
    by_cases h2 : c.val - 64 < 16
    · have hreal : ¬real r c := by unfold real; omega
      rw [dif_pos h2, if_neg hreal]
      exact meta_case _ hreal (.inr ⟨⟨by omega, by omega⟩, by omega⟩) ((if_neg (by omega)).trans (by show (c.val : Int) - 64 = ((c.val - 64 : Nat) : Int); omega))
    rw [dif_neg h2]
    by_cases h3 : c.val - 64 - 16 < 48
    · have hreal : ¬real r c := by unfold real; omega
      rw [dif_pos h3, if_neg hreal]
      exact none_case _ _ hreal (by unfold meta'; omega)
    · have hreal : real r c := .inr ⟨by omega, .inr (by omega)⟩
      rw [dif_neg h3, if_pos hreal]
      exact real_case _ hreal (by unfold meta'; omega) ((if_neg (by omega)).trans (by show (c.val : Int) = ((128 + (c.val - 64 - 16 - 48) : Nat) : Int); omega))

theorem far_away (r : Fin 128) (c : Fin 384) (hm : meta' r c) : (away (ix2 r c) : BitVec 32) = W (min (16 + (128 + r.val) - (if (r.val : Int) < 64 then (c.val : Int) - 320 else (c.val : Int) - 64)) 128) := by
  refine (show _ = W 128 from rfl).trans (congrArg W (min_eq_right ?_).symm)
  unfold meta' at hm
  split <;> omega
theorem far_near (r : Fin 128) (c : Fin 384) : (near (ix2 r c) : BitVec 32) = W (min (16 + (0 + r.val) - (if (r.val : Int) < 64 then (c.val : Int) - 320 else (c.val : Int) - 64)) 128) := by
  rw [near_W, Int.zero_add]

theorem pay11_cell {F : FTy → Type} [FloatOps F] (v : Elt F .f32) : k0_pay11 v k0_pay4 k0_pay5 k0_pay6 k0_pay8 k0_pay9 256#32 = cell v (valid 0#32 384#32) (dist away) := rfl
theorem pay14_cell {F : FTy → Type} [FloatOps F] (v : Elt F .f32) : k0_pay14 v (k0_pay12 k0_pay4 k0_pay5 k0_pay6 k0_pay8 k0_pay9 256#32)
    (k0_pay13 (F := F) (iota .tc S128x384 32 [0] iota_S128x384_d0_w32) k0_pay4 k0_pay7 k0_pay8) (Scalar.ofBits .f32 0x00000000#32) = cell v (valid 128#32 384#32) (dist near) := rfl
theorem pay15_cell {F : FTy → Type} [FloatOps F] (v : Elt F .f32) : k0_pay15 v k0_pay4 k0_pay5 k0_pay6 k0_pay8 (k0_pay10 k0_pay8 k0_pay9 256#32) = cell v (valid 0#32 256#32) (dist away) := rfl
theorem pay1_cell {F : FTy → Type} [FloatOps F] (v : Elt F .f32) : k0_pay1 v k0_pay4 k0_pay7 k0_pay8 (k0_pay16 k0_pay4 k0_pay5 k0_pay6 (k0_pay10 k0_pay8 k0_pay9 256#32))
    (k0_pay17 (iota .tc S128x384 32 [0] iota_S128x384_d0_w32)) = cell v (valid 128#32 256#32) (dist near) := rfl
end

section
open Cert.SwaBiasIdeal Cert.SwaBiasIdeal.Gen Cert.SwaBiasIdeal.Value

theorem ref_apply (x : FVec Ideal S16 .f32) (p : Fin 4) (h : Fin 16) (r : Fin 128) (c : Fin 384) :
    refOut x (ix4 p h r c) = if p.val < 1 then tableOf (W 128) (W 0) (W 384) x (ix3 h r c) else if p.val - 1 < 1 then tableOf (W 0) (W (-128)) (W 256) x (ix3 h r c)
      else if p.val - 1 - 1 < 1 then tableOf (W 128) (W 0) (W 256) x (ix3 h r c) else tableOf (W 0) (W (-128)) (W 128) x (ix3 h r c) := by
  pointwise [refOut]
  rfl

/-- The four stores of a grid point, as one block of the reference's table. -/
theorem out_eq (c : Dev nD) (i : grid0.Coords) (arg1 : Memref sig .tc .smem S16 .f32) (harg1 : arg1.IsWhole) (arg2 : Memref sig .tc .vmem S4x1x128x384 .f32) (harg2 : arg2.IsWhole)
    (x : Vec Ideal S16 .f32) (h : Fin 16) (hi : (i 0).val = h.val) (y : S4x1x128x384.Idx) :
    out0_A_1 c i arg1 harg1 arg2 harg2 x y = refOut x (ix4 (y 0) h (y 2) (y 3)) := by
  unfold out0_A_1
  rw [View.read_writes_eq_canon _ _ _ (cover0_A_1 c i arg1 harg1 arg2 harg2 x)]
  refine View.canon_apply_of_pieces (fun y => refOut x (ix4 (y 0) h (y 2) (y 3))) _ ?_ y (cover0_A_1 c i arg1 harg1 arg2 harg2 x y)
  unfold kernelRun0_A
  dsimp only
  sl_unfold_words
  simp only [View.readAt_eq_ld, harg1.read_unread]
  have hv (off : Fin S16.rank → Nat) (inb : ∀ a, off a + S1.size a ≤ S16.size a) (z : S1.Idx) (e : off = ![h.val]) : View.ld x (Rect.unit off S1.size inb) z = x (ix1 h) := by
    subst e
    refine congrArg x (funext fun a => Fin.ext ?_)
    fin_cases a
    have hz : (z 0).val < 1 := (z 0).isLt
    show h.val + 1 * (z 0).val = h.val
    omega
  have hoff : (![BitVec.toNat (Scalar.indexCast (BitVec.ofNat 32 (i 0).val))] : Fin S16.rank → Nat) = ![h.val] := by
    have := h.isLt
    rw [hi]
    show ![(BitVec.ofNat 32 h.val).toNat] = _
    rw [BitVec.toNat_ofNat, Nat.mod_eq_of_lt (by omega)]
  have hidx (z : S1x1x128x384.Idx) : z = ix4 0 0 (z 2) (z 3) := by
    funext a
    fin_cases a
    · exact Fin.ext (Nat.lt_one_iff.1 (z 0).isLt)
    · exact Fin.ext (Nat.lt_one_iff.1 (z 1).isLt)
    · rfl
    · rfl
  have hat (q : Fin 4) (inb : ∀ a, (![q.val, 0, 0, 0] : Fin 4 → Nat) a + S1x1x128x384.size a ≤ S4x1x128x384.size a) (z : S1x1x128x384.Idx) :
      (ix4 ((Rect.unit (s := S4x1x128x384) ![q.val, 0, 0, 0] S1x1x128x384.size inb).emb z 0) h ((Rect.unit (s := S4x1x128x384) ![q.val, 0, 0, 0] S1x1x128x384.size inb).emb z 2)
        ((Rect.unit (s := S4x1x128x384) ![q.val, 0, 0, 0] S1x1x128x384.size inb).emb z 3) : S4x16x128x384.Idx) = ix4 q h (z 2) (z 3) := by
    have h0 : (z 0).val < 1 := (z 0).isLt
    funext a
    fin_cases a
    · exact Fin.ext (show q.val + 1 * (z 0).val = q.val by omega)
    · rfl
    · exact Fin.ext (show 0 + 1 * (z 2).val = (z 2).val by omega)
    · exact Fin.ext (show 0 + 1 * (z 3).val = (z 3).val by omega)
  intro p hp
  simp only [List.mem_cons, List.not_mem_nil, or_false] at hp
  rcases hp with rfl | rfl | rfl | rfl
  · intro z
    refine ((congrFun ((congrArg (fun v => k0_pay1 v _ _ _ _ _) (hv _ _ _ hoff)).trans (pay1_cell _)) z).trans (congrArg _ (hidx z))).trans (Eq.trans ?_ (congrArg (refOut x) (hat 3 inb_S4x1x128x384_S1x1x128x384_3_0_0_0 z)).symm)
    exact (cell_eq 0 (-128) 128 128 256 (by omega) (by omega) (by omega) (by omega) (by omega) near x h (z 2) (z 3) fun _ => far_near _ _).trans (ref_apply x 3 h (z 2) (z 3)).symm
  · intro z
    refine ((congrFun ((congrArg (fun v => k0_pay15 v _ _ _ _ _) (hv _ _ _ hoff)).trans (pay15_cell _)) z).trans (congrArg _ (hidx z))).trans (Eq.trans ?_ (congrArg (refOut x) (hat 2 inb_S4x1x128x384_S1x1x128x384_2_0_0_0 z)).symm)
    exact (cell_eq 128 0 256 0 256 (by omega) (by omega) (by omega) (by omega) (by omega) away x h (z 2) (z 3) (far_away _ _)).trans (ref_apply x 2 h (z 2) (z 3)).symm
  · intro z
    refine ((congrFun ((congrArg (fun v => k0_pay14 v _ _ _) (hv _ _ _ hoff)).trans (pay14_cell _)) z).trans (congrArg _ (hidx z))).trans (Eq.trans ?_ (congrArg (refOut x) (hat 1 inb_S4x1x128x384_S1x1x128x384_1_0_0_0 z)).symm)
    exact (cell_eq 0 (-128) 256 128 384 (by omega) (by omega) (by omega) (by omega) (by omega) near x h (z 2) (z 3) fun _ => far_near _ _).trans (ref_apply x 1 h (z 2) (z 3)).symm
  · intro z
    refine ((congrFun ((congrArg (fun v => k0_pay11 v _ _ _ _ _ _) (hv _ _ _ hoff)).trans (pay11_cell _)) z).trans (congrArg _ (hidx z))).trans (Eq.trans ?_ (congrArg (refOut x) (hat 0 inb_S4x1x128x384_S1x1x128x384_0_0_0_0 z)).symm)
    exact (cell_eq 128 0 384 0 384 (by omega) (by omega) (by omega) (by omega) (by omega) away x h (z 2) (z 3) (far_away _ _)).trans (ref_apply x 0 h (z 2) (z 3)).symm

variable (m : (ℓ : Loc nD τ sig) → Buf (Elt Ideal) ℓ) (c : Dev nD)

theorem idx_eq : ∀ t : Fin cfg0.N, win0_1.index t = ![0, t.val, 0, 0] ∧ (grid0.coords t 0).val = t.val :=
  (by decide +kernel : ∀ t : Fin grid0.N, _)

theorem lt_16 (t : Fin cfg0.N) : t.val < 16 := lt_of_lt_of_eq t.isLt N_0

/-- The slopes a grid point sees: the whole array. -/
theorem blk0 (t : Fin cfg0.N) : iblk m c 0 t = m ((c : Thread nD τ).loc main_arg0) := by
  funext z
  have hz : win0_0.index t = ![0] := (by decide +kernel : ∀ t : Fin grid0.N, win0_0.index t = ![0]) t
  refine congrArg (m ((c : Thread nD τ).loc main_arg0)) (funext fun a => Fin.ext ?_)
  fin_cases a
  show win0_0.index t 0 * 16 + 1 * (z 0).val = (z 0).val
  rw [hz]
  simp

theorem flushed_eq (t : Fin cfg0.N) : (dats m 0 c).flushed 1 t = ((cfg0.win 1).blk t).view.read (Elt Ideal) (refOut (m ((c : Thread nD τ).loc main_arg0))) := by
  rw [flushed1_A, blk0]
  funext y
  refine (out_eq c _ _ _ _ _ _ ⟨t.val, lt_16 t⟩ (idx_eq t).2 y).trans (congrArg (refOut _) ?_)
  have h1 : (y 1).val < 1 := (y 1).isLt
  funext a
  fin_cases a
  · exact Fin.ext ((show (y 0).val = 0 * 4 + 1 * (y 0).val by omega).trans (show _ = win0_1.index t 0 * 4 + 1 * (y 0).val by rw [(idx_eq t).1]; rfl))
  · exact Fin.ext ((show t.val = t.val * 1 + 1 * (y 1).val by omega).trans (show _ = win0_1.index t 1 * 1 + 1 * (y 1).val by rw [(idx_eq t).1]; rfl))
  · exact Fin.ext ((show (y 2).val = 0 * 128 + 1 * (y 2).val by omega).trans (show _ = win0_1.index t 2 * 128 + 1 * (y 2).val by rw [(idx_eq t).1]; rfl))
  · exact Fin.ext ((show (y 3).val = 0 * 384 + 1 * (y 3).val by omega).trans (show _ = win0_1.index t 3 * 384 + 1 * (y 3).val by rw [(idx_eq t).1]; rfl))

theorem covered (i : S4x16x128x384.Idx) : ∃ t : Fin cfg0.N, (cfg0.win 1).flush t = true ∧ i ∈ ((cfg0.win 1).blk t).view.set := by
  have b0 : (i 0).val < 4 := (i 0).isLt
  have b1 : (i 1).val < 16 := (i 1).isLt
  have b2 : (i 2).val < 128 := (i 2).isLt
  have b3 : (i 3).val < 384 := (i 3).isLt
  have hN : (i 1).val < cfg0.N := lt_of_lt_of_eq b1 N_0.symm
  refine ⟨⟨(i 1).val, hN⟩, flush0_1 _, ?_⟩
  have h := (idx_eq ⟨(i 1).val, hN⟩).1
  show i ∈ ((View.whole main_v0).slice (win0_1.rect (⟨(i 1).val, hN⟩ : Fin cfg0.N))).set
  rw [View.set_slice_whole, Rect.mem_set_unit]
  intro a
  show win0_1.index _ a * S4x1x128x384.size a ≤ (i a).val ∧ (i a).val < win0_1.index _ a * S4x1x128x384.size a + S4x1x128x384.size a
  rw [h]
  fin_cases a
  · show 0 * 4 ≤ (i 0).val ∧ (i 0).val < 0 * 4 + 4
    omega
  · show (i 1).val * 1 ≤ (i 1).val ∧ (i 1).val < (i 1).val * 1 + 1
    omega
  · show 0 * 128 ≤ (i 2).val ∧ (i 2).val < 0 * 128 + 128
    omega
  · show 0 * 384 ≤ (i 3).val ∧ (i 3).val < 0 * 384 + 384
    omega

theorem final : (dats m 0 c).arrAt 1 cfg0.N = refOut (m ((c : Thread nD τ).loc main_arg0)) :=
  (dats m 0 c).arrAt_eq_of_cover 1 _ (fun t _ => flushed_eq m c t) covered
end

end Cert.Proof.SwaBias
-- ==== Proof.MetaNorm.lean ====
/- The meta tokens' norm before the mixers: the block of 128 rows the run leaves, at the ideal instance. -/
module
public import proofs.«01_k».proof.Proof.Gen.MetaNormIdeal.Value
public import proofs.«01_k».proof.Proof.Gen.MetaNormRefIdeal.Run
public import proofs.«01_k».proof.Proof.RefVal
public import Idealize.ShloMosaic.Lib.Pointwise
@[expose] public section
noncomputable section
namespace Cert.Proof.MetaNorm
open Idealize.ShloMosaic Idealize.ShloMosaic.TcCoe Idealize.SL.Sem
open Idealize.ShloMosaic.Pipeline (Dat)
open Cert.Proof.Post2 (nrm)

section
open Cert.MetaNormIdeal Cert.MetaNormIdeal.Gen Cert.MetaNormIdeal.Value

theorem out_eq {F : FTy → Type} [FloatOps F] (x0 : Vec F S128x4096 .f32) (x1 : Vec F S1x4096 .f32) :
    out0_2 x0 x1 = k0_pay1 x0 x1 := by
  have hz0 : (![0, 0] : Fin S128x4096.rank → Nat) = fun _ => 0 := funext fun a => by fin_cases a <;> rfl
  have hz1 : (![0, 0] : Fin S1x4096.rank → Nat) = fun _ => 0 := funext fun a => by fin_cases a <;> rfl
  unfold out0_2
  rw [View.canon_unit_zero hz0, View.ld_unit_zero hz0, View.ld_unit_zero hz1]

theorem pay_apply (x0 : Vec Ideal S128x4096 .f32) (x1 : Vec Ideal S1x4096 .f32) (j : S128x4096.Idx) :
    k0_pay1 (F := Ideal) x0 x1 j = nrm (fun k => x0 (ix2 (j 0) k)) (x1 (ix2 0 (j 1))) (x0 (ix2 (j 0) (j 1))) := by
  pointwise [k0_pay1, nrm]

/-- The block's rows: the 16 meta tokens, 96 rows of zeros, the 16 meta tokens again. -/
def row (x : S16x4096.Idx → EReal) (r : Fin 128) (k : Fin 4096) : EReal :=
  if h : r.val < 16 then x (ix2 ⟨r.val, h⟩ k) else if r.val < 112 then 0 else x (ix2 ⟨r.val - 112, by omega⟩ k)

/-- The result index by index. -/
def T (x : S16x4096.Idx → EReal) (g : S1x4096.Idx → EReal) : S128x4096.Idx → EReal := fun i =>
  nrm (row x (i 0)) (g (ix2 0 (i 1))) (row x (i 0) (i 1))

theorem idx_eq : ∀ t : Fin cfg0.N, win0_0.index t = ![0, 0] ∧ win0_1.index t = ![0, 0] ∧ win0_2.index t = ![0, 0] :=
  (by decide +kernel : ∀ t : Fin grid0.N, _)

variable (m : (ℓ : Loc nD τ sig) → Buf (Elt Ideal) ℓ) (c : Dev nD)

/-- The block as the run builds it. -/
def block (x : Vec Ideal S16x4096 .f32) : Vec Ideal S128x4096 .f32 :=
  concatenate S128x4096 0 [⟨S16x4096, x⟩, ⟨S96x4096, broadcastInDim S96x4096 ![] bcast_S_S96x4096 (constant (F := Ideal) S_ .f32 0x00000000#32)⟩, ⟨S16x4096, x⟩]
    concatenates_S16x4096_S96x4096_S16x4096_S128x4096_d0

theorem V_v1 : V m c main_v1 = block (m ((c : Thread nD τ).loc main_arg0)) := by
  unfold V
  after_results_simp
  rfl

theorem V_v3 : V m c main_v3 = shapeCast S1x4096 (shapeCast S4096 (m ((c : Thread nD τ).loc main_arg1)) shapeCasts_S1x4096_S4096) shapeCasts_S4096_S1x4096 := by
  unfold V
  after_results_simp
  rfl

theorem block_apply (x : Vec Ideal S16x4096 .f32) (i : S128x4096.Idx) : block x i = if h1 : (i 0).val < 16 then x (ix2 ⟨(i 0).val, h1⟩ (i 1))
    else if h2 : (i 0).val - 16 < 96 then Ideal.ofBits .f32 0x00000000#32
    else x (ix2 ⟨(i 0).val - 16 - 96, by have : (i 0).val < 128 := (i 0).isLt; omega⟩ (i 1)) := by
  pointwise [block]

theorem block_eq (x : Vec Ideal S16x4096 .f32) (i : S128x4096.Idx) : block x i = row x (i 0) (i 1) := by
  rw [block_apply]
  unfold row
  split
  · rfl
  split
  · rw [if_pos (by omega)]; exact Ideal.ofBits_zero_f32
  · rw [if_neg (by omega)]
    exact congrArg (fun r => x (ix2 r (i 1))) (Fin.ext (Nat.sub_sub _ 16 96))

theorem gain_apply (g : Vec Ideal S1x4096 .f32) (q : Fin 4096) : shapeCast S1x4096 (shapeCast S4096 g shapeCasts_S1x4096_S4096) shapeCasts_S4096_S1x4096 (ix2 0 q) = g (ix2 0 q) := by
  pointwise

theorem blk0 (t : Fin cfg0.N) (r : Fin 128) (k : Fin 4096) :
    iblk m c 0 t (ix2 r k) = row (m ((c : Thread nD τ).loc main_arg0)) r k := by
  have h := (idx_eq t).1
  refine (congrFun (V_v1 m c) _).trans (Eq.trans (congrArg (block (m ((c : Thread nD τ).loc main_arg0))) ?_) (block_eq _ (ix2 r k)))
  funext a; fin_cases a
  · apply Fin.ext; show win0_0.index t 0 * 128 + 1 * r.val = r.val; rw [h]; simp
  · apply Fin.ext; show win0_0.index t 1 * 4096 + 1 * k.val = k.val; rw [h]; simp
theorem blk1 (t : Fin cfg0.N) (q : Fin 4096) :
    iblk m c 1 t (ix2 0 q) = m ((c : Thread nD τ).loc main_arg1) (ix2 0 q) := by
  have h := (idx_eq t).2.1
  refine (congrFun (V_v3 m c) _).trans ((congrArg _ ?_).trans (gain_apply _ q))
  funext a; fin_cases a
  · apply Fin.ext; show win0_1.index t 0 * 1 + 1 * 0 = 0; rw [h]; simp
  · apply Fin.ext; show win0_1.index t 1 * 4096 + 1 * q.val = q.val; rw [h]; simp

/-- Entries of two norms are equal when their rows, gains and values are. -/
theorem nrm_congr {a a' : Fin 4096 → EReal} {g g' v v' : EReal} (h : ∀ k, a k = a' k) (hg : g = g') (hv : v = v') : nrm a g v = nrm a' g' v' := by
  obtain rfl := funext h; subst hg hv; rfl

theorem flushed_eq (t : Fin cfg0.N) : (dats m 0 c).flushed 2 t = ((cfg0.win 2).blk t).view.read (Elt Ideal)
    (T (m ((c : Thread nD τ).loc main_arg0)) (m ((c : Thread nD τ).loc main_arg1))) := by
  rw [flushed2, out_eq]
  funext y
  have h0 : ((cfg0.win 2).blk t).view.emb y = y := by
    funext a; fin_cases a
    · exact Fin.ext ((show _ = win0_2.index t 0 * 128 + 1 * (y 0).val from rfl).trans (by rw [(idx_eq t).2.2]; simp))
    · exact Fin.ext ((show _ = win0_2.index t 1 * 4096 + 1 * (y 1).val from rfl).trans (by rw [(idx_eq t).2.2]; simp))
  refine (pay_apply _ _ _).trans (Eq.trans ?_ (congrArg (T _ _) h0.symm))
  exact nrm_congr (fun k => blk0 m c t _ k) (blk1 m c t _) (blk0 m c t _ _)

theorem covered (i : S128x4096.Idx) : ∃ t : Fin cfg0.N, (cfg0.win 2).flush t = true ∧ i ∈ ((cfg0.win 2).blk t).view.set := by
  have b0 : (i 0).val < 128 := (i 0).isLt
  have b1 : (i 1).val < 4096 := (i 1).isLt
  have hN : 0 < cfg0.N := lt_of_lt_of_eq (by omega) N_0.symm
  refine ⟨⟨0, hN⟩, ?_, ?_⟩
  · exact flush0_2 _
  · have h := (idx_eq ⟨0, hN⟩).2.2
    show i ∈ ((View.whole main_v4).slice (win0_2.rect (⟨0, hN⟩ : Fin cfg0.N))).set
    rw [View.set_slice_whole, Rect.mem_set_unit]
    intro a
    show win0_2.index _ a * S128x4096.size a ≤ (i a).val ∧ (i a).val < win0_2.index _ a * S128x4096.size a + S128x4096.size a
    rw [h]
    fin_cases a
    · show 0 * 128 ≤ (i 0).val ∧ (i 0).val < 0 * 128 + 128
      omega
    · show 0 * 4096 ≤ (i 1).val ∧ (i 1).val < 0 * 4096 + 4096
      omega

theorem final : (dats m 0 c).arrAt 2 cfg0.N = T (m ((c : Thread nD τ).loc main_arg0)) (m ((c : Thread nD τ).loc main_arg1)) :=
  (dats m 0 c).arrAt_eq_of_cover 2 _ (fun t _ => flushed_eq m c t) covered
end

section
open Cert.MetaNormRefIdeal Cert.MetaNormRefIdeal.Gen

/-- The reference's normed meta tokens. -/
def normed (x : FVec Ideal S16x4096 .f32) (g : FVec Ideal S1x4096 .f32) : FVec Ideal S16x4096 .f32 :=
  mulf (mulf x (broadcastInDim S16x4096 ![0, 1] bcast_S16x1_S16x4096_0_1 (Host.rsqrt (addf (Host.divf (broadcastInDim S16x1 ![0] bcast_S16_S16x1_0 (Host.reduceAdd (mulf x x) (constant S_ .f32 0x00000000#32) reducesTo_S16x4096_S16_d1 h_S_)) (broadcastInDim S16x1 ![] bcast_S_S16x1 (constant S_ .f32 0x45800000#32))) (broadcastInDim S16x1 ![] bcast_S_S16x1 (constant S_ .f32 0x358637BD#32)))))) (broadcastInDim S16x4096 ![0, 1] bcast_S1x4096_S16x4096_0_1 (broadcastInDim S1x4096 ![1] bcast_S4096_S1x4096_1 (shapeCast _ g shapeCasts_S1x4096_S4096)))

/-- The reference's result: the normed tokens, zeros, the normed tokens again. -/
def refOut (x : FVec Ideal S16x4096 .f32) (g : FVec Ideal S1x4096 .f32) : FVec Ideal S128x4096 .bf16 :=
  truncf .bf16 (concatenate S128x4096 0 [⟨S16x4096, normed x g⟩, ⟨S96x4096, broadcastInDim S96x4096 ![] bcast_S_S96x4096 (constant S_ .f32 0x00000000#32)⟩, ⟨S16x4096, normed x g⟩]
    concatenates_S16x4096_S96x4096_S16x4096_S128x4096_d0 : FVec Ideal S128x4096 .f32) bitsLt_bf16_f32

theorem normed_apply (x : FVec Ideal S16x4096 .f32) (g : FVec Ideal S1x4096 .f32) (i : S16x4096.Idx) :
    normed x g i = nrm (fun k => x (ix2 (i 0) k)) (g (ix2 0 (i 1))) (x (ix2 (i 0) (i 1))) := by
  pointwise [normed, nrm]

theorem ref_apply (x : FVec Ideal S16x4096 .f32) (g : FVec Ideal S1x4096 .f32) (i : S128x4096.Idx) :
    refOut x g i = if h1 : (i 0).val < 16 then normed x g (ix2 ⟨(i 0).val, h1⟩ (i 1))
      else if h2 : (i 0).val - 16 < 96 then Ideal.ofBits .f32 0x00000000#32
      else normed x g (ix2 ⟨(i 0).val - 16 - 96, by have : (i 0).val < 128 := (i 0).isLt; omega⟩ (i 1)) := by
  pointwise [refOut]

/-- The norm of a row of zeros is zero, so the reference's rows are the norms of the block's rows. -/
theorem ref_eq (x : FVec Ideal S16x4096 .f32) (g : FVec Ideal S1x4096 .f32) : refOut x g = T x g := by
  funext i
  have b : (i 0).val < 128 := (i 0).isLt
  rw [ref_apply]
  unfold T
  split
  · rename_i h
    have e : ∀ k, row x (i 0) k = x (ix2 ⟨(i 0).val, h⟩ k) := fun k => dif_pos h
    exact (normed_apply x g _).trans (nrm_congr (fun k => (e k).symm) rfl (e _).symm)
  split
  · rename_i h h'
    have e : ∀ k, row x (i 0) k = 0 := fun k => (dif_neg h).trans (if_pos (by omega))
    rw [e (i 1)]
    unfold nrm
    rw [zero_mul, zero_mul]
    exact Ideal.ofBits_zero_f32
  · rename_i h h'
    have e : ∀ k, row x (i 0) k = x (ix2 ⟨(i 0).val - 16 - 96, by omega⟩ k) := fun k => (dif_neg h).trans ((if_neg (by omega)).trans
      (congrArg (fun r => x (ix2 r k)) (Fin.ext (Nat.sub_sub _ 16 96).symm)))
    exact (normed_apply x g _).trans (nrm_congr (fun k => (e k).symm) rfl (e _).symm)
end
end Cert.Proof.MetaNorm
-- ==== Proof.MetaProject.lean ====
/- The meta tokens' projection to keys and values: a product in five runs of its columns, as the array the run leaves, at the
   ideal instance. -/
module
public import proofs.«01_k».proof.Proof.Gen.MetaProjectIdeal.Value
public import proofs.«01_k».proof.Proof.Gen.MetaProjectRefIdeal.Run
public import Idealize.ShloMosaic.Lib.Pointwise
@[expose] public section
noncomputable section
namespace Cert.Proof.MetaProject
open Idealize.ShloMosaic Idealize.ShloMosaic.TcCoe Idealize.SL.Sem
open Idealize.ShloMosaic.Pipeline (Dat)

section
open Cert.MetaProjectIdeal Cert.MetaProjectIdeal.Gen Cert.MetaProjectIdeal.Value

theorem out_eq {F : FTy → Type} [FloatOps F] (x0 : Vec F S128x4096 .bf16) (x1 : Vec F S4096x1024 .f32) (x2 : Vec F S1x1024 .f32) :
    out0_3 x0 x1 x2 = k0_pay1 x0 x1 x2 := by
  have hz3 : (![0, 0] : Fin S128x1024.rank → Nat) = fun _ => 0 := funext fun a => by fin_cases a <;> rfl
  have hz0 : (![0, 0] : Fin S128x4096.rank → Nat) = fun _ => 0 := funext fun a => by fin_cases a <;> rfl
  have hz1 : (![0, 0] : Fin S4096x1024.rank → Nat) = fun _ => 0 := funext fun a => by fin_cases a <;> rfl
  have hz2 : (![0, 0] : Fin S1x1024.rank → Nat) = fun _ => 0 := funext fun a => by fin_cases a <;> rfl
  unfold out0_3
  rw [View.canon_unit_zero hz3, View.ld_unit_zero hz0, View.ld_unit_zero hz1, View.ld_unit_zero hz2]

theorem pay_apply (x0 : Vec Ideal S128x4096 .bf16) (x1 : Vec Ideal S4096x1024 .f32) (x2 : Vec Ideal S1x1024 .f32) (j : S128x1024.Idx) :
    k0_pay1 (F := Ideal) x0 x1 x2 j = (∑ k : Fin 4096, x0 (ix2 (j 0) k) * x1 (ix2 k (j 1))) * x2 (ix2 0 (j 1)) := by
  pointwise [k0_pay1]

/-- Where a column of the result stands among the weights' columns: the first 4096 past the 2048 queries of the first half,
    the last 1024 past the 2048 queries of the second half as well. -/
def src (q : Fin 5120) : Fin 9216 := if h : q.val < 4096 then ⟨2048 + q.val, by omega⟩ else ⟨4096 + q.val, by omega⟩

/-- Every such column's scale in the table is the word of one. -/
theorem table_eq : ∀ q : Fin 5120, lit0 (src q) = 0x3F800000#32 := by
  decide +kernel

/-- The result index by index. -/
def T (h : S128x4096.Idx → EReal) (w : S1x4096x9216.Idx → EReal) : S128x5120.Idx → EReal := fun i =>
  ∑ k : Fin 4096, h (ix2 (i 0) k) * w (ix3 0 k (src (i 1)))

theorem T_apply (h : S128x4096.Idx → EReal) (w : S1x4096x9216.Idx → EReal) (i : S128x5120.Idx) :
    T h w i = ∑ k : Fin 4096, h (ix2 (i 0) k) * w (ix3 0 k (src (i 1))) := rfl

theorem idx_eq : ∀ t : Fin cfg0.N, win0_0.index t = ![0, 0] ∧ win0_1.index t = ![0, if t.val < 4 then t.val + 2 else 8]
    ∧ win0_2.index t = win0_1.index t ∧ win0_3.index t = ![0, t.val] :=
  (by decide +kernel : ∀ t : Fin grid0.N, _)

variable (m : (ℓ : Loc nD τ sig) → Buf (Elt Ideal) ℓ) (c : Dev nD)

theorem V_v0 : V m c main_v0 = shapeCast S4096x9216 (m ((c : Thread nD τ).loc main_arg1)) shapeCasts_S1x4096x9216_S4096x9216 := by
  unfold V
  after_results_simp
  rfl

theorem V_cst : V m c main_cst = fun i => FloatOps.ofBits (F := Ideal) .f32 (lit0 (S1x9216.rowMajor i)) := by
  unfold V
  after_results_simp
  rfl

theorem cast_apply (w : Vec Ideal S1x4096x9216 .f32) (k : Fin 4096) (q : Fin 9216) : shapeCast S4096x9216 w shapeCasts_S1x4096x9216_S4096x9216 (ix2 k q) = w (ix3 0 k q) := by
  pointwise

theorem table_apply (q : Fin 5120) : FloatOps.ofBits (F := Ideal) .f32 (lit0 (S1x9216.rowMajor (ix2 0 (src q)))) = 1 := by
  have h : S1x9216.rowMajor (ix2 0 (src q)) = src q := Fin.ext ((Shape.rowMajor_val_two _).trans (by
    show 0 * 9216 + (src q).val = (src q).val
    omega))
  rw [h, table_eq]
  exact Ideal.ofBits_one_f32

/-- The block of weights at a point holds the columns of the result's block there. -/
theorem col_eq (t : Fin cfg0.N) (q : Fin 1024) (Q : Fin 5120) (hQ : Q.val = t.val * 1024 + q.val) :
    win0_1.index t 1 * 1024 + q.val = (src Q).val := by
  have hN : t.val < 5 := lt_of_lt_of_eq t.isLt N_0
  rw [(idx_eq t).2.1]
  show (if t.val < 4 then t.val + 2 else 8) * 1024 + q.val = _
  unfold src
  split <;> split <;> simp only <;> omega

theorem blk0 (t : Fin cfg0.N) (r : Fin 128) (k : Fin 4096) :
    iblk m c 0 t (ix2 r k) = m ((c : Thread nD τ).loc main_arg0) (ix2 r k) := by
  have h := (idx_eq t).1
  refine (congrFun (V_main_arg0 m c) _).trans (congrArg (m ((c : Thread nD τ).loc main_arg0)) ?_)
  funext a; fin_cases a
  · apply Fin.ext; show win0_0.index t 0 * 128 + 1 * r.val = r.val; rw [h]; simp
  · apply Fin.ext; show win0_0.index t 1 * 4096 + 1 * k.val = k.val; rw [h]; simp
theorem blk1 (t : Fin cfg0.N) (k : Fin 4096) (q : Fin 1024) (Q : Fin 5120) (hQ : Q.val = t.val * 1024 + q.val) :
    iblk m c 1 t (ix2 k q) = m ((c : Thread nD τ).loc main_arg1) (ix3 0 k (src Q)) := by
  have h := col_eq t q Q hQ
  refine (congrFun (V_v0 m c) _).trans ((congrArg _ ?_).trans (cast_apply _ k (src Q)))
  funext a; fin_cases a
  · apply Fin.ext; show win0_1.index t 0 * 4096 + 1 * k.val = k.val; rw [(idx_eq t).2.1]; simp
  · apply Fin.ext; show win0_1.index t 1 * 1024 + 1 * q.val = (src Q).val; omega
theorem blk2 (t : Fin cfg0.N) (q : Fin 1024) (Q : Fin 5120) (hQ : Q.val = t.val * 1024 + q.val) :
    iblk m c 2 t (ix2 0 q) = (1 : EReal) := by
  have h := col_eq t q Q hQ
  refine (congrFun (V_cst m c) _).trans (Eq.trans (congrArg (fun i => FloatOps.ofBits (F := Ideal) .f32 (lit0 (S1x9216.rowMajor i))) ?_) (table_apply Q))
  funext a; fin_cases a
  · apply Fin.ext; show win0_2.index t 0 * 1 + 1 * 0 = 0; rw [(idx_eq t).2.2.1, (idx_eq t).2.1]; simp
  · apply Fin.ext; show win0_2.index t 1 * 1024 + 1 * q.val = (src Q).val; rw [(idx_eq t).2.2.1]; omega

theorem flushed_eq (t : Fin cfg0.N) : (dats m 0 c).flushed 3 t = ((cfg0.win 3).blk t).view.read (Elt Ideal)
    (T (m ((c : Thread nD τ).loc main_arg0)) (m ((c : Thread nD τ).loc main_arg1))) := by
  rw [flushed3, out_eq]
  funext y
  have h0 : ((cfg0.win 3).blk t).view.emb y 0 = y 0 := Fin.ext
    ((show _ = win0_3.index t 0 * 128 + 1 * (y 0).val from rfl).trans (by rw [(idx_eq t).2.2.2]; simp))
  have h1 : (((cfg0.win 3).blk t).view.emb y 1).val = t.val * 1024 + (y 1).val :=
    (show _ = win0_3.index t 1 * 1024 + 1 * (y 1).val from rfl).trans (by rw [(idx_eq t).2.2.2]; simp)
  refine (pay_apply _ _ _ _).trans ((congrArg (_ * ·) (blk2 m c t _ _ h1)).trans ((mul_one _).trans ?_))
  refine Eq.trans (Finset.sum_congr rfl fun k _ => ?_) (T_apply _ _ (((cfg0.win 3).blk t).view.emb y)).symm
  refine congrArg₂ (· * ·) ((blk0 m c t _ k).trans ?_) (blk1 m c t k _ _ h1)
  exact congrArg (fun r => m ((c : Thread nD τ).loc main_arg0) (ix2 r k)) h0.symm

theorem covered (i : S128x5120.Idx) : ∃ t : Fin cfg0.N, (cfg0.win 3).flush t = true ∧ i ∈ ((cfg0.win 3).blk t).view.set := by
  have b0 : (i 0).val < 128 := (i 0).isLt
  have b1 : (i 1).val < 5120 := (i 1).isLt
  have hN : (i 1).val / 1024 < cfg0.N := lt_of_lt_of_eq (by omega) N_0.symm
  refine ⟨⟨(i 1).val / 1024, hN⟩, ?_, ?_⟩
  · exact flush0_3 _
  · have h := (idx_eq ⟨(i 1).val / 1024, hN⟩).2.2.2
    show i ∈ ((View.whole main_v1).slice (win0_3.rect (⟨(i 1).val / 1024, hN⟩ : Fin cfg0.N))).set
    rw [View.set_slice_whole, Rect.mem_set_unit]
    intro a
    show win0_3.index _ a * S128x1024.size a ≤ (i a).val ∧ (i a).val < win0_3.index _ a * S128x1024.size a + S128x1024.size a
    rw [h]
    fin_cases a
    · show 0 * 128 ≤ (i 0).val ∧ (i 0).val < 0 * 128 + 128
      omega
    · show (i 1).val / 1024 * 1024 ≤ (i 1).val ∧ (i 1).val < (i 1).val / 1024 * 1024 + 1024
      omega

theorem final : (dats m 0 c).arrAt 3 cfg0.N = T (m ((c : Thread nD τ).loc main_arg0)) (m ((c : Thread nD τ).loc main_arg1)) :=
  (dats m 0 c).arrAt_eq_of_cover 3 _ (fun t _ => flushed_eq m c t) covered
end

section
open Cert.MetaProjectRefIdeal Cert.MetaProjectRefIdeal.Gen

/-- The reference's product over all columns. -/
def prod (h : FVec Ideal S128x4096 .bf16) (w : FVec Ideal S1x4096x9216 .f32) : FVec Ideal S128x9216 .f32 :=
  Host.dotGeneral (φ₁ := .f32) (φ₂ := .f32) dot_S128x4096_S4096x9216_S128x9216_1_0_0_1_n_n none (extf .f32 h bitsLt_bf16_f32) (shapeCast _ w shapeCasts_S1x4096x9216_S4096x9216)

/-- The reference's result: two runs of the product's columns side by side. -/
def refOut (h : FVec Ideal S128x4096 .bf16) (w : FVec Ideal S1x4096x9216 .f32) : FVec Ideal S128x5120 .bf16 :=
  truncf .bf16 (concatenate S128x5120 1
    [⟨S128x4096, extractStridedSlice S128x4096 ![0, 2048] (prod h w) slices_S128x9216_S128x4096_0_2048⟩,
     ⟨S128x1024, extractStridedSlice S128x1024 ![0, 8192] (prod h w) slices_S128x9216_S128x1024_0_8192⟩]
    concatenates_S128x4096_S128x1024_S128x5120_d1 : FVec Ideal S128x5120 .f32) bitsLt_bf16_f32

theorem prod_apply (h : FVec Ideal S128x4096 .bf16) (w : FVec Ideal S1x4096x9216 .f32) (i : S128x9216.Idx) :
    prod h w i = ∑ k : Fin 4096, h (ix2 (i 0) k) * w (ix3 0 k (i 1)) := by
  pointwise [prod]

theorem ref_apply (h : FVec Ideal S128x4096 .bf16) (w : FVec Ideal S1x4096x9216 .f32) (i : S128x5120.Idx) :
    refOut h w i = if h1 : (i 1).val < 4096 then prod h w (ix2 (i 0) ⟨2048 + (i 1).val, by omega⟩)
      else prod h w (ix2 (i 0) ⟨8192 + ((i 1).val - 4096), by have b : (i 1).val < 5120 := (i 1).isLt; omega⟩) := by
  pointwise [refOut]

/-- A column named by an equal number is the same column. -/
theorem prod_col (h : FVec Ideal S128x4096 .bf16) (w : FVec Ideal S1x4096x9216 .f32) (r : Fin 128) (n : Nat) (hn : n < 9216) (q : Fin 9216) (e : n = q.val) :
    prod h w (ix2 r ⟨n, hn⟩) = ∑ k : Fin 4096, h (ix2 r k) * w (ix3 0 k q) := by
  subst e
  exact prod_apply h w _

/-- The two runs of columns are the result's columns. -/
theorem ref_eq (h : FVec Ideal S128x4096 .bf16) (w : FVec Ideal S1x4096x9216 .f32) : refOut h w = T h w := by
  funext i
  rw [ref_apply]
  unfold T src
  split
  · exact prod_col h w (i 0) _ _ _ rfl
  · exact prod_col h w (i 0) _ _ _ (by simp only; omega)
end
end Cert.Proof.MetaProject
-- ==== Proof.lean ====
module

public import proofs.«01_k».proof.Defs
public import proofs.«01_k».proof.Proof.Gen.PostSample
public import proofs.«01_k».proof.Proof.Gen.PostSample.Skeleton
public import proofs.«01_k».proof.Proof.Gen.PostSample.Loops
public import proofs.«01_k».proof.Proof.Gen.PostSample.Launch
public import proofs.«01_k».proof.Proof.Gen.PostSample.Points
public import proofs.«01_k».proof.Proof.Gen.PostSample.Frame
public import proofs.«01_k».proof.Proof.Gen.PostSampleIdeal
public import proofs.«01_k».proof.Proof.Gen.PostSampleIdeal.Skeleton
public import proofs.«01_k».proof.Proof.Gen.PostSampleIdeal.Loops
public import proofs.«01_k».proof.Proof.Gen.PostSampleIdeal.Launch
public import proofs.«01_k».proof.Proof.Gen.PostSampleIdeal.Points
public import proofs.«01_k».proof.Proof.Gen.PostSampleIdeal.Frame
public import proofs.«01_k».proof.Proof.Gen.PostSampleRefIdeal
public import proofs.«01_k».proof.Proof.Gen.PostSampleRefIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.SampleValue
public import proofs.«01_k».proof.Proof.SwaTables
public import proofs.«01_k».proof.Proof.SwaFrame
public import proofs.«01_k».proof.Proof.GateUp
public import proofs.«01_k».proof.Proof.GateUpTail
public import proofs.«01_k».proof.Proof.Down
public import proofs.«01_k».proof.Proof.ProjectIn
public import proofs.«01_k».proof.Proof.ProjectOut
public import proofs.«01_k».proof.Proof.Gen.GateUp
public import proofs.«01_k».proof.Proof.Gen.GateUpIdeal
public import proofs.«01_k».proof.Proof.Gen.GateUpIdeal.Value
public import proofs.«01_k».proof.Proof.Gen.GateUpRefIdeal
public import proofs.«01_k».proof.Proof.Gen.GateUpRefIdeal.Run
public import proofs.«01_k».proof.Proof.Gen.GateUpTail
public import proofs.«01_k».proof.Proof.Gen.GateUpTailIdeal
public import proofs.«01_k».proof.Proof.Gen.GateUpTailIdeal.Value
public import proofs.«01_k».proof.Proof.Gen.GateUpTailRefIdeal
public import proofs.«01_k».proof.Proof.Gen.GateUpTailRefIdeal.Run
public import proofs.«01_k».proof.Proof.Gen.Down
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Run
public import proofs.«01_k».proof.Proof.Gen.ProjectIn
public import proofs.«01_k».proof.Proof.Gen.ProjectInIdeal
public import proofs.«01_k».proof.Proof.Gen.ProjectInIdeal.Value
public import proofs.«01_k».proof.Proof.Gen.ProjectInRefIdeal
public import proofs.«01_k».proof.Proof.Gen.ProjectInRefIdeal.Run
public import proofs.«01_k».proof.Proof.Gen.ProjectOut
public import proofs.«01_k».proof.Proof.Gen.ProjectOutIdeal
public import proofs.«01_k».proof.Proof.Gen.ProjectOutIdeal.Value
public import proofs.«01_k».proof.Proof.Gen.ProjectOutRefIdeal
public import proofs.«01_k».proof.Proof.Gen.ProjectOutRefIdeal.Run
public import proofs.«01_k».proof.Proof.SwaBias
public import proofs.«01_k».proof.Proof.MetaNorm
public import proofs.«01_k».proof.Proof.MetaProject
public import proofs.«01_k».proof.Proof.Gen.SwaBias
public import proofs.«01_k».proof.Proof.Gen.SwaBiasIdeal
public import proofs.«01_k».proof.Proof.Gen.SwaBiasIdeal.Value
public import proofs.«01_k».proof.Proof.Gen.SwaBiasRefIdeal
public import proofs.«01_k».proof.Proof.Gen.SwaBiasRefIdeal.Run
public import proofs.«01_k».proof.Proof.Gen.MetaNorm
public import proofs.«01_k».proof.Proof.Gen.MetaNormIdeal
public import proofs.«01_k».proof.Proof.Gen.MetaNormIdeal.Value
public import proofs.«01_k».proof.Proof.Gen.MetaNormRefIdeal
public import proofs.«01_k».proof.Proof.Gen.MetaNormRefIdeal.Run
public import proofs.«01_k».proof.Proof.Gen.MetaProject
public import proofs.«01_k».proof.Proof.Gen.MetaProjectIdeal
public import proofs.«01_k».proof.Proof.Gen.MetaProjectIdeal.Value
public import proofs.«01_k».proof.Proof.Gen.MetaProjectRefIdeal
public import proofs.«01_k».proof.Proof.Gen.MetaProjectRefIdeal.Run
public import proofs.«01_k».proof.Proof.Gen.Swa
public import proofs.«01_k».proof.Proof.Gen.SwaIdeal
public import proofs.«01_k».proof.Proof.Gen.SwaIdeal.Skeleton
public import proofs.«01_k».proof.Proof.Gen.SwaIdeal.Launch
public import Idealize.ShloMosaic.Lib.Claim
public import Idealize.ShloMosaic.Adequacy
public import Idealize.ShloMosaic.Init

@[expose] public section

noncomputable section

namespace Cert.Proof

open Idealize.ShloMosaic Idealize.SL.Sem

/-! ## The row-streaming call -/

theorem frame_Kernel : Cert.quiescent_Kernel (hKernel := Cert.Kernel.Gen.facts) := fun m ρ _ =>
  (θ_run Cert.KernelIdeal.defs _ _).mono (fun _ h => h.1) (Post2.run (F := Bits) m ρ)

theorem frame_KernelIdeal : Cert.quiescent_KernelIdeal (hKernelIdeal := Cert.KernelIdeal.Gen.facts) := fun m ρ _ =>
  (θ_run Cert.KernelIdeal.defs _ _).mono (fun _ h => h.1) (Post2.run (F := Ideal) m ρ)

theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem value_Kernel : Cert.algebraic_KernelIdeal_ReferenceIdeal (hKernelIdeal := Cert.KernelIdeal.Gen.facts) (hReferenceIdeal := Cert.ReferenceIdeal.Gen.facts) := by
  intro m ρ m' ρ' _ hagree
  refine ⟨fun c => Post2.resultV m c, (θ_run Cert.KernelIdeal.defs _ _).mono (fun r h c => ⟨h.2 c, h.1.1 c⟩) (Post2.run (F := Ideal) m ρ),
    (θ_run Cert.ReferenceIdeal.defs _ _).mono (fun r h c => ⟨(h c).1.trans ?_, (h c).2⟩) (Cert.ReferenceIdeal.Value.run m' ρ')⟩
  obtain ⟨h0, h1, h2, h3, h4⟩ := hagree c
  refine Eq.trans ?_ (Post2.resultV_eq m c).symm
  rw [h0, h1, h2, h3, h4]; rfl

/-! ## The feed-forward part's gated product, its first 10752 columns -/

/-- The two programs have the same body table. -/
theorem defs_GateUp : Cert.GateUp.defs (F := Bits) = Cert.GateUpIdeal.defs (F := Bits) :=
  congrArg (Pipeline.defs Cert.GateUpIdeal.pcfgs) (congrArg Defs.onTc (funext fun l => funext fun a => match l, a with
    | 0, (_, _) => rfl))

theorem frame_GateUp : Cert.quiescent_GateUp (hGateUp := Cert.GateUp.Gen.facts) := fun m ρ _ => by
  rw [defs_GateUp]
  exact Cert.GateUpIdeal.Gen.frame (F := Bits) m ρ

theorem frame_GateUpIdeal : Cert.quiescent_GateUpIdeal (hGateUpIdeal := Cert.GateUpIdeal.Gen.facts) := fun m ρ _ =>
  Cert.GateUpIdeal.Gen.frame (F := Ideal) m ρ

theorem frame_GateUpRefIdeal : Cert.quiescent_GateUpRefIdeal (hGateUpRefIdeal := Cert.GateUpRefIdeal.Gen.facts) := fun m ρ _ =>
  (θ_run Cert.GateUpRefIdeal.defs _ _).mono (fun r h => ⟨fun c => (h c).2, sem_eq_zero_of_no_sems (by decide) r.2⟩)
    (Cert.GateUpRefIdeal.Value.run (F := Ideal) m ρ)

theorem value_GateUp : Cert.algebraic_GateUpIdeal_GateUpRefIdeal (hGateUpIdeal := Cert.GateUpIdeal.Gen.facts) (hGateUpRefIdeal := Cert.GateUpRefIdeal.Gen.facts) := by
  intro m ρ m' ρ' _ hagree
  refine ⟨fun c => GateUp.T (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)),
    (θ_run Cert.GateUpIdeal.defs _ _).mono (fun r h c => ⟨(h c).1.trans (GateUp.final m c), (h c).2⟩) (Cert.GateUpIdeal.Value.run_blocks m ρ),
    (θ_run Cert.GateUpRefIdeal.defs _ _).mono (fun r h c => ⟨(h c).1.trans ?_, (h c).2⟩) (Cert.GateUpRefIdeal.Value.run m' ρ')⟩
  obtain ⟨h0, h1, h2⟩ := hagree c
  refine Eq.trans ?_ (GateUp.ref_eq (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)))
  rw [h0, h1, h2]
  rfl

/-! ## The gated product's last 256 columns -/

/-- The two programs have the same body table. -/
theorem defs_GateUpTail : Cert.GateUpTail.defs (F := Bits) = Cert.GateUpTailIdeal.defs (F := Bits) :=
  congrArg (Pipeline.defs Cert.GateUpTailIdeal.pcfgs) (congrArg Defs.onTc (funext fun l => funext fun a => match l, a with
    | 0, (_, _) => rfl))

theorem frame_GateUpTail : Cert.quiescent_GateUpTail (hGateUpTail := Cert.GateUpTail.Gen.facts) := fun m ρ _ => by
  rw [defs_GateUpTail]
  exact Cert.GateUpTailIdeal.Gen.frame (F := Bits) m ρ

theorem frame_GateUpTailIdeal : Cert.quiescent_GateUpTailIdeal (hGateUpTailIdeal := Cert.GateUpTailIdeal.Gen.facts) := fun m ρ _ =>
  Cert.GateUpTailIdeal.Gen.frame (F := Ideal) m ρ

theorem frame_GateUpTailRefIdeal : Cert.quiescent_GateUpTailRefIdeal (hGateUpTailRefIdeal := Cert.GateUpTailRefIdeal.Gen.facts) := fun m ρ _ =>
  (θ_run Cert.GateUpTailRefIdeal.defs _ _).mono (fun r h => ⟨fun c => (h c).2, sem_eq_zero_of_no_sems (by decide) r.2⟩)
    (Cert.GateUpTailRefIdeal.Value.run (F := Ideal) m ρ)

theorem value_GateUpTail : Cert.algebraic_GateUpTailIdeal_GateUpTailRefIdeal (hGateUpTailIdeal := Cert.GateUpTailIdeal.Gen.facts) (hGateUpTailRefIdeal := Cert.GateUpTailRefIdeal.Gen.facts) := by
  intro m ρ m' ρ' _ hagree
  refine ⟨fun c => GateUpTail.T (m ((c.tc : Thread Cert.GateUpTailIdeal.nD Cert.GateUpTailIdeal.τ).loc Cert.GateUpTailIdeal.main_arg0)) (m ((c.tc : Thread Cert.GateUpTailIdeal.nD Cert.GateUpTailIdeal.τ).loc Cert.GateUpTailIdeal.main_arg1)) (m ((c.tc : Thread Cert.GateUpTailIdeal.nD Cert.GateUpTailIdeal.τ).loc Cert.GateUpTailIdeal.main_arg2)),
    (θ_run Cert.GateUpTailIdeal.defs _ _).mono (fun r h c => ⟨(h c).1.trans (GateUpTail.final m c), (h c).2⟩) (Cert.GateUpTailIdeal.Value.run_blocks m ρ),
    (θ_run Cert.GateUpTailRefIdeal.defs _ _).mono (fun r h c => ⟨(h c).1.trans ?_, (h c).2⟩) (Cert.GateUpTailRefIdeal.Value.run m' ρ')⟩
  obtain ⟨h0, h1, h2⟩ := hagree c
  refine Eq.trans ?_ (GateUpTail.ref_eq (m ((c.tc : Thread Cert.GateUpTailIdeal.nD Cert.GateUpTailIdeal.τ).loc Cert.GateUpTailIdeal.main_arg0)) (m ((c.tc : Thread Cert.GateUpTailIdeal.nD Cert.GateUpTailIdeal.τ).loc Cert.GateUpTailIdeal.main_arg1)) (m ((c.tc : Thread Cert.GateUpTailIdeal.nD Cert.GateUpTailIdeal.τ).loc Cert.GateUpTailIdeal.main_arg2)))
  rw [h0, h1, h2]
  rfl

/-! ## The down projection -/

/-- The two programs have the same body table. -/
theorem defs_Down : Cert.Down.defs (F := Bits) = Cert.DownIdeal.defs (F := Bits) :=
  congrArg (Pipeline.defs Cert.DownIdeal.pcfgs) (congrArg Defs.onTc (funext fun l => funext fun a => match l, a with
    | 0, (_, _) => rfl))

theorem frame_Down : Cert.quiescent_Down (hDown := Cert.Down.Gen.facts) := fun m ρ _ => by
  rw [defs_Down]
  exact Cert.DownIdeal.Gen.frame (F := Bits) m ρ

theorem frame_DownIdeal : Cert.quiescent_DownIdeal (hDownIdeal := Cert.DownIdeal.Gen.facts) := fun m ρ _ =>
  Cert.DownIdeal.Gen.frame (F := Ideal) m ρ

theorem frame_DownRefIdeal : Cert.quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩)
    (Cert.DownRefIdeal.Value.run (F := Ideal) m ρ)

theorem value_Down : Cert.algebraic_DownIdeal_DownRefIdeal (hDownIdeal := Cert.DownIdeal.Gen.facts) (hDownRefIdeal := Cert.DownRefIdeal.Gen.facts) := by
  intro m ρ m' ρ' _ hagree
  refine ⟨fun c => Down.T (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)),
    (θ_run Cert.DownIdeal.defs _ _).mono (fun r h c => ⟨(h c).1.trans (Down.final m c), (h c).2⟩) (Cert.DownIdeal.Value.run_blocks m ρ),
    (θ_run Cert.DownRefIdeal.defs _ _).mono (fun r h c => ⟨(h c).1.trans ?_, (h c).2⟩) (Cert.DownRefIdeal.Value.run m' ρ')⟩
  obtain ⟨h0, h1, h2⟩ := hagree c
  refine Eq.trans ?_ (Down.ref_eq (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)))
  rw [h0, h1, h2]
  rfl

/-! ## The input projection -/

/-- The two programs have the same body table. -/
theorem defs_ProjectIn : Cert.ProjectIn.defs (F := Bits) = Cert.ProjectInIdeal.defs (F := Bits) :=
  congrArg (Pipeline.defs Cert.ProjectInIdeal.pcfgs) (congrArg Defs.onTc (funext fun l => funext fun a => match l, a with
    | 0, (_, _) => rfl))

theorem frame_ProjectIn : Cert.quiescent_ProjectIn (hProjectIn := Cert.ProjectIn.Gen.facts) := fun m ρ _ => by
  rw [defs_ProjectIn]
  exact Cert.ProjectInIdeal.Gen.frame (F := Bits) m ρ

theorem frame_ProjectInIdeal : Cert.quiescent_ProjectInIdeal (hProjectInIdeal := Cert.ProjectInIdeal.Gen.facts) := fun m ρ _ =>
  Cert.ProjectInIdeal.Gen.frame (F := Ideal) m ρ

theorem frame_ProjectInRefIdeal : Cert.quiescent_ProjectInRefIdeal (hProjectInRefIdeal := Cert.ProjectInRefIdeal.Gen.facts) := fun m ρ _ =>
  (θ_run Cert.ProjectInRefIdeal.defs _ _).mono (fun r h => ⟨fun c => (h c).2, sem_eq_zero_of_no_sems (by decide) r.2⟩)
    (Cert.ProjectInRefIdeal.Value.run (F := Ideal) m ρ)

theorem value_ProjectIn : Cert.algebraic_ProjectInIdeal_ProjectInRefIdeal (hProjectInIdeal := Cert.ProjectInIdeal.Gen.facts) (hProjectInRefIdeal := Cert.ProjectInRefIdeal.Gen.facts) := by
  intro m ρ m' ρ' _ hagree
  refine ⟨fun c => ProjectIn.T (m ((c.tc : Thread Cert.ProjectInIdeal.nD Cert.ProjectInIdeal.τ).loc Cert.ProjectInIdeal.main_arg0)) (m ((c.tc : Thread Cert.ProjectInIdeal.nD Cert.ProjectInIdeal.τ).loc Cert.ProjectInIdeal.main_arg1)),
    (θ_run Cert.ProjectInIdeal.defs _ _).mono (fun r h c => ⟨(h c).1.trans (ProjectIn.final m c), (h c).2⟩) (Cert.ProjectInIdeal.Value.run_blocks m ρ),
    (θ_run Cert.ProjectInRefIdeal.defs _ _).mono (fun r h c => ⟨(h c).1.trans ?_, (h c).2⟩) (Cert.ProjectInRefIdeal.Value.run m' ρ')⟩
  obtain ⟨h0, h1⟩ := hagree c
  refine Eq.trans ?_ (ProjectIn.ref_eq (m ((c.tc : Thread Cert.ProjectInIdeal.nD Cert.ProjectInIdeal.τ).loc Cert.ProjectInIdeal.main_arg0)) (m ((c.tc : Thread Cert.ProjectInIdeal.nD Cert.ProjectInIdeal.τ).loc Cert.ProjectInIdeal.main_arg1)))
  rw [h0, h1]
  rfl

/-! ## The output projection -/

/-- The two programs have the same body table. -/
theorem defs_ProjectOut : Cert.ProjectOut.defs (F := Bits) = Cert.ProjectOutIdeal.defs (F := Bits) :=
  congrArg (Pipeline.defs Cert.ProjectOutIdeal.pcfgs) (congrArg Defs.onTc (funext fun l => funext fun a => match l, a with
    | 0, (_, _) => rfl))

theorem frame_ProjectOut : Cert.quiescent_ProjectOut (hProjectOut := Cert.ProjectOut.Gen.facts) := fun m ρ _ => by
  rw [defs_ProjectOut]
  exact Cert.ProjectOutIdeal.Gen.frame (F := Bits) m ρ

theorem frame_ProjectOutIdeal : Cert.quiescent_ProjectOutIdeal (hProjectOutIdeal := Cert.ProjectOutIdeal.Gen.facts) := fun m ρ _ =>
  Cert.ProjectOutIdeal.Gen.frame (F := Ideal) m ρ

theorem frame_ProjectOutRefIdeal : Cert.quiescent_ProjectOutRefIdeal (hProjectOutRefIdeal := Cert.ProjectOutRefIdeal.Gen.facts) := fun m ρ _ =>
  (θ_run Cert.ProjectOutRefIdeal.defs _ _).mono (fun r h => ⟨fun c => (h c).2, sem_eq_zero_of_no_sems (by decide) r.2⟩)
    (Cert.ProjectOutRefIdeal.Value.run (F := Ideal) m ρ)

theorem value_ProjectOut : Cert.algebraic_ProjectOutIdeal_ProjectOutRefIdeal (hProjectOutIdeal := Cert.ProjectOutIdeal.Gen.facts) (hProjectOutRefIdeal := Cert.ProjectOutRefIdeal.Gen.facts) := by
  intro m ρ m' ρ' _ hagree
  refine ⟨fun c => ProjectOut.T (m ((c.tc : Thread Cert.ProjectOutIdeal.nD Cert.ProjectOutIdeal.τ).loc Cert.ProjectOutIdeal.main_arg0)) (m ((c.tc : Thread Cert.ProjectOutIdeal.nD Cert.ProjectOutIdeal.τ).loc Cert.ProjectOutIdeal.main_arg1)) (m ((c.tc : Thread Cert.ProjectOutIdeal.nD Cert.ProjectOutIdeal.τ).loc Cert.ProjectOutIdeal.main_arg2)),
    (θ_run Cert.ProjectOutIdeal.defs _ _).mono (fun r h c => ⟨(h c).1.trans (ProjectOut.final m c), (h c).2⟩) (Cert.ProjectOutIdeal.Value.run_blocks m ρ),
    (θ_run Cert.ProjectOutRefIdeal.defs _ _).mono (fun r h c => ⟨(h c).1.trans ?_, (h c).2⟩) (Cert.ProjectOutRefIdeal.Value.run m' ρ')⟩
  obtain ⟨h0, h1, h2⟩ := hagree c
  refine Eq.trans ?_ (ProjectOut.ref_eq (m ((c.tc : Thread Cert.ProjectOutIdeal.nD Cert.ProjectOutIdeal.τ).loc Cert.ProjectOutIdeal.main_arg0)) (m ((c.tc : Thread Cert.ProjectOutIdeal.nD Cert.ProjectOutIdeal.τ).loc Cert.ProjectOutIdeal.main_arg1)) (m ((c.tc : Thread Cert.ProjectOutIdeal.nD Cert.ProjectOutIdeal.τ).loc Cert.ProjectOutIdeal.main_arg2)))
  rw [h0, h1, h2]

/-! ## The row-streaming call for the sample rows -/

theorem frame_PostSample : Cert.quiescent_PostSample (hPostSample := Cert.PostSample.Gen.facts) := fun m ρ _ =>
  (θ_run Cert.PostSampleIdeal.defs _ _).mono (fun _ h => h.1) (PostSample.run (F := Bits) m ρ)

theorem frame_PostSampleIdeal : Cert.quiescent_PostSampleIdeal (hPostSampleIdeal := Cert.PostSampleIdeal.Gen.facts) := fun m ρ _ =>
  (θ_run Cert.PostSampleIdeal.defs _ _).mono (fun _ h => h.1) (PostSample.run (F := Ideal) m ρ)

theorem frame_PostSampleRefIdeal : Cert.quiescent_PostSampleRefIdeal (hPostSampleRefIdeal := Cert.PostSampleRefIdeal.Gen.facts) := fun m ρ _ =>
  (θ_run Cert.PostSampleRefIdeal.defs _ _).mono (fun r h => ⟨fun c => (h c).2, sem_eq_zero_of_no_sems (by decide) r.2⟩)
    (Cert.PostSampleRefIdeal.Value.run (F := Ideal) m ρ)

theorem value_PostSample : Cert.algebraic_PostSampleIdeal_PostSampleRefIdeal (hPostSampleIdeal := Cert.PostSampleIdeal.Gen.facts) (hPostSampleRefIdeal := Cert.PostSampleRefIdeal.Gen.facts) := by
  intro m ρ m' ρ' _ hagree
  refine ⟨fun c => PostSample.resultV m c, (θ_run Cert.PostSampleIdeal.defs _ _).mono (fun r h c => ⟨h.2 c, h.1.1 c⟩) (PostSample.run (F := Ideal) m ρ),
    (θ_run Cert.PostSampleRefIdeal.defs _ _).mono (fun r h c => ⟨(h c).1.trans ?_, (h c).2⟩) (Cert.PostSampleRefIdeal.Value.run m' ρ')⟩
  obtain ⟨h0, h1, h2, h3, h4⟩ := hagree c
  refine Eq.trans ?_ (PostSample.resultV_eq m c).symm
  rw [h0, h1, h2, h3, h4]; rfl

/-! ## The sliding-window attention: its frame -/

/-- The two programs have the same body table. -/
theorem defs_Swa : Cert.Swa.defs (F := Bits) = Cert.SwaIdeal.defs (F := Bits) :=
  congrArg (Pipeline.defs Cert.SwaIdeal.pcfgs) (congrArg Defs.onTc (funext fun l => funext fun a => match l, a with
    | 0, (_, _) => rfl))

/-- The two programs have the same tables. -/
theorem lit0_Swa : Cert.Swa.lit0 = Cert.SwaIdeal.lit0 := by sl_kernel_rfl
theorem lit1_Swa : Cert.Swa.lit1 = Cert.SwaIdeal.lit1 := by sl_kernel_rfl
theorem lit2_Swa : Cert.Swa.lit2 = Cert.SwaIdeal.lit2 := by sl_kernel_rfl

/-- The two programs have the same main function. -/
theorem main_Swa : Cert.Swa.main (F := Bits) = Cert.SwaIdeal.main (F := Bits) := by
  unfold Cert.Swa.main Cert.SwaIdeal.main
  rw [lit0_Swa, lit1_Swa, lit2_Swa]
  rfl

theorem frame_Swa : Cert.quiescent_Swa (hSwa := Cert.Swa.Gen.facts) := fun m ρ _ => by
  rw [defs_Swa, main_Swa]
  exact Swa.frame (F := Bits) m ρ (Swa.ok m)

theorem frame_SwaIdeal : Cert.quiescent_SwaIdeal (hSwaIdeal := Cert.SwaIdeal.Gen.facts) := fun m ρ _ =>
  Swa.frame (F := Ideal) m ρ (Swa.ok m)

/-! ## The sliding-window attention's bias table -/

/-- The two programs have the same body table. -/
theorem defs_SwaBias : Cert.SwaBias.defs (F := Bits) = Cert.SwaBiasIdeal.defs (F := Bits) :=
  congrArg (Pipeline.defs Cert.SwaBiasIdeal.pcfgs) (congrArg Defs.onTc (funext fun l => funext fun a => match l, a with
    | 0, (_, _) => rfl))

theorem frame_SwaBias : Cert.quiescent_SwaBias (hSwaBias := Cert.SwaBias.Gen.facts) := fun m ρ _ => by
  rw [defs_SwaBias]
  exact Cert.SwaBiasIdeal.Gen.frame (F := Bits) m ρ

theorem frame_SwaBiasIdeal : Cert.quiescent_SwaBiasIdeal (hSwaBiasIdeal := Cert.SwaBiasIdeal.Gen.facts) := fun m ρ _ =>
  Cert.SwaBiasIdeal.Gen.frame (F := Ideal) m ρ

theorem frame_SwaBiasRefIdeal : Cert.quiescent_SwaBiasRefIdeal (hSwaBiasRefIdeal := Cert.SwaBiasRefIdeal.Gen.facts) := fun m ρ _ =>
  (θ_run Cert.SwaBiasRefIdeal.defs _ _).mono (fun r h => ⟨fun c => (h c).2, sem_eq_zero_of_no_sems (by decide) r.2⟩)
    (Cert.SwaBiasRefIdeal.Value.run (F := Ideal) m ρ)

theorem value_SwaBias : Cert.algebraic_SwaBiasIdeal_SwaBiasRefIdeal (hSwaBiasIdeal := Cert.SwaBiasIdeal.Gen.facts) (hSwaBiasRefIdeal := Cert.SwaBiasRefIdeal.Gen.facts) := by
  intro m ρ m' ρ' _ hagree
  refine ⟨fun c => SwaBias.refOut (m ((c.tc : Thread Cert.SwaBiasIdeal.nD Cert.SwaBiasIdeal.τ).loc Cert.SwaBiasIdeal.main_arg0)),
    (θ_run Cert.SwaBiasIdeal.defs _ _).mono (fun r h c => ⟨(h c).1.trans (SwaBias.final m c), (h c).2⟩) (Cert.SwaBiasIdeal.Value.run_blocks m ρ),
    (θ_run Cert.SwaBiasRefIdeal.defs _ _).mono (fun r h c => ⟨(h c).1.trans ?_, (h c).2⟩) (Cert.SwaBiasRefIdeal.Value.run m' ρ')⟩
  exact (SwaBias.ref_out (StableHlo.launchContents m' c)).trans (congrArg SwaBias.refOut (hagree c))

/-! ## The meta tokens' norm before the mixers -/

/-- The two programs have the same body table. -/
theorem defs_MetaNorm : Cert.MetaNorm.defs (F := Bits) = Cert.MetaNormIdeal.defs (F := Bits) :=
  congrArg (Pipeline.defs Cert.MetaNormIdeal.pcfgs) (congrArg Defs.onTc (funext fun l => funext fun a => match l, a with
    | 0, (_, _) => rfl))

theorem frame_MetaNorm : Cert.quiescent_MetaNorm (hMetaNorm := Cert.MetaNorm.Gen.facts) := fun m ρ _ => by
  rw [defs_MetaNorm]
  exact Cert.MetaNormIdeal.Gen.frame (F := Bits) m ρ

theorem frame_MetaNormIdeal : Cert.quiescent_MetaNormIdeal (hMetaNormIdeal := Cert.MetaNormIdeal.Gen.facts) := fun m ρ _ =>
  Cert.MetaNormIdeal.Gen.frame (F := Ideal) m ρ

theorem frame_MetaNormRefIdeal : Cert.quiescent_MetaNormRefIdeal (hMetaNormRefIdeal := Cert.MetaNormRefIdeal.Gen.facts) := fun m ρ _ =>
  (θ_run Cert.MetaNormRefIdeal.defs _ _).mono (fun r h => ⟨fun c => (h c).2, sem_eq_zero_of_no_sems (by decide) r.2⟩)
    (Cert.MetaNormRefIdeal.Value.run (F := Ideal) m ρ)

theorem value_MetaNorm : Cert.algebraic_MetaNormIdeal_MetaNormRefIdeal (hMetaNormIdeal := Cert.MetaNormIdeal.Gen.facts) (hMetaNormRefIdeal := Cert.MetaNormRefIdeal.Gen.facts) := by
  intro m ρ m' ρ' _ hagree
  refine ⟨fun c => MetaNorm.T (m ((c.tc : Thread Cert.MetaNormIdeal.nD Cert.MetaNormIdeal.τ).loc Cert.MetaNormIdeal.main_arg0)) (m ((c.tc : Thread Cert.MetaNormIdeal.nD Cert.MetaNormIdeal.τ).loc Cert.MetaNormIdeal.main_arg1)),
    (θ_run Cert.MetaNormIdeal.defs _ _).mono (fun r h c => ⟨(h c).1.trans (MetaNorm.final m c), (h c).2⟩) (Cert.MetaNormIdeal.Value.run_blocks m ρ),
    (θ_run Cert.MetaNormRefIdeal.defs _ _).mono (fun r h c => ⟨(h c).1.trans ?_, (h c).2⟩) (Cert.MetaNormRefIdeal.Value.run m' ρ')⟩
  obtain ⟨h0, h1⟩ := hagree c
  refine Eq.trans ?_ (MetaNorm.ref_eq (m ((c.tc : Thread Cert.MetaNormIdeal.nD Cert.MetaNormIdeal.τ).loc Cert.MetaNormIdeal.main_arg0)) (m ((c.tc : Thread Cert.MetaNormIdeal.nD Cert.MetaNormIdeal.τ).loc Cert.MetaNormIdeal.main_arg1)))
  rw [h0, h1]
  rfl

/-! ## The meta tokens' projection to keys and values -/

/-- The two programs have the same body table. -/
theorem defs_MetaProject : Cert.MetaProject.defs (F := Bits) = Cert.MetaProjectIdeal.defs (F := Bits) :=
  congrArg (Pipeline.defs Cert.MetaProjectIdeal.pcfgs) (congrArg Defs.onTc (funext fun l => funext fun a => match l, a with
    | 0, (_, _) => rfl))

theorem frame_MetaProject : Cert.quiescent_MetaProject (hMetaProject := Cert.MetaProject.Gen.facts) := fun m ρ _ => by
  rw [defs_MetaProject]
  exact Cert.MetaProjectIdeal.Gen.frame (F := Bits) m ρ

theorem frame_MetaProjectIdeal : Cert.quiescent_MetaProjectIdeal (hMetaProjectIdeal := Cert.MetaProjectIdeal.Gen.facts) := fun m ρ _ =>
  Cert.MetaProjectIdeal.Gen.frame (F := Ideal) m ρ

theorem frame_MetaProjectRefIdeal : Cert.quiescent_MetaProjectRefIdeal (hMetaProjectRefIdeal := Cert.MetaProjectRefIdeal.Gen.facts) := fun m ρ _ =>
  (θ_run Cert.MetaProjectRefIdeal.defs _ _).mono (fun r h => ⟨fun c => (h c).2, sem_eq_zero_of_no_sems (by decide) r.2⟩)
    (Cert.MetaProjectRefIdeal.Value.run (F := Ideal) m ρ)

theorem value_MetaProject : Cert.algebraic_MetaProjectIdeal_MetaProjectRefIdeal (hMetaProjectIdeal := Cert.MetaProjectIdeal.Gen.facts) (hMetaProjectRefIdeal := Cert.MetaProjectRefIdeal.Gen.facts) := by
  intro m ρ m' ρ' _ hagree
  refine ⟨fun c => MetaProject.T (m ((c.tc : Thread Cert.MetaProjectIdeal.nD Cert.MetaProjectIdeal.τ).loc Cert.MetaProjectIdeal.main_arg0)) (m ((c.tc : Thread Cert.MetaProjectIdeal.nD Cert.MetaProjectIdeal.τ).loc Cert.MetaProjectIdeal.main_arg1)),
    (θ_run Cert.MetaProjectIdeal.defs _ _).mono (fun r h c => ⟨(h c).1.trans (MetaProject.final m c), (h c).2⟩) (Cert.MetaProjectIdeal.Value.run_blocks m ρ),
    (θ_run Cert.MetaProjectRefIdeal.defs _ _).mono (fun r h c => ⟨(h c).1.trans ?_, (h c).2⟩) (Cert.MetaProjectRefIdeal.Value.run m' ρ')⟩
  obtain ⟨h0, h1⟩ := hagree c
  refine Eq.trans ?_ (MetaProject.ref_eq (m ((c.tc : Thread Cert.MetaProjectIdeal.nD Cert.MetaProjectIdeal.τ).loc Cert.MetaProjectIdeal.main_arg0)) (m ((c.tc : Thread Cert.MetaProjectIdeal.nD Cert.MetaProjectIdeal.τ).loc Cert.MetaProjectIdeal.main_arg1)))
  rw [h0, h1]
  rfl

theorem claim : Cert.Claim := ⟨Cert.Kernel.Gen.facts, Cert.KernelIdeal.Gen.facts, Cert.ReferenceIdeal.Gen.facts,
  Cert.GateUp.Gen.facts, Cert.GateUpIdeal.Gen.facts, Cert.GateUpRefIdeal.Gen.facts, Cert.GateUpTail.Gen.facts, Cert.GateUpTailIdeal.Gen.facts, Cert.GateUpTailRefIdeal.Gen.facts, Cert.Down.Gen.facts, Cert.DownIdeal.Gen.facts, Cert.DownRefIdeal.Gen.facts, Cert.ProjectIn.Gen.facts, Cert.ProjectInIdeal.Gen.facts, Cert.ProjectInRefIdeal.Gen.facts, Cert.ProjectOut.Gen.facts, Cert.ProjectOutIdeal.Gen.facts, Cert.ProjectOutRefIdeal.Gen.facts, Cert.PostSample.Gen.facts, Cert.PostSampleIdeal.Gen.facts, Cert.PostSampleRefIdeal.Gen.facts, Cert.Swa.Gen.facts, Cert.SwaIdeal.Gen.facts, Cert.SwaBias.Gen.facts, Cert.SwaBiasIdeal.Gen.facts, Cert.SwaBiasRefIdeal.Gen.facts, Cert.MetaNorm.Gen.facts, Cert.MetaNormIdeal.Gen.facts, Cert.MetaNormRefIdeal.Gen.facts, Cert.MetaProject.Gen.facts, Cert.MetaProjectIdeal.Gen.facts, Cert.MetaProjectRefIdeal.Gen.facts,
  frame_Kernel, frame_KernelIdeal, frame_ReferenceIdeal,
  frame_GateUp, frame_GateUpIdeal, frame_GateUpRefIdeal, frame_GateUpTail, frame_GateUpTailIdeal, frame_GateUpTailRefIdeal, frame_Down, frame_DownIdeal, frame_DownRefIdeal, frame_ProjectIn, frame_ProjectInIdeal, frame_ProjectInRefIdeal, frame_ProjectOut, frame_ProjectOutIdeal, frame_ProjectOutRefIdeal, frame_PostSample, frame_PostSampleIdeal, frame_PostSampleRefIdeal, frame_Swa, frame_SwaIdeal, frame_SwaBias, frame_SwaBiasIdeal, frame_SwaBiasRefIdeal, frame_MetaNorm, frame_MetaNormIdeal, frame_MetaNormRefIdeal, frame_MetaProject, frame_MetaProjectIdeal, frame_MetaProjectRefIdeal,
  trivial, value_Kernel,
  trivial, value_GateUp, trivial, value_GateUpTail, trivial, value_Down, trivial, value_ProjectIn, trivial, value_ProjectOut, trivial, value_PostSample, trivial, trivial, value_SwaBias, trivial, value_MetaNorm, trivial, value_MetaProject⟩

end Cert.Proof

end
